-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpUDw (m : (ℓ : Loc Cert.UpUDw.nD Cert.UpUDw.τ Cert.UpUDw.sig) → Buf (Elt Bits) ℓ) : Prop :=
  True

def Pre_UpUDwIdeal (m : (ℓ : Loc Cert.UpUDwIdeal.nD Cert.UpUDwIdeal.τ Cert.UpUDwIdeal.sig) → Buf (Elt Ideal) ℓ) : Prop :=
  True

def Pre_UpUDwRefIdeal (m : (ℓ : Loc Cert.UpUDwRefIdeal.nD Cert.UpUDwRefIdeal.τ Cert.UpUDwRefIdeal.sig) → Buf (Elt Ideal) ℓ) : Prop :=
  True

def Pre_UpGDx (m : (ℓ : Loc Cert.UpGDx.nD Cert.UpGDx.τ Cert.UpGDx.sig) → Buf (Elt Bits) ℓ) : Prop :=
  True

def Pre_UpGDxIdeal (m : (ℓ : Loc Cert.UpGDxIdeal.nD Cert.UpGDxIdeal.τ Cert.UpGDxIdeal.sig) → Buf (Elt Ideal) ℓ) : Prop :=
  True

def Pre_UpGDxRefIdeal (m : (ℓ : Loc Cert.UpGDxRefIdeal.nD Cert.UpGDxRefIdeal.τ Cert.UpGDxRefIdeal.sig) → Buf (Elt Ideal) ℓ) : Prop :=
  True

def Pre_UpUDx (m : (ℓ : Loc Cert.UpUDx.nD Cert.UpUDx.τ Cert.UpUDx.sig) → Buf (Elt Bits) ℓ) : Prop :=
  True

def Pre_UpUDxIdeal (m : (ℓ : Loc Cert.UpUDxIdeal.nD Cert.UpUDxIdeal.τ Cert.UpUDxIdeal.sig) → Buf (Elt Ideal) ℓ) : Prop :=
  True

def Pre_UpUDxRefIdeal (m : (ℓ : Loc Cert.UpUDxRefIdeal.nD Cert.UpUDxRefIdeal.τ Cert.UpUDxRefIdeal.sig) → Buf (Elt Ideal) ℓ) : Prop :=
  True

def Pre_UpG (m : (ℓ : Loc Cert.UpG.nD Cert.UpG.τ Cert.UpG.sig) → Buf (Elt Bits) ℓ) : Prop :=
  True

def Pre_UpGIdeal (m : (ℓ : Loc Cert.UpGIdeal.nD Cert.UpGIdeal.τ Cert.UpGIdeal.sig) → Buf (Elt Ideal) ℓ) : Prop :=
  True

def Pre_UpGRefIdeal (m : (ℓ : Loc Cert.UpGRefIdeal.nD Cert.UpGRefIdeal.τ Cert.UpGRefIdeal.sig) → Buf (Elt Ideal) ℓ) : Prop :=
  True

def Pre_UpU (m : (ℓ : Loc Cert.UpU.nD Cert.UpU.τ Cert.UpU.sig) → Buf (Elt Bits) ℓ) : Prop :=
  True

def Pre_UpUIdeal (m : (ℓ : Loc Cert.UpUIdeal.nD Cert.UpUIdeal.τ Cert.UpUIdeal.sig) → Buf (Elt Ideal) ℓ) : Prop :=
  True

def Pre_UpURefIdeal (m : (ℓ : Loc Cert.UpURefIdeal.nD Cert.UpURefIdeal.τ Cert.UpURefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_RetProj (m : (ℓ : Loc Cert.RetProj.nD Cert.RetProj.τ Cert.RetProj.sig) → Buf (Elt Bits) ℓ) : Prop :=
  True

def Pre_RetProjIdeal (m : (ℓ : Loc Cert.RetProjIdeal.nD Cert.RetProjIdeal.τ Cert.RetProjIdeal.sig) → Buf (Elt Ideal) ℓ) : Prop :=
  True

def Pre_RetProjRefIdeal (m : (ℓ : Loc Cert.RetProjRefIdeal.nD Cert.RetProjRefIdeal.τ Cert.RetProjRefIdeal.sig) → Buf (Elt Ideal) ℓ) : Prop :=
  True

def Pre_RetProjDx (m : (ℓ : Loc Cert.RetProjDx.nD Cert.RetProjDx.τ Cert.RetProjDx.sig) → Buf (Elt Bits) ℓ) : Prop :=
  True

def Pre_RetProjDxIdeal (m : (ℓ : Loc Cert.RetProjDxIdeal.nD Cert.RetProjDxIdeal.τ Cert.RetProjDxIdeal.sig) → Buf (Elt Ideal) ℓ) : Prop :=
  True

def Pre_RetProjDxRefIdeal (m : (ℓ : Loc Cert.RetProjDxRefIdeal.nD Cert.RetProjDxRefIdeal.τ Cert.RetProjDxRefIdeal.sig) → Buf (Elt Ideal) ℓ) : Prop :=
  True

def Pre_RetProjDw (m : (ℓ : Loc Cert.RetProjDw.nD Cert.RetProjDw.τ Cert.RetProjDw.sig) → Buf (Elt Bits) ℓ) : Prop :=
  True

def Pre_RetProjDwIdeal (m : (ℓ : Loc Cert.RetProjDwIdeal.nD Cert.RetProjDwIdeal.τ Cert.RetProjDwIdeal.sig) → Buf (Elt Ideal) ℓ) : Prop :=
  True

def Pre_RetProjDwRefIdeal (m : (ℓ : Loc Cert.RetProjDwRefIdeal.nD Cert.RetProjDwRefIdeal.τ Cert.RetProjDwRefIdeal.sig) → Buf (Elt Ideal) ℓ) : Prop :=
  True

def Pre_AttnProj (m : (ℓ : Loc Cert.AttnProj.nD Cert.AttnProj.τ Cert.AttnProj.sig) → Buf (Elt Bits) ℓ) : Prop :=
  True

def Pre_AttnProjIdeal (m : (ℓ : Loc Cert.AttnProjIdeal.nD Cert.AttnProjIdeal.τ Cert.AttnProjIdeal.sig) → Buf (Elt Ideal) ℓ) : Prop :=
  True

def Pre_AttnProjRefIdeal (m : (ℓ : Loc Cert.AttnProjRefIdeal.nD Cert.AttnProjRefIdeal.τ Cert.AttnProjRefIdeal.sig) → Buf (Elt Ideal) ℓ) : Prop :=
  True

def Pre_AttnProjDx (m : (ℓ : Loc Cert.AttnProjDx.nD Cert.AttnProjDx.τ Cert.AttnProjDx.sig) → Buf (Elt Bits) ℓ) : Prop :=
  True

def Pre_AttnProjDxIdeal (m : (ℓ : Loc Cert.AttnProjDxIdeal.nD Cert.AttnProjDxIdeal.τ Cert.AttnProjDxIdeal.sig) → Buf (Elt Ideal) ℓ) : Prop :=
  True

def Pre_AttnProjDxRefIdeal (m : (ℓ : Loc Cert.AttnProjDxRefIdeal.nD Cert.AttnProjDxRefIdeal.τ Cert.AttnProjDxRefIdeal.sig) → Buf (Elt Ideal) ℓ) : Prop :=
  True

def Pre_AttnProjDw (m : (ℓ : Loc Cert.AttnProjDw.nD Cert.AttnProjDw.τ Cert.AttnProjDw.sig) → Buf (Elt Bits) ℓ) : Prop :=
  True

def Pre_AttnProjDwIdeal (m : (ℓ : Loc Cert.AttnProjDwIdeal.nD Cert.AttnProjDwIdeal.τ Cert.AttnProjDwIdeal.sig) → Buf (Elt Ideal) ℓ) : Prop :=
  True

def Pre_AttnProjDwRefIdeal (m : (ℓ : Loc Cert.AttnProjDwRefIdeal.nD Cert.AttnProjDwRefIdeal.τ Cert.AttnProjDwRefIdeal.sig) → Buf (Elt Ideal) ℓ) : Prop :=
  True

def Pre_PleGate (m : (ℓ : Loc Cert.PleGate.nD Cert.PleGate.τ Cert.PleGate.sig) → Buf (Elt Bits) ℓ) : Prop :=
  True

def Pre_PleGateIdeal (m : (ℓ : Loc Cert.PleGateIdeal.nD Cert.PleGateIdeal.τ Cert.PleGateIdeal.sig) → Buf (Elt Ideal) ℓ) : Prop :=
  True

def Pre_PleGateRefIdeal (m : (ℓ : Loc Cert.PleGateRefIdeal.nD Cert.PleGateRefIdeal.τ Cert.PleGateRefIdeal.sig) → Buf (Elt Ideal) ℓ) : Prop :=
  True

def Pre_PleGateDx (m : (ℓ : Loc Cert.PleGateDx.nD Cert.PleGateDx.τ Cert.PleGateDx.sig) → Buf (Elt Bits) ℓ) : Prop :=
  True

def Pre_PleGateDxIdeal (m : (ℓ : Loc Cert.PleGateDxIdeal.nD Cert.PleGateDxIdeal.τ Cert.PleGateDxIdeal.sig) → Buf (Elt Ideal) ℓ) : Prop :=
  True

def Pre_PleGateDxRefIdeal (m : (ℓ : Loc Cert.PleGateDxRefIdeal.nD Cert.PleGateDxRefIdeal.τ Cert.PleGateDxRefIdeal.sig) → Buf (Elt Ideal) ℓ) : Prop :=
  True

def Pre_PleGateDw (m : (ℓ : Loc Cert.PleGateDw.nD Cert.PleGateDw.τ Cert.PleGateDw.sig) → Buf (Elt Bits) ℓ) : Prop :=
  True

def Pre_PleGateDwIdeal (m : (ℓ : Loc Cert.PleGateDwIdeal.nD Cert.PleGateDwIdeal.τ Cert.PleGateDwIdeal.sig) → Buf (Elt Ideal) ℓ) : Prop :=
  True

def Pre_PleGateDwRefIdeal (m : (ℓ : Loc Cert.PleGateDwRefIdeal.nD Cert.PleGateDwRefIdeal.τ Cert.PleGateDwRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1)
      ∧ r.2.mem ((c.tc : Thread Cert.ProjDw.nD Cert.ProjDw.τ).loc Cert.ProjDw.main_arg2) = m ((c.tc : Thread Cert.ProjDw.nD Cert.ProjDw.τ).loc Cert.ProjDw.main_arg2))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1)
      ∧ r.2.mem ((c.tc : Thread Cert.ProjDwIdeal.nD Cert.ProjDwIdeal.τ).loc Cert.ProjDwIdeal.main_arg2) = m ((c.tc : Thread Cert.ProjDwIdeal.nD Cert.ProjDwIdeal.τ).loc Cert.ProjDwIdeal.main_arg2))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1)
      ∧ r.2.mem ((c.tc : Thread Cert.ProjDwRefIdeal.nD Cert.ProjDwRefIdeal.τ).loc Cert.ProjDwRefIdeal.main_arg2) = m ((c.tc : Thread Cert.ProjDwRefIdeal.nD Cert.ProjDwRefIdeal.τ).loc Cert.ProjDwRefIdeal.main_arg2))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1)
      ∧ r.2.mem ((c.tc : Thread Cert.ProjDx.nD Cert.ProjDx.τ).loc Cert.ProjDx.main_arg2) = m ((c.tc : Thread Cert.ProjDx.nD Cert.ProjDx.τ).loc Cert.ProjDx.main_arg2)
      ∧ r.2.mem ((c.tc : Thread Cert.ProjDx.nD Cert.ProjDx.τ).loc Cert.ProjDx.main_arg3) = m ((c.tc : Thread Cert.ProjDx.nD Cert.ProjDx.τ).loc Cert.ProjDx.main_arg3))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
      ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2)
      ∧ r.2.mem ((c.tc : Thread Cert.ProjDxIdeal.nD Cert.ProjDxIdeal.τ).loc Cert.ProjDxIdeal.main_arg3) = m ((c.tc : Thread Cert.ProjDxIdeal.nD Cert.ProjDxIdeal.τ).loc Cert.ProjDxIdeal.main_arg3))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1)
      ∧ r.2.mem ((c.tc : Thread Cert.ProjDxRefIdeal.nD Cert.ProjDxRefIdeal.τ).loc Cert.ProjDxRefIdeal.main_arg2) = m ((c.tc : Thread Cert.ProjDxRefIdeal.nD Cert.ProjDxRefIdeal.τ).loc Cert.ProjDxRefIdeal.main_arg2)
      ∧ r.2.mem ((c.tc : Thread Cert.ProjDxRefIdeal.nD Cert.ProjDxRefIdeal.τ).loc Cert.ProjDxRefIdeal.main_arg3) = m ((c.tc : Thread Cert.ProjDxRefIdeal.nD Cert.ProjDxRefIdeal.τ).loc Cert.ProjDxRefIdeal.main_arg3))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpUDw [hUpUDw : Cert.UpUDw.Facts] : Prop :=
  ∀ (m : (ℓ : Loc Cert.UpUDw.nD Cert.UpUDw.τ Cert.UpUDw.sig) → Buf (Elt Bits) ℓ) (g : Dev Cert.UpUDw.nD → PrngReg), Pre_UpUDw m →
    θ_run (Cert.UpUDw.defs (F := Bits)) (onTc (τ := Cert.UpUDw.τ) (Cert.UpUDw.main (F := Bits))) ⟨m, fun _ => 0, g⟩ (fun r => (∀ c : Dev Cert.UpUDw.nD,
      r.2.mem ((c.tc : Thread Cert.UpUDw.nD Cert.UpUDw.τ).loc Cert.UpUDw.main_arg0) = m ((c.tc : Thread Cert.UpUDw.nD Cert.UpUDw.τ).loc Cert.UpUDw.main_arg0)
      ∧ r.2.mem ((c.tc : Thread Cert.UpUDw.nD Cert.UpUDw.τ).loc Cert.UpUDw.main_arg1) = m ((c.tc : Thread Cert.UpUDw.nD Cert.UpUDw.τ).loc Cert.UpUDw.main_arg1)
      ∧ r.2.mem ((c.tc : Thread Cert.UpUDw.nD Cert.UpUDw.τ).loc Cert.UpUDw.main_arg2) = m ((c.tc : Thread Cert.UpUDw.nD Cert.UpUDw.τ).loc Cert.UpUDw.main_arg2))
      ∧ r.2.sem = fun _ => 0)

def quiescent_UpUDwIdeal [hUpUDwIdeal : Cert.UpUDwIdeal.Facts] : Prop :=
  ∀ (m : (ℓ : Loc Cert.UpUDwIdeal.nD Cert.UpUDwIdeal.τ Cert.UpUDwIdeal.sig) → Buf (Elt Ideal) ℓ) (g : Dev Cert.UpUDwIdeal.nD → PrngReg), Pre_UpUDwIdeal m →
    θ_run (Cert.UpUDwIdeal.defs (F := Ideal)) (onTc (τ := Cert.UpUDwIdeal.τ) (Cert.UpUDwIdeal.main (F := Ideal))) ⟨m, fun _ => 0, g⟩ (fun r => (∀ c : Dev Cert.UpUDwIdeal.nD,
      r.2.mem ((c.tc : Thread Cert.UpUDwIdeal.nD Cert.UpUDwIdeal.τ).loc Cert.UpUDwIdeal.main_arg0) = m ((c.tc : Thread Cert.UpUDwIdeal.nD Cert.UpUDwIdeal.τ).loc Cert.UpUDwIdeal.main_arg0)
      ∧ r.2.mem ((c.tc : Thread Cert.UpUDwIdeal.nD Cert.UpUDwIdeal.τ).loc Cert.UpUDwIdeal.main_arg1) = m ((c.tc : Thread Cert.UpUDwIdeal.nD Cert.UpUDwIdeal.τ).loc Cert.UpUDwIdeal.main_arg1)
      ∧ r.2.mem ((c.tc : Thread Cert.UpUDwIdeal.nD Cert.UpUDwIdeal.τ).loc Cert.UpUDwIdeal.main_arg2) = m ((c.tc : Thread Cert.UpUDwIdeal.nD Cert.UpUDwIdeal.τ).loc Cert.UpUDwIdeal.main_arg2))
      ∧ r.2.sem = fun _ => 0)

def quiescent_UpUDwRefIdeal [hUpUDwRefIdeal : Cert.UpUDwRefIdeal.Facts] : Prop :=
  ∀ (m : (ℓ : Loc Cert.UpUDwRefIdeal.nD Cert.UpUDwRefIdeal.τ Cert.UpUDwRefIdeal.sig) → Buf (Elt Ideal) ℓ) (g : Dev Cert.UpUDwRefIdeal.nD → PrngReg), Pre_UpUDwRefIdeal m →
    θ_run (Cert.UpUDwRefIdeal.defs (F := Ideal)) (onTc (τ := Cert.UpUDwRefIdeal.τ) (Cert.UpUDwRefIdeal.main (F := Ideal))) ⟨m, fun _ => 0, g⟩ (fun r => (∀ c : Dev Cert.UpUDwRefIdeal.nD,
      r.2.mem ((c.tc : Thread Cert.UpUDwRefIdeal.nD Cert.UpUDwRefIdeal.τ).loc Cert.UpUDwRefIdeal.main_arg0) = m ((c.tc : Thread Cert.UpUDwRefIdeal.nD Cert.UpUDwRefIdeal.τ).loc Cert.UpUDwRefIdeal.main_arg0)
      ∧ r.2.mem ((c.tc : Thread Cert.UpUDwRefIdeal.nD Cert.UpUDwRefIdeal.τ).loc Cert.UpUDwRefIdeal.main_arg1) = m ((c.tc : Thread Cert.UpUDwRefIdeal.nD Cert.UpUDwRefIdeal.τ).loc Cert.UpUDwRefIdeal.main_arg1)
      ∧ r.2.mem ((c.tc : Thread Cert.UpUDwRefIdeal.nD Cert.UpUDwRefIdeal.τ).loc Cert.UpUDwRefIdeal.main_arg2) = m ((c.tc : Thread Cert.UpUDwRefIdeal.nD Cert.UpUDwRefIdeal.τ).loc Cert.UpUDwRefIdeal.main_arg2))
      ∧ r.2.sem = fun _ => 0)

def quiescent_UpGDx [hUpGDx : Cert.UpGDx.Facts] : Prop :=
  ∀ (m : (ℓ : Loc Cert.UpGDx.nD Cert.UpGDx.τ Cert.UpGDx.sig) → Buf (Elt Bits) ℓ) (g : Dev Cert.UpGDx.nD → PrngReg), Pre_UpGDx m →
    θ_run (Cert.UpGDx.defs (F := Bits)) (onTc (τ := Cert.UpGDx.τ) (Cert.UpGDx.main (F := Bits))) ⟨m, fun _ => 0, g⟩ (fun r => (∀ c : Dev Cert.UpGDx.nD,
      r.2.mem ((c.tc : Thread Cert.UpGDx.nD Cert.UpGDx.τ).loc Cert.UpGDx.main_arg0) = m ((c.tc : Thread Cert.UpGDx.nD Cert.UpGDx.τ).loc Cert.UpGDx.main_arg0)
      ∧ r.2.mem ((c.tc : Thread Cert.UpGDx.nD Cert.UpGDx.τ).loc Cert.UpGDx.main_arg1) = m ((c.tc : Thread Cert.UpGDx.nD Cert.UpGDx.τ).loc Cert.UpGDx.main_arg1)
      ∧ r.2.mem ((c.tc : Thread Cert.UpGDx.nD Cert.UpGDx.τ).loc Cert.UpGDx.main_arg2) = m ((c.tc : Thread Cert.UpGDx.nD Cert.UpGDx.τ).loc Cert.UpGDx.main_arg2))
      ∧ r.2.sem = fun _ => 0)

def quiescent_UpGDxIdeal [hUpGDxIdeal : Cert.UpGDxIdeal.Facts] : Prop :=
  ∀ (m : (ℓ : Loc Cert.UpGDxIdeal.nD Cert.UpGDxIdeal.τ Cert.UpGDxIdeal.sig) → Buf (Elt Ideal) ℓ) (g : Dev Cert.UpGDxIdeal.nD → PrngReg), Pre_UpGDxIdeal m →
    θ_run (Cert.UpGDxIdeal.defs (F := Ideal)) (onTc (τ := Cert.UpGDxIdeal.τ) (Cert.UpGDxIdeal.main (F := Ideal))) ⟨m, fun _ => 0, g⟩ (fun r => (∀ c : Dev Cert.UpGDxIdeal.nD,
      r.2.mem ((c.tc : Thread Cert.UpGDxIdeal.nD Cert.UpGDxIdeal.τ).loc Cert.UpGDxIdeal.main_arg0) = m ((c.tc : Thread Cert.UpGDxIdeal.nD Cert.UpGDxIdeal.τ).loc Cert.UpGDxIdeal.main_arg0)
      ∧ r.2.mem ((c.tc : Thread Cert.UpGDxIdeal.nD Cert.UpGDxIdeal.τ).loc Cert.UpGDxIdeal.main_arg1) = m ((c.tc : Thread Cert.UpGDxIdeal.nD Cert.UpGDxIdeal.τ).loc Cert.UpGDxIdeal.main_arg1)
      ∧ r.2.mem ((c.tc : Thread Cert.UpGDxIdeal.nD Cert.UpGDxIdeal.τ).loc Cert.UpGDxIdeal.main_arg2) = m ((c.tc : Thread Cert.UpGDxIdeal.nD Cert.UpGDxIdeal.τ).loc Cert.UpGDxIdeal.main_arg2))
      ∧ r.2.sem = fun _ => 0)

def quiescent_UpGDxRefIdeal [hUpGDxRefIdeal : Cert.UpGDxRefIdeal.Facts] : Prop :=
  ∀ (m : (ℓ : Loc Cert.UpGDxRefIdeal.nD Cert.UpGDxRefIdeal.τ Cert.UpGDxRefIdeal.sig) → Buf (Elt Ideal) ℓ) (g : Dev Cert.UpGDxRefIdeal.nD → PrngReg), Pre_UpGDxRefIdeal m →
    θ_run (Cert.UpGDxRefIdeal.defs (F := Ideal)) (onTc (τ := Cert.UpGDxRefIdeal.τ) (Cert.UpGDxRefIdeal.main (F := Ideal))) ⟨m, fun _ => 0, g⟩ (fun r => (∀ c : Dev Cert.UpGDxRefIdeal.nD,
      r.2.mem ((c.tc : Thread Cert.UpGDxRefIdeal.nD Cert.UpGDxRefIdeal.τ).loc Cert.UpGDxRefIdeal.main_arg0) = m ((c.tc : Thread Cert.UpGDxRefIdeal.nD Cert.UpGDxRefIdeal.τ).loc Cert.UpGDxRefIdeal.main_arg0)
      ∧ r.2.mem ((c.tc : Thread Cert.UpGDxRefIdeal.nD Cert.UpGDxRefIdeal.τ).loc Cert.UpGDxRefIdeal.main_arg1) = m ((c.tc : Thread Cert.UpGDxRefIdeal.nD Cert.UpGDxRefIdeal.τ).loc Cert.UpGDxRefIdeal.main_arg1)
      ∧ r.2.mem ((c.tc : Thread Cert.UpGDxRefIdeal.nD Cert.UpGDxRefIdeal.τ).loc Cert.UpGDxRefIdeal.main_arg2) = m ((c.tc : Thread Cert.UpGDxRefIdeal.nD Cert.UpGDxRefIdeal.τ).loc Cert.UpGDxRefIdeal.main_arg2))
      ∧ r.2.sem = fun _ => 0)

def quiescent_UpUDx [hUpUDx : Cert.UpUDx.Facts] : Prop :=
  ∀ (m : (ℓ : Loc Cert.UpUDx.nD Cert.UpUDx.τ Cert.UpUDx.sig) → Buf (Elt Bits) ℓ) (g : Dev Cert.UpUDx.nD → PrngReg), Pre_UpUDx m →
    θ_run (Cert.UpUDx.defs (F := Bits)) (onTc (τ := Cert.UpUDx.τ) (Cert.UpUDx.main (F := Bits))) ⟨m, fun _ => 0, g⟩ (fun r => (∀ c : Dev Cert.UpUDx.nD,
      r.2.mem ((c.tc : Thread Cert.UpUDx.nD Cert.UpUDx.τ).loc Cert.UpUDx.main_arg0) = m ((c.tc : Thread Cert.UpUDx.nD Cert.UpUDx.τ).loc Cert.UpUDx.main_arg0)
      ∧ r.2.mem ((c.tc : Thread Cert.UpUDx.nD Cert.UpUDx.τ).loc Cert.UpUDx.main_arg1) = m ((c.tc : Thread Cert.UpUDx.nD Cert.UpUDx.τ).loc Cert.UpUDx.main_arg1)
      ∧ r.2.mem ((c.tc : Thread Cert.UpUDx.nD Cert.UpUDx.τ).loc Cert.UpUDx.main_arg2) = m ((c.tc : Thread Cert.UpUDx.nD Cert.UpUDx.τ).loc Cert.UpUDx.main_arg2))
      ∧ r.2.sem = fun _ => 0)

def quiescent_UpUDxIdeal [hUpUDxIdeal : Cert.UpUDxIdeal.Facts] : Prop :=
  ∀ (m : (ℓ : Loc Cert.UpUDxIdeal.nD Cert.UpUDxIdeal.τ Cert.UpUDxIdeal.sig) → Buf (Elt Ideal) ℓ) (g : Dev Cert.UpUDxIdeal.nD → PrngReg), Pre_UpUDxIdeal m →
    θ_run (Cert.UpUDxIdeal.defs (F := Ideal)) (onTc (τ := Cert.UpUDxIdeal.τ) (Cert.UpUDxIdeal.main (F := Ideal))) ⟨m, fun _ => 0, g⟩ (fun r => (∀ c : Dev Cert.UpUDxIdeal.nD,
      r.2.mem ((c.tc : Thread Cert.UpUDxIdeal.nD Cert.UpUDxIdeal.τ).loc Cert.UpUDxIdeal.main_arg0) = m ((c.tc : Thread Cert.UpUDxIdeal.nD Cert.UpUDxIdeal.τ).loc Cert.UpUDxIdeal.main_arg0)
      ∧ r.2.mem ((c.tc : Thread Cert.UpUDxIdeal.nD Cert.UpUDxIdeal.τ).loc Cert.UpUDxIdeal.main_arg1) = m ((c.tc : Thread Cert.UpUDxIdeal.nD Cert.UpUDxIdeal.τ).loc Cert.UpUDxIdeal.main_arg1)
      ∧ r.2.mem ((c.tc : Thread Cert.UpUDxIdeal.nD Cert.UpUDxIdeal.τ).loc Cert.UpUDxIdeal.main_arg2) = m ((c.tc : Thread Cert.UpUDxIdeal.nD Cert.UpUDxIdeal.τ).loc Cert.UpUDxIdeal.main_arg2))
      ∧ r.2.sem = fun _ => 0)

def quiescent_UpUDxRefIdeal [hUpUDxRefIdeal : Cert.UpUDxRefIdeal.Facts] : Prop :=
  ∀ (m : (ℓ : Loc Cert.UpUDxRefIdeal.nD Cert.UpUDxRefIdeal.τ Cert.UpUDxRefIdeal.sig) → Buf (Elt Ideal) ℓ) (g : Dev Cert.UpUDxRefIdeal.nD → PrngReg), Pre_UpUDxRefIdeal m →
    θ_run (Cert.UpUDxRefIdeal.defs (F := Ideal)) (onTc (τ := Cert.UpUDxRefIdeal.τ) (Cert.UpUDxRefIdeal.main (F := Ideal))) ⟨m, fun _ => 0, g⟩ (fun r => (∀ c : Dev Cert.UpUDxRefIdeal.nD,
      r.2.mem ((c.tc : Thread Cert.UpUDxRefIdeal.nD Cert.UpUDxRefIdeal.τ).loc Cert.UpUDxRefIdeal.main_arg0) = m ((c.tc : Thread Cert.UpUDxRefIdeal.nD Cert.UpUDxRefIdeal.τ).loc Cert.UpUDxRefIdeal.main_arg0)
      ∧ r.2.mem ((c.tc : Thread Cert.UpUDxRefIdeal.nD Cert.UpUDxRefIdeal.τ).loc Cert.UpUDxRefIdeal.main_arg1) = m ((c.tc : Thread Cert.UpUDxRefIdeal.nD Cert.UpUDxRefIdeal.τ).loc Cert.UpUDxRefIdeal.main_arg1)
      ∧ r.2.mem ((c.tc : Thread Cert.UpUDxRefIdeal.nD Cert.UpUDxRefIdeal.τ).loc Cert.UpUDxRefIdeal.main_arg2) = m ((c.tc : Thread Cert.UpUDxRefIdeal.nD Cert.UpUDxRefIdeal.τ).loc Cert.UpUDxRefIdeal.main_arg2))
      ∧ r.2.sem = fun _ => 0)

def quiescent_UpG [hUpG : Cert.UpG.Facts] : Prop :=
  ∀ (m : (ℓ : Loc Cert.UpG.nD Cert.UpG.τ Cert.UpG.sig) → Buf (Elt Bits) ℓ) (g : Dev Cert.UpG.nD → PrngReg), Pre_UpG m →
    θ_run (Cert.UpG.defs (F := Bits)) (onTc (τ := Cert.UpG.τ) (Cert.UpG.main (F := Bits))) ⟨m, fun _ => 0, g⟩ (fun r => (∀ c : Dev Cert.UpG.nD,
      r.2.mem ((c.tc : Thread Cert.UpG.nD Cert.UpG.τ).loc Cert.UpG.main_arg0) = m ((c.tc : Thread Cert.UpG.nD Cert.UpG.τ).loc Cert.UpG.main_arg0)
      ∧ r.2.mem ((c.tc : Thread Cert.UpG.nD Cert.UpG.τ).loc Cert.UpG.main_arg1) = m ((c.tc : Thread Cert.UpG.nD Cert.UpG.τ).loc Cert.UpG.main_arg1))
      ∧ r.2.sem = fun _ => 0)

def quiescent_UpGIdeal [hUpGIdeal : Cert.UpGIdeal.Facts] : Prop :=
  ∀ (m : (ℓ : Loc Cert.UpGIdeal.nD Cert.UpGIdeal.τ Cert.UpGIdeal.sig) → Buf (Elt Ideal) ℓ) (g : Dev Cert.UpGIdeal.nD → PrngReg), Pre_UpGIdeal m →
    θ_run (Cert.UpGIdeal.defs (F := Ideal)) (onTc (τ := Cert.UpGIdeal.τ) (Cert.UpGIdeal.main (F := Ideal))) ⟨m, fun _ => 0, g⟩ (fun r => (∀ c : Dev Cert.UpGIdeal.nD,
      r.2.mem ((c.tc : Thread Cert.UpGIdeal.nD Cert.UpGIdeal.τ).loc Cert.UpGIdeal.main_arg0) = m ((c.tc : Thread Cert.UpGIdeal.nD Cert.UpGIdeal.τ).loc Cert.UpGIdeal.main_arg0)
      ∧ r.2.mem ((c.tc : Thread Cert.UpGIdeal.nD Cert.UpGIdeal.τ).loc Cert.UpGIdeal.main_arg1) = m ((c.tc : Thread Cert.UpGIdeal.nD Cert.UpGIdeal.τ).loc Cert.UpGIdeal.main_arg1))
      ∧ r.2.sem = fun _ => 0)

def quiescent_UpGRefIdeal [hUpGRefIdeal : Cert.UpGRefIdeal.Facts] : Prop :=
  ∀ (m : (ℓ : Loc Cert.UpGRefIdeal.nD Cert.UpGRefIdeal.τ Cert.UpGRefIdeal.sig) → Buf (Elt Ideal) ℓ) (g : Dev Cert.UpGRefIdeal.nD → PrngReg), Pre_UpGRefIdeal m →
    θ_run (Cert.UpGRefIdeal.defs (F := Ideal)) (onTc (τ := Cert.UpGRefIdeal.τ) (Cert.UpGRefIdeal.main (F := Ideal))) ⟨m, fun _ => 0, g⟩ (fun r => (∀ c : Dev Cert.UpGRefIdeal.nD,
      r.2.mem ((c.tc : Thread Cert.UpGRefIdeal.nD Cert.UpGRefIdeal.τ).loc Cert.UpGRefIdeal.main_arg0) = m ((c.tc : Thread Cert.UpGRefIdeal.nD Cert.UpGRefIdeal.τ).loc Cert.UpGRefIdeal.main_arg0)
      ∧ r.2.mem ((c.tc : Thread Cert.UpGRefIdeal.nD Cert.UpGRefIdeal.τ).loc Cert.UpGRefIdeal.main_arg1) = m ((c.tc : Thread Cert.UpGRefIdeal.nD Cert.UpGRefIdeal.τ).loc Cert.UpGRefIdeal.main_arg1))
      ∧ r.2.sem = fun _ => 0)

def quiescent_UpU [hUpU : Cert.UpU.Facts] : Prop :=
  ∀ (m : (ℓ : Loc Cert.UpU.nD Cert.UpU.τ Cert.UpU.sig) → Buf (Elt Bits) ℓ) (g : Dev Cert.UpU.nD → PrngReg), Pre_UpU m →
    θ_run (Cert.UpU.defs (F := Bits)) (onTc (τ := Cert.UpU.τ) (Cert.UpU.main (F := Bits))) ⟨m, fun _ => 0, g⟩ (fun r => (∀ c : Dev Cert.UpU.nD,
      r.2.mem ((c.tc : Thread Cert.UpU.nD Cert.UpU.τ).loc Cert.UpU.main_arg0) = m ((c.tc : Thread Cert.UpU.nD Cert.UpU.τ).loc Cert.UpU.main_arg0)
      ∧ r.2.mem ((c.tc : Thread Cert.UpU.nD Cert.UpU.τ).loc Cert.UpU.main_arg1) = m ((c.tc : Thread Cert.UpU.nD Cert.UpU.τ).loc Cert.UpU.main_arg1))
      ∧ r.2.sem = fun _ => 0)

def quiescent_UpUIdeal [hUpUIdeal : Cert.UpUIdeal.Facts] : Prop :=
  ∀ (m : (ℓ : Loc Cert.UpUIdeal.nD Cert.UpUIdeal.τ Cert.UpUIdeal.sig) → Buf (Elt Ideal) ℓ) (g : Dev Cert.UpUIdeal.nD → PrngReg), Pre_UpUIdeal m →
    θ_run (Cert.UpUIdeal.defs (F := Ideal)) (onTc (τ := Cert.UpUIdeal.τ) (Cert.UpUIdeal.main (F := Ideal))) ⟨m, fun _ => 0, g⟩ (fun r => (∀ c : Dev Cert.UpUIdeal.nD,
      r.2.mem ((c.tc : Thread Cert.UpUIdeal.nD Cert.UpUIdeal.τ).loc Cert.UpUIdeal.main_arg0) = m ((c.tc : Thread Cert.UpUIdeal.nD Cert.UpUIdeal.τ).loc Cert.UpUIdeal.main_arg0)
      ∧ r.2.mem ((c.tc : Thread Cert.UpUIdeal.nD Cert.UpUIdeal.τ).loc Cert.UpUIdeal.main_arg1) = m ((c.tc : Thread Cert.UpUIdeal.nD Cert.UpUIdeal.τ).loc Cert.UpUIdeal.main_arg1))
      ∧ r.2.sem = fun _ => 0)

def quiescent_UpURefIdeal [hUpURefIdeal : Cert.UpURefIdeal.Facts] : Prop :=
  ∀ (m : (ℓ : Loc Cert.UpURefIdeal.nD Cert.UpURefIdeal.τ Cert.UpURefIdeal.sig) → Buf (Elt Ideal) ℓ) (g : Dev Cert.UpURefIdeal.nD → PrngReg), Pre_UpURefIdeal m →
    θ_run (Cert.UpURefIdeal.defs (F := Ideal)) (onTc (τ := Cert.UpURefIdeal.τ) (Cert.UpURefIdeal.main (F := Ideal))) ⟨m, fun _ => 0, g⟩ (fun r => (∀ c : Dev Cert.UpURefIdeal.nD,
      r.2.mem ((c.tc : Thread Cert.UpURefIdeal.nD Cert.UpURefIdeal.τ).loc Cert.UpURefIdeal.main_arg0) = m ((c.tc : Thread Cert.UpURefIdeal.nD Cert.UpURefIdeal.τ).loc Cert.UpURefIdeal.main_arg0)
      ∧ r.2.mem ((c.tc : Thread Cert.UpURefIdeal.nD Cert.UpURefIdeal.τ).loc Cert.UpURefIdeal.main_arg1) = m ((c.tc : Thread Cert.UpURefIdeal.nD Cert.UpURefIdeal.τ).loc Cert.UpURefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_RetProj [hRetProj : Cert.RetProj.Facts] : Prop :=
  ∀ (m : (ℓ : Loc Cert.RetProj.nD Cert.RetProj.τ Cert.RetProj.sig) → Buf (Elt Bits) ℓ) (g : Dev Cert.RetProj.nD → PrngReg), Pre_RetProj m →
    θ_run (Cert.RetProj.defs (F := Bits)) (onTc (τ := Cert.RetProj.τ) (Cert.RetProj.main (F := Bits))) ⟨m, fun _ => 0, g⟩ (fun r => (∀ c : Dev Cert.RetProj.nD,
      r.2.mem ((c.tc : Thread Cert.RetProj.nD Cert.RetProj.τ).loc Cert.RetProj.main_arg0) = m ((c.tc : Thread Cert.RetProj.nD Cert.RetProj.τ).loc Cert.RetProj.main_arg0)
      ∧ r.2.mem ((c.tc : Thread Cert.RetProj.nD Cert.RetProj.τ).loc Cert.RetProj.main_arg1) = m ((c.tc : Thread Cert.RetProj.nD Cert.RetProj.τ).loc Cert.RetProj.main_arg1))
      ∧ r.2.sem = fun _ => 0)

def quiescent_RetProjIdeal [hRetProjIdeal : Cert.RetProjIdeal.Facts] : Prop :=
  ∀ (m : (ℓ : Loc Cert.RetProjIdeal.nD Cert.RetProjIdeal.τ Cert.RetProjIdeal.sig) → Buf (Elt Ideal) ℓ) (g : Dev Cert.RetProjIdeal.nD → PrngReg), Pre_RetProjIdeal m →
    θ_run (Cert.RetProjIdeal.defs (F := Ideal)) (onTc (τ := Cert.RetProjIdeal.τ) (Cert.RetProjIdeal.main (F := Ideal))) ⟨m, fun _ => 0, g⟩ (fun r => (∀ c : Dev Cert.RetProjIdeal.nD,
      r.2.mem ((c.tc : Thread Cert.RetProjIdeal.nD Cert.RetProjIdeal.τ).loc Cert.RetProjIdeal.main_arg0) = m ((c.tc : Thread Cert.RetProjIdeal.nD Cert.RetProjIdeal.τ).loc Cert.RetProjIdeal.main_arg0)
      ∧ r.2.mem ((c.tc : Thread Cert.RetProjIdeal.nD Cert.RetProjIdeal.τ).loc Cert.RetProjIdeal.main_arg1) = m ((c.tc : Thread Cert.RetProjIdeal.nD Cert.RetProjIdeal.τ).loc Cert.RetProjIdeal.main_arg1))
      ∧ r.2.sem = fun _ => 0)

def quiescent_RetProjRefIdeal [hRetProjRefIdeal : Cert.RetProjRefIdeal.Facts] : Prop :=
  ∀ (m : (ℓ : Loc Cert.RetProjRefIdeal.nD Cert.RetProjRefIdeal.τ Cert.RetProjRefIdeal.sig) → Buf (Elt Ideal) ℓ) (g : Dev Cert.RetProjRefIdeal.nD → PrngReg), Pre_RetProjRefIdeal m →
    θ_run (Cert.RetProjRefIdeal.defs (F := Ideal)) (onTc (τ := Cert.RetProjRefIdeal.τ) (Cert.RetProjRefIdeal.main (F := Ideal))) ⟨m, fun _ => 0, g⟩ (fun r => (∀ c : Dev Cert.RetProjRefIdeal.nD,
      r.2.mem ((c.tc : Thread Cert.RetProjRefIdeal.nD Cert.RetProjRefIdeal.τ).loc Cert.RetProjRefIdeal.main_arg0) = m ((c.tc : Thread Cert.RetProjRefIdeal.nD Cert.RetProjRefIdeal.τ).loc Cert.RetProjRefIdeal.main_arg0)
      ∧ r.2.mem ((c.tc : Thread Cert.RetProjRefIdeal.nD Cert.RetProjRefIdeal.τ).loc Cert.RetProjRefIdeal.main_arg1) = m ((c.tc : Thread Cert.RetProjRefIdeal.nD Cert.RetProjRefIdeal.τ).loc Cert.RetProjRefIdeal.main_arg1))
      ∧ r.2.sem = fun _ => 0)

def quiescent_RetProjDx [hRetProjDx : Cert.RetProjDx.Facts] : Prop :=
  ∀ (m : (ℓ : Loc Cert.RetProjDx.nD Cert.RetProjDx.τ Cert.RetProjDx.sig) → Buf (Elt Bits) ℓ) (g : Dev Cert.RetProjDx.nD → PrngReg), Pre_RetProjDx m →
    θ_run (Cert.RetProjDx.defs (F := Bits)) (onTc (τ := Cert.RetProjDx.τ) (Cert.RetProjDx.main (F := Bits))) ⟨m, fun _ => 0, g⟩ (fun r => (∀ c : Dev Cert.RetProjDx.nD,
      r.2.mem ((c.tc : Thread Cert.RetProjDx.nD Cert.RetProjDx.τ).loc Cert.RetProjDx.main_arg0) = m ((c.tc : Thread Cert.RetProjDx.nD Cert.RetProjDx.τ).loc Cert.RetProjDx.main_arg0)
      ∧ r.2.mem ((c.tc : Thread Cert.RetProjDx.nD Cert.RetProjDx.τ).loc Cert.RetProjDx.main_arg1) = m ((c.tc : Thread Cert.RetProjDx.nD Cert.RetProjDx.τ).loc Cert.RetProjDx.main_arg1))
      ∧ r.2.sem = fun _ => 0)

def quiescent_RetProjDxIdeal [hRetProjDxIdeal : Cert.RetProjDxIdeal.Facts] : Prop :=
  ∀ (m : (ℓ : Loc Cert.RetProjDxIdeal.nD Cert.RetProjDxIdeal.τ Cert.RetProjDxIdeal.sig) → Buf (Elt Ideal) ℓ) (g : Dev Cert.RetProjDxIdeal.nD → PrngReg), Pre_RetProjDxIdeal m →
    θ_run (Cert.RetProjDxIdeal.defs (F := Ideal)) (onTc (τ := Cert.RetProjDxIdeal.τ) (Cert.RetProjDxIdeal.main (F := Ideal))) ⟨m, fun _ => 0, g⟩ (fun r => (∀ c : Dev Cert.RetProjDxIdeal.nD,
      r.2.mem ((c.tc : Thread Cert.RetProjDxIdeal.nD Cert.RetProjDxIdeal.τ).loc Cert.RetProjDxIdeal.main_arg0) = m ((c.tc : Thread Cert.RetProjDxIdeal.nD Cert.RetProjDxIdeal.τ).loc Cert.RetProjDxIdeal.main_arg0)
      ∧ r.2.mem ((c.tc : Thread Cert.RetProjDxIdeal.nD Cert.RetProjDxIdeal.τ).loc Cert.RetProjDxIdeal.main_arg1) = m ((c.tc : Thread Cert.RetProjDxIdeal.nD Cert.RetProjDxIdeal.τ).loc Cert.RetProjDxIdeal.main_arg1))
      ∧ r.2.sem = fun _ => 0)

def quiescent_RetProjDxRefIdeal [hRetProjDxRefIdeal : Cert.RetProjDxRefIdeal.Facts] : Prop :=
  ∀ (m : (ℓ : Loc Cert.RetProjDxRefIdeal.nD Cert.RetProjDxRefIdeal.τ Cert.RetProjDxRefIdeal.sig) → Buf (Elt Ideal) ℓ) (g : Dev Cert.RetProjDxRefIdeal.nD → PrngReg), Pre_RetProjDxRefIdeal m →
    θ_run (Cert.RetProjDxRefIdeal.defs (F := Ideal)) (onTc (τ := Cert.RetProjDxRefIdeal.τ) (Cert.RetProjDxRefIdeal.main (F := Ideal))) ⟨m, fun _ => 0, g⟩ (fun r => (∀ c : Dev Cert.RetProjDxRefIdeal.nD,
      r.2.mem ((c.tc : Thread Cert.RetProjDxRefIdeal.nD Cert.RetProjDxRefIdeal.τ).loc Cert.RetProjDxRefIdeal.main_arg0) = m ((c.tc : Thread Cert.RetProjDxRefIdeal.nD Cert.RetProjDxRefIdeal.τ).loc Cert.RetProjDxRefIdeal.main_arg0)
      ∧ r.2.mem ((c.tc : Thread Cert.RetProjDxRefIdeal.nD Cert.RetProjDxRefIdeal.τ).loc Cert.RetProjDxRefIdeal.main_arg1) = m ((c.tc : Thread Cert.RetProjDxRefIdeal.nD Cert.RetProjDxRefIdeal.τ).loc Cert.RetProjDxRefIdeal.main_arg1))
      ∧ r.2.sem = fun _ => 0)

def quiescent_RetProjDw [hRetProjDw : Cert.RetProjDw.Facts] : Prop :=
  ∀ (m : (ℓ : Loc Cert.RetProjDw.nD Cert.RetProjDw.τ Cert.RetProjDw.sig) → Buf (Elt Bits) ℓ) (g : Dev Cert.RetProjDw.nD → PrngReg), Pre_RetProjDw m →
    θ_run (Cert.RetProjDw.defs (F := Bits)) (onTc (τ := Cert.RetProjDw.τ) (Cert.RetProjDw.main (F := Bits))) ⟨m, fun _ => 0, g⟩ (fun r => (∀ c : Dev Cert.RetProjDw.nD,
      r.2.mem ((c.tc : Thread Cert.RetProjDw.nD Cert.RetProjDw.τ).loc Cert.RetProjDw.main_arg0) = m ((c.tc : Thread Cert.RetProjDw.nD Cert.RetProjDw.τ).loc Cert.RetProjDw.main_arg0)
      ∧ r.2.mem ((c.tc : Thread Cert.RetProjDw.nD Cert.RetProjDw.τ).loc Cert.RetProjDw.main_arg1) = m ((c.tc : Thread Cert.RetProjDw.nD Cert.RetProjDw.τ).loc Cert.RetProjDw.main_arg1))
      ∧ r.2.sem = fun _ => 0)

def quiescent_RetProjDwIdeal [hRetProjDwIdeal : Cert.RetProjDwIdeal.Facts] : Prop :=
  ∀ (m : (ℓ : Loc Cert.RetProjDwIdeal.nD Cert.RetProjDwIdeal.τ Cert.RetProjDwIdeal.sig) → Buf (Elt Ideal) ℓ) (g : Dev Cert.RetProjDwIdeal.nD → PrngReg), Pre_RetProjDwIdeal m →
    θ_run (Cert.RetProjDwIdeal.defs (F := Ideal)) (onTc (τ := Cert.RetProjDwIdeal.τ) (Cert.RetProjDwIdeal.main (F := Ideal))) ⟨m, fun _ => 0, g⟩ (fun r => (∀ c : Dev Cert.RetProjDwIdeal.nD,
      r.2.mem ((c.tc : Thread Cert.RetProjDwIdeal.nD Cert.RetProjDwIdeal.τ).loc Cert.RetProjDwIdeal.main_arg0) = m ((c.tc : Thread Cert.RetProjDwIdeal.nD Cert.RetProjDwIdeal.τ).loc Cert.RetProjDwIdeal.main_arg0)
      ∧ r.2.mem ((c.tc : Thread Cert.RetProjDwIdeal.nD Cert.RetProjDwIdeal.τ).loc Cert.RetProjDwIdeal.main_arg1) = m ((c.tc : Thread Cert.RetProjDwIdeal.nD Cert.RetProjDwIdeal.τ).loc Cert.RetProjDwIdeal.main_arg1))
      ∧ r.2.sem = fun _ => 0)

def quiescent_RetProjDwRefIdeal [hRetProjDwRefIdeal : Cert.RetProjDwRefIdeal.Facts] : Prop :=
  ∀ (m : (ℓ : Loc Cert.RetProjDwRefIdeal.nD Cert.RetProjDwRefIdeal.τ Cert.RetProjDwRefIdeal.sig) → Buf (Elt Ideal) ℓ) (g : Dev Cert.RetProjDwRefIdeal.nD → PrngReg), Pre_RetProjDwRefIdeal m →
    θ_run (Cert.RetProjDwRefIdeal.defs (F := Ideal)) (onTc (τ := Cert.RetProjDwRefIdeal.τ) (Cert.RetProjDwRefIdeal.main (F := Ideal))) ⟨m, fun _ => 0, g⟩ (fun r => (∀ c : Dev Cert.RetProjDwRefIdeal.nD,
      r.2.mem ((c.tc : Thread Cert.RetProjDwRefIdeal.nD Cert.RetProjDwRefIdeal.τ).loc Cert.RetProjDwRefIdeal.main_arg0) = m ((c.tc : Thread Cert.RetProjDwRefIdeal.nD Cert.RetProjDwRefIdeal.τ).loc Cert.RetProjDwRefIdeal.main_arg0)
      ∧ r.2.mem ((c.tc : Thread Cert.RetProjDwRefIdeal.nD Cert.RetProjDwRefIdeal.τ).loc Cert.RetProjDwRefIdeal.main_arg1) = m ((c.tc : Thread Cert.RetProjDwRefIdeal.nD Cert.RetProjDwRefIdeal.τ).loc Cert.RetProjDwRefIdeal.main_arg1))
      ∧ r.2.sem = fun _ => 0)

def quiescent_AttnProj [hAttnProj : Cert.AttnProj.Facts] : Prop :=
  ∀ (m : (ℓ : Loc Cert.AttnProj.nD Cert.AttnProj.τ Cert.AttnProj.sig) → Buf (Elt Bits) ℓ) (g : Dev Cert.AttnProj.nD → PrngReg), Pre_AttnProj m →
    θ_run (Cert.AttnProj.defs (F := Bits)) (onTc (τ := Cert.AttnProj.τ) (Cert.AttnProj.main (F := Bits))) ⟨m, fun _ => 0, g⟩ (fun r => (∀ c : Dev Cert.AttnProj.nD,
      r.2.mem ((c.tc : Thread Cert.AttnProj.nD Cert.AttnProj.τ).loc Cert.AttnProj.main_arg0) = m ((c.tc : Thread Cert.AttnProj.nD Cert.AttnProj.τ).loc Cert.AttnProj.main_arg0)
      ∧ r.2.mem ((c.tc : Thread Cert.AttnProj.nD Cert.AttnProj.τ).loc Cert.AttnProj.main_arg1) = m ((c.tc : Thread Cert.AttnProj.nD Cert.AttnProj.τ).loc Cert.AttnProj.main_arg1))
      ∧ r.2.sem = fun _ => 0)

def quiescent_AttnProjIdeal [hAttnProjIdeal : Cert.AttnProjIdeal.Facts] : Prop :=
  ∀ (m : (ℓ : Loc Cert.AttnProjIdeal.nD Cert.AttnProjIdeal.τ Cert.AttnProjIdeal.sig) → Buf (Elt Ideal) ℓ) (g : Dev Cert.AttnProjIdeal.nD → PrngReg), Pre_AttnProjIdeal m →
    θ_run (Cert.AttnProjIdeal.defs (F := Ideal)) (onTc (τ := Cert.AttnProjIdeal.τ) (Cert.AttnProjIdeal.main (F := Ideal))) ⟨m, fun _ => 0, g⟩ (fun r => (∀ c : Dev Cert.AttnProjIdeal.nD,
      r.2.mem ((c.tc : Thread Cert.AttnProjIdeal.nD Cert.AttnProjIdeal.τ).loc Cert.AttnProjIdeal.main_arg0) = m ((c.tc : Thread Cert.AttnProjIdeal.nD Cert.AttnProjIdeal.τ).loc Cert.AttnProjIdeal.main_arg0)
      ∧ r.2.mem ((c.tc : Thread Cert.AttnProjIdeal.nD Cert.AttnProjIdeal.τ).loc Cert.AttnProjIdeal.main_arg1) = m ((c.tc : Thread Cert.AttnProjIdeal.nD Cert.AttnProjIdeal.τ).loc Cert.AttnProjIdeal.main_arg1))
      ∧ r.2.sem = fun _ => 0)

def quiescent_AttnProjRefIdeal [hAttnProjRefIdeal : Cert.AttnProjRefIdeal.Facts] : Prop :=
  ∀ (m : (ℓ : Loc Cert.AttnProjRefIdeal.nD Cert.AttnProjRefIdeal.τ Cert.AttnProjRefIdeal.sig) → Buf (Elt Ideal) ℓ) (g : Dev Cert.AttnProjRefIdeal.nD → PrngReg), Pre_AttnProjRefIdeal m →
    θ_run (Cert.AttnProjRefIdeal.defs (F := Ideal)) (onTc (τ := Cert.AttnProjRefIdeal.τ) (Cert.AttnProjRefIdeal.main (F := Ideal))) ⟨m, fun _ => 0, g⟩ (fun r => (∀ c : Dev Cert.AttnProjRefIdeal.nD,
      r.2.mem ((c.tc : Thread Cert.AttnProjRefIdeal.nD Cert.AttnProjRefIdeal.τ).loc Cert.AttnProjRefIdeal.main_arg0) = m ((c.tc : Thread Cert.AttnProjRefIdeal.nD Cert.AttnProjRefIdeal.τ).loc Cert.AttnProjRefIdeal.main_arg0)
      ∧ r.2.mem ((c.tc : Thread Cert.AttnProjRefIdeal.nD Cert.AttnProjRefIdeal.τ).loc Cert.AttnProjRefIdeal.main_arg1) = m ((c.tc : Thread Cert.AttnProjRefIdeal.nD Cert.AttnProjRefIdeal.τ).loc Cert.AttnProjRefIdeal.main_arg1))
      ∧ r.2.sem = fun _ => 0)

def quiescent_AttnProjDx [hAttnProjDx : Cert.AttnProjDx.Facts] : Prop :=
  ∀ (m : (ℓ : Loc Cert.AttnProjDx.nD Cert.AttnProjDx.τ Cert.AttnProjDx.sig) → Buf (Elt Bits) ℓ) (g : Dev Cert.AttnProjDx.nD → PrngReg), Pre_AttnProjDx m →
    θ_run (Cert.AttnProjDx.defs (F := Bits)) (onTc (τ := Cert.AttnProjDx.τ) (Cert.AttnProjDx.main (F := Bits))) ⟨m, fun _ => 0, g⟩ (fun r => (∀ c : Dev Cert.AttnProjDx.nD,
      r.2.mem ((c.tc : Thread Cert.AttnProjDx.nD Cert.AttnProjDx.τ).loc Cert.AttnProjDx.main_arg0) = m ((c.tc : Thread Cert.AttnProjDx.nD Cert.AttnProjDx.τ).loc Cert.AttnProjDx.main_arg0)
      ∧ r.2.mem ((c.tc : Thread Cert.AttnProjDx.nD Cert.AttnProjDx.τ).loc Cert.AttnProjDx.main_arg1) = m ((c.tc : Thread Cert.AttnProjDx.nD Cert.AttnProjDx.τ).loc Cert.AttnProjDx.main_arg1))
      ∧ r.2.sem = fun _ => 0)

def quiescent_AttnProjDxIdeal [hAttnProjDxIdeal : Cert.AttnProjDxIdeal.Facts] : Prop :=
  ∀ (m : (ℓ : Loc Cert.AttnProjDxIdeal.nD Cert.AttnProjDxIdeal.τ Cert.AttnProjDxIdeal.sig) → Buf (Elt Ideal) ℓ) (g : Dev Cert.AttnProjDxIdeal.nD → PrngReg), Pre_AttnProjDxIdeal m →
    θ_run (Cert.AttnProjDxIdeal.defs (F := Ideal)) (onTc (τ := Cert.AttnProjDxIdeal.τ) (Cert.AttnProjDxIdeal.main (F := Ideal))) ⟨m, fun _ => 0, g⟩ (fun r => (∀ c : Dev Cert.AttnProjDxIdeal.nD,
      r.2.mem ((c.tc : Thread Cert.AttnProjDxIdeal.nD Cert.AttnProjDxIdeal.τ).loc Cert.AttnProjDxIdeal.main_arg0) = m ((c.tc : Thread Cert.AttnProjDxIdeal.nD Cert.AttnProjDxIdeal.τ).loc Cert.AttnProjDxIdeal.main_arg0)
      ∧ r.2.mem ((c.tc : Thread Cert.AttnProjDxIdeal.nD Cert.AttnProjDxIdeal.τ).loc Cert.AttnProjDxIdeal.main_arg1) = m ((c.tc : Thread Cert.AttnProjDxIdeal.nD Cert.AttnProjDxIdeal.τ).loc Cert.AttnProjDxIdeal.main_arg1))
      ∧ r.2.sem = fun _ => 0)

def quiescent_AttnProjDxRefIdeal [hAttnProjDxRefIdeal : Cert.AttnProjDxRefIdeal.Facts] : Prop :=
  ∀ (m : (ℓ : Loc Cert.AttnProjDxRefIdeal.nD Cert.AttnProjDxRefIdeal.τ Cert.AttnProjDxRefIdeal.sig) → Buf (Elt Ideal) ℓ) (g : Dev Cert.AttnProjDxRefIdeal.nD → PrngReg), Pre_AttnProjDxRefIdeal m →
    θ_run (Cert.AttnProjDxRefIdeal.defs (F := Ideal)) (onTc (τ := Cert.AttnProjDxRefIdeal.τ) (Cert.AttnProjDxRefIdeal.main (F := Ideal))) ⟨m, fun _ => 0, g⟩ (fun r => (∀ c : Dev Cert.AttnProjDxRefIdeal.nD,
      r.2.mem ((c.tc : Thread Cert.AttnProjDxRefIdeal.nD Cert.AttnProjDxRefIdeal.τ).loc Cert.AttnProjDxRefIdeal.main_arg0) = m ((c.tc : Thread Cert.AttnProjDxRefIdeal.nD Cert.AttnProjDxRefIdeal.τ).loc Cert.AttnProjDxRefIdeal.main_arg0)
      ∧ r.2.mem ((c.tc : Thread Cert.AttnProjDxRefIdeal.nD Cert.AttnProjDxRefIdeal.τ).loc Cert.AttnProjDxRefIdeal.main_arg1) = m ((c.tc : Thread Cert.AttnProjDxRefIdeal.nD Cert.AttnProjDxRefIdeal.τ).loc Cert.AttnProjDxRefIdeal.main_arg1))
      ∧ r.2.sem = fun _ => 0)

def quiescent_AttnProjDw [hAttnProjDw : Cert.AttnProjDw.Facts] : Prop :=
  ∀ (m : (ℓ : Loc Cert.AttnProjDw.nD Cert.AttnProjDw.τ Cert.AttnProjDw.sig) → Buf (Elt Bits) ℓ) (g : Dev Cert.AttnProjDw.nD → PrngReg), Pre_AttnProjDw m →
    θ_run (Cert.AttnProjDw.defs (F := Bits)) (onTc (τ := Cert.AttnProjDw.τ) (Cert.AttnProjDw.main (F := Bits))) ⟨m, fun _ => 0, g⟩ (fun r => (∀ c : Dev Cert.AttnProjDw.nD,
      r.2.mem ((c.tc : Thread Cert.AttnProjDw.nD Cert.AttnProjDw.τ).loc Cert.AttnProjDw.main_arg0) = m ((c.tc : Thread Cert.AttnProjDw.nD Cert.AttnProjDw.τ).loc Cert.AttnProjDw.main_arg0)
      ∧ r.2.mem ((c.tc : Thread Cert.AttnProjDw.nD Cert.AttnProjDw.τ).loc Cert.AttnProjDw.main_arg1) = m ((c.tc : Thread Cert.AttnProjDw.nD Cert.AttnProjDw.τ).loc Cert.AttnProjDw.main_arg1))
      ∧ r.2.sem = fun _ => 0)

def quiescent_AttnProjDwIdeal [hAttnProjDwIdeal : Cert.AttnProjDwIdeal.Facts] : Prop :=
  ∀ (m : (ℓ : Loc Cert.AttnProjDwIdeal.nD Cert.AttnProjDwIdeal.τ Cert.AttnProjDwIdeal.sig) → Buf (Elt Ideal) ℓ) (g : Dev Cert.AttnProjDwIdeal.nD → PrngReg), Pre_AttnProjDwIdeal m →
    θ_run (Cert.AttnProjDwIdeal.defs (F := Ideal)) (onTc (τ := Cert.AttnProjDwIdeal.τ) (Cert.AttnProjDwIdeal.main (F := Ideal))) ⟨m, fun _ => 0, g⟩ (fun r => (∀ c : Dev Cert.AttnProjDwIdeal.nD,
      r.2.mem ((c.tc : Thread Cert.AttnProjDwIdeal.nD Cert.AttnProjDwIdeal.τ).loc Cert.AttnProjDwIdeal.main_arg0) = m ((c.tc : Thread Cert.AttnProjDwIdeal.nD Cert.AttnProjDwIdeal.τ).loc Cert.AttnProjDwIdeal.main_arg0)
      ∧ r.2.mem ((c.tc : Thread Cert.AttnProjDwIdeal.nD Cert.AttnProjDwIdeal.τ).loc Cert.AttnProjDwIdeal.main_arg1) = m ((c.tc : Thread Cert.AttnProjDwIdeal.nD Cert.AttnProjDwIdeal.τ).loc Cert.AttnProjDwIdeal.main_arg1))
      ∧ r.2.sem = fun _ => 0)

def quiescent_AttnProjDwRefIdeal [hAttnProjDwRefIdeal : Cert.AttnProjDwRefIdeal.Facts] : Prop :=
  ∀ (m : (ℓ : Loc Cert.AttnProjDwRefIdeal.nD Cert.AttnProjDwRefIdeal.τ Cert.AttnProjDwRefIdeal.sig) → Buf (Elt Ideal) ℓ) (g : Dev Cert.AttnProjDwRefIdeal.nD → PrngReg), Pre_AttnProjDwRefIdeal m →
    θ_run (Cert.AttnProjDwRefIdeal.defs (F := Ideal)) (onTc (τ := Cert.AttnProjDwRefIdeal.τ) (Cert.AttnProjDwRefIdeal.main (F := Ideal))) ⟨m, fun _ => 0, g⟩ (fun r => (∀ c : Dev Cert.AttnProjDwRefIdeal.nD,
      r.2.mem ((c.tc : Thread Cert.AttnProjDwRefIdeal.nD Cert.AttnProjDwRefIdeal.τ).loc Cert.AttnProjDwRefIdeal.main_arg0) = m ((c.tc : Thread Cert.AttnProjDwRefIdeal.nD Cert.AttnProjDwRefIdeal.τ).loc Cert.AttnProjDwRefIdeal.main_arg0)
      ∧ r.2.mem ((c.tc : Thread Cert.AttnProjDwRefIdeal.nD Cert.AttnProjDwRefIdeal.τ).loc Cert.AttnProjDwRefIdeal.main_arg1) = m ((c.tc : Thread Cert.AttnProjDwRefIdeal.nD Cert.AttnProjDwRefIdeal.τ).loc Cert.AttnProjDwRefIdeal.main_arg1))
      ∧ r.2.sem = fun _ => 0)

def quiescent_PleGate [hPleGate : Cert.PleGate.Facts] : Prop :=
  ∀ (m : (ℓ : Loc Cert.PleGate.nD Cert.PleGate.τ Cert.PleGate.sig) → Buf (Elt Bits) ℓ) (g : Dev Cert.PleGate.nD → PrngReg), Pre_PleGate m →
    θ_run (Cert.PleGate.defs (F := Bits)) (onTc (τ := Cert.PleGate.τ) (Cert.PleGate.main (F := Bits))) ⟨m, fun _ => 0, g⟩ (fun r => (∀ c : Dev Cert.PleGate.nD,
      r.2.mem ((c.tc : Thread Cert.PleGate.nD Cert.PleGate.τ).loc Cert.PleGate.main_arg0) = m ((c.tc : Thread Cert.PleGate.nD Cert.PleGate.τ).loc Cert.PleGate.main_arg0)
      ∧ r.2.mem ((c.tc : Thread Cert.PleGate.nD Cert.PleGate.τ).loc Cert.PleGate.main_arg1) = m ((c.tc : Thread Cert.PleGate.nD Cert.PleGate.τ).loc Cert.PleGate.main_arg1))
      ∧ r.2.sem = fun _ => 0)

def quiescent_PleGateIdeal [hPleGateIdeal : Cert.PleGateIdeal.Facts] : Prop :=
  ∀ (m : (ℓ : Loc Cert.PleGateIdeal.nD Cert.PleGateIdeal.τ Cert.PleGateIdeal.sig) → Buf (Elt Ideal) ℓ) (g : Dev Cert.PleGateIdeal.nD → PrngReg), Pre_PleGateIdeal m →
    θ_run (Cert.PleGateIdeal.defs (F := Ideal)) (onTc (τ := Cert.PleGateIdeal.τ) (Cert.PleGateIdeal.main (F := Ideal))) ⟨m, fun _ => 0, g⟩ (fun r => (∀ c : Dev Cert.PleGateIdeal.nD,
      r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
      ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1))
      ∧ r.2.sem = fun _ => 0)

def quiescent_PleGateRefIdeal [hPleGateRefIdeal : Cert.PleGateRefIdeal.Facts] : Prop :=
  ∀ (m : (ℓ : Loc Cert.PleGateRefIdeal.nD Cert.PleGateRefIdeal.τ Cert.PleGateRefIdeal.sig) → Buf (Elt Ideal) ℓ) (g : Dev Cert.PleGateRefIdeal.nD → PrngReg), Pre_PleGateRefIdeal m →
    θ_run (Cert.PleGateRefIdeal.defs (F := Ideal)) (onTc (τ := Cert.PleGateRefIdeal.τ) (Cert.PleGateRefIdeal.main (F := Ideal))) ⟨m, fun _ => 0, g⟩ (fun r => (∀ c : Dev Cert.PleGateRefIdeal.nD,
      r.2.mem ((c.tc : Thread Cert.PleGateRefIdeal.nD Cert.PleGateRefIdeal.τ).loc Cert.PleGateRefIdeal.main_arg0) = m ((c.tc : Thread Cert.PleGateRefIdeal.nD Cert.PleGateRefIdeal.τ).loc Cert.PleGateRefIdeal.main_arg0)
      ∧ r.2.mem ((c.tc : Thread Cert.PleGateRefIdeal.nD Cert.PleGateRefIdeal.τ).loc Cert.PleGateRefIdeal.main_arg1) = m ((c.tc : Thread Cert.PleGateRefIdeal.nD Cert.PleGateRefIdeal.τ).loc Cert.PleGateRefIdeal.main_arg1))
      ∧ r.2.sem = fun _ => 0)

def quiescent_PleGateDx [hPleGateDx : Cert.PleGateDx.Facts] : Prop :=
  ∀ (m : (ℓ : Loc Cert.PleGateDx.nD Cert.PleGateDx.τ Cert.PleGateDx.sig) → Buf (Elt Bits) ℓ) (g : Dev Cert.PleGateDx.nD → PrngReg), Pre_PleGateDx m →
    θ_run (Cert.PleGateDx.defs (F := Bits)) (onTc (τ := Cert.PleGateDx.τ) (Cert.PleGateDx.main (F := Bits))) ⟨m, fun _ => 0, g⟩ (fun r => (∀ c : Dev Cert.PleGateDx.nD,
      r.2.mem ((c.tc : Thread Cert.PleGateDx.nD Cert.PleGateDx.τ).loc Cert.PleGateDx.main_arg0) = m ((c.tc : Thread Cert.PleGateDx.nD Cert.PleGateDx.τ).loc Cert.PleGateDx.main_arg0)
      ∧ r.2.mem ((c.tc : Thread Cert.PleGateDx.nD Cert.PleGateDx.τ).loc Cert.PleGateDx.main_arg1) = m ((c.tc : Thread Cert.PleGateDx.nD Cert.PleGateDx.τ).loc Cert.PleGateDx.main_arg1)
      ∧ r.2.mem ((c.tc : Thread Cert.PleGateDx.nD Cert.PleGateDx.τ).loc Cert.PleGateDx.main_arg2) = m ((c.tc : Thread Cert.PleGateDx.nD Cert.PleGateDx.τ).loc Cert.PleGateDx.main_arg2))
      ∧ r.2.sem = fun _ => 0)

def quiescent_PleGateDxIdeal [hPleGateDxIdeal : Cert.PleGateDxIdeal.Facts] : Prop :=
  ∀ (m : (ℓ : Loc Cert.PleGateDxIdeal.nD Cert.PleGateDxIdeal.τ Cert.PleGateDxIdeal.sig) → Buf (Elt Ideal) ℓ) (g : Dev Cert.PleGateDxIdeal.nD → PrngReg), Pre_PleGateDxIdeal m →
    θ_run (Cert.PleGateDxIdeal.defs (F := Ideal)) (onTc (τ := Cert.PleGateDxIdeal.τ) (Cert.PleGateDxIdeal.main (F := Ideal))) ⟨m, fun _ => 0, g⟩ (fun r => (∀ c : Dev Cert.PleGateDxIdeal.nD,
      r.2.mem ((c.tc : Thread Cert.PleGateDxIdeal.nD Cert.PleGateDxIdeal.τ).loc Cert.PleGateDxIdeal.main_arg0) = m ((c.tc : Thread Cert.PleGateDxIdeal.nD Cert.PleGateDxIdeal.τ).loc Cert.PleGateDxIdeal.main_arg0)
      ∧ r.2.mem ((c.tc : Thread Cert.PleGateDxIdeal.nD Cert.PleGateDxIdeal.τ).loc Cert.PleGateDxIdeal.main_arg1) = m ((c.tc : Thread Cert.PleGateDxIdeal.nD Cert.PleGateDxIdeal.τ).loc Cert.PleGateDxIdeal.main_arg1)
      ∧ r.2.mem ((c.tc : Thread Cert.PleGateDxIdeal.nD Cert.PleGateDxIdeal.τ).loc Cert.PleGateDxIdeal.main_arg2) = m ((c.tc : Thread Cert.PleGateDxIdeal.nD Cert.PleGateDxIdeal.τ).loc Cert.PleGateDxIdeal.main_arg2))
      ∧ r.2.sem = fun _ => 0)

def quiescent_PleGateDxRefIdeal [hPleGateDxRefIdeal : Cert.PleGateDxRefIdeal.Facts] : Prop :=
  ∀ (m : (ℓ : Loc Cert.PleGateDxRefIdeal.nD Cert.PleGateDxRefIdeal.τ Cert.PleGateDxRefIdeal.sig) → Buf (Elt Ideal) ℓ) (g : Dev Cert.PleGateDxRefIdeal.nD → PrngReg), Pre_PleGateDxRefIdeal m →
    θ_run (Cert.PleGateDxRefIdeal.defs (F := Ideal)) (onTc (τ := Cert.PleGateDxRefIdeal.τ) (Cert.PleGateDxRefIdeal.main (F := Ideal))) ⟨m, fun _ => 0, g⟩ (fun r => (∀ c : Dev Cert.PleGateDxRefIdeal.nD,
      r.2.mem ((c.tc : Thread Cert.PleGateDxRefIdeal.nD Cert.PleGateDxRefIdeal.τ).loc Cert.PleGateDxRefIdeal.main_arg0) = m ((c.tc : Thread Cert.PleGateDxRefIdeal.nD Cert.PleGateDxRefIdeal.τ).loc Cert.PleGateDxRefIdeal.main_arg0)
      ∧ r.2.mem ((c.tc : Thread Cert.PleGateDxRefIdeal.nD Cert.PleGateDxRefIdeal.τ).loc Cert.PleGateDxRefIdeal.main_arg1) = m ((c.tc : Thread Cert.PleGateDxRefIdeal.nD Cert.PleGateDxRefIdeal.τ).loc Cert.PleGateDxRefIdeal.main_arg1)
      ∧ r.2.mem ((c.tc : Thread Cert.PleGateDxRefIdeal.nD Cert.PleGateDxRefIdeal.τ).loc Cert.PleGateDxRefIdeal.main_arg2) = m ((c.tc : Thread Cert.PleGateDxRefIdeal.nD Cert.PleGateDxRefIdeal.τ).loc Cert.PleGateDxRefIdeal.main_arg2))
      ∧ r.2.sem = fun _ => 0)

def quiescent_PleGateDw [hPleGateDw : Cert.PleGateDw.Facts] : Prop :=
  ∀ (m : (ℓ : Loc Cert.PleGateDw.nD Cert.PleGateDw.τ Cert.PleGateDw.sig) → Buf (Elt Bits) ℓ) (g : Dev Cert.PleGateDw.nD → PrngReg), Pre_PleGateDw m →
    θ_run (Cert.PleGateDw.defs (F := Bits)) (onTc (τ := Cert.PleGateDw.τ) (Cert.PleGateDw.main (F := Bits))) ⟨m, fun _ => 0, g⟩ (fun r => (∀ c : Dev Cert.PleGateDw.nD,
      r.2.mem ((c.tc : Thread Cert.PleGateDw.nD Cert.PleGateDw.τ).loc Cert.PleGateDw.main_arg0) = m ((c.tc : Thread Cert.PleGateDw.nD Cert.PleGateDw.τ).loc Cert.PleGateDw.main_arg0)
      ∧ r.2.mem ((c.tc : Thread Cert.PleGateDw.nD Cert.PleGateDw.τ).loc Cert.PleGateDw.main_arg1) = m ((c.tc : Thread Cert.PleGateDw.nD Cert.PleGateDw.τ).loc Cert.PleGateDw.main_arg1))
      ∧ r.2.sem = fun _ => 0)

def quiescent_PleGateDwIdeal [hPleGateDwIdeal : Cert.PleGateDwIdeal.Facts] : Prop :=
  ∀ (m : (ℓ : Loc Cert.PleGateDwIdeal.nD Cert.PleGateDwIdeal.τ Cert.PleGateDwIdeal.sig) → Buf (Elt Ideal) ℓ) (g : Dev Cert.PleGateDwIdeal.nD → PrngReg), Pre_PleGateDwIdeal m →
    θ_run (Cert.PleGateDwIdeal.defs (F := Ideal)) (onTc (τ := Cert.PleGateDwIdeal.τ) (Cert.PleGateDwIdeal.main (F := Ideal))) ⟨m, fun _ => 0, g⟩ (fun r => (∀ c : Dev Cert.PleGateDwIdeal.nD,
      r.2.mem ((c.tc : Thread Cert.PleGateDwIdeal.nD Cert.PleGateDwIdeal.τ).loc Cert.PleGateDwIdeal.main_arg0) = m ((c.tc : Thread Cert.PleGateDwIdeal.nD Cert.PleGateDwIdeal.τ).loc Cert.PleGateDwIdeal.main_arg0)
      ∧ r.2.mem ((c.tc : Thread Cert.PleGateDwIdeal.nD Cert.PleGateDwIdeal.τ).loc Cert.PleGateDwIdeal.main_arg1) = m ((c.tc : Thread Cert.PleGateDwIdeal.nD Cert.PleGateDwIdeal.τ).loc Cert.PleGateDwIdeal.main_arg1))
      ∧ r.2.sem = fun _ => 0)

def quiescent_PleGateDwRefIdeal [hPleGateDwRefIdeal : Cert.PleGateDwRefIdeal.Facts] : Prop :=
  ∀ (m : (ℓ : Loc Cert.PleGateDwRefIdeal.nD Cert.PleGateDwRefIdeal.τ Cert.PleGateDwRefIdeal.sig) → Buf (Elt Ideal) ℓ) (g : Dev Cert.PleGateDwRefIdeal.nD → PrngReg), Pre_PleGateDwRefIdeal m →
    θ_run (Cert.PleGateDwRefIdeal.defs (F := Ideal)) (onTc (τ := Cert.PleGateDwRefIdeal.τ) (Cert.PleGateDwRefIdeal.main (F := Ideal))) ⟨m, fun _ => 0, g⟩ (fun r => (∀ c : Dev Cert.PleGateDwRefIdeal.nD,
      r.2.mem ((c.tc : Thread Cert.PleGateDwRefIdeal.nD Cert.PleGateDwRefIdeal.τ).loc Cert.PleGateDwRefIdeal.main_arg0) = m ((c.tc : Thread Cert.PleGateDwRefIdeal.nD Cert.PleGateDwRefIdeal.τ).loc Cert.PleGateDwRefIdeal.main_arg0)
      ∧ r.2.mem ((c.tc : Thread Cert.PleGateDwRefIdeal.nD Cert.PleGateDwRefIdeal.τ).loc Cert.PleGateDwRefIdeal.main_arg1) = m ((c.tc : Thread Cert.PleGateDwRefIdeal.nD Cert.PleGateDwRefIdeal.τ).loc Cert.PleGateDwRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v64_0)) (v1 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64_0) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_v189) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)
      ∧ m' ((c.tc : Thread Cert.ProjDwRefIdeal.nD Cert.ProjDwRefIdeal.τ).loc Cert.ProjDwRefIdeal.main_arg2) = m ((c.tc : Thread Cert.ProjDwIdeal.nD Cert.ProjDwIdeal.τ).loc Cert.ProjDwIdeal.main_arg2)) →
    ∃ (v0 : (c : Dev Cert.ProjDwIdeal.nD) → Buf (Elt Ideal) ((c.tc : Thread Cert.ProjDwIdeal.nD Cert.ProjDwIdeal.τ).loc Cert.ProjDwIdeal.main_v1)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v1) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1)
          ∧ r.2.mem ((c.tc : Thread Cert.ProjDwIdeal.nD Cert.ProjDwIdeal.τ).loc Cert.ProjDwIdeal.main_arg2) = m ((c.tc : Thread Cert.ProjDwIdeal.nD Cert.ProjDwIdeal.τ).loc Cert.ProjDwIdeal.main_arg2))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v11) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1)
          ∧ r.2.mem ((c.tc : Thread Cert.ProjDwRefIdeal.nD Cert.ProjDwRefIdeal.τ).loc Cert.ProjDwRefIdeal.main_arg2) = m' ((c.tc : Thread Cert.ProjDwRefIdeal.nD Cert.ProjDwRefIdeal.τ).loc Cert.ProjDwRefIdeal.main_arg2))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)
      ∧ m' ((c.tc : Thread Cert.ProjDxRefIdeal.nD Cert.ProjDxRefIdeal.τ).loc Cert.ProjDxRefIdeal.main_arg2) = m ((c.tc : Thread Cert.ProjDxIdeal.nD Cert.ProjDxIdeal.τ).loc Cert.ProjDxIdeal.main_arg2)
      ∧ m' ((c.tc : Thread Cert.ProjDxRefIdeal.nD Cert.ProjDxRefIdeal.τ).loc Cert.ProjDxRefIdeal.main_arg3) = m ((c.tc : Thread Cert.ProjDxIdeal.nD Cert.ProjDxIdeal.τ).loc Cert.ProjDxIdeal.main_arg3)) →
    ∃ (v0 : (c : Dev Cert.ProjDxIdeal.nD) → Buf (Elt Ideal) ((c.tc : Thread Cert.ProjDxIdeal.nD Cert.ProjDxIdeal.τ).loc Cert.ProjDxIdeal.main_v2)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v2) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
          ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2)
          ∧ r.2.mem ((c.tc : Thread Cert.ProjDxIdeal.nD Cert.ProjDxIdeal.τ).loc Cert.ProjDxIdeal.main_arg3) = m ((c.tc : Thread Cert.ProjDxIdeal.nD Cert.ProjDxIdeal.τ).loc Cert.ProjDxIdeal.main_arg3))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v10) = v0 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1)
          ∧ r.2.mem ((c.tc : Thread Cert.ProjDxRefIdeal.nD Cert.ProjDxRefIdeal.τ).loc Cert.ProjDxRefIdeal.main_arg2) = m' ((c.tc : Thread Cert.ProjDxRefIdeal.nD Cert.ProjDxRefIdeal.τ).loc Cert.ProjDxRefIdeal.main_arg2)
          ∧ r.2.mem ((c.tc : Thread Cert.ProjDxRefIdeal.nD Cert.ProjDxRefIdeal.τ).loc Cert.ProjDxRefIdeal.main_arg3) = m' ((c.tc : Thread Cert.ProjDxRefIdeal.nD Cert.ProjDxRefIdeal.τ).loc Cert.ProjDxRefIdeal.main_arg3))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v1)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v1) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v4) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v5) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpUDw_UpUDwIdeal : Prop :=
  True

def algebraic_UpUDwIdeal_UpUDwRefIdeal [hUpUDwIdeal : Cert.UpUDwIdeal.Facts] [hUpUDwRefIdeal : Cert.UpUDwRefIdeal.Facts] : Prop :=
  ∀ (m : (ℓ : Loc Cert.UpUDwIdeal.nD Cert.UpUDwIdeal.τ Cert.UpUDwIdeal.sig) → Buf (Elt Ideal) ℓ) (g : Dev Cert.UpUDwIdeal.nD → PrngReg)
    (m' : (ℓ : Loc Cert.UpUDwRefIdeal.nD Cert.UpUDwRefIdeal.τ Cert.UpUDwRefIdeal.sig) → Buf (Elt Ideal) ℓ) (g' : Dev Cert.UpUDwRefIdeal.nD → PrngReg), Pre_UpUDwIdeal m →
    (∀ c : Dev Cert.UpUDwIdeal.nD,
      m' ((c.tc : Thread Cert.UpUDwRefIdeal.nD Cert.UpUDwRefIdeal.τ).loc Cert.UpUDwRefIdeal.main_arg0) = m ((c.tc : Thread Cert.UpUDwIdeal.nD Cert.UpUDwIdeal.τ).loc Cert.UpUDwIdeal.main_arg0)
      ∧ m' ((c.tc : Thread Cert.UpUDwRefIdeal.nD Cert.UpUDwRefIdeal.τ).loc Cert.UpUDwRefIdeal.main_arg1) = m ((c.tc : Thread Cert.UpUDwIdeal.nD Cert.UpUDwIdeal.τ).loc Cert.UpUDwIdeal.main_arg1)
      ∧ m' ((c.tc : Thread Cert.UpUDwRefIdeal.nD Cert.UpUDwRefIdeal.τ).loc Cert.UpUDwRefIdeal.main_arg2) = m ((c.tc : Thread Cert.UpUDwIdeal.nD Cert.UpUDwIdeal.τ).loc Cert.UpUDwIdeal.main_arg2)) →
    ∃ (v0 : (c : Dev Cert.UpUDwIdeal.nD) → Buf (Elt Ideal) ((c.tc : Thread Cert.UpUDwIdeal.nD Cert.UpUDwIdeal.τ).loc Cert.UpUDwIdeal.main_v1)),
      θ_run (Cert.UpUDwIdeal.defs (F := Ideal)) (onTc (τ := Cert.UpUDwIdeal.τ) (Cert.UpUDwIdeal.main (F := Ideal))) ⟨m, fun _ => 0, g⟩ (fun r => ∀ c : Dev Cert.UpUDwIdeal.nD,
          r.2.mem ((c.tc : Thread Cert.UpUDwIdeal.nD Cert.UpUDwIdeal.τ).loc Cert.UpUDwIdeal.main_v1) = v0 c
          ∧ r.2.mem ((c.tc : Thread Cert.UpUDwIdeal.nD Cert.UpUDwIdeal.τ).loc Cert.UpUDwIdeal.main_arg0) = m ((c.tc : Thread Cert.UpUDwIdeal.nD Cert.UpUDwIdeal.τ).loc Cert.UpUDwIdeal.main_arg0)
          ∧ r.2.mem ((c.tc : Thread Cert.UpUDwIdeal.nD Cert.UpUDwIdeal.τ).loc Cert.UpUDwIdeal.main_arg1) = m ((c.tc : Thread Cert.UpUDwIdeal.nD Cert.UpUDwIdeal.τ).loc Cert.UpUDwIdeal.main_arg1)
          ∧ r.2.mem ((c.tc : Thread Cert.UpUDwIdeal.nD Cert.UpUDwIdeal.τ).loc Cert.UpUDwIdeal.main_arg2) = m ((c.tc : Thread Cert.UpUDwIdeal.nD Cert.UpUDwIdeal.τ).loc Cert.UpUDwIdeal.main_arg2))
      ∧ θ_run (Cert.UpUDwRefIdeal.defs (F := Ideal)) (onTc (τ := Cert.UpUDwRefIdeal.τ) (Cert.UpUDwRefIdeal.main (F := Ideal))) ⟨m', fun _ => 0, g'⟩ (fun r => ∀ c : Dev Cert.UpUDwRefIdeal.nD,
          r.2.mem ((c.tc : Thread Cert.UpUDwRefIdeal.nD Cert.UpUDwRefIdeal.τ).loc Cert.UpUDwRefIdeal.main_v12) = v0 c
          ∧ r.2.mem ((c.tc : Thread Cert.UpUDwRefIdeal.nD Cert.UpUDwRefIdeal.τ).loc Cert.UpUDwRefIdeal.main_arg0) = m' ((c.tc : Thread Cert.UpUDwRefIdeal.nD Cert.UpUDwRefIdeal.τ).loc Cert.UpUDwRefIdeal.main_arg0)
          ∧ r.2.mem ((c.tc : Thread Cert.UpUDwRefIdeal.nD Cert.UpUDwRefIdeal.τ).loc Cert.UpUDwRefIdeal.main_arg1) = m' ((c.tc : Thread Cert.UpUDwRefIdeal.nD Cert.UpUDwRefIdeal.τ).loc Cert.UpUDwRefIdeal.main_arg1)
          ∧ r.2.mem ((c.tc : Thread Cert.UpUDwRefIdeal.nD Cert.UpUDwRefIdeal.τ).loc Cert.UpUDwRefIdeal.main_arg2) = m' ((c.tc : Thread Cert.UpUDwRefIdeal.nD Cert.UpUDwRefIdeal.τ).loc Cert.UpUDwRefIdeal.main_arg2))

def preserves_UpGDx_UpGDxIdeal : Prop :=
  True

def algebraic_UpGDxIdeal_UpGDxRefIdeal [hUpGDxIdeal : Cert.UpGDxIdeal.Facts] [hUpGDxRefIdeal : Cert.UpGDxRefIdeal.Facts] : Prop :=
  ∀ (m : (ℓ : Loc Cert.UpGDxIdeal.nD Cert.UpGDxIdeal.τ Cert.UpGDxIdeal.sig) → Buf (Elt Ideal) ℓ) (g : Dev Cert.UpGDxIdeal.nD → PrngReg)
    (m' : (ℓ : Loc Cert.UpGDxRefIdeal.nD Cert.UpGDxRefIdeal.τ Cert.UpGDxRefIdeal.sig) → Buf (Elt Ideal) ℓ) (g' : Dev Cert.UpGDxRefIdeal.nD → PrngReg), Pre_UpGDxIdeal m →
    (∀ c : Dev Cert.UpGDxIdeal.nD,
      m' ((c.tc : Thread Cert.UpGDxRefIdeal.nD Cert.UpGDxRefIdeal.τ).loc Cert.UpGDxRefIdeal.main_arg0) = m ((c.tc : Thread Cert.UpGDxIdeal.nD Cert.UpGDxIdeal.τ).loc Cert.UpGDxIdeal.main_arg0)
      ∧ m' ((c.tc : Thread Cert.UpGDxRefIdeal.nD Cert.UpGDxRefIdeal.τ).loc Cert.UpGDxRefIdeal.main_arg1) = m ((c.tc : Thread Cert.UpGDxIdeal.nD Cert.UpGDxIdeal.τ).loc Cert.UpGDxIdeal.main_arg1)
      ∧ m' ((c.tc : Thread Cert.UpGDxRefIdeal.nD Cert.UpGDxRefIdeal.τ).loc Cert.UpGDxRefIdeal.main_arg2) = m ((c.tc : Thread Cert.UpGDxIdeal.nD Cert.UpGDxIdeal.τ).loc Cert.UpGDxIdeal.main_arg2)) →
    ∃ (v0 : (c : Dev Cert.UpGDxIdeal.nD) → Buf (Elt Ideal) ((c.tc : Thread Cert.UpGDxIdeal.nD Cert.UpGDxIdeal.τ).loc Cert.UpGDxIdeal.main_v2)),
      θ_run (Cert.UpGDxIdeal.defs (F := Ideal)) (onTc (τ := Cert.UpGDxIdeal.τ) (Cert.UpGDxIdeal.main (F := Ideal))) ⟨m, fun _ => 0, g⟩ (fun r => ∀ c : Dev Cert.UpGDxIdeal.nD,
          r.2.mem ((c.tc : Thread Cert.UpGDxIdeal.nD Cert.UpGDxIdeal.τ).loc Cert.UpGDxIdeal.main_v2) = v0 c
          ∧ r.2.mem ((c.tc : Thread Cert.UpGDxIdeal.nD Cert.UpGDxIdeal.τ).loc Cert.UpGDxIdeal.main_arg0) = m ((c.tc : Thread Cert.UpGDxIdeal.nD Cert.UpGDxIdeal.τ).loc Cert.UpGDxIdeal.main_arg0)
          ∧ r.2.mem ((c.tc : Thread Cert.UpGDxIdeal.nD Cert.UpGDxIdeal.τ).loc Cert.UpGDxIdeal.main_arg1) = m ((c.tc : Thread Cert.UpGDxIdeal.nD Cert.UpGDxIdeal.τ).loc Cert.UpGDxIdeal.main_arg1)
          ∧ r.2.mem ((c.tc : Thread Cert.UpGDxIdeal.nD Cert.UpGDxIdeal.τ).loc Cert.UpGDxIdeal.main_arg2) = m ((c.tc : Thread Cert.UpGDxIdeal.nD Cert.UpGDxIdeal.τ).loc Cert.UpGDxIdeal.main_arg2))
      ∧ θ_run (Cert.UpGDxRefIdeal.defs (F := Ideal)) (onTc (τ := Cert.UpGDxRefIdeal.τ) (Cert.UpGDxRefIdeal.main (F := Ideal))) ⟨m', fun _ => 0, g'⟩ (fun r => ∀ c : Dev Cert.UpGDxRefIdeal.nD,
          r.2.mem ((c.tc : Thread Cert.UpGDxRefIdeal.nD Cert.UpGDxRefIdeal.τ).loc Cert.UpGDxRefIdeal.main_v12) = v0 c
          ∧ r.2.mem ((c.tc : Thread Cert.UpGDxRefIdeal.nD Cert.UpGDxRefIdeal.τ).loc Cert.UpGDxRefIdeal.main_arg0) = m' ((c.tc : Thread Cert.UpGDxRefIdeal.nD Cert.UpGDxRefIdeal.τ).loc Cert.UpGDxRefIdeal.main_arg0)
          ∧ r.2.mem ((c.tc : Thread Cert.UpGDxRefIdeal.nD Cert.UpGDxRefIdeal.τ).loc Cert.UpGDxRefIdeal.main_arg1) = m' ((c.tc : Thread Cert.UpGDxRefIdeal.nD Cert.UpGDxRefIdeal.τ).loc Cert.UpGDxRefIdeal.main_arg1)
          ∧ r.2.mem ((c.tc : Thread Cert.UpGDxRefIdeal.nD Cert.UpGDxRefIdeal.τ).loc Cert.UpGDxRefIdeal.main_arg2) = m' ((c.tc : Thread Cert.UpGDxRefIdeal.nD Cert.UpGDxRefIdeal.τ).loc Cert.UpGDxRefIdeal.main_arg2))

def preserves_UpUDx_UpUDxIdeal : Prop :=
  True

def algebraic_UpUDxIdeal_UpUDxRefIdeal [hUpUDxIdeal : Cert.UpUDxIdeal.Facts] [hUpUDxRefIdeal : Cert.UpUDxRefIdeal.Facts] : Prop :=
  ∀ (m : (ℓ : Loc Cert.UpUDxIdeal.nD Cert.UpUDxIdeal.τ Cert.UpUDxIdeal.sig) → Buf (Elt Ideal) ℓ) (g : Dev Cert.UpUDxIdeal.nD → PrngReg)
    (m' : (ℓ : Loc Cert.UpUDxRefIdeal.nD Cert.UpUDxRefIdeal.τ Cert.UpUDxRefIdeal.sig) → Buf (Elt Ideal) ℓ) (g' : Dev Cert.UpUDxRefIdeal.nD → PrngReg), Pre_UpUDxIdeal m →
    (∀ c : Dev Cert.UpUDxIdeal.nD,
      m' ((c.tc : Thread Cert.UpUDxRefIdeal.nD Cert.UpUDxRefIdeal.τ).loc Cert.UpUDxRefIdeal.main_arg0) = m ((c.tc : Thread Cert.UpUDxIdeal.nD Cert.UpUDxIdeal.τ).loc Cert.UpUDxIdeal.main_arg0)
      ∧ m' ((c.tc : Thread Cert.UpUDxRefIdeal.nD Cert.UpUDxRefIdeal.τ).loc Cert.UpUDxRefIdeal.main_arg1) = m ((c.tc : Thread Cert.UpUDxIdeal.nD Cert.UpUDxIdeal.τ).loc Cert.UpUDxIdeal.main_arg1)
      ∧ m' ((c.tc : Thread Cert.UpUDxRefIdeal.nD Cert.UpUDxRefIdeal.τ).loc Cert.UpUDxRefIdeal.main_arg2) = m ((c.tc : Thread Cert.UpUDxIdeal.nD Cert.UpUDxIdeal.τ).loc Cert.UpUDxIdeal.main_arg2)) →
    ∃ (v0 : (c : Dev Cert.UpUDxIdeal.nD) → Buf (Elt Ideal) ((c.tc : Thread Cert.UpUDxIdeal.nD Cert.UpUDxIdeal.τ).loc Cert.UpUDxIdeal.main_v2)),
      θ_run (Cert.UpUDxIdeal.defs (F := Ideal)) (onTc (τ := Cert.UpUDxIdeal.τ) (Cert.UpUDxIdeal.main (F := Ideal))) ⟨m, fun _ => 0, g⟩ (fun r => ∀ c : Dev Cert.UpUDxIdeal.nD,
          r.2.mem ((c.tc : Thread Cert.UpUDxIdeal.nD Cert.UpUDxIdeal.τ).loc Cert.UpUDxIdeal.main_v2) = v0 c
          ∧ r.2.mem ((c.tc : Thread Cert.UpUDxIdeal.nD Cert.UpUDxIdeal.τ).loc Cert.UpUDxIdeal.main_arg0) = m ((c.tc : Thread Cert.UpUDxIdeal.nD Cert.UpUDxIdeal.τ).loc Cert.UpUDxIdeal.main_arg0)
          ∧ r.2.mem ((c.tc : Thread Cert.UpUDxIdeal.nD Cert.UpUDxIdeal.τ).loc Cert.UpUDxIdeal.main_arg1) = m ((c.tc : Thread Cert.UpUDxIdeal.nD Cert.UpUDxIdeal.τ).loc Cert.UpUDxIdeal.main_arg1)
          ∧ r.2.mem ((c.tc : Thread Cert.UpUDxIdeal.nD Cert.UpUDxIdeal.τ).loc Cert.UpUDxIdeal.main_arg2) = m ((c.tc : Thread Cert.UpUDxIdeal.nD Cert.UpUDxIdeal.τ).loc Cert.UpUDxIdeal.main_arg2))
      ∧ θ_run (Cert.UpUDxRefIdeal.defs (F := Ideal)) (onTc (τ := Cert.UpUDxRefIdeal.τ) (Cert.UpUDxRefIdeal.main (F := Ideal))) ⟨m', fun _ => 0, g'⟩ (fun r => ∀ c : Dev Cert.UpUDxRefIdeal.nD,
          r.2.mem ((c.tc : Thread Cert.UpUDxRefIdeal.nD Cert.UpUDxRefIdeal.τ).loc Cert.UpUDxRefIdeal.main_v8) = v0 c
          ∧ r.2.mem ((c.tc : Thread Cert.UpUDxRefIdeal.nD Cert.UpUDxRefIdeal.τ).loc Cert.UpUDxRefIdeal.main_arg0) = m' ((c.tc : Thread Cert.UpUDxRefIdeal.nD Cert.UpUDxRefIdeal.τ).loc Cert.UpUDxRefIdeal.main_arg0)
          ∧ r.2.mem ((c.tc : Thread Cert.UpUDxRefIdeal.nD Cert.UpUDxRefIdeal.τ).loc Cert.UpUDxRefIdeal.main_arg1) = m' ((c.tc : Thread Cert.UpUDxRefIdeal.nD Cert.UpUDxRefIdeal.τ).loc Cert.UpUDxRefIdeal.main_arg1)
          ∧ r.2.mem ((c.tc : Thread Cert.UpUDxRefIdeal.nD Cert.UpUDxRefIdeal.τ).loc Cert.UpUDxRefIdeal.main_arg2) = m' ((c.tc : Thread Cert.UpUDxRefIdeal.nD Cert.UpUDxRefIdeal.τ).loc Cert.UpUDxRefIdeal.main_arg2))

def preserves_UpG_UpGIdeal : Prop :=
  True

def algebraic_UpGIdeal_UpGRefIdeal [hUpGIdeal : Cert.UpGIdeal.Facts] [hUpGRefIdeal : Cert.UpGRefIdeal.Facts] : Prop :=
  ∀ (m : (ℓ : Loc Cert.UpGIdeal.nD Cert.UpGIdeal.τ Cert.UpGIdeal.sig) → Buf (Elt Ideal) ℓ) (g : Dev Cert.UpGIdeal.nD → PrngReg)
    (m' : (ℓ : Loc Cert.UpGRefIdeal.nD Cert.UpGRefIdeal.τ Cert.UpGRefIdeal.sig) → Buf (Elt Ideal) ℓ) (g' : Dev Cert.UpGRefIdeal.nD → PrngReg), Pre_UpGIdeal m →
    (∀ c : Dev Cert.UpGIdeal.nD,
      m' ((c.tc : Thread Cert.UpGRefIdeal.nD Cert.UpGRefIdeal.τ).loc Cert.UpGRefIdeal.main_arg0) = m ((c.tc : Thread Cert.UpGIdeal.nD Cert.UpGIdeal.τ).loc Cert.UpGIdeal.main_arg0)
      ∧ m' ((c.tc : Thread Cert.UpGRefIdeal.nD Cert.UpGRefIdeal.τ).loc Cert.UpGRefIdeal.main_arg1) = m ((c.tc : Thread Cert.UpGIdeal.nD Cert.UpGIdeal.τ).loc Cert.UpGIdeal.main_arg1)) →
    ∃ (v0 : (c : Dev Cert.UpGIdeal.nD) → Buf (Elt Ideal) ((c.tc : Thread Cert.UpGIdeal.nD Cert.UpGIdeal.τ).loc Cert.UpGIdeal.main_v3)),
      θ_run (Cert.UpGIdeal.defs (F := Ideal)) (onTc (τ := Cert.UpGIdeal.τ) (Cert.UpGIdeal.main (F := Ideal))) ⟨m, fun _ => 0, g⟩ (fun r => ∀ c : Dev Cert.UpGIdeal.nD,
          r.2.mem ((c.tc : Thread Cert.UpGIdeal.nD Cert.UpGIdeal.τ).loc Cert.UpGIdeal.main_v3) = v0 c
          ∧ r.2.mem ((c.tc : Thread Cert.UpGIdeal.nD Cert.UpGIdeal.τ).loc Cert.UpGIdeal.main_arg0) = m ((c.tc : Thread Cert.UpGIdeal.nD Cert.UpGIdeal.τ).loc Cert.UpGIdeal.main_arg0)
          ∧ r.2.mem ((c.tc : Thread Cert.UpGIdeal.nD Cert.UpGIdeal.τ).loc Cert.UpGIdeal.main_arg1) = m ((c.tc : Thread Cert.UpGIdeal.nD Cert.UpGIdeal.τ).loc Cert.UpGIdeal.main_arg1))
      ∧ θ_run (Cert.UpGRefIdeal.defs (F := Ideal)) (onTc (τ := Cert.UpGRefIdeal.τ) (Cert.UpGRefIdeal.main (F := Ideal))) ⟨m', fun _ => 0, g'⟩ (fun r => ∀ c : Dev Cert.UpGRefIdeal.nD,
          r.2.mem ((c.tc : Thread Cert.UpGRefIdeal.nD Cert.UpGRefIdeal.τ).loc Cert.UpGRefIdeal.main_v3) = v0 c
          ∧ r.2.mem ((c.tc : Thread Cert.UpGRefIdeal.nD Cert.UpGRefIdeal.τ).loc Cert.UpGRefIdeal.main_arg0) = m' ((c.tc : Thread Cert.UpGRefIdeal.nD Cert.UpGRefIdeal.τ).loc Cert.UpGRefIdeal.main_arg0)
          ∧ r.2.mem ((c.tc : Thread Cert.UpGRefIdeal.nD Cert.UpGRefIdeal.τ).loc Cert.UpGRefIdeal.main_arg1) = m' ((c.tc : Thread Cert.UpGRefIdeal.nD Cert.UpGRefIdeal.τ).loc Cert.UpGRefIdeal.main_arg1))

def preserves_UpU_UpUIdeal : Prop :=
  True

def algebraic_UpUIdeal_UpURefIdeal [hUpUIdeal : Cert.UpUIdeal.Facts] [hUpURefIdeal : Cert.UpURefIdeal.Facts] : Prop :=
  ∀ (m : (ℓ : Loc Cert.UpUIdeal.nD Cert.UpUIdeal.τ Cert.UpUIdeal.sig) → Buf (Elt Ideal) ℓ) (g : Dev Cert.UpUIdeal.nD → PrngReg)
    (m' : (ℓ : Loc Cert.UpURefIdeal.nD Cert.UpURefIdeal.τ Cert.UpURefIdeal.sig) → Buf (Elt Ideal) ℓ) (g' : Dev Cert.UpURefIdeal.nD → PrngReg), Pre_UpUIdeal m →
    (∀ c : Dev Cert.UpUIdeal.nD,
      m' ((c.tc : Thread Cert.UpURefIdeal.nD Cert.UpURefIdeal.τ).loc Cert.UpURefIdeal.main_arg0) = m ((c.tc : Thread Cert.UpUIdeal.nD Cert.UpUIdeal.τ).loc Cert.UpUIdeal.main_arg0)
      ∧ m' ((c.tc : Thread Cert.UpURefIdeal.nD Cert.UpURefIdeal.τ).loc Cert.UpURefIdeal.main_arg1) = m ((c.tc : Thread Cert.UpUIdeal.nD Cert.UpUIdeal.τ).loc Cert.UpUIdeal.main_arg1)) →
    ∃ (v0 : (c : Dev Cert.UpUIdeal.nD) → Buf (Elt Ideal) ((c.tc : Thread Cert.UpUIdeal.nD Cert.UpUIdeal.τ).loc Cert.UpUIdeal.main_v3)),
      θ_run (Cert.UpUIdeal.defs (F := Ideal)) (onTc (τ := Cert.UpUIdeal.τ) (Cert.UpUIdeal.main (F := Ideal))) ⟨m, fun _ => 0, g⟩ (fun r => ∀ c : Dev Cert.UpUIdeal.nD,
          r.2.mem ((c.tc : Thread Cert.UpUIdeal.nD Cert.UpUIdeal.τ).loc Cert.UpUIdeal.main_v3) = v0 c
          ∧ r.2.mem ((c.tc : Thread Cert.UpUIdeal.nD Cert.UpUIdeal.τ).loc Cert.UpUIdeal.main_arg0) = m ((c.tc : Thread Cert.UpUIdeal.nD Cert.UpUIdeal.τ).loc Cert.UpUIdeal.main_arg0)
          ∧ r.2.mem ((c.tc : Thread Cert.UpUIdeal.nD Cert.UpUIdeal.τ).loc Cert.UpUIdeal.main_arg1) = m ((c.tc : Thread Cert.UpUIdeal.nD Cert.UpUIdeal.τ).loc Cert.UpUIdeal.main_arg1))
      ∧ θ_run (Cert.UpURefIdeal.defs (F := Ideal)) (onTc (τ := Cert.UpURefIdeal.τ) (Cert.UpURefIdeal.main (F := Ideal))) ⟨m', fun _ => 0, g'⟩ (fun r => ∀ c : Dev Cert.UpURefIdeal.nD,
          r.2.mem ((c.tc : Thread Cert.UpURefIdeal.nD Cert.UpURefIdeal.τ).loc Cert.UpURefIdeal.main_v3) = v0 c
          ∧ r.2.mem ((c.tc : Thread Cert.UpURefIdeal.nD Cert.UpURefIdeal.τ).loc Cert.UpURefIdeal.main_arg0) = m' ((c.tc : Thread Cert.UpURefIdeal.nD Cert.UpURefIdeal.τ).loc Cert.UpURefIdeal.main_arg0)
          ∧ r.2.mem ((c.tc : Thread Cert.UpURefIdeal.nD Cert.UpURefIdeal.τ).loc Cert.UpURefIdeal.main_arg1) = m' ((c.tc : Thread Cert.UpURefIdeal.nD Cert.UpURefIdeal.τ).loc Cert.UpURefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_RetProj_RetProjIdeal : Prop :=
  True

def algebraic_RetProjIdeal_RetProjRefIdeal [hRetProjIdeal : Cert.RetProjIdeal.Facts] [hRetProjRefIdeal : Cert.RetProjRefIdeal.Facts] : Prop :=
  ∀ (m : (ℓ : Loc Cert.RetProjIdeal.nD Cert.RetProjIdeal.τ Cert.RetProjIdeal.sig) → Buf (Elt Ideal) ℓ) (g : Dev Cert.RetProjIdeal.nD → PrngReg)
    (m' : (ℓ : Loc Cert.RetProjRefIdeal.nD Cert.RetProjRefIdeal.τ Cert.RetProjRefIdeal.sig) → Buf (Elt Ideal) ℓ) (g' : Dev Cert.RetProjRefIdeal.nD → PrngReg), Pre_RetProjIdeal m →
    (∀ c : Dev Cert.RetProjIdeal.nD,
      m' ((c.tc : Thread Cert.RetProjRefIdeal.nD Cert.RetProjRefIdeal.τ).loc Cert.RetProjRefIdeal.main_arg0) = m ((c.tc : Thread Cert.RetProjIdeal.nD Cert.RetProjIdeal.τ).loc Cert.RetProjIdeal.main_arg0)
      ∧ m' ((c.tc : Thread Cert.RetProjRefIdeal.nD Cert.RetProjRefIdeal.τ).loc Cert.RetProjRefIdeal.main_arg1) = m ((c.tc : Thread Cert.RetProjIdeal.nD Cert.RetProjIdeal.τ).loc Cert.RetProjIdeal.main_arg1)) →
    ∃ (v0 : (c : Dev Cert.RetProjIdeal.nD) → Buf (Elt Ideal) ((c.tc : Thread Cert.RetProjIdeal.nD Cert.RetProjIdeal.τ).loc Cert.RetProjIdeal.main_v1)),
      θ_run (Cert.RetProjIdeal.defs (F := Ideal)) (onTc (τ := Cert.RetProjIdeal.τ) (Cert.RetProjIdeal.main (F := Ideal))) ⟨m, fun _ => 0, g⟩ (fun r => ∀ c : Dev Cert.RetProjIdeal.nD,
          r.2.mem ((c.tc : Thread Cert.RetProjIdeal.nD Cert.RetProjIdeal.τ).loc Cert.RetProjIdeal.main_v1) = v0 c
          ∧ r.2.mem ((c.tc : Thread Cert.RetProjIdeal.nD Cert.RetProjIdeal.τ).loc Cert.RetProjIdeal.main_arg0) = m ((c.tc : Thread Cert.RetProjIdeal.nD Cert.RetProjIdeal.τ).loc Cert.RetProjIdeal.main_arg0)
          ∧ r.2.mem ((c.tc : Thread Cert.RetProjIdeal.nD Cert.RetProjIdeal.τ).loc Cert.RetProjIdeal.main_arg1) = m ((c.tc : Thread Cert.RetProjIdeal.nD Cert.RetProjIdeal.τ).loc Cert.RetProjIdeal.main_arg1))
      ∧ θ_run (Cert.RetProjRefIdeal.defs (F := Ideal)) (onTc (τ := Cert.RetProjRefIdeal.τ) (Cert.RetProjRefIdeal.main (F := Ideal))) ⟨m', fun _ => 0, g'⟩ (fun r => ∀ c : Dev Cert.RetProjRefIdeal.nD,
          r.2.mem ((c.tc : Thread Cert.RetProjRefIdeal.nD Cert.RetProjRefIdeal.τ).loc Cert.RetProjRefIdeal.main_v2) = v0 c
          ∧ r.2.mem ((c.tc : Thread Cert.RetProjRefIdeal.nD Cert.RetProjRefIdeal.τ).loc Cert.RetProjRefIdeal.main_arg0) = m' ((c.tc : Thread Cert.RetProjRefIdeal.nD Cert.RetProjRefIdeal.τ).loc Cert.RetProjRefIdeal.main_arg0)
          ∧ r.2.mem ((c.tc : Thread Cert.RetProjRefIdeal.nD Cert.RetProjRefIdeal.τ).loc Cert.RetProjRefIdeal.main_arg1) = m' ((c.tc : Thread Cert.RetProjRefIdeal.nD Cert.RetProjRefIdeal.τ).loc Cert.RetProjRefIdeal.main_arg1))

def preserves_RetProjDx_RetProjDxIdeal : Prop :=
  True

def algebraic_RetProjDxIdeal_RetProjDxRefIdeal [hRetProjDxIdeal : Cert.RetProjDxIdeal.Facts] [hRetProjDxRefIdeal : Cert.RetProjDxRefIdeal.Facts] : Prop :=
  ∀ (m : (ℓ : Loc Cert.RetProjDxIdeal.nD Cert.RetProjDxIdeal.τ Cert.RetProjDxIdeal.sig) → Buf (Elt Ideal) ℓ) (g : Dev Cert.RetProjDxIdeal.nD → PrngReg)
    (m' : (ℓ : Loc Cert.RetProjDxRefIdeal.nD Cert.RetProjDxRefIdeal.τ Cert.RetProjDxRefIdeal.sig) → Buf (Elt Ideal) ℓ) (g' : Dev Cert.RetProjDxRefIdeal.nD → PrngReg), Pre_RetProjDxIdeal m →
    (∀ c : Dev Cert.RetProjDxIdeal.nD,
      m' ((c.tc : Thread Cert.RetProjDxRefIdeal.nD Cert.RetProjDxRefIdeal.τ).loc Cert.RetProjDxRefIdeal.main_arg0) = m ((c.tc : Thread Cert.RetProjDxIdeal.nD Cert.RetProjDxIdeal.τ).loc Cert.RetProjDxIdeal.main_arg0)
      ∧ m' ((c.tc : Thread Cert.RetProjDxRefIdeal.nD Cert.RetProjDxRefIdeal.τ).loc Cert.RetProjDxRefIdeal.main_arg1) = m ((c.tc : Thread Cert.RetProjDxIdeal.nD Cert.RetProjDxIdeal.τ).loc Cert.RetProjDxIdeal.main_arg1)) →
    ∃ (v0 : (c : Dev Cert.RetProjDxIdeal.nD) → Buf (Elt Ideal) ((c.tc : Thread Cert.RetProjDxIdeal.nD Cert.RetProjDxIdeal.τ).loc Cert.RetProjDxIdeal.main_v1)),
      θ_run (Cert.RetProjDxIdeal.defs (F := Ideal)) (onTc (τ := Cert.RetProjDxIdeal.τ) (Cert.RetProjDxIdeal.main (F := Ideal))) ⟨m, fun _ => 0, g⟩ (fun r => ∀ c : Dev Cert.RetProjDxIdeal.nD,
          r.2.mem ((c.tc : Thread Cert.RetProjDxIdeal.nD Cert.RetProjDxIdeal.τ).loc Cert.RetProjDxIdeal.main_v1) = v0 c
          ∧ r.2.mem ((c.tc : Thread Cert.RetProjDxIdeal.nD Cert.RetProjDxIdeal.τ).loc Cert.RetProjDxIdeal.main_arg0) = m ((c.tc : Thread Cert.RetProjDxIdeal.nD Cert.RetProjDxIdeal.τ).loc Cert.RetProjDxIdeal.main_arg0)
          ∧ r.2.mem ((c.tc : Thread Cert.RetProjDxIdeal.nD Cert.RetProjDxIdeal.τ).loc Cert.RetProjDxIdeal.main_arg1) = m ((c.tc : Thread Cert.RetProjDxIdeal.nD Cert.RetProjDxIdeal.τ).loc Cert.RetProjDxIdeal.main_arg1))
      ∧ θ_run (Cert.RetProjDxRefIdeal.defs (F := Ideal)) (onTc (τ := Cert.RetProjDxRefIdeal.τ) (Cert.RetProjDxRefIdeal.main (F := Ideal))) ⟨m', fun _ => 0, g'⟩ (fun r => ∀ c : Dev Cert.RetProjDxRefIdeal.nD,
          r.2.mem ((c.tc : Thread Cert.RetProjDxRefIdeal.nD Cert.RetProjDxRefIdeal.τ).loc Cert.RetProjDxRefIdeal.main_v4) = v0 c
          ∧ r.2.mem ((c.tc : Thread Cert.RetProjDxRefIdeal.nD Cert.RetProjDxRefIdeal.τ).loc Cert.RetProjDxRefIdeal.main_arg0) = m' ((c.tc : Thread Cert.RetProjDxRefIdeal.nD Cert.RetProjDxRefIdeal.τ).loc Cert.RetProjDxRefIdeal.main_arg0)
          ∧ r.2.mem ((c.tc : Thread Cert.RetProjDxRefIdeal.nD Cert.RetProjDxRefIdeal.τ).loc Cert.RetProjDxRefIdeal.main_arg1) = m' ((c.tc : Thread Cert.RetProjDxRefIdeal.nD Cert.RetProjDxRefIdeal.τ).loc Cert.RetProjDxRefIdeal.main_arg1))

def preserves_RetProjDw_RetProjDwIdeal : Prop :=
  True

def algebraic_RetProjDwIdeal_RetProjDwRefIdeal [hRetProjDwIdeal : Cert.RetProjDwIdeal.Facts] [hRetProjDwRefIdeal : Cert.RetProjDwRefIdeal.Facts] : Prop :=
  ∀ (m : (ℓ : Loc Cert.RetProjDwIdeal.nD Cert.RetProjDwIdeal.τ Cert.RetProjDwIdeal.sig) → Buf (Elt Ideal) ℓ) (g : Dev Cert.RetProjDwIdeal.nD → PrngReg)
    (m' : (ℓ : Loc Cert.RetProjDwRefIdeal.nD Cert.RetProjDwRefIdeal.τ Cert.RetProjDwRefIdeal.sig) → Buf (Elt Ideal) ℓ) (g' : Dev Cert.RetProjDwRefIdeal.nD → PrngReg), Pre_RetProjDwIdeal m →
    (∀ c : Dev Cert.RetProjDwIdeal.nD,
      m' ((c.tc : Thread Cert.RetProjDwRefIdeal.nD Cert.RetProjDwRefIdeal.τ).loc Cert.RetProjDwRefIdeal.main_arg0) = m ((c.tc : Thread Cert.RetProjDwIdeal.nD Cert.RetProjDwIdeal.τ).loc Cert.RetProjDwIdeal.main_arg0)
      ∧ m' ((c.tc : Thread Cert.RetProjDwRefIdeal.nD Cert.RetProjDwRefIdeal.τ).loc Cert.RetProjDwRefIdeal.main_arg1) = m ((c.tc : Thread Cert.RetProjDwIdeal.nD Cert.RetProjDwIdeal.τ).loc Cert.RetProjDwIdeal.main_arg1)) →
    ∃ (v0 : (c : Dev Cert.RetProjDwIdeal.nD) → Buf (Elt Ideal) ((c.tc : Thread Cert.RetProjDwIdeal.nD Cert.RetProjDwIdeal.τ).loc Cert.RetProjDwIdeal.main_v0)),
      θ_run (Cert.RetProjDwIdeal.defs (F := Ideal)) (onTc (τ := Cert.RetProjDwIdeal.τ) (Cert.RetProjDwIdeal.main (F := Ideal))) ⟨m, fun _ => 0, g⟩ (fun r => ∀ c : Dev Cert.RetProjDwIdeal.nD,
          r.2.mem ((c.tc : Thread Cert.RetProjDwIdeal.nD Cert.RetProjDwIdeal.τ).loc Cert.RetProjDwIdeal.main_v0) = v0 c
          ∧ r.2.mem ((c.tc : Thread Cert.RetProjDwIdeal.nD Cert.RetProjDwIdeal.τ).loc Cert.RetProjDwIdeal.main_arg0) = m ((c.tc : Thread Cert.RetProjDwIdeal.nD Cert.RetProjDwIdeal.τ).loc Cert.RetProjDwIdeal.main_arg0)
          ∧ r.2.mem ((c.tc : Thread Cert.RetProjDwIdeal.nD Cert.RetProjDwIdeal.τ).loc Cert.RetProjDwIdeal.main_arg1) = m ((c.tc : Thread Cert.RetProjDwIdeal.nD Cert.RetProjDwIdeal.τ).loc Cert.RetProjDwIdeal.main_arg1))
      ∧ θ_run (Cert.RetProjDwRefIdeal.defs (F := Ideal)) (onTc (τ := Cert.RetProjDwRefIdeal.τ) (Cert.RetProjDwRefIdeal.main (F := Ideal))) ⟨m', fun _ => 0, g'⟩ (fun r => ∀ c : Dev Cert.RetProjDwRefIdeal.nD,
          r.2.mem ((c.tc : Thread Cert.RetProjDwRefIdeal.nD Cert.RetProjDwRefIdeal.τ).loc Cert.RetProjDwRefIdeal.main_v5) = v0 c
          ∧ r.2.mem ((c.tc : Thread Cert.RetProjDwRefIdeal.nD Cert.RetProjDwRefIdeal.τ).loc Cert.RetProjDwRefIdeal.main_arg0) = m' ((c.tc : Thread Cert.RetProjDwRefIdeal.nD Cert.RetProjDwRefIdeal.τ).loc Cert.RetProjDwRefIdeal.main_arg0)
          ∧ r.2.mem ((c.tc : Thread Cert.RetProjDwRefIdeal.nD Cert.RetProjDwRefIdeal.τ).loc Cert.RetProjDwRefIdeal.main_arg1) = m' ((c.tc : Thread Cert.RetProjDwRefIdeal.nD Cert.RetProjDwRefIdeal.τ).loc Cert.RetProjDwRefIdeal.main_arg1))

def preserves_AttnProj_AttnProjIdeal : Prop :=
  True

def algebraic_AttnProjIdeal_AttnProjRefIdeal [hAttnProjIdeal : Cert.AttnProjIdeal.Facts] [hAttnProjRefIdeal : Cert.AttnProjRefIdeal.Facts] : Prop :=
  ∀ (m : (ℓ : Loc Cert.AttnProjIdeal.nD Cert.AttnProjIdeal.τ Cert.AttnProjIdeal.sig) → Buf (Elt Ideal) ℓ) (g : Dev Cert.AttnProjIdeal.nD → PrngReg)
    (m' : (ℓ : Loc Cert.AttnProjRefIdeal.nD Cert.AttnProjRefIdeal.τ Cert.AttnProjRefIdeal.sig) → Buf (Elt Ideal) ℓ) (g' : Dev Cert.AttnProjRefIdeal.nD → PrngReg), Pre_AttnProjIdeal m →
    (∀ c : Dev Cert.AttnProjIdeal.nD,
      m' ((c.tc : Thread Cert.AttnProjRefIdeal.nD Cert.AttnProjRefIdeal.τ).loc Cert.AttnProjRefIdeal.main_arg0) = m ((c.tc : Thread Cert.AttnProjIdeal.nD Cert.AttnProjIdeal.τ).loc Cert.AttnProjIdeal.main_arg0)
      ∧ m' ((c.tc : Thread Cert.AttnProjRefIdeal.nD Cert.AttnProjRefIdeal.τ).loc Cert.AttnProjRefIdeal.main_arg1) = m ((c.tc : Thread Cert.AttnProjIdeal.nD Cert.AttnProjIdeal.τ).loc Cert.AttnProjIdeal.main_arg1)) →
    ∃ (v0 : (c : Dev Cert.AttnProjIdeal.nD) → Buf (Elt Ideal) ((c.tc : Thread Cert.AttnProjIdeal.nD Cert.AttnProjIdeal.τ).loc Cert.AttnProjIdeal.main_v1)),
      θ_run (Cert.AttnProjIdeal.defs (F := Ideal)) (onTc (τ := Cert.AttnProjIdeal.τ) (Cert.AttnProjIdeal.main (F := Ideal))) ⟨m, fun _ => 0, g⟩ (fun r => ∀ c : Dev Cert.AttnProjIdeal.nD,
          r.2.mem ((c.tc : Thread Cert.AttnProjIdeal.nD Cert.AttnProjIdeal.τ).loc Cert.AttnProjIdeal.main_v1) = v0 c
          ∧ r.2.mem ((c.tc : Thread Cert.AttnProjIdeal.nD Cert.AttnProjIdeal.τ).loc Cert.AttnProjIdeal.main_arg0) = m ((c.tc : Thread Cert.AttnProjIdeal.nD Cert.AttnProjIdeal.τ).loc Cert.AttnProjIdeal.main_arg0)
          ∧ r.2.mem ((c.tc : Thread Cert.AttnProjIdeal.nD Cert.AttnProjIdeal.τ).loc Cert.AttnProjIdeal.main_arg1) = m ((c.tc : Thread Cert.AttnProjIdeal.nD Cert.AttnProjIdeal.τ).loc Cert.AttnProjIdeal.main_arg1))
      ∧ θ_run (Cert.AttnProjRefIdeal.defs (F := Ideal)) (onTc (τ := Cert.AttnProjRefIdeal.τ) (Cert.AttnProjRefIdeal.main (F := Ideal))) ⟨m', fun _ => 0, g'⟩ (fun r => ∀ c : Dev Cert.AttnProjRefIdeal.nD,
          r.2.mem ((c.tc : Thread Cert.AttnProjRefIdeal.nD Cert.AttnProjRefIdeal.τ).loc Cert.AttnProjRefIdeal.main_v2) = v0 c
          ∧ r.2.mem ((c.tc : Thread Cert.AttnProjRefIdeal.nD Cert.AttnProjRefIdeal.τ).loc Cert.AttnProjRefIdeal.main_arg0) = m' ((c.tc : Thread Cert.AttnProjRefIdeal.nD Cert.AttnProjRefIdeal.τ).loc Cert.AttnProjRefIdeal.main_arg0)
          ∧ r.2.mem ((c.tc : Thread Cert.AttnProjRefIdeal.nD Cert.AttnProjRefIdeal.τ).loc Cert.AttnProjRefIdeal.main_arg1) = m' ((c.tc : Thread Cert.AttnProjRefIdeal.nD Cert.AttnProjRefIdeal.τ).loc Cert.AttnProjRefIdeal.main_arg1))

def preserves_AttnProjDx_AttnProjDxIdeal : Prop :=
  True

def algebraic_AttnProjDxIdeal_AttnProjDxRefIdeal [hAttnProjDxIdeal : Cert.AttnProjDxIdeal.Facts] [hAttnProjDxRefIdeal : Cert.AttnProjDxRefIdeal.Facts] : Prop :=
  ∀ (m : (ℓ : Loc Cert.AttnProjDxIdeal.nD Cert.AttnProjDxIdeal.τ Cert.AttnProjDxIdeal.sig) → Buf (Elt Ideal) ℓ) (g : Dev Cert.AttnProjDxIdeal.nD → PrngReg)
    (m' : (ℓ : Loc Cert.AttnProjDxRefIdeal.nD Cert.AttnProjDxRefIdeal.τ Cert.AttnProjDxRefIdeal.sig) → Buf (Elt Ideal) ℓ) (g' : Dev Cert.AttnProjDxRefIdeal.nD → PrngReg), Pre_AttnProjDxIdeal m →
    (∀ c : Dev Cert.AttnProjDxIdeal.nD,
      m' ((c.tc : Thread Cert.AttnProjDxRefIdeal.nD Cert.AttnProjDxRefIdeal.τ).loc Cert.AttnProjDxRefIdeal.main_arg0) = m ((c.tc : Thread Cert.AttnProjDxIdeal.nD Cert.AttnProjDxIdeal.τ).loc Cert.AttnProjDxIdeal.main_arg0)
      ∧ m' ((c.tc : Thread Cert.AttnProjDxRefIdeal.nD Cert.AttnProjDxRefIdeal.τ).loc Cert.AttnProjDxRefIdeal.main_arg1) = m ((c.tc : Thread Cert.AttnProjDxIdeal.nD Cert.AttnProjDxIdeal.τ).loc Cert.AttnProjDxIdeal.main_arg1)) →
    ∃ (v0 : (c : Dev Cert.AttnProjDxIdeal.nD) → Buf (Elt Ideal) ((c.tc : Thread Cert.AttnProjDxIdeal.nD Cert.AttnProjDxIdeal.τ).loc Cert.AttnProjDxIdeal.main_v1)),
      θ_run (Cert.AttnProjDxIdeal.defs (F := Ideal)) (onTc (τ := Cert.AttnProjDxIdeal.τ) (Cert.AttnProjDxIdeal.main (F := Ideal))) ⟨m, fun _ => 0, g⟩ (fun r => ∀ c : Dev Cert.AttnProjDxIdeal.nD,
          r.2.mem ((c.tc : Thread Cert.AttnProjDxIdeal.nD Cert.AttnProjDxIdeal.τ).loc Cert.AttnProjDxIdeal.main_v1) = v0 c
          ∧ r.2.mem ((c.tc : Thread Cert.AttnProjDxIdeal.nD Cert.AttnProjDxIdeal.τ).loc Cert.AttnProjDxIdeal.main_arg0) = m ((c.tc : Thread Cert.AttnProjDxIdeal.nD Cert.AttnProjDxIdeal.τ).loc Cert.AttnProjDxIdeal.main_arg0)
          ∧ r.2.mem ((c.tc : Thread Cert.AttnProjDxIdeal.nD Cert.AttnProjDxIdeal.τ).loc Cert.AttnProjDxIdeal.main_arg1) = m ((c.tc : Thread Cert.AttnProjDxIdeal.nD Cert.AttnProjDxIdeal.τ).loc Cert.AttnProjDxIdeal.main_arg1))
      ∧ θ_run (Cert.AttnProjDxRefIdeal.defs (F := Ideal)) (onTc (τ := Cert.AttnProjDxRefIdeal.τ) (Cert.AttnProjDxRefIdeal.main (F := Ideal))) ⟨m', fun _ => 0, g'⟩ (fun r => ∀ c : Dev Cert.AttnProjDxRefIdeal.nD,
          r.2.mem ((c.tc : Thread Cert.AttnProjDxRefIdeal.nD Cert.AttnProjDxRefIdeal.τ).loc Cert.AttnProjDxRefIdeal.main_v4) = v0 c
          ∧ r.2.mem ((c.tc : Thread Cert.AttnProjDxRefIdeal.nD Cert.AttnProjDxRefIdeal.τ).loc Cert.AttnProjDxRefIdeal.main_arg0) = m' ((c.tc : Thread Cert.AttnProjDxRefIdeal.nD Cert.AttnProjDxRefIdeal.τ).loc Cert.AttnProjDxRefIdeal.main_arg0)
          ∧ r.2.mem ((c.tc : Thread Cert.AttnProjDxRefIdeal.nD Cert.AttnProjDxRefIdeal.τ).loc Cert.AttnProjDxRefIdeal.main_arg1) = m' ((c.tc : Thread Cert.AttnProjDxRefIdeal.nD Cert.AttnProjDxRefIdeal.τ).loc Cert.AttnProjDxRefIdeal.main_arg1))

def preserves_AttnProjDw_AttnProjDwIdeal : Prop :=
  True

def algebraic_AttnProjDwIdeal_AttnProjDwRefIdeal [hAttnProjDwIdeal : Cert.AttnProjDwIdeal.Facts] [hAttnProjDwRefIdeal : Cert.AttnProjDwRefIdeal.Facts] : Prop :=
  ∀ (m : (ℓ : Loc Cert.AttnProjDwIdeal.nD Cert.AttnProjDwIdeal.τ Cert.AttnProjDwIdeal.sig) → Buf (Elt Ideal) ℓ) (g : Dev Cert.AttnProjDwIdeal.nD → PrngReg)
    (m' : (ℓ : Loc Cert.AttnProjDwRefIdeal.nD Cert.AttnProjDwRefIdeal.τ Cert.AttnProjDwRefIdeal.sig) → Buf (Elt Ideal) ℓ) (g' : Dev Cert.AttnProjDwRefIdeal.nD → PrngReg), Pre_AttnProjDwIdeal m →
    (∀ c : Dev Cert.AttnProjDwIdeal.nD,
      m' ((c.tc : Thread Cert.AttnProjDwRefIdeal.nD Cert.AttnProjDwRefIdeal.τ).loc Cert.AttnProjDwRefIdeal.main_arg0) = m ((c.tc : Thread Cert.AttnProjDwIdeal.nD Cert.AttnProjDwIdeal.τ).loc Cert.AttnProjDwIdeal.main_arg0)
      ∧ m' ((c.tc : Thread Cert.AttnProjDwRefIdeal.nD Cert.AttnProjDwRefIdeal.τ).loc Cert.AttnProjDwRefIdeal.main_arg1) = m ((c.tc : Thread Cert.AttnProjDwIdeal.nD Cert.AttnProjDwIdeal.τ).loc Cert.AttnProjDwIdeal.main_arg1)) →
    ∃ (v0 : (c : Dev Cert.AttnProjDwIdeal.nD) → Buf (Elt Ideal) ((c.tc : Thread Cert.AttnProjDwIdeal.nD Cert.AttnProjDwIdeal.τ).loc Cert.AttnProjDwIdeal.main_v0)),
      θ_run (Cert.AttnProjDwIdeal.defs (F := Ideal)) (onTc (τ := Cert.AttnProjDwIdeal.τ) (Cert.AttnProjDwIdeal.main (F := Ideal))) ⟨m, fun _ => 0, g⟩ (fun r => ∀ c : Dev Cert.AttnProjDwIdeal.nD,
          r.2.mem ((c.tc : Thread Cert.AttnProjDwIdeal.nD Cert.AttnProjDwIdeal.τ).loc Cert.AttnProjDwIdeal.main_v0) = v0 c
          ∧ r.2.mem ((c.tc : Thread Cert.AttnProjDwIdeal.nD Cert.AttnProjDwIdeal.τ).loc Cert.AttnProjDwIdeal.main_arg0) = m ((c.tc : Thread Cert.AttnProjDwIdeal.nD Cert.AttnProjDwIdeal.τ).loc Cert.AttnProjDwIdeal.main_arg0)
          ∧ r.2.mem ((c.tc : Thread Cert.AttnProjDwIdeal.nD Cert.AttnProjDwIdeal.τ).loc Cert.AttnProjDwIdeal.main_arg1) = m ((c.tc : Thread Cert.AttnProjDwIdeal.nD Cert.AttnProjDwIdeal.τ).loc Cert.AttnProjDwIdeal.main_arg1))
      ∧ θ_run (Cert.AttnProjDwRefIdeal.defs (F := Ideal)) (onTc (τ := Cert.AttnProjDwRefIdeal.τ) (Cert.AttnProjDwRefIdeal.main (F := Ideal))) ⟨m', fun _ => 0, g'⟩ (fun r => ∀ c : Dev Cert.AttnProjDwRefIdeal.nD,
          r.2.mem ((c.tc : Thread Cert.AttnProjDwRefIdeal.nD Cert.AttnProjDwRefIdeal.τ).loc Cert.AttnProjDwRefIdeal.main_v5) = v0 c
          ∧ r.2.mem ((c.tc : Thread Cert.AttnProjDwRefIdeal.nD Cert.AttnProjDwRefIdeal.τ).loc Cert.AttnProjDwRefIdeal.main_arg0) = m' ((c.tc : Thread Cert.AttnProjDwRefIdeal.nD Cert.AttnProjDwRefIdeal.τ).loc Cert.AttnProjDwRefIdeal.main_arg0)
          ∧ r.2.mem ((c.tc : Thread Cert.AttnProjDwRefIdeal.nD Cert.AttnProjDwRefIdeal.τ).loc Cert.AttnProjDwRefIdeal.main_arg1) = m' ((c.tc : Thread Cert.AttnProjDwRefIdeal.nD Cert.AttnProjDwRefIdeal.τ).loc Cert.AttnProjDwRefIdeal.main_arg1))

def preserves_PleGate_PleGateIdeal : Prop :=
  True

def algebraic_PleGateIdeal_PleGateRefIdeal [hPleGateIdeal : Cert.PleGateIdeal.Facts] [hPleGateRefIdeal : Cert.PleGateRefIdeal.Facts] : Prop :=
  ∀ (m : (ℓ : Loc Cert.PleGateIdeal.nD Cert.PleGateIdeal.τ Cert.PleGateIdeal.sig) → Buf (Elt Ideal) ℓ) (g : Dev Cert.PleGateIdeal.nD → PrngReg)
    (m' : (ℓ : Loc Cert.PleGateRefIdeal.nD Cert.PleGateRefIdeal.τ Cert.PleGateRefIdeal.sig) → Buf (Elt Ideal) ℓ) (g' : Dev Cert.PleGateRefIdeal.nD → PrngReg), Pre_PleGateIdeal m →
    (∀ c : Dev Cert.PleGateIdeal.nD,
      m' ((c.tc : Thread Cert.PleGateRefIdeal.nD Cert.PleGateRefIdeal.τ).loc Cert.PleGateRefIdeal.main_arg0) = m ((c.tc : Thread Cert.PleGateIdeal.nD Cert.PleGateIdeal.τ).loc Cert.PleGateIdeal.main_arg0)
      ∧ m' ((c.tc : Thread Cert.PleGateRefIdeal.nD Cert.PleGateRefIdeal.τ).loc Cert.PleGateRefIdeal.main_arg1) = m ((c.tc : Thread Cert.PleGateIdeal.nD Cert.PleGateIdeal.τ).loc Cert.PleGateIdeal.main_arg1)) →
    ∃ (v0 : (c : Dev Cert.PleGateIdeal.nD) → Buf (Elt Ideal) ((c.tc : Thread Cert.PleGateIdeal.nD Cert.PleGateIdeal.τ).loc Cert.PleGateIdeal.main_v2)),
      θ_run (Cert.PleGateIdeal.defs (F := Ideal)) (onTc (τ := Cert.PleGateIdeal.τ) (Cert.PleGateIdeal.main (F := Ideal))) ⟨m, fun _ => 0, g⟩ (fun r => ∀ c : Dev Cert.PleGateIdeal.nD,
          r.2.mem ((c.tc : Thread Cert.PleGateIdeal.nD Cert.PleGateIdeal.τ).loc Cert.PleGateIdeal.main_v2) = v0 c
          ∧ r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
          ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1))
      ∧ θ_run (Cert.PleGateRefIdeal.defs (F := Ideal)) (onTc (τ := Cert.PleGateRefIdeal.τ) (Cert.PleGateRefIdeal.main (F := Ideal))) ⟨m', fun _ => 0, g'⟩ (fun r => ∀ c : Dev Cert.PleGateRefIdeal.nD,
          r.2.mem ((c.tc : Thread Cert.PleGateRefIdeal.nD Cert.PleGateRefIdeal.τ).loc Cert.PleGateRefIdeal.main_v0) = v0 c
          ∧ r.2.mem ((c.tc : Thread Cert.PleGateRefIdeal.nD Cert.PleGateRefIdeal.τ).loc Cert.PleGateRefIdeal.main_arg0) = m' ((c.tc : Thread Cert.PleGateRefIdeal.nD Cert.PleGateRefIdeal.τ).loc Cert.PleGateRefIdeal.main_arg0)
          ∧ r.2.mem ((c.tc : Thread Cert.PleGateRefIdeal.nD Cert.PleGateRefIdeal.τ).loc Cert.PleGateRefIdeal.main_arg1) = m' ((c.tc : Thread Cert.PleGateRefIdeal.nD Cert.PleGateRefIdeal.τ).loc Cert.PleGateRefIdeal.main_arg1))

def preserves_PleGateDx_PleGateDxIdeal : Prop :=
  True

def algebraic_PleGateDxIdeal_PleGateDxRefIdeal [hPleGateDxIdeal : Cert.PleGateDxIdeal.Facts] [hPleGateDxRefIdeal : Cert.PleGateDxRefIdeal.Facts] : Prop :=
  ∀ (m : (ℓ : Loc Cert.PleGateDxIdeal.nD Cert.PleGateDxIdeal.τ Cert.PleGateDxIdeal.sig) → Buf (Elt Ideal) ℓ) (g : Dev Cert.PleGateDxIdeal.nD → PrngReg)
    (m' : (ℓ : Loc Cert.PleGateDxRefIdeal.nD Cert.PleGateDxRefIdeal.τ Cert.PleGateDxRefIdeal.sig) → Buf (Elt Ideal) ℓ) (g' : Dev Cert.PleGateDxRefIdeal.nD → PrngReg), Pre_PleGateDxIdeal m →
    (∀ c : Dev Cert.PleGateDxIdeal.nD,
      m' ((c.tc : Thread Cert.PleGateDxRefIdeal.nD Cert.PleGateDxRefIdeal.τ).loc Cert.PleGateDxRefIdeal.main_arg0) = m ((c.tc : Thread Cert.PleGateDxIdeal.nD Cert.PleGateDxIdeal.τ).loc Cert.PleGateDxIdeal.main_arg0)
      ∧ m' ((c.tc : Thread Cert.PleGateDxRefIdeal.nD Cert.PleGateDxRefIdeal.τ).loc Cert.PleGateDxRefIdeal.main_arg1) = m ((c.tc : Thread Cert.PleGateDxIdeal.nD Cert.PleGateDxIdeal.τ).loc Cert.PleGateDxIdeal.main_arg1)
      ∧ m' ((c.tc : Thread Cert.PleGateDxRefIdeal.nD Cert.PleGateDxRefIdeal.τ).loc Cert.PleGateDxRefIdeal.main_arg2) = m ((c.tc : Thread Cert.PleGateDxIdeal.nD Cert.PleGateDxIdeal.τ).loc Cert.PleGateDxIdeal.main_arg2)) →
    ∃ (v0 : (c : Dev Cert.PleGateDxIdeal.nD) → Buf (Elt Ideal) ((c.tc : Thread Cert.PleGateDxIdeal.nD Cert.PleGateDxIdeal.τ).loc Cert.PleGateDxIdeal.main_v1)),
      θ_run (Cert.PleGateDxIdeal.defs (F := Ideal)) (onTc (τ := Cert.PleGateDxIdeal.τ) (Cert.PleGateDxIdeal.main (F := Ideal))) ⟨m, fun _ => 0, g⟩ (fun r => ∀ c : Dev Cert.PleGateDxIdeal.nD,
          r.2.mem ((c.tc : Thread Cert.PleGateDxIdeal.nD Cert.PleGateDxIdeal.τ).loc Cert.PleGateDxIdeal.main_v1) = v0 c
          ∧ r.2.mem ((c.tc : Thread Cert.PleGateDxIdeal.nD Cert.PleGateDxIdeal.τ).loc Cert.PleGateDxIdeal.main_arg0) = m ((c.tc : Thread Cert.PleGateDxIdeal.nD Cert.PleGateDxIdeal.τ).loc Cert.PleGateDxIdeal.main_arg0)
          ∧ r.2.mem ((c.tc : Thread Cert.PleGateDxIdeal.nD Cert.PleGateDxIdeal.τ).loc Cert.PleGateDxIdeal.main_arg1) = m ((c.tc : Thread Cert.PleGateDxIdeal.nD Cert.PleGateDxIdeal.τ).loc Cert.PleGateDxIdeal.main_arg1)
          ∧ r.2.mem ((c.tc : Thread Cert.PleGateDxIdeal.nD Cert.PleGateDxIdeal.τ).loc Cert.PleGateDxIdeal.main_arg2) = m ((c.tc : Thread Cert.PleGateDxIdeal.nD Cert.PleGateDxIdeal.τ).loc Cert.PleGateDxIdeal.main_arg2))
      ∧ θ_run (Cert.PleGateDxRefIdeal.defs (F := Ideal)) (onTc (τ := Cert.PleGateDxRefIdeal.τ) (Cert.PleGateDxRefIdeal.main (F := Ideal))) ⟨m', fun _ => 0, g'⟩ (fun r => ∀ c : Dev Cert.PleGateDxRefIdeal.nD,
          r.2.mem ((c.tc : Thread Cert.PleGateDxRefIdeal.nD Cert.PleGateDxRefIdeal.τ).loc Cert.PleGateDxRefIdeal.main_v4) = v0 c
          ∧ r.2.mem ((c.tc : Thread Cert.PleGateDxRefIdeal.nD Cert.PleGateDxRefIdeal.τ).loc Cert.PleGateDxRefIdeal.main_arg0) = m' ((c.tc : Thread Cert.PleGateDxRefIdeal.nD Cert.PleGateDxRefIdeal.τ).loc Cert.PleGateDxRefIdeal.main_arg0)
          ∧ r.2.mem ((c.tc : Thread Cert.PleGateDxRefIdeal.nD Cert.PleGateDxRefIdeal.τ).loc Cert.PleGateDxRefIdeal.main_arg1) = m' ((c.tc : Thread Cert.PleGateDxRefIdeal.nD Cert.PleGateDxRefIdeal.τ).loc Cert.PleGateDxRefIdeal.main_arg1)
          ∧ r.2.mem ((c.tc : Thread Cert.PleGateDxRefIdeal.nD Cert.PleGateDxRefIdeal.τ).loc Cert.PleGateDxRefIdeal.main_arg2) = m' ((c.tc : Thread Cert.PleGateDxRefIdeal.nD Cert.PleGateDxRefIdeal.τ).loc Cert.PleGateDxRefIdeal.main_arg2))

def preserves_PleGateDw_PleGateDwIdeal : Prop :=
  True

def algebraic_PleGateDwIdeal_PleGateDwRefIdeal [hPleGateDwIdeal : Cert.PleGateDwIdeal.Facts] [hPleGateDwRefIdeal : Cert.PleGateDwRefIdeal.Facts] : Prop :=
  ∀ (m : (ℓ : Loc Cert.PleGateDwIdeal.nD Cert.PleGateDwIdeal.τ Cert.PleGateDwIdeal.sig) → Buf (Elt Ideal) ℓ) (g : Dev Cert.PleGateDwIdeal.nD → PrngReg)
    (m' : (ℓ : Loc Cert.PleGateDwRefIdeal.nD Cert.PleGateDwRefIdeal.τ Cert.PleGateDwRefIdeal.sig) → Buf (Elt Ideal) ℓ) (g' : Dev Cert.PleGateDwRefIdeal.nD → PrngReg), Pre_PleGateDwIdeal m →
    (∀ c : Dev Cert.PleGateDwIdeal.nD,
      m' ((c.tc : Thread Cert.PleGateDwRefIdeal.nD Cert.PleGateDwRefIdeal.τ).loc Cert.PleGateDwRefIdeal.main_arg0) = m ((c.tc : Thread Cert.PleGateDwIdeal.nD Cert.PleGateDwIdeal.τ).loc Cert.PleGateDwIdeal.main_arg0)
      ∧ m' ((c.tc : Thread Cert.PleGateDwRefIdeal.nD Cert.PleGateDwRefIdeal.τ).loc Cert.PleGateDwRefIdeal.main_arg1) = m ((c.tc : Thread Cert.PleGateDwIdeal.nD Cert.PleGateDwIdeal.τ).loc Cert.PleGateDwIdeal.main_arg1)) →
    ∃ (v0 : (c : Dev Cert.PleGateDwIdeal.nD) → Buf (Elt Ideal) ((c.tc : Thread Cert.PleGateDwIdeal.nD Cert.PleGateDwIdeal.τ).loc Cert.PleGateDwIdeal.main_v1)),
      θ_run (Cert.PleGateDwIdeal.defs (F := Ideal)) (onTc (τ := Cert.PleGateDwIdeal.τ) (Cert.PleGateDwIdeal.main (F := Ideal))) ⟨m, fun _ => 0, g⟩ (fun r => ∀ c : Dev Cert.PleGateDwIdeal.nD,
          r.2.mem ((c.tc : Thread Cert.PleGateDwIdeal.nD Cert.PleGateDwIdeal.τ).loc Cert.PleGateDwIdeal.main_v1) = v0 c
          ∧ r.2.mem ((c.tc : Thread Cert.PleGateDwIdeal.nD Cert.PleGateDwIdeal.τ).loc Cert.PleGateDwIdeal.main_arg0) = m ((c.tc : Thread Cert.PleGateDwIdeal.nD Cert.PleGateDwIdeal.τ).loc Cert.PleGateDwIdeal.main_arg0)
          ∧ r.2.mem ((c.tc : Thread Cert.PleGateDwIdeal.nD Cert.PleGateDwIdeal.τ).loc Cert.PleGateDwIdeal.main_arg1) = m ((c.tc : Thread Cert.PleGateDwIdeal.nD Cert.PleGateDwIdeal.τ).loc Cert.PleGateDwIdeal.main_arg1))
      ∧ θ_run (Cert.PleGateDwRefIdeal.defs (F := Ideal)) (onTc (τ := Cert.PleGateDwRefIdeal.τ) (Cert.PleGateDwRefIdeal.main (F := Ideal))) ⟨m', fun _ => 0, g'⟩ (fun r => ∀ c : Dev Cert.PleGateDwRefIdeal.nD,
          r.2.mem ((c.tc : Thread Cert.PleGateDwRefIdeal.nD Cert.PleGateDwRefIdeal.τ).loc Cert.PleGateDwRefIdeal.main_v4) = v0 c
          ∧ r.2.mem ((c.tc : Thread Cert.PleGateDwRefIdeal.nD Cert.PleGateDwRefIdeal.τ).loc Cert.PleGateDwRefIdeal.main_arg0) = m' ((c.tc : Thread Cert.PleGateDwRefIdeal.nD Cert.PleGateDwRefIdeal.τ).loc Cert.PleGateDwRefIdeal.main_arg0)
          ∧ r.2.mem ((c.tc : Thread Cert.PleGateDwRefIdeal.nD Cert.PleGateDwRefIdeal.τ).loc Cert.PleGateDwRefIdeal.main_arg1) = m' ((c.tc : Thread Cert.PleGateDwRefIdeal.nD Cert.PleGateDwRefIdeal.τ).loc Cert.PleGateDwRefIdeal.main_arg1))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjRefIdeal : Cert.ProjRefIdeal.Facts) (hProjDw : Cert.ProjDw.Facts) (hProjDwIdeal : Cert.ProjDwIdeal.Facts) (hProjDwRefIdeal : Cert.ProjDwRefIdeal.Facts) (hProjDx : Cert.ProjDx.Facts) (hProjDxIdeal : Cert.ProjDxIdeal.Facts) (hProjDxRefIdeal : Cert.ProjDxRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpUDw : Cert.UpUDw.Facts) (hUpUDwIdeal : Cert.UpUDwIdeal.Facts) (hUpUDwRefIdeal : Cert.UpUDwRefIdeal.Facts) (hUpGDx : Cert.UpGDx.Facts) (hUpGDxIdeal : Cert.UpGDxIdeal.Facts) (hUpGDxRefIdeal : Cert.UpGDxRefIdeal.Facts) (hUpUDx : Cert.UpUDx.Facts) (hUpUDxIdeal : Cert.UpUDxIdeal.Facts) (hUpUDxRefIdeal : Cert.UpUDxRefIdeal.Facts) (hUpG : Cert.UpG.Facts) (hUpGIdeal : Cert.UpGIdeal.Facts) (hUpGRefIdeal : Cert.UpGRefIdeal.Facts) (hUpU : Cert.UpU.Facts) (hUpUIdeal : Cert.UpUIdeal.Facts) (hUpURefIdeal : Cert.UpURefIdeal.Facts) (hDown : Cert.Down.Facts) (hDownIdeal : Cert.DownIdeal.Facts) (hDownRefIdeal : Cert.DownRefIdeal.Facts) (hRetProj : Cert.RetProj.Facts) (hRetProjIdeal : Cert.RetProjIdeal.Facts) (hRetProjRefIdeal : Cert.RetProjRefIdeal.Facts) (hRetProjDx : Cert.RetProjDx.Facts) (hRetProjDxIdeal : Cert.RetProjDxIdeal.Facts) (hRetProjDxRefIdeal : Cert.RetProjDxRefIdeal.Facts) (hRetProjDw : Cert.RetProjDw.Facts) (hRetProjDwIdeal : Cert.RetProjDwIdeal.Facts) (hRetProjDwRefIdeal : Cert.RetProjDwRefIdeal.Facts) (hAttnProj : Cert.AttnProj.Facts) (hAttnProjIdeal : Cert.AttnProjIdeal.Facts) (hAttnProjRefIdeal : Cert.AttnProjRefIdeal.Facts) (hAttnProjDx : Cert.AttnProjDx.Facts) (hAttnProjDxIdeal : Cert.AttnProjDxIdeal.Facts) (hAttnProjDxRefIdeal : Cert.AttnProjDxRefIdeal.Facts) (hAttnProjDw : Cert.AttnProjDw.Facts) (hAttnProjDwIdeal : Cert.AttnProjDwIdeal.Facts) (hAttnProjDwRefIdeal : Cert.AttnProjDwRefIdeal.Facts) (hPleGate : Cert.PleGate.Facts) (hPleGateIdeal : Cert.PleGateIdeal.Facts) (hPleGateRefIdeal : Cert.PleGateRefIdeal.Facts) (hPleGateDx : Cert.PleGateDx.Facts) (hPleGateDxIdeal : Cert.PleGateDxIdeal.Facts) (hPleGateDxRefIdeal : Cert.PleGateDxRefIdeal.Facts) (hPleGateDw : Cert.PleGateDw.Facts) (hPleGateDwIdeal : Cert.PleGateDwIdeal.Facts) (hPleGateDwRefIdeal : Cert.PleGateDwRefIdeal.Facts),
    quiescent_Kernel (hKernel := hKernel)
    ∧ quiescent_KernelIdeal (hKernelIdeal := hKernelIdeal)
    ∧ quiescent_ReferenceIdeal (hReferenceIdeal := hReferenceIdeal)
    ∧ quiescent_Proj (hProj := hProj)
    ∧ quiescent_ProjIdeal (hProjIdeal := hProjIdeal)
    ∧ quiescent_ProjRefIdeal (hProjRefIdeal := hProjRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpUDw (hUpUDw := hUpUDw)
    ∧ quiescent_UpUDwIdeal (hUpUDwIdeal := hUpUDwIdeal)
    ∧ quiescent_UpUDwRefIdeal (hUpUDwRefIdeal := hUpUDwRefIdeal)
    ∧ quiescent_UpGDx (hUpGDx := hUpGDx)
    ∧ quiescent_UpGDxIdeal (hUpGDxIdeal := hUpGDxIdeal)
    ∧ quiescent_UpGDxRefIdeal (hUpGDxRefIdeal := hUpGDxRefIdeal)
    ∧ quiescent_UpUDx (hUpUDx := hUpUDx)
    ∧ quiescent_UpUDxIdeal (hUpUDxIdeal := hUpUDxIdeal)
    ∧ quiescent_UpUDxRefIdeal (hUpUDxRefIdeal := hUpUDxRefIdeal)
    ∧ quiescent_UpG (hUpG := hUpG)
    ∧ quiescent_UpGIdeal (hUpGIdeal := hUpGIdeal)
    ∧ quiescent_UpGRefIdeal (hUpGRefIdeal := hUpGRefIdeal)
    ∧ quiescent_UpU (hUpU := hUpU)
    ∧ quiescent_UpUIdeal (hUpUIdeal := hUpUIdeal)
    ∧ quiescent_UpURefIdeal (hUpURefIdeal := hUpURefIdeal)
    ∧ quiescent_Down (hDown := hDown)
    ∧ quiescent_DownIdeal (hDownIdeal := hDownIdeal)
    ∧ quiescent_DownRefIdeal (hDownRefIdeal := hDownRefIdeal)
    ∧ quiescent_RetProj (hRetProj := hRetProj)
    ∧ quiescent_RetProjIdeal (hRetProjIdeal := hRetProjIdeal)
    ∧ quiescent_RetProjRefIdeal (hRetProjRefIdeal := hRetProjRefIdeal)
    ∧ quiescent_RetProjDx (hRetProjDx := hRetProjDx)
    ∧ quiescent_RetProjDxIdeal (hRetProjDxIdeal := hRetProjDxIdeal)
    ∧ quiescent_RetProjDxRefIdeal (hRetProjDxRefIdeal := hRetProjDxRefIdeal)
    ∧ quiescent_RetProjDw (hRetProjDw := hRetProjDw)
    ∧ quiescent_RetProjDwIdeal (hRetProjDwIdeal := hRetProjDwIdeal)
    ∧ quiescent_RetProjDwRefIdeal (hRetProjDwRefIdeal := hRetProjDwRefIdeal)
    ∧ quiescent_AttnProj (hAttnProj := hAttnProj)
    ∧ quiescent_AttnProjIdeal (hAttnProjIdeal := hAttnProjIdeal)
    ∧ quiescent_AttnProjRefIdeal (hAttnProjRefIdeal := hAttnProjRefIdeal)
    ∧ quiescent_AttnProjDx (hAttnProjDx := hAttnProjDx)
    ∧ quiescent_AttnProjDxIdeal (hAttnProjDxIdeal := hAttnProjDxIdeal)
    ∧ quiescent_AttnProjDxRefIdeal (hAttnProjDxRefIdeal := hAttnProjDxRefIdeal)
    ∧ quiescent_AttnProjDw (hAttnProjDw := hAttnProjDw)
    ∧ quiescent_AttnProjDwIdeal (hAttnProjDwIdeal := hAttnProjDwIdeal)
    ∧ quiescent_AttnProjDwRefIdeal (hAttnProjDwRefIdeal := hAttnProjDwRefIdeal)
    ∧ quiescent_PleGate (hPleGate := hPleGate)
    ∧ quiescent_PleGateIdeal (hPleGateIdeal := hPleGateIdeal)
    ∧ quiescent_PleGateRefIdeal (hPleGateRefIdeal := hPleGateRefIdeal)
    ∧ quiescent_PleGateDx (hPleGateDx := hPleGateDx)
    ∧ quiescent_PleGateDxIdeal (hPleGateDxIdeal := hPleGateDxIdeal)
    ∧ quiescent_PleGateDxRefIdeal (hPleGateDxRefIdeal := hPleGateDxRefIdeal)
    ∧ quiescent_PleGateDw (hPleGateDw := hPleGateDw)
    ∧ quiescent_PleGateDwIdeal (hPleGateDwIdeal := hPleGateDwIdeal)
    ∧ quiescent_PleGateDwRefIdeal (hPleGateDwRefIdeal := hPleGateDwRefIdeal)
    ∧ preserves_Kernel_KernelIdeal
    ∧ algebraic_KernelIdeal_ReferenceIdeal (hKernelIdeal := hKernelIdeal) (hReferenceIdeal := hReferenceIdeal)
    ∧ preserves_Proj_ProjIdeal
    ∧ algebraic_ProjIdeal_ProjRefIdeal (hProjIdeal := hProjIdeal) (hProjRefIdeal := hProjRefIdeal)
    ∧ preserves_ProjDw_ProjDwIdeal
    ∧ algebraic_ProjDwIdeal_ProjDwRefIdeal (hProjDwIdeal := hProjDwIdeal) (hProjDwRefIdeal := hProjDwRefIdeal)
    ∧ preserves_ProjDx_ProjDxIdeal
    ∧ algebraic_ProjDxIdeal_ProjDxRefIdeal (hProjDxIdeal := hProjDxIdeal) (hProjDxRefIdeal := hProjDxRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpUDw_UpUDwIdeal
    ∧ algebraic_UpUDwIdeal_UpUDwRefIdeal (hUpUDwIdeal := hUpUDwIdeal) (hUpUDwRefIdeal := hUpUDwRefIdeal)
    ∧ preserves_UpGDx_UpGDxIdeal
    ∧ algebraic_UpGDxIdeal_UpGDxRefIdeal (hUpGDxIdeal := hUpGDxIdeal) (hUpGDxRefIdeal := hUpGDxRefIdeal)
    ∧ preserves_UpUDx_UpUDxIdeal
    ∧ algebraic_UpUDxIdeal_UpUDxRefIdeal (hUpUDxIdeal := hUpUDxIdeal) (hUpUDxRefIdeal := hUpUDxRefIdeal)
    ∧ preserves_UpG_UpGIdeal
    ∧ algebraic_UpGIdeal_UpGRefIdeal (hUpGIdeal := hUpGIdeal) (hUpGRefIdeal := hUpGRefIdeal)
    ∧ preserves_UpU_UpUIdeal
    ∧ algebraic_UpUIdeal_UpURefIdeal (hUpUIdeal := hUpUIdeal) (hUpURefIdeal := hUpURefIdeal)
    ∧ preserves_Down_DownIdeal
    ∧ algebraic_DownIdeal_DownRefIdeal (hDownIdeal := hDownIdeal) (hDownRefIdeal := hDownRefIdeal)
    ∧ preserves_RetProj_RetProjIdeal
    ∧ algebraic_RetProjIdeal_RetProjRefIdeal (hRetProjIdeal := hRetProjIdeal) (hRetProjRefIdeal := hRetProjRefIdeal)
    ∧ preserves_RetProjDx_RetProjDxIdeal
    ∧ algebraic_RetProjDxIdeal_RetProjDxRefIdeal (hRetProjDxIdeal := hRetProjDxIdeal) (hRetProjDxRefIdeal := hRetProjDxRefIdeal)
    ∧ preserves_RetProjDw_RetProjDwIdeal
    ∧ algebraic_RetProjDwIdeal_RetProjDwRefIdeal (hRetProjDwIdeal := hRetProjDwIdeal) (hRetProjDwRefIdeal := hRetProjDwRefIdeal)
    ∧ preserves_AttnProj_AttnProjIdeal
    ∧ algebraic_AttnProjIdeal_AttnProjRefIdeal (hAttnProjIdeal := hAttnProjIdeal) (hAttnProjRefIdeal := hAttnProjRefIdeal)
    ∧ preserves_AttnProjDx_AttnProjDxIdeal
    ∧ algebraic_AttnProjDxIdeal_AttnProjDxRefIdeal (hAttnProjDxIdeal := hAttnProjDxIdeal) (hAttnProjDxRefIdeal := hAttnProjDxRefIdeal)
    ∧ preserves_AttnProjDw_AttnProjDwIdeal
    ∧ algebraic_AttnProjDwIdeal_AttnProjDwRefIdeal (hAttnProjDwIdeal := hAttnProjDwIdeal) (hAttnProjDwRefIdeal := hAttnProjDwRefIdeal)
    ∧ preserves_PleGate_PleGateIdeal
    ∧ algebraic_PleGateIdeal_PleGateRefIdeal (hPleGateIdeal := hPleGateIdeal) (hPleGateRefIdeal := hPleGateRefIdeal)
    ∧ preserves_PleGateDx_PleGateDxIdeal
    ∧ algebraic_PleGateDxIdeal_PleGateDxRefIdeal (hPleGateDxIdeal := hPleGateDxIdeal) (hPleGateDxRefIdeal := hPleGateDxRefIdeal)
    ∧ preserves_PleGateDw_PleGateDwIdeal
    ∧ algebraic_PleGateDwIdeal_PleGateDwRefIdeal (hPleGateDwIdeal := hPleGateDwIdeal) (hPleGateDwRefIdeal := hPleGateDwRefIdeal)
-- ==== Kernel.lean ====
abbrev S8192x8192 : Shape := ⟨2, ![8192, 8192]⟩
abbrev S8192 : Shape := ⟨1, ![8192]⟩
abbrev S8192x2048 : Shape := ⟨2, ![8192, 2048]⟩
abbrev S128 : Shape := ⟨1, ![128]⟩
abbrev S_ : Shape := ⟨0, ![]⟩
abbrev S8192x1 : Shape := ⟨2, ![8192, 1]⟩
abbrev S1x128 : Shape := ⟨2, ![1, 128]⟩
abbrev S8192x128 : Shape := ⟨2, ![8192, 128]⟩
abbrev S4 : Shape := ⟨1, ![4]⟩
abbrev S128x1 : Shape := ⟨2, ![128, 1]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x128x512 : Shape := ⟨3, ![4, 128, 512]⟩
abbrev S4x1x512 : Shape := ⟨3, ![4, 1, 512]⟩
abbrev S4x64x256x512 : Shape := ⟨4, ![4, 64, 256, 512]⟩
abbrev S512x1024 : Shape := ⟨2, ![512, 1024]⟩
abbrev S512x2048 : Shape := ⟨2, ![512, 2048]⟩
abbrev S512x128 : Shape := ⟨2, ![512, 128]⟩
abbrev S4x4x256x512 : Shape := ⟨4, ![4, 4, 256, 512]⟩
abbrev S4x256x512 : Shape := ⟨3, ![4, 256, 512]⟩
abbrev S128x256 : Shape := ⟨2, ![128, 256]⟩
abbrev S128x512 : Shape := ⟨2, ![128, 512]⟩
abbrev S1x256x512 : Shape := ⟨3, ![1, 256, 512]⟩
abbrev S256x512 : Shape := ⟨2, ![256, 512]⟩
abbrev S1x1x256x512 : Shape := ⟨4, ![1, 1, 256, 512]⟩
abbrev S1x128x512 : Shape := ⟨3, ![1, 128, 512]⟩
abbrev S1x1x512 : Shape := ⟨3, ![1, 1, 512]⟩
abbrev S1x512 : Shape := ⟨2, ![1, 512]⟩
abbrev S512x4096 : Shape := ⟨2, ![512, 4096]⟩

abbrev nBuf : Space → Nat
  | .hbm => 84
  | .vmem => 40
  | .smem => 0
  | _ => 0

abbrev bufTy : (tb : Table) → Fin (tcTables nBuf tb) → BufTy
  | .hbm, ⟨0, _⟩ => ⟨S8192x8192, .bf16⟩
  | .hbm, ⟨1, _⟩ => ⟨S8192, .i32⟩
  | .hbm, ⟨2, _⟩ => ⟨S8192x2048, .bf16⟩
  | .hbm, ⟨3, _⟩ => ⟨S8192x8192, .bf16⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S8192, .f32⟩
  | .hbm, ⟨13, _⟩ => ⟨S8192x1, .f32⟩
  | .hbm, ⟨14, _⟩ => ⟨S1x128, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S4, .f32⟩
  | .hbm, ⟨21, _⟩ => ⟨S_, .f32⟩
  | .hbm, ⟨22, _⟩ => ⟨S4, .f32⟩
  | .hbm, ⟨23, _⟩ => ⟨S4, .f32⟩
  | .hbm, ⟨24, _⟩ => ⟨S_, .f32⟩
  | .hbm, ⟨25, _⟩ => ⟨S4, .f32⟩
  | .hbm, ⟨26, _⟩ => ⟨S4, .f32⟩
  | .hbm, ⟨27, _⟩ => ⟨S4, .f32⟩
  | .hbm, ⟨28, _⟩ => ⟨S4, .f32⟩
  | .hbm, ⟨29, _⟩ => ⟨S4, .f32⟩
  | .hbm, ⟨30, _⟩ => ⟨S128, .f32⟩
  | .hbm, ⟨31, _⟩ => ⟨S128x1, .f32⟩
  | .hbm, ⟨32, _⟩ => ⟨S1x128, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S_, .f32⟩
  | .hbm, ⟨37, _⟩ => ⟨S128x128, .f32⟩
  | .hbm, ⟨38, _⟩ => ⟨S128x128, .i1⟩
  | .hbm, ⟨39, _⟩ => ⟨S4x1x1, .f32⟩
  | .hbm, ⟨40, _⟩ => ⟨S_, .f32⟩
  | .hbm, ⟨41, _⟩ => ⟨S128x128, .f32⟩
  | .hbm, ⟨42, _⟩ => ⟨S128x128, .f32⟩
  | .hbm, ⟨43, _⟩ => ⟨S1x128x128, .f32⟩
  | .hbm, ⟨44, _⟩ => ⟨S4x128x128, .f32⟩
  | .hbm, ⟨45, _⟩ => ⟨S4x128x128, .f32⟩
  | .hbm, ⟨46, _⟩ => ⟨S4x128x128, .f32⟩
  | .hbm, ⟨47, _⟩ => ⟨S4x128x128, .f32⟩
  | .hbm, ⟨48, _⟩ => ⟨S_, .f32⟩
  | .hbm, ⟨49, _⟩ => ⟨S_, .f32⟩
  | .hbm, ⟨50, _⟩ => ⟨S4x128x128, .i1⟩
  | .hbm, ⟨51, _⟩ => ⟨S4x128x128, .f32⟩
  | .hbm, ⟨52, _⟩ => ⟨S4x128x128, .f32⟩
  | .hbm, ⟨53, _⟩ => ⟨S4x1, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S1x128, .f32⟩
  | .hbm, ⟨58, _⟩ => ⟨S4x128, .f32⟩
  | .hbm, ⟨59, _⟩ => ⟨S4x128, .f32⟩
  | .hbm, ⟨60, _⟩ => ⟨S4x128, .f32⟩
  | .hbm, ⟨61, _⟩ => ⟨S4x128, .f32⟩
  | .hbm, ⟨62, _⟩ => ⟨S4x1, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S1x128, .f32⟩
  | .hbm, ⟨67, _⟩ => ⟨S4x128, .f32⟩
  | .hbm, ⟨68, _⟩ => ⟨S4x128, .f32⟩
  | .hbm, ⟨69, _⟩ => ⟨S4x128, .f32⟩
  | .hbm, ⟨70, _⟩ => ⟨S4x128, .f32⟩
  | .hbm, ⟨71, _⟩ => ⟨S_, .f32⟩
  | .hbm, ⟨72, _⟩ => ⟨S4, .f32⟩
  | .hbm, ⟨73, _⟩ => ⟨S4, .f32⟩
  | .hbm, ⟨74, _⟩ => ⟨S4, .f32⟩
  | .hbm, ⟨75, _⟩ => ⟨S4x128x1, .f32⟩
  | .hbm, ⟨76, _⟩ => ⟨S4x128x512, .f32⟩
  | .hbm, ⟨77, _⟩ => ⟨S4x128x1, .f32⟩
  | .hbm, ⟨78, _⟩ => ⟨S4x128x512, .f32⟩
  | .hbm, ⟨79, _⟩ => ⟨S4x1x1, .f32⟩
  | .hbm, ⟨80, _⟩ => ⟨S4x1x512, .f32⟩
  | .hbm, ⟨81, _⟩ => ⟨S8192x2048, .bf16⟩
  | .hbm, ⟨82, _⟩ => ⟨S4x64x256x512, .bf16⟩
  | .hbm, ⟨83, _⟩ => ⟨S8192x8192, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S4x128x128, .f32⟩
  | .local _ .vmem, ⟨11, _⟩ => ⟨S4x128x512, .f32⟩
  | .local _ .vmem, ⟨12, _⟩ => ⟨S4x128x512, .f32⟩
  | .local _ .vmem, ⟨13, _⟩ => ⟨S4x1x512, .f32⟩
  | .local _ .vmem, ⟨14, _⟩ => ⟨S512x2048, .bf16⟩
  | .local _ .vmem, ⟨15, _⟩ => ⟨S512x2048, .bf16⟩
  | .local _ .vmem, ⟨16, _⟩ => ⟨S4x4x256x512, .bf16⟩
  | .local _ .vmem, ⟨17, _⟩ => ⟨S4x4x256x512, .bf16⟩
  | .local _ .vmem, ⟨18, _⟩ => ⟨S4x256x512, .f32⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x2048, .bf16⟩
  | .local _ .vmem, ⟨24, _⟩ => ⟨S512x2048, .bf16⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S4x128x128, .f32⟩
  | .local _ .vmem, ⟨30, _⟩ => ⟨S4x128x512, .f32⟩
  | .local _ .vmem, ⟨31, _⟩ => ⟨S4x128x512, .f32⟩
  | .local _ .vmem, ⟨32, _⟩ => ⟨S4x1x512, .f32⟩
  | .local _ .vmem, ⟨33, _⟩ => ⟨S4x4x256x512, .bf16⟩
  | .local _ .vmem, ⟨34, _⟩ => ⟨S4x4x256x512, .bf16⟩
  | .local _ .vmem, ⟨35, _⟩ => ⟨S512x2048, .bf16⟩
  | .local _ .vmem, ⟨36, _⟩ => ⟨S512x2048, .bf16⟩
  | .local _ .vmem, ⟨37, _⟩ => ⟨S512x4096, .bf16⟩
  | .local _ .vmem, ⟨38, _⟩ => ⟨S512x4096, .bf16⟩
  | .local _ .vmem, ⟨39, _⟩ => ⟨S4x256x512, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_8 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64_0 : Ref sig .tc := ⟨.hbm, 81, rfl⟩
abbrev main_v64_1 : Ref sig .tc := ⟨.hbm, 82, rfl⟩
abbrev main_v65 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg8_0 : Ref sig .tc := ⟨.vmem, 32, rfl⟩
abbrev cc1_stg9_0 : Ref sig .tc := ⟨.vmem, 33, rfl⟩
abbrev cc1_stg9_1 : Ref sig .tc := ⟨.vmem, 34, rfl⟩
abbrev cc1_stg10_0 : Ref sig .tc := ⟨.vmem, 35, rfl⟩
abbrev cc1_stg10_1 : Ref sig .tc := ⟨.vmem, 36, rfl⟩
abbrev cc1_stg11_0 : Ref sig .tc := ⟨.vmem, 37, rfl⟩
abbrev cc1_stg11_1 : Ref sig .tc := ⟨.vmem, 38, rfl⟩
abbrev cc1_scratch0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem9_0 : DmaSem sig := 32
abbrev cc1_sem9_1 : DmaSem sig := 33
abbrev cc1_sem10_0 : DmaSem sig := 34
abbrev cc1_sem10_1 : DmaSem sig := 35
abbrev cc1_sem11_0 : DmaSem sig := 36
abbrev cc1_sem11_1 : DmaSem sig := 37

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x4x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc1_transform_2 (i : grid1.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc1_transform_3 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc1_transform_10 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_12 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S4x128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4x128x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4x128x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S4x1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4x4x256x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x2048 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x4096 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== ReferenceIdeal.lean ====
abbrev S8192x8192 : Shape := ⟨2, ![8192, 8192]⟩
abbrev S8192 : Shape := ⟨1, ![8192]⟩
abbrev S8192x2048 : Shape := ⟨2, ![8192, 2048]⟩
abbrev S8192x1024 : Shape := ⟨2, ![8192, 1024]⟩
abbrev S1x8192x4x256 : Shape := ⟨4, ![1, 8192, 4, 256]⟩
abbrev S1x8192x4x512 : Shape := ⟨4, ![1, 8192, 4, 512]⟩
abbrev S1x8192 : Shape := ⟨2, ![1, 8192]⟩
abbrev S128 : Shape := ⟨1, ![128]⟩
abbrev S_ : Shape := ⟨0, ![]⟩
abbrev S1x8192x1x1 : Shape := ⟨4, ![1, 8192, 1, 1]⟩
abbrev S1x1x1x128 : Shape := ⟨4, ![1, 1, 1, 128]⟩
abbrev S1x8192x1x128 : Shape := ⟨4, ![1, 8192, 1, 128]⟩
abbrev S1x8192x4x128 : Shape := ⟨4, ![1, 8192, 4, 128]⟩
abbrev S4 : Shape := ⟨1, ![4]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S1x4x256x512 : Shape := ⟨4, ![1, 4, 256, 512]⟩
abbrev S1x64x128x4x256 : Shape := ⟨5, ![1, 64, 128, 4, 256]⟩
abbrev S64x1x4x128x256 : Shape := ⟨5, ![64, 1, 4, 128, 256]⟩
abbrev S1x64x128x4x512 : Shape := ⟨5, ![1, 64, 128, 4, 512]⟩
abbrev S64x1x4x128x512 : Shape := ⟨5, ![64, 1, 4, 128, 512]⟩
abbrev S1x4x128x128 : Shape := ⟨4, ![1, 4, 128, 128]⟩
abbrev S1x4x128x1 : Shape := ⟨4, ![1, 4, 128, 1]⟩
abbrev S1x4x1x1 : Shape := ⟨4, ![1, 4, 1, 1]⟩
abbrev S64x1x4x128x128 : Shape := ⟨5, ![64, 1, 4, 128, 128]⟩
abbrev S64x1x4x256x512 : Shape := ⟨5, ![64, 1, 4, 256, 512]⟩
abbrev S1x1x4x128x256 : Shape := ⟨5, ![1, 1, 4, 128, 256]⟩
abbrev S1x4x128x256 : Shape := ⟨4, ![1, 4, 128, 256]⟩
abbrev S1x1x4x128x512 : Shape := ⟨5, ![1, 1, 4, 128, 512]⟩
abbrev S1x4x128x512 : Shape := ⟨4, ![1, 4, 128, 512]⟩
abbrev S1x1x4x128x128 : Shape := ⟨5, ![1, 1, 4, 128, 128]⟩
abbrev S1x1x4x256x512 : Shape := ⟨5, ![1, 1, 4, 256, 512]⟩
abbrev S1x4x512x128 : Shape := ⟨4, ![1, 4, 512, 128]⟩
abbrev S1x4x256x128 : Shape := ⟨4, ![1, 4, 256, 128]⟩
abbrev S1x4x512x256 : Shape := ⟨4, ![1, 4, 512, 256]⟩
abbrev S8192x4096 : Shape := ⟨2, ![8192, 4096]⟩

abbrev nBuf : Space → Nat
  | .hbm => 404
  | .vmem => 0
  | .smem => 0
  | _ => 0

abbrev hbmTy0_0 (i : Nat) : BufTy := match i % 128 with
  | 0 => ⟨S8192x8192, .bf16⟩
  | 1 => ⟨S8192, .i32⟩
  | 2 => ⟨S8192x2048, .bf16⟩
  | 3 => ⟨S8192x8192, .bf16⟩
  | 4 => ⟨S8192x1024, .bf16⟩
  | 5 => ⟨S8192x1024, .bf16⟩
  | 6 => ⟨S8192x2048, .bf16⟩
  | 7 => ⟨S8192x1024, .f32⟩
  | 8 => ⟨S8192x1024, .f32⟩
  | 9 => ⟨S8192x2048, .f32⟩
  | 10 => ⟨S1x8192x4x256, .f32⟩
  | 11 => ⟨S1x8192x4x256, .f32⟩
  | 12 => ⟨S1x8192x4x512, .f32⟩
  | 13 => ⟨S1x8192, .i32⟩
  | 14 => ⟨S128, .f32⟩
  | 15 => ⟨S128, .f32⟩
  | 16 => ⟨S_, .f32⟩
  | 17 => ⟨S128, .f32⟩
  | 18 => ⟨S128, .f32⟩
  | 19 => ⟨S_, .f32⟩
  | 20 => ⟨S128, .f32⟩
  | 21 => ⟨S128, .f32⟩
  | 22 => ⟨S1x8192, .f32⟩
  | 23 => ⟨S1x8192x1x1, .f32⟩
  | 24 => ⟨S1x1x1x128, .f32⟩
  | 25 => ⟨S1x8192x1x128, .f32⟩
  | 26 => ⟨S1x8192x1x128, .f32⟩
  | 27 => ⟨S1x8192x1x128, .f32⟩
  | 28 => ⟨S1x8192x1x128, .f32⟩
  | 29 => ⟨S1x8192x1x128, .f32⟩
  | 30 => ⟨S1x8192x4x128, .f32⟩
  | 31 => ⟨S1x8192x4x128, .f32⟩
  | 32 => ⟨S1x8192x4x128, .f32⟩
  | 33 => ⟨S1x8192x4x128, .f32⟩
  | 34 => ⟨S1x8192x4x128, .f32⟩
  | 35 => ⟨S1x8192x4x128, .f32⟩
  | 36 => ⟨S1x8192x4x128, .f32⟩
  | 37 => ⟨S1x8192x4x128, .f32⟩
  | 38 => ⟨S1x8192x4x128, .f32⟩
  | 39 => ⟨S1x8192x4x128, .f32⟩
  | 40 => ⟨S1x8192x4x128, .f32⟩
  | 41 => ⟨S1x8192x4x128, .f32⟩
  | 42 => ⟨S1x8192x4x256, .f32⟩
  | 43 => ⟨S128, .f32⟩
  | 44 => ⟨S128, .f32⟩
  | 45 => ⟨S_, .f32⟩
  | 46 => ⟨S128, .f32⟩
  | 47 => ⟨S128, .f32⟩
  | 48 => ⟨S_, .f32⟩
  | 49 => ⟨S128, .f32⟩
  | 50 => ⟨S128, .f32⟩
  | 51 => ⟨S1x8192, .f32⟩
  | 52 => ⟨S1x8192x1x1, .f32⟩
  | 53 => ⟨S1x1x1x128, .f32⟩
  | 54 => ⟨S1x8192x1x128, .f32⟩
  | 55 => ⟨S1x8192x1x128, .f32⟩
  | 56 => ⟨S1x8192x1x128, .f32⟩
  | 57 => ⟨S1x8192x1x128, .f32⟩
  | 58 => ⟨S1x8192x1x128, .f32⟩
  | 59 => ⟨S1x8192x4x128, .f32⟩
  | 60 => ⟨S1x8192x4x128, .f32⟩
  | 61 => ⟨S1x8192x4x128, .f32⟩
  | 62 => ⟨S1x8192x4x128, .f32⟩
  | 63 => ⟨S1x8192x4x128, .f32⟩
  | 64 => ⟨S1x8192x4x128, .f32⟩
  | 65 => ⟨S1x8192x4x128, .f32⟩
  | 66 => ⟨S1x8192x4x128, .f32⟩
  | 67 => ⟨S1x8192x4x128, .f32⟩
  | 68 => ⟨S1x8192x4x128, .f32⟩
  | 69 => ⟨S1x8192x4x128, .f32⟩
  | 70 => ⟨S1x8192x4x128, .f32⟩
  | 71 => ⟨S1x8192x4x256, .f32⟩
  | 72 => ⟨S_, .f32⟩
  | 73 => ⟨S1x8192x4x256, .f32⟩
  | 74 => ⟨S1x8192x4x256, .f32⟩
  | 75 => ⟨S4, .f32⟩
  | 76 => ⟨S_, .f32⟩
  | 77 => ⟨S4, .f32⟩
  | 78 => ⟨S4, .f32⟩
  | 79 => ⟨S_, .f32⟩
  | 80 => ⟨S4, .f32⟩
  | 81 => ⟨S4, .f32⟩
  | 82 => ⟨S4, .f32⟩
  | 83 => ⟨S4, .f32⟩
  | 84 => ⟨S4, .f32⟩
  | 85 => ⟨S128, .f32⟩
  | 86 => ⟨S128x1, .f32⟩
  | 87 => ⟨S1x128, .f32⟩
  | 88 => ⟨S128x128, .f32⟩
  | 89 => ⟨S128x128, .f32⟩
  | 90 => ⟨S128x128, .f32⟩
  | 91 => ⟨S_, .f32⟩
  | 92 => ⟨S128x128, .f32⟩
  | 93 => ⟨S128x128, .i1⟩
  | 94 => ⟨S4x1x1, .f32⟩
  | 95 => ⟨S_, .f32⟩
  | 96 => ⟨S128x128, .f32⟩
  | 97 => ⟨S128x128, .f32⟩
  | 98 => ⟨S1x128x128, .f32⟩
  | 99 => ⟨S4x128x128, .f32⟩
  | 100 => ⟨S4x128x128, .f32⟩
  | 101 => ⟨S4x128x128, .f32⟩
  | 102 => ⟨S4x128x128, .f32⟩
  | 103 => ⟨S_, .f32⟩
  | 104 => ⟨S_, .f32⟩
  | 105 => ⟨S4x128x128, .i1⟩
  | 106 => ⟨S4x128x128, .f32⟩
  | 107 => ⟨S4x128x128, .f32⟩
  | 108 => ⟨S4x1, .f32⟩
  | 109 => ⟨S_, .f32⟩
  | 110 => ⟨S128, .f32⟩
  | 111 => ⟨S128, .f32⟩
  | 112 => ⟨S1x128, .f32⟩
  | 113 => ⟨S4x128, .f32⟩
  | 114 => ⟨S4x128, .f32⟩
  | 115 => ⟨S4x128, .f32⟩
  | 116 => ⟨S4x128, .f32⟩
  | 117 => ⟨S4x128x1, .f32⟩
  | 118 => ⟨S4x1, .f32⟩
  | 119 => ⟨S_, .f32⟩
  | 120 => ⟨S128, .f32⟩
  | 121 => ⟨S128, .f32⟩
  | 122 => ⟨S1x128, .f32⟩
  | 123 => ⟨S4x128, .f32⟩
  | 124 => ⟨S4x128, .f32⟩
  | 125 => ⟨S4x128, .f32⟩
  | 126 => ⟨S4x128, .f32⟩
  | 127 => ⟨S4x128x1, .f32⟩
  | _ => ⟨S8192x8192, .bf16⟩

abbrev hbmTy0_1 (i : Nat) : BufTy := match i % 128 with
  | 0 => ⟨S_, .f32⟩
  | 1 => ⟨S4, .f32⟩
  | 2 => ⟨S4, .f32⟩
  | 3 => ⟨S4, .f32⟩
  | 4 => ⟨S4x1x1, .f32⟩
  | 5 => ⟨S_, .f32⟩
  | 6 => ⟨S1x4x256x512, .f32⟩
  | 7 => ⟨S1x64x128x4x256, .f32⟩
  | 8 => ⟨S64x1x4x128x256, .f32⟩
  | 9 => ⟨S1x64x128x4x256, .f32⟩
  | 10 => ⟨S64x1x4x128x256, .f32⟩
  | 11 => ⟨S1x64x128x4x512, .f32⟩
  | 12 => ⟨S64x1x4x128x512, .f32⟩
  | 13 => ⟨S1x4x128x128, .f32⟩
  | 14 => ⟨S1x4x128x1, .f32⟩
  | 15 => ⟨S1x4x1x1, .f32⟩
  | 16 => ⟨S1x4x128x1, .f32⟩
  | 17 => ⟨S_, .f32⟩
  | 18 => ⟨S64x1x4x128x512, .f32⟩
  | 19 => ⟨S_, .f32⟩
  | 20 => ⟨S64x1x4x128x128, .f32⟩
  | 21 => ⟨S_, .f32⟩
  | 22 => ⟨S64x1x4x256x512, .f32⟩
  | 23 => ⟨S_, .f32⟩
  | 24 => ⟨S64x1x4x128x512, .f32⟩
  | 25 => ⟨S_, .i32⟩
  | 26 => ⟨S64x1x4x128x256, .f32⟩
  | 27 => ⟨S64x1x4x128x256, .f32⟩
  | 28 => ⟨S64x1x4x128x512, .f32⟩
  | 29 => ⟨S1x4x1x1, .f32⟩
  | 30 => ⟨S1x4x128x1, .f32⟩
  | 31 => ⟨S1x4x128x128, .f32⟩
  | 32 => ⟨S1x4x128x1, .f32⟩
  | 33 => ⟨S_, .i32⟩
  | 34 => ⟨S1x4x256x512, .f32⟩
  | 35 => ⟨S64x1x4x128x512, .f32⟩
  | 36 => ⟨S64x1x4x128x128, .f32⟩
  | 37 => ⟨S64x1x4x256x512, .f32⟩
  | 38 => ⟨S64x1x4x128x512, .f32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S1x1x4x128x256, .f32⟩
  | 46 => ⟨S1x4x128x256, .f32⟩
  | 47 => ⟨S_, .i32⟩
  | 48 => ⟨S_, .i32⟩
  | 49 => ⟨S_, .i32⟩
  | 50 => ⟨S_, .i32⟩
  | 51 => ⟨S1x1x4x128x256, .f32⟩
  | 52 => ⟨S1x4x128x256, .f32⟩
  | 53 => ⟨S_, .i32⟩
  | 54 => ⟨S_, .i32⟩
  | 55 => ⟨S_, .i32⟩
  | 56 => ⟨S_, .i32⟩
  | 57 => ⟨S1x1x4x128x512, .f32⟩
  | 58 => ⟨S1x4x128x512, .f32⟩
  | 59 => ⟨S1x4x128x128, .f32⟩
  | 60 => ⟨S1x4x128x128, .f32⟩
  | 61 => ⟨S1x4x128x512, .f32⟩
  | 62 => ⟨S1x4x128x512, .f32⟩
  | 63 => ⟨S1x4x128x512, .f32⟩
  | 64 => ⟨S1x4x128x512, .f32⟩
  | 65 => ⟨S1x4x256x512, .f32⟩
  | 66 => ⟨S1x4x256x512, .f32⟩
  | 67 => ⟨S1x4x128x512, .f32⟩
  | 68 => ⟨S1x4x128x512, .f32⟩
  | 69 => ⟨S1x4x256x512, .f32⟩
  | 70 => ⟨S1x4x256x512, .f32⟩
  | 71 => ⟨S1x4x128x512, .f32⟩
  | 72 => ⟨S1x1x4x128x512, .f32⟩
  | 73 => ⟨S_, .i32⟩
  | 74 => ⟨S_, .i32⟩
  | 75 => ⟨S_, .i32⟩
  | 76 => ⟨S_, .i32⟩
  | 77 => ⟨S64x1x4x128x512, .f32⟩
  | 78 => ⟨S1x1x4x128x128, .f32⟩
  | 79 => ⟨S_, .i32⟩
  | 80 => ⟨S_, .i32⟩
  | 81 => ⟨S_, .i32⟩
  | 82 => ⟨S_, .i32⟩
  | 83 => ⟨S64x1x4x128x128, .f32⟩
  | 84 => ⟨S1x1x4x256x512, .f32⟩
  | 85 => ⟨S_, .i32⟩
  | 86 => ⟨S_, .i32⟩
  | 87 => ⟨S_, .i32⟩
  | 88 => ⟨S_, .i32⟩
  | 89 => ⟨S64x1x4x256x512, .f32⟩
  | 90 => ⟨S1x1x4x128x512, .f32⟩
  | 91 => ⟨S_, .i32⟩
  | 92 => ⟨S_, .i32⟩
  | 93 => ⟨S_, .i32⟩
  | 94 => ⟨S_, .i32⟩
  | 95 => ⟨S64x1x4x128x512, .f32⟩
  | 96 => ⟨S_, .i32⟩
  | 97 => ⟨S_, .i32⟩
  | 98 => ⟨S1x64x128x4x512, .f32⟩
  | 99 => ⟨S1x8192x4x512, .f32⟩
  | 100 => ⟨S8192x2048, .f32⟩
  | 101 => ⟨S8192x2048, .f32⟩
  | 102 => ⟨S_, .f32⟩
  | 103 => ⟨S1x4x256x512, .f32⟩
  | 104 => ⟨S1x8192x4x512, .f32⟩
  | 105 => ⟨S1x64x128x4x512, .f32⟩
  | 106 => ⟨S64x1x4x128x512, .f32⟩
  | 107 => ⟨S_, .f32⟩
  | 108 => ⟨S1x4x256x512, .f32⟩
  | 109 => ⟨S_, .f32⟩
  | 110 => ⟨S64x1x4x128x256, .f32⟩
  | 111 => ⟨S_, .f32⟩
  | 112 => ⟨S64x1x4x128x256, .f32⟩
  | 113 => ⟨S_, .f32⟩
  | 114 => ⟨S64x1x4x128x512, .f32⟩
  | 115 => ⟨S_, .i32⟩
  | 116 => ⟨S64x1x4x128x512, .f32⟩
  | 117 => ⟨S64x1x4x128x256, .f32⟩
  | 118 => ⟨S64x1x4x128x256, .f32⟩
  | 119 => ⟨S64x1x4x128x512, .f32⟩
  | 120 => ⟨S64x1x4x128x128, .f32⟩
  | 121 => ⟨S64x1x4x256x512, .f32⟩
  | 122 => ⟨S64x1x4x128x512, .f32⟩
  | 123 => ⟨S1x4x128x128, .f32⟩
  | 124 => ⟨S1x4x128x1, .f32⟩
  | 125 => ⟨S1x4x1x1, .f32⟩
  | 126 => ⟨S1x4x128x1, .f32⟩
  | 127 => ⟨S_, .i32⟩
  | _ => ⟨S8192x8192, .bf16⟩

abbrev hbmTy0_2 (i : Nat) : BufTy := match i % 128 with
  | 0 => ⟨S1x4x256x512, .f32⟩
  | 1 => ⟨S64x1x4x128x256, .f32⟩
  | 2 => ⟨S64x1x4x128x256, .f32⟩
  | 3 => ⟨S64x1x4x128x512, .f32⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S1x1x4x128x512, .f32⟩
  | 15 => ⟨S1x4x128x512, .f32⟩
  | 16 => ⟨S_, .i32⟩
  | 17 => ⟨S_, .i32⟩
  | 18 => ⟨S_, .i32⟩
  | 19 => ⟨S_, .i32⟩
  | 20 => ⟨S1x1x4x128x256, .f32⟩
  | 21 => ⟨S1x4x128x256, .f32⟩
  | 22 => ⟨S_, .i32⟩
  | 23 => ⟨S_, .i32⟩
  | 24 => ⟨S_, .i32⟩
  | 25 => ⟨S_, .i32⟩
  | 26 => ⟨S1x1x4x128x256, .f32⟩
  | 27 => ⟨S1x4x128x256, .f32⟩
  | 28 => ⟨S_, .i32⟩
  | 29 => ⟨S_, .i32⟩
  | 30 => ⟨S_, .i32⟩
  | 31 => ⟨S_, .i32⟩
  | 32 => ⟨S1x1x4x128x512, .f32⟩
  | 33 => ⟨S1x4x128x512, .f32⟩
  | 34 => ⟨S_, .i32⟩
  | 35 => ⟨S_, .i32⟩
  | 36 => ⟨S_, .i32⟩
  | 37 => ⟨S_, .i32⟩
  | 38 => ⟨S1x1x4x128x128, .f32⟩
  | 39 => ⟨S1x4x128x128, .f32⟩
  | 40 => ⟨S_, .i32⟩
  | 41 => ⟨S_, .i32⟩
  | 42 => ⟨S_, .i32⟩
  | 43 => ⟨S_, .i32⟩
  | 44 => ⟨S1x1x4x256x512, .f32⟩
  | 45 => ⟨S1x4x256x512, .f32⟩
  | 46 => ⟨S_, .i32⟩
  | 47 => ⟨S_, .i32⟩
  | 48 => ⟨S_, .i32⟩
  | 49 => ⟨S_, .i32⟩
  | 50 => ⟨S1x1x4x128x512, .f32⟩
  | 51 => ⟨S1x4x128x512, .f32⟩
  | 52 => ⟨S1x4x512x128, .f32⟩
  | 53 => ⟨S1x4x128x512, .f32⟩
  | 54 => ⟨S1x4x256x128, .f32⟩
  | 55 => ⟨S1x4x128x256, .f32⟩
  | 56 => ⟨S1x4x128x512, .f32⟩
  | 57 => ⟨S1x4x128x512, .f32⟩
  | 58 => ⟨S1x4x256x512, .f32⟩
  | 59 => ⟨S1x4x256x512, .f32⟩
  | 60 => ⟨S1x4x128x512, .f32⟩
  | 61 => ⟨S1x4x128x512, .f32⟩
  | 62 => ⟨S1x4x512x256, .f32⟩
  | 63 => ⟨S1x4x256x512, .f32⟩
  | 64 => ⟨S1x4x256x512, .f32⟩
  | 65 => ⟨S1x4x128x256, .f32⟩
  | 66 => ⟨S1x4x512x128, .f32⟩
  | 67 => ⟨S1x4x128x512, .f32⟩
  | 68 => ⟨S1x4x128x512, .f32⟩
  | 69 => ⟨S1x4x128x128, .f32⟩
  | 70 => ⟨S1x4x128x128, .f32⟩
  | 71 => ⟨S1x4x128x256, .f32⟩
  | 72 => ⟨S1x4x128x256, .f32⟩
  | 73 => ⟨S1x4x128x256, .f32⟩
  | 74 => ⟨S1x4x128x256, .f32⟩
  | 75 => ⟨S1x1x4x128x256, .f32⟩
  | 76 => ⟨S_, .i32⟩
  | 77 => ⟨S_, .i32⟩
  | 78 => ⟨S_, .i32⟩
  | 79 => ⟨S_, .i32⟩
  | 80 => ⟨S64x1x4x128x256, .f32⟩
  | 81 => ⟨S1x1x4x128x256, .f32⟩
  | 82 => ⟨S_, .i32⟩
  | 83 => ⟨S_, .i32⟩
  | 84 => ⟨S_, .i32⟩
  | 85 => ⟨S_, .i32⟩
  | 86 => ⟨S64x1x4x128x256, .f32⟩
  | 87 => ⟨S1x1x4x128x512, .f32⟩
  | 88 => ⟨S_, .i32⟩
  | 89 => ⟨S_, .i32⟩
  | 90 => ⟨S_, .i32⟩
  | 91 => ⟨S_, .i32⟩
  | 92 => ⟨S64x1x4x128x512, .f32⟩
  | 93 => ⟨S_, .i32⟩
  | 94 => ⟨S_, .i32⟩
  | 95 => ⟨S1x64x128x4x512, .f32⟩
  | 96 => ⟨S1x8192x4x512, .f32⟩
  | 97 => ⟨S1x64x128x4x256, .f32⟩
  | 98 => ⟨S1x8192x4x256, .f32⟩
  | 99 => ⟨S1x64x128x4x256, .f32⟩
  | 100 => ⟨S1x8192x4x256, .f32⟩
  | 101 => ⟨S_, .f32⟩
  | 102 => ⟨S1x8192x4x256, .f32⟩
  | 103 => ⟨S1x8192x4x256, .f32⟩
  | 104 => ⟨S1x8192x4x128, .f32⟩
  | 105 => ⟨S1x8192x4x128, .f32⟩
  | 106 => ⟨S1x8192x4x128, .f32⟩
  | 107 => ⟨S1x8192x4x128, .f32⟩
  | 108 => ⟨S1x8192x4x128, .f32⟩
  | 109 => ⟨S1x8192x4x128, .f32⟩
  | 110 => ⟨S1x8192x4x128, .f32⟩
  | 111 => ⟨S1x8192x4x128, .f32⟩
  | 112 => ⟨S1x8192x4x128, .f32⟩
  | 113 => ⟨S1x8192x4x128, .f32⟩
  | 114 => ⟨S1x8192x4x128, .f32⟩
  | 115 => ⟨S1x8192x4x128, .f32⟩
  | 116 => ⟨S1x8192x4x128, .f32⟩
  | 117 => ⟨S_, .f32⟩
  | 118 => ⟨S1x8192x4x256, .f32⟩
  | 119 => ⟨S_, .f32⟩
  | 120 => ⟨S1x8192x4x256, .f32⟩
  | 121 => ⟨S1x8192x4x256, .f32⟩
  | 122 => ⟨S1x8192x4x128, .f32⟩
  | 123 => ⟨S1x8192x4x128, .f32⟩
  | 124 => ⟨S1x8192x4x128, .f32⟩
  | 125 => ⟨S1x8192x4x128, .f32⟩
  | 126 => ⟨S1x8192x4x128, .f32⟩
  | 127 => ⟨S1x8192x4x128, .f32⟩
  | _ => ⟨S8192x8192, .bf16⟩

abbrev hbmTy0_3 (i : Nat) : BufTy := match i % 128 with
  | 0 => ⟨S1x8192x4x128, .f32⟩
  | 1 => ⟨S1x8192x4x128, .f32⟩
  | 2 => ⟨S1x8192x4x128, .f32⟩
  | 3 => ⟨S1x8192x4x128, .f32⟩
  | 4 => ⟨S1x8192x4x128, .f32⟩
  | 5 => ⟨S1x8192x4x128, .f32⟩
  | 6 => ⟨S1x8192x4x128, .f32⟩
  | 7 => ⟨S_, .f32⟩
  | 8 => ⟨S1x8192x4x256, .f32⟩
  | 9 => ⟨S_, .f32⟩
  | 10 => ⟨S1x8192x4x256, .f32⟩
  | 11 => ⟨S1x8192x4x256, .f32⟩
  | 12 => ⟨S8192x2048, .f32⟩
  | 13 => ⟨S8192x1024, .f32⟩
  | 14 => ⟨S8192x1024, .f32⟩
  | 15 => ⟨S8192x4096, .f32⟩
  | 16 => ⟨S8192x4096, .bf16⟩
  | 17 => ⟨S8192x2048, .bf16⟩
  | 18 => ⟨S8192x4096, .bf16⟩
  | 19 => ⟨S8192x8192, .bf16⟩
  | _ => ⟨S8192x8192, .bf16⟩

abbrev hbmTy (i : Nat) : BufTy := match i / 128 with
  | 0 => hbmTy0_0 i
  | 1 => hbmTy0_1 i
  | 2 => hbmTy0_2 i
  | 3 => hbmTy0_3 i
  | _ => ⟨S8192x8192, .bf16⟩

abbrev bufTy : (tb : Table) → Fin (tcTables nBuf tb) → BufTy
  | .hbm, ⟨i, _⟩ => hbmTy i
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_1 : Ref sig .tc := ⟨.hbm, 45, rfl⟩
abbrev main_v39 : Ref sig .tc := ⟨.hbm, 46, rfl⟩
abbrev main_v40 : Ref sig .tc := ⟨.hbm, 47, rfl⟩
abbrev main_cst_2 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_cst_3 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_cst_4 : Ref sig .tc := ⟨.hbm, 76, rfl⟩
abbrev main_v67 : Ref sig .tc := ⟨.hbm, 77, rfl⟩
abbrev main_v68 : Ref sig .tc := ⟨.hbm, 78, rfl⟩
abbrev main_cst_5 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_cst_6 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_cst_7 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_cst_8 : Ref sig .tc := ⟨.hbm, 103, rfl⟩
abbrev main_call0_v0 : Ref sig .tc := ⟨.hbm, 104, rfl⟩
abbrev main_call0_v1 : Ref sig .tc := ⟨.hbm, 105, rfl⟩
abbrev main_call0_v2 : Ref sig .tc := ⟨.hbm, 106, rfl⟩
abbrev main_v90 : Ref sig .tc := ⟨.hbm, 107, rfl⟩
abbrev main_v91 : Ref sig .tc := ⟨.hbm, 108, rfl⟩
abbrev main_cst_9 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_cst_10 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_cst_11 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_cst_12 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_cst_13 : Ref sig .tc := ⟨.hbm, 145, rfl⟩
abbrev main_v124 : Ref sig .tc := ⟨.hbm, 146, rfl⟩
abbrev main_cst_14 : Ref sig .tc := ⟨.hbm, 147, rfl⟩
abbrev main_v125 : Ref sig .tc := ⟨.hbm, 148, rfl⟩
abbrev main_cst_15 : Ref sig .tc := ⟨.hbm, 149, rfl⟩
abbrev main_v126 : Ref sig .tc := ⟨.hbm, 150, rfl⟩
abbrev main_cst_16 : Ref sig .tc := ⟨.hbm, 151, rfl⟩
abbrev main_v127 : Ref sig .tc := ⟨.hbm, 152, rfl⟩
abbrev main_c : Ref sig .tc := ⟨.hbm, 153, rfl⟩
abbrev main_v128_0 : Ref sig .tc := ⟨.hbm, 154, rfl⟩
abbrev main_v128_1 : Ref sig .tc := ⟨.hbm, 155, rfl⟩
abbrev main_v128_2 : Ref sig .tc := ⟨.hbm, 156, rfl⟩
abbrev main_v128_3 : Ref sig .tc := ⟨.hbm, 157, rfl⟩
abbrev main_v128_4 : Ref sig .tc := ⟨.hbm, 158, rfl⟩
abbrev main_v128_5 : Ref sig .tc := ⟨.hbm, 159, rfl⟩
abbrev main_v128_6 : Ref sig .tc := ⟨.hbm, 160, rfl⟩
abbrev main_v128_7 : Ref sig .tc := ⟨.hbm, 161, rfl⟩
abbrev main_v128_8 : Ref sig .tc := ⟨.hbm, 162, rfl⟩
abbrev main_v128_9 : Ref sig .tc := ⟨.hbm, 163, rfl⟩
abbrev main_v128_10 : Ref sig .tc := ⟨.hbm, 164, rfl⟩
abbrev main_v128_11 : Ref sig .tc := ⟨.hbm, 165, rfl⟩
abbrev main_v128_12 : Ref sig .tc := ⟨.hbm, 166, rfl⟩
abbrev main_while0c_c_40 : Ref sig .tc := ⟨.hbm, 167, rfl⟩
abbrev main_while0c_v190 : Ref sig .tc := ⟨.hbm, 168, rfl⟩
abbrev main_while0b_call1_c : Ref sig .tc := ⟨.hbm, 169, rfl⟩
abbrev main_while0b_call1_c_0 : Ref sig .tc := ⟨.hbm, 170, rfl⟩
abbrev main_while0b_call1_c_1 : Ref sig .tc := ⟨.hbm, 171, rfl⟩
abbrev main_while0b_call1_c_2 : Ref sig .tc := ⟨.hbm, 172, rfl⟩
abbrev main_while0b_call1_v0 : Ref sig .tc := ⟨.hbm, 173, rfl⟩
abbrev main_while0b_v190 : Ref sig .tc := ⟨.hbm, 174, rfl⟩
abbrev main_while0b_call2_c : Ref sig .tc := ⟨.hbm, 175, rfl⟩
abbrev main_while0b_call2_c_0 : Ref sig .tc := ⟨.hbm, 176, rfl⟩
abbrev main_while0b_call2_c_1 : Ref sig .tc := ⟨.hbm, 177, rfl⟩
abbrev main_while0b_call2_c_2 : Ref sig .tc := ⟨.hbm, 178, rfl⟩
abbrev main_while0b_call2_v0 : Ref sig .tc := ⟨.hbm, 179, rfl⟩
abbrev main_while0b_v191 : Ref sig .tc := ⟨.hbm, 180, rfl⟩
abbrev main_while0b_call3_c : Ref sig .tc := ⟨.hbm, 181, rfl⟩
abbrev main_while0b_call3_c_0 : Ref sig .tc := ⟨.hbm, 182, rfl⟩
abbrev main_while0b_call3_c_1 : Ref sig .tc := ⟨.hbm, 183, rfl⟩
abbrev main_while0b_call3_c_2 : Ref sig .tc := ⟨.hbm, 184, rfl⟩
abbrev main_while0b_call3_v0 : Ref sig .tc := ⟨.hbm, 185, rfl⟩
abbrev main_while0b_v192 : Ref sig .tc := ⟨.hbm, 186, rfl⟩
abbrev main_while0b_v193 : Ref sig .tc := ⟨.hbm, 187, rfl⟩
abbrev main_while0b_v194 : Ref sig .tc := ⟨.hbm, 188, rfl⟩
abbrev main_while0b_v195 : Ref sig .tc := ⟨.hbm, 189, rfl⟩
abbrev main_while0b_v196 : Ref sig .tc := ⟨.hbm, 190, rfl⟩
abbrev main_while0b_v197 : Ref sig .tc := ⟨.hbm, 191, rfl⟩
abbrev main_while0b_v198 : Ref sig .tc := ⟨.hbm, 192, rfl⟩
abbrev main_while0b_v199 : Ref sig .tc := ⟨.hbm, 193, rfl⟩
abbrev main_while0b_v200 : Ref sig .tc := ⟨.hbm, 194, rfl⟩
abbrev main_while0b_v201 : Ref sig .tc := ⟨.hbm, 195, rfl⟩
abbrev main_while0b_v202 : Ref sig .tc := ⟨.hbm, 196, rfl⟩
abbrev main_while0b_v203 : Ref sig .tc := ⟨.hbm, 197, rfl⟩
abbrev main_while0b_v204 : Ref sig .tc := ⟨.hbm, 198, rfl⟩
abbrev main_while0b_v205 : Ref sig .tc := ⟨.hbm, 199, rfl⟩
abbrev main_while0b_call4_v0 : Ref sig .tc := ⟨.hbm, 200, rfl⟩
abbrev main_while0b_call4_c : Ref sig .tc := ⟨.hbm, 201, rfl⟩
abbrev main_while0b_call4_c_0 : Ref sig .tc := ⟨.hbm, 202, rfl⟩
abbrev main_while0b_call4_c_1 : Ref sig .tc := ⟨.hbm, 203, rfl⟩
abbrev main_while0b_call4_c_2 : Ref sig .tc := ⟨.hbm, 204, rfl⟩
abbrev main_while0b_v206 : Ref sig .tc := ⟨.hbm, 205, rfl⟩
abbrev main_while0b_call5_v0 : Ref sig .tc := ⟨.hbm, 206, rfl⟩
abbrev main_while0b_call5_c : Ref sig .tc := ⟨.hbm, 207, rfl⟩
abbrev main_while0b_call5_c_0 : Ref sig .tc := ⟨.hbm, 208, rfl⟩
abbrev main_while0b_call5_c_1 : Ref sig .tc := ⟨.hbm, 209, rfl⟩
abbrev main_while0b_call5_c_2 : Ref sig .tc := ⟨.hbm, 210, rfl⟩
abbrev main_while0b_v207 : Ref sig .tc := ⟨.hbm, 211, rfl⟩
abbrev main_while0b_call6_v0 : Ref sig .tc := ⟨.hbm, 212, rfl⟩
abbrev main_while0b_call6_c : Ref sig .tc := ⟨.hbm, 213, rfl⟩
abbrev main_while0b_call6_c_0 : Ref sig .tc := ⟨.hbm, 214, rfl⟩
abbrev main_while0b_call6_c_1 : Ref sig .tc := ⟨.hbm, 215, rfl⟩
abbrev main_while0b_call6_c_2 : Ref sig .tc := ⟨.hbm, 216, rfl⟩
abbrev main_while0b_v208 : Ref sig .tc := ⟨.hbm, 217, rfl⟩
abbrev main_while0b_call7_v0 : Ref sig .tc := ⟨.hbm, 218, rfl⟩
abbrev main_while0b_call7_c : Ref sig .tc := ⟨.hbm, 219, rfl⟩
abbrev main_while0b_call7_c_0 : Ref sig .tc := ⟨.hbm, 220, rfl⟩
abbrev main_while0b_call7_c_1 : Ref sig .tc := ⟨.hbm, 221, rfl⟩
abbrev main_while0b_call7_c_2 : Ref sig .tc := ⟨.hbm, 222, rfl⟩
abbrev main_while0b_v209 : Ref sig .tc := ⟨.hbm, 223, rfl⟩
abbrev main_while0b_c_40 : Ref sig .tc := ⟨.hbm, 224, rfl⟩
abbrev main_while0b_v210 : Ref sig .tc := ⟨.hbm, 225, rfl⟩
abbrev main_v129 : Ref sig .tc := ⟨.hbm, 226, rfl⟩
abbrev main_v130 : Ref sig .tc := ⟨.hbm, 227, rfl⟩
abbrev main_v131 : Ref sig .tc := ⟨.hbm, 228, rfl⟩
abbrev main_v132 : Ref sig .tc := ⟨.hbm, 229, rfl⟩
abbrev main_cst_17 : Ref sig .tc := ⟨.hbm, 230, rfl⟩
abbrev main_v133 : Ref sig .tc := ⟨.hbm, 231, rfl⟩
abbrev main_v134 : Ref sig .tc := ⟨.hbm, 232, rfl⟩
abbrev main_v135 : Ref sig .tc := ⟨.hbm, 233, rfl⟩
abbrev main_v136 : Ref sig .tc := ⟨.hbm, 234, rfl⟩
abbrev main_cst_18 : Ref sig .tc := ⟨.hbm, 235, rfl⟩
abbrev main_v137 : Ref sig .tc := ⟨.hbm, 236, rfl⟩
abbrev main_cst_19 : Ref sig .tc := ⟨.hbm, 237, rfl⟩
abbrev main_v138 : Ref sig .tc := ⟨.hbm, 238, rfl⟩
abbrev main_cst_20 : Ref sig .tc := ⟨.hbm, 239, rfl⟩
abbrev main_v139 : Ref sig .tc := ⟨.hbm, 240, rfl⟩
abbrev main_cst_21 : Ref sig .tc := ⟨.hbm, 241, rfl⟩
abbrev main_v140 : Ref sig .tc := ⟨.hbm, 242, rfl⟩
abbrev main_c_22 : Ref sig .tc := ⟨.hbm, 243, rfl⟩
abbrev main_v141_0 : Ref sig .tc := ⟨.hbm, 244, rfl⟩
abbrev main_v141_1 : Ref sig .tc := ⟨.hbm, 245, rfl⟩
abbrev main_v141_2 : Ref sig .tc := ⟨.hbm, 246, rfl⟩
abbrev main_v141_3 : Ref sig .tc := ⟨.hbm, 247, rfl⟩
abbrev main_v141_4 : Ref sig .tc := ⟨.hbm, 248, rfl⟩
abbrev main_v141_5 : Ref sig .tc := ⟨.hbm, 249, rfl⟩
abbrev main_v141_6 : Ref sig .tc := ⟨.hbm, 250, rfl⟩
abbrev main_v141_7 : Ref sig .tc := ⟨.hbm, 251, rfl⟩
abbrev main_v141_8 : Ref sig .tc := ⟨.hbm, 252, rfl⟩
abbrev main_v141_9 : Ref sig .tc := ⟨.hbm, 253, rfl⟩
abbrev main_v141_10 : Ref sig .tc := ⟨.hbm, 254, rfl⟩
abbrev main_v141_11 : Ref sig .tc := ⟨.hbm, 255, rfl⟩
abbrev main_v141_12 : Ref sig .tc := ⟨.hbm, 256, rfl⟩
abbrev main_v141_13 : Ref sig .tc := ⟨.hbm, 257, rfl⟩
abbrev main_v141_14 : Ref sig .tc := ⟨.hbm, 258, rfl⟩
abbrev main_v141_15 : Ref sig .tc := ⟨.hbm, 259, rfl⟩
abbrev main_while1c_c_43 : Ref sig .tc := ⟨.hbm, 260, rfl⟩
abbrev main_while1c_v190 : Ref sig .tc := ⟨.hbm, 261, rfl⟩
abbrev main_while1b_c_43 : Ref sig .tc := ⟨.hbm, 262, rfl⟩
abbrev main_while1b_v190 : Ref sig .tc := ⟨.hbm, 263, rfl⟩
abbrev main_while1b_c_44 : Ref sig .tc := ⟨.hbm, 264, rfl⟩
abbrev main_while1b_v191 : Ref sig .tc := ⟨.hbm, 265, rfl⟩
abbrev main_while1b_call8_c : Ref sig .tc := ⟨.hbm, 266, rfl⟩
abbrev main_while1b_call8_c_0 : Ref sig .tc := ⟨.hbm, 267, rfl⟩
abbrev main_while1b_call8_c_1 : Ref sig .tc := ⟨.hbm, 268, rfl⟩
abbrev main_while1b_call8_c_2 : Ref sig .tc := ⟨.hbm, 269, rfl⟩
abbrev main_while1b_call8_v0 : Ref sig .tc := ⟨.hbm, 270, rfl⟩
abbrev main_while1b_v192 : Ref sig .tc := ⟨.hbm, 271, rfl⟩
abbrev main_while1b_call9_c : Ref sig .tc := ⟨.hbm, 272, rfl⟩
abbrev main_while1b_call9_c_0 : Ref sig .tc := ⟨.hbm, 273, rfl⟩
abbrev main_while1b_call9_c_1 : Ref sig .tc := ⟨.hbm, 274, rfl⟩
abbrev main_while1b_call9_c_2 : Ref sig .tc := ⟨.hbm, 275, rfl⟩
abbrev main_while1b_call9_v0 : Ref sig .tc := ⟨.hbm, 276, rfl⟩
abbrev main_while1b_v193 : Ref sig .tc := ⟨.hbm, 277, rfl⟩
abbrev main_while1b_call10_c : Ref sig .tc := ⟨.hbm, 278, rfl⟩
abbrev main_while1b_call10_c_0 : Ref sig .tc := ⟨.hbm, 279, rfl⟩
abbrev main_while1b_call10_c_1 : Ref sig .tc := ⟨.hbm, 280, rfl⟩
abbrev main_while1b_call10_c_2 : Ref sig .tc := ⟨.hbm, 281, rfl⟩
abbrev main_while1b_call10_v0 : Ref sig .tc := ⟨.hbm, 282, rfl⟩
abbrev main_while1b_v194 : Ref sig .tc := ⟨.hbm, 283, rfl⟩
abbrev main_while1b_call11_c : Ref sig .tc := ⟨.hbm, 284, rfl⟩
abbrev main_while1b_call11_c_0 : Ref sig .tc := ⟨.hbm, 285, rfl⟩
abbrev main_while1b_call11_c_1 : Ref sig .tc := ⟨.hbm, 286, rfl⟩
abbrev main_while1b_call11_c_2 : Ref sig .tc := ⟨.hbm, 287, rfl⟩
abbrev main_while1b_call11_v0 : Ref sig .tc := ⟨.hbm, 288, rfl⟩
abbrev main_while1b_v195 : Ref sig .tc := ⟨.hbm, 289, rfl⟩
abbrev main_while1b_call12_c : Ref sig .tc := ⟨.hbm, 290, rfl⟩
abbrev main_while1b_call12_c_0 : Ref sig .tc := ⟨.hbm, 291, rfl⟩
abbrev main_while1b_call12_c_1 : Ref sig .tc := ⟨.hbm, 292, rfl⟩
abbrev main_while1b_call12_c_2 : Ref sig .tc := ⟨.hbm, 293, rfl⟩
abbrev main_while1b_call12_v0 : Ref sig .tc := ⟨.hbm, 294, rfl⟩
abbrev main_while1b_v196 : Ref sig .tc := ⟨.hbm, 295, rfl⟩
abbrev main_while1b_call13_c : Ref sig .tc := ⟨.hbm, 296, rfl⟩
abbrev main_while1b_call13_c_0 : Ref sig .tc := ⟨.hbm, 297, rfl⟩
abbrev main_while1b_call13_c_1 : Ref sig .tc := ⟨.hbm, 298, rfl⟩
abbrev main_while1b_call13_c_2 : Ref sig .tc := ⟨.hbm, 299, rfl⟩
abbrev main_while1b_call13_v0 : Ref sig .tc := ⟨.hbm, 300, rfl⟩
abbrev main_while1b_v197 : Ref sig .tc := ⟨.hbm, 301, rfl⟩
abbrev main_while1b_call14_c : Ref sig .tc := ⟨.hbm, 302, rfl⟩
abbrev main_while1b_call14_c_0 : Ref sig .tc := ⟨.hbm, 303, rfl⟩
abbrev main_while1b_call14_c_1 : Ref sig .tc := ⟨.hbm, 304, rfl⟩
abbrev main_while1b_call14_c_2 : Ref sig .tc := ⟨.hbm, 305, rfl⟩
abbrev main_while1b_call14_v0 : Ref sig .tc := ⟨.hbm, 306, rfl⟩
abbrev main_while1b_v198 : Ref sig .tc := ⟨.hbm, 307, rfl⟩
abbrev main_while1b_v199 : Ref sig .tc := ⟨.hbm, 308, rfl⟩
abbrev main_while1b_v200 : Ref sig .tc := ⟨.hbm, 309, rfl⟩
abbrev main_while1b_v201 : Ref sig .tc := ⟨.hbm, 310, rfl⟩
abbrev main_while1b_v202 : Ref sig .tc := ⟨.hbm, 311, rfl⟩
abbrev main_while1b_v203 : Ref sig .tc := ⟨.hbm, 312, rfl⟩
abbrev main_while1b_v204 : Ref sig .tc := ⟨.hbm, 313, rfl⟩
abbrev main_while1b_v205 : Ref sig .tc := ⟨.hbm, 314, rfl⟩
abbrev main_while1b_v206 : Ref sig .tc := ⟨.hbm, 315, rfl⟩
abbrev main_while1b_v207 : Ref sig .tc := ⟨.hbm, 316, rfl⟩
abbrev main_while1b_v208 : Ref sig .tc := ⟨.hbm, 317, rfl⟩
abbrev main_while1b_v209 : Ref sig .tc := ⟨.hbm, 318, rfl⟩
abbrev main_while1b_v210 : Ref sig .tc := ⟨.hbm, 319, rfl⟩
abbrev main_while1b_v211 : Ref sig .tc := ⟨.hbm, 320, rfl⟩
abbrev main_while1b_v212 : Ref sig .tc := ⟨.hbm, 321, rfl⟩
abbrev main_while1b_v213 : Ref sig .tc := ⟨.hbm, 322, rfl⟩
abbrev main_while1b_v214 : Ref sig .tc := ⟨.hbm, 323, rfl⟩
abbrev main_while1b_v215 : Ref sig .tc := ⟨.hbm, 324, rfl⟩
abbrev main_while1b_v216 : Ref sig .tc := ⟨.hbm, 325, rfl⟩
abbrev main_while1b_v217 : Ref sig .tc := ⟨.hbm, 326, rfl⟩
abbrev main_while1b_v218 : Ref sig .tc := ⟨.hbm, 327, rfl⟩
abbrev main_while1b_v219 : Ref sig .tc := ⟨.hbm, 328, rfl⟩
abbrev main_while1b_v220 : Ref sig .tc := ⟨.hbm, 329, rfl⟩
abbrev main_while1b_v221 : Ref sig .tc := ⟨.hbm, 330, rfl⟩
abbrev main_while1b_call15_v0 : Ref sig .tc := ⟨.hbm, 331, rfl⟩
abbrev main_while1b_call15_c : Ref sig .tc := ⟨.hbm, 332, rfl⟩
abbrev main_while1b_call15_c_0 : Ref sig .tc := ⟨.hbm, 333, rfl⟩
abbrev main_while1b_call15_c_1 : Ref sig .tc := ⟨.hbm, 334, rfl⟩
abbrev main_while1b_call15_c_2 : Ref sig .tc := ⟨.hbm, 335, rfl⟩
abbrev main_while1b_v222 : Ref sig .tc := ⟨.hbm, 336, rfl⟩
abbrev main_while1b_call16_v0 : Ref sig .tc := ⟨.hbm, 337, rfl⟩
abbrev main_while1b_call16_c : Ref sig .tc := ⟨.hbm, 338, rfl⟩
abbrev main_while1b_call16_c_0 : Ref sig .tc := ⟨.hbm, 339, rfl⟩
abbrev main_while1b_call16_c_1 : Ref sig .tc := ⟨.hbm, 340, rfl⟩
abbrev main_while1b_call16_c_2 : Ref sig .tc := ⟨.hbm, 341, rfl⟩
abbrev main_while1b_v223 : Ref sig .tc := ⟨.hbm, 342, rfl⟩
abbrev main_while1b_call17_v0 : Ref sig .tc := ⟨.hbm, 343, rfl⟩
abbrev main_while1b_call17_c : Ref sig .tc := ⟨.hbm, 344, rfl⟩
abbrev main_while1b_call17_c_0 : Ref sig .tc := ⟨.hbm, 345, rfl⟩
abbrev main_while1b_call17_c_1 : Ref sig .tc := ⟨.hbm, 346, rfl⟩
abbrev main_while1b_call17_c_2 : Ref sig .tc := ⟨.hbm, 347, rfl⟩
abbrev main_while1b_v224 : Ref sig .tc := ⟨.hbm, 348, rfl⟩
abbrev main_while1b_c_45 : Ref sig .tc := ⟨.hbm, 349, rfl⟩
abbrev main_while1b_v225 : Ref sig .tc := ⟨.hbm, 350, rfl⟩
abbrev main_v142 : Ref sig .tc := ⟨.hbm, 351, rfl⟩
abbrev main_v143 : Ref sig .tc := ⟨.hbm, 352, rfl⟩
abbrev main_v144 : Ref sig .tc := ⟨.hbm, 353, rfl⟩
abbrev main_v145 : Ref sig .tc := ⟨.hbm, 354, rfl⟩
abbrev main_v146 : Ref sig .tc := ⟨.hbm, 355, rfl⟩
abbrev main_v147 : Ref sig .tc := ⟨.hbm, 356, rfl⟩
abbrev main_cst_23 : Ref sig .tc := ⟨.hbm, 357, rfl⟩
abbrev main_v148 : Ref sig .tc := ⟨.hbm, 358, rfl⟩
abbrev main_v149 : Ref sig .tc := ⟨.hbm, 359, rfl⟩
abbrev main_v150 : Ref sig .tc := ⟨.hbm, 360, rfl⟩
abbrev main_v151 : Ref sig .tc := ⟨.hbm, 361, rfl⟩
abbrev main_v152 : Ref sig .tc := ⟨.hbm, 362, rfl⟩
abbrev main_v153 : Ref sig .tc := ⟨.hbm, 363, rfl⟩
abbrev main_v154 : Ref sig .tc := ⟨.hbm, 364, rfl⟩
abbrev main_v155 : Ref sig .tc := ⟨.hbm, 365, rfl⟩
abbrev main_v156 : Ref sig .tc := ⟨.hbm, 366, rfl⟩
abbrev main_v157 : Ref sig .tc := ⟨.hbm, 367, rfl⟩
abbrev main_v158 : Ref sig .tc := ⟨.hbm, 368, rfl⟩
abbrev main_v159 : Ref sig .tc := ⟨.hbm, 369, rfl⟩
abbrev main_v160 : Ref sig .tc := ⟨.hbm, 370, rfl⟩
abbrev main_v161 : Ref sig .tc := ⟨.hbm, 371, rfl⟩
abbrev main_v162 : Ref sig .tc := ⟨.hbm, 372, rfl⟩
abbrev main_cst_24 : Ref sig .tc := ⟨.hbm, 373, rfl⟩
abbrev main_v163 : Ref sig .tc := ⟨.hbm, 374, rfl⟩
abbrev main_cst_25 : Ref sig .tc := ⟨.hbm, 375, rfl⟩
abbrev main_v164 : Ref sig .tc := ⟨.hbm, 376, rfl⟩
abbrev main_v165 : Ref sig .tc := ⟨.hbm, 377, rfl⟩
abbrev main_v166 : Ref sig .tc := ⟨.hbm, 378, rfl⟩
abbrev main_v167 : Ref sig .tc := ⟨.hbm, 379, rfl⟩
abbrev main_v168 : Ref sig .tc := ⟨.hbm, 380, rfl⟩
abbrev main_v169 : Ref sig .tc := ⟨.hbm, 381, rfl⟩
abbrev main_v170 : Ref sig .tc := ⟨.hbm, 382, rfl⟩
abbrev main_v171 : Ref sig .tc := ⟨.hbm, 383, rfl⟩
abbrev main_v172 : Ref sig .tc := ⟨.hbm, 384, rfl⟩
abbrev main_v173 : Ref sig .tc := ⟨.hbm, 385, rfl⟩
abbrev main_v174 : Ref sig .tc := ⟨.hbm, 386, rfl⟩
abbrev main_v175 : Ref sig .tc := ⟨.hbm, 387, rfl⟩
abbrev main_v176 : Ref sig .tc := ⟨.hbm, 388, rfl⟩
abbrev main_v177 : Ref sig .tc := ⟨.hbm, 389, rfl⟩
abbrev main_v178 : Ref sig .tc := ⟨.hbm, 390, rfl⟩
abbrev main_cst_26 : Ref sig .tc := ⟨.hbm, 391, rfl⟩
abbrev main_v179 : Ref sig .tc := ⟨.hbm, 392, rfl⟩
abbrev main_cst_27 : Ref sig .tc := ⟨.hbm, 393, rfl⟩
abbrev main_v180 : Ref sig .tc := ⟨.hbm, 394, rfl⟩
abbrev main_v181 : Ref sig .tc := ⟨.hbm, 395, rfl⟩
abbrev main_v182 : Ref sig .tc := ⟨.hbm, 396, rfl⟩
abbrev main_v183 : Ref sig .tc := ⟨.hbm, 397, rfl⟩
abbrev main_v184 : Ref sig .tc := ⟨.hbm, 398, rfl⟩
abbrev main_v185 : Ref sig .tc := ⟨.hbm, 399, rfl⟩
abbrev main_v186 : Ref sig .tc := ⟨.hbm, 400, rfl⟩
abbrev main_v187 : Ref sig .tc := ⟨.hbm, 401, rfl⟩
abbrev main_v188 : Ref sig .tc := ⟨.hbm, 402, rfl⟩
abbrev main_v189 : Ref sig .tc := ⟨.hbm, 403, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 64#32, 1#32⟩
-- ==== Proj.lean ====
abbrev S8192x1024 : Shape := ⟨2, ![8192, 1024]⟩
abbrev S1024x17408 : Shape := ⟨2, ![1024, 17408]⟩
abbrev S17408x1024 : Shape := ⟨2, ![17408, 1024]⟩
abbrev S8192x8192 : Shape := ⟨2, ![8192, 8192]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x17408, .f32⟩
  | .hbm, ⟨2, _⟩ => ⟨S8192x1024, .bf16⟩
  | .hbm, ⟨3, _⟩ => ⟨S17408x1024, .f32⟩
  | .hbm, ⟨4, _⟩ => ⟨S17408x1024, .bf16⟩
  | .hbm, ⟨5, _⟩ => ⟨S8192x8192, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.addi arg1 c9_i32
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S8192x1024 : Shape := ⟨2, ![8192, 1024]⟩
abbrev S1024x17408 : Shape := ⟨2, ![1024, 17408]⟩
abbrev S8192x17408 : Shape := ⟨2, ![8192, 17408]⟩
abbrev S8192x8192 : Shape := ⟨2, ![8192, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x17408, .f32⟩
  | .hbm, ⟨2, _⟩ => ⟨S8192x17408, .f32⟩
  | .hbm, ⟨3, _⟩ => ⟨S8192x8192, .f32⟩
  | .hbm, ⟨4, _⟩ => ⟨S8192x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjDw.lean ====
abbrev S8192x1024 : Shape := ⟨2, ![8192, 1024]⟩
abbrev S8192x8192 : Shape := ⟨2, ![8192, 8192]⟩
abbrev S17x8x128x1024 : Shape := ⟨4, ![17, 8, 128, 1024]⟩
abbrev S1024x1024 : Shape := ⟨2, ![1024, 1024]⟩
abbrev S1x8x128x1024 : Shape := ⟨4, ![1, 8, 128, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x8192, .bf16⟩
  | .hbm, ⟨2, _⟩ => ⟨S17x8x128x1024, .f32⟩
  | .hbm, ⟨3, _⟩ => ⟨S8192x1024, .bf16⟩
  | .hbm, ⟨4, _⟩ => ⟨S17x8x128x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x8x128x1024, .f32⟩
  | .local _ .vmem, ⟨5, _⟩ => ⟨S1x8x128x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.addi arg0 c9_i32
  let c0_i32 : BitVec 32 := 0#32
  let c0_i32_0 : BitVec 32 := 0#32
  let c0_i32_1 : BitVec 32 := 0#32
  ![v0.toNat, c0_i32.toNat, c0_i32_0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x8x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDwRefIdeal.lean ====
abbrev S8192x1024 : Shape := ⟨2, ![8192, 1024]⟩
abbrev S8192x8192 : Shape := ⟨2, ![8192, 8192]⟩
abbrev S17x8x128x1024 : Shape := ⟨4, ![17, 8, 128, 1024]⟩
abbrev S_ : Shape := ⟨0, ![]⟩
abbrev S1024x17408 : Shape := ⟨2, ![1024, 17408]⟩
abbrev S8192x17408 : Shape := ⟨2, ![8192, 17408]⟩
abbrev S17408x1024 : Shape := ⟨2, ![17408, 1024]⟩
abbrev S9x8x128x1024 : Shape := ⟨4, ![9, 8, 128, 1024]⟩
abbrev S8x8x128x1024 : Shape := ⟨4, ![8, 8, 128, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x8192, .bf16⟩
  | .hbm, ⟨2, _⟩ => ⟨S17x8x128x1024, .f32⟩
  | .hbm, ⟨3, _⟩ => ⟨S_, .f32⟩
  | .hbm, ⟨4, _⟩ => ⟨S1024x17408, .f32⟩
  | .hbm, ⟨5, _⟩ => ⟨S8192x17408, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192x17408, .f32⟩
  | .hbm, ⟨10, _⟩ => ⟨S17408x1024, .f32⟩
  | .hbm, ⟨11, _⟩ => ⟨S1024x17408, .f32⟩
  | .hbm, ⟨12, _⟩ => ⟨S9x8x128x1024, .f32⟩
  | .hbm, ⟨13, _⟩ => ⟨S17408x1024, .f32⟩
  | .hbm, ⟨14, _⟩ => ⟨S8192x1024, .f32⟩
  | .hbm, ⟨15, _⟩ => ⟨S8x8x128x1024, .f32⟩
  | .hbm, ⟨16, _⟩ => ⟨S17x8x128x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== ProjDx.lean ====
abbrev S1024x17408 : Shape := ⟨2, ![1024, 17408]⟩
abbrev S8192x8192 : Shape := ⟨2, ![8192, 8192]⟩
abbrev S8192x1024 : Shape := ⟨2, ![8192, 1024]⟩
abbrev S8x128 : Shape := ⟨2, ![8, 128]⟩
abbrev S17408x1024 : Shape := ⟨2, ![17408, 1024]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S1024x17408, .f32⟩
  | .hbm, ⟨1, _⟩ => ⟨S8192x8192, .bf16⟩
  | .hbm, ⟨2, _⟩ => ⟨S8192x1024, .f32⟩
  | .hbm, ⟨3, _⟩ => ⟨S8x128, .f32⟩
  | .hbm, ⟨4, _⟩ => ⟨S17408x1024, .f32⟩
  | .hbm, ⟨5, _⟩ => ⟨S17408x1024, .bf16⟩
  | .hbm, ⟨6, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S1024x17408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.addi arg2 c9_i32
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjDxRefIdeal.lean ====
abbrev S1024x17408 : Shape := ⟨2, ![1024, 17408]⟩
abbrev S8192x8192 : Shape := ⟨2, ![8192, 8192]⟩
abbrev S8192x1024 : Shape := ⟨2, ![8192, 1024]⟩
abbrev S8x128 : Shape := ⟨2, ![8, 128]⟩
abbrev S_ : Shape := ⟨0, ![]⟩
abbrev S8192x17408 : Shape := ⟨2, ![8192, 17408]⟩

abbrev nBuf : Space → Nat
  | .hbm => 19
  | .vmem => 0
  | .smem => 0
  | _ => 0

abbrev bufTy : (tb : Table) → Fin (tcTables nBuf tb) → BufTy
  | .hbm, ⟨0, _⟩ => ⟨S1024x17408, .f32⟩
  | .hbm, ⟨1, _⟩ => ⟨S8192x8192, .bf16⟩
  | .hbm, ⟨2, _⟩ => ⟨S8192x1024, .f32⟩
  | .hbm, ⟨3, _⟩ => ⟨S8x128, .f32⟩
  | .hbm, ⟨4, _⟩ => ⟨S_, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x17408, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x17408, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | _, _ => ⟨S1024x17408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== DownDx.lean ====
abbrev S2816x1024 : Shape := ⟨2, ![2816, 1024]⟩
abbrev S8192x1024 : Shape := ⟨2, ![8192, 1024]⟩
abbrev S8192x2816 : Shape := ⟨2, ![8192, 2816]⟩
abbrev S512x1024 : Shape := ⟨2, ![512, 1024]⟩
abbrev S512x2816 : Shape := ⟨2, ![512, 2816]⟩

abbrev nBuf : Space → Nat
  | .hbm => 4
  | .vmem => 6
  | .smem => 0
  | _ => 0

abbrev bufTy : (tb : Table) → Fin (tcTables nBuf tb) → BufTy
  | .hbm, ⟨0, _⟩ => ⟨S2816x1024, .f32⟩
  | .hbm, ⟨1, _⟩ => ⟨S8192x1024, .bf16⟩
  | .hbm, ⟨2, _⟩ => ⟨S2816x1024, .bf16⟩
  | .hbm, ⟨3, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S2816x1024 : Shape := ⟨2, ![2816, 1024]⟩
abbrev S8192x1024 : Shape := ⟨2, ![8192, 1024]⟩
abbrev S_ : Shape := ⟨0, ![]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S8192x1024, .bf16⟩
  | .hbm, ⟨2, _⟩ => ⟨S_, .f32⟩
  | .hbm, ⟨3, _⟩ => ⟨S8192x2816, .f32⟩
  | .hbm, ⟨4, _⟩ => ⟨S8192x1024, .f32⟩
  | .hbm, ⟨5, _⟩ => ⟨S8192x1024, .f32⟩
  | .hbm, ⟨6, _⟩ => ⟨S8192x2816, .f32⟩
  | .hbm, ⟨7, _⟩ => ⟨S8192x2816, .bf16⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDw.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S_, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpUDw.lean ====
abbrev S8192x1024 : Shape := ⟨2, ![8192, 1024]⟩
abbrev S8192x2816 : Shape := ⟨2, ![8192, 2816]⟩
abbrev S5632x1024 : Shape := ⟨2, ![5632, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S5632x1024, .f32⟩
  | .hbm, ⟨3, _⟩ => ⟨S8192x1024, .bf16⟩
  | .hbm, ⟨4, _⟩ => ⟨S5632x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![v0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpUDwRefIdeal.lean ====
abbrev S8192x1024 : Shape := ⟨2, ![8192, 1024]⟩
abbrev S8192x2816 : Shape := ⟨2, ![8192, 2816]⟩
abbrev S5632x1024 : Shape := ⟨2, ![5632, 1024]⟩
abbrev S_ : Shape := ⟨0, ![]⟩
abbrev S1024x5632 : Shape := ⟨2, ![1024, 5632]⟩
abbrev S8192x5632 : Shape := ⟨2, ![8192, 5632]⟩
abbrev S2816x1024 : Shape := ⟨2, ![2816, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S5632x1024, .f32⟩
  | .hbm, ⟨3, _⟩ => ⟨S_, .f32⟩
  | .hbm, ⟨4, _⟩ => ⟨S1024x5632, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x5632, .f32⟩
  | .hbm, ⟨12, _⟩ => ⟨S5632x1024, .f32⟩
  | .hbm, ⟨13, _⟩ => ⟨S1024x5632, .f32⟩
  | .hbm, ⟨14, _⟩ => ⟨S2816x1024, .f32⟩
  | .hbm, ⟨15, _⟩ => ⟨S5632x1024, .f32⟩
  | .hbm, ⟨16, _⟩ => ⟨S2816x1024, .f32⟩
  | .hbm, ⟨17, _⟩ => ⟨S5632x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== UpGDx.lean ====
abbrev S1024x5632 : Shape := ⟨2, ![1024, 5632]⟩
abbrev S8192x2816 : Shape := ⟨2, ![8192, 2816]⟩
abbrev S8192x1024 : Shape := ⟨2, ![8192, 1024]⟩
abbrev S5632x1024 : Shape := ⟨2, ![5632, 1024]⟩
abbrev S512x2816 : Shape := ⟨2, ![512, 2816]⟩
abbrev S2816x1024 : Shape := ⟨2, ![2816, 1024]⟩
abbrev S512x1024 : Shape := ⟨2, ![512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S1024x5632, .f32⟩
  | .hbm, ⟨1, _⟩ => ⟨S8192x2816, .bf16⟩
  | .hbm, ⟨2, _⟩ => ⟨S8192x1024, .f32⟩
  | .hbm, ⟨3, _⟩ => ⟨S5632x1024, .f32⟩
  | .hbm, ⟨4, _⟩ => ⟨S5632x1024, .bf16⟩
  | .hbm, ⟨5, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpGDxRefIdeal.lean ====
abbrev S1024x5632 : Shape := ⟨2, ![1024, 5632]⟩
abbrev S8192x2816 : Shape := ⟨2, ![8192, 2816]⟩
abbrev S8192x1024 : Shape := ⟨2, ![8192, 1024]⟩
abbrev S_ : Shape := ⟨0, ![]⟩
abbrev S8192x5632 : Shape := ⟨2, ![8192, 5632]⟩

abbrev nBuf : Space → Nat
  | .hbm => 20
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S8192x2816, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x5632, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x5632, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== UpUDx.lean ====
abbrev S1024x5632 : Shape := ⟨2, ![1024, 5632]⟩
abbrev S8192x2816 : Shape := ⟨2, ![8192, 2816]⟩
abbrev S8192x1024 : Shape := ⟨2, ![8192, 1024]⟩
abbrev S5632x1024 : Shape := ⟨2, ![5632, 1024]⟩
abbrev S512x2816 : Shape := ⟨2, ![512, 2816]⟩
abbrev S2816x1024 : Shape := ⟨2, ![2816, 1024]⟩
abbrev S512x1024 : Shape := ⟨2, ![512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S1024x5632, .f32⟩
  | .hbm, ⟨1, _⟩ => ⟨S8192x2816, .bf16⟩
  | .hbm, ⟨2, _⟩ => ⟨S8192x1024, .f32⟩
  | .hbm, ⟨3, _⟩ => ⟨S5632x1024, .f32⟩
  | .hbm, ⟨4, _⟩ => ⟨S5632x1024, .bf16⟩
  | .hbm, ⟨5, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpUDxRefIdeal.lean ====
abbrev S1024x5632 : Shape := ⟨2, ![1024, 5632]⟩
abbrev S8192x2816 : Shape := ⟨2, ![8192, 2816]⟩
abbrev S8192x1024 : Shape := ⟨2, ![8192, 1024]⟩
abbrev S_ : Shape := ⟨0, ![]⟩
abbrev S8192x5632 : Shape := ⟨2, ![8192, 5632]⟩

abbrev nBuf : Space → Nat
  | .hbm => 14
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S8192x2816, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x5632, .f32⟩
  | .hbm, ⟨12, _⟩ => ⟨S8192x1024, .f32⟩
  | .hbm, ⟨13, _⟩ => ⟨S8192x1024, .f32⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== UpG.lean ====
abbrev S8192x1024 : Shape := ⟨2, ![8192, 1024]⟩
abbrev S1024x5632 : Shape := ⟨2, ![1024, 5632]⟩
abbrev S5632x1024 : Shape := ⟨2, ![5632, 1024]⟩
abbrev S8192x2816 : Shape := ⟨2, ![8192, 2816]⟩
abbrev S512x1024 : Shape := ⟨2, ![512, 1024]⟩
abbrev S2816x1024 : Shape := ⟨2, ![2816, 1024]⟩
abbrev S512x2816 : Shape := ⟨2, ![512, 2816]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S5632x1024, .f32⟩
  | .hbm, ⟨4, _⟩ => ⟨S5632x1024, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpGRefIdeal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UpU.lean ====
abbrev S8192x1024 : Shape := ⟨2, ![8192, 1024]⟩
abbrev S1024x5632 : Shape := ⟨2, ![1024, 5632]⟩
abbrev S5632x1024 : Shape := ⟨2, ![5632, 1024]⟩
abbrev S8192x2816 : Shape := ⟨2, ![8192, 2816]⟩
abbrev S512x1024 : Shape := ⟨2, ![512, 1024]⟩
abbrev S2816x1024 : Shape := ⟨2, ![2816, 1024]⟩
abbrev S512x2816 : Shape := ⟨2, ![512, 2816]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S5632x1024, .f32⟩
  | .hbm, ⟨4, _⟩ => ⟨S5632x1024, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpURefIdeal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S2816x1024, .bf16⟩
  | .hbm, ⟨3, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x2816, .f32⟩
  | .hbm, ⟨3, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== RetProj.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .f32⟩
  | .hbm, ⟨2, _⟩ => ⟨S2048x1024, .bf16⟩
  | .hbm, ⟨3, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RetProjRefIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .f32⟩
  | .hbm, ⟨2, _⟩ => ⟨S8192x2048, .f32⟩
  | .hbm, ⟨3, _⟩ => ⟨S8192x1024, .f32⟩
  | .hbm, ⟨4, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== RetProjDx.lean ====
abbrev S2048x1024 : Shape := ⟨2, ![2048, 1024]⟩
abbrev S8192x1024 : Shape := ⟨2, ![8192, 1024]⟩
abbrev S8192x2048 : Shape := ⟨2, ![8192, 2048]⟩
abbrev S1024x1024 : Shape := ⟨2, ![1024, 1024]⟩
abbrev S1024x2048 : Shape := ⟨2, ![1024, 2048]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S8192x1024, .bf16⟩
  | .hbm, ⟨2, _⟩ => ⟨S2048x1024, .bf16⟩
  | .hbm, ⟨3, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RetProjDxRefIdeal.lean ====
abbrev S2048x1024 : Shape := ⟨2, ![2048, 1024]⟩
abbrev S8192x1024 : Shape := ⟨2, ![8192, 1024]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8192x1024, .bf16⟩
  | .hbm, ⟨2, _⟩ => ⟨S_, .f32⟩
  | .hbm, ⟨3, _⟩ => ⟨S8192x2048, .f32⟩
  | .hbm, ⟨4, _⟩ => ⟨S8192x1024, .f32⟩
  | .hbm, ⟨5, _⟩ => ⟨S8192x1024, .f32⟩
  | .hbm, ⟨6, _⟩ => ⟨S8192x2048, .f32⟩
  | .hbm, ⟨7, _⟩ => ⟨S8192x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== RetProjDw.lean ====
abbrev S8192x2048 : Shape := ⟨2, ![8192, 2048]⟩
abbrev S8192x1024 : Shape := ⟨2, ![8192, 1024]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RetProjDwRefIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .f32⟩
  | .hbm, ⟨3, _⟩ => ⟨S_, .f32⟩
  | .hbm, ⟨4, _⟩ => ⟨S2048x1024, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttnProj.lean ====
abbrev S8192x1024 : Shape := ⟨2, ![8192, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S1024x1024, .bf16⟩
  | .hbm, ⟨3, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnProjRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AttnProjDx.lean ====
abbrev S1024x1024 : Shape := ⟨2, ![1024, 1024]⟩
abbrev S8192x1024 : Shape := ⟨2, ![8192, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S8192x1024, .bf16⟩
  | .hbm, ⟨2, _⟩ => ⟨S1024x1024, .bf16⟩
  | .hbm, ⟨3, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnProjDxRefIdeal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8192x1024, .bf16⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AttnProjDw.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AttnProjDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== PleGate.lean ====
abbrev S8192x1024 : Shape := ⟨2, ![8192, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleGateRefIdeal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PleGateDx.lean ====
abbrev S1024x1024 : Shape := ⟨2, ![1024, 1024]⟩
abbrev S8192x1024 : Shape := ⟨2, ![8192, 1024]⟩

abbrev nBuf : Space → Nat
  | .hbm => 5
  | .vmem => 8
  | .smem => 0
  | _ => 0

abbrev bufTy : (tb : Table) → Fin (tcTables nBuf tb) → BufTy
  | .hbm, ⟨0, _⟩ => ⟨S1024x1024, .f32⟩
  | .hbm, ⟨1, _⟩ => ⟨S8192x1024, .bf16⟩
  | .hbm, ⟨2, _⟩ => ⟨S8192x1024, .f32⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== PleGateDxRefIdeal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== PleGateDw.lean ====
abbrev S8192x1024 : Shape := ⟨2, ![8192, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PleGateDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.RegionBase.lean ====
/-
What the two regions' runs share: each body's branch condition, in closed form over the grid's points.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The forward body's branch condition: this is the first point of the grid. -/
abbrev cond0_0 (i : grid0.Coords) : Prop :=
  (Scalar.cmpi .ne (Scalar.extui (Scalar.cmpi .eq (BitVec.ofNat 32 (i 0).val) 0#32)) 0#32) = 1#1

/-- It holds at point 0 and nowhere else. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The backward body's branch condition: this is the first point of the grid. -/
abbrev cond1_0 (i : grid1.Coords) : Prop :=
  (Scalar.cmpi .ne (Scalar.extui (Scalar.cmpi .eq (BitVec.ofNat 32 (i 0).val) 0#32)) 0#32) = 1#1

/-- It holds at point 0 and nowhere else. -/
theorem hcond1_0 : ∀ t : Fin cfg1.N, cond1_0 (grid1.coords t) ↔ t.val % 16 = 0 :=
  (fun t => by
    have ht : t.val < 16 := Nat.lt_of_lt_of_eq t.isLt N_1
    have e0 : (grid1.coords t 0).val = t.val / 1 % 16 := Pipeline.Grid.coords_val t 0 (by decide) rfl
    simp only [cond1_0, e0]
    word_cmp
   : ∀ t : Fin grid1.N, cond1_0 (grid1.coords t) ↔ t.val % 16 = 0)

end Cert.KernelIdeal.Gen

end
-- ==== Proof.FwdRunA.lean ====
/-
The run of the forward retention kernel's body, case A: the pieces its stores leave in each buffer.
-/
module

public import proofs.«01_k».proof.Proof.RegionBase

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1388000 in
/-- The forward body at the first point, where the carried state is set to zero first: run on whole
    staging memrefs it leaves its inputs as they were and each buffer it stores into with the pieces named here
    (last first): `L9` the raw retention output, `L10` the saved states, `LS0` the carried state. -/
noncomputable def fwdRunA (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x2048 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S4x128x128 .f32) (harg6 : arg6.IsWhole) (arg7 : Memref sig .tc .vmem S4x128x512 .f32) (harg7 : arg7.IsWhole) (arg8 : Memref sig .tc .vmem S4x128x512 .f32) (harg8 : arg8.IsWhole) (arg9 : Memref sig .tc .vmem S4x1x512 .f32) (harg9 : arg9.IsWhole) (arg10 : Memref sig .tc .vmem S512x2048 .bf16) (harg10 : arg10.IsWhole) (arg11 : Memref sig .tc .vmem S4x4x256x512 .bf16) (harg11 : arg11.IsWhole) (arg12 : Memref sig .tc .vmem S4x256x512 .f32) (harg12 : arg12.IsWhole) (hc0 : cond0_0 i)
    (x0 : Vec F S512x1024 .bf16) (x1 : Vec F S512x1024 .bf16) (x2 : Vec F S512x2048 .bf16) (x3 : Vec F S512x128 .f32) (x4 : Vec F S512x128 .f32) (x5 : Vec F S4x128x128 .f32) (x6 : Vec F S4x128x512 .f32) (x7 : Vec F S4x128x512 .f32) (x8 : Vec F S4x1x512 .f32) :
    Σ' (L9 : List (View.Piece (Elt F) S512x2048 .bf16)), Σ' (L10 : List (View.Piece (Elt F) S4x4x256x512 .bf16)), { LS0 : List (View.Piece (Elt F) S4x256x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0)) -∗ K ⟨⟩))
          ⊢ wp frame (wpE (defs₀ (F := F)) Variants.none c none) E (cc0_ret_fwd i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_ret_fwd_eq_skeleton]; unfold cc0_ret_fwd_skel
    simp only [k0_part28_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    iexists _; iexact HS0

end Cert.KernelIdeal.Gen

end
-- ==== Proof.FwdRunB.lean ====
/-
The run of the forward retention kernel's body, case B: the pieces its stores leave in each buffer.
-/
module

public import proofs.«01_k».proof.Proof.FwdRunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1376000 in
/-- The forward body at a later point, where the carried state is what the point before left: run on whole
    staging memrefs it leaves its inputs as they were and each buffer it stores into with the pieces named here
    (last first): `L9` the raw retention output, `L10` the saved states, `LS0` the carried state. -/
noncomputable def fwdRunB (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x2048 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S4x128x128 .f32) (harg6 : arg6.IsWhole) (arg7 : Memref sig .tc .vmem S4x128x512 .f32) (harg7 : arg7.IsWhole) (arg8 : Memref sig .tc .vmem S4x128x512 .f32) (harg8 : arg8.IsWhole) (arg9 : Memref sig .tc .vmem S4x1x512 .f32) (harg9 : arg9.IsWhole) (arg10 : Memref sig .tc .vmem S512x2048 .bf16) (harg10 : arg10.IsWhole) (arg11 : Memref sig .tc .vmem S4x4x256x512 .bf16) (harg11 : arg11.IsWhole) (arg12 : Memref sig .tc .vmem S4x256x512 .f32) (harg12 : arg12.IsWhole) (hc0 : ¬cond0_0 i)
    (x0 : Vec F S512x1024 .bf16) (x1 : Vec F S512x1024 .bf16) (x2 : Vec F S512x2048 .bf16) (x3 : Vec F S512x128 .f32) (x4 : Vec F S512x128 .f32) (x5 : Vec F S4x128x128 .f32) (x6 : Vec F S4x128x512 .f32) (x7 : Vec F S4x128x512 .f32) (x8 : Vec F S4x1x512 .f32) (xs0 : Vec F S4x256x512 .f32) :
    Σ' (L9 : List (View.Piece (Elt F) S512x2048 .bf16)), Σ' (L10 : List (View.Piece (Elt F) S4x4x256x512 .bf16)), { LS0 : List (View.Piece (Elt F) S4x256x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0)) -∗ K ⟨⟩))
          ⊢ wp frame (wpE (defs₀ (F := F)) Variants.none c none) E (cc0_ret_fwd i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_ret_fwd_eq_skeleton]; unfold cc0_ret_fwd_skel
    simp only [k0_part28_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    iexists _; iexact HS0

end Cert.KernelIdeal.Gen

end
-- ==== Proof.FwdFns.lean ====
/-
The forward retention kernel's point in closed form: what one chunk of one head computes from its blocks and the state before it.
-/
module

public import proofs.«01_k».proof.Proof.FwdRunB
public import Idealize.ShloMosaic.Lib.Pipeline.ValueKit
public import Idealize.ShloMosaic.Lib.Pipeline.ReadBack

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The input blocks of one point of the forward grid: four chunks of queries, keys, values, the rotation's cosines
    and sines, and the four decay tables. -/
structure FwdIn (F : FTy → Type) where
  q : Vec F S512x1024 .bf16
  k : Vec F S512x1024 .bf16
  v : Vec F S512x2048 .bf16
  cs : Vec F S512x128 .f32
  sn : Vec F S512x128 .f32
  dm : Vec F S4x128x128 .f32
  qd : Vec F S4x128x512 .f32
  kd : Vec F S4x128x512 .f32
  cd : Vec F S4x1x512 .f32

/-- Chunk `ci`, head `h` of a block of queries or keys. -/
abbrev rQ (ci h : Fin 4) : Rect S512x1024 :=
  Rect.unit ![128 * ci.val, 256 * h.val] S128x256.size (by
    intro a; have := ci.isLt; have := h.isLt; fin_cases a <;> simp [Shape.size, S128x256, S512x1024] <;> omega)
/-- Chunk `ci`, head `h` of a block of values. -/
abbrev rV (ci h : Fin 4) : Rect S512x2048 :=
  Rect.unit ![128 * ci.val, 512 * h.val] S128x512.size (by
    intro a; have := ci.isLt; have := h.isLt; fin_cases a <;> simp [Shape.size, S128x512, S512x2048] <;> omega)
/-- Chunk `ci` of a block of cosines or sines. -/
abbrev rC (ci : Fin 4) : Rect S512x128 :=
  Rect.unit ![128 * ci.val, 0] S128x128.size (by
    intro a; have := ci.isLt; fin_cases a <;> simp [Shape.size, S128x128, S512x128] <;> omega)
/-- Head `h` of the in-chunk decay. -/
abbrev rD (h : Fin 4) : Rect S4x128x128 :=
  Rect.unit ![h.val, 0, 0] S1x128x128.size (by
    intro a; have := h.isLt; fin_cases a <;> simp [Shape.size, S1x128x128, S4x128x128] <;> omega)
/-- Head `h` of the queries' or keys' decay. -/
abbrev rK (h : Fin 4) : Rect S4x128x512 :=
  Rect.unit ![h.val, 0, 0] S1x128x512.size (by
    intro a; have := h.isLt; fin_cases a <;> simp [Shape.size, S1x128x512, S4x128x512] <;> omega)
/-- Head `h` of the chunk's decay. -/
abbrev rCd (h : Fin 4) : Rect S4x1x512 :=
  Rect.unit ![h.val, 0, 0] S1x1x512.size (by
    intro a; have := h.isLt; fin_cases a <;> simp [Shape.size, S1x1x512, S4x1x512] <;> omega)
/-- Head `h` of the carried state. -/
abbrev rS (h : Fin 4) : Rect S4x256x512 :=
  Rect.unit ![h.val, 0, 0] S1x256x512.size (by
    intro a; have := h.isLt; fin_cases a <;> simp [Shape.size, S1x256x512, S4x256x512] <;> omega)
/-- Head `h`, chunk `ci` of the saved states. -/
abbrev rSt (ci h : Fin 4) : Rect S4x4x256x512 :=
  Rect.unit ![h.val, ci.val, 0, 0] S1x1x256x512.size (by
    intro a; have := h.isLt; have := ci.isLt; fin_cases a <;> simp [Shape.size, S1x1x256x512, S4x4x256x512] <;> omega)

namespace FwdIn

variable (X : FwdIn F)

/-- The rotated queries of a chunk and head. -/
def qr (ci h : Fin 4) : FVec F S128x256 .bf16 :=
  k0_pay5 (View.ld X.cs (rC ci)) (View.ld X.sn (rC ci)) (View.ld X.q (rQ ci h))
/-- The rotated and scaled keys of a chunk and head. -/
def kr (ci h : Fin 4) : FVec F S128x256 .bf16 :=
  k0_pay6 (View.ld X.cs (rC ci)) (View.ld X.sn (rC ci)) (View.ld X.k (rQ ci h))
/-- The state of a head after a chunk, from the state before it. -/
def next (ci h : Fin 4) (s : Vec F S1x256x512 .f32) : Vec F S1x256x512 .f32 :=
  k0_pay10 (X.kr ci h) (View.ld X.v (rV ci h)) (View.ld X.kd (rK h)) (View.ld X.cd (rCd h)) s
/-- The state of a head after the first `n` chunks of the point. -/
def st (h : Fin 4) (s : Vec F S1x256x512 .f32) : ℕ → Vec F S1x256x512 .f32
  | 0 => s
  | n + 1 => X.next (Fin.ofNat 4 n) h (st h s n)
/-- The retention output of a chunk and head, from the state before the chunk. -/
def o (ci h : Fin 4) (s : Vec F S1x256x512 .f32) : FVec F S128x512 .bf16 :=
  k0_pay9 (X.qr ci h) (X.kr ci h) (View.ld X.v (rV ci h)) (k0_pay7 s) (View.ld X.dm (rD h)) (View.ld X.qd (rK h))

end FwdIn

namespace FwdIn

variable (X : FwdIn F)

/-- The carried state after the point, from the one before it. -/
def stOut (s : Vec F S4x256x512 .f32) : Vec F S4x256x512 .f32 := fun y =>
  X.st (y 0) (View.ld s (rS (y 0))) 4 (ValueIdx.ix3 (0 : Fin 1) (y 1) (y 2))
/-- The states the point saves: each head's before each of the four chunks. -/
def sts (s : Vec F S4x256x512 .f32) : Vec F S4x4x256x512 .bf16 := fun y =>
  k0_pay8 (k0_pay7 (X.st (y 0) (View.ld s (rS (y 0))) (y 1).val)) (ValueIdx.ix4 (0 : Fin 1) (0 : Fin 1) (y 2) (y 3))
/-- The raw retention output of a chunk, head, row and column. -/
def outAt (s : Vec F S4x256x512 .f32) (ci h : Fin 4) (r : Fin 128) (e : Fin 512) : Elt F .bf16 :=
  X.o ci h (X.st h (View.ld s (rS h)) ci.val) (ValueIdx.ix2 r e)
/-- The raw retention output of the point. -/
def out (s : Vec F S4x256x512 .f32) : Vec F S512x2048 .bf16 := fun y =>
  X.outAt s ⟨(y 0).val / 128, by have := ValueIdx.idx2_lt0 y; omega⟩ ⟨(y 1).val / 512, by have := ValueIdx.idx2_lt1 y; omega⟩
    ⟨(y 0).val % 128, by omega⟩ ⟨(y 1).val % 512, by omega⟩

/-- `stOut` on a head's block. -/
theorem stOut_emb (s : Vec F S4x256x512 .f32) (h : Fin 4) (x : (rS h).shape.Idx) :
    X.stOut s ((rS h).emb x) = X.st h (View.ld s (rS h)) 4 x := by
  have hx : (x 0).val = 0 := Nat.lt_one_iff.mp (x 0).isLt
  have h0 : (rS h).emb x 0 = h := Fin.ext (by show h.val + 1 * (x 0).val = h.val; omega)
  unfold stOut
  rw [h0]
  congr 1
  funext a
  match a with
  | ⟨0, _⟩ => exact Fin.ext hx.symm
  | ⟨1, _⟩ => exact Fin.ext (by show 0 + 1 * (x 1).val = (x 1).val; omega)
  | ⟨2, _⟩ => exact Fin.ext (by show 0 + 1 * (x 2).val = (x 2).val; omega)

/-- `sts` on a chunk's and head's block. -/
theorem sts_emb (s : Vec F S4x256x512 .f32) (ci h : Fin 4) (x : (rSt ci h).shape.Idx) :
    X.sts s ((rSt ci h).emb x) = k0_pay8 (k0_pay7 (X.st h (View.ld s (rS h)) ci.val)) x := by
  have hx : (x 0).val = 0 := Nat.lt_one_iff.mp (x 0).isLt
  have hx1 : (x 1).val = 0 := Nat.lt_one_iff.mp (x 1).isLt
  have h0 : (rSt ci h).emb x 0 = h := Fin.ext (by show h.val + 1 * (x 0).val = h.val; omega)
  have h1 : (rSt ci h).emb x 1 = ci := Fin.ext (by show ci.val + 1 * (x 1).val = ci.val; omega)
  unfold sts
  rw [h0, h1]
  congr 1
  funext a
  match a with
  | ⟨0, _⟩ => exact Fin.ext hx.symm
  | ⟨1, _⟩ => exact Fin.ext hx1.symm
  | ⟨2, _⟩ => exact Fin.ext (by show 0 + 1 * (x 2).val = (x 2).val; omega)
  | ⟨3, _⟩ => exact Fin.ext (by show 0 + 1 * (x 3).val = (x 3).val; omega)

/-- `out` on a chunk's and head's block. -/
theorem out_emb (s : Vec F S4x256x512 .f32) (ci h : Fin 4) (x : (rV ci h).shape.Idx) :
    X.out s ((rV ci h).emb x) = X.o ci h (X.st h (View.ld s (rS h)) ci.val) x := by
  have hx0 : (x 0).val < 128 := (x 0).isLt
  have hx1 : (x 1).val < 512 := (x 1).isLt
  have e0 : ((rV ci h).emb x 0).val = 128 * ci.val + (x 0).val := by
    show 128 * ci.val + 1 * (x 0).val = _; omega
  have e1 : ((rV ci h).emb x 1).val = 512 * h.val + (x 1).val := by
    show 512 * h.val + 1 * (x 1).val = _; omega
  have d0 : ((rV ci h).emb x 0).val / 128 = ci.val := by omega
  have d1 : ((rV ci h).emb x 1).val / 512 = h.val := by omega
  have m0 : ((rV ci h).emb x 0).val % 128 = (x 0).val := by omega
  have m1 : ((rV ci h).emb x 1).val % 512 = (x 1).val := by omega
  unfold out
  simp only [d0, d1, m0, m1]
  exact congrArg (X.o ci h (X.st h (View.ld s (rS h)) ci.val)) (ValueIdx.eq_ix2 (n0 := 128) (n1 := 512) x).symm

end FwdIn

end Cert.KernelIdeal.Gen

end
-- ==== Proof.FwdDat.lean ====
/-
The forward retention call as a region, from any contents at entry: its blocks, what its scratch carries, its proof data.
-/
module

public import proofs.«01_k».proof.Proof.FwdFns
public import Idealize.ShloMosaic.Lib.Pipeline.FrameBody
public import Idealize.ShloMosaic.Lib.Pipeline.RegionsLoop
public import Idealize.ShloMosaic.Lib.Pipeline.FrameSuffix

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- what the TensorCore's buffers hold when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The blocks the forward body reads at point `t`. -/
def blocks0 (c : Dev nD) (t : Fin cfg0.N) : FwdIn F where
  q := iblk0 V c 0 t
  k := iblk0 V c 1 t
  v := iblk0 V c 2 t
  cs := iblk0 V c 3 t
  sn := iblk0 V c 4 t
  dm := iblk0 V c 5 t
  qd := iblk0 V c 6 t
  kd := iblk0 V c 7 t
  cd := iblk0 V c 8 t

/-- What the carried scratch holds after the first `n` points: zeros, then each point's closed form. -/
def carry0 (c : Dev nD) : ℕ → Vec F S4x256x512 .f32
  | 0 => k0_pay2
  | n + 1 => if h : n < cfg0.N then (blocks0 V c ⟨n, h⟩).stOut (carry0 c n) else carry0 c n

theorem carry0_succ (c : Dev nD) (t : Fin cfg0.N) :
    carry0 V c (t.val + 1) = (blocks0 V c t).stOut (carry0 V c t.val) := dif_pos t.isLt

/-- The scratch, as a memref. -/
abbrev scM0 : Memref sig .tc .vmem S4x256x512 .f32 := Memref.whole cc0_scratch0

/-- Every other scoped buffer at some contents, and the generator register at some state: untouched by the body. -/
def rest0 (c : Dev nD) : sProp 𝕄 :=
  iprop(Pipeline.scopedRestBut (Ix := Unit) (Name := ℕ) (U := UR sig nD τ) (Lvl := ℕ) (Val := Elt F) spec0 c [cc0_scratch0] ∗ (∃ r, prngReg c r))

/-- What the region is entered with, split at the scratch. -/
theorem PhiA0_eq (c : Dev nD) :
    (Pipeline.ΦA spec0 c : sProp 𝕄) = iprop((∃ d, owns (c : Thread nD τ) scM0 fullShare d) ∗ rest0 (F := F) c) := by
  unfold Pipeline.ΦA rest0
  rw [Pipeline.scopedRest_split_of_list spec0 c [cc0_scratch0] (by decide) (by decide)]
  refine ((show ∀ A B C : sProp 𝕄, iprop((A ∗ B) ∗ C) = iprop(A ∗ B ∗ C) from fun A B C => equiv_iff.mp ⟨Idealize.SL.BI.sep_assoc, Idealize.SL.BI.sep_assoc'⟩) _ _ _).trans ?_
  simp only [scM0, owns_whole]
  rfl

/-- The invariant before position `n`: at the first what the region is entered with, later the scratch at `carry0`. -/
def PhiS0 (c : Dev nD) : ℕ → sProp 𝕄
  | 0 => Pipeline.ΦA spec0 c
  | n + 1 => iprop(owns (c : Thread nD τ) scM0 fullShare (carry0 V c (n + 1)) ∗ rest0 (F := F) c)

theorem PhiS0_pos (c : Dev nD) (n : ℕ) (hz : n ≠ 0) :
    PhiS0 V c n = iprop(owns (c : Thread nD τ) scM0 fullShare (carry0 V c n) ∗ rest0 (F := F) c) := by
  cases n with
  | zero => exact absurd rfl hz
  | succ n => rfl

/-- The forward region's proof data: the arrays as entered; after the body at `t` each input's buffer at its block and
    each output's at its closed form; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => (blocks0 V c t).out (carry0 V c t.val)
    | ⟨10, _⟩ => (blocks0 V c t).sts (carry0 V c t.val)
  Φ t := PhiS0 V c t.val
  q w := Pipeline.shareOf spec0 w
  owed _ := 0

theorem A_eq0 (c : Dev nD) (w : Fin cfg0.W) : (dat0 V c).A w = V c (Pipeline.arrRef spec0 w) := by
  dsimp only [dat0]

/-! What the body leaves in each window's buffer. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = (blocks0 V c t).out (carry0 V c t.val) := by
  dsimp only [dat0]
theorem after0_10 (c : Dev nD) (t : Fin cfg0.N) : (dat0 V c).after 10 t = (blocks0 V c t).sts (carry0 V c t.val) := by
  dsimp only [dat0]

/-! Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)

end

end Cert.KernelIdeal.Gen

end
-- ==== Proof.FwdValA.lean ====
/-
What the forward body leaves in each buffer (first point): the pieces of its stores read back as the closed form.
-/
module

public import proofs.«01_k».proof.Proof.FwdFns

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x2048 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S4x128x128 .f32) (harg6 : arg6.IsWhole) (arg7 : Memref sig .tc .vmem S4x128x512 .f32) (harg7 : arg7.IsWhole) (arg8 : Memref sig .tc .vmem S4x128x512 .f32) (harg8 : arg8.IsWhole) (arg9 : Memref sig .tc .vmem S4x1x512 .f32) (harg9 : arg9.IsWhole) (arg10 : Memref sig .tc .vmem S512x2048 .bf16) (harg10 : arg10.IsWhole) (arg11 : Memref sig .tc .vmem S4x4x256x512 .bf16) (harg11 : arg11.IsWhole) (arg12 : Memref sig .tc .vmem S4x256x512 .f32) (harg12 : arg12.IsWhole)
  (X : FwdIn F)

/-- The carried state at the first point: the pieces of the body's stores leave `stOut`. -/
theorem fwdA_state (hc0 : cond0_0 i) (f) :
    arg12.view.read (Elt F) (arg12.view.writes (Elt F) f (fwdRunA c i arg1 harg1 arg2 harg2 arg3 harg3 arg4 harg4 arg5 harg5 arg6 harg6 arg7 harg7 arg8 harg8 arg9 harg9 arg10 harg10 arg11 harg11 arg12 harg12 hc0 X.q X.k X.v X.cs X.sn X.dm X.qd X.kd X.cd).2.2.1) = X.stOut k0_pay2 := by
  refine (View.read_writes_eq_canon _ f _ (fun y => View.cover_of_wholeMem _ (by sl_whole_mem) y)).trans ?_
  have hL : ∃ L, (fwdRunA c i arg1 harg1 arg2 harg2 arg3 harg3 arg4 harg4 arg5 harg5 arg6 harg6 arg7 harg7 arg8 harg8 arg9 harg9 arg10 harg10 arg11 harg11 arg12 harg12 hc0 X.q X.k X.v X.cs X.sn X.dm X.qd X.kd X.cd).2.2.1
      = [⟨rS 3, X.st 3 (View.ld k0_pay2 (rS 3)) 4⟩, ⟨rS 2, X.st 2 (View.ld k0_pay2 (rS 2)) 4⟩, ⟨rS 1, X.st 1 (View.ld k0_pay2 (rS 1)) 4⟩, ⟨rS 0, X.st 0 (View.ld k0_pay2 (rS 0)) 4⟩] ++ L := by
    frame_open
    simp (disch := decide) only [View.readAt_eq_ld, Memref.IsWhole.read_unread, View.readCov_cons_toLoadRect, View.readCov_skip, View.readCov_fill]
    exact ⟨_, rfl⟩
  obtain ⟨L, hL⟩ := hL
  rw [hL]
  have hP : View.PiecesOf (X.stOut k0_pay2) [⟨rS 3, X.st 3 (View.ld k0_pay2 (rS 3)) 4⟩, ⟨rS 2, X.st 2 (View.ld k0_pay2 (rS 2)) 4⟩, ⟨rS 1, X.st 1 (View.ld k0_pay2 (rS 1)) 4⟩, ⟨rS 0, X.st 0 (View.ld k0_pay2 (rS 0)) 4⟩] :=
    ⟨fun x => (X.stOut_emb k0_pay2 3 x).symm, fun x => (X.stOut_emb k0_pay2 2 x).symm, fun x => (X.stOut_emb k0_pay2 1 x).symm, fun x => (X.stOut_emb k0_pay2 0 x).symm, trivial⟩
  funext y
  exact View.canon_append_of_piecesOf (X.stOut k0_pay2) L _ hP y (View.cover_of_tiledL (s := S4x256x512) _ S1x256x512.size (by sl_kernel_rfl) y)

/-- The saved states at the first point. -/
theorem fwdA_sts (hc0 : cond0_0 i) (f) :
    arg11.view.read (Elt F) (arg11.view.writes (Elt F) f (fwdRunA c i arg1 harg1 arg2 harg2 arg3 harg3 arg4 harg4 arg5 harg5 arg6 harg6 arg7 harg7 arg8 harg8 arg9 harg9 arg10 harg10 arg11 harg11 arg12 harg12 hc0 X.q X.k X.v X.cs X.sn X.dm X.qd X.kd X.cd).2.1) = X.sts k0_pay2 := by
  refine (View.read_writes_eq_canon _ f _ (fun y => View.cover_of_tiledL (s := S4x4x256x512) _ S1x1x256x512.size (by sl_kernel_rfl) y)).trans ?_
  have hP : View.PiecesOf (X.sts k0_pay2) (fwdRunA c i arg1 harg1 arg2 harg2 arg3 harg3 arg4 harg4 arg5 harg5 arg6 harg6 arg7 harg7 arg8 harg8 arg9 harg9 arg10 harg10 arg11 harg11 arg12 harg12 hc0 X.q X.k X.v X.cs X.sn X.dm X.qd X.kd X.cd).2.1 := by
    frame_open
    simp (disch := decide) only [View.readAt_eq_ld, Memref.IsWhole.read_unread, View.readCov_cons_toLoadRect, View.readCov_skip, View.readCov_fill]
    exact ⟨fun x => (X.sts_emb k0_pay2 3 3 x).symm, fun x => (X.sts_emb k0_pay2 3 2 x).symm, fun x => (X.sts_emb k0_pay2 3 1 x).symm, fun x => (X.sts_emb k0_pay2 3 0 x).symm, fun x => (X.sts_emb k0_pay2 2 3 x).symm, fun x => (X.sts_emb k0_pay2 2 2 x).symm, fun x => (X.sts_emb k0_pay2 2 1 x).symm, fun x => (X.sts_emb k0_pay2 2 0 x).symm, fun x => (X.sts_emb k0_pay2 1 3 x).symm, fun x => (X.sts_emb k0_pay2 1 2 x).symm, fun x => (X.sts_emb k0_pay2 1 1 x).symm, fun x => (X.sts_emb k0_pay2 1 0 x).symm, fun x => (X.sts_emb k0_pay2 0 3 x).symm, fun x => (X.sts_emb k0_pay2 0 2 x).symm, fun x => (X.sts_emb k0_pay2 0 1 x).symm, fun x => (X.sts_emb k0_pay2 0 0 x).symm, trivial⟩
  funext y
  exact (congrArg (fun L => View.canon L y) (List.append_nil _).symm).trans
    (View.canon_append_of_piecesOf (X.sts k0_pay2) [] _ hP y (View.cover_of_tiledL (s := S4x4x256x512) _ S1x1x256x512.size (by sl_kernel_rfl) y))

/-- The raw retention output at the first point. -/
theorem fwdA_out (hc0 : cond0_0 i) (f) :
    arg10.view.read (Elt F) (arg10.view.writes (Elt F) f (fwdRunA c i arg1 harg1 arg2 harg2 arg3 harg3 arg4 harg4 arg5 harg5 arg6 harg6 arg7 harg7 arg8 harg8 arg9 harg9 arg10 harg10 arg11 harg11 arg12 harg12 hc0 X.q X.k X.v X.cs X.sn X.dm X.qd X.kd X.cd).1) = X.out k0_pay2 := by
  refine (View.read_writes_eq_canon _ f _ (fun y => View.cover_of_tiledL (s := S512x2048) _ S128x512.size (by sl_kernel_rfl) y)).trans ?_
  have hP : View.PiecesOf (X.out k0_pay2) (fwdRunA c i arg1 harg1 arg2 harg2 arg3 harg3 arg4 harg4 arg5 harg5 arg6 harg6 arg7 harg7 arg8 harg8 arg9 harg9 arg10 harg10 arg11 harg11 arg12 harg12 hc0 X.q X.k X.v X.cs X.sn X.dm X.qd X.kd X.cd).1 := by
    frame_open
    simp (disch := decide) only [View.readAt_eq_ld, Memref.IsWhole.read_unread, View.readCov_cons_toLoadRect, View.readCov_skip, View.readCov_fill]
    exact ⟨fun x => (X.out_emb k0_pay2 3 3 x).symm, fun x => (X.out_emb k0_pay2 3 2 x).symm, fun x => (X.out_emb k0_pay2 3 1 x).symm, fun x => (X.out_emb k0_pay2 3 0 x).symm, fun x => (X.out_emb k0_pay2 2 3 x).symm, fun x => (X.out_emb k0_pay2 2 2 x).symm, fun x => (X.out_emb k0_pay2 2 1 x).symm, fun x => (X.out_emb k0_pay2 2 0 x).symm, fun x => (X.out_emb k0_pay2 1 3 x).symm, fun x => (X.out_emb k0_pay2 1 2 x).symm, fun x => (X.out_emb k0_pay2 1 1 x).symm, fun x => (X.out_emb k0_pay2 1 0 x).symm, fun x => (X.out_emb k0_pay2 0 3 x).symm, fun x => (X.out_emb k0_pay2 0 2 x).symm, fun x => (X.out_emb k0_pay2 0 1 x).symm, fun x => (X.out_emb k0_pay2 0 0 x).symm, trivial⟩
  funext y
  exact (congrArg (fun L => View.canon L y) (List.append_nil _).symm).trans
    (View.canon_append_of_piecesOf (X.out k0_pay2) [] _ hP y (View.cover_of_tiledL (s := S512x2048) _ S128x512.size (by sl_kernel_rfl) y))

end Cert.KernelIdeal.Gen

end
-- ==== Proof.FwdValB.lean ====
/-
What the forward body leaves in each buffer (later points): the pieces of its stores read back as the closed form.
-/
module

public import proofs.«01_k».proof.Proof.FwdFns

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x2048 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S4x128x128 .f32) (harg6 : arg6.IsWhole) (arg7 : Memref sig .tc .vmem S4x128x512 .f32) (harg7 : arg7.IsWhole) (arg8 : Memref sig .tc .vmem S4x128x512 .f32) (harg8 : arg8.IsWhole) (arg9 : Memref sig .tc .vmem S4x1x512 .f32) (harg9 : arg9.IsWhole) (arg10 : Memref sig .tc .vmem S512x2048 .bf16) (harg10 : arg10.IsWhole) (arg11 : Memref sig .tc .vmem S4x4x256x512 .bf16) (harg11 : arg11.IsWhole) (arg12 : Memref sig .tc .vmem S4x256x512 .f32) (harg12 : arg12.IsWhole)
  (X : FwdIn F)

/-- The carried state at a later point: the pieces of the body's stores leave `stOut`. -/
theorem fwdB_state (hc0 : ¬cond0_0 i) (s : Vec F S4x256x512 .f32) (f) :
    arg12.view.read (Elt F) (arg12.view.writes (Elt F) f (fwdRunB c i arg1 harg1 arg2 harg2 arg3 harg3 arg4 harg4 arg5 harg5 arg6 harg6 arg7 harg7 arg8 harg8 arg9 harg9 arg10 harg10 arg11 harg11 arg12 harg12 hc0 X.q X.k X.v X.cs X.sn X.dm X.qd X.kd X.cd s).2.2.1) = X.stOut s := by
  refine (View.read_writes_eq_canon _ f _ (fun y => View.cover_of_tiledL (s := S4x256x512) _ S1x256x512.size (by sl_kernel_rfl) y)).trans ?_
  have hL : ∃ L, (fwdRunB c i arg1 harg1 arg2 harg2 arg3 harg3 arg4 harg4 arg5 harg5 arg6 harg6 arg7 harg7 arg8 harg8 arg9 harg9 arg10 harg10 arg11 harg11 arg12 harg12 hc0 X.q X.k X.v X.cs X.sn X.dm X.qd X.kd X.cd s).2.2.1
      = [⟨rS 3, X.st 3 (View.ld s (rS 3)) 4⟩, ⟨rS 2, X.st 2 (View.ld s (rS 2)) 4⟩, ⟨rS 1, X.st 1 (View.ld s (rS 1)) 4⟩, ⟨rS 0, X.st 0 (View.ld s (rS 0)) 4⟩] ++ L := by
    frame_open
    simp (disch := decide) only [View.readAt_eq_ld, Memref.IsWhole.read_unread, View.readCov_cons_toLoadRect, View.readCov_skip, View.readCov_fill]
    exact ⟨_, rfl⟩
  obtain ⟨L, hL⟩ := hL
  rw [hL]
  have hP : View.PiecesOf (X.stOut s) [⟨rS 3, X.st 3 (View.ld s (rS 3)) 4⟩, ⟨rS 2, X.st 2 (View.ld s (rS 2)) 4⟩, ⟨rS 1, X.st 1 (View.ld s (rS 1)) 4⟩, ⟨rS 0, X.st 0 (View.ld s (rS 0)) 4⟩] :=
    ⟨fun x => (X.stOut_emb s 3 x).symm, fun x => (X.stOut_emb s 2 x).symm, fun x => (X.stOut_emb s 1 x).symm, fun x => (X.stOut_emb s 0 x).symm, trivial⟩
  funext y
  exact View.canon_append_of_piecesOf (X.stOut s) L _ hP y (View.cover_of_tiledL (s := S4x256x512) _ S1x256x512.size (by sl_kernel_rfl) y)

/-- The saved states at a later point. -/
theorem fwdB_sts (hc0 : ¬cond0_0 i) (s : Vec F S4x256x512 .f32) (f) :
    arg11.view.read (Elt F) (arg11.view.writes (Elt F) f (fwdRunB c i arg1 harg1 arg2 harg2 arg3 harg3 arg4 harg4 arg5 harg5 arg6 harg6 arg7 harg7 arg8 harg8 arg9 harg9 arg10 harg10 arg11 harg11 arg12 harg12 hc0 X.q X.k X.v X.cs X.sn X.dm X.qd X.kd X.cd s).2.1) = X.sts s := by
  refine (View.read_writes_eq_canon _ f _ (fun y => View.cover_of_tiledL (s := S4x4x256x512) _ S1x1x256x512.size (by sl_kernel_rfl) y)).trans ?_
  have hP : View.PiecesOf (X.sts s) (fwdRunB c i arg1 harg1 arg2 harg2 arg3 harg3 arg4 harg4 arg5 harg5 arg6 harg6 arg7 harg7 arg8 harg8 arg9 harg9 arg10 harg10 arg11 harg11 arg12 harg12 hc0 X.q X.k X.v X.cs X.sn X.dm X.qd X.kd X.cd s).2.1 := by
    frame_open
    simp (disch := decide) only [View.readAt_eq_ld, Memref.IsWhole.read_unread, View.readCov_cons_toLoadRect, View.readCov_skip, View.readCov_fill]
    exact ⟨fun x => (X.sts_emb s 3 3 x).symm, fun x => (X.sts_emb s 3 2 x).symm, fun x => (X.sts_emb s 3 1 x).symm, fun x => (X.sts_emb s 3 0 x).symm, fun x => (X.sts_emb s 2 3 x).symm, fun x => (X.sts_emb s 2 2 x).symm, fun x => (X.sts_emb s 2 1 x).symm, fun x => (X.sts_emb s 2 0 x).symm, fun x => (X.sts_emb s 1 3 x).symm, fun x => (X.sts_emb s 1 2 x).symm, fun x => (X.sts_emb s 1 1 x).symm, fun x => (X.sts_emb s 1 0 x).symm, fun x => (X.sts_emb s 0 3 x).symm, fun x => (X.sts_emb s 0 2 x).symm, fun x => (X.sts_emb s 0 1 x).symm, fun x => (X.sts_emb s 0 0 x).symm, trivial⟩
  funext y
  exact (congrArg (fun L => View.canon L y) (List.append_nil _).symm).trans
    (View.canon_append_of_piecesOf (X.sts s) [] _ hP y (View.cover_of_tiledL (s := S4x4x256x512) _ S1x1x256x512.size (by sl_kernel_rfl) y))

/-- The raw retention output at a later point. -/
theorem fwdB_out (hc0 : ¬cond0_0 i) (s : Vec F S4x256x512 .f32) (f) :
    arg10.view.read (Elt F) (arg10.view.writes (Elt F) f (fwdRunB c i arg1 harg1 arg2 harg2 arg3 harg3 arg4 harg4 arg5 harg5 arg6 harg6 arg7 harg7 arg8 harg8 arg9 harg9 arg10 harg10 arg11 harg11 arg12 harg12 hc0 X.q X.k X.v X.cs X.sn X.dm X.qd X.kd X.cd s).1) = X.out s := by
  refine (View.read_writes_eq_canon _ f _ (fun y => View.cover_of_tiledL (s := S512x2048) _ S128x512.size (by sl_kernel_rfl) y)).trans ?_
  have hP : View.PiecesOf (X.out s) (fwdRunB c i arg1 harg1 arg2 harg2 arg3 harg3 arg4 harg4 arg5 harg5 arg6 harg6 arg7 harg7 arg8 harg8 arg9 harg9 arg10 harg10 arg11 harg11 arg12 harg12 hc0 X.q X.k X.v X.cs X.sn X.dm X.qd X.kd X.cd s).1 := by
    frame_open
    simp (disch := decide) only [View.readAt_eq_ld, Memref.IsWhole.read_unread, View.readCov_cons_toLoadRect, View.readCov_skip, View.readCov_fill]
    exact ⟨fun x => (X.out_emb s 3 3 x).symm, fun x => (X.out_emb s 3 2 x).symm, fun x => (X.out_emb s 3 1 x).symm, fun x => (X.out_emb s 3 0 x).symm, fun x => (X.out_emb s 2 3 x).symm, fun x => (X.out_emb s 2 2 x).symm, fun x => (X.out_emb s 2 1 x).symm, fun x => (X.out_emb s 2 0 x).symm, fun x => (X.out_emb s 1 3 x).symm, fun x => (X.out_emb s 1 2 x).symm, fun x => (X.out_emb s 1 1 x).symm, fun x => (X.out_emb s 1 0 x).symm, fun x => (X.out_emb s 0 3 x).symm, fun x => (X.out_emb s 0 2 x).symm, fun x => (X.out_emb s 0 1 x).symm, fun x => (X.out_emb s 0 0 x).symm, trivial⟩
  funext y
  exact (congrArg (fun L => View.canon L y) (List.append_nil _).symm).trans
    (View.canon_append_of_piecesOf (X.out s) [] _ hP y (View.cover_of_tiledL (s := S512x2048) _ S128x512.size (by sl_kernel_rfl) y))

end Cert.KernelIdeal.Gen

end
-- ==== Proof.FwdRegion.lean ====
/-
The obligation of the forward retention call's body, at every point.
-/
module

public import proofs.«01_k».proof.Proof.FwdDat
public import proofs.«01_k».proof.Proof.FwdValA
public import proofs.«01_k».proof.Proof.FwdValB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- what the TensorCore's buffers hold when the region is entered
variable (V : (c : Dev nD) → (b : Ref sig .tc) → Buf (Elt F) ((c : Thread nD τ).loc b))

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d))
    ∗ (∃ d, owns (c : Thread nD τ) (win0_4.stage (cfg0.slots t 4)) fullShare ((dat0 V c).before 4 t d))
    ∗ (∃ d, owns (c : Thread nD τ) (win0_5.stage (cfg0.slots t 5)) fullShare ((dat0 V c).before 5 t d))
    ∗ (∃ d, owns (c : Thread nD τ) (win0_6.stage (cfg0.slots t 6)) fullShare ((dat0 V c).before 6 t d))
    ∗ (∃ d, owns (c : Thread nD τ) (win0_7.stage (cfg0.slots t 7)) fullShare ((dat0 V c).before 7 t d))
    ∗ (∃ d, owns (c : Thread nD τ) (win0_8.stage (cfg0.slots t 8)) fullShare ((dat0 V c).before 8 t d))
    ∗ (∃ d, owns (c : Thread nD τ) (win0_9.stage (cfg0.slots t 9)) fullShare ((dat0 V c).before 9 t d))
    ∗ (∃ d, owns (c : Thread nD τ) (win0_10.stage (cfg0.slots t 10)) fullShare ((dat0 V c).before 10 t d)))

/-- What it returns. -/
def bodyPost0 (c : Dev nD) (t : Fin cfg0.N) : sProp 𝕄 :=
  iprop((dat0 V c).Φ t.succ ∗ (dat0 V c).owesAt () t.succ
    ∗ owns (c : Thread nD τ) (win0_0.stage (cfg0.slots t 0)) fullShare ((dat0 V c).after 0 t)
    ∗ owns (c : Thread nD τ) (win0_1.stage (cfg0.slots t 1)) fullShare ((dat0 V c).after 1 t)
    ∗ owns (c : Thread nD τ) (win0_2.stage (cfg0.slots t 2)) fullShare ((dat0 V c).after 2 t)
    ∗ owns (c : Thread nD τ) (win0_3.stage (cfg0.slots t 3)) fullShare ((dat0 V c).after 3 t)
    ∗ owns (c : Thread nD τ) (win0_4.stage (cfg0.slots t 4)) fullShare ((dat0 V c).after 4 t)
    ∗ owns (c : Thread nD τ) (win0_5.stage (cfg0.slots t 5)) fullShare ((dat0 V c).after 5 t)
    ∗ owns (c : Thread nD τ) (win0_6.stage (cfg0.slots t 6)) fullShare ((dat0 V c).after 6 t)
    ∗ owns (c : Thread nD τ) (win0_7.stage (cfg0.slots t 7)) fullShare ((dat0 V c).after 7 t)
    ∗ owns (c : Thread nD τ) (win0_8.stage (cfg0.slots t 8)) fullShare ((dat0 V c).after 8 t)
    ∗ owns (c : Thread nD τ) (win0_9.stage (cfg0.slots t 9)) fullShare ((dat0 V c).after 9 t)
    ∗ owns (c : Thread nD τ) (win0_10.stage (cfg0.slots t 10)) fullShare ((dat0 V c).after 10 t))

set_option maxHeartbeats 9600000 in
/-- The body at any point: the inputs' buffers hold their blocks, the scratch what the points before left; the body leaves
    the closed forms. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl,
    after0_0, after0_1, after0_2, after0_3, after0_4, after0_5, after0_6, after0_7, after0_8, after0_9, after0_10]
  rw [show (dat0 V c).Φ t.succ = PhiS0 V c (t.val + 1) from rfl, PhiS0_pos V c (t.val + 1) (Nat.succ_ne_zero _), carry0_succ]
  rw [show (dat0 V c).Φ t.castSucc = PhiS0 V c t.val from rfl]
  have hN : t.val < 16 := lt_of_lt_of_eq t.isLt (show cfg0.N = 16 from N_0)
  by_cases h0 : t.val % 16 = 0
  · have hz : t.val = 0 := by omega
    rw [hz, show PhiS0 V c 0 = Pipeline.ΦA spec0 c from rfl, show carry0 V c 0 = k0_pay2 from rfl, PhiA0_eq]
    on_goal 1 =>
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((fwdRunA c (grid0.coords t) _ _ _ _ _ _ _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      iintro ⟨H0, H1, H2, H3, H4, H5, H6, H7, H8, ⟨%e9, H9⟩, ⟨%e10, H10⟩, ⟨%es0, HS0⟩⟩
      isplitl [HS0 Hg]
      · isplitl [HS0]
        · unfold owns; iexists _; isplitr
          swap; · iexact HS0
          ipureintro
          exact fwdA_state c (grid0.coords t) _ _ _ _ _ _ _ _ _ _ _ _ _ _ _ _ _ _ _ _ _ _ _ _ (blocks0 V c t) ((hcond0_0 t).mpr h0) _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact fwdA_out c (grid0.coords t) _ _ _ _ _ _ _ _ _ _ _ _ _ _ _ _ _ _ _ _ _ _ _ _ (blocks0 V c t) ((hcond0_0 t).mpr h0) _
      unfold owns; iexists _; isplitr
      swap; · iexact H10
      ipureintro; exact fwdA_sts c (grid0.coords t) _ _ _ _ _ _ _ _ _ _ _ _ _ _ _ _ _ _ _ _ _ _ _ _ (blocks0 V c t) ((hcond0_0 t).mpr h0) _
  · have hz : t.val ≠ 0 := by omega
    rw [PhiS0_pos V c t.val hz]
    on_goal 1 =>
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((fwdRunB c (grid0.coords t) _ _ _ _ _ _ _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (carry0 V c t.val)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      iintro ⟨H0, H1, H2, H3, H4, H5, H6, H7, H8, ⟨%e9, H9⟩, ⟨%e10, H10⟩, ⟨%es0, HS0⟩⟩
      isplitl [HS0 Hg]
      · isplitl [HS0]
        · unfold owns; iexists _; isplitr
          swap; · iexact HS0
          ipureintro
          exact fwdB_state c (grid0.coords t) _ _ _ _ _ _ _ _ _ _ _ _ _ _ _ _ _ _ _ _ _ _ _ _ (blocks0 V c t) (fun h => h0 ((hcond0_0 t).mp h)) (carry0 V c t.val) _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact fwdB_out c (grid0.coords t) _ _ _ _ _ _ _ _ _ _ _ _ _ _ _ _ _ _ _ _ _ _ _ _ (blocks0 V c t) (fun h => h0 ((hcond0_0 t).mp h)) (carry0 V c t.val) _
      unfold owns; iexists _; isplitr
      swap; · iexact H10
      ipureintro; exact fwdB_sts c (grid0.coords t) _ _ _ _ _ _ _ _ _ _ _ _ _ _ _ _ _ _ _ _ _ _ _ _ (blocks0 V c t) (fun h => h0 ((hcond0_0 t).mp h)) (carry0 V c t.val) _

/-- The body table's row at point `t`'s slots is the body. -/
theorem defs₀_row0 (t : Fin cfg0.N) :
    defs₀ (F := F) .tc cfg0.body (cfg0.bodyArgs t (cfg0.slots t)) = bodyAt0 t := by
  unfold defs₀; rw [Defs.onTc_tc]

/-- The pipeline's obligation for its body, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- After the last point the scratch's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val from rfl,
    PhiS0_pos V c _ (by rw [Fin.val_last]; have : cfg0.N = 16 := N_0; omega), PhiA0_eq]
  iintro ⟨HS0, Hg⟩
  isplitl [HS0]
  · iexists _; iexact HS0
  iexact Hg

end

end Cert.KernelIdeal.Gen

end
-- ==== Proof.BwdRunA.lean ====
/-
The run of the backward retention kernel's body, case A: the pieces its stores leave in each buffer.
-/
module

public import proofs.«01_k».proof.Proof.RegionBase

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1688000 in
/-- The backward body at the first point, where the carried gradient of the state is set to zero first:
    run on whole staging memrefs it leaves its inputs as they were and each buffer it stores into with the pieces
    named here (last first): `L11` the gradients' block, `LS0` the carried gradient of the state. -/
noncomputable def bwdRunA (c : Dev nD) (i : grid1.Coords) (arg1 : Memref sig .tc .vmem S512x1024 .bf16) (harg1 : arg1.IsWhole) (arg2 : Memref sig .tc .vmem S512x1024 .bf16) (harg2 : arg2.IsWhole) (arg3 : Memref sig .tc .vmem S512x2048 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S4x128x128 .f32) (harg6 : arg6.IsWhole) (arg7 : Memref sig .tc .vmem S4x128x512 .f32) (harg7 : arg7.IsWhole) (arg8 : Memref sig .tc .vmem S4x128x512 .f32) (harg8 : arg8.IsWhole) (arg9 : Memref sig .tc .vmem S4x1x512 .f32) (harg9 : arg9.IsWhole) (arg10 : Memref sig .tc .vmem S4x4x256x512 .bf16) (harg10 : arg10.IsWhole) (arg11 : Memref sig .tc .vmem S512x2048 .bf16) (harg11 : arg11.IsWhole) (arg13 : Memref sig .tc .vmem S512x4096 .bf16) (harg13 : arg13.IsWhole) (arg14 : Memref sig .tc .vmem S4x256x512 .f32) (harg14 : arg14.IsWhole) (hc0 : cond1_0 i)
    (x0 : Vec F S512x1024 .bf16) (x1 : Vec F S512x1024 .bf16) (x2 : Vec F S512x2048 .bf16) (x3 : Vec F S512x128 .f32) (x4 : Vec F S512x128 .f32) (x5 : Vec F S4x128x128 .f32) (x6 : Vec F S4x128x512 .f32) (x7 : Vec F S4x128x512 .f32) (x8 : Vec F S4x1x512 .f32) (x9 : Vec F S4x4x256x512 .bf16) (x10 : Vec F S512x2048 .bf16) :
    Σ' (L11 : List (View.Piece (Elt F) S512x4096 .bf16)), { LS0 : List (View.Piece (Elt F) S4x256x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0)) -∗ K ⟨⟩))
          ⊢ wp frame (wpE (defs₀ (F := F)) Variants.none c none) E (cc1_ret_bwd i arg1 harg1 arg2 harg2 arg3 harg3 arg4 harg4 arg5 harg5 arg6 harg6 arg7 harg7 arg8 harg8 arg9 harg9 arg10 harg10 arg11 harg11 (Memref.whole main_arg3) (Memref.isWhole_whole _) arg13 harg13 arg14 harg14) K } := by
  refine ⟨?_, ?_, fun E K => ?run⟩
  case run =>
    simp only [cc1_ret_bwd_eq_skeleton]; unfold cc1_ret_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    iexists _; iexact HS0

end Cert.KernelIdeal.Gen

end
-- ==== Proof.BwdRunB.lean ====
/-
The run of the backward retention kernel's body, case B: the pieces its stores leave in each buffer.
-/
module

public import proofs.«01_k».proof.Proof.BwdRunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1676000 in
/-- The backward body at a later point, where the carried gradient is what the point before left:
    run on whole staging memrefs it leaves its inputs as they were and each buffer it stores into with the pieces
    named here (last first): `L11` the gradients' block, `LS0` the carried gradient of the state. -/
noncomputable def bwdRunB (c : Dev nD) (i : grid1.Coords) (arg1 : Memref sig .tc .vmem S512x1024 .bf16) (harg1 : arg1.IsWhole) (arg2 : Memref sig .tc .vmem S512x1024 .bf16) (harg2 : arg2.IsWhole) (arg3 : Memref sig .tc .vmem S512x2048 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S4x128x128 .f32) (harg6 : arg6.IsWhole) (arg7 : Memref sig .tc .vmem S4x128x512 .f32) (harg7 : arg7.IsWhole) (arg8 : Memref sig .tc .vmem S4x128x512 .f32) (harg8 : arg8.IsWhole) (arg9 : Memref sig .tc .vmem S4x1x512 .f32) (harg9 : arg9.IsWhole) (arg10 : Memref sig .tc .vmem S4x4x256x512 .bf16) (harg10 : arg10.IsWhole) (arg11 : Memref sig .tc .vmem S512x2048 .bf16) (harg11 : arg11.IsWhole) (arg13 : Memref sig .tc .vmem S512x4096 .bf16) (harg13 : arg13.IsWhole) (arg14 : Memref sig .tc .vmem S4x256x512 .f32) (harg14 : arg14.IsWhole) (hc0 : ¬cond1_0 i)
    (x0 : Vec F S512x1024 .bf16) (x1 : Vec F S512x1024 .bf16) (x2 : Vec F S512x2048 .bf16) (x3 : Vec F S512x128 .f32) (x4 : Vec F S512x128 .f32) (x5 : Vec F S4x128x128 .f32) (x6 : Vec F S4x128x512 .f32) (x7 : Vec F S4x128x512 .f32) (x8 : Vec F S4x1x512 .f32) (x9 : Vec F S4x4x256x512 .bf16) (x10 : Vec F S512x2048 .bf16) (xs0 : Vec F S4x256x512 .f32) :
    Σ' (L11 : List (View.Piece (Elt F) S512x4096 .bf16)), { LS0 : List (View.Piece (Elt F) S4x256x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg13 fullShare d) ∗ owns (c : Thread nD τ) arg14 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0)) -∗ K ⟨⟩))
          ⊢ wp frame (wpE (defs₀ (F := F)) Variants.none c none) E (cc1_ret_bwd i arg1 harg1 arg2 harg2 arg3 harg3 arg4 harg4 arg5 harg5 arg6 harg6 arg7 harg7 arg8 harg8 arg9 harg9 arg10 harg10 arg11 harg11 (Memref.whole main_arg3) (Memref.isWhole_whole _) arg13 harg13 arg14 harg14) K } := by
  refine ⟨?_, ?_, fun E K => ?run⟩
  case run =>
    simp only [cc1_ret_bwd_eq_skeleton]; unfold cc1_ret_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg14.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    iexists _; iexact HS0

end Cert.KernelIdeal.Gen

end
-- ==== Proof.BwdFns.lean ====
/-
The backward retention kernel's point in closed form: what one chunk of one head computes from its blocks and the gradient of the state after it.
-/
module

public import proofs.«01_k».proof.Proof.BwdRunB
public import proofs.«01_k».proof.Proof.FwdFns

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The input blocks of one point of the backward grid: four chunks of queries, keys, values, the rotation's cosines
    and sines, the four decay tables, the saved states and the gradient of the output. -/
structure BwdIn (F : FTy → Type) where
  q : Vec F S512x1024 .bf16
  k : Vec F S512x1024 .bf16
  v : Vec F S512x2048 .bf16
  cs : Vec F S512x128 .f32
  sn : Vec F S512x128 .f32
  dm : Vec F S4x128x128 .f32
  qd : Vec F S4x128x512 .f32
  kd : Vec F S4x128x512 .f32
  cd : Vec F S4x1x512 .f32
  st : Vec F S4x4x256x512 .bf16
  dO : Vec F S512x2048 .bf16

/-- Chunk `ci`, head `h` of the block of gradients: the queries' columns. -/
abbrev rGQ (ci h : Fin 4) : Rect S512x4096 :=
  Rect.unit ![128 * ci.val, 256 * h.val] S128x256.size (by
    intro a; have := ci.isLt; have := h.isLt; fin_cases a <;> simp [Shape.size, S128x256, S512x4096] <;> omega)
/-- Chunk `ci`, head `h` of the block of gradients: the keys' columns. -/
abbrev rGK (ci h : Fin 4) : Rect S512x4096 :=
  Rect.unit ![128 * ci.val, 1024 + 256 * h.val] S128x256.size (by
    intro a; have := ci.isLt; have := h.isLt; fin_cases a <;> simp [Shape.size, S128x256, S512x4096] <;> omega)
/-- Chunk `ci`, head `h` of the block of gradients: the values' columns. -/
abbrev rGV (ci h : Fin 4) : Rect S512x4096 :=
  Rect.unit ![128 * ci.val, 2048 + 512 * h.val] S128x512.size (by
    intro a; have := ci.isLt; have := h.isLt; fin_cases a <;> simp [Shape.size, S128x512, S512x4096] <;> omega)

namespace BwdIn

variable (X : BwdIn F)

/-- The rotated queries of a chunk and head. -/
def qr (ci h : Fin 4) : FVec F S128x256 .bf16 :=
  k1_pay5 (View.ld X.cs (rC ci)) (View.ld X.sn (rC ci)) (View.ld X.q (rQ ci h))
/-- The rotated and scaled keys of a chunk and head. -/
def kr (ci h : Fin 4) : FVec F S128x256 .bf16 :=
  k1_pay6 (View.ld X.cs (rC ci)) (View.ld X.sn (rC ci)) (View.ld X.k (rQ ci h))
/-- The gradient of a head's state before a chunk, from the gradient of the state after it. -/
def next (ci h : Fin 4) (s : Vec F S1x256x512 .f32) : Vec F S1x256x512 .f32 :=
  k1_pay21 (X.qr ci h) (k1_pay10 (View.ld X.dO (rV ci h)) (View.ld X.qd (rK h))) (View.ld X.cd (rCd h)) s
/-- The gradient of a head's state after the last `n` chunks of the point are done. -/
def dst (h : Fin 4) (s : Vec F S1x256x512 .f32) : ℕ → Vec F S1x256x512 .f32
  | 0 => s
  | n + 1 => X.next (Fin.ofNat 4 (3 - n)) h (dst h s n)
/-- The values' gradient of a chunk and head, from the gradient of the state after the chunk. -/
def gV (ci h : Fin 4) (s : Vec F S1x256x512 .f32) : FVec F S128x512 .bf16 :=
  k1_pay12 (X.qr ci h) (X.kr ci h) (View.ld X.dO (rV ci h)) (View.ld X.dm (rD h)) (View.ld X.kd (rK h)) s
/-- The queries' gradient of a chunk and head. -/
def gQ (ci h : Fin 4) : FVec F S128x256 .bf16 :=
  k1_pay19 (k1_pay3 (View.ld X.cs (rC ci))) (k1_pay4 (View.ld X.sn (rC ci)))
    (k1_pay16 (X.kr ci h) (View.ld X.v (rV ci h)) (k1_pay7 (View.ld X.st (rSt ci h))) (View.ld X.dO (rV ci h)) (View.ld X.dm (rD h)) (View.ld X.qd (rK h)))
    (k1_pay17 (X.kr ci h) (View.ld X.v (rV ci h)) (k1_pay7 (View.ld X.st (rSt ci h))) (View.ld X.dO (rV ci h)) (View.ld X.dm (rD h)) (View.ld X.qd (rK h)))
    (k1_pay18 (k1_pay3 (View.ld X.cs (rC ci))) (X.kr ci h) (View.ld X.v (rV ci h)) (k1_pay7 (View.ld X.st (rSt ci h))) (View.ld X.dO (rV ci h)) (View.ld X.dm (rD h)) (View.ld X.qd (rK h)))
/-- The keys' gradient of a chunk and head, from the gradient of the state after the chunk. -/
def gK (ci h : Fin 4) (s : Vec F S1x256x512 .f32) : FVec F S128x256 .bf16 :=
  k1_pay20 (k1_pay3 (View.ld X.cs (rC ci))) (k1_pay4 (View.ld X.sn (rC ci)))
    (k1_pay15 (X.qr ci h) (View.ld X.v (rV ci h)) (View.ld X.dO (rV ci h)) (View.ld X.dm (rD h)) (View.ld X.kd (rK h)) s)

/-- The carried gradient of the states after the point, from the one before it. -/
def stOut (s : Vec F S4x256x512 .f32) : Vec F S4x256x512 .f32 := fun y =>
  X.dst (y 0) (View.ld s (rS (y 0))) 4 (ValueIdx.ix3 (0 : Fin 1) (y 1) (y 2))
/-- The queries' gradient at a chunk, head, row and column. -/
def outQ (ci h : Fin 4) (r : Fin 128) (d : Fin 256) : Elt F .bf16 := X.gQ ci h (ValueIdx.ix2 r d)
/-- The keys' gradient at a chunk, head, row and column. -/
def outK (s : Vec F S4x256x512 .f32) (ci h : Fin 4) (r : Fin 128) (d : Fin 256) : Elt F .bf16 :=
  X.gK ci h (X.dst h (View.ld s (rS h)) (3 - ci.val)) (ValueIdx.ix2 r d)
/-- The values' gradient at a chunk, head, row and column. -/
def outV (s : Vec F S4x256x512 .f32) (ci h : Fin 4) (r : Fin 128) (e : Fin 512) : Elt F .bf16 :=
  X.gV ci h (X.dst h (View.ld s (rS h)) (3 - ci.val)) (ValueIdx.ix2 r e)
/-- The block of gradients of the point: queries, keys and values side by side. -/
def out (s : Vec F S4x256x512 .f32) : Vec F S512x4096 .bf16 := fun y =>
  if h1 : (y 1).val < 1024 then
    X.outQ ⟨(y 0).val / 128, by have := ValueIdx.idx2_lt0 y; omega⟩ ⟨(y 1).val / 256, by omega⟩
      ⟨(y 0).val % 128, by omega⟩ ⟨(y 1).val % 256, by omega⟩
  else if h2 : (y 1).val < 2048 then
    X.outK s ⟨(y 0).val / 128, by have := ValueIdx.idx2_lt0 y; omega⟩ ⟨((y 1).val - 1024) / 256, by omega⟩
      ⟨(y 0).val % 128, by omega⟩ ⟨((y 1).val - 1024) % 256, by omega⟩
  else
    X.outV s ⟨(y 0).val / 128, by have := ValueIdx.idx2_lt0 y; omega⟩
      ⟨((y 1).val - 2048) / 512, by have := ValueIdx.idx2_lt1 y; omega⟩
      ⟨(y 0).val % 128, by omega⟩ ⟨((y 1).val - 2048) % 512, by omega⟩

/-- `stOut` on a head's block. -/
theorem stOut_emb (s : Vec F S4x256x512 .f32) (h : Fin 4) (x : (rS h).shape.Idx) :
    X.stOut s ((rS h).emb x) = X.dst h (View.ld s (rS h)) 4 x := by
  have hx : (x 0).val = 0 := Nat.lt_one_iff.mp (x 0).isLt
  have h0 : (rS h).emb x 0 = h := Fin.ext (by show h.val + 1 * (x 0).val = h.val; omega)
  unfold stOut
  rw [h0]
  congr 1
  funext a
  match a with
  | ⟨0, _⟩ => exact Fin.ext hx.symm
  | ⟨1, _⟩ => exact Fin.ext (by show 0 + 1 * (x 1).val = (x 1).val; omega)
  | ⟨2, _⟩ => exact Fin.ext (by show 0 + 1 * (x 2).val = (x 2).val; omega)

/-- `out` on a chunk's and head's block of the queries' columns. -/
theorem out_embQ (s : Vec F S4x256x512 .f32) (ci h : Fin 4) (x : (rGQ ci h).shape.Idx) :
    X.out s ((rGQ ci h).emb x) = X.gQ ci h x := by
  have hh : h.val < 4 := h.isLt
  have hx0 : (x 0).val < 128 := (x 0).isLt
  have hx1 : (x 1).val < 256 := (x 1).isLt
  have e0 : ((rGQ ci h).emb x 0).val = 128 * ci.val + (x 0).val := by
    show 128 * ci.val + 1 * (x 0).val = _; omega
  have e1 : ((rGQ ci h).emb x 1).val = 256 * h.val + (x 1).val := by
    show 256 * h.val + 1 * (x 1).val = _; omega
  have d0 : ((rGQ ci h).emb x 0).val / 128 = ci.val := by omega
  have d1 : ((rGQ ci h).emb x 1).val / 256 = h.val := by omega
  have m0 : ((rGQ ci h).emb x 0).val % 128 = (x 0).val := by omega
  have m1 : ((rGQ ci h).emb x 1).val % 256 = (x 1).val := by omega
  unfold out
  rw [dif_pos (by omega)]
  simp only [d0, d1, m0, m1]
  exact congrArg (X.gQ ci h) (ValueIdx.eq_ix2 (n0 := 128) (n1 := 256) x).symm

/-- `out` on a chunk's and head's block of the keys' columns. -/
theorem out_embK (s : Vec F S4x256x512 .f32) (ci h : Fin 4) (x : (rGK ci h).shape.Idx) :
    X.out s ((rGK ci h).emb x) = X.gK ci h (X.dst h (View.ld s (rS h)) (3 - ci.val)) x := by
  have hh : h.val < 4 := h.isLt
  have hx0 : (x 0).val < 128 := (x 0).isLt
  have hx1 : (x 1).val < 256 := (x 1).isLt
  have e0 : ((rGK ci h).emb x 0).val = 128 * ci.val + (x 0).val := by
    show 128 * ci.val + 1 * (x 0).val = _; omega
  have e1 : ((rGK ci h).emb x 1).val = 1024 + 256 * h.val + (x 1).val := by
    show 1024 + 256 * h.val + 1 * (x 1).val = _; omega
  have d0 : ((rGK ci h).emb x 0).val / 128 = ci.val := by omega
  have d1 : (((rGK ci h).emb x 1).val - 1024) / 256 = h.val := by omega
  have m0 : ((rGK ci h).emb x 0).val % 128 = (x 0).val := by omega
  have m1 : (((rGK ci h).emb x 1).val - 1024) % 256 = (x 1).val := by omega
  unfold out
  rw [dif_neg (by omega), dif_pos (by omega)]
  simp only [d0, d1, m0, m1]
  exact congrArg (X.gK ci h (X.dst h (View.ld s (rS h)) (3 - ci.val))) (ValueIdx.eq_ix2 (n0 := 128) (n1 := 256) x).symm

/-- `out` on a chunk's and head's block of the values' columns. -/
theorem out_embV (s : Vec F S4x256x512 .f32) (ci h : Fin 4) (x : (rGV ci h).shape.Idx) :
    X.out s ((rGV ci h).emb x) = X.gV ci h (X.dst h (View.ld s (rS h)) (3 - ci.val)) x := by
  have hh : h.val < 4 := h.isLt
  have hx0 : (x 0).val < 128 := (x 0).isLt
  have hx1 : (x 1).val < 512 := (x 1).isLt
  have e0 : ((rGV ci h).emb x 0).val = 128 * ci.val + (x 0).val := by
    show 128 * ci.val + 1 * (x 0).val = _; omega
  have e1 : ((rGV ci h).emb x 1).val = 2048 + 512 * h.val + (x 1).val := by
    show 2048 + 512 * h.val + 1 * (x 1).val = _; omega
  have d0 : ((rGV ci h).emb x 0).val / 128 = ci.val := by omega
  have d1 : (((rGV ci h).emb x 1).val - 2048) / 512 = h.val := by omega
  have m0 : ((rGV ci h).emb x 0).val % 128 = (x 0).val := by omega
  have m1 : (((rGV ci h).emb x 1).val - 2048) % 512 = (x 1).val := by omega
  unfold out
  rw [dif_neg (by omega), dif_neg (by omega)]
  simp only [d0, d1, m0, m1]
  exact congrArg (X.gV ci h (X.dst h (View.ld s (rS h)) (3 - ci.val))) (ValueIdx.eq_ix2 (n0 := 128) (n1 := 512) x).symm

end BwdIn

end Cert.KernelIdeal.Gen

end
-- ==== Proof.BwdDat.lean ====
/-
The backward retention call as a region, from any contents at entry: its blocks, what its scratch carries, its proof data.
-/
module

public import proofs.«01_k».proof.Proof.BwdFns
public import Idealize.ShloMosaic.Lib.Pipeline.FrameBody
public import Idealize.ShloMosaic.Lib.Pipeline.RegionsLoop
public import Idealize.ShloMosaic.Lib.Pipeline.FrameSuffix

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- what the TensorCore's buffers hold when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The blocks the backward body reads at point `t`. -/
def blocks1 (c : Dev nD) (t : Fin cfg1.N) : BwdIn F where
  q := iblk1 V c 0 t
  k := iblk1 V c 1 t
  v := iblk1 V c 2 t
  cs := iblk1 V c 3 t
  sn := iblk1 V c 4 t
  dm := iblk1 V c 5 t
  qd := iblk1 V c 6 t
  kd := iblk1 V c 7 t
  cd := iblk1 V c 8 t
  st := iblk1 V c 9 t
  dO := iblk1 V c 10 t

/-- What the carried scratch holds after the first `n` points: zeros, then each point's closed form. -/
def carry1 (c : Dev nD) : ℕ → Vec F S4x256x512 .f32
  | 0 => k1_pay2
  | n + 1 => if h : n < cfg1.N then (blocks1 V c ⟨n, h⟩).stOut (carry1 c n) else carry1 c n

theorem carry1_succ (c : Dev nD) (t : Fin cfg1.N) :
    carry1 V c (t.val + 1) = (blocks1 V c t).stOut (carry1 V c t.val) := dif_pos t.isLt

/-- The scratch, as a memref. -/
abbrev scM1 : Memref sig .tc .vmem S4x256x512 .f32 := Memref.whole cc1_scratch0

/-- Every other scoped buffer at some contents, and the generator register at some state: untouched by the body. -/
def rest1 (c : Dev nD) : sProp 𝕄 :=
  iprop(Pipeline.scopedRestBut (Ix := Unit) (Name := ℕ) (U := UR sig nD τ) (Lvl := ℕ) (Val := Elt F) spec1 c [cc1_scratch0] ∗ (∃ r, prngReg c r))

/-- What the region is entered with, split at the scratch. -/
theorem PhiA1_eq (c : Dev nD) :
    (Pipeline.ΦA spec1 c : sProp 𝕄) = iprop((∃ d, owns (c : Thread nD τ) scM1 fullShare d) ∗ rest1 (F := F) c) := by
  unfold Pipeline.ΦA rest1
  rw [Pipeline.scopedRest_split_of_list spec1 c [cc1_scratch0] (by decide) (by decide)]
  refine ((show ∀ A B C : sProp 𝕄, iprop((A ∗ B) ∗ C) = iprop(A ∗ B ∗ C) from fun A B C => equiv_iff.mp ⟨Idealize.SL.BI.sep_assoc, Idealize.SL.BI.sep_assoc'⟩) _ _ _).trans ?_
  simp only [scM1, owns_whole]
  rfl

/-- The invariant before position `n`: at the first what the region is entered with, later the scratch at `carry1`. -/
def PhiS1 (c : Dev nD) : ℕ → sProp 𝕄
  | 0 => Pipeline.ΦA spec1 c
  | n + 1 => iprop(owns (c : Thread nD τ) scM1 fullShare (carry1 V c (n + 1)) ∗ rest1 (F := F) c)

theorem PhiS1_pos (c : Dev nD) (n : ℕ) (hz : n ≠ 0) :
    PhiS1 V c n = iprop(owns (c : Thread nD τ) scM1 fullShare (carry1 V c n) ∗ rest1 (F := F) c) := by
  cases n with
  | zero => exact absurd rfl hz
  | succ n => rfl

/-- The backward region's proof data: the arrays as entered; after the body at `t` each input's buffer at its block and
    each output's at its closed form; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => (blocks1 V c t).out (carry1 V c t.val)
  Φ t := PhiS1 V c t.val
  q w := Pipeline.shareOf spec1 w
  owed _ := 0

theorem A_eq1 (c : Dev nD) (w : Fin cfg1.W) : (dat1 V c).A w = V c (Pipeline.arrRef spec1 w) := by
  dsimp only [dat1]

/-! What the body leaves in each window's buffer. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = (blocks1 V c t).out (carry1 V c t.val) := by
  dsimp only [dat1]

/-! Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl)
    (fun t => by rw [after1_8]; unfold Dat.blockOf iblk1; rw [A_eq1]; try rfl) t d).trans
    (by unfold Dat.fetched Dat.blockOf iblk1; rw [A_eq1]; try rfl)
theorem before1_9 (c : Dev nD) (t : Fin cfg1.N) (d) : (dat1 V c).before 9 t d = iblk1 V c 9 t :=
  ((dat1 V c).before_in_eq_fetched 9 rfl (fun _ => rfl) (fun _ _ _ => rfl)
    (fun t => by rw [after1_9]; unfold Dat.blockOf iblk1; rw [A_eq1]; try rfl) t d).trans
    (by unfold Dat.fetched Dat.blockOf iblk1; rw [A_eq1]; try rfl)
theorem before1_10 (c : Dev nD) (t : Fin cfg1.N) (d) : (dat1 V c).before 10 t d = iblk1 V c 10 t :=
  ((dat1 V c).before_in_eq_fetched 10 rfl (fun _ => rfl) (fun _ _ _ => rfl)
    (fun t => by rw [after1_10]; unfold Dat.blockOf iblk1; rw [A_eq1]; try rfl) t d).trans
    (by unfold Dat.fetched Dat.blockOf iblk1; rw [A_eq1]; try rfl)

end

end Cert.KernelIdeal.Gen

end
-- ==== Proof.BwdValA.lean ====
/-
What the backward body leaves in each buffer (first point): the pieces of its stores read back as the closed form.
-/
module

public import proofs.«01_k».proof.Proof.BwdFns

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg1 : Memref sig .tc .vmem S512x1024 .bf16) (harg1 : arg1.IsWhole) (arg2 : Memref sig .tc .vmem S512x1024 .bf16) (harg2 : arg2.IsWhole) (arg3 : Memref sig .tc .vmem S512x2048 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S4x128x128 .f32) (harg6 : arg6.IsWhole) (arg7 : Memref sig .tc .vmem S4x128x512 .f32) (harg7 : arg7.IsWhole) (arg8 : Memref sig .tc .vmem S4x128x512 .f32) (harg8 : arg8.IsWhole) (arg9 : Memref sig .tc .vmem S4x1x512 .f32) (harg9 : arg9.IsWhole) (arg10 : Memref sig .tc .vmem S4x4x256x512 .bf16) (harg10 : arg10.IsWhole) (arg11 : Memref sig .tc .vmem S512x2048 .bf16) (harg11 : arg11.IsWhole) (arg13 : Memref sig .tc .vmem S512x4096 .bf16) (harg13 : arg13.IsWhole) (arg14 : Memref sig .tc .vmem S4x256x512 .f32) (harg14 : arg14.IsWhole)
  (X : BwdIn F)

/-- The carried gradient of the states at the first point: the pieces of the body's stores leave `stOut`. -/
theorem bwdA_state (hc0 : cond1_0 i) (f) :
    arg14.view.read (Elt F) (arg14.view.writes (Elt F) f (bwdRunA c i arg1 harg1 arg2 harg2 arg3 harg3 arg4 harg4 arg5 harg5 arg6 harg6 arg7 harg7 arg8 harg8 arg9 harg9 arg10 harg10 arg11 harg11 arg13 harg13 arg14 harg14 hc0 X.q X.k X.v X.cs X.sn X.dm X.qd X.kd X.cd X.st X.dO).2.1) = X.stOut k1_pay2 := by
  refine (View.read_writes_eq_canon _ f _ (fun y => View.cover_of_wholeMem _ (by sl_whole_mem) y)).trans ?_
  have hL : ∃ L, (bwdRunA c i arg1 harg1 arg2 harg2 arg3 harg3 arg4 harg4 arg5 harg5 arg6 harg6 arg7 harg7 arg8 harg8 arg9 harg9 arg10 harg10 arg11 harg11 arg13 harg13 arg14 harg14 hc0 X.q X.k X.v X.cs X.sn X.dm X.qd X.kd X.cd X.st X.dO).2.1
      = [⟨rS 3, X.dst 3 (View.ld k1_pay2 (rS 3)) 4⟩, ⟨rS 2, X.dst 2 (View.ld k1_pay2 (rS 2)) 4⟩, ⟨rS 1, X.dst 1 (View.ld k1_pay2 (rS 1)) 4⟩, ⟨rS 0, X.dst 0 (View.ld k1_pay2 (rS 0)) 4⟩] ++ L := by
    frame_open
    simp (disch := decide) only [View.readAt_eq_ld, Memref.IsWhole.read_unread, View.readCov_cons_toLoadRect, View.readCov_skip, View.readCov_fill]
    exact ⟨_, rfl⟩
  obtain ⟨L, hL⟩ := hL
  rw [hL]
  have hP : View.PiecesOf (X.stOut k1_pay2) [⟨rS 3, X.dst 3 (View.ld k1_pay2 (rS 3)) 4⟩, ⟨rS 2, X.dst 2 (View.ld k1_pay2 (rS 2)) 4⟩, ⟨rS 1, X.dst 1 (View.ld k1_pay2 (rS 1)) 4⟩, ⟨rS 0, X.dst 0 (View.ld k1_pay2 (rS 0)) 4⟩] :=
    ⟨fun x => (X.stOut_emb k1_pay2 3 x).symm, fun x => (X.stOut_emb k1_pay2 2 x).symm, fun x => (X.stOut_emb k1_pay2 1 x).symm, fun x => (X.stOut_emb k1_pay2 0 x).symm, trivial⟩
  funext y
  exact View.canon_append_of_piecesOf (X.stOut k1_pay2) L _ hP y (View.cover_of_tiledL (s := S4x256x512) _ S1x256x512.size (by sl_kernel_rfl) y)

set_option maxHeartbeats 4000000 in
/-- The block of gradients at the first point. -/
theorem bwdA_out (hc0 : cond1_0 i) (f) :
    arg13.view.read (Elt F) (arg13.view.writes (Elt F) f (bwdRunA c i arg1 harg1 arg2 harg2 arg3 harg3 arg4 harg4 arg5 harg5 arg6 harg6 arg7 harg7 arg8 harg8 arg9 harg9 arg10 harg10 arg11 harg11 arg13 harg13 arg14 harg14 hc0 X.q X.k X.v X.cs X.sn X.dm X.qd X.kd X.cd X.st X.dO).1) = X.out k1_pay2 := by
  refine (View.read_writes_eq_canon _ f _ (fun y => View.cover_of_tiledBy (s := S512x4096) _ ![128, 256] (by sl_kernel_rfl) y)).trans ?_
  have hP : View.PiecesOf (X.out k1_pay2) (bwdRunA c i arg1 harg1 arg2 harg2 arg3 harg3 arg4 harg4 arg5 harg5 arg6 harg6 arg7 harg7 arg8 harg8 arg9 harg9 arg10 harg10 arg11 harg11 arg13 harg13 arg14 harg14 hc0 X.q X.k X.v X.cs X.sn X.dm X.qd X.kd X.cd X.st X.dO).1 := by
    frame_open
    simp (disch := decide) only [View.readAt_eq_ld, Memref.IsWhole.read_unread, View.readCov_cons_toLoadRect, View.readCov_skip, View.readCov_fill]
    exact ⟨fun x => (X.out_embK k1_pay2 0 3 x).symm, fun x => (X.out_embQ k1_pay2 0 3 x).symm, fun x => (X.out_embV k1_pay2 0 3 x).symm, fun x => (X.out_embK k1_pay2 0 2 x).symm, fun x => (X.out_embQ k1_pay2 0 2 x).symm, fun x => (X.out_embV k1_pay2 0 2 x).symm, fun x => (X.out_embK k1_pay2 0 1 x).symm, fun x => (X.out_embQ k1_pay2 0 1 x).symm, fun x => (X.out_embV k1_pay2 0 1 x).symm, fun x => (X.out_embK k1_pay2 0 0 x).symm, fun x => (X.out_embQ k1_pay2 0 0 x).symm, fun x => (X.out_embV k1_pay2 0 0 x).symm, fun x => (X.out_embK k1_pay2 1 3 x).symm, fun x => (X.out_embQ k1_pay2 1 3 x).symm, fun x => (X.out_embV k1_pay2 1 3 x).symm, fun x => (X.out_embK k1_pay2 1 2 x).symm, fun x => (X.out_embQ k1_pay2 1 2 x).symm, fun x => (X.out_embV k1_pay2 1 2 x).symm, fun x => (X.out_embK k1_pay2 1 1 x).symm, fun x => (X.out_embQ k1_pay2 1 1 x).symm, fun x => (X.out_embV k1_pay2 1 1 x).symm, fun x => (X.out_embK k1_pay2 1 0 x).symm, fun x => (X.out_embQ k1_pay2 1 0 x).symm, fun x => (X.out_embV k1_pay2 1 0 x).symm, fun x => (X.out_embK k1_pay2 2 3 x).symm, fun x => (X.out_embQ k1_pay2 2 3 x).symm, fun x => (X.out_embV k1_pay2 2 3 x).symm, fun x => (X.out_embK k1_pay2 2 2 x).symm, fun x => (X.out_embQ k1_pay2 2 2 x).symm, fun x => (X.out_embV k1_pay2 2 2 x).symm, fun x => (X.out_embK k1_pay2 2 1 x).symm, fun x => (X.out_embQ k1_pay2 2 1 x).symm, fun x => (X.out_embV k1_pay2 2 1 x).symm, fun x => (X.out_embK k1_pay2 2 0 x).symm, fun x => (X.out_embQ k1_pay2 2 0 x).symm, fun x => (X.out_embV k1_pay2 2 0 x).symm, fun x => (X.out_embK k1_pay2 3 3 x).symm, fun x => (X.out_embQ k1_pay2 3 3 x).symm, fun x => (X.out_embV k1_pay2 3 3 x).symm, fun x => (X.out_embK k1_pay2 3 2 x).symm, fun x => (X.out_embQ k1_pay2 3 2 x).symm, fun x => (X.out_embV k1_pay2 3 2 x).symm, fun x => (X.out_embK k1_pay2 3 1 x).symm, fun x => (X.out_embQ k1_pay2 3 1 x).symm, fun x => (X.out_embV k1_pay2 3 1 x).symm, fun x => (X.out_embK k1_pay2 3 0 x).symm, fun x => (X.out_embQ k1_pay2 3 0 x).symm, fun x => (X.out_embV k1_pay2 3 0 x).symm, trivial⟩
  funext y
  exact (congrArg (fun L => View.canon L y) (List.append_nil _).symm).trans
    (View.canon_append_of_piecesOf (X.out k1_pay2) [] _ hP y (View.cover_of_tiledBy (s := S512x4096) _ ![128, 256] (by sl_kernel_rfl) y))

end Cert.KernelIdeal.Gen

end
-- ==== Proof.BwdValB.lean ====
/-
What the backward body leaves in each buffer (later points): the pieces of its stores read back as the closed form.
-/
module

public import proofs.«01_k».proof.Proof.BwdFns

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg1 : Memref sig .tc .vmem S512x1024 .bf16) (harg1 : arg1.IsWhole) (arg2 : Memref sig .tc .vmem S512x1024 .bf16) (harg2 : arg2.IsWhole) (arg3 : Memref sig .tc .vmem S512x2048 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S4x128x128 .f32) (harg6 : arg6.IsWhole) (arg7 : Memref sig .tc .vmem S4x128x512 .f32) (harg7 : arg7.IsWhole) (arg8 : Memref sig .tc .vmem S4x128x512 .f32) (harg8 : arg8.IsWhole) (arg9 : Memref sig .tc .vmem S4x1x512 .f32) (harg9 : arg9.IsWhole) (arg10 : Memref sig .tc .vmem S4x4x256x512 .bf16) (harg10 : arg10.IsWhole) (arg11 : Memref sig .tc .vmem S512x2048 .bf16) (harg11 : arg11.IsWhole) (arg13 : Memref sig .tc .vmem S512x4096 .bf16) (harg13 : arg13.IsWhole) (arg14 : Memref sig .tc .vmem S4x256x512 .f32) (harg14 : arg14.IsWhole)
  (X : BwdIn F)

/-- The carried gradient of the states at a later point: the pieces of the body's stores leave `stOut`. -/
theorem bwdB_state (hc0 : ¬cond1_0 i) (s : Vec F S4x256x512 .f32) (f) :
    arg14.view.read (Elt F) (arg14.view.writes (Elt F) f (bwdRunB c i arg1 harg1 arg2 harg2 arg3 harg3 arg4 harg4 arg5 harg5 arg6 harg6 arg7 harg7 arg8 harg8 arg9 harg9 arg10 harg10 arg11 harg11 arg13 harg13 arg14 harg14 hc0 X.q X.k X.v X.cs X.sn X.dm X.qd X.kd X.cd X.st X.dO s).2.1) = X.stOut s := by
  refine (View.read_writes_eq_canon _ f _ (fun y => View.cover_of_tiledL (s := S4x256x512) _ S1x256x512.size (by sl_kernel_rfl) y)).trans ?_
  have hL : ∃ L, (bwdRunB c i arg1 harg1 arg2 harg2 arg3 harg3 arg4 harg4 arg5 harg5 arg6 harg6 arg7 harg7 arg8 harg8 arg9 harg9 arg10 harg10 arg11 harg11 arg13 harg13 arg14 harg14 hc0 X.q X.k X.v X.cs X.sn X.dm X.qd X.kd X.cd X.st X.dO s).2.1
      = [⟨rS 3, X.dst 3 (View.ld s (rS 3)) 4⟩, ⟨rS 2, X.dst 2 (View.ld s (rS 2)) 4⟩, ⟨rS 1, X.dst 1 (View.ld s (rS 1)) 4⟩, ⟨rS 0, X.dst 0 (View.ld s (rS 0)) 4⟩] ++ L := by
    frame_open
    simp (disch := decide) only [View.readAt_eq_ld, Memref.IsWhole.read_unread, View.readCov_cons_toLoadRect, View.readCov_skip, View.readCov_fill]
    exact ⟨_, rfl⟩
  obtain ⟨L, hL⟩ := hL
  rw [hL]
  have hP : View.PiecesOf (X.stOut s) [⟨rS 3, X.dst 3 (View.ld s (rS 3)) 4⟩, ⟨rS 2, X.dst 2 (View.ld s (rS 2)) 4⟩, ⟨rS 1, X.dst 1 (View.ld s (rS 1)) 4⟩, ⟨rS 0, X.dst 0 (View.ld s (rS 0)) 4⟩] :=
    ⟨fun x => (X.stOut_emb s 3 x).symm, fun x => (X.stOut_emb s 2 x).symm, fun x => (X.stOut_emb s 1 x).symm, fun x => (X.stOut_emb s 0 x).symm, trivial⟩
  funext y
  exact View.canon_append_of_piecesOf (X.stOut s) L _ hP y (View.cover_of_tiledL (s := S4x256x512) _ S1x256x512.size (by sl_kernel_rfl) y)

set_option maxHeartbeats 4000000 in
/-- The block of gradients at a later point. -/
theorem bwdB_out (hc0 : ¬cond1_0 i) (s : Vec F S4x256x512 .f32) (f) :
    arg13.view.read (Elt F) (arg13.view.writes (Elt F) f (bwdRunB c i arg1 harg1 arg2 harg2 arg3 harg3 arg4 harg4 arg5 harg5 arg6 harg6 arg7 harg7 arg8 harg8 arg9 harg9 arg10 harg10 arg11 harg11 arg13 harg13 arg14 harg14 hc0 X.q X.k X.v X.cs X.sn X.dm X.qd X.kd X.cd X.st X.dO s).1) = X.out s := by
  refine (View.read_writes_eq_canon _ f _ (fun y => View.cover_of_tiledBy (s := S512x4096) _ ![128, 256] (by sl_kernel_rfl) y)).trans ?_
  have hP : View.PiecesOf (X.out s) (bwdRunB c i arg1 harg1 arg2 harg2 arg3 harg3 arg4 harg4 arg5 harg5 arg6 harg6 arg7 harg7 arg8 harg8 arg9 harg9 arg10 harg10 arg11 harg11 arg13 harg13 arg14 harg14 hc0 X.q X.k X.v X.cs X.sn X.dm X.qd X.kd X.cd X.st X.dO s).1 := by
    frame_open
    simp (disch := decide) only [View.readAt_eq_ld, Memref.IsWhole.read_unread, View.readCov_cons_toLoadRect, View.readCov_skip, View.readCov_fill]
    exact ⟨fun x => (X.out_embK s 0 3 x).symm, fun x => (X.out_embQ s 0 3 x).symm, fun x => (X.out_embV s 0 3 x).symm, fun x => (X.out_embK s 0 2 x).symm, fun x => (X.out_embQ s 0 2 x).symm, fun x => (X.out_embV s 0 2 x).symm, fun x => (X.out_embK s 0 1 x).symm, fun x => (X.out_embQ s 0 1 x).symm, fun x => (X.out_embV s 0 1 x).symm, fun x => (X.out_embK s 0 0 x).symm, fun x => (X.out_embQ s 0 0 x).symm, fun x => (X.out_embV s 0 0 x).symm, fun x => (X.out_embK s 1 3 x).symm, fun x => (X.out_embQ s 1 3 x).symm, fun x => (X.out_embV s 1 3 x).symm, fun x => (X.out_embK s 1 2 x).symm, fun x => (X.out_embQ s 1 2 x).symm, fun x => (X.out_embV s 1 2 x).symm, fun x => (X.out_embK s 1 1 x).symm, fun x => (X.out_embQ s 1 1 x).symm, fun x => (X.out_embV s 1 1 x).symm, fun x => (X.out_embK s 1 0 x).symm, fun x => (X.out_embQ s 1 0 x).symm, fun x => (X.out_embV s 1 0 x).symm, fun x => (X.out_embK s 2 3 x).symm, fun x => (X.out_embQ s 2 3 x).symm, fun x => (X.out_embV s 2 3 x).symm, fun x => (X.out_embK s 2 2 x).symm, fun x => (X.out_embQ s 2 2 x).symm, fun x => (X.out_embV s 2 2 x).symm, fun x => (X.out_embK s 2 1 x).symm, fun x => (X.out_embQ s 2 1 x).symm, fun x => (X.out_embV s 2 1 x).symm, fun x => (X.out_embK s 2 0 x).symm, fun x => (X.out_embQ s 2 0 x).symm, fun x => (X.out_embV s 2 0 x).symm, fun x => (X.out_embK s 3 3 x).symm, fun x => (X.out_embQ s 3 3 x).symm, fun x => (X.out_embV s 3 3 x).symm, fun x => (X.out_embK s 3 2 x).symm, fun x => (X.out_embQ s 3 2 x).symm, fun x => (X.out_embV s 3 2 x).symm, fun x => (X.out_embK s 3 1 x).symm, fun x => (X.out_embQ s 3 1 x).symm, fun x => (X.out_embV s 3 1 x).symm, fun x => (X.out_embK s 3 0 x).symm, fun x => (X.out_embQ s 3 0 x).symm, fun x => (X.out_embV s 3 0 x).symm, trivial⟩
  funext y
  exact (congrArg (fun L => View.canon L y) (List.append_nil _).symm).trans
    (View.canon_append_of_piecesOf (X.out s) [] _ hP y (View.cover_of_tiledBy (s := S512x4096) _ ![128, 256] (by sl_kernel_rfl) y))

end Cert.KernelIdeal.Gen

end
-- ==== Proof.BwdRegion.lean ====
/-
The obligation of the backward retention call's body, at every point.
-/
module

public import proofs.«01_k».proof.Proof.BwdDat
public import proofs.«01_k».proof.Proof.BwdValA
public import proofs.«01_k».proof.Proof.BwdValB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- what the TensorCore's buffers hold when the region is entered
variable (V : (c : Dev nD) → (b : Ref sig .tc) → Buf (Elt F) ((c : Thread nD τ).loc b))

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d))
    ∗ (∃ d, owns (c : Thread nD τ) (win1_5.stage (cfg1.slots t 5)) fullShare ((dat1 V c).before 5 t d))
    ∗ (∃ d, owns (c : Thread nD τ) (win1_6.stage (cfg1.slots t 6)) fullShare ((dat1 V c).before 6 t d))
    ∗ (∃ d, owns (c : Thread nD τ) (win1_7.stage (cfg1.slots t 7)) fullShare ((dat1 V c).before 7 t d))
    ∗ (∃ d, owns (c : Thread nD τ) (win1_8.stage (cfg1.slots t 8)) fullShare ((dat1 V c).before 8 t d))
    ∗ (∃ d, owns (c : Thread nD τ) (win1_9.stage (cfg1.slots t 9)) fullShare ((dat1 V c).before 9 t d))
    ∗ (∃ d, owns (c : Thread nD τ) (win1_10.stage (cfg1.slots t 10)) fullShare ((dat1 V c).before 10 t d))
    ∗ (∃ d, owns (c : Thread nD τ) (win1_11.stage (cfg1.slots t 11)) fullShare ((dat1 V c).before 11 t d)))

/-- What it returns. -/
def bodyPost1 (c : Dev nD) (t : Fin cfg1.N) : sProp 𝕄 :=
  iprop((dat1 V c).Φ t.succ ∗ (dat1 V c).owesAt () t.succ
    ∗ owns (c : Thread nD τ) (win1_0.stage (cfg1.slots t 0)) fullShare ((dat1 V c).after 0 t)
    ∗ owns (c : Thread nD τ) (win1_1.stage (cfg1.slots t 1)) fullShare ((dat1 V c).after 1 t)
    ∗ owns (c : Thread nD τ) (win1_2.stage (cfg1.slots t 2)) fullShare ((dat1 V c).after 2 t)
    ∗ owns (c : Thread nD τ) (win1_3.stage (cfg1.slots t 3)) fullShare ((dat1 V c).after 3 t)
    ∗ owns (c : Thread nD τ) (win1_4.stage (cfg1.slots t 4)) fullShare ((dat1 V c).after 4 t)
    ∗ owns (c : Thread nD τ) (win1_5.stage (cfg1.slots t 5)) fullShare ((dat1 V c).after 5 t)
    ∗ owns (c : Thread nD τ) (win1_6.stage (cfg1.slots t 6)) fullShare ((dat1 V c).after 6 t)
    ∗ owns (c : Thread nD τ) (win1_7.stage (cfg1.slots t 7)) fullShare ((dat1 V c).after 7 t)
    ∗ owns (c : Thread nD τ) (win1_8.stage (cfg1.slots t 8)) fullShare ((dat1 V c).after 8 t)
    ∗ owns (c : Thread nD τ) (win1_9.stage (cfg1.slots t 9)) fullShare ((dat1 V c).after 9 t)
    ∗ owns (c : Thread nD τ) (win1_10.stage (cfg1.slots t 10)) fullShare ((dat1 V c).after 10 t)
    ∗ owns (c : Thread nD τ) (win1_11.stage (cfg1.slots t 11)) fullShare ((dat1 V c).after 11 t))

set_option maxHeartbeats 9600000 in
/-- The body at any point: the inputs' buffers hold their blocks, the scratch what the points before left; the body leaves
    the closed forms. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).owesAt () t.succ = (dat1 V c).owesAt () t.castSucc from rfl,
    after1_0, after1_1, after1_2, after1_3, after1_4, after1_5, after1_6, after1_7, after1_8, after1_9, after1_10, after1_11]
  rw [show (dat1 V c).Φ t.succ = PhiS1 V c (t.val + 1) from rfl, PhiS1_pos V c (t.val + 1) (Nat.succ_ne_zero _), carry1_succ]
  rw [show (dat1 V c).Φ t.castSucc = PhiS1 V c t.val from rfl]
  have hN : t.val < 16 := lt_of_lt_of_eq t.isLt (show cfg1.N = 16 from N_1)
  by_cases h0 : t.val % 16 = 0
  · have hz : t.val = 0 := by omega
    rw [hz, show PhiS1 V c 0 = Pipeline.ΦA spec1 c from rfl, show carry1 V c 0 = k1_pay2 from rfl, PhiA1_eq]
    on_goal 1 =>
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((bwdRunA c (grid1.coords t) _ _ _ _ _ _ _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      iintro ⟨H0, H1, H2, H3, H4, H5, H6, H7, H8, H9, H10, ⟨%e11, H11⟩, ⟨%es0, HS0⟩⟩
      isplitl [HS0 Hg]
      · isplitl [HS0]
        · unfold owns; iexists _; isplitr
          swap; · iexact HS0
          ipureintro
          exact bwdA_state c (grid1.coords t) _ _ _ _ _ _ _ _ _ _ _ _ _ _ _ _ _ _ _ _ _ _ _ _ _ _ (blocks1 V c t) ((hcond1_0 t).mpr h0) _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact bwdA_out c (grid1.coords t) _ _ _ _ _ _ _ _ _ _ _ _ _ _ _ _ _ _ _ _ _ _ _ _ _ _ (blocks1 V c t) ((hcond1_0 t).mpr h0) _
  · have hz : t.val ≠ 0 := by omega
    rw [PhiS1_pos V c t.val hz]
    on_goal 1 =>
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((bwdRunB c (grid1.coords t) _ _ _ _ _ _ _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (carry1 V c t.val)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      iintro ⟨H0, H1, H2, H3, H4, H5, H6, H7, H8, H9, H10, ⟨%e11, H11⟩, ⟨%es0, HS0⟩⟩
      isplitl [HS0 Hg]
      · isplitl [HS0]
        · unfold owns; iexists _; isplitr
          swap; · iexact HS0
          ipureintro
          exact bwdB_state c (grid1.coords t) _ _ _ _ _ _ _ _ _ _ _ _ _ _ _ _ _ _ _ _ _ _ _ _ _ _ (blocks1 V c t) (fun h => h0 ((hcond1_0 t).mp h)) (carry1 V c t.val) _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact bwdB_out c (grid1.coords t) _ _ _ _ _ _ _ _ _ _ _ _ _ _ _ _ _ _ _ _ _ _ _ _ _ _ (blocks1 V c t) (fun h => h0 ((hcond1_0 t).mp h)) (carry1 V c t.val) _

/-- The body table's row at point `t`'s slots is the body. -/
theorem defs₀_row1 (t : Fin cfg1.N) :
    defs₀ (F := F) .tc cfg1.body (cfg1.bodyArgs t (cfg1.slots t)) = bodyAt1 t := by
  unfold defs₀; rw [Defs.onTc_tc]

/-- The pipeline's obligation for its body, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- After the last point the scratch's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val from rfl,
    PhiS1_pos V c _ (by rw [Fin.val_last]; have : cfg1.N = 16 := N_1; omega), PhiA1_eq]
  iintro ⟨HS0, Hg⟩
  isplitl [HS0]
  · iexists _; iexact HS0
  iexact Hg

end

end Cert.KernelIdeal.Gen

end
-- ==== Proof.Run.lean ====
/-
The run of the whole program: the host operations, the forward call, the copy, the backward call; what every buffer holds at the end.
-/
module

public import proofs.«01_k».proof.Proof.FwdRegion
public import proofs.«01_k».proof.Proof.BwdRegion
public import proofs.«01_k».proof.Proof.Gen.KernelIdeal.Regions

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3]

/-! ## The buffers' contents at each boundary of the program -/

/-- Every TensorCore buffer when the forward call is entered. -/
abbrev entry0 : (c : Dev nD) → (b : Ref sig .tc) → Buf (Elt F) ((c : Thread nD τ).loc b) := fun c b => V3 m c b

/-- Every buffer after the call: its arrays at what the write-backs leave, every other buffer as before. -/
def B4 (c : Dev nD) : Valuation τ sig (Elt F) :=
  Pipeline.withArrays spec0 c (V3 m c) fun w => (dat0 (entry0 m) c).arrAt w cfg0.N
theorem B4_arr (c : Dev nD) (w : Fin cfg0.W) :
    B4 m c (Proc.devRef .tc (Pipeline.arrRef spec0 w)) = (dat0 (entry0 m) c).arrAt w cfg0.N := by
  unfold B4; exact (dat0 (entry0 m) c).withArrays_arrAt launch₀0.sharedIn _ (A_eq0 (entry0 m) c) w
theorem B4_of_ne (c : Dev nD) (b : Ref sig .tc) (hb : ∀ w, Pipeline.arrRef spec0 w ≠ b) :
    B4 m c (Proc.devRef .tc b) = V3 m c (Proc.devRef .tc b) := by
  unfold B4; exact Pipeline.withArrays_of_ne spec0 c _ _ b hb
/-- A buffer that is no output array of the call keeps its contents across it. -/
theorem B4_of (c : Dev nD) (r : Ref sig .tc) (h : ∀ w : Fin cfg0.W, Pipeline.arrRef spec0 w = r → (cfg0.win w).isOut = false) :
    B4 m c (Proc.devRef .tc r) = V3 m c (Proc.devRef .tc r) := by
  by_cases hw : ∃ w : Fin cfg0.W, Pipeline.arrRef spec0 w = r
  · obtain ⟨w, rfl⟩ := hw
    exact (B4_arr m c w).trans (((dat0 (entry0 m) c).arrAt_in w (h w rfl) _).trans (A_eq0 (entry0 m) c w))
  · exact B4_of_ne m c r fun w e => hw ⟨w, e⟩
/-- The same contents at the TensorCore's references. -/
abbrev exit0 : (c : Dev nD) → (b : Ref sig .tc) → Buf (Elt F) ((c : Thread nD τ).loc b) := fun c b => B4 m c b
theorem arr_exit0 (c : Dev nD) (w : Fin cfg0.W) : (dat0 (entry0 m) c).arrAt w cfg0.N = exit0 m c (Pipeline.arrRef spec0 w) :=
  (B4_arr m c w).symm
theorem rest_exit0 (c : Dev nD) : ∀ b, b ∉ Finset.univ.image (Pipeline.arrRef spec0) → exit0 m c b = entry0 m c b :=
  fun b hb => B4_of_ne m c b fun w e => hb (Finset.mem_image.mpr ⟨w, Finset.mem_univ _, e⟩)
/-- Every argument among the call's arrays is an input's. -/
theorem args_in0 : ∀ a ∈ argRefs, ∀ w : Fin cfg0.W, Pipeline.arrRef spec0 w = a → (cfg0.win w).isOut = false :=
  ListAll.forall_mem_of_all_decide (by decide +kernel)

/-- Every buffer after the copy between the calls. -/
abbrev B5 (c : Dev nD) : Valuation τ sig (Elt F) := StableHlo.after hostOps1 (B4 m c)
theorem B5_of (c : Dev nD) (r : Ref sig .tc) (h : r ∉ hostOps1_W) : B5 m c (Proc.devRef .tc r) = B4 m c (Proc.devRef .tc r) :=
  StableHlo.after_of_writes_sub hostOps1 _ hostOps1_writes h
/-- Every TensorCore buffer when the backward call is entered. -/
abbrev entry1 : (c : Dev nD) → (b : Ref sig .tc) → Buf (Elt F) ((c : Thread nD τ).loc b) := fun c b => B5 m c b

/-- Every buffer after the call: its arrays at what the write-backs leave, every other buffer as before. -/
def B6 (c : Dev nD) : Valuation τ sig (Elt F) :=
  Pipeline.withArrays spec1 c (B5 m c) fun w => (dat1 (entry1 m) c).arrAt w cfg1.N
theorem B6_arr (c : Dev nD) (w : Fin cfg1.W) :
    B6 m c (Proc.devRef .tc (Pipeline.arrRef spec1 w)) = (dat1 (entry1 m) c).arrAt w cfg1.N := by
  unfold B6; exact (dat1 (entry1 m) c).withArrays_arrAt launch₀1.sharedIn _ (A_eq1 (entry1 m) c) w
theorem B6_of_ne (c : Dev nD) (b : Ref sig .tc) (hb : ∀ w, Pipeline.arrRef spec1 w ≠ b) :
    B6 m c (Proc.devRef .tc b) = B5 m c (Proc.devRef .tc b) := by
  unfold B6; exact Pipeline.withArrays_of_ne spec1 c _ _ b hb
/-- A buffer that is no output array of the call keeps its contents across it. -/
theorem B6_of (c : Dev nD) (r : Ref sig .tc) (h : ∀ w : Fin cfg1.W, Pipeline.arrRef spec1 w = r → (cfg1.win w).isOut = false) :
    B6 m c (Proc.devRef .tc r) = B5 m c (Proc.devRef .tc r) := by
  by_cases hw : ∃ w : Fin cfg1.W, Pipeline.arrRef spec1 w = r
  · obtain ⟨w, rfl⟩ := hw
    exact (B6_arr m c w).trans (((dat1 (entry1 m) c).arrAt_in w (h w rfl) _).trans (A_eq1 (entry1 m) c w))
  · exact B6_of_ne m c r fun w e => hw ⟨w, e⟩
/-- The same contents at the TensorCore's references. -/
abbrev exit1 : (c : Dev nD) → (b : Ref sig .tc) → Buf (Elt F) ((c : Thread nD τ).loc b) := fun c b => B6 m c b
theorem arr_exit1 (c : Dev nD) (w : Fin cfg1.W) : (dat1 (entry1 m) c).arrAt w cfg1.N = exit1 m c (Pipeline.arrRef spec1 w) :=
  (B6_arr m c w).symm
theorem rest_exit1 (c : Dev nD) : ∀ b, b ∉ Finset.univ.image (Pipeline.arrRef spec1) → exit1 m c b = entry1 m c b :=
  fun b hb => B6_of_ne m c b fun w e => hb (Finset.mem_image.mpr ⟨w, Finset.mem_univ _, e⟩)
/-- Every argument among the call's arrays is an input's. -/
theorem args_in1 : ∀ a ∈ argRefs, ∀ w : Fin cfg1.W, Pipeline.arrRef spec1 w = a → (cfg1.win w).isOut = false :=
  ListAll.forall_mem_of_all_decide (by decide +kernel)

/-- No host operation writes an argument. -/
theorem args_hosts : ∀ a ∈ argRefs, a ∉ hostOps0_W ∧ a ∉ hostOps0_1_W ∧ a ∉ hostOps0_2_W ∧ a ∉ hostOps1_W :=
  ListAll.forall_mem_of_all_decide (by decide +kernel)
/-- Every argument is as launched when the forward call is entered, -/
theorem entry0_args (c : Dev nD) (a : Ref sig .tc) (ha : a ∈ argRefs) : entry0 m c a = m ((c : Thread nD τ).loc a) :=
  (V3_of m c a (args_hosts a ha).2.2.1).trans ((V2_of m c a (args_hosts a ha).2.1).trans (V1_of m c a (args_hosts a ha).1))
/-- when the backward call is entered, -/
theorem entry1_args (c : Dev nD) (a : Ref sig .tc) (ha : a ∈ argRefs) : entry1 m c a = m ((c : Thread nD τ).loc a) :=
  (B5_of m c a (args_hosts a ha).2.2.2).trans ((B4_of m c a (args_in0 a ha)).trans (entry0_args m c a ha))
/-- and at the end. -/
theorem B6_args (c : Dev nD) (a : Ref sig .tc) (ha : a ∈ argRefs) : B6 m c (Proc.devRef .tc a) = m ((c : Thread nD τ).loc a) :=
  (B6_of m c a (args_in1 a ha)).trans (entry1_args m c a ha)

/-! ## The program as segments -/

/-- Both calls' proof data, each at its entry contents. -/
def allDats : (p : Fin 2) → (c : Dev nD) → Dat τ (Elt F) Unit ℕ (UR sig nD τ) ℕ (Pipeline.pin (pcfgs (F := F)) adm p) c
  | ⟨0, _⟩ => fun c => dat0 (entry0 m) c
  | ⟨1, _⟩ => fun c => dat1 (entry1 m) c
/-- No core owes another anything. -/
abbrev noLevels : GSem nD τ sig → Finset Unit := fun _ => ∅
/-- What rides beside the buffers: the generator register at some state, and nothing owed. -/
abbrev beside (c : Dev nD) : sProp 𝕄 := iprop((∃ r, prngReg c r) ∗ ∃ W, owes (c : Thread nD τ) (0 : CellTallies nD τ sig Unit) W)
/-- A stretch of host operations as a segment. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLevels (fun _ _ => (0 : ℕ)) :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state at the end: every unscoped buffer at its last contents, the generator register at some state. -/
abbrev lastState (c : Dev nD) : sProp 𝕄 := iprop(StableHlo.held (c : Thread nD τ) (Pipeline.ucRefs τ sig) (B6 m c) ∗ ∃ r, prngReg c r)

set_option backward.isDefEq.respectTransparency.types false in
/-- The forward call as a segment: entered from every unscoped buffer at `V3`, left at `B4`; its arrays split out of the
    unscoped buffers and are put back; the generator register goes through the invariant; nothing is owed. -/
def region0 : Pipeline.RegionSeg (pcfgs (F := F)) adm (allDats m) () defs₀ Variants.none noLevels (fun _ _ => (0 : ℕ)) 0 where
  win := launch₀0.win
  block_pos := launch₀0.block_pos
  stage_whole := launch₀0.stage_whole
  K := PEmpty
  osem k := k.elim
  ho := Pipeline.OwnSemFacts.none _
  hbody c := (body_obligation0 (entry0 m) c).loose
  hwaits := Pipeline.hwaits_of_owed_zero _ _ _ _ noLevels (fun _ _ => (0 : ℕ)) 0 fun _ _ => rfl
  pre c := iprop(StableHlo.held (c : Thread nD τ) (Pipeline.ucRefs τ sig) (V3 m c) ∗ beside c)
  post c := iprop(StableHlo.held (c : Thread nD τ) (Pipeline.ucRefs τ sig) (B4 m c) ∗ beside c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs_shared (p := 0) (pcfgs (F := F)) adm (allDats m) launch₀0.win launch₀0.sharedIn launch₀0.arr_whole c
      (fun _ _ => rfl) (entry0 m c) (A_eq0 (entry0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m 0 c).Φ 0 = Pipeline.ΦA spec0 c from rfl]; unfold Pipeline.ΦA
    iintro ⟨Hp, -, Hr⟩
    isplitl [Hr]; · iexact Hr
    iexact Hp
  hout c := by
    have h : (allDats m 0 c).Φ (Fin.last _) ⊢ (Pipeline.ΦA spec0 c : sProp 𝕄) := hout0 (entry0 m) c
    rw [Pipeline.ownSems0_none]
    refine h.trans ?_
    unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (allDats m) (fun _ _ => rfl)
      (entry0 m c) (exit0 m c) ((allDats m 0 c).arrAt · cfg0.N) (arr_exit0 m c) (rest_exit0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The backward call as a segment: entered from every unscoped buffer at `B5`, left at `B6`; its arrays split out of the
    unscoped buffers and are put back; the generator register goes through the invariant; nothing is owed. -/
def region1 : Pipeline.RegionSeg (pcfgs (F := F)) adm (allDats m) () defs₀ Variants.none noLevels (fun _ _ => (0 : ℕ)) 1 where
  win := launch₀1.win
  block_pos := launch₀1.block_pos
  stage_whole := launch₀1.stage_whole
  K := PEmpty
  osem k := k.elim
  ho := Pipeline.OwnSemFacts.none _
  hbody c := (body_obligation1 (entry1 m) c).loose
  hwaits := Pipeline.hwaits_of_owed_zero _ _ _ _ noLevels (fun _ _ => (0 : ℕ)) 1 fun _ _ => rfl
  pre c := iprop(StableHlo.held (c : Thread nD τ) (Pipeline.ucRefs τ sig) (B5 m c) ∗ beside c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs_shared (p := 1) (pcfgs (F := F)) adm (allDats m) launch₀1.win launch₀1.sharedIn launch₀1.arr_whole c
      (fun _ _ => rfl) (entry1 m c) (A_eq1 (entry1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m 1 c).Φ 0 = Pipeline.ΦA spec1 c from rfl]; unfold Pipeline.ΦA
    iintro ⟨Hp, -, Hr⟩
    isplitl [Hr]; · iexact Hr
    iexact Hp
  hout c := by
    have h : (allDats m 1 c).Φ (Fin.last _) ⊢ (Pipeline.ΦA spec1 c : sProp 𝕄) := hout1 (entry1 m) c
    rw [Pipeline.ownSems0_none]
    refine h.trans ?_
    unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (allDats m) (fun _ _ => rfl)
      (entry1 m c) (exit1 m c) ((allDats m 1 c).arrAt · cfg1.N) (arr_exit1 m c) (rest_exit1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's six segments in order. -/
abbrev allSegs : List (Pipeline.Seg (pcfgs (F := F)) adm (allDats m) () defs₀ Variants.none noLevels (fun _ _ => (0 : ℕ))) :=
  [ .host (stretch hostOps0 hostOps0_sub hostOps0_fresh (V0 m)),
    .host (stretch hostOps0_1 hostOps0_1_sub hostOps0_1_fresh (V1 m)),
    .host (stretch hostOps0_2 hostOps0_2_sub hostOps0_2_fresh (V2 m)),
    .region (region0 m),
    .host (stretch hostOps1 hostOps1_sub hostOps1_fresh (B4 m)),
    .region (region1 m) ]
theorem main_is_segs (c : Dev nD) : main (F := F) c = Pipeline.Seg.run (allSegs m) := (main_chain c).trans (by chain_rfl)

set_option backward.isDefEq.respectTransparency.types false in
/-- The whole run: from any memory with zero counters every weakly fair execution ends, without a fault, with every unscoped
    buffer at its last contents and every counter zero. -/
theorem run_main : θ_run defs (onTc (τ := τ) (main (F := F))) ⟨m, fun _ => 0, ρ⟩ (fun r =>
      (∀ c : Dev nD, ∀ b ∈ Pipeline.ucRefs τ sig, r.2.mem (((c : Thread nD τ)).1, b) = B6 m c b) ∧ r.2.sem = fun _ => 0) :=
  Pipeline.θ_run_regions_kit_sems (pcfgs (F := F)) adm (allDats m) () cellOf_inj emb₁ defs₀ Variants.none noLevels (fun _ _ => (0 : ℕ)) m ρ main (allSegs m)
    (fun c Q => by rw [main_is_segs m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ beside c)) (Tₙ := lastState m)
    (hch := ⟨fun _ => .rfl, fun _ => .rfl, fun _ => .rfl, fun _ => .rfl, fun _ => .rfl, fun _ => .rfl, fun _ => .rfl⟩)
    (hinit := by
      refine Pipeline.initEach noLevels (fun _ _ => (0 : ℕ)) fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m c b)
    (hfin := fun c s' => by
      iintro ⟨⟨Hh, -⟩, HSI⟩
      unfold StableHlo.held
      imodintro
      iapply (pointsTo_read_all (Pipeline.ucRefs τ sig) (fun b => (((c : Thread nD τ)).1, b)) (B6 m c) s')
      isplitl [Hh] <;> iassumption)
    (hQ := fun s h hz => ⟨h, funext fun g => hz g (.inr (regions_no_unscoped g.2))⟩)

/-- The arguments end as launched and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1 c _ (mem_unscoped main_arg0 (by decide))).trans (B6_args m c main_arg0 (by decide)),
     (h.1 c _ (mem_unscoped main_arg1 (by decide))).trans (B6_args m c main_arg1 (by decide)),
     (h.1 c _ (mem_unscoped main_arg2 (by decide))).trans (B6_args m c main_arg2 (by decide)),
     (h.1 c _ (mem_unscoped main_arg3 (by decide))).trans (B6_args m c main_arg3 (by decide))⟩, h.2⟩) (run_main m ρ)

end Cert.KernelIdeal.Gen

end
-- ==== Proof.Spec.lean ====
/-
The retention layer and its gradient over the extended reals, written once for both programs: rows in chunks of 128, four
heads, a state carried from chunk to chunk forward and its gradient carried backward.
-/
module

public import Idealize.ShloMosaic.Lib.Pointwise

@[expose] public section

noncomputable section

namespace Cert.Ret

open Idealize.ShloMosaic

/-- What the layer reads: the projections `p` (row, column), the gradient `g` of the output, the cosines and sines of a row, the decay
    within a chunk, the decays of a chunk's queries and keys, and the decay of a whole chunk. -/
structure In where
  p : ℕ → ℕ → EReal
  g : ℕ → ℕ → EReal
  cs : ℕ → ℕ → EReal
  sn : ℕ → ℕ → EReal
  D : ℕ → ℕ → ℕ → EReal
  qd : ℕ → ℕ → EReal
  kd : ℕ → ℕ → EReal
  cd : ℕ → EReal

/-- The scale of the keys. -/
def scale : EReal := Ideal.ofBits .f32 0x3D800000#32

/-- The rotation of a row of 256 by the angles of its halves. -/
def rot (x c s : ℕ → EReal) (d : ℕ) : EReal :=
  if d < 128 then x d * c d - x (d + 128) * s d else x (d - 128) * s (d - 128) + x d * c (d - 128)
/-- Its transpose. -/
def unrot (x c s : ℕ → EReal) (d : ℕ) : EReal :=
  if d < 128 then x d * c d + x (d + 128) * s d else x d * c (d - 128) - x (d - 128) * s (d - 128)

namespace In

variable (X : In)

/-- The rotated queries, the rotated and scaled keys, the values and the gradient of the output: chunk, head, row, column. -/
def Q (n h i d : ℕ) : EReal := rot (fun d => X.p (128 * n + i) (256 * h + d)) (X.cs (128 * n + i)) (X.sn (128 * n + i)) d
def K (n h i d : ℕ) : EReal := rot (fun d => X.p (128 * n + i) (1024 + 256 * h + d)) (X.cs (128 * n + i)) (X.sn (128 * n + i)) d * scale
def V (n h i e : ℕ) : EReal := X.p (128 * n + i) (2048 + 512 * h + e)
def G (n h i e : ℕ) : EReal := X.g (128 * n + i) (512 * h + e)

/-- The state of a head after chunk `n`, from the one before. -/
def nextS (n h : ℕ) (s : ℕ → ℕ → EReal) (d e : ℕ) : EReal :=
  X.cd h * s d e + ∑ i : Fin 128, X.K n h i d * (X.V n h i e * X.kd h i)
/-- The state before chunk `n`. -/
def S (h : ℕ) : ℕ → ℕ → ℕ → EReal
  | 0 => fun _ _ => 0
  | n + 1 => X.nextS n h (S h n)
/-- The gradient of the state before chunk `n`, from that of the state after. -/
def nextT (n h : ℕ) (s : ℕ → ℕ → EReal) (d e : ℕ) : EReal :=
  X.cd h * s d e + ∑ i : Fin 128, X.Q n h i d * (X.G n h i e * X.qd h i)
/-- The gradient of the state after the last `m` chunks are done. -/
def T (h : ℕ) : ℕ → ℕ → ℕ → EReal
  | 0 => fun _ _ => 0
  | m + 1 => X.nextT (63 - m) h (T h m)

/-- The decayed scores of a chunk, and their gradient. -/
def A (n h i j : ℕ) : EReal := (∑ d : Fin 256, X.Q n h i d * X.K n h j d) * X.D h i j
def dA (n h i j : ℕ) : EReal := (∑ e : Fin 512, X.G n h i e * X.V n h j e) * X.D h i j

/-- The output of a chunk from the state before it. -/
def outS (n h : ℕ) (s : ℕ → ℕ → EReal) (i e : ℕ) : EReal :=
  (∑ j : Fin 128, X.A n h i j * X.V n h j e) + (∑ d : Fin 256, X.Q n h i d * s d e) * X.qd h i
/-- The gradients of a chunk's values, queries and keys before the rotation is undone, from the gradient of the state after it. -/
def gV (n h : ℕ) (t : ℕ → ℕ → EReal) (j e : ℕ) : EReal :=
  (∑ i : Fin 128, X.A n h i j * X.G n h i e) + (∑ d : Fin 256, X.K n h j d * t d e) * X.kd h j
def gQ (n h : ℕ) (s : ℕ → ℕ → EReal) (i d : ℕ) : EReal :=
  (∑ j : Fin 128, X.dA n h i j * X.K n h j d) + ∑ e : Fin 512, X.G n h i e * X.qd h i * s d e
def gK (n h : ℕ) (t : ℕ → ℕ → EReal) (j d : ℕ) : EReal :=
  ((∑ i : Fin 128, X.dA n h i j * X.Q n h i d) + ∑ e : Fin 512, X.V n h j e * X.kd h j * t d e) * scale

/-- The layer's output at a row and a column. -/
def out (r c : ℕ) : EReal := X.outS (r / 128) (c / 512) (X.S (c / 512) (r / 128)) (r % 128) (c % 512)
/-- The gradient of the projections at a row and one of the first 4096 columns. -/
def grad (r c : ℕ) : EReal :=
  if c < 1024 then
    unrot (X.gQ (r / 128) (c / 256) (X.S (c / 256) (r / 128)) (r % 128)) (X.cs r) (X.sn r) (c % 256)
  else if c < 2048 then
    unrot (X.gK (r / 128) ((c - 1024) / 256) (X.T ((c - 1024) / 256) (63 - r / 128)) (r % 128)) (X.cs r) (X.sn r) ((c - 1024) % 256)
  else
    X.gV (r / 128) ((c - 2048) / 512) (X.T ((c - 2048) / 512) (63 - r / 128)) (r % 128) ((c - 2048) % 512)

end In

end Cert.Ret

end
-- ==== Proof.Inst.lean ====
/-
The layer's inputs from the four arrays both programs take: the projections, the positions and the gradient of the output, and the tables
of angles and decays by formula.
-/
module

public import proofs.«01_k».proof.Proof.Spec
public import Idealize.ShloMosaic.Lib.Pointwise

@[expose] public section

noncomputable section

namespace Cert.Ret

open Idealize.ShloMosaic

/-- A matrix as a function of its row and column, zero outside. -/
def mat {a b : ℕ} (A : (⟨2, ![a, b]⟩ : Shape).Idx → EReal) (i j : ℕ) : EReal :=
  if h : i < a ∧ j < b then A (ix2 ⟨i, h.1⟩ ⟨j, h.2⟩) else 0

theorem mat_eq {a b : ℕ} (A : (⟨2, ![a, b]⟩ : Shape).Idx → EReal) (i j : ℕ) (hi : i < a) (hj : j < b) :
    A (ix2 ⟨i, hi⟩ ⟨j, hj⟩) = mat A i j := by
  rw [mat, dif_pos ⟨hi, hj⟩]

/-- A small number. -/
def num (n : ℕ) : EReal := FloatOps.sitofp (F := Ideal) .f32 (BitVec.ofNat 32 n)

/-- A position, zero outside. -/
def pos {a : ℕ} (P : (⟨1, ![a]⟩ : Shape).Idx → BitVec 32) (r : ℕ) : EReal :=
  if h : r < a then FloatOps.sitofp (F := Ideal) .f32 (P (ix1 ⟨r, h⟩)) else 0

theorem pos_eq {a : ℕ} (P : (⟨1, ![a]⟩ : Shape).Idx → BitVec 32) (r : ℕ) (h : r < a) :
    FloatOps.sitofp (F := Ideal) .f32 (P (ix1 ⟨r, h⟩)) = pos P r := by
  rw [pos, dif_pos h]

/-- The angle of a row and a column: the position times a power of the base. -/
def ang {a : ℕ} (P : (⟨1, ![a]⟩ : Shape).Idx → BitVec 32) (r d : ℕ) : EReal :=
  pos P r * Ideal.pow (Ideal.ofBits .f32 0x461C4000#32) (Ideal.div (-num d) (Ideal.ofBits .f32 0x43000000#32))

/-- The logarithm of a head's decay. -/
def lg (h : ℕ) : EReal :=
  Ideal.log1p (-Ideal.exp (Ideal.ofBits .f32 0x3F317218#32 * (Ideal.ofBits .f32 0xC0A00000#32 - num h)))

open Classical in
/-- The decay from row `j` to row `i` of a chunk. -/
def decay (h i j : ℕ) : EReal :=
  if 0 ≤ num i - num j then Ideal.exp (lg h * max (num i - num j) 0) else 0
/-- The decay of a query, of a key, and of a chunk. -/
def qdecay (h i : ℕ) : EReal := Ideal.exp (lg h * (num i + 1))
def kdecay (h i : ℕ) : EReal := Ideal.exp (lg h * (Ideal.ofBits .f32 0x42FE0000#32 - num i))
def cdecay (h : ℕ) : EReal := Ideal.exp (lg h * Ideal.ofBits .f32 0x43000000#32)

/-- The layer of the four arrays. -/
def layer {a b r c e : ℕ} (A : (⟨2, ![a, b]⟩ : Shape).Idx → EReal) (P : (⟨1, ![r]⟩ : Shape).Idx → BitVec 32)
    (G : (⟨2, ![c, e]⟩ : Shape).Idx → EReal) : In where
  p := mat A
  g := mat G
  cs r d := Ideal.cos (ang P r d)
  sn r d := Ideal.sin (ang P r d)
  D := decay
  qd := qdecay
  kd := kdecay
  cd := cdecay

end Cert.Ret

end
-- ==== Proof.KTables.lean ====
/-
The tables the host prepares for both retention calls, as those of the layer of the arguments.
-/
module

public import proofs.«01_k».proof.Proof.Run
public import proofs.«01_k».proof.Proof.Inst
public import Idealize.ShloMosaic.Lib.Pointwise
public import Idealize.ShloMosaic.Lib.StableHlo.ReadAt

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

variable (X : Valuation τ sig (Elt Ideal))

/-- The contents after the host operations before the forward call. -/
abbrev hostTab : Valuation τ sig (Elt Ideal) := after hostOps0_2 (after hostOps0_1 (after hostOps0 X))

/-- The layer of the arguments' contents. -/
abbrev kLayer : Ret.In :=
  Ret.layer (X (Proc.devRef .tc main_arg0) : Vec Ideal S8192x8192 .bf16) (X (Proc.devRef .tc main_arg1) : Vec Ideal S8192 .i32)
    (X (Proc.devRef .tc main_arg2) : Vec Ideal S8192x2048 .bf16)

/-- The cosine table. -/
theorem tab_cs (r : Fin 8192) (d : Fin 128) : (hostTab X (Proc.devRef .tc main_v12) : Vec Ideal S8192x128 .f32) (ix2 r d) = (kLayer X).cs r d := by
  after_reads_simp
  pointwise
  simp only [Ret.layer, Ret.ang, Ret.num, Ret.pos_eq]

/-- The sine table. -/
theorem tab_sn (r : Fin 8192) (d : Fin 128) : (hostTab X (Proc.devRef .tc main_v13) : Vec Ideal S8192x128 .f32) (ix2 r d) = (kLayer X).sn r d := by
  after_reads_simp
  pointwise
  simp only [Ret.layer, Ret.ang, Ret.num, Ret.pos_eq]

/-- The decay inside a chunk. -/
theorem tab_dm (h : Fin 4) (i j : Fin 128) : (hostTab X (Proc.devRef .tc main_v38) : Vec Ideal S4x128x128 .f32) (ix3 h i j) = (kLayer X).D h i j := by
  after_reads_simp
  simp -implicitDefEqProofs only [StableHlo.TRef.toBuf, StableHlo.TRef.ofBuf, cast_cast, cast_eq, id_eq]
  pointwise
  exact if_congr Iff.rfl rfl rfl

/-- The decay of the carried state seen by a row of the chunk, along the columns. -/
theorem tab_qd (h : Fin 4) (i : Fin 128) (e : Fin 512) : (hostTab X (Proc.devRef .tc main_v59) : Vec Ideal S4x128x512 .f32) (ix3 h i e) = (kLayer X).qd h i := by
  after_reads_simp
  pointwise
  rfl

/-- The decay of a row's key to the end of the chunk, along the columns. -/
theorem tab_kd (h : Fin 4) (i : Fin 128) (e : Fin 512) : (hostTab X (Proc.devRef .tc main_v61) : Vec Ideal S4x128x512 .f32) (ix3 h i e) = (kLayer X).kd h i := by
  after_reads_simp
  pointwise
  rfl

/-- The decay of a whole chunk, along the columns. -/
theorem tab_cd (h : Fin 4) (e : Fin 512) : (hostTab X (Proc.devRef .tc main_v63) : Vec Ideal S4x1x512 .f32) (ix3 h 0 e) = (kLayer X).cd h := by
  after_reads_simp
  pointwise
  rfl

end Cert.KernelIdeal.Gen

end
-- ==== Proof.FwdPay.lean ====
/-
The forward kernel's values at an index, over the extended reals.
-/
module

public import proofs.«01_k».proof.Proof.FwdFns
public import proofs.«01_k».proof.Proof.Spec
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Ret

/-- The rotation as the forward kernel computes it. -/
theorem k0_pay5_at (c s : Vec Ideal S128x128 .f32) (x : Vec Ideal S128x256 .bf16) (x' c' s' : ℕ → ℕ → EReal)
    (hx : ∀ (i : Fin 128) (d : Fin 256), x (ix2 i d) = x' i d) (hc : ∀ (i d : Fin 128), c (ix2 i d) = c' i d)
    (hs : ∀ (i d : Fin 128), s (ix2 i d) = s' i d) (i : Fin 128) (d : Fin 256) :
    k0_pay5 c s x (ix2 i d) = rot (x' i) (c' i) (s' i) d := by
  pointwise [k0_pay5, k0_pay3, k0_pay4]
  simp only [hx, hc, hs]
  unfold rot
  have := d.isLt
  split
  · simp [Nat.add_comm]
  · rw [show 128 + (d.val - 128) = d.val by omega]

/-- The rotation and scale of the keys. -/
theorem k0_pay6_at (c s : Vec Ideal S128x128 .f32) (x : Vec Ideal S128x256 .bf16) (x' c' s' : ℕ → ℕ → EReal)
    (hx : ∀ (i : Fin 128) (d : Fin 256), x (ix2 i d) = x' i d) (hc : ∀ (i d : Fin 128), c (ix2 i d) = c' i d)
    (hs : ∀ (i d : Fin 128), s (ix2 i d) = s' i d) (i : Fin 128) (d : Fin 256) :
    k0_pay6 c s x (ix2 i d) = rot (x' i) (c' i) (s' i) d * scale := by
  pointwise [k0_pay6, k0_pay3, k0_pay4]
  simp only [hx, hc, hs]
  unfold rot scale
  have := d.isLt
  split
  · simp [Nat.add_comm]
  · rw [show 128 + (d.val - 128) = d.val by omega]

/-- A head's state after a chunk. -/
theorem k0_pay10_at (k : FVec Ideal S128x256 .bf16) (v : Vec Ideal S128x512 .bf16) (kd : Vec Ideal S1x128x512 .f32) (cd : Vec Ideal S1x1x512 .f32)
    (s : Vec Ideal S1x256x512 .f32) (d : Fin 256) (e : Fin 512) :
    k0_pay10 k v kd cd s (ix3 0 d e)
      = cd (ix3 0 0 e) * s (ix3 0 d e) + ∑ i : Fin 128, k (ix2 i d) * (v (ix2 i e) * kd (ix3 0 i e)) := by
  pointwise [k0_pay10]

/-- The state as the kernel reads it back. -/
theorem k0_pay7_at (s : Vec Ideal S1x256x512 .f32) (d : Fin 256) (e : Fin 512) : k0_pay7 s (ix2 d e) = s (ix3 0 d e) := by
  pointwise [k0_pay7]
theorem k0_pay8_at (s : FVec Ideal S256x512 .bf16) (d : Fin 256) (e : Fin 512) : k0_pay8 s (ix4 0 0 d e) = s (ix2 d e) := by
  pointwise [k0_pay8]

/-- The output of a chunk. -/
theorem k0_pay9_at (q k : FVec Ideal S128x256 .bf16) (v : Vec Ideal S128x512 .bf16) (s : FVec Ideal S256x512 .bf16) (dm : Vec Ideal S1x128x128 .f32)
    (qd : Vec Ideal S1x128x512 .f32) (i : Fin 128) (e : Fin 512) :
    k0_pay9 q k v s dm qd (ix2 i e)
      = (∑ j : Fin 128, (∑ d : Fin 256, q (ix2 i d) * k (ix2 j d)) * dm (ix3 0 i j) * v (ix2 j e))
        + (∑ d : Fin 256, q (ix2 i d) * s (ix2 d e)) * qd (ix3 0 i e) := by
  pointwise [k0_pay9]

/-- The carried state at the start. -/
theorem k0_pay2_at (h : Fin 4) (d : Fin 256) (e : Fin 512) : (k0_pay2 (F := Ideal)) (ix3 h d e) = 0 := by
  pointwise [k0_pay2]

end Cert.KernelIdeal.Gen

end
-- ==== Proof.FwdSpec.lean ====
/-
The forward kernel's point as a piece of the layer.
-/
module

public import proofs.«01_k».proof.Proof.FwdPay

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Ret

/-- A point's blocks hold the layer's inputs from row `512 t` on. -/
structure FwdIn.Is (B : FwdIn Ideal) (X : In) (t : ℕ) : Prop where
  q : ∀ (r : Fin 512) (c : Fin 1024), B.q (ix2 r c) = X.p (512 * t + r) c
  k : ∀ (r : Fin 512) (c : Fin 1024), B.k (ix2 r c) = X.p (512 * t + r) (1024 + c)
  v : ∀ (r : Fin 512) (c : Fin 2048), B.v (ix2 r c) = X.p (512 * t + r) (2048 + c)
  cs : ∀ (r : Fin 512) (c : Fin 128), B.cs (ix2 r c) = X.cs (512 * t + r) c
  sn : ∀ (r : Fin 512) (c : Fin 128), B.sn (ix2 r c) = X.sn (512 * t + r) c
  dm : ∀ (h : Fin 4) (i j : Fin 128), B.dm (ix3 h i j) = X.D h i j
  qd : ∀ (h : Fin 4) (i : Fin 128) (e : Fin 512), B.qd (ix3 h i e) = X.qd h i
  kd : ∀ (h : Fin 4) (i : Fin 128) (e : Fin 512), B.kd (ix3 h i e) = X.kd h i
  cd : ∀ (h : Fin 4) (e : Fin 512), B.cd (ix3 h 0 e) = X.cd h

namespace FwdIn.Is

variable {B : FwdIn Ideal} {X : In} {t : ℕ} (H : B.Is X t)
include H

/-- The block's rotated queries and keys are the layer's. -/
theorem qr_at (ci h : Fin 4) (i : Fin 128) (d : Fin 256) : B.qr ci h (ix2 i d) = X.Q (4 * t + ci) h i d := by
  unfold FwdIn.qr In.Q
  refine k0_pay5_at _ _ _ (fun i d => X.p (128 * (4 * t + ci) + i) (256 * h + d)) (fun i => X.cs (128 * (4 * t + ci) + i))
    (fun i => X.sn (128 * (4 * t + ci) + i)) (fun i d => ?_) (fun i d => ?_) (fun i d => ?_) i d
  · pointwise; rw [H.q]; dsimp only; congr 1; omega
  · pointwise; rw [H.cs]; dsimp only; congr 1; omega
  · pointwise; rw [H.sn]; dsimp only; congr 1; omega
theorem kr_at (ci h : Fin 4) (i : Fin 128) (d : Fin 256) : B.kr ci h (ix2 i d) = X.K (4 * t + ci) h i d := by
  unfold FwdIn.kr In.K
  refine k0_pay6_at _ _ _ (fun i d => X.p (128 * (4 * t + ci) + i) (1024 + 256 * h + d)) (fun i => X.cs (128 * (4 * t + ci) + i))
    (fun i => X.sn (128 * (4 * t + ci) + i)) (fun i d => ?_) (fun i d => ?_) (fun i d => ?_) i d
  · pointwise; rw [H.k]; dsimp only; congr 1 <;> omega
  · pointwise; rw [H.cs]; dsimp only; congr 1; omega
  · pointwise; rw [H.sn]; dsimp only; congr 1; omega
theorem v_at (ci h : Fin 4) (i : Fin 128) (e : Fin 512) : View.ld B.v (rV ci h) (ix2 i e) = X.V (4 * t + ci) h i e := by
  unfold In.V
  pointwise; rw [H.v]; dsimp only; congr 1 <;> omega
theorem dm_at (h : Fin 4) (i j : Fin 128) : View.ld B.dm (rD h) (ix3 0 i j) = X.D h i j := by
  pointwise; rw [← H.dm]
theorem qd_at (h : Fin 4) (i : Fin 128) (e : Fin 512) : View.ld B.qd (rK h) (ix3 0 i e) = X.qd h i := by
  rw [← H.qd h i e]; pointwise
theorem kd_at (h : Fin 4) (i : Fin 128) (e : Fin 512) : View.ld B.kd (rK h) (ix3 0 i e) = X.kd h i := by
  rw [← H.kd h i e]; pointwise
theorem cd_at (h : Fin 4) (e : Fin 512) : View.ld B.cd (rCd h) (ix3 0 0 e) = X.cd h := by
  rw [← H.cd h e]; pointwise

/-- One chunk's step of a head's state. -/
theorem next_at (ci h : Fin 4) (s : Vec Ideal S1x256x512 .f32) (s' : ℕ → ℕ → EReal) (hs : ∀ (d : Fin 256) (e : Fin 512), s (ix3 0 d e) = s' d e)
    (d : Fin 256) (e : Fin 512) : B.next ci h s (ix3 0 d e) = X.nextS (4 * t + ci) h s' d e := by
  unfold FwdIn.next In.nextS
  rw [k0_pay10_at, hs, H.cd_at]
  simp only [H.kr_at, H.v_at, H.kd_at]
/-- A head's state before each chunk of the point. -/
theorem st_at (h : Fin 4) (s : Vec Ideal S1x256x512 .f32) (hs : ∀ (d : Fin 256) (e : Fin 512), s (ix3 0 d e) = X.S h (4 * t) d e) :
    ∀ n ≤ 4, ∀ (d : Fin 256) (e : Fin 512), B.st h s n (ix3 0 d e) = X.S h (4 * t + n) d e
  | 0, _ => hs
  | n + 1, hn => fun d e => by
    have hv : (Fin.ofNat 4 n).val = n := Nat.mod_eq_of_lt (by omega)
    refine (H.next_at (Fin.ofNat 4 n) h _ _ (st_at h s hs n (by omega)) d e).trans ?_
    rw [hv]; rfl

/-- The carried states after the point. -/
theorem stOut_at (s : Vec Ideal S4x256x512 .f32) (hs : ∀ (h : Fin 4) (d : Fin 256) (e : Fin 512), s (ix3 h d e) = X.S h (4 * t) d e)
    (h : Fin 4) (d : Fin 256) (e : Fin 512) : B.stOut s (ix3 h d e) = X.S h (4 * (t + 1)) d e := by
  refine (H.st_at h (View.ld s (rS h)) (fun d e => ?_) 4 (le_refl _) d e)
  rw [← hs h d e]; pointwise
/-- The saved states of the point. -/
theorem sts_at (s : Vec Ideal S4x256x512 .f32) (hs : ∀ (h : Fin 4) (d : Fin 256) (e : Fin 512), s (ix3 h d e) = X.S h (4 * t) d e)
    (h ci : Fin 4) (d : Fin 256) (e : Fin 512) : B.sts s (ix4 h ci d e) = X.S h (4 * t + ci) d e := by
  refine (k0_pay8_at _ d e).trans ((k0_pay7_at _ d e).trans (H.st_at h (View.ld s (rS h)) (fun d e => ?_) ci.val (by omega) d e))
  rw [← hs h d e]; pointwise
/-- The output of the point. -/
theorem outAt_at (s : Vec Ideal S4x256x512 .f32) (hs : ∀ (h : Fin 4) (d : Fin 256) (e : Fin 512), s (ix3 h d e) = X.S h (4 * t) d e)
    (ci h : Fin 4) (i : Fin 128) (e : Fin 512) : B.outAt s ci h i e = X.outS (4 * t + ci) h (X.S h (4 * t + ci)) i e := by
  have hst := H.st_at h (View.ld s (rS h)) (fun d e => by rw [← hs h d e]; pointwise) ci.val (by omega)
  refine (k0_pay9_at _ _ _ _ _ _ i e).trans ?_
  unfold In.outS In.A
  simp only [H.qr_at, H.kr_at, H.v_at, H.dm_at, H.qd_at, k0_pay7_at, hst]

/-- The output block at a row and column. -/
theorem out_at (s : Vec Ideal S4x256x512 .f32) (hs : ∀ (h : Fin 4) (d : Fin 256) (e : Fin 512), s (ix3 h d e) = X.S h (4 * t) d e)
    (r : Fin 512) (c : Fin 2048) : B.out s (ix2 r c) = X.out (512 * t + r) c := by
  refine (H.outAt_at s hs ⟨r.val / 128, by omega⟩ ⟨c.val / 512, by omega⟩ ⟨r.val % 128, by omega⟩ ⟨c.val % 512, by omega⟩).trans ?_
  unfold In.out
  rw [show (512 * t + r.val) / 128 = 4 * t + r.val / 128 by omega, show (512 * t + r.val) % 128 = r.val % 128 by omega]

end FwdIn.Is

end Cert.KernelIdeal.Gen

end
-- ==== Proof.KFwdBlk.lean ====
/-
The blocks of the forward call: at every point they are rows of the layer its arrays hold.
-/
module

public import proofs.«01_k».proof.Proof.Run
public import proofs.«01_k».proof.Proof.FwdSpec
public import Idealize.ShloMosaic.Lib.Pipeline.ValueKit
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Ret

variable (V : (c : Dev nD) → (b : Ref sig .tc) → Buf (Elt Ideal) ((c : Thread nD τ).loc b))

/-- The arrays both calls read hold the layer `X`: the projections and the host's tables. -/
structure Entry (c : Dev nD) (X : In) : Prop where
  p : ∀ (r : Fin 8192) (k : Fin 8192), (V c main_arg0 : Vec Ideal S8192x8192 .bf16) (ix2 r k) = X.p r k
  cs : ∀ (r : Fin 8192) (k : Fin 128), (V c main_v12 : Vec Ideal S8192x128 .f32) (ix2 r k) = X.cs r k
  sn : ∀ (r : Fin 8192) (k : Fin 128), (V c main_v13 : Vec Ideal S8192x128 .f32) (ix2 r k) = X.sn r k
  dm : ∀ (h : Fin 4) (i j : Fin 128), (V c main_v38 : Vec Ideal S4x128x128 .f32) (ix3 h i j) = X.D h i j
  qd : ∀ (h : Fin 4) (i : Fin 128) (e : Fin 512), (V c main_v59 : Vec Ideal S4x128x512 .f32) (ix3 h i e) = X.qd h i
  kd : ∀ (h : Fin 4) (i : Fin 128) (e : Fin 512), (V c main_v61 : Vec Ideal S4x128x512 .f32) (ix3 h i e) = X.kd h i
  cd : ∀ (h : Fin 4) (e : Fin 512), (V c main_v63 : Vec Ideal S4x1x512 .f32) (ix3 h 0 e) = X.cd h

/-! The block every window reads or writes at a point. -/
theorem idx0_0 : ∀ t : Fin cfg0.N, win0_0.index t = ![t.val, 0] := (by decide +kernel : ∀ t : Fin grid0.N, _)
theorem idx0_1 : ∀ t : Fin cfg0.N, win0_1.index t = ![t.val, 1] := (by decide +kernel : ∀ t : Fin grid0.N, _)
theorem idx0_2 : ∀ t : Fin cfg0.N, win0_2.index t = ![t.val, 1] := (by decide +kernel : ∀ t : Fin grid0.N, _)
theorem idx0_3 : ∀ t : Fin cfg0.N, win0_3.index t = ![t.val, 0] := (by decide +kernel : ∀ t : Fin grid0.N, _)
theorem idx0_4 : ∀ t : Fin cfg0.N, win0_4.index t = ![t.val, 0] := (by decide +kernel : ∀ t : Fin grid0.N, _)
theorem idx0_5 : ∀ t : Fin cfg0.N, win0_5.index t = ![0, 0, 0] := (by decide +kernel : ∀ t : Fin grid0.N, _)
theorem idx0_6 : ∀ t : Fin cfg0.N, win0_6.index t = ![0, 0, 0] := (by decide +kernel : ∀ t : Fin grid0.N, _)
theorem idx0_7 : ∀ t : Fin cfg0.N, win0_7.index t = ![0, 0, 0] := (by decide +kernel : ∀ t : Fin grid0.N, _)
theorem idx0_8 : ∀ t : Fin cfg0.N, win0_8.index t = ![0, 0, 0] := (by decide +kernel : ∀ t : Fin grid0.N, _)
theorem idx0_9 : ∀ t : Fin cfg0.N, win0_9.index t = ![t.val, 0] := (by decide +kernel : ∀ t : Fin grid0.N, _)
theorem idx0_10 : ∀ t : Fin cfg0.N, win0_10.index t = ![0, t.val, 0, 0] := (by decide +kernel : ∀ t : Fin grid0.N, _)
theorem point0_lt (t : Fin cfg0.N) : t.val < 16 := t.isLt

variable {V} {c : Dev nD} {X : In} (E : Entry V c X)
include E

set_option maxHeartbeats 1000000 in
/-- What the forward body reads at point `t` are the rows `512 t` and on of the layer. -/
theorem blocks0_is (t : Fin cfg0.N) : (blocks0 V c t).Is X t.val where
  q r k := by
    have ht := point0_lt t
    refine Eq.trans ?_ (E.p ⟨512 * t.val + r.val, by omega⟩ ⟨k.val, by omega⟩)
    show iblk0 V c 0 t (ix2 r k) = _
    blk_ext [iblk0, idx0_0]
  k r k := by
    have ht := point0_lt t
    refine Eq.trans ?_ (E.p ⟨512 * t.val + r.val, by omega⟩ ⟨1024 + k.val, by omega⟩)
    show iblk0 V c 1 t (ix2 r k) = _
    blk_ext [iblk0, idx0_1]
  v r k := by
    have ht := point0_lt t
    refine Eq.trans ?_ (E.p ⟨512 * t.val + r.val, by omega⟩ ⟨2048 + k.val, by omega⟩)
    show iblk0 V c 2 t (ix2 r k) = _
    blk_ext [iblk0, idx0_2]
  cs r k := by
    have ht := point0_lt t
    refine Eq.trans ?_ (E.cs ⟨512 * t.val + r.val, by omega⟩ k)
    show iblk0 V c 3 t (ix2 r k) = _
    blk_ext [iblk0, idx0_3]
  sn r k := by
    have ht := point0_lt t
    refine Eq.trans ?_ (E.sn ⟨512 * t.val + r.val, by omega⟩ k)
    show iblk0 V c 4 t (ix2 r k) = _
    blk_ext [iblk0, idx0_4]
  dm h i j := by
    refine Eq.trans ?_ (E.dm h i j)
    show iblk0 V c 5 t (ix3 h i j) = _
    blk_ext [iblk0, idx0_5]
  qd h i e := by
    refine Eq.trans ?_ (E.qd h i e)
    show iblk0 V c 6 t (ix3 h i e) = _
    blk_ext [iblk0, idx0_6]
  kd h i e := by
    refine Eq.trans ?_ (E.kd h i e)
    show iblk0 V c 7 t (ix3 h i e) = _
    blk_ext [iblk0, idx0_7]
  cd h e := by
    refine Eq.trans ?_ (E.cd h e)
    show iblk0 V c 8 t (ix3 h 0 e) = _
    blk_ext [iblk0, idx0_8]

end Cert.KernelIdeal.Gen

end
-- ==== Proof.KFwd.lean ====
/-
The forward call's arrays: what it carries is the layer's state, and what it leaves is the layer's output and states.
-/
module

public import proofs.«01_k».proof.Proof.KFwdBlk

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Ret

variable {V : (c : Dev nD) → (b : Ref sig .tc) → Buf (Elt Ideal) ((c : Thread nD τ).loc b)} {c : Dev nD} {X : In} (E : Entry V c X)
include E

/-- The carried scratch before point `n` is the state before chunk `4 n`. -/
theorem carry0_is (n : ℕ) (hn : n ≤ 16) (h : Fin 4) (d : Fin 256) (e : Fin 512) : carry0 V c n (ix3 h d e) = X.S h (4 * n) d e := by
  induction n generalizing h d e with
  | zero => exact k0_pay2_at h d e
  | succ n ih =>
    have hn' : n < cfg0.N := (by omega : n < 16)
    rw [carry0_succ V c ⟨n, hn'⟩]
    exact (blocks0_is E ⟨n, hn'⟩).stOut_at _ (ih (by omega)) h d e

/-- The output array after the call. -/
theorem arr0_9 (r : Fin 8192) (k : Fin 2048) : ((dat0 V c).arrAt 9 cfg0.N : Vec Ideal S8192x2048 .bf16) (ix2 r k) = X.out r k := by
  have h := (dat0 V c).arrAt_eq_of_covers 9 (fun j : S8192x2048.Idx => X.out (j 0).val (j 1).val) (by decide +kernel) fun t hf y => by
    blk_simp [idx0_9]
    rw [after0_9]
    obtain ⟨i, j, rfl⟩ : ∃ i j, y = ix2 (n0 := 512) (n1 := 2048) i j := ⟨_, _, ValueIdx.eq_ix2 y⟩
    exact ((blocks0_is E t).out_at _ (carry0_is E t.val (by have := point0_lt t; omega)) i j).trans (by congr 1; show 512 * t.val + i.val = t.val * 512 + i.val; omega)
  rw [h]
  rfl

/-- The saved states after the call. -/
theorem arr0_10 (hd : Fin 4) (n : Fin 64) (d : Fin 256) (e : Fin 512) :
    ((dat0 V c).arrAt 10 cfg0.N : Vec Ideal S4x64x256x512 .bf16) (ix4 hd n d e) = X.S hd n d e := by
  have h := (dat0 V c).arrAt_eq_of_covers 10 (fun j : S4x64x256x512.Idx => X.S (j 0).val (j 1).val (j 2).val (j 3).val) (by decide +kernel) fun t hf y => by
    blk_simp [idx0_10]
    rw [after0_10]
    obtain ⟨a, b, i, j, rfl⟩ : ∃ a b i j, y = ix4 (n0 := 4) (n1 := 4) (n2 := 256) (n3 := 512) a b i j := ⟨_, _, _, _, ValueIdx.eq_ix4 y⟩
    refine ((blocks0_is E t).sts_at _ (carry0_is E t.val (by have := point0_lt t; omega)) a b i j).trans ?_
    show X.S a.val (4 * t.val + b.val) i.val j.val = X.S a.val (t.val * 4 + b.val) i.val j.val
    rw [Nat.mul_comm]
  rw [h]
  rfl

end Cert.KernelIdeal.Gen

end
-- ==== Proof.BwdPay.lean ====
/-
The backward kernel's values at an index, over the extended reals.
-/
module

public import proofs.«01_k».proof.Proof.BwdFns
public import proofs.«01_k».proof.Proof.Spec
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Ret

/-- The rotation as the backward kernel computes it. -/
theorem k1_pay5_at (c s : Vec Ideal S128x128 .f32) (x : Vec Ideal S128x256 .bf16) (x' c' s' : ℕ → ℕ → EReal)
    (hx : ∀ (i : Fin 128) (d : Fin 256), x (ix2 i d) = x' i d) (hc : ∀ (i d : Fin 128), c (ix2 i d) = c' i d)
    (hs : ∀ (i d : Fin 128), s (ix2 i d) = s' i d) (i : Fin 128) (d : Fin 256) :
    k1_pay5 c s x (ix2 i d) = rot (x' i) (c' i) (s' i) d := by
  pointwise [k1_pay5, k1_pay3, k1_pay4]
  simp only [hx, hc, hs]
  unfold rot
  have := d.isLt
  split
  · simp [Nat.add_comm]
  · rw [show 128 + (d.val - 128) = d.val by omega]

/-- The rotation and scale of the keys. -/
theorem k1_pay6_at (c s : Vec Ideal S128x128 .f32) (x : Vec Ideal S128x256 .bf16) (x' c' s' : ℕ → ℕ → EReal)
    (hx : ∀ (i : Fin 128) (d : Fin 256), x (ix2 i d) = x' i d) (hc : ∀ (i d : Fin 128), c (ix2 i d) = c' i d)
    (hs : ∀ (i d : Fin 128), s (ix2 i d) = s' i d) (i : Fin 128) (d : Fin 256) :
    k1_pay6 c s x (ix2 i d) = rot (x' i) (c' i) (s' i) d * scale := by
  pointwise [k1_pay6, k1_pay3, k1_pay4]
  simp only [hx, hc, hs]
  unfold rot scale
  have := d.isLt
  split
  · simp [Nat.add_comm]
  · rw [show 128 + (d.val - 128) = d.val by omega]

/-- The undone rotation as the backward kernel computes it, of the queries' gradient in parts. -/
theorem k1_pay19_at (c s x : Vec Ideal S128x128 .f32) (y z : FVec Ideal S128x128 .f32) (w' c' s' : ℕ → ℕ → EReal)
    (hx : ∀ (i d : Fin 128), x (ix2 i d) = w' i d) (hy : ∀ (i d : Fin 128), y (ix2 i d) = w' i (d + 128))
    (hz : ∀ (i d : Fin 128), z (ix2 i d) = w' i d * c' i d)
    (hc : ∀ (i d : Fin 128), c (ix2 i d) = c' i d)
    (hs : ∀ (i d : Fin 128), s (ix2 i d) = s' i d) (i : Fin 128) (d : Fin 256) :
    k1_pay19 (k1_pay3 c) (k1_pay4 s) x y z (ix2 i d) = unrot (w' i) (c' i) (s' i) d := by
  pointwise [k1_pay19, k1_pay3, k1_pay4]
  simp only [hx, hy, hz, hc, hs]
  unfold unrot
  have := d.isLt
  split
  · rfl
  · rw [show (d.val - 128) + 128 = d.val by omega]

/-- The undone rotation of the keys' gradient. -/
theorem k1_pay20_at (c s : Vec Ideal S128x128 .f32) (x : FVec Ideal S128x256 .f32) (x' c' s' : ℕ → ℕ → EReal)
    (hx : ∀ (i : Fin 128) (d : Fin 256), x (ix2 i d) = x' i d) (hc : ∀ (i d : Fin 128), c (ix2 i d) = c' i d)
    (hs : ∀ (i d : Fin 128), s (ix2 i d) = s' i d) (i : Fin 128) (d : Fin 256) :
    k1_pay20 (k1_pay3 c) (k1_pay4 s) x (ix2 i d) = unrot (x' i) (c' i) (s' i) d := by
  pointwise [k1_pay20, k1_pay3, k1_pay4]
  simp only [hx, hc, hs]
  unfold unrot
  have := d.isLt
  split
  · simp [Nat.add_comm]
  · rw [show 128 + (d.val - 128) = d.val by omega]

/-- The gradient of a head's state before a chunk. -/
theorem k1_pay21_at (q : FVec Ideal S128x256 .bf16) (g : Vec Ideal S128x512 .bf16) (qd : Vec Ideal S1x128x512 .f32) (cd : Vec Ideal S1x1x512 .f32)
    (s : Vec Ideal S1x256x512 .f32) (d : Fin 256) (e : Fin 512) :
    k1_pay21 q (k1_pay10 g qd) cd s (ix3 0 d e)
      = cd (ix3 0 0 e) * s (ix3 0 d e) + ∑ i : Fin 128, q (ix2 i d) * (g (ix2 i e) * qd (ix3 0 i e)) := by
  pointwise [k1_pay21, k1_pay10]

theorem k1_pay7_at (s : Vec Ideal S1x1x256x512 .bf16) (d : Fin 256) (e : Fin 512) : k1_pay7 s (ix2 d e) = s (ix4 0 0 d e) := by
  pointwise [k1_pay7]

/-- The gradient of a chunk's values. -/
theorem k1_pay12_at (q k : FVec Ideal S128x256 .bf16) (g : Vec Ideal S128x512 .bf16) (dm : Vec Ideal S1x128x128 .f32) (kd : Vec Ideal S1x128x512 .f32)
    (t : Vec Ideal S1x256x512 .f32) (j : Fin 128) (e : Fin 512) :
    k1_pay12 q k g dm kd t (ix2 j e)
      = (∑ i : Fin 128, (∑ d : Fin 256, q (ix2 i d) * k (ix2 j d)) * dm (ix3 0 i j) * g (ix2 i e))
        + (∑ d : Fin 256, k (ix2 j d) * t (ix3 0 d e)) * kd (ix3 0 j e) := by
  pointwise [k1_pay12, k1_pay8, k1_pay9, k1_pay11]

/-- The gradient of a chunk's keys, scaled. -/
theorem k1_pay15_at (q : FVec Ideal S128x256 .bf16) (v g : Vec Ideal S128x512 .bf16) (dm : Vec Ideal S1x128x128 .f32) (kd : Vec Ideal S1x128x512 .f32)
    (t : Vec Ideal S1x256x512 .f32) (j : Fin 128) (d : Fin 256) :
    k1_pay15 q v g dm kd t (ix2 j d)
      = ((∑ i : Fin 128, (∑ e : Fin 512, g (ix2 i e) * v (ix2 j e)) * dm (ix3 0 i j) * q (ix2 i d))
        + ∑ e : Fin 512, v (ix2 j e) * kd (ix3 0 j e) * t (ix3 0 d e)) * scale := by
  pointwise [k1_pay15, k1_pay13, k1_pay8, k1_pay9, k1_pay11, scale]

/-- The gradient of a chunk's queries. -/
theorem k1_pay14_at (k : FVec Ideal S128x256 .bf16) (v g : Vec Ideal S128x512 .bf16) (s : FVec Ideal S256x512 .bf16) (dm : Vec Ideal S1x128x128 .f32)
    (qd : Vec Ideal S1x128x512 .f32) (i : Fin 128) (d : Fin 256) :
    k1_pay14 k v s g dm qd (ix2 i d)
      = (∑ j : Fin 128, (∑ e : Fin 512, g (ix2 i e) * v (ix2 j e)) * dm (ix3 0 i j) * k (ix2 j d))
        + ∑ e : Fin 512, g (ix2 i e) * qd (ix3 0 i e) * s (ix2 d e) := by
  pointwise [k1_pay14, k1_pay13, k1_pay10, k1_pay8]
/-- Its two halves, and the first times the cosines. -/
theorem k1_pay16_at (k : FVec Ideal S128x256 .bf16) (v g : Vec Ideal S128x512 .bf16) (s : FVec Ideal S256x512 .bf16) (dm : Vec Ideal S1x128x128 .f32)
    (qd : Vec Ideal S1x128x512 .f32) (i d : Fin 128) :
    k1_pay16 k v s g dm qd (ix2 i d) = k1_pay14 k v s g dm qd (ix2 i ⟨d.val, by omega⟩) := by
  unfold k1_pay16
  generalize k1_pay14 k v s g dm qd = z
  pointwise
theorem k1_pay17_at (k : FVec Ideal S128x256 .bf16) (v g : Vec Ideal S128x512 .bf16) (s : FVec Ideal S256x512 .bf16) (dm : Vec Ideal S1x128x128 .f32)
    (qd : Vec Ideal S1x128x512 .f32) (i d : Fin 128) :
    k1_pay17 k v s g dm qd (ix2 i d) = k1_pay14 k v s g dm qd (ix2 i ⟨d.val + 128, by omega⟩) := by
  unfold k1_pay17
  generalize k1_pay14 k v s g dm qd = z
  pointwise
  simp [Nat.add_comm]
theorem k1_pay18_at (c : Vec Ideal S128x128 .f32) (k : FVec Ideal S128x256 .bf16) (v g : Vec Ideal S128x512 .bf16) (s : FVec Ideal S256x512 .bf16) (dm : Vec Ideal S1x128x128 .f32)
    (qd : Vec Ideal S1x128x512 .f32) (i d : Fin 128) :
    k1_pay18 (k1_pay3 c) k v s g dm qd (ix2 i d) = k1_pay14 k v s g dm qd (ix2 i ⟨d.val, by omega⟩) * c (ix2 i d) := by
  unfold k1_pay18
  rw [← k1_pay16_at]
  pointwise [k1_pay3]

/-- The carried gradient at the start. -/
theorem k1_pay2_at (h : Fin 4) (d : Fin 256) (e : Fin 512) : (k1_pay2 (F := Ideal)) (ix3 h d e) = 0 := by
  pointwise [k1_pay2]

end Cert.KernelIdeal.Gen

end
-- ==== Proof.BwdSpec.lean ====
/-
The backward kernel's point as a piece of the layer's gradient.
-/
module

public import proofs.«01_k».proof.Proof.BwdPay

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Ret

/-- A point's blocks hold the layer's inputs from row `512 t` on, with the states before its four chunks. -/
structure BwdIn.Is (B : BwdIn Ideal) (X : In) (t : ℕ) : Prop where
  q : ∀ (r : Fin 512) (c : Fin 1024), B.q (ix2 r c) = X.p (512 * t + r) c
  k : ∀ (r : Fin 512) (c : Fin 1024), B.k (ix2 r c) = X.p (512 * t + r) (1024 + c)
  v : ∀ (r : Fin 512) (c : Fin 2048), B.v (ix2 r c) = X.p (512 * t + r) (2048 + c)
  cs : ∀ (r : Fin 512) (c : Fin 128), B.cs (ix2 r c) = X.cs (512 * t + r) c
  sn : ∀ (r : Fin 512) (c : Fin 128), B.sn (ix2 r c) = X.sn (512 * t + r) c
  dm : ∀ (h : Fin 4) (i j : Fin 128), B.dm (ix3 h i j) = X.D h i j
  qd : ∀ (h : Fin 4) (i : Fin 128) (e : Fin 512), B.qd (ix3 h i e) = X.qd h i
  kd : ∀ (h : Fin 4) (i : Fin 128) (e : Fin 512), B.kd (ix3 h i e) = X.kd h i
  cd : ∀ (h : Fin 4) (e : Fin 512), B.cd (ix3 h 0 e) = X.cd h
  st : ∀ (h ci : Fin 4) (d : Fin 256) (e : Fin 512), B.st (ix4 h ci d e) = X.S h (4 * t + ci) d e
  dO : ∀ (r : Fin 512) (c : Fin 2048), B.dO (ix2 r c) = X.g (512 * t + r) c

namespace BwdIn.Is

variable {B : BwdIn Ideal} {X : In} {t : ℕ} (H : B.Is X t)
include H

/-- The block's rotated queries and keys are the layer's. -/
theorem qr_at (ci h : Fin 4) (i : Fin 128) (d : Fin 256) : B.qr ci h (ix2 i d) = X.Q (4 * t + ci) h i d := by
  unfold BwdIn.qr In.Q
  refine k1_pay5_at _ _ _ (fun i d => X.p (128 * (4 * t + ci) + i) (256 * h + d)) (fun i => X.cs (128 * (4 * t + ci) + i))
    (fun i => X.sn (128 * (4 * t + ci) + i)) (fun i d => ?_) (fun i d => ?_) (fun i d => ?_) i d
  · pointwise; rw [H.q]; dsimp only; congr 1; omega
  · pointwise; rw [H.cs]; dsimp only; congr 1; omega
  · pointwise; rw [H.sn]; dsimp only; congr 1; omega
theorem kr_at (ci h : Fin 4) (i : Fin 128) (d : Fin 256) : B.kr ci h (ix2 i d) = X.K (4 * t + ci) h i d := by
  unfold BwdIn.kr In.K
  refine k1_pay6_at _ _ _ (fun i d => X.p (128 * (4 * t + ci) + i) (1024 + 256 * h + d)) (fun i => X.cs (128 * (4 * t + ci) + i))
    (fun i => X.sn (128 * (4 * t + ci) + i)) (fun i d => ?_) (fun i d => ?_) (fun i d => ?_) i d
  · pointwise; rw [H.k]; dsimp only; congr 1 <;> omega
  · pointwise; rw [H.cs]; dsimp only; congr 1; omega
  · pointwise; rw [H.sn]; dsimp only; congr 1; omega
theorem v_at (ci h : Fin 4) (i : Fin 128) (e : Fin 512) : View.ld B.v (rV ci h) (ix2 i e) = X.V (4 * t + ci) h i e := by
  unfold In.V
  pointwise; rw [H.v]; dsimp only; congr 1 <;> omega
theorem g_at (ci h : Fin 4) (i : Fin 128) (e : Fin 512) : View.ld B.dO (rV ci h) (ix2 i e) = X.G (4 * t + ci) h i e := by
  unfold In.G
  pointwise; rw [H.dO]; dsimp only; congr 1; omega
theorem cs_at (ci : Fin 4) (i d : Fin 128) : View.ld B.cs (rC ci) (ix2 i d) = X.cs (128 * (4 * t + ci) + i) d := by
  pointwise; rw [H.cs]; dsimp only; congr 1; omega
theorem sn_at (ci : Fin 4) (i d : Fin 128) : View.ld B.sn (rC ci) (ix2 i d) = X.sn (128 * (4 * t + ci) + i) d := by
  pointwise; rw [H.sn]; dsimp only; congr 1; omega
theorem dm_at (h : Fin 4) (i j : Fin 128) : View.ld B.dm (rD h) (ix3 0 i j) = X.D h i j := by
  pointwise; rw [← H.dm]
theorem qd_at (h : Fin 4) (i : Fin 128) (e : Fin 512) : View.ld B.qd (rK h) (ix3 0 i e) = X.qd h i := by
  rw [← H.qd h i e]; pointwise
theorem kd_at (h : Fin 4) (i : Fin 128) (e : Fin 512) : View.ld B.kd (rK h) (ix3 0 i e) = X.kd h i := by
  rw [← H.kd h i e]; pointwise
theorem cd_at (h : Fin 4) (e : Fin 512) : View.ld B.cd (rCd h) (ix3 0 0 e) = X.cd h := by
  rw [← H.cd h e]; pointwise
theorem st_at (h ci : Fin 4) (d : Fin 256) (e : Fin 512) : k1_pay7 (View.ld B.st (rSt ci h)) (ix2 d e) = X.S h (4 * t + ci) d e := by
  rw [k1_pay7_at, ← H.st h ci d e]; pointwise

/-- One chunk's step of the gradient of a head's state. -/
theorem next_at (ci h : Fin 4) (s : Vec Ideal S1x256x512 .f32) (s' : ℕ → ℕ → EReal) (hs : ∀ (d : Fin 256) (e : Fin 512), s (ix3 0 d e) = s' d e)
    (d : Fin 256) (e : Fin 512) : B.next ci h s (ix3 0 d e) = X.nextT (4 * t + ci) h s' d e := by
  unfold BwdIn.next In.nextT
  rw [k1_pay21_at, hs, H.cd_at]
  simp only [H.qr_at, H.g_at, H.qd_at]
/-- The gradient of a head's state as the point's chunks are done from the last to the first. -/
theorem dst_at (ht : t ≤ 15) (h : Fin 4) (s : Vec Ideal S1x256x512 .f32) (hs : ∀ (d : Fin 256) (e : Fin 512), s (ix3 0 d e) = X.T h (4 * (15 - t)) d e) :
    ∀ n ≤ 4, ∀ (d : Fin 256) (e : Fin 512), B.dst h s n (ix3 0 d e) = X.T h (4 * (15 - t) + n) d e
  | 0, _ => hs
  | n + 1, hn => fun d e => by
    have hv : (Fin.ofNat 4 (3 - n)).val = 3 - n := Nat.mod_eq_of_lt (by omega)
    refine (H.next_at (Fin.ofNat 4 (3 - n)) h _ _ (dst_at ht h s hs n (by omega)) d e).trans ?_
    rw [hv, show 4 * t + (3 - n) = 63 - (4 * (15 - t) + n) by omega]; rfl

/-- The carried gradient of the states after the point. -/
theorem stOut_at (ht : t ≤ 15) (s : Vec Ideal S4x256x512 .f32) (hs : ∀ (h : Fin 4) (d : Fin 256) (e : Fin 512), s (ix3 h d e) = X.T h (4 * (15 - t)) d e)
    (h : Fin 4) (d : Fin 256) (e : Fin 512) : B.stOut s (ix3 h d e) = X.T h (4 * (15 - t) + 4) d e := by
  refine (H.dst_at ht h (View.ld s (rS h)) (fun d e => ?_) 4 (le_refl _) d e)
  rw [← hs h d e]; pointwise

/-- The three gradients of the point. -/
theorem outV_at (ht : t ≤ 15) (s : Vec Ideal S4x256x512 .f32) (hs : ∀ (h : Fin 4) (d : Fin 256) (e : Fin 512), s (ix3 h d e) = X.T h (4 * (15 - t)) d e)
    (ci h : Fin 4) (i : Fin 128) (e : Fin 512) :
    B.outV s ci h i e = X.gV (4 * t + ci) h (X.T h (63 - (4 * t + ci))) i e := by
  have hst := H.dst_at ht h (View.ld s (rS h)) (fun d e => by rw [← hs h d e]; pointwise) (3 - ci.val) (by omega)
  rw [show 4 * (15 - t) + (3 - ci.val) = 63 - (4 * t + ci.val) by omega] at hst
  refine (k1_pay12_at _ _ _ _ _ _ i e).trans ?_
  unfold In.gV In.A
  simp only [H.qr_at, H.kr_at, H.g_at, H.dm_at, H.kd_at, hst]
theorem outK_at (ht : t ≤ 15) (s : Vec Ideal S4x256x512 .f32) (hs : ∀ (h : Fin 4) (d : Fin 256) (e : Fin 512), s (ix3 h d e) = X.T h (4 * (15 - t)) d e)
    (ci h : Fin 4) (i : Fin 128) (d : Fin 256) :
    B.outK s ci h i d = unrot (X.gK (4 * t + ci) h (X.T h (63 - (4 * t + ci))) i) (X.cs (128 * (4 * t + ci) + i)) (X.sn (128 * (4 * t + ci) + i)) d := by
  have hst := H.dst_at ht h (View.ld s (rS h)) (fun d e => by rw [← hs h d e]; pointwise) (3 - ci.val) (by omega)
  rw [show 4 * (15 - t) + (3 - ci.val) = 63 - (4 * t + ci.val) by omega] at hst
  refine k1_pay20_at _ _ _ (fun i d => X.gK (4 * t + ci) h (X.T h (63 - (4 * t + ci))) i d) (fun i => X.cs (128 * (4 * t + ci) + i))
    (fun i => X.sn (128 * (4 * t + ci) + i)) (fun i d => ?_) (fun i d => H.cs_at ci i d) (fun i d => H.sn_at ci i d) i d
  refine (k1_pay15_at _ _ _ _ _ _ i d).trans ?_
  unfold In.gK In.dA
  simp only [H.qr_at, H.v_at, H.g_at, H.dm_at, H.kd_at, hst]
theorem outQ_at (ci h : Fin 4) (i : Fin 128) (d : Fin 256) :
    B.outQ ci h i d = unrot (X.gQ (4 * t + ci) h (X.S h (4 * t + ci)) i) (X.cs (128 * (4 * t + ci) + i)) (X.sn (128 * (4 * t + ci) + i)) d := by
  have hg : ∀ (i : Fin 128) (d : Fin 256), k1_pay14 (B.kr ci h) (View.ld B.v (rV ci h)) (k1_pay7 (View.ld B.st (rSt ci h))) (View.ld B.dO (rV ci h))
      (View.ld B.dm (rD h)) (View.ld B.qd (rK h)) (ix2 i d) = X.gQ (4 * t + ci) h (X.S h (4 * t + ci)) i d := fun i d => by
    refine (k1_pay14_at _ _ _ _ _ _ i d).trans ?_
    unfold In.gQ In.dA
    simp only [H.kr_at, H.v_at, H.g_at, H.dm_at, H.qd_at, H.st_at]
  refine k1_pay19_at _ _ _ _ _ (fun i d => X.gQ (4 * t + ci) h (X.S h (4 * t + ci)) i d) (fun i => X.cs (128 * (4 * t + ci) + i))
    (fun i => X.sn (128 * (4 * t + ci) + i)) (fun i d => ?_) (fun i d => ?_) (fun i d => ?_) (fun i d => H.cs_at ci i d) (fun i d => H.sn_at ci i d) i d
  · rw [k1_pay16_at, hg]
  · rw [k1_pay17_at, hg]
  · rw [k1_pay18_at, hg, H.cs_at]

/-- The block of gradients at a row and column. -/
theorem out_at (ht : t ≤ 15) (s : Vec Ideal S4x256x512 .f32) (hs : ∀ (h : Fin 4) (d : Fin 256) (e : Fin 512), s (ix3 h d e) = X.T h (4 * (15 - t)) d e)
    (r : Fin 512) (c : Fin 4096) : B.out s (ix2 r c) = X.grad (512 * t + r) c := by
  have e0 : (512 * t + r.val) / 128 = 4 * t + r.val / 128 := by omega
  have e1 : (512 * t + r.val) % 128 = r.val % 128 := by omega
  have e2 : 512 * t + r.val = 128 * (4 * t + r.val / 128) + r.val % 128 := by omega
  have hr := r.isLt
  have hc := c.isLt
  unfold BwdIn.out In.grad
  by_cases h1 : c.val < 1024
  · rw [if_pos h1, dif_pos (show ((ix2 r c : S512x4096.Idx) 1).val < 1024 from h1)]
    refine (H.outQ_at ⟨r.val / 128, by omega⟩ ⟨c.val / 256, by omega⟩ ⟨r.val % 128, by omega⟩ ⟨c.val % 256, by omega⟩).trans ?_
    rw [e0, e1, ← e2]
  · by_cases h2 : c.val < 2048
    · rw [if_neg h1, if_pos h2, dif_neg (show ¬ ((ix2 r c : S512x4096.Idx) 1).val < 1024 from h1), dif_pos (show ((ix2 r c : S512x4096.Idx) 1).val < 2048 from h2)]
      refine (H.outK_at ht s hs ⟨r.val / 128, by omega⟩ ⟨(c.val - 1024) / 256, by omega⟩ ⟨r.val % 128, by omega⟩ ⟨(c.val - 1024) % 256, by omega⟩).trans ?_
      rw [e0, e1, ← e2]
    · rw [if_neg h1, if_neg h2, dif_neg (show ¬ ((ix2 r c : S512x4096.Idx) 1).val < 1024 from h1), dif_neg (show ¬ ((ix2 r c : S512x4096.Idx) 1).val < 2048 from h2)]
      refine (H.outV_at ht s hs ⟨r.val / 128, by omega⟩ ⟨(c.val - 2048) / 512, by omega⟩ ⟨r.val % 128, by omega⟩ ⟨(c.val - 2048) % 512, by omega⟩).trans ?_
      rw [e0, e1]

end BwdIn.Is

end Cert.KernelIdeal.Gen

end
-- ==== Proof.KBwdBlk.lean ====
/-
The blocks of the backward call: at every point they are rows of the layer its arrays hold.
-/
module

public import proofs.«01_k».proof.Proof.KFwdBlk
public import proofs.«01_k».proof.Proof.BwdSpec

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Ret

/-! The block every window reads or writes at a point. -/
theorem idx1_0 : ∀ t : Fin cfg1.N, win1_0.index t = ![15 - t.val, 0] := (by decide +kernel : ∀ t : Fin grid1.N, _)
theorem idx1_1 : ∀ t : Fin cfg1.N, win1_1.index t = ![15 - t.val, 1] := (by decide +kernel : ∀ t : Fin grid1.N, _)
theorem idx1_2 : ∀ t : Fin cfg1.N, win1_2.index t = ![15 - t.val, 1] := (by decide +kernel : ∀ t : Fin grid1.N, _)
theorem idx1_3 : ∀ t : Fin cfg1.N, win1_3.index t = ![15 - t.val, 0] := (by decide +kernel : ∀ t : Fin grid1.N, _)
theorem idx1_4 : ∀ t : Fin cfg1.N, win1_4.index t = ![15 - t.val, 0] := (by decide +kernel : ∀ t : Fin grid1.N, _)
theorem idx1_5 : ∀ t : Fin cfg1.N, win1_5.index t = ![0, 0, 0] := (by decide +kernel : ∀ t : Fin grid1.N, _)
theorem idx1_6 : ∀ t : Fin cfg1.N, win1_6.index t = ![0, 0, 0] := (by decide +kernel : ∀ t : Fin grid1.N, _)
theorem idx1_7 : ∀ t : Fin cfg1.N, win1_7.index t = ![0, 0, 0] := (by decide +kernel : ∀ t : Fin grid1.N, _)
theorem idx1_8 : ∀ t : Fin cfg1.N, win1_8.index t = ![0, 0, 0] := (by decide +kernel : ∀ t : Fin grid1.N, _)
theorem idx1_9 : ∀ t : Fin cfg1.N, win1_9.index t = ![0, 15 - t.val, 0, 0] := (by decide +kernel : ∀ t : Fin grid1.N, _)
theorem idx1_10 : ∀ t : Fin cfg1.N, win1_10.index t = ![15 - t.val, 0] := (by decide +kernel : ∀ t : Fin grid1.N, _)
theorem idx1_11 : ∀ t : Fin cfg1.N, win1_11.index t = ![15 - t.val, 0] := (by decide +kernel : ∀ t : Fin grid1.N, _)
theorem point1_lt (t : Fin cfg1.N) : t.val < 16 := t.isLt

variable (V : (c : Dev nD) → (b : Ref sig .tc) → Buf (Elt Ideal) ((c : Thread nD τ).loc b))

/-- The arrays the backward call reads hold the layer `X`, its saved states and its cotangent. -/
structure EntryB (c : Dev nD) (X : In) : Prop extends Entry V c X where
  st : ∀ (h : Fin 4) (n : Fin 64) (d : Fin 256) (e : Fin 512), (V c main_v64_1 : Vec Ideal S4x64x256x512 .bf16) (ix4 h n d e) = X.S h n d e
  g : ∀ (r : Fin 8192) (k : Fin 2048), (V c main_arg2 : Vec Ideal S8192x2048 .bf16) (ix2 r k) = X.g r k

variable {V} {c : Dev nD} {X : In} (E : EntryB V c X)
include E

set_option maxHeartbeats 1000000 in
/-- What the backward body reads at point `t` are the rows `512 (15 - t)` and on of the layer. -/
theorem blocks1_is (t : Fin cfg1.N) : (blocks1 V c t).Is X (15 - t.val) where
  q r k := by
    have ht := point1_lt t
    refine Eq.trans ?_ (E.p ⟨512 * (15 - t.val) + r.val, by omega⟩ ⟨k.val, by omega⟩)
    show iblk1 V c 0 t (ix2 r k) = _
    blk_ext [iblk1, idx1_0]
  k r k := by
    have ht := point1_lt t
    refine Eq.trans ?_ (E.p ⟨512 * (15 - t.val) + r.val, by omega⟩ ⟨1024 + k.val, by omega⟩)
    show iblk1 V c 1 t (ix2 r k) = _
    blk_ext [iblk1, idx1_1]
  v r k := by
    have ht := point1_lt t
    refine Eq.trans ?_ (E.p ⟨512 * (15 - t.val) + r.val, by omega⟩ ⟨2048 + k.val, by omega⟩)
    show iblk1 V c 2 t (ix2 r k) = _
    blk_ext [iblk1, idx1_2]
  cs r k := by
    have ht := point1_lt t
    refine Eq.trans ?_ (E.cs ⟨512 * (15 - t.val) + r.val, by omega⟩ k)
    show iblk1 V c 3 t (ix2 r k) = _
    blk_ext [iblk1, idx1_3]
  sn r k := by
    have ht := point1_lt t
    refine Eq.trans ?_ (E.sn ⟨512 * (15 - t.val) + r.val, by omega⟩ k)
    show iblk1 V c 4 t (ix2 r k) = _
    blk_ext [iblk1, idx1_4]
  dm h i j := by
    refine Eq.trans ?_ (E.dm h i j)
    show iblk1 V c 5 t (ix3 h i j) = _
    blk_ext [iblk1, idx1_5]
  qd h i e := by
    refine Eq.trans ?_ (E.qd h i e)
    show iblk1 V c 6 t (ix3 h i e) = _
    blk_ext [iblk1, idx1_6]
  kd h i e := by
    refine Eq.trans ?_ (E.kd h i e)
    show iblk1 V c 7 t (ix3 h i e) = _
    blk_ext [iblk1, idx1_7]
  cd h e := by
    refine Eq.trans ?_ (E.cd h e)
    show iblk1 V c 8 t (ix3 h 0 e) = _
    blk_ext [iblk1, idx1_8]
  st h ci d e := by
    have ht := point1_lt t
    refine Eq.trans ?_ (E.st h ⟨4 * (15 - t.val) + ci.val, by omega⟩ d e)
    show iblk1 V c 9 t (ix4 h ci d e) = _
    blk_ext [iblk1, idx1_9]
  dO r k := by
    have ht := point1_lt t
    refine Eq.trans ?_ (E.g ⟨512 * (15 - t.val) + r.val, by omega⟩ k)
    show iblk1 V c 10 t (ix2 r k) = _
    blk_ext [iblk1, idx1_10]

end Cert.KernelIdeal.Gen

end
-- ==== Proof.KBwd.lean ====
/-
The backward call's array: what it carries is the layer's state gradient, and what it leaves is the layer's gradient in the columns it writes.
-/
module

public import proofs.«01_k».proof.Proof.KBwdBlk

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Ret

variable {V : (c : Dev nD) → (b : Ref sig .tc) → Buf (Elt Ideal) ((c : Thread nD τ).loc b)} {c : Dev nD} {X : In} (E : EntryB V c X)
include E

/-- The carried scratch before point `n` is the state's gradient after the last `4 n` chunks. -/
theorem carry1_is (n : ℕ) (hn : n ≤ 16) (h : Fin 4) (d : Fin 256) (e : Fin 512) : carry1 V c n (ix3 h d e) = X.T h (4 * n) d e := by
  induction n generalizing h d e with
  | zero => exact k1_pay2_at h d e
  | succ n ih =>
    have hn' : n < cfg1.N := (by omega : n < 16)
    rw [carry1_succ V c ⟨n, hn'⟩]
    refine ((blocks1_is E ⟨n, hn'⟩).stOut_at (by omega) _ (fun h d e => (ih (by omega) h d e).trans ?_) h d e).trans ?_
    · show X.T h (4 * n) d e = X.T h (4 * (15 - (15 - n))) d e
      rw [show 15 - (15 - n) = n by omega]
    · show X.T h (4 * (15 - (15 - n)) + 4) d e = _
      rw [show 15 - (15 - n) = n by omega]; rfl

/-- What a point of the backward call leaves in its output block. -/
theorem out1_at (t : Fin cfg1.N) (i : Fin 512) (j : Fin 4096) :
    (blocks1 V c t).out (carry1 V c t.val) (ix2 i j) = X.grad ((15 - t.val) * 512 + i.val) j.val := by
  have ht := point1_lt t
  refine ((blocks1_is E t).out_at (by omega) _ (fun h d e => (carry1_is E t.val (by omega) h d e).trans ?_) i j).trans ?_
  · rw [show 15 - (15 - t.val) = t.val by omega]
  · rw [Nat.mul_comm]

/-- The columns of the gradient array the call writes, after it. -/
theorem arr1_11_lt (r : Fin 8192) (k : Fin 8192) (hk : k.val < 4096) :
    ((dat1 V c).arrAt 11 cfg1.N : Vec Ideal S8192x8192 .bf16) (ix2 r k) = X.grad r k := by
  refine (dat1 V c).arrAt_forall_of_flushed 11 (fun i v => v = X.grad ((i : S8192x8192.Idx) 0).val ((i : S8192x8192.Idx) 1).val) (fun t hf y => ?_)
    cfg1.N ⟨15 - r.val / 512, (by omega : 15 - r.val / 512 < 16)⟩ (ix2 r k) (by omega : 15 - r.val / 512 < 16) (flush1_11 _) ?_
  · blk_simp [idx1_11]
    rw [after1_11]
    obtain ⟨i, j, rfl⟩ : ∃ i j, y = ix2 (n0 := 512) (n1 := 4096) i j := ⟨_, _, ValueIdx.eq_ix2 y⟩
    exact out1_at E t i j
  · mem_blk [idx1_11]
    refine ⟨⟨?_, ?_⟩, ?_, ?_⟩ <;> first | omega | (dsimp only; omega) | (show _; simp; omega)

omit E in
/-- The columns it doesn't write keep what they held. -/
theorem arr1_11_ge (r : Fin 8192) (k : Fin 8192) (hk : 4096 ≤ k.val) :
    ((dat1 V c).arrAt 11 cfg1.N : Vec Ideal S8192x8192 .bf16) (ix2 r k) = (V c main_v65 : Vec Ideal S8192x8192 .bf16) (ix2 r k) := by
  refine ((dat1 V c).arrAt_apply_of_forall_not_mem 11 cfg1.N (ix2 r k) (fun t _ _ => ?_)).trans (congrFun (A_eq1 V c 11) _)
  mem_blk [idx1_11]
  rintro ⟨h0, h1, h2⟩
  simp at h2; omega

end Cert.KernelIdeal.Gen

end
-- ==== Proof.KEnd.lean ====
/-
The kernel's results: the retention's output and the gradient array as the layer of the launched arguments.
-/
module

public import proofs.«01_k».proof.Proof.KTables
public import proofs.«01_k».proof.Proof.KFwd
public import proofs.«01_k».proof.Proof.KBwd

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Ret Idealize.ShloMosaic.StableHlo

variable (m : (ℓ : Loc nD τ sig) → Buf (Elt Ideal) ℓ) (c : Dev nD)

/-- The layer of the launched arguments. -/
abbrev layerAt : In := kLayer (fun b => m (c, b))

/-- When the forward call is entered its arrays hold the layer. -/
theorem entry0_is : Entry (entry0 m) c (layerAt m c) where
  p r k := (congrFun (entry0_args m c main_arg0 (by decide)) (ix2 r k)).trans (mat_eq _ r.val k.val r.isLt k.isLt)
  cs := tab_cs (fun b => m (c, b))
  sn := tab_sn (fun b => m (c, b))
  dm := tab_dm (fun b => m (c, b))
  qd := tab_qd (fun b => m (c, b))
  kd := tab_kd (fun b => m (c, b))
  cd := tab_cd (fun b => m (c, b))

/-- A buffer that is no output of the forward call nor the copy's is the same when either call is entered. -/
theorem entry1_eq (r : Ref sig .tc) (h : ∀ w : Fin cfg0.W, Pipeline.arrRef spec0 w = r → (cfg0.win w).isOut = false) (h' : r ∉ hostOps1_W) :
    entry1 m c r = entry0 m c r := (B5_of m c r h').trans (B4_of m c r h)

/-- When the backward call is entered its arrays hold the layer, the saved states and the cotangent. -/
theorem entry1_is : EntryB (entry1 m) c (layerAt m c) where
  p r k := (congrFun (entry1_eq m c main_arg0 (by decide) (by decide)) _).trans ((entry0_is m c).p r k)
  cs r k := (congrFun (entry1_eq m c main_v12 (by decide) (by decide)) _).trans ((entry0_is m c).cs r k)
  sn r k := (congrFun (entry1_eq m c main_v13 (by decide) (by decide)) _).trans ((entry0_is m c).sn r k)
  dm h i j := (congrFun (entry1_eq m c main_v38 (by decide) (by decide)) _).trans ((entry0_is m c).dm h i j)
  qd h i e := (congrFun (entry1_eq m c main_v59 (by decide) (by decide)) _).trans ((entry0_is m c).qd h i e)
  kd h i e := (congrFun (entry1_eq m c main_v61 (by decide) (by decide)) _).trans ((entry0_is m c).kd h i e)
  cd h e := (congrFun (entry1_eq m c main_v63 (by decide) (by decide)) _).trans ((entry0_is m c).cd h e)
  st h n d e := (congrFun ((B5_of m c main_v64_1 (by decide)).trans (B4_arr m c 10)) _).trans (arr0_10 (entry0_is m c) h n d e)
  g r k := (congrFun (entry1_args m c main_arg2 (by decide)) (ix2 r k)).trans (mat_eq _ r.val k.val r.isLt k.isLt)

/-- The retention's output at the end is the layer's. -/
theorem last_out (r : Fin 8192) (k : Fin 2048) :
    (B6 m c (Proc.devRef .tc main_v64_0) : Vec Ideal S8192x2048 .bf16) (ix2 r k) = (layerAt m c).out r k :=
  (congrFun ((B6_of m c main_v64_0 (by decide)).trans ((B5_of m c main_v64_0 (by decide)).trans (B4_arr m c 9))) _).trans
    (arr0_9 (entry0_is m c) r k)

/-- Before the backward call its output array holds the other gradients' columns. -/
theorem entry1_v65 : entry1 m c main_v65 = m ((c : Thread nD τ).loc main_arg3) := by
  refine Eq.trans ?_ ((B4_of m c main_arg3 (by decide)).trans (entry0_args m c main_arg3 (by decide)))
  show after hostOps1 (B4 m c) (Proc.devRef .tc main_v65) = _
  after_reads_simp
  rfl

/-- The gradient array at the end: the layer's gradient in the first 4096 columns, the argument's in the others. -/
theorem last_grad (r : Fin 8192) (k : Fin 8192) :
    (B6 m c (Proc.devRef .tc main_v65) : Vec Ideal S8192x8192 .bf16) (ix2 r k)
      = if k.val < 4096 then (layerAt m c).grad r k else (m ((c : Thread nD τ).loc main_arg3) : Vec Ideal S8192x8192 .bf16) (ix2 r k) := by
  refine (congrFun (B6_arr m c 11) _).trans ?_
  by_cases hk : k.val < 4096
  · rw [if_pos hk]; exact arr1_11_lt (entry1_is m c) r k hk
  · rw [if_neg hk]; exact (arr1_11_ge r k (by omega)).trans (congrFun (entry1_v65 m c) _)

end Cert.KernelIdeal.Gen

end
-- ==== Proof.KernelFrame.lean ====
/-
The kernel's frame, from the idealized program's run.
-/
module

public import proofs.«01_k».proof.Defs
public import proofs.«01_k».proof.Proof.Run
public import proofs.«01_k».proof.Proof.Gen.Kernel

@[expose] public section

set_option maxRecDepth 16384

noncomputable section

namespace Cert.Proof

open Idealize.ShloMosaic Idealize.ShloMosaic.TcCoe Idealize.SL.Sem Cert.Kernel

set_option smartUnfolding false in
set_option maxHeartbeats 8000000 in
/-- The kernel's frame: its text at the machine's floats is the idealized program's, whose run holds at any floats. -/
theorem frame_kernel : Cert.quiescent_Kernel := fun m ρ _ =>
  (θ_run Cert.KernelIdeal.defs _ _).mono (fun _ h => h) (Cert.KernelIdeal.Gen.frame_run (F := Bits) m ρ)

end Cert.Proof

end
-- ==== Proof.RefOps.lean ====
/-
The operations of the reference program: its stretches, in order, and the two loops between them.
-/
module

public import proofs.«01_k».proof.Proof.Gen.ReferenceIdeal
public import Idealize.ShloMosaic.Lib.StableHlo.RunLoop
public import Idealize.ShloMosaic.Lib.Tactic

@[expose] public section

set_option maxRecDepth 16384

noncomputable section

namespace Cert.ReferenceIdeal.Gen

open Cert.ReferenceIdeal Facts₀ Facts

open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds

/-- The arrays of a shape and an element type. -/
abbrev Arr (F : FTy → Type) (s : Shape) (a : EltTy) := (⟨s, a⟩ : BufTy).Contents (Elt F)

variable {F : FTy → Type} [FloatOps F]

/-- 60 operations of the reference program, in order. -/
abbrev part0_0 : List (HloOp τ sig (Elt F)) :=
  [ unary main_arg0 main_v0 ((extractStridedSlice S8192x1024 ![0, 0] · slices_S8192x8192_S8192x1024_0_0) : Arr F S8192x8192 .bf16 → Arr F S8192x1024 .bf16),
    unary main_arg0 main_v1 ((extractStridedSlice S8192x1024 ![0, 1024] · slices_S8192x8192_S8192x1024_0_1024) : Arr F S8192x8192 .bf16 → Arr F S8192x1024 .bf16),
    unary main_arg0 main_v2 ((extractStridedSlice S8192x2048 ![0, 2048] · slices_S8192x8192_S8192x2048_0_2048) : Arr F S8192x8192 .bf16 → Arr F S8192x2048 .bf16),
    unary main_v0 main_v3 ((extf .f32 · bitsLt_bf16_f32) : Arr F S8192x1024 .bf16 → Arr F S8192x1024 .f32),
    unary main_v1 main_v4 ((extf .f32 · bitsLt_bf16_f32) : Arr F S8192x1024 .bf16 → Arr F S8192x1024 .f32),
    unary main_v2 main_v5 ((extf .f32 · bitsLt_bf16_f32) : Arr F S8192x2048 .bf16 → Arr F S8192x2048 .f32),
    reshape main_v3 main_v6 (rfl : (.f32 : EltTy) = .f32) shapeCasts_S8192x1024_S1x8192x4x256,
    reshape main_v4 main_v7 (rfl : (.f32 : EltTy) = .f32) shapeCasts_S8192x1024_S1x8192x4x256,
    reshape main_v5 main_v8 (rfl : (.f32 : EltTy) = .f32) shapeCasts_S8192x2048_S1x8192x4x512,
    unary main_arg1 main_v9 (broadcastInDim S1x8192 ![1] bcast_S8192_S1x8192_1 : Arr F S8192 .i32 → Arr F S1x8192 .i32),
    nullary main_v10 (sitofp .f32 (iotaInDim S128 32 0)),
    unary main_v10 main_v11 (Host.negf : Arr F S128 .f32 → Arr F S128 .f32),
    nullary main_cst (constant S_ .f32 0x43000000#32),
    unary main_cst main_v12 (broadcastInDim S128 ![] bcast_S_S128 : Arr F S_ .f32 → Arr F S128 .f32),
    binary main_v11 main_v12 main_v13 (Host.divf : Arr F S128 .f32 → Arr F S128 .f32 → Arr F S128 .f32),
    nullary main_cst_0 (constant S_ .f32 0x461C4000#32),
    unary main_cst_0 main_v14 (broadcastInDim S128 ![] bcast_S_S128 : Arr F S_ .f32 → Arr F S128 .f32),
    binary main_v14 main_v13 main_v15 (Host.powf : Arr F S128 .f32 → Arr F S128 .f32 → Arr F S128 .f32),
    unary main_v9 main_v16 (sitofp .f32 : Arr F S1x8192 .i32 → Arr F S1x8192 .f32),
    unary main_v16 main_v17 (broadcastInDim S1x8192x1x1 ![0, 1] bcast_S1x8192_S1x8192x1x1_0_1 : Arr F S1x8192 .f32 → Arr F S1x8192x1x1 .f32),
    unary main_v15 main_v18 (broadcastInDim S1x1x1x128 ![3] bcast_S128_S1x1x1x128_3 : Arr F S128 .f32 → Arr F S1x1x1x128 .f32),
    unary main_v17 main_v19 (broadcastInDim S1x8192x1x128 ![0, 1, 2, 3] bcast_S1x8192x1x1_S1x8192x1x128_0_1_2_3 : Arr F S1x8192x1x1 .f32 → Arr F S1x8192x1x128 .f32),
    unary main_v18 main_v20 (broadcastInDim S1x8192x1x128 ![0, 1, 2, 3] bcast_S1x1x1x128_S1x8192x1x128_0_1_2_3 : Arr F S1x1x1x128 .f32 → Arr F S1x8192x1x128 .f32),
    binary main_v19 main_v20 main_v21 (mulf : Arr F S1x8192x1x128 .f32 → Arr F S1x8192x1x128 .f32 → Arr F S1x8192x1x128 .f32),
    unary main_v21 main_v22 (Host.cos : Arr F S1x8192x1x128 .f32 → Arr F S1x8192x1x128 .f32),
    unary main_v21 main_v23 (Host.sin : Arr F S1x8192x1x128 .f32 → Arr F S1x8192x1x128 .f32),
    unary main_v6 main_v24 ((extractStridedSlice S1x8192x4x128 ![0, 0, 0, 0] · slices_S1x8192x4x256_S1x8192x4x128_0_0_0_0) : Arr F S1x8192x4x256 .f32 → Arr F S1x8192x4x128 .f32),
    unary main_v6 main_v25 ((extractStridedSlice S1x8192x4x128 ![0, 0, 0, 128] · slices_S1x8192x4x256_S1x8192x4x128_0_0_0_128) : Arr F S1x8192x4x256 .f32 → Arr F S1x8192x4x128 .f32),
    unary main_v22 main_v26 (broadcastInDim S1x8192x4x128 ![0, 1, 2, 3] bcast_S1x8192x1x128_S1x8192x4x128_0_1_2_3 : Arr F S1x8192x1x128 .f32 → Arr F S1x8192x4x128 .f32),
    binary main_v24 main_v26 main_v27 (mulf : Arr F S1x8192x4x128 .f32 → Arr F S1x8192x4x128 .f32 → Arr F S1x8192x4x128 .f32),
    unary main_v23 main_v28 (broadcastInDim S1x8192x4x128 ![0, 1, 2, 3] bcast_S1x8192x1x128_S1x8192x4x128_0_1_2_3 : Arr F S1x8192x1x128 .f32 → Arr F S1x8192x4x128 .f32),
    binary main_v25 main_v28 main_v29 (mulf : Arr F S1x8192x4x128 .f32 → Arr F S1x8192x4x128 .f32 → Arr F S1x8192x4x128 .f32),
    binary main_v27 main_v29 main_v30 (subf : Arr F S1x8192x4x128 .f32 → Arr F S1x8192x4x128 .f32 → Arr F S1x8192x4x128 .f32),
    unary main_v23 main_v31 (broadcastInDim S1x8192x4x128 ![0, 1, 2, 3] bcast_S1x8192x1x128_S1x8192x4x128_0_1_2_3 : Arr F S1x8192x1x128 .f32 → Arr F S1x8192x4x128 .f32),
    binary main_v24 main_v31 main_v32 (mulf : Arr F S1x8192x4x128 .f32 → Arr F S1x8192x4x128 .f32 → Arr F S1x8192x4x128 .f32),
    unary main_v22 main_v33 (broadcastInDim S1x8192x4x128 ![0, 1, 2, 3] bcast_S1x8192x1x128_S1x8192x4x128_0_1_2_3 : Arr F S1x8192x1x128 .f32 → Arr F S1x8192x4x128 .f32),
    binary main_v25 main_v33 main_v34 (mulf : Arr F S1x8192x4x128 .f32 → Arr F S1x8192x4x128 .f32 → Arr F S1x8192x4x128 .f32),
    binary main_v32 main_v34 main_v35 (addf : Arr F S1x8192x4x128 .f32 → Arr F S1x8192x4x128 .f32 → Arr F S1x8192x4x128 .f32),
    binary main_v30 main_v35 main_v36 ((fun a b => concatenate S1x8192x4x256 3 [⟨S1x8192x4x128, a⟩, ⟨S1x8192x4x128, b⟩] concatenates_S1x8192x4x128_S1x8192x4x128_S1x8192x4x256_d3) : Arr F S1x8192x4x128 .f32 → Arr F S1x8192x4x128 .f32 → Arr F S1x8192x4x256 .f32),
    nullary main_v37 (sitofp .f32 (iotaInDim S128 32 0)),
    unary main_v37 main_v38 (Host.negf : Arr F S128 .f32 → Arr F S128 .f32),
    nullary main_cst_1 (constant S_ .f32 0x43000000#32),
    unary main_cst_1 main_v39 (broadcastInDim S128 ![] bcast_S_S128 : Arr F S_ .f32 → Arr F S128 .f32),
    binary main_v38 main_v39 main_v40 (Host.divf : Arr F S128 .f32 → Arr F S128 .f32 → Arr F S128 .f32),
    nullary main_cst_2 (constant S_ .f32 0x461C4000#32),
    unary main_cst_2 main_v41 (broadcastInDim S128 ![] bcast_S_S128 : Arr F S_ .f32 → Arr F S128 .f32),
    binary main_v41 main_v40 main_v42 (Host.powf : Arr F S128 .f32 → Arr F S128 .f32 → Arr F S128 .f32),
    unary main_v9 main_v43 (sitofp .f32 : Arr F S1x8192 .i32 → Arr F S1x8192 .f32),
    unary main_v43 main_v44 (broadcastInDim S1x8192x1x1 ![0, 1] bcast_S1x8192_S1x8192x1x1_0_1 : Arr F S1x8192 .f32 → Arr F S1x8192x1x1 .f32),
    unary main_v42 main_v45 (broadcastInDim S1x1x1x128 ![3] bcast_S128_S1x1x1x128_3 : Arr F S128 .f32 → Arr F S1x1x1x128 .f32),
    unary main_v44 main_v46 (broadcastInDim S1x8192x1x128 ![0, 1, 2, 3] bcast_S1x8192x1x1_S1x8192x1x128_0_1_2_3 : Arr F S1x8192x1x1 .f32 → Arr F S1x8192x1x128 .f32),
    unary main_v45 main_v47 (broadcastInDim S1x8192x1x128 ![0, 1, 2, 3] bcast_S1x1x1x128_S1x8192x1x128_0_1_2_3 : Arr F S1x1x1x128 .f32 → Arr F S1x8192x1x128 .f32),
    binary main_v46 main_v47 main_v48 (mulf : Arr F S1x8192x1x128 .f32 → Arr F S1x8192x1x128 .f32 → Arr F S1x8192x1x128 .f32),
    unary main_v48 main_v49 (Host.cos : Arr F S1x8192x1x128 .f32 → Arr F S1x8192x1x128 .f32),
    unary main_v48 main_v50 (Host.sin : Arr F S1x8192x1x128 .f32 → Arr F S1x8192x1x128 .f32),
    unary main_v7 main_v51 ((extractStridedSlice S1x8192x4x128 ![0, 0, 0, 0] · slices_S1x8192x4x256_S1x8192x4x128_0_0_0_0) : Arr F S1x8192x4x256 .f32 → Arr F S1x8192x4x128 .f32),
    unary main_v7 main_v52 ((extractStridedSlice S1x8192x4x128 ![0, 0, 0, 128] · slices_S1x8192x4x256_S1x8192x4x128_0_0_0_128) : Arr F S1x8192x4x256 .f32 → Arr F S1x8192x4x128 .f32),
    unary main_v49 main_v53 (broadcastInDim S1x8192x4x128 ![0, 1, 2, 3] bcast_S1x8192x1x128_S1x8192x4x128_0_1_2_3 : Arr F S1x8192x1x128 .f32 → Arr F S1x8192x4x128 .f32),
    binary main_v51 main_v53 main_v54 (mulf : Arr F S1x8192x4x128 .f32 → Arr F S1x8192x4x128 .f32 → Arr F S1x8192x4x128 .f32),
    unary main_v50 main_v55 (broadcastInDim S1x8192x4x128 ![0, 1, 2, 3] bcast_S1x8192x1x128_S1x8192x4x128_0_1_2_3 : Arr F S1x8192x1x128 .f32 → Arr F S1x8192x4x128 .f32) ]

/-- Each of these touches the core's own buffers only. -/
theorem part0_0_sub : (part0_0 : List (HloOp τ sig (Elt F))).Forall fun op => op.bufs ⊆ tcRefs τ sig := by
  simp only [List.Forall, binary_bufs_sub, nullary_bufs_sub, reshape_bufs_sub, unary_bufs_sub, and_self]

/-- 40 operations of the reference program, in order. -/
abbrev part1_0 : List (HloOp τ sig (Elt F)) :=
  [ binary main_v52 main_v55 main_v56 (mulf : Arr F S1x8192x4x128 .f32 → Arr F S1x8192x4x128 .f32 → Arr F S1x8192x4x128 .f32),
    binary main_v54 main_v56 main_v57 (subf : Arr F S1x8192x4x128 .f32 → Arr F S1x8192x4x128 .f32 → Arr F S1x8192x4x128 .f32),
    unary main_v50 main_v58 (broadcastInDim S1x8192x4x128 ![0, 1, 2, 3] bcast_S1x8192x1x128_S1x8192x4x128_0_1_2_3 : Arr F S1x8192x1x128 .f32 → Arr F S1x8192x4x128 .f32),
    binary main_v51 main_v58 main_v59 (mulf : Arr F S1x8192x4x128 .f32 → Arr F S1x8192x4x128 .f32 → Arr F S1x8192x4x128 .f32),
    unary main_v49 main_v60 (broadcastInDim S1x8192x4x128 ![0, 1, 2, 3] bcast_S1x8192x1x128_S1x8192x4x128_0_1_2_3 : Arr F S1x8192x1x128 .f32 → Arr F S1x8192x4x128 .f32),
    binary main_v52 main_v60 main_v61 (mulf : Arr F S1x8192x4x128 .f32 → Arr F S1x8192x4x128 .f32 → Arr F S1x8192x4x128 .f32),
    binary main_v59 main_v61 main_v62 (addf : Arr F S1x8192x4x128 .f32 → Arr F S1x8192x4x128 .f32 → Arr F S1x8192x4x128 .f32),
    binary main_v57 main_v62 main_v63 ((fun a b => concatenate S1x8192x4x256 3 [⟨S1x8192x4x128, a⟩, ⟨S1x8192x4x128, b⟩] concatenates_S1x8192x4x128_S1x8192x4x128_S1x8192x4x256_d3) : Arr F S1x8192x4x128 .f32 → Arr F S1x8192x4x128 .f32 → Arr F S1x8192x4x256 .f32),
    nullary main_cst_3 (constant S_ .f32 0x3D800000#32),
    unary main_cst_3 main_v64 (broadcastInDim S1x8192x4x256 ![] bcast_S_S1x8192x4x256 : Arr F S_ .f32 → Arr F S1x8192x4x256 .f32),
    binary main_v63 main_v64 main_v65 (mulf : Arr F S1x8192x4x256 .f32 → Arr F S1x8192x4x256 .f32 → Arr F S1x8192x4x256 .f32),
    nullary main_v66 (sitofp .f32 (iotaInDim S4 32 0)),
    nullary main_cst_4 (constant S_ .f32 0xC0A00000#32),
    unary main_cst_4 main_v67 (broadcastInDim S4 ![] bcast_S_S4 : Arr F S_ .f32 → Arr F S4 .f32),
    binary main_v67 main_v66 main_v68 (subf : Arr F S4 .f32 → Arr F S4 .f32 → Arr F S4 .f32),
    nullary main_cst_5 (constant S_ .f32 0x3F317218#32),
    unary main_cst_5 main_v69 (broadcastInDim S4 ![] bcast_S_S4 : Arr F S_ .f32 → Arr F S4 .f32),
    binary main_v69 main_v68 main_v70 (mulf : Arr F S4 .f32 → Arr F S4 .f32 → Arr F S4 .f32),
    unary main_v70 main_v71 (Host.exp : Arr F S4 .f32 → Arr F S4 .f32),
    unary main_v71 main_v72 (Host.negf : Arr F S4 .f32 → Arr F S4 .f32),
    unary main_v72 main_v73 (Host.log1p : Arr F S4 .f32 → Arr F S4 .f32),
    nullary main_v74 (sitofp .f32 (iotaInDim S128 32 0)),
    unary main_v74 main_v75 (broadcastInDim S128x1 ![0] bcast_S128_S128x1_0 : Arr F S128 .f32 → Arr F S128x1 .f32),
    unary main_v74 main_v76 (broadcastInDim S1x128 ![1] bcast_S128_S1x128_1 : Arr F S128 .f32 → Arr F S1x128 .f32),
    unary main_v75 main_v77 (broadcastInDim S128x128 ![0, 1] bcast_S128x1_S128x128_0_1 : Arr F S128x1 .f32 → Arr F S128x128 .f32),
    unary main_v76 main_v78 (broadcastInDim S128x128 ![0, 1] bcast_S1x128_S128x128_0_1 : Arr F S1x128 .f32 → Arr F S128x128 .f32),
    binary main_v77 main_v78 main_v79 (subf : Arr F S128x128 .f32 → Arr F S128x128 .f32 → Arr F S128x128 .f32),
    nullary main_cst_6 (constant S_ .f32 0x00000000#32),
    unary main_cst_6 main_v80 (broadcastInDim S128x128 ![] bcast_S_S128x128 : Arr F S_ .f32 → Arr F S128x128 .f32),
    binary main_v79 main_v80 main_v81 (cmpf .oge : Arr F S128x128 .f32 → Arr F S128x128 .f32 → Arr F S128x128 .i1),
    unary main_v73 main_v82 (broadcastInDim S4x1x1 ![0] bcast_S4_S4x1x1_0 : Arr F S4 .f32 → Arr F S4x1x1 .f32),
    nullary main_cst_7 (constant S_ .f32 0x00000000#32),
    unary main_cst_7 main_v83 (broadcastInDim S128x128 ![] bcast_S_S128x128 : Arr F S_ .f32 → Arr F S128x128 .f32),
    binary main_v79 main_v83 main_v84 (maximumf : Arr F S128x128 .f32 → Arr F S128x128 .f32 → Arr F S128x128 .f32),
    unary main_v84 main_v85 (broadcastInDim S1x128x128 ![1, 2] bcast_S128x128_S1x128x128_1_2 : Arr F S128x128 .f32 → Arr F S1x128x128 .f32),
    unary main_v82 main_v86 (broadcastInDim S4x128x128 ![0, 1, 2] bcast_S4x1x1_S4x128x128_0_1_2 : Arr F S4x1x1 .f32 → Arr F S4x128x128 .f32),
    unary main_v85 main_v87 (broadcastInDim S4x128x128 ![0, 1, 2] bcast_S1x128x128_S4x128x128_0_1_2 : Arr F S1x128x128 .f32 → Arr F S4x128x128 .f32),
    binary main_v86 main_v87 main_v88 (mulf : Arr F S4x128x128 .f32 → Arr F S4x128x128 .f32 → Arr F S4x128x128 .f32),
    unary main_v88 main_v89 (Host.exp : Arr F S4x128x128 .f32 → Arr F S4x128x128 .f32),
    nullary main_cst_8 (constant S_ .f32 0x00000000#32) ]

/-- Each of these touches the core's own buffers only. -/
theorem part1_0_sub : (part1_0 : List (HloOp τ sig (Elt F))).Forall fun op => op.bufs ⊆ tcRefs τ sig := by
  simp only [List.Forall, binary_bufs_sub, nullary_bufs_sub, unary_bufs_sub, and_self]

/-- 4 operations of the reference program, in order. -/
abbrev part1_1 : List (HloOp τ sig (Elt F)) :=
  [ TRef.unary (.of main_cst_8 : TRef sig ⟨S_, .f32⟩) (.of main_call0_v0 : TRef sig ⟨S_, .f32⟩) id,
    TRef.unary (.of main_v81 : TRef sig ⟨S128x128, .i1⟩) (.of main_call0_v1 : TRef sig ⟨S4x128x128, .i1⟩) (broadcastInDim S4x128x128 ![1, 2] bcast_S128x128_S4x128x128_1_2),
    TRef.unary (.of main_call0_v0 : TRef sig ⟨S_, .f32⟩) (.of main_call0_v2 : TRef sig ⟨S4x128x128, .f32⟩) (broadcastInDim S4x128x128 ![] bcast_S_S4x128x128),
    TRef.ternary (.of main_call0_v1 : TRef sig ⟨S4x128x128, .i1⟩) (.of main_v89 : TRef sig ⟨S4x128x128, .f32⟩) (.of main_call0_v2 : TRef sig ⟨S4x128x128, .f32⟩) (.of main_v90 : TRef sig ⟨S4x128x128, .f32⟩) select ]

/-- Each of these touches the core's own buffers only. -/
theorem part1_1_sub : (part1_1 : List (HloOp τ sig (Elt F))).Forall fun op => op.bufs ⊆ tcRefs τ sig := by
  simp only [List.Forall, ternary_bufs_sub, unary_bufs_sub, and_self]

/-- 19 operations of the reference program, in order. -/
abbrev part1_2 : List (HloOp τ sig (Elt F)) :=
  [ unary main_v73 main_v91 (broadcastInDim S4x1 ![0] bcast_S4_S4x1_0 : Arr F S4 .f32 → Arr F S4x1 .f32),
    nullary main_cst_9 (constant S_ .f32 0x3F800000#32),
    unary main_cst_9 main_v92 (broadcastInDim S128 ![] bcast_S_S128 : Arr F S_ .f32 → Arr F S128 .f32),
    binary main_v74 main_v92 main_v93 (addf : Arr F S128 .f32 → Arr F S128 .f32 → Arr F S128 .f32),
    unary main_v93 main_v94 (broadcastInDim S1x128 ![1] bcast_S128_S1x128_1 : Arr F S128 .f32 → Arr F S1x128 .f32),
    unary main_v91 main_v95 (broadcastInDim S4x128 ![0, 1] bcast_S4x1_S4x128_0_1 : Arr F S4x1 .f32 → Arr F S4x128 .f32),
    unary main_v94 main_v96 (broadcastInDim S4x128 ![0, 1] bcast_S1x128_S4x128_0_1 : Arr F S1x128 .f32 → Arr F S4x128 .f32),
    binary main_v95 main_v96 main_v97 (mulf : Arr F S4x128 .f32 → Arr F S4x128 .f32 → Arr F S4x128 .f32),
    unary main_v97 main_v98 (Host.exp : Arr F S4x128 .f32 → Arr F S4x128 .f32),
    unary main_v98 main_v99 (broadcastInDim S4x128x1 ![0, 1] bcast_S4x128_S4x128x1_0_1 : Arr F S4x128 .f32 → Arr F S4x128x1 .f32),
    unary main_v73 main_v100 (broadcastInDim S4x1 ![0] bcast_S4_S4x1_0 : Arr F S4 .f32 → Arr F S4x1 .f32),
    nullary main_cst_10 (constant S_ .f32 0x42FE0000#32),
    unary main_cst_10 main_v101 (broadcastInDim S128 ![] bcast_S_S128 : Arr F S_ .f32 → Arr F S128 .f32),
    binary main_v101 main_v74 main_v102 (subf : Arr F S128 .f32 → Arr F S128 .f32 → Arr F S128 .f32),
    unary main_v102 main_v103 (broadcastInDim S1x128 ![1] bcast_S128_S1x128_1 : Arr F S128 .f32 → Arr F S1x128 .f32),
    unary main_v100 main_v104 (broadcastInDim S4x128 ![0, 1] bcast_S4x1_S4x128_0_1 : Arr F S4x1 .f32 → Arr F S4x128 .f32),
    unary main_v103 main_v105 (broadcastInDim S4x128 ![0, 1] bcast_S1x128_S4x128_0_1 : Arr F S1x128 .f32 → Arr F S4x128 .f32),
    binary main_v104 main_v105 main_v106 (mulf : Arr F S4x128 .f32 → Arr F S4x128 .f32 → Arr F S4x128 .f32),
    unary main_v106 main_v107 (Host.exp : Arr F S4x128 .f32 → Arr F S4x128 .f32) ]

/-- Each of these touches the core's own buffers only. -/
theorem part1_2_sub : (part1_2 : List (HloOp τ sig (Elt F))).Forall fun op => op.bufs ⊆ tcRefs τ sig := by
  simp only [List.Forall, binary_bufs_sub, nullary_bufs_sub, unary_bufs_sub, and_self]

/-- 40 operations of the reference program, in order. -/
abbrev part2_0 : List (HloOp τ sig (Elt F)) :=
  [ unary main_v107 main_v108 (broadcastInDim S4x128x1 ![0, 1] bcast_S4x128_S4x128x1_0_1 : Arr F S4x128 .f32 → Arr F S4x128x1 .f32),
    nullary main_cst_11 (constant S_ .f32 0x43000000#32),
    unary main_cst_11 main_v109 (broadcastInDim S4 ![] bcast_S_S4 : Arr F S_ .f32 → Arr F S4 .f32),
    binary main_v73 main_v109 main_v110 (mulf : Arr F S4 .f32 → Arr F S4 .f32 → Arr F S4 .f32),
    unary main_v110 main_v111 (Host.exp : Arr F S4 .f32 → Arr F S4 .f32),
    unary main_v111 main_v112 (broadcastInDim S4x1x1 ![0] bcast_S4_S4x1x1_0 : Arr F S4 .f32 → Arr F S4x1x1 .f32),
    nullary main_cst_12 (constant S_ .f32 0x00000000#32),
    unary main_cst_12 main_v113 (broadcastInDim S1x4x256x512 ![] bcast_S_S1x4x256x512 : Arr F S_ .f32 → Arr F S1x4x256x512 .f32),
    reshape main_v36 main_v114 (rfl : (.f32 : EltTy) = .f32) shapeCasts_S1x8192x4x256_S1x64x128x4x256,
    unary main_v114 main_v115 ((transpose S64x1x4x128x256 [1, 0, 3, 2, 4] · transposes_S1x64x128x4x256_S64x1x4x128x256_1_0_3_2_4) : Arr F S1x64x128x4x256 .f32 → Arr F S64x1x4x128x256 .f32),
    reshape main_v65 main_v116 (rfl : (.f32 : EltTy) = .f32) shapeCasts_S1x8192x4x256_S1x64x128x4x256,
    unary main_v116 main_v117 ((transpose S64x1x4x128x256 [1, 0, 3, 2, 4] · transposes_S1x64x128x4x256_S64x1x4x128x256_1_0_3_2_4) : Arr F S1x64x128x4x256 .f32 → Arr F S64x1x4x128x256 .f32),
    reshape main_v8 main_v118 (rfl : (.f32 : EltTy) = .f32) shapeCasts_S1x8192x4x512_S1x64x128x4x512,
    unary main_v118 main_v119 ((transpose S64x1x4x128x512 [1, 0, 3, 2, 4] · transposes_S1x64x128x4x512_S64x1x4x128x512_1_0_3_2_4) : Arr F S1x64x128x4x512 .f32 → Arr F S64x1x4x128x512 .f32),
    unary main_v90 main_v120 (broadcastInDim S1x4x128x128 ![1, 2, 3] bcast_S4x128x128_S1x4x128x128_1_2_3 : Arr F S4x128x128 .f32 → Arr F S1x4x128x128 .f32),
    unary main_v99 main_v121 (broadcastInDim S1x4x128x1 ![1, 2, 3] bcast_S4x128x1_S1x4x128x1_1_2_3 : Arr F S4x128x1 .f32 → Arr F S1x4x128x1 .f32),
    unary main_v112 main_v122 (broadcastInDim S1x4x1x1 ![1, 2, 3] bcast_S4x1x1_S1x4x1x1_1_2_3 : Arr F S4x1x1 .f32 → Arr F S1x4x1x1 .f32),
    unary main_v108 main_v123 (broadcastInDim S1x4x128x1 ![1, 2, 3] bcast_S4x128x1_S1x4x128x1_1_2_3 : Arr F S4x128x1 .f32 → Arr F S1x4x128x1 .f32),
    nullary main_cst_13 (constant S_ .f32 0x00000000#32),
    unary main_cst_13 main_v124 (broadcastInDim S64x1x4x128x512 ![] bcast_S_S64x1x4x128x512 : Arr F S_ .f32 → Arr F S64x1x4x128x512 .f32),
    nullary main_cst_14 (constant S_ .f32 0x00000000#32),
    unary main_cst_14 main_v125 (broadcastInDim S64x1x4x128x128 ![] bcast_S_S64x1x4x128x128 : Arr F S_ .f32 → Arr F S64x1x4x128x128 .f32),
    nullary main_cst_15 (constant S_ .f32 0x00000000#32),
    unary main_cst_15 main_v126 (broadcastInDim S64x1x4x256x512 ![] bcast_S_S64x1x4x256x512 : Arr F S_ .f32 → Arr F S64x1x4x256x512 .f32),
    nullary main_cst_16 (constant S_ .f32 0x00000000#32),
    unary main_cst_16 main_v127 (broadcastInDim S64x1x4x128x512 ![] bcast_S_S64x1x4x128x512 : Arr F S_ .f32 → Arr F S64x1x4x128x512 .f32),
    nullary main_c (constantI S_ 32 0#32),
    unary main_v115 main_v128_0 id,
    unary main_v117 main_v128_1 id,
    unary main_v119 main_v128_2 id,
    unary main_v122 main_v128_3 id,
    unary main_v123 main_v128_4 id,
    unary main_v120 main_v128_5 id,
    unary main_v121 main_v128_6 id,
    unary main_c main_v128_7 id,
    unary main_v113 main_v128_8 id,
    unary main_v124 main_v128_9 id,
    unary main_v125 main_v128_10 id,
    unary main_v126 main_v128_11 id,
    unary main_v127 main_v128_12 id ]

/-- Each of these touches the core's own buffers only. -/
theorem part2_0_sub : (part2_0 : List (HloOp τ sig (Elt F))).Forall fun op => op.bufs ⊆ tcRefs τ sig := by
  simp only [List.Forall, binary_bufs_sub, nullary_bufs_sub, reshape_bufs_sub, unary_bufs_sub, and_self]

/-- 19 operations of the reference program, in order. -/
abbrev part2_2 : List (HloOp τ sig (Elt F)) :=
  [ unary main_v128_9 main_v129 ((transpose S1x64x128x4x512 [1, 0, 3, 2, 4] · transposes_S64x1x4x128x512_S1x64x128x4x512_1_0_3_2_4) : Arr F S64x1x4x128x512 .f32 → Arr F S1x64x128x4x512 .f32),
    reshape main_v129 main_v130 (rfl : (.f32 : EltTy) = .f32) shapeCasts_S1x64x128x4x512_S1x8192x4x512,
    reshape main_v130 main_v131 (rfl : (.f32 : EltTy) = .f32) shapeCasts_S1x8192x4x512_S8192x2048,
    unary main_arg2 main_v132 ((extf .f32 · bitsLt_bf16_f32) : Arr F S8192x2048 .bf16 → Arr F S8192x2048 .f32),
    nullary main_cst_17 (constant S_ .f32 0x00000000#32),
    unary main_cst_17 main_v133 (broadcastInDim S1x4x256x512 ![] bcast_S_S1x4x256x512 : Arr F S_ .f32 → Arr F S1x4x256x512 .f32),
    reshape main_v132 main_v134 (rfl : (.f32 : EltTy) = .f32) shapeCasts_S8192x2048_S1x8192x4x512,
    reshape main_v134 main_v135 (rfl : (.f32 : EltTy) = .f32) shapeCasts_S1x8192x4x512_S1x64x128x4x512,
    unary main_v135 main_v136 ((transpose S64x1x4x128x512 [1, 0, 3, 2, 4] · transposes_S1x64x128x4x512_S64x1x4x128x512_1_0_3_2_4) : Arr F S1x64x128x4x512 .f32 → Arr F S64x1x4x128x512 .f32),
    nullary main_cst_18 (constant S_ .f32 0x00000000#32),
    unary main_cst_18 main_v137 (broadcastInDim S1x4x256x512 ![] bcast_S_S1x4x256x512 : Arr F S_ .f32 → Arr F S1x4x256x512 .f32),
    nullary main_cst_19 (constant S_ .f32 0x00000000#32),
    unary main_cst_19 main_v138 (broadcastInDim S64x1x4x128x256 ![] bcast_S_S64x1x4x128x256 : Arr F S_ .f32 → Arr F S64x1x4x128x256 .f32),
    nullary main_cst_20 (constant S_ .f32 0x00000000#32),
    unary main_cst_20 main_v139 (broadcastInDim S64x1x4x128x256 ![] bcast_S_S64x1x4x128x256 : Arr F S_ .f32 → Arr F S64x1x4x128x256 .f32),
    nullary main_cst_21 (constant S_ .f32 0x00000000#32),
    unary main_cst_21 main_v140 (broadcastInDim S64x1x4x128x512 ![] bcast_S_S64x1x4x128x512 : Arr F S_ .f32 → Arr F S64x1x4x128x512 .f32),
    nullary main_c_22 (constantI S_ 32 0#32),
    unary main_v136 main_v141_0 id ]

/-- Each of these touches the core's own buffers only. -/
theorem part2_2_sub : (part2_2 : List (HloOp τ sig (Elt F))).Forall fun op => op.bufs ⊆ tcRefs τ sig := by
  simp only [List.Forall, nullary_bufs_sub, reshape_bufs_sub, unary_bufs_sub, and_self]

/-- 15 operations of the reference program, in order. -/
abbrev part3_0 : List (HloOp τ sig (Elt F)) :=
  [ unary main_v117 main_v141_1 id,
    unary main_v115 main_v141_2 id,
    unary main_v119 main_v141_3 id,
    unary main_v128_10 main_v141_4 id,
    unary main_v128_11 main_v141_5 id,
    unary main_v128_12 main_v141_6 id,
    unary main_v120 main_v141_7 id,
    unary main_v121 main_v141_8 id,
    unary main_v122 main_v141_9 id,
    unary main_v123 main_v141_10 id,
    unary main_c_22 main_v141_11 id,
    unary main_v137 main_v141_12 id,
    unary main_v138 main_v141_13 id,
    unary main_v139 main_v141_14 id,
    unary main_v140 main_v141_15 id ]

/-- Each of these touches the core's own buffers only. -/
theorem part3_0_sub : (part3_0 : List (HloOp τ sig (Elt F))).Forall fun op => op.bufs ⊆ tcRefs τ sig := by
  simp only [List.Forall, unary_bufs_sub, and_self]

/-- 44 operations of the reference program, in order. -/
abbrev part3_2 : List (HloOp τ sig (Elt F)) :=
  [ unary main_v141_15 main_v142 ((transpose S1x64x128x4x512 [1, 0, 3, 2, 4] · transposes_S64x1x4x128x512_S1x64x128x4x512_1_0_3_2_4) : Arr F S64x1x4x128x512 .f32 → Arr F S1x64x128x4x512 .f32),
    reshape main_v142 main_v143 (rfl : (.f32 : EltTy) = .f32) shapeCasts_S1x64x128x4x512_S1x8192x4x512,
    unary main_v141_14 main_v144 ((transpose S1x64x128x4x256 [1, 0, 3, 2, 4] · transposes_S64x1x4x128x256_S1x64x128x4x256_1_0_3_2_4) : Arr F S64x1x4x128x256 .f32 → Arr F S1x64x128x4x256 .f32),
    reshape main_v144 main_v145 (rfl : (.f32 : EltTy) = .f32) shapeCasts_S1x64x128x4x256_S1x8192x4x256,
    unary main_v141_13 main_v146 ((transpose S1x64x128x4x256 [1, 0, 3, 2, 4] · transposes_S64x1x4x128x256_S1x64x128x4x256_1_0_3_2_4) : Arr F S64x1x4x128x256 .f32 → Arr F S1x64x128x4x256 .f32),
    reshape main_v146 main_v147 (rfl : (.f32 : EltTy) = .f32) shapeCasts_S1x64x128x4x256_S1x8192x4x256,
    nullary main_cst_23 (constant S_ .f32 0x3D800000#32),
    unary main_cst_23 main_v148 (broadcastInDim S1x8192x4x256 ![] bcast_S_S1x8192x4x256 : Arr F S_ .f32 → Arr F S1x8192x4x256 .f32),
    binary main_v145 main_v148 main_v149 (mulf : Arr F S1x8192x4x256 .f32 → Arr F S1x8192x4x256 .f32 → Arr F S1x8192x4x256 .f32),
    unary main_v149 main_v150 ((extractStridedSlice S1x8192x4x128 ![0, 0, 0, 0] · slices_S1x8192x4x256_S1x8192x4x128_0_0_0_0) : Arr F S1x8192x4x256 .f32 → Arr F S1x8192x4x128 .f32),
    unary main_v149 main_v151 ((extractStridedSlice S1x8192x4x128 ![0, 0, 0, 128] · slices_S1x8192x4x256_S1x8192x4x128_0_0_0_128) : Arr F S1x8192x4x256 .f32 → Arr F S1x8192x4x128 .f32),
    unary main_v49 main_v152 (broadcastInDim S1x8192x4x128 ![0, 1, 2, 3] bcast_S1x8192x1x128_S1x8192x4x128_0_1_2_3 : Arr F S1x8192x1x128 .f32 → Arr F S1x8192x4x128 .f32),
    binary main_v151 main_v152 main_v153 (mulf : Arr F S1x8192x4x128 .f32 → Arr F S1x8192x4x128 .f32 → Arr F S1x8192x4x128 .f32),
    unary main_v50 main_v154 (broadcastInDim S1x8192x4x128 ![0, 1, 2, 3] bcast_S1x8192x1x128_S1x8192x4x128_0_1_2_3 : Arr F S1x8192x1x128 .f32 → Arr F S1x8192x4x128 .f32),
    binary main_v151 main_v154 main_v155 (mulf : Arr F S1x8192x4x128 .f32 → Arr F S1x8192x4x128 .f32 → Arr F S1x8192x4x128 .f32),
    unary main_v150 main_v156 (Host.negf : Arr F S1x8192x4x128 .f32 → Arr F S1x8192x4x128 .f32),
    unary main_v50 main_v157 (broadcastInDim S1x8192x4x128 ![0, 1, 2, 3] bcast_S1x8192x1x128_S1x8192x4x128_0_1_2_3 : Arr F S1x8192x1x128 .f32 → Arr F S1x8192x4x128 .f32),
    binary main_v156 main_v157 main_v158 (mulf : Arr F S1x8192x4x128 .f32 → Arr F S1x8192x4x128 .f32 → Arr F S1x8192x4x128 .f32),
    binary main_v153 main_v158 main_v159 (addf : Arr F S1x8192x4x128 .f32 → Arr F S1x8192x4x128 .f32 → Arr F S1x8192x4x128 .f32),
    unary main_v49 main_v160 (broadcastInDim S1x8192x4x128 ![0, 1, 2, 3] bcast_S1x8192x1x128_S1x8192x4x128_0_1_2_3 : Arr F S1x8192x1x128 .f32 → Arr F S1x8192x4x128 .f32),
    binary main_v150 main_v160 main_v161 (mulf : Arr F S1x8192x4x128 .f32 → Arr F S1x8192x4x128 .f32 → Arr F S1x8192x4x128 .f32),
    binary main_v155 main_v161 main_v162 (addf : Arr F S1x8192x4x128 .f32 → Arr F S1x8192x4x128 .f32 → Arr F S1x8192x4x128 .f32),
    nullary main_cst_24 (constant S_ .f32 0x00000000#32),
    binary main_v159 main_cst_24 main_v163 ((fun x v => pad S1x8192x4x256 ![0, 0, 0, 128] ![0, 0, 0, 0] ![0, 0, 0, 0] x v pads_S1x8192x4x128_S1x8192x4x256_000_000_000_12800 h_S_) : Arr F S1x8192x4x128 .f32 → Arr F S_ .f32 → Arr F S1x8192x4x256 .f32),
    nullary main_cst_25 (constant S_ .f32 0x00000000#32),
    binary main_v162 main_cst_25 main_v164 ((fun x v => pad S1x8192x4x256 ![0, 0, 0, 0] ![0, 0, 0, 128] ![0, 0, 0, 0] x v pads_S1x8192x4x128_S1x8192x4x256_000_000_000_01280 h_S_) : Arr F S1x8192x4x128 .f32 → Arr F S_ .f32 → Arr F S1x8192x4x256 .f32),
    binary main_v163 main_v164 main_v165 (addf : Arr F S1x8192x4x256 .f32 → Arr F S1x8192x4x256 .f32 → Arr F S1x8192x4x256 .f32),
    unary main_v147 main_v166 ((extractStridedSlice S1x8192x4x128 ![0, 0, 0, 0] · slices_S1x8192x4x256_S1x8192x4x128_0_0_0_0) : Arr F S1x8192x4x256 .f32 → Arr F S1x8192x4x128 .f32),
    unary main_v147 main_v167 ((extractStridedSlice S1x8192x4x128 ![0, 0, 0, 128] · slices_S1x8192x4x256_S1x8192x4x128_0_0_0_128) : Arr F S1x8192x4x256 .f32 → Arr F S1x8192x4x128 .f32),
    unary main_v22 main_v168 (broadcastInDim S1x8192x4x128 ![0, 1, 2, 3] bcast_S1x8192x1x128_S1x8192x4x128_0_1_2_3 : Arr F S1x8192x1x128 .f32 → Arr F S1x8192x4x128 .f32),
    binary main_v167 main_v168 main_v169 (mulf : Arr F S1x8192x4x128 .f32 → Arr F S1x8192x4x128 .f32 → Arr F S1x8192x4x128 .f32),
    unary main_v23 main_v170 (broadcastInDim S1x8192x4x128 ![0, 1, 2, 3] bcast_S1x8192x1x128_S1x8192x4x128_0_1_2_3 : Arr F S1x8192x1x128 .f32 → Arr F S1x8192x4x128 .f32),
    binary main_v167 main_v170 main_v171 (mulf : Arr F S1x8192x4x128 .f32 → Arr F S1x8192x4x128 .f32 → Arr F S1x8192x4x128 .f32),
    unary main_v166 main_v172 (Host.negf : Arr F S1x8192x4x128 .f32 → Arr F S1x8192x4x128 .f32),
    unary main_v23 main_v173 (broadcastInDim S1x8192x4x128 ![0, 1, 2, 3] bcast_S1x8192x1x128_S1x8192x4x128_0_1_2_3 : Arr F S1x8192x1x128 .f32 → Arr F S1x8192x4x128 .f32),
    binary main_v172 main_v173 main_v174 (mulf : Arr F S1x8192x4x128 .f32 → Arr F S1x8192x4x128 .f32 → Arr F S1x8192x4x128 .f32),
    binary main_v169 main_v174 main_v175 (addf : Arr F S1x8192x4x128 .f32 → Arr F S1x8192x4x128 .f32 → Arr F S1x8192x4x128 .f32),
    unary main_v22 main_v176 (broadcastInDim S1x8192x4x128 ![0, 1, 2, 3] bcast_S1x8192x1x128_S1x8192x4x128_0_1_2_3 : Arr F S1x8192x1x128 .f32 → Arr F S1x8192x4x128 .f32),
    binary main_v166 main_v176 main_v177 (mulf : Arr F S1x8192x4x128 .f32 → Arr F S1x8192x4x128 .f32 → Arr F S1x8192x4x128 .f32),
    binary main_v171 main_v177 main_v178 (addf : Arr F S1x8192x4x128 .f32 → Arr F S1x8192x4x128 .f32 → Arr F S1x8192x4x128 .f32),
    nullary main_cst_26 (constant S_ .f32 0x00000000#32),
    binary main_v175 main_cst_26 main_v179 ((fun x v => pad S1x8192x4x256 ![0, 0, 0, 128] ![0, 0, 0, 0] ![0, 0, 0, 0] x v pads_S1x8192x4x128_S1x8192x4x256_000_000_000_12800 h_S_) : Arr F S1x8192x4x128 .f32 → Arr F S_ .f32 → Arr F S1x8192x4x256 .f32),
    nullary main_cst_27 (constant S_ .f32 0x00000000#32),
    binary main_v178 main_cst_27 main_v180 ((fun x v => pad S1x8192x4x256 ![0, 0, 0, 0] ![0, 0, 0, 128] ![0, 0, 0, 0] x v pads_S1x8192x4x128_S1x8192x4x256_000_000_000_01280 h_S_) : Arr F S1x8192x4x128 .f32 → Arr F S_ .f32 → Arr F S1x8192x4x256 .f32) ]

/-- Each of these touches the core's own buffers only. -/
theorem part3_2_sub : (part3_2 : List (HloOp τ sig (Elt F))).Forall fun op => op.bufs ⊆ tcRefs τ sig := by
  simp only [List.Forall, binary_bufs_sub, nullary_bufs_sub, reshape_bufs_sub, unary_bufs_sub, and_self]

/-- 9 operations of the reference program, in order. -/
abbrev part4_0 : List (HloOp τ sig (Elt F)) :=
  [ binary main_v179 main_v180 main_v181 (addf : Arr F S1x8192x4x256 .f32 → Arr F S1x8192x4x256 .f32 → Arr F S1x8192x4x256 .f32),
    reshape main_v143 main_v182 (rfl : (.f32 : EltTy) = .f32) shapeCasts_S1x8192x4x512_S8192x2048,
    reshape main_v165 main_v183 (rfl : (.f32 : EltTy) = .f32) shapeCasts_S1x8192x4x256_S8192x1024,
    reshape main_v181 main_v184 (rfl : (.f32 : EltTy) = .f32) shapeCasts_S1x8192x4x256_S8192x1024,
    nary ![main_v184, main_v183, main_v182] main_v185 (fun u => (concatenate S8192x4096 1 [⟨S8192x1024, (u 0 : Arr F S8192x1024 .f32)⟩, ⟨S8192x1024, (u 1 : Arr F S8192x1024 .f32)⟩, ⟨S8192x2048, (u 2 : Arr F S8192x2048 .f32)⟩] concatenates_S8192x1024_S8192x1024_S8192x2048_S8192x4096_d1 : Arr F S8192x4096 .f32)),
    unary main_v185 main_v186 ((truncf .bf16 · bitsLt_bf16_f32) : Arr F S8192x4096 .f32 → Arr F S8192x4096 .bf16),
    unary main_v131 main_v187 ((truncf .bf16 · bitsLt_bf16_f32) : Arr F S8192x2048 .f32 → Arr F S8192x2048 .bf16),
    unary main_arg3 main_v188 ((extractStridedSlice S8192x4096 ![0, 4096] · slices_S8192x8192_S8192x4096_0_4096) : Arr F S8192x8192 .bf16 → Arr F S8192x4096 .bf16),
    binary main_v186 main_v188 main_v189 ((fun a b => concatenate S8192x8192 1 [⟨S8192x4096, a⟩, ⟨S8192x4096, b⟩] concatenates_S8192x4096_S8192x4096_S8192x8192_d1) : Arr F S8192x4096 .bf16 → Arr F S8192x4096 .bf16 → Arr F S8192x8192 .bf16) ]

/-- Each of these touches the core's own buffers only. -/
theorem part4_0_sub : (part4_0 : List (HloOp τ sig (Elt F))).Forall fun op => op.bufs ⊆ tcRefs τ sig := by
  simp only [List.Forall, binary_bufs_sub, nary_bufs_sub, reshape_bufs_sub, unary_bufs_sub, and_self]

/-- 2 operations of the reference program, in order. -/
abbrev w0c : List (HloOp τ sig (Elt F)) :=
  [ nullary main_while0c_c_40 (constantI S_ 32 64#32),
    binary main_v128_7 main_while0c_c_40 main_while0c_v190 (cmpi .slt : Arr F S_ .i32 → Arr F S_ .i32 → Arr F S_ .i1) ]

/-- Each of these touches the core's own buffers only. -/
theorem w0c_sub : (w0c : List (HloOp τ sig (Elt F))).Forall fun op => op.bufs ⊆ tcRefs τ sig :=
  ⟨nullary_bufs_sub .., binary_bufs_sub ..⟩

/-- 6 operations of the reference program, in order. -/
abbrev w0b_0 : List (HloOp τ sig (Elt F)) :=
  [ TRef.nullary (.of main_while0b_call1_c : TRef sig ⟨S_, .i32⟩) (constantI S_ 32 0#32),
    TRef.nullary (.of main_while0b_call1_c_0 : TRef sig ⟨S_, .i32⟩) (constantI S_ 32 0#32),
    TRef.nullary (.of main_while0b_call1_c_1 : TRef sig ⟨S_, .i32⟩) (constantI S_ 32 0#32),
    TRef.nullary (.of main_while0b_call1_c_2 : TRef sig ⟨S_, .i32⟩) (constantI S_ 32 0#32),
    TRef.unaryIndexed (.of main_v128_0 : TRef sig ⟨S64x1x4x128x256, .f32⟩) ![(.of main_v128_7 : TRef sig ⟨S_, .i32⟩), (.of main_while0b_call1_c : TRef sig ⟨S_, .i32⟩), (.of main_while0b_call1_c_0 : TRef sig ⟨S_, .i32⟩), (.of main_while0b_call1_c_1 : TRef sig ⟨S_, .i32⟩), (.of main_while0b_call1_c_2 : TRef sig ⟨S_, .i32⟩)] (.of main_while0b_call1_v0 : TRef sig ⟨S1x1x4x128x256, .f32⟩) (fun x i => Host.dynamicSlice S1x1x4x128x256 x (fun k => (i k (Shape.Idx.first h_S_)).toInt) sliceFits_S64x1x4x128x256_S1x1x4x128x256),
    TRef.reshape (.of main_while0b_call1_v0 : TRef sig ⟨S1x1x4x128x256, .f32⟩) (.of main_while0b_v190 : TRef sig ⟨S1x4x128x256, .f32⟩) (rfl : (.f32 : EltTy) = .f32) shapeCasts_S1x1x4x128x256_S1x4x128x256 ]

/-- Each of these touches the core's own buffers only. -/
theorem w0b_0_sub : (w0b_0 : List (HloOp τ sig (Elt F))).Forall fun op => op.bufs ⊆ tcRefs τ sig := by
  simp only [List.Forall, nullary_bufs_sub, reshape_bufs_sub, unaryIndexed_bufs_sub, and_self]

/-- 6 operations of the reference program, in order. -/
abbrev w0b_1 : List (HloOp τ sig (Elt F)) :=
  [ TRef.nullary (.of main_while0b_call2_c : TRef sig ⟨S_, .i32⟩) (constantI S_ 32 0#32),
    TRef.nullary (.of main_while0b_call2_c_0 : TRef sig ⟨S_, .i32⟩) (constantI S_ 32 0#32),
    TRef.nullary (.of main_while0b_call2_c_1 : TRef sig ⟨S_, .i32⟩) (constantI S_ 32 0#32),
    TRef.nullary (.of main_while0b_call2_c_2 : TRef sig ⟨S_, .i32⟩) (constantI S_ 32 0#32),
    TRef.unaryIndexed (.of main_v128_1 : TRef sig ⟨S64x1x4x128x256, .f32⟩) ![(.of main_v128_7 : TRef sig ⟨S_, .i32⟩), (.of main_while0b_call2_c : TRef sig ⟨S_, .i32⟩), (.of main_while0b_call2_c_0 : TRef sig ⟨S_, .i32⟩), (.of main_while0b_call2_c_1 : TRef sig ⟨S_, .i32⟩), (.of main_while0b_call2_c_2 : TRef sig ⟨S_, .i32⟩)] (.of main_while0b_call2_v0 : TRef sig ⟨S1x1x4x128x256, .f32⟩) (fun x i => Host.dynamicSlice S1x1x4x128x256 x (fun k => (i k (Shape.Idx.first h_S_)).toInt) sliceFits_S64x1x4x128x256_S1x1x4x128x256),
    TRef.reshape (.of main_while0b_call2_v0 : TRef sig ⟨S1x1x4x128x256, .f32⟩) (.of main_while0b_v191 : TRef sig ⟨S1x4x128x256, .f32⟩) (rfl : (.f32 : EltTy) = .f32) shapeCasts_S1x1x4x128x256_S1x4x128x256 ]

/-- Each of these touches the core's own buffers only. -/
theorem w0b_1_sub : (w0b_1 : List (HloOp τ sig (Elt F))).Forall fun op => op.bufs ⊆ tcRefs τ sig := by
  simp only [List.Forall, nullary_bufs_sub, reshape_bufs_sub, unaryIndexed_bufs_sub, and_self]

/-- 6 operations of the reference program, in order. -/
abbrev w0b_2 : List (HloOp τ sig (Elt F)) :=
  [ TRef.nullary (.of main_while0b_call3_c : TRef sig ⟨S_, .i32⟩) (constantI S_ 32 0#32),
    TRef.nullary (.of main_while0b_call3_c_0 : TRef sig ⟨S_, .i32⟩) (constantI S_ 32 0#32),
    TRef.nullary (.of main_while0b_call3_c_1 : TRef sig ⟨S_, .i32⟩) (constantI S_ 32 0#32),
    TRef.nullary (.of main_while0b_call3_c_2 : TRef sig ⟨S_, .i32⟩) (constantI S_ 32 0#32),
    TRef.unaryIndexed (.of main_v128_2 : TRef sig ⟨S64x1x4x128x512, .f32⟩) ![(.of main_v128_7 : TRef sig ⟨S_, .i32⟩), (.of main_while0b_call3_c : TRef sig ⟨S_, .i32⟩), (.of main_while0b_call3_c_0 : TRef sig ⟨S_, .i32⟩), (.of main_while0b_call3_c_1 : TRef sig ⟨S_, .i32⟩), (.of main_while0b_call3_c_2 : TRef sig ⟨S_, .i32⟩)] (.of main_while0b_call3_v0 : TRef sig ⟨S1x1x4x128x512, .f32⟩) (fun x i => Host.dynamicSlice S1x1x4x128x512 x (fun k => (i k (Shape.Idx.first h_S_)).toInt) sliceFits_S64x1x4x128x512_S1x1x4x128x512),
    TRef.reshape (.of main_while0b_call3_v0 : TRef sig ⟨S1x1x4x128x512, .f32⟩) (.of main_while0b_v192 : TRef sig ⟨S1x4x128x512, .f32⟩) (rfl : (.f32 : EltTy) = .f32) shapeCasts_S1x1x4x128x512_S1x4x128x512 ]

/-- Each of these touches the core's own buffers only. -/
theorem w0b_2_sub : (w0b_2 : List (HloOp τ sig (Elt F))).Forall fun op => op.bufs ⊆ tcRefs τ sig := by
  simp only [List.Forall, nullary_bufs_sub, reshape_bufs_sub, unaryIndexed_bufs_sub, and_self]

/-- 13 operations of the reference program, in order. -/
abbrev w0b_3 : List (HloOp τ sig (Elt F)) :=
  [ binary main_while0b_v190 main_while0b_v191 main_while0b_v193 ((fun l r => Host.dotGeneral dot_S1x4x128x256_S1x4x128x256_S1x4x128x128_3_3_2_2_01_01 none l r) : Arr F S1x4x128x256 .f32 → Arr F S1x4x128x256 .f32 → Arr F S1x4x128x128 .f32),
    binary main_while0b_v193 main_v128_5 main_while0b_v194 (mulf : Arr F S1x4x128x128 .f32 → Arr F S1x4x128x128 .f32 → Arr F S1x4x128x128 .f32),
    binary main_while0b_v194 main_while0b_v192 main_while0b_v195 ((fun l r => Host.dotGeneral dot_S1x4x128x128_S1x4x128x512_S1x4x128x512_3_2_2_3_01_01 none l r) : Arr F S1x4x128x128 .f32 → Arr F S1x4x128x512 .f32 → Arr F S1x4x128x512 .f32),
    binary main_while0b_v190 main_v128_8 main_while0b_v196 ((fun l r => Host.dotGeneral dot_S1x4x128x256_S1x4x256x512_S1x4x128x512_3_2_2_3_01_01 none l r) : Arr F S1x4x128x256 .f32 → Arr F S1x4x256x512 .f32 → Arr F S1x4x128x512 .f32),
    unary main_v128_6 main_while0b_v197 (broadcastInDim S1x4x128x512 ![0, 1, 2, 3] bcast_S1x4x128x1_S1x4x128x512_0_1_2_3 : Arr F S1x4x128x1 .f32 → Arr F S1x4x128x512 .f32),
    binary main_while0b_v196 main_while0b_v197 main_while0b_v198 (mulf : Arr F S1x4x128x512 .f32 → Arr F S1x4x128x512 .f32 → Arr F S1x4x128x512 .f32),
    unary main_v128_3 main_while0b_v199 (broadcastInDim S1x4x256x512 ![0, 1, 2, 3] bcast_S1x4x1x1_S1x4x256x512_0_1_2_3 : Arr F S1x4x1x1 .f32 → Arr F S1x4x256x512 .f32),
    binary main_while0b_v199 main_v128_8 main_while0b_v200 (mulf : Arr F S1x4x256x512 .f32 → Arr F S1x4x256x512 .f32 → Arr F S1x4x256x512 .f32),
    unary main_v128_4 main_while0b_v201 (broadcastInDim S1x4x128x512 ![0, 1, 2, 3] bcast_S1x4x128x1_S1x4x128x512_0_1_2_3 : Arr F S1x4x128x1 .f32 → Arr F S1x4x128x512 .f32),
    binary main_while0b_v192 main_while0b_v201 main_while0b_v202 (mulf : Arr F S1x4x128x512 .f32 → Arr F S1x4x128x512 .f32 → Arr F S1x4x128x512 .f32),
    binary main_while0b_v191 main_while0b_v202 main_while0b_v203 ((fun l r => Host.dotGeneral dot_S1x4x128x256_S1x4x128x512_S1x4x256x512_2_2_3_3_01_01 none l r) : Arr F S1x4x128x256 .f32 → Arr F S1x4x128x512 .f32 → Arr F S1x4x256x512 .f32),
    binary main_while0b_v200 main_while0b_v203 main_while0b_v204 (addf : Arr F S1x4x256x512 .f32 → Arr F S1x4x256x512 .f32 → Arr F S1x4x256x512 .f32),
    binary main_while0b_v195 main_while0b_v198 main_while0b_v205 (addf : Arr F S1x4x128x512 .f32 → Arr F S1x4x128x512 .f32 → Arr F S1x4x128x512 .f32) ]

/-- Each of these touches the core's own buffers only. -/
theorem w0b_3_sub : (w0b_3 : List (HloOp τ sig (Elt F))).Forall fun op => op.bufs ⊆ tcRefs τ sig := by
  simp only [List.Forall, binary_bufs_sub, unary_bufs_sub, and_self]

/-- 6 operations of the reference program, in order. -/
abbrev w0b_4 : List (HloOp τ sig (Elt F)) :=
  [ TRef.unary (.of main_while0b_v205 : TRef sig ⟨S1x4x128x512, .f32⟩) (.of main_while0b_call4_v0 : TRef sig ⟨S1x1x4x128x512, .f32⟩) (broadcastInDim S1x1x4x128x512 ![1, 2, 3, 4] bcast_S1x4x128x512_S1x1x4x128x512_1_2_3_4),
    TRef.nullary (.of main_while0b_call4_c : TRef sig ⟨S_, .i32⟩) (constantI S_ 32 0#32),
    TRef.nullary (.of main_while0b_call4_c_0 : TRef sig ⟨S_, .i32⟩) (constantI S_ 32 0#32),
    TRef.nullary (.of main_while0b_call4_c_1 : TRef sig ⟨S_, .i32⟩) (constantI S_ 32 0#32),
    TRef.nullary (.of main_while0b_call4_c_2 : TRef sig ⟨S_, .i32⟩) (constantI S_ 32 0#32),
    TRef.binaryIndexed (.of main_v128_9 : TRef sig ⟨S64x1x4x128x512, .f32⟩) (.of main_while0b_call4_v0 : TRef sig ⟨S1x1x4x128x512, .f32⟩) ![(.of main_v128_7 : TRef sig ⟨S_, .i32⟩), (.of main_while0b_call4_c : TRef sig ⟨S_, .i32⟩), (.of main_while0b_call4_c_0 : TRef sig ⟨S_, .i32⟩), (.of main_while0b_call4_c_1 : TRef sig ⟨S_, .i32⟩), (.of main_while0b_call4_c_2 : TRef sig ⟨S_, .i32⟩)] (.of main_while0b_v206 : TRef sig ⟨S64x1x4x128x512, .f32⟩) (fun x u i => Host.dynamicUpdateSlice x u (fun k => (i k (Shape.Idx.first h_S_)).toInt) updateFits_S64x1x4x128x512_S1x1x4x128x512) ]

/-- Each of these touches the core's own buffers only. -/
theorem w0b_4_sub : (w0b_4 : List (HloOp τ sig (Elt F))).Forall fun op => op.bufs ⊆ tcRefs τ sig := by
  simp only [List.Forall, binaryIndexed_bufs_sub, nullary_bufs_sub, unary_bufs_sub, and_self]

/-- 6 operations of the reference program, in order. -/
abbrev w0b_5 : List (HloOp τ sig (Elt F)) :=
  [ TRef.unary (.of main_while0b_v194 : TRef sig ⟨S1x4x128x128, .f32⟩) (.of main_while0b_call5_v0 : TRef sig ⟨S1x1x4x128x128, .f32⟩) (broadcastInDim S1x1x4x128x128 ![1, 2, 3, 4] bcast_S1x4x128x128_S1x1x4x128x128_1_2_3_4),
    TRef.nullary (.of main_while0b_call5_c : TRef sig ⟨S_, .i32⟩) (constantI S_ 32 0#32),
    TRef.nullary (.of main_while0b_call5_c_0 : TRef sig ⟨S_, .i32⟩) (constantI S_ 32 0#32),
    TRef.nullary (.of main_while0b_call5_c_1 : TRef sig ⟨S_, .i32⟩) (constantI S_ 32 0#32),
    TRef.nullary (.of main_while0b_call5_c_2 : TRef sig ⟨S_, .i32⟩) (constantI S_ 32 0#32),
    TRef.binaryIndexed (.of main_v128_10 : TRef sig ⟨S64x1x4x128x128, .f32⟩) (.of main_while0b_call5_v0 : TRef sig ⟨S1x1x4x128x128, .f32⟩) ![(.of main_v128_7 : TRef sig ⟨S_, .i32⟩), (.of main_while0b_call5_c : TRef sig ⟨S_, .i32⟩), (.of main_while0b_call5_c_0 : TRef sig ⟨S_, .i32⟩), (.of main_while0b_call5_c_1 : TRef sig ⟨S_, .i32⟩), (.of main_while0b_call5_c_2 : TRef sig ⟨S_, .i32⟩)] (.of main_while0b_v207 : TRef sig ⟨S64x1x4x128x128, .f32⟩) (fun x u i => Host.dynamicUpdateSlice x u (fun k => (i k (Shape.Idx.first h_S_)).toInt) updateFits_S64x1x4x128x128_S1x1x4x128x128) ]

/-- Each of these touches the core's own buffers only. -/
theorem w0b_5_sub : (w0b_5 : List (HloOp τ sig (Elt F))).Forall fun op => op.bufs ⊆ tcRefs τ sig := by
  simp only [List.Forall, binaryIndexed_bufs_sub, nullary_bufs_sub, unary_bufs_sub, and_self]

/-- 6 operations of the reference program, in order. -/
abbrev w0b_6 : List (HloOp τ sig (Elt F)) :=
  [ TRef.unary (.of main_v128_8 : TRef sig ⟨S1x4x256x512, .f32⟩) (.of main_while0b_call6_v0 : TRef sig ⟨S1x1x4x256x512, .f32⟩) (broadcastInDim S1x1x4x256x512 ![1, 2, 3, 4] bcast_S1x4x256x512_S1x1x4x256x512_1_2_3_4),
    TRef.nullary (.of main_while0b_call6_c : TRef sig ⟨S_, .i32⟩) (constantI S_ 32 0#32),
    TRef.nullary (.of main_while0b_call6_c_0 : TRef sig ⟨S_, .i32⟩) (constantI S_ 32 0#32),
    TRef.nullary (.of main_while0b_call6_c_1 : TRef sig ⟨S_, .i32⟩) (constantI S_ 32 0#32),
    TRef.nullary (.of main_while0b_call6_c_2 : TRef sig ⟨S_, .i32⟩) (constantI S_ 32 0#32),
    TRef.binaryIndexed (.of main_v128_11 : TRef sig ⟨S64x1x4x256x512, .f32⟩) (.of main_while0b_call6_v0 : TRef sig ⟨S1x1x4x256x512, .f32⟩) ![(.of main_v128_7 : TRef sig ⟨S_, .i32⟩), (.of main_while0b_call6_c : TRef sig ⟨S_, .i32⟩), (.of main_while0b_call6_c_0 : TRef sig ⟨S_, .i32⟩), (.of main_while0b_call6_c_1 : TRef sig ⟨S_, .i32⟩), (.of main_while0b_call6_c_2 : TRef sig ⟨S_, .i32⟩)] (.of main_while0b_v208 : TRef sig ⟨S64x1x4x256x512, .f32⟩) (fun x u i => Host.dynamicUpdateSlice x u (fun k => (i k (Shape.Idx.first h_S_)).toInt) updateFits_S64x1x4x256x512_S1x1x4x256x512) ]

/-- Each of these touches the core's own buffers only. -/
theorem w0b_6_sub : (w0b_6 : List (HloOp τ sig (Elt F))).Forall fun op => op.bufs ⊆ tcRefs τ sig := by
  simp only [List.Forall, binaryIndexed_bufs_sub, nullary_bufs_sub, unary_bufs_sub, and_self]

/-- 6 operations of the reference program, in order. -/
abbrev w0b_7 : List (HloOp τ sig (Elt F)) :=
  [ TRef.unary (.of main_while0b_v202 : TRef sig ⟨S1x4x128x512, .f32⟩) (.of main_while0b_call7_v0 : TRef sig ⟨S1x1x4x128x512, .f32⟩) (broadcastInDim S1x1x4x128x512 ![1, 2, 3, 4] bcast_S1x4x128x512_S1x1x4x128x512_1_2_3_4),
    TRef.nullary (.of main_while0b_call7_c : TRef sig ⟨S_, .i32⟩) (constantI S_ 32 0#32),
    TRef.nullary (.of main_while0b_call7_c_0 : TRef sig ⟨S_, .i32⟩) (constantI S_ 32 0#32),
    TRef.nullary (.of main_while0b_call7_c_1 : TRef sig ⟨S_, .i32⟩) (constantI S_ 32 0#32),
    TRef.nullary (.of main_while0b_call7_c_2 : TRef sig ⟨S_, .i32⟩) (constantI S_ 32 0#32),
    TRef.binaryIndexed (.of main_v128_12 : TRef sig ⟨S64x1x4x128x512, .f32⟩) (.of main_while0b_call7_v0 : TRef sig ⟨S1x1x4x128x512, .f32⟩) ![(.of main_v128_7 : TRef sig ⟨S_, .i32⟩), (.of main_while0b_call7_c : TRef sig ⟨S_, .i32⟩), (.of main_while0b_call7_c_0 : TRef sig ⟨S_, .i32⟩), (.of main_while0b_call7_c_1 : TRef sig ⟨S_, .i32⟩), (.of main_while0b_call7_c_2 : TRef sig ⟨S_, .i32⟩)] (.of main_while0b_v209 : TRef sig ⟨S64x1x4x128x512, .f32⟩) (fun x u i => Host.dynamicUpdateSlice x u (fun k => (i k (Shape.Idx.first h_S_)).toInt) updateFits_S64x1x4x128x512_S1x1x4x128x512) ]

/-- Each of these touches the core's own buffers only. -/
theorem w0b_7_sub : (w0b_7 : List (HloOp τ sig (Elt F))).Forall fun op => op.bufs ⊆ tcRefs τ sig := by
  simp only [List.Forall, binaryIndexed_bufs_sub, nullary_bufs_sub, unary_bufs_sub, and_self]

/-- 8 operations of the reference program, in order. -/
abbrev w0b_8 : List (HloOp τ sig (Elt F)) :=
  [ nullary main_while0b_c_40 (constantI S_ 32 1#32),
    binary main_v128_7 main_while0b_c_40 main_while0b_v210 (addi : Arr F S_ .i32 → Arr F S_ .i32 → Arr F S_ .i32),
    unary main_while0b_v210 main_v128_7 id,
    unary main_while0b_v204 main_v128_8 id,
    unary main_while0b_v206 main_v128_9 id,
    unary main_while0b_v207 main_v128_10 id,
    unary main_while0b_v208 main_v128_11 id,
    unary main_while0b_v209 main_v128_12 id ]

/-- Each of these touches the core's own buffers only. -/
theorem w0b_8_sub : (w0b_8 : List (HloOp τ sig (Elt F))).Forall fun op => op.bufs ⊆ tcRefs τ sig := by
  simp only [List.Forall, binary_bufs_sub, nullary_bufs_sub, unary_bufs_sub, and_self]

/-- 2 operations of the reference program, in order. -/
abbrev w1c : List (HloOp τ sig (Elt F)) :=
  [ nullary main_while1c_c_43 (constantI S_ 32 64#32),
    binary main_v141_11 main_while1c_c_43 main_while1c_v190 (cmpi .slt : Arr F S_ .i32 → Arr F S_ .i32 → Arr F S_ .i1) ]

/-- Each of these touches the core's own buffers only. -/
theorem w1c_sub : (w1c : List (HloOp τ sig (Elt F))).Forall fun op => op.bufs ⊆ tcRefs τ sig :=
  ⟨nullary_bufs_sub .., binary_bufs_sub ..⟩

/-- 4 operations of the reference program, in order. -/
abbrev w1b_0 : List (HloOp τ sig (Elt F)) :=
  [ nullary main_while1b_c_43 (constantI S_ 32 64#32),
    binary main_while1b_c_43 main_v141_11 main_while1b_v190 (subi : Arr F S_ .i32 → Arr F S_ .i32 → Arr F S_ .i32),
    nullary main_while1b_c_44 (constantI S_ 32 1#32),
    binary main_while1b_v190 main_while1b_c_44 main_while1b_v191 (subi : Arr F S_ .i32 → Arr F S_ .i32 → Arr F S_ .i32) ]

/-- Each of these touches the core's own buffers only. -/
theorem w1b_0_sub : (w1b_0 : List (HloOp τ sig (Elt F))).Forall fun op => op.bufs ⊆ tcRefs τ sig := by
  simp only [List.Forall, binary_bufs_sub, nullary_bufs_sub, and_self]

/-- 6 operations of the reference program, in order. -/
abbrev w1b_1 : List (HloOp τ sig (Elt F)) :=
  [ TRef.nullary (.of main_while1b_call8_c : TRef sig ⟨S_, .i32⟩) (constantI S_ 32 0#32),
    TRef.nullary (.of main_while1b_call8_c_0 : TRef sig ⟨S_, .i32⟩) (constantI S_ 32 0#32),
    TRef.nullary (.of main_while1b_call8_c_1 : TRef sig ⟨S_, .i32⟩) (constantI S_ 32 0#32),
    TRef.nullary (.of main_while1b_call8_c_2 : TRef sig ⟨S_, .i32⟩) (constantI S_ 32 0#32),
    TRef.unaryIndexed (.of main_v141_0 : TRef sig ⟨S64x1x4x128x512, .f32⟩) ![(.of main_while1b_v191 : TRef sig ⟨S_, .i32⟩), (.of main_while1b_call8_c : TRef sig ⟨S_, .i32⟩), (.of main_while1b_call8_c_0 : TRef sig ⟨S_, .i32⟩), (.of main_while1b_call8_c_1 : TRef sig ⟨S_, .i32⟩), (.of main_while1b_call8_c_2 : TRef sig ⟨S_, .i32⟩)] (.of main_while1b_call8_v0 : TRef sig ⟨S1x1x4x128x512, .f32⟩) (fun x i => Host.dynamicSlice S1x1x4x128x512 x (fun k => (i k (Shape.Idx.first h_S_)).toInt) sliceFits_S64x1x4x128x512_S1x1x4x128x512),
    TRef.reshape (.of main_while1b_call8_v0 : TRef sig ⟨S1x1x4x128x512, .f32⟩) (.of main_while1b_v192 : TRef sig ⟨S1x4x128x512, .f32⟩) (rfl : (.f32 : EltTy) = .f32) shapeCasts_S1x1x4x128x512_S1x4x128x512 ]

/-- Each of these touches the core's own buffers only. -/
theorem w1b_1_sub : (w1b_1 : List (HloOp τ sig (Elt F))).Forall fun op => op.bufs ⊆ tcRefs τ sig := by
  simp only [List.Forall, nullary_bufs_sub, reshape_bufs_sub, unaryIndexed_bufs_sub, and_self]

/-- 6 operations of the reference program, in order. -/
abbrev w1b_2 : List (HloOp τ sig (Elt F)) :=
  [ TRef.nullary (.of main_while1b_call9_c : TRef sig ⟨S_, .i32⟩) (constantI S_ 32 0#32),
    TRef.nullary (.of main_while1b_call9_c_0 : TRef sig ⟨S_, .i32⟩) (constantI S_ 32 0#32),
    TRef.nullary (.of main_while1b_call9_c_1 : TRef sig ⟨S_, .i32⟩) (constantI S_ 32 0#32),
    TRef.nullary (.of main_while1b_call9_c_2 : TRef sig ⟨S_, .i32⟩) (constantI S_ 32 0#32),
    TRef.unaryIndexed (.of main_v141_1 : TRef sig ⟨S64x1x4x128x256, .f32⟩) ![(.of main_while1b_v191 : TRef sig ⟨S_, .i32⟩), (.of main_while1b_call9_c : TRef sig ⟨S_, .i32⟩), (.of main_while1b_call9_c_0 : TRef sig ⟨S_, .i32⟩), (.of main_while1b_call9_c_1 : TRef sig ⟨S_, .i32⟩), (.of main_while1b_call9_c_2 : TRef sig ⟨S_, .i32⟩)] (.of main_while1b_call9_v0 : TRef sig ⟨S1x1x4x128x256, .f32⟩) (fun x i => Host.dynamicSlice S1x1x4x128x256 x (fun k => (i k (Shape.Idx.first h_S_)).toInt) sliceFits_S64x1x4x128x256_S1x1x4x128x256),
    TRef.reshape (.of main_while1b_call9_v0 : TRef sig ⟨S1x1x4x128x256, .f32⟩) (.of main_while1b_v193 : TRef sig ⟨S1x4x128x256, .f32⟩) (rfl : (.f32 : EltTy) = .f32) shapeCasts_S1x1x4x128x256_S1x4x128x256 ]

/-- Each of these touches the core's own buffers only. -/
theorem w1b_2_sub : (w1b_2 : List (HloOp τ sig (Elt F))).Forall fun op => op.bufs ⊆ tcRefs τ sig := by
  simp only [List.Forall, nullary_bufs_sub, reshape_bufs_sub, unaryIndexed_bufs_sub, and_self]

/-- 6 operations of the reference program, in order. -/
abbrev w1b_3 : List (HloOp τ sig (Elt F)) :=
  [ TRef.nullary (.of main_while1b_call10_c : TRef sig ⟨S_, .i32⟩) (constantI S_ 32 0#32),
    TRef.nullary (.of main_while1b_call10_c_0 : TRef sig ⟨S_, .i32⟩) (constantI S_ 32 0#32),
    TRef.nullary (.of main_while1b_call10_c_1 : TRef sig ⟨S_, .i32⟩) (constantI S_ 32 0#32),
    TRef.nullary (.of main_while1b_call10_c_2 : TRef sig ⟨S_, .i32⟩) (constantI S_ 32 0#32),
    TRef.unaryIndexed (.of main_v141_2 : TRef sig ⟨S64x1x4x128x256, .f32⟩) ![(.of main_while1b_v191 : TRef sig ⟨S_, .i32⟩), (.of main_while1b_call10_c : TRef sig ⟨S_, .i32⟩), (.of main_while1b_call10_c_0 : TRef sig ⟨S_, .i32⟩), (.of main_while1b_call10_c_1 : TRef sig ⟨S_, .i32⟩), (.of main_while1b_call10_c_2 : TRef sig ⟨S_, .i32⟩)] (.of main_while1b_call10_v0 : TRef sig ⟨S1x1x4x128x256, .f32⟩) (fun x i => Host.dynamicSlice S1x1x4x128x256 x (fun k => (i k (Shape.Idx.first h_S_)).toInt) sliceFits_S64x1x4x128x256_S1x1x4x128x256),
    TRef.reshape (.of main_while1b_call10_v0 : TRef sig ⟨S1x1x4x128x256, .f32⟩) (.of main_while1b_v194 : TRef sig ⟨S1x4x128x256, .f32⟩) (rfl : (.f32 : EltTy) = .f32) shapeCasts_S1x1x4x128x256_S1x4x128x256 ]

/-- Each of these touches the core's own buffers only. -/
theorem w1b_3_sub : (w1b_3 : List (HloOp τ sig (Elt F))).Forall fun op => op.bufs ⊆ tcRefs τ sig := by
  simp only [List.Forall, nullary_bufs_sub, reshape_bufs_sub, unaryIndexed_bufs_sub, and_self]

/-- 6 operations of the reference program, in order. -/
abbrev w1b_4 : List (HloOp τ sig (Elt F)) :=
  [ TRef.nullary (.of main_while1b_call11_c : TRef sig ⟨S_, .i32⟩) (constantI S_ 32 0#32),
    TRef.nullary (.of main_while1b_call11_c_0 : TRef sig ⟨S_, .i32⟩) (constantI S_ 32 0#32),
    TRef.nullary (.of main_while1b_call11_c_1 : TRef sig ⟨S_, .i32⟩) (constantI S_ 32 0#32),
    TRef.nullary (.of main_while1b_call11_c_2 : TRef sig ⟨S_, .i32⟩) (constantI S_ 32 0#32),
    TRef.unaryIndexed (.of main_v141_3 : TRef sig ⟨S64x1x4x128x512, .f32⟩) ![(.of main_while1b_v191 : TRef sig ⟨S_, .i32⟩), (.of main_while1b_call11_c : TRef sig ⟨S_, .i32⟩), (.of main_while1b_call11_c_0 : TRef sig ⟨S_, .i32⟩), (.of main_while1b_call11_c_1 : TRef sig ⟨S_, .i32⟩), (.of main_while1b_call11_c_2 : TRef sig ⟨S_, .i32⟩)] (.of main_while1b_call11_v0 : TRef sig ⟨S1x1x4x128x512, .f32⟩) (fun x i => Host.dynamicSlice S1x1x4x128x512 x (fun k => (i k (Shape.Idx.first h_S_)).toInt) sliceFits_S64x1x4x128x512_S1x1x4x128x512),
    TRef.reshape (.of main_while1b_call11_v0 : TRef sig ⟨S1x1x4x128x512, .f32⟩) (.of main_while1b_v195 : TRef sig ⟨S1x4x128x512, .f32⟩) (rfl : (.f32 : EltTy) = .f32) shapeCasts_S1x1x4x128x512_S1x4x128x512 ]

/-- Each of these touches the core's own buffers only. -/
theorem w1b_4_sub : (w1b_4 : List (HloOp τ sig (Elt F))).Forall fun op => op.bufs ⊆ tcRefs τ sig := by
  simp only [List.Forall, nullary_bufs_sub, reshape_bufs_sub, unaryIndexed_bufs_sub, and_self]

/-- 6 operations of the reference program, in order. -/
abbrev w1b_5 : List (HloOp τ sig (Elt F)) :=
  [ TRef.nullary (.of main_while1b_call12_c : TRef sig ⟨S_, .i32⟩) (constantI S_ 32 0#32),
    TRef.nullary (.of main_while1b_call12_c_0 : TRef sig ⟨S_, .i32⟩) (constantI S_ 32 0#32),
    TRef.nullary (.of main_while1b_call12_c_1 : TRef sig ⟨S_, .i32⟩) (constantI S_ 32 0#32),
    TRef.nullary (.of main_while1b_call12_c_2 : TRef sig ⟨S_, .i32⟩) (constantI S_ 32 0#32),
    TRef.unaryIndexed (.of main_v141_4 : TRef sig ⟨S64x1x4x128x128, .f32⟩) ![(.of main_while1b_v191 : TRef sig ⟨S_, .i32⟩), (.of main_while1b_call12_c : TRef sig ⟨S_, .i32⟩), (.of main_while1b_call12_c_0 : TRef sig ⟨S_, .i32⟩), (.of main_while1b_call12_c_1 : TRef sig ⟨S_, .i32⟩), (.of main_while1b_call12_c_2 : TRef sig ⟨S_, .i32⟩)] (.of main_while1b_call12_v0 : TRef sig ⟨S1x1x4x128x128, .f32⟩) (fun x i => Host.dynamicSlice S1x1x4x128x128 x (fun k => (i k (Shape.Idx.first h_S_)).toInt) sliceFits_S64x1x4x128x128_S1x1x4x128x128),
    TRef.reshape (.of main_while1b_call12_v0 : TRef sig ⟨S1x1x4x128x128, .f32⟩) (.of main_while1b_v196 : TRef sig ⟨S1x4x128x128, .f32⟩) (rfl : (.f32 : EltTy) = .f32) shapeCasts_S1x1x4x128x128_S1x4x128x128 ]

/-- Each of these touches the core's own buffers only. -/
theorem w1b_5_sub : (w1b_5 : List (HloOp τ sig (Elt F))).Forall fun op => op.bufs ⊆ tcRefs τ sig := by
  simp only [List.Forall, nullary_bufs_sub, reshape_bufs_sub, unaryIndexed_bufs_sub, and_self]

/-- 6 operations of the reference program, in order. -/
abbrev w1b_6 : List (HloOp τ sig (Elt F)) :=
  [ TRef.nullary (.of main_while1b_call13_c : TRef sig ⟨S_, .i32⟩) (constantI S_ 32 0#32),
    TRef.nullary (.of main_while1b_call13_c_0 : TRef sig ⟨S_, .i32⟩) (constantI S_ 32 0#32),
    TRef.nullary (.of main_while1b_call13_c_1 : TRef sig ⟨S_, .i32⟩) (constantI S_ 32 0#32),
    TRef.nullary (.of main_while1b_call13_c_2 : TRef sig ⟨S_, .i32⟩) (constantI S_ 32 0#32),
    TRef.unaryIndexed (.of main_v141_5 : TRef sig ⟨S64x1x4x256x512, .f32⟩) ![(.of main_while1b_v191 : TRef sig ⟨S_, .i32⟩), (.of main_while1b_call13_c : TRef sig ⟨S_, .i32⟩), (.of main_while1b_call13_c_0 : TRef sig ⟨S_, .i32⟩), (.of main_while1b_call13_c_1 : TRef sig ⟨S_, .i32⟩), (.of main_while1b_call13_c_2 : TRef sig ⟨S_, .i32⟩)] (.of main_while1b_call13_v0 : TRef sig ⟨S1x1x4x256x512, .f32⟩) (fun x i => Host.dynamicSlice S1x1x4x256x512 x (fun k => (i k (Shape.Idx.first h_S_)).toInt) sliceFits_S64x1x4x256x512_S1x1x4x256x512),
    TRef.reshape (.of main_while1b_call13_v0 : TRef sig ⟨S1x1x4x256x512, .f32⟩) (.of main_while1b_v197 : TRef sig ⟨S1x4x256x512, .f32⟩) (rfl : (.f32 : EltTy) = .f32) shapeCasts_S1x1x4x256x512_S1x4x256x512 ]

/-- Each of these touches the core's own buffers only. -/
theorem w1b_6_sub : (w1b_6 : List (HloOp τ sig (Elt F))).Forall fun op => op.bufs ⊆ tcRefs τ sig := by
  simp only [List.Forall, nullary_bufs_sub, reshape_bufs_sub, unaryIndexed_bufs_sub, and_self]

/-- 6 operations of the reference program, in order. -/
abbrev w1b_7 : List (HloOp τ sig (Elt F)) :=
  [ TRef.nullary (.of main_while1b_call14_c : TRef sig ⟨S_, .i32⟩) (constantI S_ 32 0#32),
    TRef.nullary (.of main_while1b_call14_c_0 : TRef sig ⟨S_, .i32⟩) (constantI S_ 32 0#32),
    TRef.nullary (.of main_while1b_call14_c_1 : TRef sig ⟨S_, .i32⟩) (constantI S_ 32 0#32),
    TRef.nullary (.of main_while1b_call14_c_2 : TRef sig ⟨S_, .i32⟩) (constantI S_ 32 0#32),
    TRef.unaryIndexed (.of main_v141_6 : TRef sig ⟨S64x1x4x128x512, .f32⟩) ![(.of main_while1b_v191 : TRef sig ⟨S_, .i32⟩), (.of main_while1b_call14_c : TRef sig ⟨S_, .i32⟩), (.of main_while1b_call14_c_0 : TRef sig ⟨S_, .i32⟩), (.of main_while1b_call14_c_1 : TRef sig ⟨S_, .i32⟩), (.of main_while1b_call14_c_2 : TRef sig ⟨S_, .i32⟩)] (.of main_while1b_call14_v0 : TRef sig ⟨S1x1x4x128x512, .f32⟩) (fun x i => Host.dynamicSlice S1x1x4x128x512 x (fun k => (i k (Shape.Idx.first h_S_)).toInt) sliceFits_S64x1x4x128x512_S1x1x4x128x512),
    TRef.reshape (.of main_while1b_call14_v0 : TRef sig ⟨S1x1x4x128x512, .f32⟩) (.of main_while1b_v198 : TRef sig ⟨S1x4x128x512, .f32⟩) (rfl : (.f32 : EltTy) = .f32) shapeCasts_S1x1x4x128x512_S1x4x128x512 ]

/-- Each of these touches the core's own buffers only. -/
theorem w1b_7_sub : (w1b_7 : List (HloOp τ sig (Elt F))).Forall fun op => op.bufs ⊆ tcRefs τ sig := by
  simp only [List.Forall, nullary_bufs_sub, reshape_bufs_sub, unaryIndexed_bufs_sub, and_self]

/-- 23 operations of the reference program, in order. -/
abbrev w1b_8 : List (HloOp τ sig (Elt F)) :=
  [ binary main_v141_12 main_while1b_v193 main_while1b_v199 ((fun l r => Host.dotGeneral dot_S1x4x256x512_S1x4x128x256_S1x4x512x128_2_3_3_2_01_01 none l r) : Arr F S1x4x256x512 .f32 → Arr F S1x4x128x256 .f32 → Arr F S1x4x512x128 .f32),
    unary main_while1b_v199 main_while1b_v200 ((transpose S1x4x128x512 [0, 1, 3, 2] · transposes_S1x4x512x128_S1x4x128x512_0_1_3_2) : Arr F S1x4x512x128 .f32 → Arr F S1x4x128x512 .f32),
    binary main_v141_12 main_while1b_v198 main_while1b_v201 ((fun l r => Host.dotGeneral dot_S1x4x256x512_S1x4x128x512_S1x4x256x128_3_3_2_2_01_01 none l r) : Arr F S1x4x256x512 .f32 → Arr F S1x4x128x512 .f32 → Arr F S1x4x256x128 .f32),
    unary main_while1b_v201 main_while1b_v202 ((transpose S1x4x128x256 [0, 1, 3, 2] · transposes_S1x4x256x128_S1x4x128x256_0_1_3_2) : Arr F S1x4x256x128 .f32 → Arr F S1x4x128x256 .f32),
    unary main_v141_10 main_while1b_v203 (broadcastInDim S1x4x128x512 ![0, 1, 2, 3] bcast_S1x4x128x1_S1x4x128x512_0_1_2_3 : Arr F S1x4x128x1 .f32 → Arr F S1x4x128x512 .f32),
    binary main_while1b_v200 main_while1b_v203 main_while1b_v204 (mulf : Arr F S1x4x128x512 .f32 → Arr F S1x4x128x512 .f32 → Arr F S1x4x128x512 .f32),
    unary main_v141_9 main_while1b_v205 (broadcastInDim S1x4x256x512 ![0, 1, 2, 3] bcast_S1x4x1x1_S1x4x256x512_0_1_2_3 : Arr F S1x4x1x1 .f32 → Arr F S1x4x256x512 .f32),
    binary main_while1b_v205 main_v141_12 main_while1b_v206 (mulf : Arr F S1x4x256x512 .f32 → Arr F S1x4x256x512 .f32 → Arr F S1x4x256x512 .f32),
    unary main_v141_8 main_while1b_v207 (broadcastInDim S1x4x128x512 ![0, 1, 2, 3] bcast_S1x4x128x1_S1x4x128x512_0_1_2_3 : Arr F S1x4x128x1 .f32 → Arr F S1x4x128x512 .f32),
    binary main_while1b_v192 main_while1b_v207 main_while1b_v208 (mulf : Arr F S1x4x128x512 .f32 → Arr F S1x4x128x512 .f32 → Arr F S1x4x128x512 .f32),
    binary main_while1b_v208 main_while1b_v194 main_while1b_v209 ((fun l r => Host.dotGeneral dot_S1x4x128x512_S1x4x128x256_S1x4x512x256_2_2_3_3_01_01 none l r) : Arr F S1x4x128x512 .f32 → Arr F S1x4x128x256 .f32 → Arr F S1x4x512x256 .f32),
    unary main_while1b_v209 main_while1b_v210 ((transpose S1x4x256x512 [0, 1, 3, 2] · transposes_S1x4x512x256_S1x4x256x512_0_1_3_2) : Arr F S1x4x512x256 .f32 → Arr F S1x4x256x512 .f32),
    binary main_while1b_v206 main_while1b_v210 main_while1b_v211 (addf : Arr F S1x4x256x512 .f32 → Arr F S1x4x256x512 .f32 → Arr F S1x4x256x512 .f32),
    binary main_while1b_v208 main_while1b_v197 main_while1b_v212 ((fun l r => Host.dotGeneral dot_S1x4x128x512_S1x4x256x512_S1x4x128x256_3_3_2_2_01_01 none l r) : Arr F S1x4x128x512 .f32 → Arr F S1x4x256x512 .f32 → Arr F S1x4x128x256 .f32),
    binary main_while1b_v192 main_while1b_v196 main_while1b_v213 ((fun l r => Host.dotGeneral dot_S1x4x128x512_S1x4x128x128_S1x4x512x128_2_2_3_3_01_01 none l r) : Arr F S1x4x128x512 .f32 → Arr F S1x4x128x128 .f32 → Arr F S1x4x512x128 .f32),
    unary main_while1b_v213 main_while1b_v214 ((transpose S1x4x128x512 [0, 1, 3, 2] · transposes_S1x4x512x128_S1x4x128x512_0_1_3_2) : Arr F S1x4x512x128 .f32 → Arr F S1x4x128x512 .f32),
    binary main_while1b_v204 main_while1b_v214 main_while1b_v215 (addf : Arr F S1x4x128x512 .f32 → Arr F S1x4x128x512 .f32 → Arr F S1x4x128x512 .f32),
    binary main_while1b_v192 main_while1b_v195 main_while1b_v216 ((fun l r => Host.dotGeneral dot_S1x4x128x512_S1x4x128x512_S1x4x128x128_3_3_2_2_01_01 none l r) : Arr F S1x4x128x512 .f32 → Arr F S1x4x128x512 .f32 → Arr F S1x4x128x128 .f32),
    binary main_while1b_v216 main_v141_7 main_while1b_v217 (mulf : Arr F S1x4x128x128 .f32 → Arr F S1x4x128x128 .f32 → Arr F S1x4x128x128 .f32),
    binary main_while1b_v217 main_while1b_v194 main_while1b_v218 ((fun l r => Host.dotGeneral dot_S1x4x128x128_S1x4x128x256_S1x4x128x256_2_2_3_3_01_01 none l r) : Arr F S1x4x128x128 .f32 → Arr F S1x4x128x256 .f32 → Arr F S1x4x128x256 .f32),
    binary main_while1b_v202 main_while1b_v218 main_while1b_v219 (addf : Arr F S1x4x128x256 .f32 → Arr F S1x4x128x256 .f32 → Arr F S1x4x128x256 .f32),
    binary main_while1b_v217 main_while1b_v193 main_while1b_v220 ((fun l r => Host.dotGeneral dot_S1x4x128x128_S1x4x128x256_S1x4x128x256_3_2_2_3_01_01 none l r) : Arr F S1x4x128x128 .f32 → Arr F S1x4x128x256 .f32 → Arr F S1x4x128x256 .f32),
    binary main_while1b_v212 main_while1b_v220 main_while1b_v221 (addf : Arr F S1x4x128x256 .f32 → Arr F S1x4x128x256 .f32 → Arr F S1x4x128x256 .f32) ]

/-- Each of these touches the core's own buffers only. -/
theorem w1b_8_sub : (w1b_8 : List (HloOp τ sig (Elt F))).Forall fun op => op.bufs ⊆ tcRefs τ sig := by
  simp only [List.Forall, binary_bufs_sub, unary_bufs_sub, and_self]

/-- 6 operations of the reference program, in order. -/
abbrev w1b_9 : List (HloOp τ sig (Elt F)) :=
  [ TRef.unary (.of main_while1b_v221 : TRef sig ⟨S1x4x128x256, .f32⟩) (.of main_while1b_call15_v0 : TRef sig ⟨S1x1x4x128x256, .f32⟩) (broadcastInDim S1x1x4x128x256 ![1, 2, 3, 4] bcast_S1x4x128x256_S1x1x4x128x256_1_2_3_4),
    TRef.nullary (.of main_while1b_call15_c : TRef sig ⟨S_, .i32⟩) (constantI S_ 32 0#32),
    TRef.nullary (.of main_while1b_call15_c_0 : TRef sig ⟨S_, .i32⟩) (constantI S_ 32 0#32),
    TRef.nullary (.of main_while1b_call15_c_1 : TRef sig ⟨S_, .i32⟩) (constantI S_ 32 0#32),
    TRef.nullary (.of main_while1b_call15_c_2 : TRef sig ⟨S_, .i32⟩) (constantI S_ 32 0#32),
    TRef.binaryIndexed (.of main_v141_13 : TRef sig ⟨S64x1x4x128x256, .f32⟩) (.of main_while1b_call15_v0 : TRef sig ⟨S1x1x4x128x256, .f32⟩) ![(.of main_while1b_v191 : TRef sig ⟨S_, .i32⟩), (.of main_while1b_call15_c : TRef sig ⟨S_, .i32⟩), (.of main_while1b_call15_c_0 : TRef sig ⟨S_, .i32⟩), (.of main_while1b_call15_c_1 : TRef sig ⟨S_, .i32⟩), (.of main_while1b_call15_c_2 : TRef sig ⟨S_, .i32⟩)] (.of main_while1b_v222 : TRef sig ⟨S64x1x4x128x256, .f32⟩) (fun x u i => Host.dynamicUpdateSlice x u (fun k => (i k (Shape.Idx.first h_S_)).toInt) updateFits_S64x1x4x128x256_S1x1x4x128x256) ]

/-- Each of these touches the core's own buffers only. -/
theorem w1b_9_sub : (w1b_9 : List (HloOp τ sig (Elt F))).Forall fun op => op.bufs ⊆ tcRefs τ sig := by
  simp only [List.Forall, binaryIndexed_bufs_sub, nullary_bufs_sub, unary_bufs_sub, and_self]

/-- 6 operations of the reference program, in order. -/
abbrev w1b_10 : List (HloOp τ sig (Elt F)) :=
  [ TRef.unary (.of main_while1b_v219 : TRef sig ⟨S1x4x128x256, .f32⟩) (.of main_while1b_call16_v0 : TRef sig ⟨S1x1x4x128x256, .f32⟩) (broadcastInDim S1x1x4x128x256 ![1, 2, 3, 4] bcast_S1x4x128x256_S1x1x4x128x256_1_2_3_4),
    TRef.nullary (.of main_while1b_call16_c : TRef sig ⟨S_, .i32⟩) (constantI S_ 32 0#32),
    TRef.nullary (.of main_while1b_call16_c_0 : TRef sig ⟨S_, .i32⟩) (constantI S_ 32 0#32),
    TRef.nullary (.of main_while1b_call16_c_1 : TRef sig ⟨S_, .i32⟩) (constantI S_ 32 0#32),
    TRef.nullary (.of main_while1b_call16_c_2 : TRef sig ⟨S_, .i32⟩) (constantI S_ 32 0#32),
    TRef.binaryIndexed (.of main_v141_14 : TRef sig ⟨S64x1x4x128x256, .f32⟩) (.of main_while1b_call16_v0 : TRef sig ⟨S1x1x4x128x256, .f32⟩) ![(.of main_while1b_v191 : TRef sig ⟨S_, .i32⟩), (.of main_while1b_call16_c : TRef sig ⟨S_, .i32⟩), (.of main_while1b_call16_c_0 : TRef sig ⟨S_, .i32⟩), (.of main_while1b_call16_c_1 : TRef sig ⟨S_, .i32⟩), (.of main_while1b_call16_c_2 : TRef sig ⟨S_, .i32⟩)] (.of main_while1b_v223 : TRef sig ⟨S64x1x4x128x256, .f32⟩) (fun x u i => Host.dynamicUpdateSlice x u (fun k => (i k (Shape.Idx.first h_S_)).toInt) updateFits_S64x1x4x128x256_S1x1x4x128x256) ]

/-- Each of these touches the core's own buffers only. -/
theorem w1b_10_sub : (w1b_10 : List (HloOp τ sig (Elt F))).Forall fun op => op.bufs ⊆ tcRefs τ sig := by
  simp only [List.Forall, binaryIndexed_bufs_sub, nullary_bufs_sub, unary_bufs_sub, and_self]

/-- 6 operations of the reference program, in order. -/
abbrev w1b_11 : List (HloOp τ sig (Elt F)) :=
  [ TRef.unary (.of main_while1b_v215 : TRef sig ⟨S1x4x128x512, .f32⟩) (.of main_while1b_call17_v0 : TRef sig ⟨S1x1x4x128x512, .f32⟩) (broadcastInDim S1x1x4x128x512 ![1, 2, 3, 4] bcast_S1x4x128x512_S1x1x4x128x512_1_2_3_4),
    TRef.nullary (.of main_while1b_call17_c : TRef sig ⟨S_, .i32⟩) (constantI S_ 32 0#32),
    TRef.nullary (.of main_while1b_call17_c_0 : TRef sig ⟨S_, .i32⟩) (constantI S_ 32 0#32),
    TRef.nullary (.of main_while1b_call17_c_1 : TRef sig ⟨S_, .i32⟩) (constantI S_ 32 0#32),
    TRef.nullary (.of main_while1b_call17_c_2 : TRef sig ⟨S_, .i32⟩) (constantI S_ 32 0#32),
    TRef.binaryIndexed (.of main_v141_15 : TRef sig ⟨S64x1x4x128x512, .f32⟩) (.of main_while1b_call17_v0 : TRef sig ⟨S1x1x4x128x512, .f32⟩) ![(.of main_while1b_v191 : TRef sig ⟨S_, .i32⟩), (.of main_while1b_call17_c : TRef sig ⟨S_, .i32⟩), (.of main_while1b_call17_c_0 : TRef sig ⟨S_, .i32⟩), (.of main_while1b_call17_c_1 : TRef sig ⟨S_, .i32⟩), (.of main_while1b_call17_c_2 : TRef sig ⟨S_, .i32⟩)] (.of main_while1b_v224 : TRef sig ⟨S64x1x4x128x512, .f32⟩) (fun x u i => Host.dynamicUpdateSlice x u (fun k => (i k (Shape.Idx.first h_S_)).toInt) updateFits_S64x1x4x128x512_S1x1x4x128x512) ]

/-- Each of these touches the core's own buffers only. -/
theorem w1b_11_sub : (w1b_11 : List (HloOp τ sig (Elt F))).Forall fun op => op.bufs ⊆ tcRefs τ sig := by
  simp only [List.Forall, binaryIndexed_bufs_sub, nullary_bufs_sub, unary_bufs_sub, and_self]

/-- 7 operations of the reference program, in order. -/
abbrev w1b_12 : List (HloOp τ sig (Elt F)) :=
  [ nullary main_while1b_c_45 (constantI S_ 32 1#32),
    binary main_v141_11 main_while1b_c_45 main_while1b_v225 (addi : Arr F S_ .i32 → Arr F S_ .i32 → Arr F S_ .i32),
    unary main_while1b_v225 main_v141_11 id,
    unary main_while1b_v211 main_v141_12 id,
    unary main_while1b_v222 main_v141_13 id,
    unary main_while1b_v223 main_v141_14 id,
    unary main_while1b_v224 main_v141_15 id ]

/-- Each of these touches the core's own buffers only. -/
theorem w1b_12_sub : (w1b_12 : List (HloOp τ sig (Elt F))).Forall fun op => op.bufs ⊆ tcRefs τ sig := by
  simp only [List.Forall, binary_bufs_sub, nullary_bufs_sub, unary_bufs_sub, and_self]

/-- Window 0 of the program as the chain of its stretches. -/
theorem part0_chain (c : Dev nD) : main_part0 (F := F) c = (Pipeline.chainK [] (seq part0_0) : Prog (TpuEff nD τ sig (Elt F) (HostLoop.Sig (Pipeline.Sig Λ₀ (Fin 0) fun p => (pcfgs (F := F) p).Adm) 2) .tc) PUnit) := by
  chain_rfl

/-- Window 1 of the program as the chain of its stretches. -/
theorem part1_chain (c : Dev nD) : main_part1 (F := F) c = (Pipeline.chainK [seq part1_0, seq part1_1] (seq part1_2) : Prog (TpuEff nD τ sig (Elt F) (HostLoop.Sig (Pipeline.Sig Λ₀ (Fin 0) fun p => (pcfgs (F := F) p).Adm) 2) .tc) PUnit) := by
  rewrite [chainK_seq_cons, Pipeline.chainK_cons]
  chain_rfl

/-- Window 2 of the program as the chain of its stretches. -/
theorem part2_chain (c : Dev nD) : main_part2 (F := F) c = (Pipeline.chainK [seq part2_0, HostLoop.enter 0] (seq part2_2) : Prog (TpuEff nD τ sig (Elt F) (HostLoop.Sig (Pipeline.Sig Λ₀ (Fin 0) fun p => (pcfgs (F := F) p).Adm) 2) .tc) PUnit) := by
  rewrite [chainK_seq_cons, Pipeline.chainK_cons]
  chain_rfl

/-- Window 3 of the program as the chain of its stretches. -/
theorem part3_chain (c : Dev nD) : main_part3 (F := F) c = (Pipeline.chainK [seq part3_0, HostLoop.enter 1] (seq part3_2) : Prog (TpuEff nD τ sig (Elt F) (HostLoop.Sig (Pipeline.Sig Λ₀ (Fin 0) fun p => (pcfgs (F := F) p).Adm) 2) .tc) PUnit) := by
  rewrite [chainK_seq_cons, Pipeline.chainK_cons]
  chain_rfl

/-- The last window of the program. -/
theorem part4_chain (c : Dev nD) : main_part4 (F := F) c = (Pipeline.chain [seq part4_0] : Prog (TpuEff nD τ sig (Elt F) (HostLoop.Sig (Pipeline.Sig Λ₀ (Fin 0) fun p => (pcfgs (F := F) p).Adm) 2) .tc) PUnit) := by
  rewrite [chain_seq_cons]
  chain_rfl

/-- The whole program as the chain of its stretches and its two loops. -/
theorem main_chain (c : Dev nD) : main (F := F) c = (Pipeline.chain [seq part0_0, seq part1_0, seq part1_1, seq part1_2, seq part2_0, HostLoop.enter 0, seq part2_2, seq part3_0, HostLoop.enter 1, seq part3_2, seq part4_0] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c >>= fun _ => main_part3 (F := F) c >>= fun _ => main_part4 (F := F) c) = _
  rewrite [part4_chain, part3_chain, Pipeline.chainK_bind_chain, part2_chain, Pipeline.chainK_bind_chain, part1_chain, Pipeline.chainK_bind_chain, part0_chain, Pipeline.chainK_bind_chain]
  chain_rfl

/-- A trip of loop 0 as the chain of its stretches. -/
theorem w0b_chain : main_while0_body (F := F) = (Pipeline.chain [seq w0b_0, seq w0b_1, seq w0b_2, seq w0b_3, seq w0b_4, seq w0b_5, seq w0b_6, seq w0b_7, seq w0b_8] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, chain_seq_cons, Pipeline.chain_cons, Pipeline.chain_cons, Pipeline.chain_cons, Pipeline.chain_cons, chain_seq_cons]
  chain_rfl

/-- The stretches of a trip of loop 0. -/
abbrev w0Body : List (List (HloOp τ sig (Elt F))) := [w0b_0, w0b_1, w0b_2, w0b_3, w0b_4, w0b_5, w0b_6, w0b_7, w0b_8]

/-- A trip of loop 1 as the chain of its stretches. -/
theorem w1b_chain : main_while1_body (F := F) = (Pipeline.chain [seq w1b_0, seq w1b_1, seq w1b_2, seq w1b_3, seq w1b_4, seq w1b_5, seq w1b_6, seq w1b_7, seq w1b_8, seq w1b_9, seq w1b_10, seq w1b_11, seq w1b_12] : Prog (TpuEff nD τ sig (Elt F) (HostLoop.Sig (Pipeline.Sig Λ₀ (Fin 0) fun p => (pcfgs (F := F) p).Adm) 2) .tc) PUnit) := by
  rewrite [chain_seq_cons, Pipeline.chain_cons, Pipeline.chain_cons, Pipeline.chain_cons, Pipeline.chain_cons, Pipeline.chain_cons, Pipeline.chain_cons, Pipeline.chain_cons, chain_seq_cons, Pipeline.chain_cons, Pipeline.chain_cons, Pipeline.chain_cons, chain_seq_cons]
  chain_rfl

/-- The stretches of a trip of loop 1. -/
abbrev w1Body : List (List (HloOp τ sig (Elt F))) := [w1b_0, w1b_1, w1b_2, w1b_3, w1b_4, w1b_5, w1b_6, w1b_7, w1b_8, w1b_9, w1b_10, w1b_11, w1b_12]

end Cert.ReferenceIdeal.Gen

end
-- ==== Proof.RefCtr.lean ====
/-
The reference's two counted loops: what each stretch does to the counters and that none writes an argument.
-/
module

public import proofs.«01_k».proof.Proof.RefOps
public import Idealize.ShloMosaic.Lib.StableHlo.RunLoop
public import Idealize.ShloMosaic.Lib.StableHlo.RunRead

@[expose] public section

set_option maxRecDepth 16384

noncomputable section

namespace Cert.ReferenceIdeal.Gen

open Cert.ReferenceIdeal Facts₀ Facts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.StableHlo

/-- The arguments' references. -/
abbrev argRefs : List (Ref sig .tc) := [main_arg0, main_arg1, main_arg2, main_arg3]

/-! ## The first loop's condition and body -/

/-- The first condition leaves the counter. -/
theorem ctr0_cond (X : Valuation τ sig (Elt F)) : after w0c X (Proc.devRef .tc main_v128_7) = X (Proc.devRef .tc main_v128_7) := by
  after_reads_simp
/-- The first loop's body adds one to the counter. -/
theorem ctr0_step (X : Valuation τ sig (Elt F)) :
    afterL w0Body X (Proc.devRef .tc main_v128_7) = addi (X (Proc.devRef .tc main_v128_7)) (constantI S_ 32 1#32) := by
  simp only [w0Body, afterL_cons, afterL_nil]
  after_reads_simp
  rfl
/-- The second condition leaves the counter. -/
theorem ctr1_cond (X : Valuation τ sig (Elt F)) : after w1c X (Proc.devRef .tc main_v141_11) = X (Proc.devRef .tc main_v141_11) := by
  after_reads_simp
/-- The second loop's body adds one to the counter. -/
theorem ctr1_step (X : Valuation τ sig (Elt F)) :
    afterL w1Body X (Proc.devRef .tc main_v141_11) = addi (X (Proc.devRef .tc main_v141_11)) (constantI S_ 32 1#32) := by
  simp only [w1Body, afterL_cons, afterL_nil]
  after_reads_simp
  rfl
/-- The operations before the first loop leave its counter at zero. -/
theorem ctr0_entry (X : Valuation τ sig (Elt F)) : afterL [part0_0, part1_0, part1_1, part1_2, part2_0] X (Proc.devRef .tc main_v128_7) = fun _ => (0#32 : BitVec 32) := by
  simp only [afterL_cons, afterL_nil]
  after_reads_simp
  rfl
/-- The operations between the loops leave the second counter at zero. -/
theorem ctr1_entry (X : Valuation τ sig (Elt F)) : afterL [part2_2, part3_0] X (Proc.devRef .tc main_v141_11) = fun _ => (0#32 : BitVec 32) := by
  simp only [afterL_cons, afterL_nil]
  after_reads_simp
  rfl

/-! ## No stretch writes an argument -/

theorem args_pre (X : Valuation τ sig (Elt F)) : ∀ a ∈ argRefs, afterL [part0_0, part1_0, part1_1, part1_2, part2_0] X (Proc.devRef .tc a) = X (Proc.devRef .tc a) := by
  intro a ha
  simp only [argRefs, List.mem_cons, List.not_mem_nil, or_false] at ha
  simp only [afterL_cons, afterL_nil]
  rcases ha with rfl | rfl | rfl | rfl <;> after_reads_simp
theorem args_w0c (X : Valuation τ sig (Elt F)) : ∀ a ∈ argRefs, after w0c X (Proc.devRef .tc a) = X (Proc.devRef .tc a) := by
  intro a ha
  simp only [argRefs, List.mem_cons, List.not_mem_nil, or_false] at ha
  rcases ha with rfl | rfl | rfl | rfl <;> after_reads_simp
theorem args_w0b (X : Valuation τ sig (Elt F)) : ∀ a ∈ argRefs, afterL w0Body X (Proc.devRef .tc a) = X (Proc.devRef .tc a) := by
  intro a ha
  simp only [argRefs, List.mem_cons, List.not_mem_nil, or_false] at ha
  simp only [w0Body, afterL_cons, afterL_nil]
  rcases ha with rfl | rfl | rfl | rfl <;> after_reads_simp
theorem args_mid (X : Valuation τ sig (Elt F)) : ∀ a ∈ argRefs, afterL [part2_2, part3_0] X (Proc.devRef .tc a) = X (Proc.devRef .tc a) := by
  intro a ha
  simp only [argRefs, List.mem_cons, List.not_mem_nil, or_false] at ha
  simp only [afterL_cons, afterL_nil]
  rcases ha with rfl | rfl | rfl | rfl <;> after_reads_simp
theorem args_w1c (X : Valuation τ sig (Elt F)) : ∀ a ∈ argRefs, after w1c X (Proc.devRef .tc a) = X (Proc.devRef .tc a) := by
  intro a ha
  simp only [argRefs, List.mem_cons, List.not_mem_nil, or_false] at ha
  rcases ha with rfl | rfl | rfl | rfl <;> after_reads_simp
theorem args_w1b (X : Valuation τ sig (Elt F)) : ∀ a ∈ argRefs, afterL w1Body X (Proc.devRef .tc a) = X (Proc.devRef .tc a) := by
  intro a ha
  simp only [argRefs, List.mem_cons, List.not_mem_nil, or_false] at ha
  simp only [w1Body, afterL_cons, afterL_nil]
  rcases ha with rfl | rfl | rfl | rfl <;> after_reads_simp
theorem args_post (X : Valuation τ sig (Elt F)) : ∀ a ∈ argRefs, afterL [part3_2, part4_0] X (Proc.devRef .tc a) = X (Proc.devRef .tc a) := by
  intro a ha
  simp only [argRefs, List.mem_cons, List.not_mem_nil, or_false] at ha
  simp only [afterL_cons, afterL_nil]
  rcases ha with rfl | rfl | rfl | rfl <;> after_reads_simp

end Cert.ReferenceIdeal.Gen

end
-- ==== Proof.RefRun.lean ====
/-
The run of the reference: stretches of host operations and two counted loops, by the loop kit's segments; its frame.
-/
module

public import proofs.«01_k».proof.Proof.RefCtr
public import Idealize.ShloMosaic.Lib.StableHlo.RunLoop
public import Idealize.ShloMosaic.Lib.Pipeline.RegionsLoop
public import Idealize.ShloMosaic.Lib.Scf.ExitTest
public import Idealize.ShloMosaic.Lib.Scf.Counter

@[expose] public section

set_option maxRecDepth 16384

noncomputable section

namespace Cert.ReferenceIdeal.Gen

open Cert.ReferenceIdeal Facts₀ Facts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.StableHlo
open Idealize.ShloMosaic.Pipeline (ucRefs sub_ucRefs CSeg)

local notation "𝕄" => MT nD τ sig Unit (Elt F) ℕ (Option PUnit) ℕ

/-- No pipeline: nothing admitted, no ticket, no level. -/
abbrev adm : (p : Fin 0) → (pcfgs (F := F) p).Adm := fun p => p.elim0
abbrev tk : Fin 0 → Pipeline.Ticket (Ix := Unit) (Name := ℕ) (U := Option PUnit) (Lvl := ℕ) (nD := nD) (τ := τ) (pcfgs (F := F)) adm := fun j => j.elim0
abbrev noLevels : GSem nD τ sig → Finset Unit := fun _ => ∅
/-- What is carried unchanged beside the buffers: the core owes nothing. -/
abbrev owing (c : Dev nD) : sProp 𝕄 := iprop(∃ W, owes (c : Thread nD τ) (0 : CellTallies nD τ sig Unit) W)

/-- The stretches before, between and after the loops. -/
abbrev preOps : List (List (HloOp τ sig (Elt F))) := [part0_0, part1_0, part1_1, part1_2, part2_0]
abbrev midOps : List (List (HloOp τ sig (Elt F))) := [part2_2, part3_0]
abbrev postOps : List (List (HloOp τ sig (Elt F))) := [part3_2, part4_0]

theorem preOps_plain : Plain (preOps (F := F)) := .cons part0_0_sub (.cons part1_0_sub (.cons part1_1_sub (.cons part1_2_sub (.cons part2_0_sub .nil))))
theorem midOps_plain : Plain (midOps (F := F)) := .cons part2_2_sub (.cons part3_0_sub .nil)
theorem postOps_plain : Plain (postOps (F := F)) := .cons part3_2_sub (.cons part4_0_sub .nil)
theorem w0Body_plain : Plain (w0Body (F := F)) :=
  .cons w0b_0_sub (.cons w0b_1_sub (.cons w0b_2_sub (.cons w0b_3_sub (.cons w0b_4_sub (.cons w0b_5_sub (.cons w0b_6_sub (.cons w0b_7_sub (.cons w0b_8_sub .nil))))))))
theorem w1Body_plain : Plain (w1Body (F := F)) :=
  .cons w1b_0_sub (.cons w1b_1_sub (.cons w1b_2_sub (.cons w1b_3_sub (.cons w1b_4_sub (.cons w1b_5_sub (.cons w1b_6_sub (.cons w1b_7_sub (.cons w1b_8_sub
    (.cons w1b_9_sub (.cons w1b_10_sub (.cons w1b_11_sub (.cons w1b_12_sub .nil))))))))))))

variable (m : (ℓ : Loc nD τ sig) → Buf (Elt F) ℓ)

/-- The buffers when the first loop is entered, before its `k`-th condition, and when it is left; the same of the second; the last. -/
abbrev E0 : Dev nD → Valuation τ sig (Elt F) := fun c => afterL preOps (launchContents m c)
abbrev T0 (k : ℕ) : Dev nD → Valuation τ sig (Elt F) := atTrip w0c w0Body (E0 m) k
abbrev X0 : Dev nD → Valuation τ sig (Elt F) := fun c => after w0c (T0 m 64 c)
abbrev E1 : Dev nD → Valuation τ sig (Elt F) := fun c => afterL midOps (X0 m c)
abbrev T1 (k : ℕ) : Dev nD → Valuation τ sig (Elt F) := atTrip w1c w1Body (E1 m) k
abbrev X1 : Dev nD → Valuation τ sig (Elt F) := fun c => after w1c (T1 m 64 c)
abbrev Fin0 : Dev nD → Valuation τ sig (Elt F) := fun c => afterL postOps (X1 m c)

theorem T0_succ (k : ℕ) (c : Dev nD) : T0 m (k + 1) c = afterL w0Body (after w0c (T0 m k c)) := rfl
theorem T1_succ (k : ℕ) (c : Dev nD) : T1 m (k + 1) c = afterL w1Body (after w1c (T1 m k c)) := rfl

/-- The first loop's counter before its `k`-th condition. -/
theorem T0_ctr (c : Dev nD) : ∀ k, T0 m k c (Proc.devRef .tc main_v128_7) = fun _ => Scf.iv 0#32 1#32 k
  | 0 => (ctr0_entry _).trans (by rw [Scf.iv_zero])
  | k + 1 => by rw [T0_succ, ctr0_step, ctr0_cond, T0_ctr c k, Scf.iv_succ]; rfl
/-- The second loop's counter before its `k`-th condition. -/
theorem T1_ctr (c : Dev nD) : ∀ k, T1 m k c (Proc.devRef .tc main_v141_11) = fun _ => Scf.iv 0#32 1#32 k
  | 0 => (ctr1_entry _).trans (by rw [Scf.iv_zero])
  | k + 1 => by rw [T1_succ, ctr1_step, ctr1_cond, T1_ctr c k, Scf.iv_succ]; rfl

theorem T0_args (c : Dev nD) : ∀ k, ∀ a ∈ argRefs, T0 m k c (Proc.devRef .tc a) = m ((c : Thread nD τ).loc a)
  | 0 => fun a ha => args_pre _ a ha
  | k + 1 => fun a ha => by rw [T0_succ, args_w0b _ a ha, args_w0c _ a ha, T0_args c k a ha]
theorem X0_args (c : Dev nD) : ∀ a ∈ argRefs, X0 m c (Proc.devRef .tc a) = m ((c : Thread nD τ).loc a) :=
  fun a ha => (args_w0c _ a ha).trans (T0_args m c 64 a ha)
theorem T1_args (c : Dev nD) : ∀ k, ∀ a ∈ argRefs, T1 m k c (Proc.devRef .tc a) = m ((c : Thread nD τ).loc a)
  | 0 => fun a ha => (args_mid _ a ha).trans (X0_args m c a ha)
  | k + 1 => fun a ha => by rw [T1_succ, args_w1b _ a ha, args_w1c _ a ha, T1_args c k a ha]
/-- No argument is written. -/
theorem Fin0_args (c : Dev nD) : ∀ a ∈ argRefs, Fin0 m c (Proc.devRef .tc a) = m ((c : Thread nD τ).loc a) :=
  fun a ha => (args_post _ a ha).trans ((args_w1c _ a ha).trans (T1_args m c 64 a ha))

set_option backward.isDefEq.respectTransparency.types false in
/-- The first condition answers whether its run is before the 64th. -/
theorem cond0 : LoopCond (pcfgs (F := F)) defs₀ Variants.none loops owing (main_while0_cond (F := F)) w0c w0Body (E0 m) 64 := by
  intro k hk c bd
  have hctr := T0_ctr m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (T0 m k c) main_v128_7 HostLoop.idx0)
        (HloOp.result _ (T0 m k c) main_while0c_c_40 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  isplitl [Hh]; · rw [after_cons, after_cons, after_nil]; iexact Hh
  iexact HR

set_option backward.isDefEq.respectTransparency.types false in
/-- The second condition answers whether its run is before the 64th. -/
theorem cond1 : LoopCond (pcfgs (F := F)) defs₀ Variants.none loops owing (main_while1_cond (F := F)) w1c w1Body (E1 m) 64 := by
  intro k hk c bd
  have hctr := T1_ctr m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (T1 m k c) main_v141_11 HostLoop.idx0)
        (HloOp.result _ (T1 m k c) main_while1c_c_43 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  isplitl [Hh]; · rw [after_cons, after_cons, after_nil]; iexact Hh
  iexact HR

/-- A segment of the program. -/
abbrev KSeg : Type 1 := CSeg (Ix := Unit) (Name := ℕ) (U := Option PUnit) (Lvl := ℕ) (nD := nD) (τ := τ) (pcfgs (F := F)) adm defs₀ Variants.none noLevels (fun _ _ => 0) loops tk

/-- The two loops. -/
abbrev seg0 : KSeg (F := F) := loopSeg _ _ _ _ _ _ _ _ 0 (main_while0_cond (F := F)) (main_while0_body (F := F)) rfl w0c w0Body w0Body_plain
  (by rw [w0b_chain]; rfl) 64 (E0 m) owing (cond0 m)
abbrev seg1 : KSeg (F := F) := loopSeg _ _ _ _ _ _ _ _ 1 (main_while1_cond (F := F)) (main_while1_body (F := F)) rfl w1c w1Body w1Body_plain
  (by rw [w1b_chain]; rfl) 64 (E1 m) owing (cond1 m)

/-- The program's segments. -/
def segs : List (KSeg (F := F)) :=
  segsOf _ _ _ _ _ _ _ _ owing preOps preOps_plain (launchContents m)
    ++ seg0 m :: (segsOf _ _ _ _ _ _ _ _ owing midOps midOps_plain (X0 m)
    ++ seg1 m :: segsOf _ _ _ _ _ _ _ _ owing postOps postOps_plain (X1 m))

theorem segs_prog : (segs m).map CSeg.prog
    = (preOps.map fun ops => (seq ops : Prog _ PUnit)) ++ HostLoop.enter 0 :: ((midOps.map fun ops => (seq ops : Prog _ PUnit))
      ++ HostLoop.enter 1 :: postOps.map fun ops => (seq ops : Prog _ PUnit)) := by
  unfold segs
  rw [List.map_append, List.map_cons, List.map_append, List.map_cons, segsOf_prog, segsOf_prog, segsOf_prog]
  rfl

/-- The program is its segments' programs in order. -/
theorem main_is_segs (c : Dev nD) : main (F := F) c = Pipeline.chain ((segs m).map CSeg.prog) := by
  rw [main_chain c, segs_prog]
  simp only [List.map_cons, List.map_nil, List.cons_append, List.nil_append]

theorem segs_chains : CSeg.Chains (fun c => iprop(held (c : Thread nD τ) (ucRefs τ sig) (launchContents m c) ∗ owing c)) (segs m)
    (fun c => iprop(iprop(held (c : Thread nD τ) (ucRefs τ sig) (Fin0 m c)) ∗ ∃ W, owes (c : Thread nD τ) (0 : CellTallies nD τ sig Unit) W)) := by
  unfold segs
  exact CSeg.Chains.append (segsOf_chains _ _ _ _ _ _ _ _ owing preOps preOps_plain _)
    ⟨fun _ => .rfl, CSeg.Chains.append (segsOf_chains _ _ _ _ _ _ _ _ owing midOps midOps_plain _)
      ⟨fun _ => .rfl, segsOf_chains _ _ _ _ _ _ _ _ owing postOps postOps_plain _⟩⟩

/-- No semaphore of the program is held outside a scope: there is none. -/
theorem no_unscoped : ∀ sm : SemLoc sig, sm.isScoped .tc = true := by decide

variable (ρ : Dev nD → PrngReg)

/-- The whole run of the reference: it ends, without a fault, with every buffer at its last contents and every counter zero. -/
theorem run_main : θ_run defs (onTc (τ := τ) (main (F := F))) ⟨m, fun _ => 0, ρ⟩ (fun r =>
      (∀ c : Dev nD, ∀ b ∈ ucRefs τ sig, r.2.mem ((c : Dev nD), b) = Fin0 m c b) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm (fun k => k.1.elim0) defs₀ Variants.none noLevels (fun _ _ => 0) loops tk m ρ main (segs m)
    (fun c Q => by
      rw [main_is_segs m c]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ owing c))
    (Tₙ := fun c => iprop(held (c : Thread nD τ) (ucRefs τ sig) (Fin0 m c)))
    (hch := segs_chains m)
    (hinit := by
      refine Pipeline.initEach noLevels (fun _ _ => 0) fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = Fin0 m c b)
    (hfin := fun c s' => by
      unfold held
      iintro ⟨Hh, HSI⟩
      ihave Hr := (pointsTo_read_all (ucRefs τ sig) (fun b => ((c : Dev nD), b)) (fun b => Fin0 m c b) s') $$ [Hh HSI]
      · isplitl [Hh] <;> iassumption
      icases Hr with ⟨%h, HSI⟩
      imodintro
      isplitr; · ipureintro; exact h
      iexact HSI)
    (hQ := fun s h hz => ⟨h, funext fun g => hz g (.inr (no_unscoped g.2))⟩)

/-- The arguments end as launched and every counter at zero. -/
theorem frame_run : θ_run defs (onTc (τ := τ) (main (F := F))) ⟨m, fun _ => 0, ρ⟩ (fun r =>
      (∀ c : Dev nD, ∀ a ∈ argRefs, r.2.mem ((c : Thread nD τ).loc a) = m ((c : Thread nD τ).loc a)) ∧ r.2.sem = fun _ => 0) :=
  (θ_run defs _ _).mono (fun _ h => ⟨fun c a ha => (h.1 c _ (devRef_mem_ucRefs a (by
      simp only [argRefs, List.mem_cons, List.not_mem_nil, or_false] at ha
      rcases ha with rfl | rfl | rfl | rfl <;> rfl))).trans (Fin0_args m c a ha), h.2⟩) (run_main m ρ)

end Cert.ReferenceIdeal.Gen

end
-- ==== Proof.RefSlice.lean ====
/-
The reference program's reads and writes of one row out of 64 in its loops.
-/
module

public import proofs.«01_k».proof.Proof.RefRun
public import Idealize.ShloMosaic.Lib.StableHlo.ReadAt
public import Idealize.ShloMosaic.Lib.Pointwise

@[expose] public section

set_option maxRecDepth 16384

noncomputable section

namespace Cert.ReferenceIdeal.Gen

open Cert.ReferenceIdeal Facts₀ Facts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.StableHlo

/-- A slice of one row out of 64: the operand at that row. -/
theorem row_slice {α : Type} {a b c : Nat} (x : (⟨5, ![64, 1, a, b, c]⟩ : Shape).Idx → α)
    (start : Fin 5 → Int) (h : (⟨5, ![64, 1, a, b, c]⟩ : Shape).Slices (fun _ => 0) ⟨5, ![1, 1, a, b, c]⟩)
    (k : Fin 64) (h0 : start 0 = (k.val : Int)) (h1 : start 1 = 0) (h2 : start 2 = 0) (h3 : start 3 = 0)
    (h4 : start 4 = 0) (u v : Fin 1) (i : Fin a) (j : Fin b) (l : Fin c) :
    Host.dynamicSlice ⟨5, ![1, 1, a, b, c]⟩ x start h (ix5 u v i j l) = x (ix5 k v i j l) := by
  rw [Host.dynamicSlice_apply]
  congr 1
  have c0 := Host.clampedStart_of_le (s := ⟨5, ![64, 1, a, b, c]⟩) (t := ⟨5, ![1, 1, a, b, c]⟩) h.1 start 0 k.val h0
    (by show k.val + 1 ≤ 64; omega)
  have c1 := Host.clampedStart_of_le (s := ⟨5, ![64, 1, a, b, c]⟩) (t := ⟨5, ![1, 1, a, b, c]⟩) h.1 start 1 0 h1
    (by show 0 + 1 ≤ 1; omega)
  have c2 := Host.clampedStart_of_le (s := ⟨5, ![64, 1, a, b, c]⟩) (t := ⟨5, ![1, 1, a, b, c]⟩) h.1 start 2 0 h2
    (by show 0 + a ≤ a; omega)
  have c3 := Host.clampedStart_of_le (s := ⟨5, ![64, 1, a, b, c]⟩) (t := ⟨5, ![1, 1, a, b, c]⟩) h.1 start 3 0 h3
    (by show 0 + b ≤ b; omega)
  have c4 := Host.clampedStart_of_le (s := ⟨5, ![64, 1, a, b, c]⟩) (t := ⟨5, ![1, 1, a, b, c]⟩) h.1 start 4 0 h4
    (by show 0 + c ≤ c; omega)
  funext q
  rw [Shape.Idx.norm_def]
  match q with
  | ⟨0, _⟩ => exact Fin.ext (by show Host.clampedStart _ _ h.1 start 0 + u.val = k.val; rw [c0]; omega)
  | ⟨1, _⟩ => exact Fin.ext (by show Host.clampedStart _ _ h.1 start 1 + v.val = v.val; rw [c1]; omega)
  | ⟨2, _⟩ => exact Fin.ext (by show Host.clampedStart _ _ h.1 start 2 + i.val = i.val; rw [c2]; omega)
  | ⟨3, _⟩ => exact Fin.ext (by show Host.clampedStart _ _ h.1 start 3 + j.val = j.val; rw [c3]; omega)
  | ⟨4, _⟩ => exact Fin.ext (by show Host.clampedStart _ _ h.1 start 4 + l.val = l.val; rw [c4]; omega)

/-- An update of one row out of 64: the update at that row, the operand elsewhere. -/
theorem row_update {α : Type} {a b c : Nat} (x : (⟨5, ![64, 1, a, b, c]⟩ : Shape).Idx → α)
    (y : (⟨5, ![1, 1, a, b, c]⟩ : Shape).Idx → α)
    (start : Fin 5 → Int) (h : (⟨5, ![64, 1, a, b, c]⟩ : Shape).Slices (fun _ => 0) ⟨5, ![1, 1, a, b, c]⟩)
    (k : Fin 64) (h0 : start 0 = (k.val : Int)) (h1 : start 1 = 0) (h2 : start 2 = 0) (h3 : start 3 = 0)
    (h4 : start 4 = 0) (n : Fin 64) (v : Fin 1) (i : Fin a) (j : Fin b) (l : Fin c) :
    Host.dynamicUpdateSlice x y start h (ix5 n v i j l)
      = if n = k then y (ix5 0 v i j l) else x (ix5 n v i j l) := by
  rw [Host.dynamicUpdateSlice_apply]
  have c0 := Host.clampedStart_of_le (s := ⟨5, ![64, 1, a, b, c]⟩) (t := ⟨5, ![1, 1, a, b, c]⟩) h.1 start 0 k.val h0
    (by show k.val + 1 ≤ 64; omega)
  have c1 := Host.clampedStart_of_le (s := ⟨5, ![64, 1, a, b, c]⟩) (t := ⟨5, ![1, 1, a, b, c]⟩) h.1 start 1 0 h1
    (by show 0 + 1 ≤ 1; omega)
  have c2 := Host.clampedStart_of_le (s := ⟨5, ![64, 1, a, b, c]⟩) (t := ⟨5, ![1, 1, a, b, c]⟩) h.1 start 2 0 h2
    (by show 0 + a ≤ a; omega)
  have c3 := Host.clampedStart_of_le (s := ⟨5, ![64, 1, a, b, c]⟩) (t := ⟨5, ![1, 1, a, b, c]⟩) h.1 start 3 0 h3
    (by show 0 + b ≤ b; omega)
  have c4 := Host.clampedStart_of_le (s := ⟨5, ![64, 1, a, b, c]⟩) (t := ⟨5, ![1, 1, a, b, c]⟩) h.1 start 4 0 h4
    (by show 0 + c ≤ c; omega)
  by_cases hn : n = k
  · rw [if_pos hn, dif_pos]
    · congr 1
      funext q
      rw [Shape.Idx.norm_def]
      match q with
      | ⟨0, _⟩ => exact Fin.ext (by show n.val - Host.clampedStart _ _ h.1 start 0 = 0; rw [c0, hn]; omega)
      | ⟨1, _⟩ => exact Fin.ext (by show v.val - Host.clampedStart _ _ h.1 start 1 = v.val; rw [c1]; omega)
      | ⟨2, _⟩ => exact Fin.ext (by show i.val - Host.clampedStart _ _ h.1 start 2 = i.val; rw [c2]; omega)
      | ⟨3, _⟩ => exact Fin.ext (by show j.val - Host.clampedStart _ _ h.1 start 3 = j.val; rw [c3]; omega)
      | ⟨4, _⟩ => exact Fin.ext (by show l.val - Host.clampedStart _ _ h.1 start 4 = l.val; rw [c4]; omega)
    · intro q
      match q with
      | ⟨0, _⟩ => show Host.clampedStart _ _ h.1 start 0 ≤ n.val ∧ n.val < Host.clampedStart _ _ h.1 start 0 + 1
                  rw [c0, hn]; omega
      | ⟨1, _⟩ => show Host.clampedStart _ _ h.1 start 1 ≤ v.val ∧ v.val < Host.clampedStart _ _ h.1 start 1 + 1
                  rw [c1]; omega
      | ⟨2, _⟩ => show Host.clampedStart _ _ h.1 start 2 ≤ i.val ∧ i.val < Host.clampedStart _ _ h.1 start 2 + a
                  rw [c2]; omega
      | ⟨3, _⟩ => show Host.clampedStart _ _ h.1 start 3 ≤ j.val ∧ j.val < Host.clampedStart _ _ h.1 start 3 + b
                  rw [c3]; omega
      | ⟨4, _⟩ => show Host.clampedStart _ _ h.1 start 4 ≤ l.val ∧ l.val < Host.clampedStart _ _ h.1 start 4 + c
                  rw [c4]; omega
  · rw [if_neg hn, dif_neg]
    intro hq
    have h0 := hq 0
    apply hn
    have : Host.clampedStart _ _ h.1 start 0 ≤ n.val ∧ n.val < Host.clampedStart _ _ h.1 start 0 + 1 := h0
    rw [c0] at this
    exact Fin.ext (by omega)

/-- A loop's counter, as a number. -/
theorem ctr_toInt (k : Fin 64) : (Scf.iv 0#32 1#32 k.val).toInt = (k.val : Int) := by
  revert k; decide

/-- Row `k` of the 64, read by a slice and a reshape. -/
theorem slice_256 (x : Vec Ideal S64x1x4x128x256 .f32) (y : Fin 5 → Vec Ideal S_ .i32) (k : Fin 64)
    (h0 : y 0 = fun _ => Scf.iv 0#32 1#32 k.val) (h1 : y 1 = constantI S_ 32 0#32) (h2 : y 2 = constantI S_ 32 0#32)
    (h3 : y 3 = constantI S_ 32 0#32) (h4 : y 4 = constantI S_ 32 0#32) (g) (h : Fin 4) (i : Fin 128) (d : Fin 256) :
    shapeCast S1x4x128x256 (Host.dynamicSlice S1x1x4x128x256 x (fun q => BitVec.toInt (y q (Shape.Idx.first h_S_)))
      sliceFits_S64x1x4x128x256_S1x1x4x128x256) g (ix4 0 h i d) = x (ix5 k 0 h i d) := by
  have e : ∀ Y : Vec Ideal S1x1x4x128x256 .f32, shapeCast S1x4x128x256 Y g (ix4 0 h i d) = Y (ix5 0 0 h i d) := fun Y => by pointwise
  refine (e _).trans ?_
  exact row_slice (α := Elt Ideal .f32) (a := 4) (b := 128) (c := 256) _ _ _ k
    ((congrArg BitVec.toInt (congrFun h0 _)).trans (ctr_toInt k)) (congrArg BitVec.toInt (congrFun h1 _))
    (congrArg BitVec.toInt (congrFun h2 _)) (congrArg BitVec.toInt (congrFun h3 _)) (congrArg BitVec.toInt (congrFun h4 _)) 0 0 h i d

/-- Row `k` of the 64, written by a broadcast and an update. -/
theorem update_256 (x : Vec Ideal S64x1x4x128x256 .f32) (u : Vec Ideal S1x4x128x256 .f32) (y : Fin 5 → Vec Ideal S_ .i32) (k : Fin 64)
    (h0 : y 0 = fun _ => Scf.iv 0#32 1#32 k.val) (h1 : y 1 = constantI S_ 32 0#32) (h2 : y 2 = constantI S_ 32 0#32)
    (h3 : y 3 = constantI S_ 32 0#32) (h4 : y 4 = constantI S_ 32 0#32) (n : Fin 64) (h : Fin 4) (i : Fin 128) (d : Fin 256) :
    Host.dynamicUpdateSlice x (broadcastInDim S1x1x4x128x256 ![1, 2, 3, 4] bcast_S1x4x128x256_S1x1x4x128x256_1_2_3_4 u)
      (fun q => BitVec.toInt (y q (Shape.Idx.first h_S_)))
      updateFits_S64x1x4x128x256_S1x1x4x128x256 (ix5 n 0 h i d) = if n = k then u (ix4 0 h i d) else x (ix5 n 0 h i d) := by
  refine (row_update (α := Elt Ideal .f32) (a := 4) (b := 128) (c := 256) _ _ _ _ k
    ((congrArg BitVec.toInt (congrFun h0 _)).trans (ctr_toInt k)) (congrArg BitVec.toInt (congrFun h1 _))
    (congrArg BitVec.toInt (congrFun h2 _)) (congrArg BitVec.toInt (congrFun h3 _)) (congrArg BitVec.toInt (congrFun h4 _)) n 0 h i d).trans ?_
  refine if_congr Iff.rfl ?_ rfl
  pointwise

/-- Row `k` of the 64, read by a slice and a reshape. -/
theorem slice_512 (x : Vec Ideal S64x1x4x128x512 .f32) (y : Fin 5 → Vec Ideal S_ .i32) (k : Fin 64)
    (h0 : y 0 = fun _ => Scf.iv 0#32 1#32 k.val) (h1 : y 1 = constantI S_ 32 0#32) (h2 : y 2 = constantI S_ 32 0#32)
    (h3 : y 3 = constantI S_ 32 0#32) (h4 : y 4 = constantI S_ 32 0#32) (g) (h : Fin 4) (i : Fin 128) (d : Fin 512) :
    shapeCast S1x4x128x512 (Host.dynamicSlice S1x1x4x128x512 x (fun q => BitVec.toInt (y q (Shape.Idx.first h_S_)))
      sliceFits_S64x1x4x128x512_S1x1x4x128x512) g (ix4 0 h i d) = x (ix5 k 0 h i d) := by
  have e : ∀ Y : Vec Ideal S1x1x4x128x512 .f32, shapeCast S1x4x128x512 Y g (ix4 0 h i d) = Y (ix5 0 0 h i d) := fun Y => by pointwise
  refine (e _).trans ?_
  exact row_slice (α := Elt Ideal .f32) (a := 4) (b := 128) (c := 512) _ _ _ k
    ((congrArg BitVec.toInt (congrFun h0 _)).trans (ctr_toInt k)) (congrArg BitVec.toInt (congrFun h1 _))
    (congrArg BitVec.toInt (congrFun h2 _)) (congrArg BitVec.toInt (congrFun h3 _)) (congrArg BitVec.toInt (congrFun h4 _)) 0 0 h i d

/-- Row `k` of the 64, written by a broadcast and an update. -/
theorem update_512 (x : Vec Ideal S64x1x4x128x512 .f32) (u : Vec Ideal S1x4x128x512 .f32) (y : Fin 5 → Vec Ideal S_ .i32) (k : Fin 64)
    (h0 : y 0 = fun _ => Scf.iv 0#32 1#32 k.val) (h1 : y 1 = constantI S_ 32 0#32) (h2 : y 2 = constantI S_ 32 0#32)
    (h3 : y 3 = constantI S_ 32 0#32) (h4 : y 4 = constantI S_ 32 0#32) (n : Fin 64) (h : Fin 4) (i : Fin 128) (d : Fin 512) :
    Host.dynamicUpdateSlice x (broadcastInDim S1x1x4x128x512 ![1, 2, 3, 4] bcast_S1x4x128x512_S1x1x4x128x512_1_2_3_4 u)
      (fun q => BitVec.toInt (y q (Shape.Idx.first h_S_)))
      updateFits_S64x1x4x128x512_S1x1x4x128x512 (ix5 n 0 h i d) = if n = k then u (ix4 0 h i d) else x (ix5 n 0 h i d) := by
  refine (row_update (α := Elt Ideal .f32) (a := 4) (b := 128) (c := 512) _ _ _ _ k
    ((congrArg BitVec.toInt (congrFun h0 _)).trans (ctr_toInt k)) (congrArg BitVec.toInt (congrFun h1 _))
    (congrArg BitVec.toInt (congrFun h2 _)) (congrArg BitVec.toInt (congrFun h3 _)) (congrArg BitVec.toInt (congrFun h4 _)) n 0 h i d).trans ?_
  refine if_congr Iff.rfl ?_ rfl
  pointwise

/-- Row `k` of the 64, read by a slice and a reshape. -/
theorem slice_128 (x : Vec Ideal S64x1x4x128x128 .f32) (y : Fin 5 → Vec Ideal S_ .i32) (k : Fin 64)
    (h0 : y 0 = fun _ => Scf.iv 0#32 1#32 k.val) (h1 : y 1 = constantI S_ 32 0#32) (h2 : y 2 = constantI S_ 32 0#32)
    (h3 : y 3 = constantI S_ 32 0#32) (h4 : y 4 = constantI S_ 32 0#32) (g) (h : Fin 4) (i : Fin 128) (d : Fin 128) :
    shapeCast S1x4x128x128 (Host.dynamicSlice S1x1x4x128x128 x (fun q => BitVec.toInt (y q (Shape.Idx.first h_S_)))
      sliceFits_S64x1x4x128x128_S1x1x4x128x128) g (ix4 0 h i d) = x (ix5 k 0 h i d) := by
  have e : ∀ Y : Vec Ideal S1x1x4x128x128 .f32, shapeCast S1x4x128x128 Y g (ix4 0 h i d) = Y (ix5 0 0 h i d) := fun Y => by pointwise
  refine (e _).trans ?_
  exact row_slice (α := Elt Ideal .f32) (a := 4) (b := 128) (c := 128) _ _ _ k
    ((congrArg BitVec.toInt (congrFun h0 _)).trans (ctr_toInt k)) (congrArg BitVec.toInt (congrFun h1 _))
    (congrArg BitVec.toInt (congrFun h2 _)) (congrArg BitVec.toInt (congrFun h3 _)) (congrArg BitVec.toInt (congrFun h4 _)) 0 0 h i d

/-- Row `k` of the 64, written by a broadcast and an update. -/
theorem update_128 (x : Vec Ideal S64x1x4x128x128 .f32) (u : Vec Ideal S1x4x128x128 .f32) (y : Fin 5 → Vec Ideal S_ .i32) (k : Fin 64)
    (h0 : y 0 = fun _ => Scf.iv 0#32 1#32 k.val) (h1 : y 1 = constantI S_ 32 0#32) (h2 : y 2 = constantI S_ 32 0#32)
    (h3 : y 3 = constantI S_ 32 0#32) (h4 : y 4 = constantI S_ 32 0#32) (n : Fin 64) (h : Fin 4) (i : Fin 128) (d : Fin 128) :
    Host.dynamicUpdateSlice x (broadcastInDim S1x1x4x128x128 ![1, 2, 3, 4] bcast_S1x4x128x128_S1x1x4x128x128_1_2_3_4 u)
      (fun q => BitVec.toInt (y q (Shape.Idx.first h_S_)))
      updateFits_S64x1x4x128x128_S1x1x4x128x128 (ix5 n 0 h i d) = if n = k then u (ix4 0 h i d) else x (ix5 n 0 h i d) := by
  refine (row_update (α := Elt Ideal .f32) (a := 4) (b := 128) (c := 128) _ _ _ _ k
    ((congrArg BitVec.toInt (congrFun h0 _)).trans (ctr_toInt k)) (congrArg BitVec.toInt (congrFun h1 _))
    (congrArg BitVec.toInt (congrFun h2 _)) (congrArg BitVec.toInt (congrFun h3 _)) (congrArg BitVec.toInt (congrFun h4 _)) n 0 h i d).trans ?_
  refine if_congr Iff.rfl ?_ rfl
  pointwise

/-- Row `k` of the 64, read by a slice and a reshape. -/
theorem slice_st (x : Vec Ideal S64x1x4x256x512 .f32) (y : Fin 5 → Vec Ideal S_ .i32) (k : Fin 64)
    (h0 : y 0 = fun _ => Scf.iv 0#32 1#32 k.val) (h1 : y 1 = constantI S_ 32 0#32) (h2 : y 2 = constantI S_ 32 0#32)
    (h3 : y 3 = constantI S_ 32 0#32) (h4 : y 4 = constantI S_ 32 0#32) (g) (h : Fin 4) (i : Fin 256) (d : Fin 512) :
    shapeCast S1x4x256x512 (Host.dynamicSlice S1x1x4x256x512 x (fun q => BitVec.toInt (y q (Shape.Idx.first h_S_)))
      sliceFits_S64x1x4x256x512_S1x1x4x256x512) g (ix4 0 h i d) = x (ix5 k 0 h i d) := by
  have e : ∀ Y : Vec Ideal S1x1x4x256x512 .f32, shapeCast S1x4x256x512 Y g (ix4 0 h i d) = Y (ix5 0 0 h i d) := fun Y => by pointwise
  refine (e _).trans ?_
  exact row_slice (α := Elt Ideal .f32) (a := 4) (b := 256) (c := 512) _ _ _ k
    ((congrArg BitVec.toInt (congrFun h0 _)).trans (ctr_toInt k)) (congrArg BitVec.toInt (congrFun h1 _))
    (congrArg BitVec.toInt (congrFun h2 _)) (congrArg BitVec.toInt (congrFun h3 _)) (congrArg BitVec.toInt (congrFun h4 _)) 0 0 h i d

/-- Row `k` of the 64, written by a broadcast and an update. -/
theorem update_st (x : Vec Ideal S64x1x4x256x512 .f32) (u : Vec Ideal S1x4x256x512 .f32) (y : Fin 5 → Vec Ideal S_ .i32) (k : Fin 64)
    (h0 : y 0 = fun _ => Scf.iv 0#32 1#32 k.val) (h1 : y 1 = constantI S_ 32 0#32) (h2 : y 2 = constantI S_ 32 0#32)
    (h3 : y 3 = constantI S_ 32 0#32) (h4 : y 4 = constantI S_ 32 0#32) (n : Fin 64) (h : Fin 4) (i : Fin 256) (d : Fin 512) :
    Host.dynamicUpdateSlice x (broadcastInDim S1x1x4x256x512 ![1, 2, 3, 4] bcast_S1x4x256x512_S1x1x4x256x512_1_2_3_4 u)
      (fun q => BitVec.toInt (y q (Shape.Idx.first h_S_)))
      updateFits_S64x1x4x256x512_S1x1x4x256x512 (ix5 n 0 h i d) = if n = k then u (ix4 0 h i d) else x (ix5 n 0 h i d) := by
  refine (row_update (α := Elt Ideal .f32) (a := 4) (b := 256) (c := 512) _ _ _ _ k
    ((congrArg BitVec.toInt (congrFun h0 _)).trans (ctr_toInt k)) (congrArg BitVec.toInt (congrFun h1 _))
    (congrArg BitVec.toInt (congrFun h2 _)) (congrArg BitVec.toInt (congrFun h3 _)) (congrArg BitVec.toInt (congrFun h4 _)) n 0 h i d).trans ?_
  refine if_congr Iff.rfl ?_ rfl
  pointwise

end Cert.ReferenceIdeal.Gen

end
-- ==== Proof.RefStep0.lean ====
/-
The first loop's body of the reference program: what a trip reads, computes and writes, entry by entry.
-/
module

public import proofs.«01_k».proof.Proof.RefSlice
public import proofs.«01_k».proof.Proof.Spec

@[expose] public section

set_option maxRecDepth 16384

noncomputable section

namespace Cert.ReferenceIdeal.Gen

open Cert.ReferenceIdeal Facts₀ Facts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.StableHlo

/-- The first loop's body in three stages: the reads of the chunk's rows, the work on them, the writes. -/
abbrev read0 (X : Valuation τ sig (Elt Ideal)) : Valuation τ sig (Elt Ideal) := after w0b_2 (after w0b_1 (after w0b_0 X))
abbrev work0 (X : Valuation τ sig (Elt Ideal)) : Valuation τ sig (Elt Ideal) := after w0b_3 X
abbrev write0 (X : Valuation τ sig (Elt Ideal)) : Valuation τ sig (Elt Ideal) :=
  after w0b_8 (after w0b_7 (after w0b_6 (after w0b_5 (after w0b_4 X))))

theorem body0 (X : Valuation τ sig (Elt Ideal)) : afterL w0Body X = write0 (work0 (read0 X)) := rfl

/-! ## The chunk's rows -/

theorem read0_v190 (X : Valuation τ sig (Elt Ideal)) (k : Fin 64) (hc : X (Proc.devRef .tc main_v128_7) = fun _ => Scf.iv 0#32 1#32 k.val)
    (h : Fin 4) (i : Fin 128) (d : Fin 256) :
    ((read0 X) (Proc.devRef .tc main_while0b_v190) : Vec Ideal S1x4x128x256 .f32) (ix4 0 h i d) = (X (Proc.devRef .tc main_v128_0) : Vec Ideal S64x1x4x128x256 .f32) (ix5 k 0 h i d) := by
  simp only [read0]
  after_reads_simp [unaryIndexed_result_read, binaryIndexed_result_read, indexContents_tref_cons, indexContents_tref_empty]
  exact slice_256 _ ![X (Proc.devRef .tc main_v128_7), constantI S_ 32 0#32, constantI S_ 32 0#32, constantI S_ 32 0#32, constantI S_ 32 0#32] k hc rfl rfl rfl rfl _ h i d

theorem read0_v191 (X : Valuation τ sig (Elt Ideal)) (k : Fin 64) (hc : X (Proc.devRef .tc main_v128_7) = fun _ => Scf.iv 0#32 1#32 k.val)
    (h : Fin 4) (i : Fin 128) (d : Fin 256) :
    ((read0 X) (Proc.devRef .tc main_while0b_v191) : Vec Ideal S1x4x128x256 .f32) (ix4 0 h i d) = (X (Proc.devRef .tc main_v128_1) : Vec Ideal S64x1x4x128x256 .f32) (ix5 k 0 h i d) := by
  simp only [read0]
  after_reads_simp [unaryIndexed_result_read, binaryIndexed_result_read, indexContents_tref_cons, indexContents_tref_empty]
  exact slice_256 _ ![X (Proc.devRef .tc main_v128_7), constantI S_ 32 0#32, constantI S_ 32 0#32, constantI S_ 32 0#32, constantI S_ 32 0#32] k hc rfl rfl rfl rfl _ h i d

theorem read0_v192 (X : Valuation τ sig (Elt Ideal)) (k : Fin 64) (hc : X (Proc.devRef .tc main_v128_7) = fun _ => Scf.iv 0#32 1#32 k.val)
    (h : Fin 4) (i : Fin 128) (d : Fin 512) :
    ((read0 X) (Proc.devRef .tc main_while0b_v192) : Vec Ideal S1x4x128x512 .f32) (ix4 0 h i d) = (X (Proc.devRef .tc main_v128_2) : Vec Ideal S64x1x4x128x512 .f32) (ix5 k 0 h i d) := by
  simp only [read0]
  after_reads_simp [unaryIndexed_result_read, binaryIndexed_result_read, indexContents_tref_cons, indexContents_tref_empty]
  exact slice_512 _ ![X (Proc.devRef .tc main_v128_7), constantI S_ 32 0#32, constantI S_ 32 0#32, constantI S_ 32 0#32, constantI S_ 32 0#32] k hc rfl rfl rfl rfl _ h i d

/-- The reads leave what the loop carries. -/
theorem read0_keep (X : Valuation τ sig (Elt Ideal)) : ∀ a ∈ ([main_v128_0, main_v128_1, main_v128_2, main_v128_3, main_v128_4, main_v128_5, main_v128_6, main_v128_7, main_v128_8, main_v128_9, main_v128_10, main_v128_11, main_v128_12] : List (Ref sig .tc)),
    read0 X (Proc.devRef .tc a) = X (Proc.devRef .tc a) := by
  intro a ha
  simp only [List.mem_cons, List.not_mem_nil, or_false] at ha
  simp only [read0]
  rcases ha with rfl | rfl | rfl | rfl | rfl | rfl | rfl | rfl | rfl | rfl | rfl | rfl | rfl <;> after_reads_simp

/-! ## The work -/

/-- What the work of chunk `n` starts from: its rows, the tables and the state before it. -/
structure Work0 (I : Ret.In) (n : ℕ) (X : Valuation τ sig (Elt Ideal)) : Prop where
  q : ∀ (h : Fin 4) (i : Fin 128) (d : Fin 256), (X (Proc.devRef .tc main_while0b_v190) : Vec Ideal S1x4x128x256 .f32) (ix4 0 h i d) = I.Q n h i d
  k : ∀ (h : Fin 4) (i : Fin 128) (d : Fin 256), (X (Proc.devRef .tc main_while0b_v191) : Vec Ideal S1x4x128x256 .f32) (ix4 0 h i d) = I.K n h i d
  v : ∀ (h : Fin 4) (i : Fin 128) (e : Fin 512), (X (Proc.devRef .tc main_while0b_v192) : Vec Ideal S1x4x128x512 .f32) (ix4 0 h i e) = I.V n h i e
  cd : ∀ h : Fin 4, (X (Proc.devRef .tc main_v128_3) : Vec Ideal S1x4x1x1 .f32) (ix4 0 h 0 0) = I.cd h
  kd : ∀ (h : Fin 4) (i : Fin 128), (X (Proc.devRef .tc main_v128_4) : Vec Ideal S1x4x128x1 .f32) (ix4 0 h i 0) = I.kd h i
  dm : ∀ (h : Fin 4) (i j : Fin 128), (X (Proc.devRef .tc main_v128_5) : Vec Ideal S1x4x128x128 .f32) (ix4 0 h i j) = I.D h i j
  qd : ∀ (h : Fin 4) (i : Fin 128), (X (Proc.devRef .tc main_v128_6) : Vec Ideal S1x4x128x1 .f32) (ix4 0 h i 0) = I.qd h i
  st : ∀ (h : Fin 4) (d : Fin 256) (e : Fin 512), (X (Proc.devRef .tc main_v128_8) : Vec Ideal S1x4x256x512 .f32) (ix4 0 h d e) = I.S h n d e

/-- The decayed scores. -/
theorem work0_v194 (I : Ret.In) (n : ℕ) (X : Valuation τ sig (Elt Ideal)) (H : Work0 I n X) (h : Fin 4) (i : Fin 128) (j : Fin 128) :
    ((work0 X) (Proc.devRef .tc main_while0b_v194) : Vec Ideal S1x4x128x128 .f32) (ix4 0 h i j) = I.A n h i j := by
  simp only [work0]
  after_reads_simp
  pointwise
  simp only [H.q, H.k, H.v, H.cd, H.kd, H.dm, H.qd, H.st, Ret.In.A, Ret.In.outS, Ret.In.S, Ret.In.nextS]

/-- The decayed values. -/
theorem work0_v202 (I : Ret.In) (n : ℕ) (X : Valuation τ sig (Elt Ideal)) (H : Work0 I n X) (h : Fin 4) (i : Fin 128) (e : Fin 512) :
    ((work0 X) (Proc.devRef .tc main_while0b_v202) : Vec Ideal S1x4x128x512 .f32) (ix4 0 h i e) = I.V n h i e * I.kd h i := by
  simp only [work0]
  after_reads_simp
  pointwise
  simp only [H.q, H.k, H.v, H.cd, H.kd, H.dm, H.qd, H.st, Ret.In.A, Ret.In.outS, Ret.In.S, Ret.In.nextS]

/-- The state after the chunk. -/
theorem work0_v204 (I : Ret.In) (n : ℕ) (X : Valuation τ sig (Elt Ideal)) (H : Work0 I n X) (h : Fin 4) (d : Fin 256) (e : Fin 512) :
    ((work0 X) (Proc.devRef .tc main_while0b_v204) : Vec Ideal S1x4x256x512 .f32) (ix4 0 h d e) = I.S h (n + 1) d e := by
  simp only [work0]
  after_reads_simp
  pointwise
  simp only [H.q, H.k, H.v, H.cd, H.kd, H.dm, H.qd, H.st, Ret.In.A, Ret.In.outS, Ret.In.S, Ret.In.nextS]

/-- The output of the chunk. -/
theorem work0_v205 (I : Ret.In) (n : ℕ) (X : Valuation τ sig (Elt Ideal)) (H : Work0 I n X) (h : Fin 4) (i : Fin 128) (e : Fin 512) :
    ((work0 X) (Proc.devRef .tc main_while0b_v205) : Vec Ideal S1x4x128x512 .f32) (ix4 0 h i e) = I.outS n h (I.S h n) i e := by
  simp only [work0]
  after_reads_simp
  pointwise
  simp only [H.q, H.k, H.v, H.cd, H.kd, H.dm, H.qd, H.st, Ret.In.A, Ret.In.outS, Ret.In.S, Ret.In.nextS]

/-- The work leaves what the loop carries. -/
theorem work0_keep (X : Valuation τ sig (Elt Ideal)) : ∀ a ∈ ([main_v128_0, main_v128_1, main_v128_2, main_v128_3, main_v128_4, main_v128_5, main_v128_6, main_v128_7, main_v128_8, main_v128_9, main_v128_10, main_v128_11, main_v128_12] : List (Ref sig .tc)),
    work0 X (Proc.devRef .tc a) = X (Proc.devRef .tc a) := by
  intro a ha
  simp only [List.mem_cons, List.not_mem_nil, or_false] at ha
  simp only [work0]
  rcases ha with rfl | rfl | rfl | rfl | rfl | rfl | rfl | rfl | rfl | rfl | rfl | rfl | rfl <;> after_reads_simp

/-! ## The writes -/

theorem write0_v128_9 (X : Valuation τ sig (Elt Ideal)) (k : Fin 64) (hc : X (Proc.devRef .tc main_v128_7) = fun _ => Scf.iv 0#32 1#32 k.val)
    (n : Fin 64) (h : Fin 4) (i : Fin 128) (d : Fin 512) :
    ((write0 X) (Proc.devRef .tc main_v128_9) : Vec Ideal S64x1x4x128x512 .f32) (ix5 n 0 h i d) = if n = k then (X (Proc.devRef .tc main_while0b_v205) : Vec Ideal S1x4x128x512 .f32) (ix4 0 h i d) else (X (Proc.devRef .tc main_v128_9) : Vec Ideal S64x1x4x128x512 .f32) (ix5 n 0 h i d) := by
  simp only [write0]
  after_reads_simp [unaryIndexed_result_read, binaryIndexed_result_read, indexContents_tref_cons, indexContents_tref_empty]
  exact update_512 _ _ ![X (Proc.devRef .tc main_v128_7), constantI S_ 32 0#32, constantI S_ 32 0#32, constantI S_ 32 0#32, constantI S_ 32 0#32] k hc rfl rfl rfl rfl n h i d

theorem write0_v128_10 (X : Valuation τ sig (Elt Ideal)) (k : Fin 64) (hc : X (Proc.devRef .tc main_v128_7) = fun _ => Scf.iv 0#32 1#32 k.val)
    (n : Fin 64) (h : Fin 4) (i : Fin 128) (d : Fin 128) :
    ((write0 X) (Proc.devRef .tc main_v128_10) : Vec Ideal S64x1x4x128x128 .f32) (ix5 n 0 h i d) = if n = k then (X (Proc.devRef .tc main_while0b_v194) : Vec Ideal S1x4x128x128 .f32) (ix4 0 h i d) else (X (Proc.devRef .tc main_v128_10) : Vec Ideal S64x1x4x128x128 .f32) (ix5 n 0 h i d) := by
  simp only [write0]
  after_reads_simp [unaryIndexed_result_read, binaryIndexed_result_read, indexContents_tref_cons, indexContents_tref_empty]
  exact update_128 _ _ ![X (Proc.devRef .tc main_v128_7), constantI S_ 32 0#32, constantI S_ 32 0#32, constantI S_ 32 0#32, constantI S_ 32 0#32] k hc rfl rfl rfl rfl n h i d

theorem write0_v128_11 (X : Valuation τ sig (Elt Ideal)) (k : Fin 64) (hc : X (Proc.devRef .tc main_v128_7) = fun _ => Scf.iv 0#32 1#32 k.val)
    (n : Fin 64) (h : Fin 4) (i : Fin 256) (d : Fin 512) :
    ((write0 X) (Proc.devRef .tc main_v128_11) : Vec Ideal S64x1x4x256x512 .f32) (ix5 n 0 h i d) = if n = k then (X (Proc.devRef .tc main_v128_8) : Vec Ideal S1x4x256x512 .f32) (ix4 0 h i d) else (X (Proc.devRef .tc main_v128_11) : Vec Ideal S64x1x4x256x512 .f32) (ix5 n 0 h i d) := by
  simp only [write0]
  after_reads_simp [unaryIndexed_result_read, binaryIndexed_result_read, indexContents_tref_cons, indexContents_tref_empty]
  exact update_st _ _ ![X (Proc.devRef .tc main_v128_7), constantI S_ 32 0#32, constantI S_ 32 0#32, constantI S_ 32 0#32, constantI S_ 32 0#32] k hc rfl rfl rfl rfl n h i d

theorem write0_v128_12 (X : Valuation τ sig (Elt Ideal)) (k : Fin 64) (hc : X (Proc.devRef .tc main_v128_7) = fun _ => Scf.iv 0#32 1#32 k.val)
    (n : Fin 64) (h : Fin 4) (i : Fin 128) (d : Fin 512) :
    ((write0 X) (Proc.devRef .tc main_v128_12) : Vec Ideal S64x1x4x128x512 .f32) (ix5 n 0 h i d) = if n = k then (X (Proc.devRef .tc main_while0b_v202) : Vec Ideal S1x4x128x512 .f32) (ix4 0 h i d) else (X (Proc.devRef .tc main_v128_12) : Vec Ideal S64x1x4x128x512 .f32) (ix5 n 0 h i d) := by
  simp only [write0]
  after_reads_simp [unaryIndexed_result_read, binaryIndexed_result_read, indexContents_tref_cons, indexContents_tref_empty]
  exact update_512 _ _ ![X (Proc.devRef .tc main_v128_7), constantI S_ 32 0#32, constantI S_ 32 0#32, constantI S_ 32 0#32, constantI S_ 32 0#32] k hc rfl rfl rfl rfl n h i d

theorem write0_st (X : Valuation τ sig (Elt Ideal)) : write0 X (Proc.devRef .tc main_v128_8) = X (Proc.devRef .tc main_while0b_v204) := by
  simp only [write0]
  after_reads_simp
  rfl

/-- The writes leave what the loop only reads. -/
theorem write0_keep (X : Valuation τ sig (Elt Ideal)) : ∀ a ∈ ([main_v128_0, main_v128_1, main_v128_2, main_v128_3, main_v128_4, main_v128_5, main_v128_6] : List (Ref sig .tc)),
    write0 X (Proc.devRef .tc a) = X (Proc.devRef .tc a) := by
  intro a ha
  simp only [List.mem_cons, List.not_mem_nil, or_false] at ha
  simp only [write0]
  rcases ha with rfl | rfl | rfl | rfl | rfl | rfl | rfl <;> after_reads_simp

end Cert.ReferenceIdeal.Gen

end
-- ==== Proof.RefLoop0.lean ====
/-
The reference program's first loop: the state before each chunk, and the rows it writes.
-/
module

public import proofs.«01_k».proof.Proof.RefStep0

@[expose] public section

set_option maxRecDepth 16384

noncomputable section

namespace Cert.ReferenceIdeal.Gen

open Cert.ReferenceIdeal Facts₀ Facts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.StableHlo

/-- What the first loop only reads: the rows of the queries, keys and values, and the tables. -/
structure Tab0 (I : Ret.In) (X : Valuation τ sig (Elt Ideal)) : Prop where
  q : ∀ (n : Fin 64) (h : Fin 4) (i : Fin 128) (d : Fin 256), (X (Proc.devRef .tc main_v128_0) : Vec Ideal S64x1x4x128x256 .f32) (ix5 n 0 h i d) = I.Q n h i d
  key : ∀ (n : Fin 64) (h : Fin 4) (i : Fin 128) (d : Fin 256), (X (Proc.devRef .tc main_v128_1) : Vec Ideal S64x1x4x128x256 .f32) (ix5 n 0 h i d) = I.K n h i d
  v : ∀ (n : Fin 64) (h : Fin 4) (i : Fin 128) (e : Fin 512), (X (Proc.devRef .tc main_v128_2) : Vec Ideal S64x1x4x128x512 .f32) (ix5 n 0 h i e) = I.V n h i e
  cd : ∀ h : Fin 4, (X (Proc.devRef .tc main_v128_3) : Vec Ideal S1x4x1x1 .f32) (ix4 0 h 0 0) = I.cd h
  kd : ∀ (h : Fin 4) (i : Fin 128), (X (Proc.devRef .tc main_v128_4) : Vec Ideal S1x4x128x1 .f32) (ix4 0 h i 0) = I.kd h i
  dm : ∀ (h : Fin 4) (i j : Fin 128), (X (Proc.devRef .tc main_v128_5) : Vec Ideal S1x4x128x128 .f32) (ix4 0 h i j) = I.D h i j
  qd : ∀ (h : Fin 4) (i : Fin 128), (X (Proc.devRef .tc main_v128_6) : Vec Ideal S1x4x128x1 .f32) (ix4 0 h i 0) = I.qd h i

/-- What the first loop carries before trip `k`: the state, and the rows written so far. -/
structure Inv0 (I : Ret.In) (k : ℕ) (X : Valuation τ sig (Elt Ideal)) : Prop extends Tab0 I X where
  st : ∀ (h : Fin 4) (d : Fin 256) (e : Fin 512), (X (Proc.devRef .tc main_v128_8) : Vec Ideal S1x4x256x512 .f32) (ix4 0 h d e) = I.S h k d e
  o : ∀ (n : Fin 64) (h : Fin 4) (i : Fin 128) (e : Fin 512), n.val < k → (X (Proc.devRef .tc main_v128_9) : Vec Ideal S64x1x4x128x512 .f32) (ix5 n 0 h i e) = I.outS n h (I.S h n) i e
  a : ∀ (n : Fin 64) (h : Fin 4) (i j : Fin 128), n.val < k → (X (Proc.devRef .tc main_v128_10) : Vec Ideal S64x1x4x128x128 .f32) (ix5 n 0 h i j) = I.A n h i j
  s : ∀ (n : Fin 64) (h : Fin 4) (d : Fin 256) (e : Fin 512), n.val < k → (X (Proc.devRef .tc main_v128_11) : Vec Ideal S64x1x4x256x512 .f32) (ix5 n 0 h d e) = I.S h n d e
  w : ∀ (n : Fin 64) (h : Fin 4) (i : Fin 128) (e : Fin 512), n.val < k → (X (Proc.devRef .tc main_v128_12) : Vec Ideal S64x1x4x128x512 .f32) (ix5 n 0 h i e) = I.V n h i e * I.kd h i

/-- What the first loop carries, by reference. -/
abbrev carried0 : List (Ref sig .tc) := [main_v128_0, main_v128_1, main_v128_2, main_v128_3, main_v128_4, main_v128_5, main_v128_6, main_v128_7, main_v128_8, main_v128_9, main_v128_10, main_v128_11, main_v128_12]

/-- The condition leaves what the loop carries. -/
theorem cond0_keep (X : Valuation τ sig (Elt Ideal)) : ∀ a ∈ carried0, after w0c X (Proc.devRef .tc a) = X (Proc.devRef .tc a) := by
  intro a ha
  simp only [carried0, List.mem_cons, List.not_mem_nil, or_false] at ha
  rcases ha with rfl | rfl | rfl | rfl | rfl | rfl | rfl | rfl | rfl | rfl | rfl | rfl | rfl <;> after_reads_simp

theorem Tab0.of_eq {I : Ret.In} {X Y : Valuation τ sig (Elt Ideal)} (H : Tab0 I X)
    (e : ∀ a ∈ ([main_v128_0, main_v128_1, main_v128_2, main_v128_3, main_v128_4, main_v128_5, main_v128_6] : List (Ref sig .tc)),
      Y (Proc.devRef .tc a) = X (Proc.devRef .tc a)) : Tab0 I Y where
  q n h i d := (congrFun (e main_v128_0 (by simp)) _).trans (H.q n h i d)
  key n h i d := (congrFun (e main_v128_1 (by simp)) _).trans (H.key n h i d)
  v n h i d := (congrFun (e main_v128_2 (by simp)) _).trans (H.v n h i d)
  cd h := (congrFun (e main_v128_3 (by simp)) _).trans (H.cd h)
  kd h i := (congrFun (e main_v128_4 (by simp)) _).trans (H.kd h i)
  dm h i j := (congrFun (e main_v128_5 (by simp)) _).trans (H.dm h i j)
  qd h i := (congrFun (e main_v128_6 (by simp)) _).trans (H.qd h i)

theorem Inv0.of_eq {I : Ret.In} {k : ℕ} {X Y : Valuation τ sig (Elt Ideal)} (H : Inv0 I k X)
    (e : ∀ a ∈ carried0, Y (Proc.devRef .tc a) = X (Proc.devRef .tc a)) : Inv0 I k Y where
  toTab0 := H.toTab0.of_eq fun a ha => e a (by
    simp only [List.mem_cons, List.not_mem_nil, or_false] at ha
    rcases ha with rfl | rfl | rfl | rfl | rfl | rfl | rfl <;> simp)
  st h d j := (congrFun (e main_v128_8 (by simp)) _).trans (H.st h d j)
  o n h i j hn := (congrFun (e main_v128_9 (by simp)) _).trans (H.o n h i j hn)
  a n h i j hn := (congrFun (e main_v128_10 (by simp)) _).trans (H.a n h i j hn)
  s n h i j hn := (congrFun (e main_v128_11 (by simp)) _).trans (H.s n h i j hn)
  w n h i j hn := (congrFun (e main_v128_12 (by simp)) _).trans (H.w n h i j hn)

/-- The work of trip `k` starts from chunk `k`. -/
theorem Inv0.work {I : Ret.In} {k : Fin 64} {X : Valuation τ sig (Elt Ideal)} (H : Inv0 I k.val X)
    (hc : X (Proc.devRef .tc main_v128_7) = fun _ => Scf.iv 0#32 1#32 k.val) : Work0 I k.val (read0 X) where
  q h i d := (read0_v190 X k hc h i d).trans (H.q k h i d)
  k h i d := (read0_v191 X k hc h i d).trans (H.key k h i d)
  v h i d := (read0_v192 X k hc h i d).trans (H.v k h i d)
  cd h := (congrFun (read0_keep X main_v128_3 (by simp)) _).trans (H.cd h)
  kd h i := (congrFun (read0_keep X main_v128_4 (by simp)) _).trans (H.kd h i)
  dm h i j := (congrFun (read0_keep X main_v128_5 (by simp)) _).trans (H.dm h i j)
  qd h i := (congrFun (read0_keep X main_v128_6 (by simp)) _).trans (H.qd h i)
  st h d e := (congrFun (read0_keep X main_v128_8 (by simp)) _).trans (H.st h d e)

/-- The reads and the work leave what the loop carries. -/
theorem rw0_keep (X : Valuation τ sig (Elt Ideal)) (a : Ref sig .tc) (ha : a ∈ carried0) :
    work0 (read0 X) (Proc.devRef .tc a) = X (Proc.devRef .tc a) :=
  (work0_keep _ a ha).trans (read0_keep X a ha)

/-- A row written at `k`, the rows before left: the rows before `k + 1`. -/
theorem row_step {α : Type} {n k : Fin 64} {x y z w : α} (hx : x = if n = k then y else z) (hn : n.val < k.val + 1)
    (hy : n = k → y = w) (hz : n.val < k.val → z = w) : x = w := by
  by_cases h : n = k
  · rw [hx, if_pos h]; exact hy h
  · rw [hx, if_neg h]; exact hz (by have : n.val ≠ k.val := fun e => h (Fin.ext e); omega)

/-- A trip of the first loop. -/
theorem Inv0.step {I : Ret.In} {k : Fin 64} {X : Valuation τ sig (Elt Ideal)} (H : Inv0 I k.val X)
    (hc : X (Proc.devRef .tc main_v128_7) = fun _ => Scf.iv 0#32 1#32 k.val) : Inv0 I (k.val + 1) (afterL w0Body X) := by
  have hw := H.work hc
  have hc' : work0 (read0 X) (Proc.devRef .tc main_v128_7) = fun _ => Scf.iv 0#32 1#32 k.val :=
    (rw0_keep X main_v128_7 (by simp)).trans hc
  rw [body0]
  refine ⟨H.toTab0.of_eq fun a ha => (write0_keep _ a ha).trans (rw0_keep X a (by
    simp only [List.mem_cons, List.not_mem_nil, or_false] at ha
    rcases ha with rfl | rfl | rfl | rfl | rfl | rfl | rfl <;> simp)), ?_, ?_, ?_, ?_, ?_⟩
  · exact fun h d e => (congrFun (write0_st _) _).trans (work0_v204 I k.val _ hw h d e)
  · exact fun n h i e hn => row_step (write0_v128_9 _ k hc' n h i e) hn
      (fun q => by rw [q]; exact work0_v205 I k.val _ hw h i e)
      (fun q => (congrFun (rw0_keep X main_v128_9 (by simp)) _).trans (H.o n h i e q))
  · exact fun n h i e hn => row_step (write0_v128_10 _ k hc' n h i e) hn
      (fun q => by rw [q]; exact work0_v194 I k.val _ hw h i e)
      (fun q => (congrFun (rw0_keep X main_v128_10 (by simp)) _).trans (H.a n h i e q))
  · exact fun n h i e hn => row_step (write0_v128_11 _ k hc' n h i e) hn
      (fun q => by rw [q]; exact (congrFun (rw0_keep X main_v128_8 (by simp)) _).trans (H.st h i e))
      (fun q => (congrFun (rw0_keep X main_v128_11 (by simp)) _).trans (H.s n h i e q))
  · exact fun n h i e hn => row_step (write0_v128_12 _ k hc' n h i e) hn
      (fun q => by rw [q]; exact work0_v202 I k.val _ hw h i e)
      (fun q => (congrFun (rw0_keep X main_v128_12 (by simp)) _).trans (H.w n h i e q))

variable (m : (ℓ : Loc nD τ sig) → Buf (Elt Ideal) ℓ)

/-- The first loop, trip by trip. -/
theorem Inv0.trips {I : Ret.In} {c : Dev nD} (H : Inv0 I 0 (E0 m c)) : ∀ k, k ≤ 64 → Inv0 I k (T0 m k c)
  | 0, _ => H
  | k + 1, hk => by
    rw [T0_succ]
    exact ((Inv0.trips H k (by omega)).of_eq (cond0_keep _)).step (k := ⟨k, by omega⟩)
      ((ctr0_cond _).trans (T0_ctr m c k))

/-- After the first loop. -/
theorem Inv0.exit {I : Ret.In} {c : Dev nD} (H : Inv0 I 0 (E0 m c)) : Inv0 I 64 (X0 m c) :=
  (Inv0.trips m H 64 le_rfl).of_eq (cond0_keep _)

end Cert.ReferenceIdeal.Gen

end
-- ==== Proof.RefPre.lean ====
/-
The reference program before its loops: the rows and the tables of the layer of its arguments.
-/
module

public import proofs.«01_k».proof.Proof.RefLoop0
public import proofs.«01_k».proof.Proof.Inst

@[expose] public section

set_option maxRecDepth 16384

noncomputable section

namespace Cert.ReferenceIdeal.Gen

open Cert.ReferenceIdeal Facts₀ Facts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.StableHlo

variable (X : Valuation τ sig (Elt Ideal))

/-- The layer of the arguments' contents. -/
abbrev layerOf : Ret.In :=
  Ret.layer (X (Proc.devRef .tc main_arg0) : Vec Ideal S8192x8192 .bf16) (X (Proc.devRef .tc main_arg1) : Vec Ideal S8192 .i32)
    (X (Proc.devRef .tc main_arg2) : Vec Ideal S8192x2048 .bf16)

set_option maxHeartbeats 1000000 in
theorem pre_q (n : Fin 64) (h : Fin 4) (i : Fin 128) (d : Fin 256) :
    (afterL preOps X (Proc.devRef .tc main_v128_0) : Vec Ideal S64x1x4x128x256 .f32) (ix5 n 0 h i d) = (layerOf X).Q n h i d := by
  simp only [afterL_cons, afterL_nil]
  after_reads_simp
  simp -implicitDefEqProofs only [id_eq]
  pointwise
  after_reads_simp
  pointwise
  simp only [Ret.In.Q, Ret.rot, Ret.layer, Ret.ang, Ret.num, Ret.pos_eq, Ret.mat_eq, Nat.mul_comm _ 128, Nat.mul_comm _ 256]
  by_cases hd : d.val < 128
  · rw [dif_pos hd, if_pos hd, Nat.add_comm 128 d.val]
  · rw [dif_neg hd, if_neg hd, show 128 + (d.val - 128) = d.val by omega]

set_option maxHeartbeats 1000000 in
theorem pre_k (n : Fin 64) (h : Fin 4) (i : Fin 128) (d : Fin 256) :
    (afterL preOps X (Proc.devRef .tc main_v128_1) : Vec Ideal S64x1x4x128x256 .f32) (ix5 n 0 h i d) = (layerOf X).K n h i d := by
  simp only [afterL_cons, afterL_nil]
  after_reads_simp
  simp -implicitDefEqProofs only [id_eq]
  pointwise
  after_reads_simp
  pointwise
  simp only [Ret.In.K, Ret.rot, Ret.scale, Ret.layer, Ret.ang, Ret.num, Ret.pos_eq, Ret.mat_eq, Nat.mul_comm _ 128, Nat.mul_comm _ 256, Nat.add_assoc]
  by_cases hd : d.val < 128
  · rw [dif_pos hd, if_pos hd, Nat.add_comm 128 d.val]
  · rw [dif_neg hd, if_neg hd, show 128 + (d.val - 128) = d.val by omega]

theorem pre_v (n : Fin 64) (h : Fin 4) (i : Fin 128) (e : Fin 512) :
    (afterL preOps X (Proc.devRef .tc main_v128_2) : Vec Ideal S64x1x4x128x512 .f32) (ix5 n 0 h i e) = (layerOf X).V n h i e := by
  simp only [afterL_cons, afterL_nil]
  after_reads_simp
  simp -implicitDefEqProofs only [id_eq]
  pointwise
  simp only [Ret.In.V, Ret.layer, Ret.mat_eq, Nat.mul_comm _ 128, Nat.mul_comm _ 512, Nat.add_assoc]

/-- The tables. -/
theorem pre_cd (h : Fin 4) : (afterL preOps X (Proc.devRef .tc main_v128_3) : Vec Ideal S1x4x1x1 .f32) (ix4 0 h 0 0) = (layerOf X).cd h := by
  simp only [afterL_cons, afterL_nil]
  after_reads_simp
  simp -implicitDefEqProofs only [id_eq]
  pointwise
  rfl
theorem pre_kd (h : Fin 4) (i : Fin 128) : (afterL preOps X (Proc.devRef .tc main_v128_4) : Vec Ideal S1x4x128x1 .f32) (ix4 0 h i 0) = (layerOf X).kd h i := by
  simp only [afterL_cons, afterL_nil]
  after_reads_simp
  simp -implicitDefEqProofs only [id_eq]
  pointwise
  rfl
theorem pre_dm (h : Fin 4) (i j : Fin 128) : (afterL preOps X (Proc.devRef .tc main_v128_5) : Vec Ideal S1x4x128x128 .f32) (ix4 0 h i j) = (layerOf X).D h i j := by
  simp only [afterL_cons, afterL_nil]
  after_reads_simp
  simp -implicitDefEqProofs only [StableHlo.TRef.toBuf, StableHlo.TRef.ofBuf, cast_cast, cast_eq, id_eq]
  pointwise
  exact if_congr Iff.rfl rfl rfl
theorem pre_qd (h : Fin 4) (i : Fin 128) : (afterL preOps X (Proc.devRef .tc main_v128_6) : Vec Ideal S1x4x128x1 .f32) (ix4 0 h i 0) = (layerOf X).qd h i := by
  simp only [afterL_cons, afterL_nil]
  after_reads_simp
  simp -implicitDefEqProofs only [id_eq]
  pointwise
  rfl
theorem pre_st (h : Fin 4) (d : Fin 256) (e : Fin 512) : (afterL preOps X (Proc.devRef .tc main_v128_8) : Vec Ideal S1x4x256x512 .f32) (ix4 0 h d e) = (0 : EReal) := by
  simp only [afterL_cons, afterL_nil]
  after_reads_simp
  simp -implicitDefEqProofs only [id_eq]
  pointwise

/-- Before the first trip of the first loop. -/
theorem pre_inv : Inv0 (layerOf X) 0 (afterL preOps X) where
  q := pre_q X
  key := pre_k X
  v := pre_v X
  cd := pre_cd X
  kd := pre_kd X
  dm := pre_dm X
  qd := pre_qd X
  st := pre_st X
  o n h i e hn := absurd hn (by omega)
  a n h i e hn := absurd hn (by omega)
  s n h i e hn := absurd hn (by omega)
  w n h i e hn := absurd hn (by omega)

end Cert.ReferenceIdeal.Gen

end
-- ==== Proof.RefKeep.lean ====
/-
What the reference program's later stretches read of the earlier ones, through the loops.
-/
module

public import proofs.«01_k».proof.Proof.RefPre

@[expose] public section

set_option maxRecDepth 16384

noncomputable section

namespace Cert.ReferenceIdeal.Gen

open Cert.ReferenceIdeal Facts₀ Facts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.StableHlo

/-- What later stretches read of what was computed before the first loop. -/
abbrev extras0 : List (Ref sig .tc) := [main_v115, main_v117, main_v119, main_v120, main_v121, main_v122, main_v123, main_v22, main_v23, main_v49, main_v50]
/-- What the last stretch reads of what was computed before the second loop. -/
abbrev extras1 : List (Ref sig .tc) := [main_v131, main_v22, main_v23, main_v49, main_v50]

/-- The first condition leaves them. -/
theorem extras_w0c (X : Valuation τ sig (Elt Ideal)) : ∀ a ∈ extras0, after w0c X (Proc.devRef .tc a) = X (Proc.devRef .tc a) := by
  intro a ha
  simp only [extras0, List.mem_cons, List.not_mem_nil, or_false] at ha
  rcases ha with rfl | rfl | rfl | rfl | rfl | rfl | rfl | rfl | rfl | rfl | rfl <;> after_reads_simp

/-- The first loop's body leaves them. -/
theorem extras_w0b (X : Valuation τ sig (Elt Ideal)) : ∀ a ∈ extras0, afterL w0Body X (Proc.devRef .tc a) = X (Proc.devRef .tc a) := by
  intro a ha
  simp only [extras0, List.mem_cons, List.not_mem_nil, or_false] at ha
  simp only [w0Body, w1Body, afterL_cons, afterL_nil]
  rcases ha with rfl | rfl | rfl | rfl | rfl | rfl | rfl | rfl | rfl | rfl | rfl <;> after_reads_simp

/-- The second condition leaves them. -/
theorem extras_w1c (X : Valuation τ sig (Elt Ideal)) : ∀ a ∈ extras1, after w1c X (Proc.devRef .tc a) = X (Proc.devRef .tc a) := by
  intro a ha
  simp only [extras1, List.mem_cons, List.not_mem_nil, or_false] at ha
  rcases ha with rfl | rfl | rfl | rfl | rfl <;> after_reads_simp

/-- The second loop's body leaves them. -/
theorem extras_w1b (X : Valuation τ sig (Elt Ideal)) : ∀ a ∈ extras1, afterL w1Body X (Proc.devRef .tc a) = X (Proc.devRef .tc a) := by
  intro a ha
  simp only [extras1, List.mem_cons, List.not_mem_nil, or_false] at ha
  simp only [w0Body, w1Body, afterL_cons, afterL_nil]
  rcases ha with rfl | rfl | rfl | rfl | rfl <;> after_reads_simp

/-- The operations between the loops leave the angles. -/
theorem extras_mid (X : Valuation τ sig (Elt Ideal)) : ∀ a ∈ ([main_v22, main_v23, main_v49, main_v50] : List (Ref sig .tc)),
    afterL midOps X (Proc.devRef .tc a) = X (Proc.devRef .tc a) := by
  intro a ha
  simp only [List.mem_cons, List.not_mem_nil, or_false] at ha
  simp only [afterL_cons, afterL_nil]
  rcases ha with rfl | rfl | rfl | rfl <;> after_reads_simp

variable (m : (ℓ : Loc nD τ sig) → Buf (Elt Ideal) ℓ)

/-- The first loop leaves them. -/
theorem T0_extras (c : Dev nD) : ∀ k, ∀ a ∈ extras0, T0 m k c (Proc.devRef .tc a) = E0 m c (Proc.devRef .tc a)
  | 0, _, _ => rfl
  | k + 1, a, ha => by rw [T0_succ, extras_w0b _ a ha, extras_w0c _ a ha, T0_extras c k a ha]
theorem X0_extras (c : Dev nD) : ∀ a ∈ extras0, X0 m c (Proc.devRef .tc a) = E0 m c (Proc.devRef .tc a) :=
  fun a ha => (extras_w0c _ a ha).trans (T0_extras m c 64 a ha)
/-- The second loop leaves them. -/
theorem T1_extras (c : Dev nD) : ∀ k, ∀ a ∈ extras1, T1 m k c (Proc.devRef .tc a) = E1 m c (Proc.devRef .tc a)
  | 0, _, _ => rfl
  | k + 1, a, ha => by rw [T1_succ, extras_w1b _ a ha, extras_w1c _ a ha, T1_extras c k a ha]
theorem X1_extras (c : Dev nD) : ∀ a ∈ extras1, X1 m c (Proc.devRef .tc a) = E1 m c (Proc.devRef .tc a) :=
  fun a ha => (extras_w1c _ a ha).trans (T1_extras m c 64 a ha)

/-! ## What the first loop starts with is a copy -/

theorem pre_copy115 (X : Valuation τ sig (Elt Ideal)) : afterL preOps X (Proc.devRef .tc main_v128_0) = afterL preOps X (Proc.devRef .tc main_v115) := by
  simp only [afterL_cons, afterL_nil]
  rw [show part2_0 = (part2_0 : List (HloOp τ sig (Elt Ideal))).take 26 ++ (part2_0 : List (HloOp τ sig (Elt Ideal))).drop 26 from rfl, after_append]
  generalize after (List.take 26 _) _ = Y
  after_reads_simp
  rfl

theorem pre_copy117 (X : Valuation τ sig (Elt Ideal)) : afterL preOps X (Proc.devRef .tc main_v128_1) = afterL preOps X (Proc.devRef .tc main_v117) := by
  simp only [afterL_cons, afterL_nil]
  rw [show part2_0 = (part2_0 : List (HloOp τ sig (Elt Ideal))).take 26 ++ (part2_0 : List (HloOp τ sig (Elt Ideal))).drop 26 from rfl, after_append]
  generalize after (List.take 26 _) _ = Y
  after_reads_simp
  rfl

theorem pre_copy119 (X : Valuation τ sig (Elt Ideal)) : afterL preOps X (Proc.devRef .tc main_v128_2) = afterL preOps X (Proc.devRef .tc main_v119) := by
  simp only [afterL_cons, afterL_nil]
  rw [show part2_0 = (part2_0 : List (HloOp τ sig (Elt Ideal))).take 26 ++ (part2_0 : List (HloOp τ sig (Elt Ideal))).drop 26 from rfl, after_append]
  generalize after (List.take 26 _) _ = Y
  after_reads_simp
  rfl

theorem pre_copy122 (X : Valuation τ sig (Elt Ideal)) : afterL preOps X (Proc.devRef .tc main_v128_3) = afterL preOps X (Proc.devRef .tc main_v122) := by
  simp only [afterL_cons, afterL_nil]
  rw [show part2_0 = (part2_0 : List (HloOp τ sig (Elt Ideal))).take 26 ++ (part2_0 : List (HloOp τ sig (Elt Ideal))).drop 26 from rfl, after_append]
  generalize after (List.take 26 _) _ = Y
  after_reads_simp
  rfl

theorem pre_copy123 (X : Valuation τ sig (Elt Ideal)) : afterL preOps X (Proc.devRef .tc main_v128_4) = afterL preOps X (Proc.devRef .tc main_v123) := by
  simp only [afterL_cons, afterL_nil]
  rw [show part2_0 = (part2_0 : List (HloOp τ sig (Elt Ideal))).take 26 ++ (part2_0 : List (HloOp τ sig (Elt Ideal))).drop 26 from rfl, after_append]
  generalize after (List.take 26 _) _ = Y
  after_reads_simp
  rfl

theorem pre_copy120 (X : Valuation τ sig (Elt Ideal)) : afterL preOps X (Proc.devRef .tc main_v128_5) = afterL preOps X (Proc.devRef .tc main_v120) := by
  simp only [afterL_cons, afterL_nil]
  rw [show part2_0 = (part2_0 : List (HloOp τ sig (Elt Ideal))).take 26 ++ (part2_0 : List (HloOp τ sig (Elt Ideal))).drop 26 from rfl, after_append]
  generalize after (List.take 26 _) _ = Y
  after_reads_simp
  rfl

theorem pre_copy121 (X : Valuation τ sig (Elt Ideal)) : afterL preOps X (Proc.devRef .tc main_v128_6) = afterL preOps X (Proc.devRef .tc main_v121) := by
  simp only [afterL_cons, afterL_nil]
  rw [show part2_0 = (part2_0 : List (HloOp τ sig (Elt Ideal))).take 26 ++ (part2_0 : List (HloOp τ sig (Elt Ideal))).drop 26 from rfl, after_append]
  generalize after (List.take 26 _) _ = Y
  after_reads_simp
  rfl

end Cert.ReferenceIdeal.Gen

end
-- ==== Proof.RefStep1.lean ====
/-
The second loop's body of the reference program: what a trip reads, computes and writes, entry by entry.
-/
module

public import proofs.«01_k».proof.Proof.RefSlice
public import proofs.«01_k».proof.Proof.Spec

@[expose] public section

set_option maxRecDepth 16384

noncomputable section

namespace Cert.ReferenceIdeal.Gen

open Cert.ReferenceIdeal Facts₀ Facts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.StableHlo

/-- The second loop's body in three stages: the reads of the chunk's rows, the work on them, the writes. -/
abbrev read1 (X : Valuation τ sig (Elt Ideal)) : Valuation τ sig (Elt Ideal) :=
  after w1b_7 (after w1b_6 (after w1b_5 (after w1b_4 (after w1b_3 (after w1b_2 (after w1b_1 (after w1b_0 X)))))))
abbrev work1 (X : Valuation τ sig (Elt Ideal)) : Valuation τ sig (Elt Ideal) := after w1b_8 X
abbrev write1 (X : Valuation τ sig (Elt Ideal)) : Valuation τ sig (Elt Ideal) :=
  after w1b_12 (after w1b_11 (after w1b_10 (after w1b_9 X)))

theorem body1 (X : Valuation τ sig (Elt Ideal)) : afterL w1Body X = write1 (work1 (read1 X)) := rfl

/-- The chunk of a trip: the last one first. -/
abbrev rev (k : Fin 64) : Fin 64 := ⟨63 - k.val, by omega⟩

theorem idx1 (c : Vec Ideal S_ .i32) (k : Fin 64) (hc : c = fun _ => Scf.iv 0#32 1#32 k.val) :
    (subi (subi (constantI S_ 32 64#32) c) (constantI S_ 32 1#32) : Vec Ideal S_ .i32) = fun _ => Scf.iv 0#32 1#32 (rev k).val := by
  subst hc
  funext _
  show (64#32 - Scf.iv 0#32 1#32 k.val - 1#32 : BitVec 32) = Scf.iv 0#32 1#32 (rev k).val
  revert k; decide

theorem read1_idx (X : Valuation τ sig (Elt Ideal)) (k : Fin 64) (hc : X (Proc.devRef .tc main_v141_11) = fun _ => Scf.iv 0#32 1#32 k.val) :
    read1 X (Proc.devRef .tc main_while1b_v191) = fun _ => Scf.iv 0#32 1#32 (rev k).val := by
  simp only [read1]
  after_reads_simp
  exact idx1 _ k hc

/-! ## The chunk's rows -/

theorem read1_v192 (X : Valuation τ sig (Elt Ideal)) (k : Fin 64) (hc : X (Proc.devRef .tc main_v141_11) = fun _ => Scf.iv 0#32 1#32 k.val)
    (h : Fin 4) (i : Fin 128) (d : Fin 512) :
    ((read1 X) (Proc.devRef .tc main_while1b_v192) : Vec Ideal S1x4x128x512 .f32) (ix4 0 h i d) = (X (Proc.devRef .tc main_v141_0) : Vec Ideal S64x1x4x128x512 .f32) (ix5 (rev k) 0 h i d) := by
  simp only [read1]
  after_reads_simp [unaryIndexed_result_read, binaryIndexed_result_read, indexContents_tref_cons, indexContents_tref_empty]
  exact slice_512 _ ![subi (subi (constantI S_ 32 64#32) (X (Proc.devRef .tc main_v141_11))) (constantI S_ 32 1#32), constantI S_ 32 0#32, constantI S_ 32 0#32, constantI S_ 32 0#32, constantI S_ 32 0#32] (rev k) (idx1 _ k hc) rfl rfl rfl rfl _ h i d

theorem read1_v193 (X : Valuation τ sig (Elt Ideal)) (k : Fin 64) (hc : X (Proc.devRef .tc main_v141_11) = fun _ => Scf.iv 0#32 1#32 k.val)
    (h : Fin 4) (i : Fin 128) (d : Fin 256) :
    ((read1 X) (Proc.devRef .tc main_while1b_v193) : Vec Ideal S1x4x128x256 .f32) (ix4 0 h i d) = (X (Proc.devRef .tc main_v141_1) : Vec Ideal S64x1x4x128x256 .f32) (ix5 (rev k) 0 h i d) := by
  simp only [read1]
  after_reads_simp [unaryIndexed_result_read, binaryIndexed_result_read, indexContents_tref_cons, indexContents_tref_empty]
  exact slice_256 _ ![subi (subi (constantI S_ 32 64#32) (X (Proc.devRef .tc main_v141_11))) (constantI S_ 32 1#32), constantI S_ 32 0#32, constantI S_ 32 0#32, constantI S_ 32 0#32, constantI S_ 32 0#32] (rev k) (idx1 _ k hc) rfl rfl rfl rfl _ h i d

theorem read1_v194 (X : Valuation τ sig (Elt Ideal)) (k : Fin 64) (hc : X (Proc.devRef .tc main_v141_11) = fun _ => Scf.iv 0#32 1#32 k.val)
    (h : Fin 4) (i : Fin 128) (d : Fin 256) :
    ((read1 X) (Proc.devRef .tc main_while1b_v194) : Vec Ideal S1x4x128x256 .f32) (ix4 0 h i d) = (X (Proc.devRef .tc main_v141_2) : Vec Ideal S64x1x4x128x256 .f32) (ix5 (rev k) 0 h i d) := by
  simp only [read1]
  after_reads_simp [unaryIndexed_result_read, binaryIndexed_result_read, indexContents_tref_cons, indexContents_tref_empty]
  exact slice_256 _ ![subi (subi (constantI S_ 32 64#32) (X (Proc.devRef .tc main_v141_11))) (constantI S_ 32 1#32), constantI S_ 32 0#32, constantI S_ 32 0#32, constantI S_ 32 0#32, constantI S_ 32 0#32] (rev k) (idx1 _ k hc) rfl rfl rfl rfl _ h i d

theorem read1_v195 (X : Valuation τ sig (Elt Ideal)) (k : Fin 64) (hc : X (Proc.devRef .tc main_v141_11) = fun _ => Scf.iv 0#32 1#32 k.val)
    (h : Fin 4) (i : Fin 128) (d : Fin 512) :
    ((read1 X) (Proc.devRef .tc main_while1b_v195) : Vec Ideal S1x4x128x512 .f32) (ix4 0 h i d) = (X (Proc.devRef .tc main_v141_3) : Vec Ideal S64x1x4x128x512 .f32) (ix5 (rev k) 0 h i d) := by
  simp only [read1]
  after_reads_simp [unaryIndexed_result_read, binaryIndexed_result_read, indexContents_tref_cons, indexContents_tref_empty]
  exact slice_512 _ ![subi (subi (constantI S_ 32 64#32) (X (Proc.devRef .tc main_v141_11))) (constantI S_ 32 1#32), constantI S_ 32 0#32, constantI S_ 32 0#32, constantI S_ 32 0#32, constantI S_ 32 0#32] (rev k) (idx1 _ k hc) rfl rfl rfl rfl _ h i d

theorem read1_v196 (X : Valuation τ sig (Elt Ideal)) (k : Fin 64) (hc : X (Proc.devRef .tc main_v141_11) = fun _ => Scf.iv 0#32 1#32 k.val)
    (h : Fin 4) (i : Fin 128) (d : Fin 128) :
    ((read1 X) (Proc.devRef .tc main_while1b_v196) : Vec Ideal S1x4x128x128 .f32) (ix4 0 h i d) = (X (Proc.devRef .tc main_v141_4) : Vec Ideal S64x1x4x128x128 .f32) (ix5 (rev k) 0 h i d) := by
  simp only [read1]
  after_reads_simp [unaryIndexed_result_read, binaryIndexed_result_read, indexContents_tref_cons, indexContents_tref_empty]
  exact slice_128 _ ![subi (subi (constantI S_ 32 64#32) (X (Proc.devRef .tc main_v141_11))) (constantI S_ 32 1#32), constantI S_ 32 0#32, constantI S_ 32 0#32, constantI S_ 32 0#32, constantI S_ 32 0#32] (rev k) (idx1 _ k hc) rfl rfl rfl rfl _ h i d

theorem read1_v197 (X : Valuation τ sig (Elt Ideal)) (k : Fin 64) (hc : X (Proc.devRef .tc main_v141_11) = fun _ => Scf.iv 0#32 1#32 k.val)
    (h : Fin 4) (i : Fin 256) (d : Fin 512) :
    ((read1 X) (Proc.devRef .tc main_while1b_v197) : Vec Ideal S1x4x256x512 .f32) (ix4 0 h i d) = (X (Proc.devRef .tc main_v141_5) : Vec Ideal S64x1x4x256x512 .f32) (ix5 (rev k) 0 h i d) := by
  simp only [read1]
  after_reads_simp [unaryIndexed_result_read, binaryIndexed_result_read, indexContents_tref_cons, indexContents_tref_empty]
  exact slice_st _ ![subi (subi (constantI S_ 32 64#32) (X (Proc.devRef .tc main_v141_11))) (constantI S_ 32 1#32), constantI S_ 32 0#32, constantI S_ 32 0#32, constantI S_ 32 0#32, constantI S_ 32 0#32] (rev k) (idx1 _ k hc) rfl rfl rfl rfl _ h i d

theorem read1_v198 (X : Valuation τ sig (Elt Ideal)) (k : Fin 64) (hc : X (Proc.devRef .tc main_v141_11) = fun _ => Scf.iv 0#32 1#32 k.val)
    (h : Fin 4) (i : Fin 128) (d : Fin 512) :
    ((read1 X) (Proc.devRef .tc main_while1b_v198) : Vec Ideal S1x4x128x512 .f32) (ix4 0 h i d) = (X (Proc.devRef .tc main_v141_6) : Vec Ideal S64x1x4x128x512 .f32) (ix5 (rev k) 0 h i d) := by
  simp only [read1]
  after_reads_simp [unaryIndexed_result_read, binaryIndexed_result_read, indexContents_tref_cons, indexContents_tref_empty]
  exact slice_512 _ ![subi (subi (constantI S_ 32 64#32) (X (Proc.devRef .tc main_v141_11))) (constantI S_ 32 1#32), constantI S_ 32 0#32, constantI S_ 32 0#32, constantI S_ 32 0#32, constantI S_ 32 0#32] (rev k) (idx1 _ k hc) rfl rfl rfl rfl _ h i d

/-- The reads leave what the loop carries. -/
theorem read1_keep (X : Valuation τ sig (Elt Ideal)) : ∀ a ∈ ([main_v141_0, main_v141_1, main_v141_2, main_v141_3, main_v141_4, main_v141_5, main_v141_6, main_v141_7, main_v141_8, main_v141_9, main_v141_10, main_v141_11, main_v141_12, main_v141_13, main_v141_14, main_v141_15] : List (Ref sig .tc)),
    read1 X (Proc.devRef .tc a) = X (Proc.devRef .tc a) := by
  intro a ha
  simp only [List.mem_cons, List.not_mem_nil, or_false] at ha
  simp only [read1]
  rcases ha with rfl | rfl | rfl | rfl | rfl | rfl | rfl | rfl | rfl | rfl | rfl | rfl | rfl | rfl | rfl | rfl <;> after_reads_simp

/-! ## The work -/

/-- What the work of chunk `n` starts from: its rows, what the first loop saved for it, the tables, and the gradient of the state after it
    (`m` chunks are done). -/
structure Work1 (I : Ret.In) (n m : ℕ) (X : Valuation τ sig (Elt Ideal)) : Prop where
  g : ∀ (h : Fin 4) (i : Fin 128) (e : Fin 512), (X (Proc.devRef .tc main_while1b_v192) : Vec Ideal S1x4x128x512 .f32) (ix4 0 h i e) = I.G n h i e
  k : ∀ (h : Fin 4) (i : Fin 128) (d : Fin 256), (X (Proc.devRef .tc main_while1b_v193) : Vec Ideal S1x4x128x256 .f32) (ix4 0 h i d) = I.K n h i d
  q : ∀ (h : Fin 4) (i : Fin 128) (d : Fin 256), (X (Proc.devRef .tc main_while1b_v194) : Vec Ideal S1x4x128x256 .f32) (ix4 0 h i d) = I.Q n h i d
  v : ∀ (h : Fin 4) (i : Fin 128) (e : Fin 512), (X (Proc.devRef .tc main_while1b_v195) : Vec Ideal S1x4x128x512 .f32) (ix4 0 h i e) = I.V n h i e
  a : ∀ (h : Fin 4) (i : Fin 128) (j : Fin 128), (X (Proc.devRef .tc main_while1b_v196) : Vec Ideal S1x4x128x128 .f32) (ix4 0 h i j) = I.A n h i j
  s : ∀ (h : Fin 4) (d : Fin 256) (e : Fin 512), (X (Proc.devRef .tc main_while1b_v197) : Vec Ideal S1x4x256x512 .f32) (ix4 0 h d e) = I.S h n d e
  w : ∀ (h : Fin 4) (i : Fin 128) (e : Fin 512), (X (Proc.devRef .tc main_while1b_v198) : Vec Ideal S1x4x128x512 .f32) (ix4 0 h i e) = I.V n h i e * I.kd h i
  dm : ∀ (h : Fin 4) (i : Fin 128) (j : Fin 128), (X (Proc.devRef .tc main_v141_7) : Vec Ideal S1x4x128x128 .f32) (ix4 0 h i j) = I.D h i j
  qd : ∀ (h : Fin 4) (i : Fin 128), (X (Proc.devRef .tc main_v141_8) : Vec Ideal S1x4x128x1 .f32) (ix4 0 h i 0) = I.qd h i
  cd : ∀ (h : Fin 4) , (X (Proc.devRef .tc main_v141_9) : Vec Ideal S1x4x1x1 .f32) (ix4 0 h 0 0) = I.cd h
  kd : ∀ (h : Fin 4) (i : Fin 128), (X (Proc.devRef .tc main_v141_10) : Vec Ideal S1x4x128x1 .f32) (ix4 0 h i 0) = I.kd h i
  t : ∀ (h : Fin 4) (d : Fin 256) (e : Fin 512), (X (Proc.devRef .tc main_v141_12) : Vec Ideal S1x4x256x512 .f32) (ix4 0 h d e) = I.T h m d e

/-- The gradient of the state before the chunk. -/
theorem work1_v211 (I : Ret.In) (n m : ℕ) (X : Valuation τ sig (Elt Ideal)) (H : Work1 I n m X) (h : Fin 4) (d : Fin 256) (e : Fin 512) :
    ((work1 X) (Proc.devRef .tc main_while1b_v211) : Vec Ideal S1x4x256x512 .f32) (ix4 0 h d e) = I.nextT n h (I.T h m) d e := by
  simp only [work1]
  after_reads_simp
  pointwise
  simp only [H.g, H.k, H.q, H.v, H.a, H.s, H.w, H.dm, H.qd, H.cd, H.kd, H.t, Ret.In.dA, Ret.In.gV, Ret.In.gQ, Ret.In.nextT, mul_comm, mul_left_comm]
  first | done | exact add_comm (G := EReal) _ _

/-- The gradient of the values. -/
theorem work1_v215 (I : Ret.In) (n m : ℕ) (X : Valuation τ sig (Elt Ideal)) (H : Work1 I n m X) (h : Fin 4) (i : Fin 128) (e : Fin 512) :
    ((work1 X) (Proc.devRef .tc main_while1b_v215) : Vec Ideal S1x4x128x512 .f32) (ix4 0 h i e) = I.gV n h (I.T h m) i e := by
  simp only [work1]
  after_reads_simp
  pointwise
  simp only [H.g, H.k, H.q, H.v, H.a, H.s, H.w, H.dm, H.qd, H.cd, H.kd, H.t, Ret.In.dA, Ret.In.gV, Ret.In.gQ, Ret.In.nextT, mul_comm, mul_left_comm]
  first | done | exact add_comm (G := EReal) _ _

/-- The gradient of the keys, before the scale. -/
theorem work1_v219 (I : Ret.In) (n m : ℕ) (X : Valuation τ sig (Elt Ideal)) (H : Work1 I n m X) (h : Fin 4) (i : Fin 128) (d : Fin 256) :
    ((work1 X) (Proc.devRef .tc main_while1b_v219) : Vec Ideal S1x4x128x256 .f32) (ix4 0 h i d) = (∑ j : Fin 128, I.dA n h j i * I.Q n h j d) + ∑ e : Fin 512, I.V n h i e * I.kd h i * I.T h m d e := by
  simp only [work1]
  after_reads_simp
  pointwise
  simp only [H.g, H.k, H.q, H.v, H.a, H.s, H.w, H.dm, H.qd, H.cd, H.kd, H.t, Ret.In.dA, Ret.In.gV, Ret.In.gQ, Ret.In.nextT, mul_comm, mul_left_comm]
  first | done | exact add_comm (G := EReal) _ _

/-- The gradient of the queries. -/
theorem work1_v221 (I : Ret.In) (n m : ℕ) (X : Valuation τ sig (Elt Ideal)) (H : Work1 I n m X) (h : Fin 4) (i : Fin 128) (d : Fin 256) :
    ((work1 X) (Proc.devRef .tc main_while1b_v221) : Vec Ideal S1x4x128x256 .f32) (ix4 0 h i d) = I.gQ n h (I.S h n) i d := by
  simp only [work1]
  after_reads_simp
  pointwise
  simp only [H.g, H.k, H.q, H.v, H.a, H.s, H.w, H.dm, H.qd, H.cd, H.kd, H.t, Ret.In.dA, Ret.In.gV, Ret.In.gQ, Ret.In.nextT, mul_comm, mul_left_comm]
  first | done | exact add_comm (G := EReal) _ _

/-- The work leaves what the loop carries and the chunk's number. -/
theorem work1_keep (X : Valuation τ sig (Elt Ideal)) : ∀ a ∈ ([main_v141_0, main_v141_1, main_v141_2, main_v141_3, main_v141_4, main_v141_5, main_v141_6, main_v141_7, main_v141_8, main_v141_9, main_v141_10, main_v141_11, main_v141_12, main_v141_13, main_v141_14, main_v141_15, main_while1b_v191] : List (Ref sig .tc)),
    work1 X (Proc.devRef .tc a) = X (Proc.devRef .tc a) := by
  intro a ha
  simp only [List.mem_cons, List.not_mem_nil, or_false] at ha
  simp only [work1]
  rcases ha with rfl | rfl | rfl | rfl | rfl | rfl | rfl | rfl | rfl | rfl | rfl | rfl | rfl | rfl | rfl | rfl | rfl <;> after_reads_simp

/-! ## The writes -/

theorem write1_v141_13 (X : Valuation τ sig (Elt Ideal)) (k : Fin 64) (hc : X (Proc.devRef .tc main_while1b_v191) = fun _ => Scf.iv 0#32 1#32 k.val)
    (n : Fin 64) (h : Fin 4) (i : Fin 128) (d : Fin 256) :
    ((write1 X) (Proc.devRef .tc main_v141_13) : Vec Ideal S64x1x4x128x256 .f32) (ix5 n 0 h i d) = if n = k then (X (Proc.devRef .tc main_while1b_v221) : Vec Ideal S1x4x128x256 .f32) (ix4 0 h i d) else (X (Proc.devRef .tc main_v141_13) : Vec Ideal S64x1x4x128x256 .f32) (ix5 n 0 h i d) := by
  simp only [write1]
  after_reads_simp [unaryIndexed_result_read, binaryIndexed_result_read, indexContents_tref_cons, indexContents_tref_empty]
  exact update_256 _ _ ![X (Proc.devRef .tc main_while1b_v191), constantI S_ 32 0#32, constantI S_ 32 0#32, constantI S_ 32 0#32, constantI S_ 32 0#32] k hc rfl rfl rfl rfl n h i d

theorem write1_v141_14 (X : Valuation τ sig (Elt Ideal)) (k : Fin 64) (hc : X (Proc.devRef .tc main_while1b_v191) = fun _ => Scf.iv 0#32 1#32 k.val)
    (n : Fin 64) (h : Fin 4) (i : Fin 128) (d : Fin 256) :
    ((write1 X) (Proc.devRef .tc main_v141_14) : Vec Ideal S64x1x4x128x256 .f32) (ix5 n 0 h i d) = if n = k then (X (Proc.devRef .tc main_while1b_v219) : Vec Ideal S1x4x128x256 .f32) (ix4 0 h i d) else (X (Proc.devRef .tc main_v141_14) : Vec Ideal S64x1x4x128x256 .f32) (ix5 n 0 h i d) := by
  simp only [write1]
  after_reads_simp [unaryIndexed_result_read, binaryIndexed_result_read, indexContents_tref_cons, indexContents_tref_empty]
  exact update_256 _ _ ![X (Proc.devRef .tc main_while1b_v191), constantI S_ 32 0#32, constantI S_ 32 0#32, constantI S_ 32 0#32, constantI S_ 32 0#32] k hc rfl rfl rfl rfl n h i d

theorem write1_v141_15 (X : Valuation τ sig (Elt Ideal)) (k : Fin 64) (hc : X (Proc.devRef .tc main_while1b_v191) = fun _ => Scf.iv 0#32 1#32 k.val)
    (n : Fin 64) (h : Fin 4) (i : Fin 128) (d : Fin 512) :
    ((write1 X) (Proc.devRef .tc main_v141_15) : Vec Ideal S64x1x4x128x512 .f32) (ix5 n 0 h i d) = if n = k then (X (Proc.devRef .tc main_while1b_v215) : Vec Ideal S1x4x128x512 .f32) (ix4 0 h i d) else (X (Proc.devRef .tc main_v141_15) : Vec Ideal S64x1x4x128x512 .f32) (ix5 n 0 h i d) := by
  simp only [write1]
  after_reads_simp [unaryIndexed_result_read, binaryIndexed_result_read, indexContents_tref_cons, indexContents_tref_empty]
  exact update_512 _ _ ![X (Proc.devRef .tc main_while1b_v191), constantI S_ 32 0#32, constantI S_ 32 0#32, constantI S_ 32 0#32, constantI S_ 32 0#32] k hc rfl rfl rfl rfl n h i d

theorem write1_st (X : Valuation τ sig (Elt Ideal)) : write1 X (Proc.devRef .tc main_v141_12) = X (Proc.devRef .tc main_while1b_v211) := by
  simp only [write1]
  after_reads_simp
  rfl

/-- The writes leave what the loop only reads. -/
theorem write1_keep (X : Valuation τ sig (Elt Ideal)) : ∀ a ∈ ([main_v141_0, main_v141_1, main_v141_2, main_v141_3, main_v141_4, main_v141_5, main_v141_6, main_v141_7, main_v141_8, main_v141_9, main_v141_10] : List (Ref sig .tc)),
    write1 X (Proc.devRef .tc a) = X (Proc.devRef .tc a) := by
  intro a ha
  simp only [List.mem_cons, List.not_mem_nil, or_false] at ha
  simp only [write1]
  rcases ha with rfl | rfl | rfl | rfl | rfl | rfl | rfl | rfl | rfl | rfl | rfl <;> after_reads_simp

end Cert.ReferenceIdeal.Gen

end
-- ==== Proof.RefLoop1.lean ====
/-
The reference program's second loop: the gradient of the state after each chunk, and the rows it writes.
-/
module

public import proofs.«01_k».proof.Proof.RefStep1

@[expose] public section

set_option maxRecDepth 16384

noncomputable section

namespace Cert.ReferenceIdeal.Gen

open Cert.ReferenceIdeal Facts₀ Facts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.StableHlo

/-- What the second loop only reads: the rows of the gradient, the keys, queries and values, what the first loop saved, and the tables. -/
structure Tab1 (I : Ret.In) (X : Valuation τ sig (Elt Ideal)) : Prop where
  g : ∀ (n : Fin 64) (h : Fin 4) (i : Fin 128) (e : Fin 512), (X (Proc.devRef .tc main_v141_0) : Vec Ideal S64x1x4x128x512 .f32) (ix5 n 0 h i e) = I.G n h i e
  key : ∀ (n : Fin 64) (h : Fin 4) (i : Fin 128) (d : Fin 256), (X (Proc.devRef .tc main_v141_1) : Vec Ideal S64x1x4x128x256 .f32) (ix5 n 0 h i d) = I.K n h i d
  q : ∀ (n : Fin 64) (h : Fin 4) (i : Fin 128) (d : Fin 256), (X (Proc.devRef .tc main_v141_2) : Vec Ideal S64x1x4x128x256 .f32) (ix5 n 0 h i d) = I.Q n h i d
  v : ∀ (n : Fin 64) (h : Fin 4) (i : Fin 128) (e : Fin 512), (X (Proc.devRef .tc main_v141_3) : Vec Ideal S64x1x4x128x512 .f32) (ix5 n 0 h i e) = I.V n h i e
  a : ∀ (n : Fin 64) (h : Fin 4) (i : Fin 128) (j : Fin 128), (X (Proc.devRef .tc main_v141_4) : Vec Ideal S64x1x4x128x128 .f32) (ix5 n 0 h i j) = I.A n h i j
  s : ∀ (n : Fin 64) (h : Fin 4) (d : Fin 256) (e : Fin 512), (X (Proc.devRef .tc main_v141_5) : Vec Ideal S64x1x4x256x512 .f32) (ix5 n 0 h d e) = I.S h n d e
  w : ∀ (n : Fin 64) (h : Fin 4) (i : Fin 128) (e : Fin 512), (X (Proc.devRef .tc main_v141_6) : Vec Ideal S64x1x4x128x512 .f32) (ix5 n 0 h i e) = I.V n h i e * I.kd h i
  dm : ∀ (h : Fin 4) (i : Fin 128) (j : Fin 128), (X (Proc.devRef .tc main_v141_7) : Vec Ideal S1x4x128x128 .f32) (ix4 0 h i j) = I.D h i j
  qd : ∀ (h : Fin 4) (i : Fin 128), (X (Proc.devRef .tc main_v141_8) : Vec Ideal S1x4x128x1 .f32) (ix4 0 h i 0) = I.qd h i
  cd : ∀ (h : Fin 4) , (X (Proc.devRef .tc main_v141_9) : Vec Ideal S1x4x1x1 .f32) (ix4 0 h 0 0) = I.cd h
  kd : ∀ (h : Fin 4) (i : Fin 128), (X (Proc.devRef .tc main_v141_10) : Vec Ideal S1x4x128x1 .f32) (ix4 0 h i 0) = I.kd h i

/-- What the second loop carries before trip `k`: the gradient of the state, and the rows written so far. -/
structure Inv1 (I : Ret.In) (k : ℕ) (X : Valuation τ sig (Elt Ideal)) : Prop extends Tab1 I X where
  t : ∀ (h : Fin 4) (d : Fin 256) (e : Fin 512), (X (Proc.devRef .tc main_v141_12) : Vec Ideal S1x4x256x512 .f32) (ix4 0 h d e) = I.T h k d e
  gq : ∀ (n : Fin 64) (h : Fin 4) (i : Fin 128) (d : Fin 256), 63 < n.val + k → (X (Proc.devRef .tc main_v141_13) : Vec Ideal S64x1x4x128x256 .f32) (ix5 n 0 h i d) = I.gQ n h (I.S h n) i d
  gk : ∀ (n : Fin 64) (h : Fin 4) (i : Fin 128) (d : Fin 256), 63 < n.val + k → (X (Proc.devRef .tc main_v141_14) : Vec Ideal S64x1x4x128x256 .f32) (ix5 n 0 h i d) = (∑ j : Fin 128, I.dA n h j i * I.Q n h j d) + ∑ e : Fin 512, I.V n h i e * I.kd h i * I.T h (63 - n) d e
  gv : ∀ (n : Fin 64) (h : Fin 4) (i : Fin 128) (e : Fin 512), 63 < n.val + k → (X (Proc.devRef .tc main_v141_15) : Vec Ideal S64x1x4x128x512 .f32) (ix5 n 0 h i e) = I.gV n h (I.T h (63 - n)) i e

/-- What the second loop carries, by reference. -/
abbrev carried1 : List (Ref sig .tc) := [main_v141_0, main_v141_1, main_v141_2, main_v141_3, main_v141_4, main_v141_5, main_v141_6, main_v141_7, main_v141_8, main_v141_9, main_v141_10, main_v141_11, main_v141_12, main_v141_13, main_v141_14, main_v141_15]
/-- What it only reads. -/
abbrev tables1 : List (Ref sig .tc) := [main_v141_0, main_v141_1, main_v141_2, main_v141_3, main_v141_4, main_v141_5, main_v141_6, main_v141_7, main_v141_8, main_v141_9, main_v141_10]

theorem tables1_sub {a : Ref sig .tc} (ha : a ∈ tables1) : a ∈ carried1 := by
  simp only [tables1, List.mem_cons, List.not_mem_nil, or_false] at ha
  rcases ha with rfl | rfl | rfl | rfl | rfl | rfl | rfl | rfl | rfl | rfl | rfl <;> simp

/-- The condition leaves what the loop carries. -/
theorem cond1_keep (X : Valuation τ sig (Elt Ideal)) : ∀ a ∈ carried1, after w1c X (Proc.devRef .tc a) = X (Proc.devRef .tc a) := by
  intro a ha
  simp only [carried1, List.mem_cons, List.not_mem_nil, or_false] at ha
  rcases ha with rfl | rfl | rfl | rfl | rfl | rfl | rfl | rfl | rfl | rfl | rfl | rfl | rfl | rfl | rfl | rfl <;> after_reads_simp

theorem Tab1.of_eq {I : Ret.In} {X Y : Valuation τ sig (Elt Ideal)} (H : Tab1 I X)
    (e : ∀ a ∈ tables1, Y (Proc.devRef .tc a) = X (Proc.devRef .tc a)) : Tab1 I Y where
  g n h x y := (congrFun (e main_v141_0 (by simp)) _).trans (H.g n h x y)
  key n h x y := (congrFun (e main_v141_1 (by simp)) _).trans (H.key n h x y)
  q n h x y := (congrFun (e main_v141_2 (by simp)) _).trans (H.q n h x y)
  v n h x y := (congrFun (e main_v141_3 (by simp)) _).trans (H.v n h x y)
  a n h x y := (congrFun (e main_v141_4 (by simp)) _).trans (H.a n h x y)
  s n h x y := (congrFun (e main_v141_5 (by simp)) _).trans (H.s n h x y)
  w n h x y := (congrFun (e main_v141_6 (by simp)) _).trans (H.w n h x y)
  dm h i j := (congrFun (e main_v141_7 (by simp)) _).trans (H.dm h i j)
  qd h i := (congrFun (e main_v141_8 (by simp)) _).trans (H.qd h i)
  cd h := (congrFun (e main_v141_9 (by simp)) _).trans (H.cd h )
  kd h i := (congrFun (e main_v141_10 (by simp)) _).trans (H.kd h i)

theorem Inv1.of_eq {I : Ret.In} {k : ℕ} {X Y : Valuation τ sig (Elt Ideal)} (H : Inv1 I k X)
    (e : ∀ a ∈ carried1, Y (Proc.devRef .tc a) = X (Proc.devRef .tc a)) : Inv1 I k Y where
  toTab1 := H.toTab1.of_eq fun a ha => e a (tables1_sub ha)
  t h d j := (congrFun (e main_v141_12 (by simp)) _).trans (H.t h d j)
  gq n h i j hn := (congrFun (e main_v141_13 (by simp)) _).trans (H.gq n h i j hn)
  gk n h i j hn := (congrFun (e main_v141_14 (by simp)) _).trans (H.gk n h i j hn)
  gv n h i j hn := (congrFun (e main_v141_15 (by simp)) _).trans (H.gv n h i j hn)

/-- The work of trip `k` starts from chunk `63 - k`. -/
theorem Inv1.work {I : Ret.In} {k : Fin 64} {X : Valuation τ sig (Elt Ideal)} (H : Inv1 I k.val X)
    (hc : X (Proc.devRef .tc main_v141_11) = fun _ => Scf.iv 0#32 1#32 k.val) : Work1 I (rev k).val k.val (read1 X) where
  g h x y := (read1_v192 X k hc h x y).trans (H.g (rev k) h x y)
  k h x y := (read1_v193 X k hc h x y).trans (H.key (rev k) h x y)
  q h x y := (read1_v194 X k hc h x y).trans (H.q (rev k) h x y)
  v h x y := (read1_v195 X k hc h x y).trans (H.v (rev k) h x y)
  a h x y := (read1_v196 X k hc h x y).trans (H.a (rev k) h x y)
  s h x y := (read1_v197 X k hc h x y).trans (H.s (rev k) h x y)
  w h x y := (read1_v198 X k hc h x y).trans (H.w (rev k) h x y)
  dm h i j := (congrFun (read1_keep X main_v141_7 (by simp)) _).trans (H.dm h i j)
  qd h i := (congrFun (read1_keep X main_v141_8 (by simp)) _).trans (H.qd h i)
  cd h := (congrFun (read1_keep X main_v141_9 (by simp)) _).trans (H.cd h )
  kd h i := (congrFun (read1_keep X main_v141_10 (by simp)) _).trans (H.kd h i)
  t h d e := (congrFun (read1_keep X main_v141_12 (by simp)) _).trans (H.t h d e)

/-- The reads and the work leave what the loop carries. -/
theorem rw1_keep (X : Valuation τ sig (Elt Ideal)) (a : Ref sig .tc) (ha : a ∈ carried1) :
    work1 (read1 X) (Proc.devRef .tc a) = X (Proc.devRef .tc a) :=
  (work1_keep _ a (by
    simp only [carried1, List.mem_cons, List.not_mem_nil, or_false] at ha
    rcases ha with rfl | rfl | rfl | rfl | rfl | rfl | rfl | rfl | rfl | rfl | rfl | rfl | rfl | rfl | rfl | rfl <;> simp)).trans (read1_keep X a ha)

/-- A row written at `63 - k`, the rows after it left: the rows from there on. -/
theorem row_step1 {α : Type} {n k : Fin 64} {x y z w : α} (hx : x = if n = rev k then y else z) (hn : 63 < n.val + (k.val + 1))
    (hy : n = rev k → y = w) (hz : 63 < n.val + k.val → z = w) : x = w := by
  by_cases h : n = rev k
  · rw [hx, if_pos h]; exact hy h
  · rw [hx, if_neg h]
    exact hz (by have : n.val ≠ 63 - k.val := fun e => h (Fin.ext e); omega)

/-- A trip of the second loop. -/
theorem Inv1.step {I : Ret.In} {k : Fin 64} {X : Valuation τ sig (Elt Ideal)} (H : Inv1 I k.val X)
    (hc : X (Proc.devRef .tc main_v141_11) = fun _ => Scf.iv 0#32 1#32 k.val) : Inv1 I (k.val + 1) (afterL w1Body X) := by
  have hw := H.work hc
  have hk : k.val = 63 - (rev k).val := by show k.val = 63 - (63 - k.val); omega
  have hc' : work1 (read1 X) (Proc.devRef .tc main_while1b_v191) = fun _ => Scf.iv 0#32 1#32 (rev k).val :=
    (work1_keep _ main_while1b_v191 (by simp)).trans (read1_idx X k hc)
  rw [body1]
  refine ⟨H.toTab1.of_eq fun a ha => (write1_keep _ a ha).trans (rw1_keep X a (tables1_sub ha)), ?_, ?_, ?_, ?_⟩
  · exact fun h d e => (congrFun (write1_st _) _).trans (work1_v211 I (rev k).val k.val _ hw h d e)
  · exact fun n h i e hn => row_step1 (write1_v141_13 _ (rev k) hc' n h i e) hn
      (fun q => by rw [q]; exact work1_v221 I (rev k).val k.val _ hw h i e)
      (fun q => (congrFun (rw1_keep X main_v141_13 (by simp)) _).trans (H.gq n h i e q))
  · exact fun n h i e hn => row_step1 (write1_v141_14 _ (rev k) hc' n h i e) hn
      (fun q => by rw [q, ← hk]; exact work1_v219 I (rev k).val k.val _ hw h i e)
      (fun q => (congrFun (rw1_keep X main_v141_14 (by simp)) _).trans (H.gk n h i e q))
  · exact fun n h i e hn => row_step1 (write1_v141_15 _ (rev k) hc' n h i e) hn
      (fun q => by rw [q, ← hk]; exact work1_v215 I (rev k).val k.val _ hw h i e)
      (fun q => (congrFun (rw1_keep X main_v141_15 (by simp)) _).trans (H.gv n h i e q))

variable (m : (ℓ : Loc nD τ sig) → Buf (Elt Ideal) ℓ)

/-- The second loop, trip by trip. -/
theorem Inv1.trips {I : Ret.In} {c : Dev nD} (H : Inv1 I 0 (E1 m c)) : ∀ k, k ≤ 64 → Inv1 I k (T1 m k c)
  | 0, _ => H
  | k + 1, hk => by
    rw [T1_succ]
    exact ((Inv1.trips H k (by omega)).of_eq (cond1_keep _)).step (k := ⟨k, by omega⟩)
      ((ctr1_cond _).trans (T1_ctr m c k))

/-- After the second loop. -/
theorem Inv1.exit {I : Ret.In} {c : Dev nD} (H : Inv1 I 0 (E1 m c)) : Inv1 I 64 (X1 m c) :=
  (Inv1.trips m H 64 le_rfl).of_eq (cond1_keep _)

end Cert.ReferenceIdeal.Gen

end
-- ==== Proof.RefMid.lean ====
/-
The reference program between its loops, and what stands after the second one.
-/
module

public import proofs.«01_k».proof.Proof.RefKeep
public import proofs.«01_k».proof.Proof.RefLoop1

@[expose] public section

set_option maxRecDepth 16384

noncomputable section

namespace Cert.ReferenceIdeal.Gen

open Cert.ReferenceIdeal Facts₀ Facts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.StableHlo

/-! ## The angles -/

theorem pre_22 (X : Valuation τ sig (Elt Ideal)) (r : Fin 8192) (d : Fin 128) :
    (afterL preOps X (Proc.devRef .tc main_v22) : Vec Ideal S1x8192x1x128 .f32) (ix4 0 r 0 d) = (layerOf X).cs r d := by
  simp only [afterL_cons, afterL_nil]
  after_reads_simp
  pointwise
  simp only [Ret.layer, Ret.ang, Ret.num, Ret.pos_eq]

theorem pre_23 (X : Valuation τ sig (Elt Ideal)) (r : Fin 8192) (d : Fin 128) :
    (afterL preOps X (Proc.devRef .tc main_v23) : Vec Ideal S1x8192x1x128 .f32) (ix4 0 r 0 d) = (layerOf X).sn r d := by
  simp only [afterL_cons, afterL_nil]
  after_reads_simp
  pointwise
  simp only [Ret.layer, Ret.ang, Ret.num, Ret.pos_eq]

theorem pre_49 (X : Valuation τ sig (Elt Ideal)) (r : Fin 8192) (d : Fin 128) :
    (afterL preOps X (Proc.devRef .tc main_v49) : Vec Ideal S1x8192x1x128 .f32) (ix4 0 r 0 d) = (layerOf X).cs r d := by
  simp only [afterL_cons, afterL_nil]
  after_reads_simp
  pointwise
  simp only [Ret.layer, Ret.ang, Ret.num, Ret.pos_eq]

theorem pre_50 (X : Valuation τ sig (Elt Ideal)) (r : Fin 8192) (d : Fin 128) :
    (afterL preOps X (Proc.devRef .tc main_v50) : Vec Ideal S1x8192x1x128 .f32) (ix4 0 r 0 d) = (layerOf X).sn r d := by
  simp only [afterL_cons, afterL_nil]
  after_reads_simp
  pointwise
  simp only [Ret.layer, Ret.ang, Ret.num, Ret.pos_eq]

/-! ## Between the loops -/

/-- What the operations between the loops start from. -/
structure Mid (I : Ret.In) (X : Valuation τ sig (Elt Ideal)) : Prop extends Inv0 I 64 X where
  q' : ∀ (n : Fin 64) (h : Fin 4) (i : Fin 128) (d : Fin 256), (X (Proc.devRef .tc main_v115) : Vec Ideal S64x1x4x128x256 .f32) (ix5 n 0 h i d) = I.Q n h i d
  k' : ∀ (n : Fin 64) (h : Fin 4) (i : Fin 128) (d : Fin 256), (X (Proc.devRef .tc main_v117) : Vec Ideal S64x1x4x128x256 .f32) (ix5 n 0 h i d) = I.K n h i d
  v' : ∀ (n : Fin 64) (h : Fin 4) (i : Fin 128) (e : Fin 512), (X (Proc.devRef .tc main_v119) : Vec Ideal S64x1x4x128x512 .f32) (ix5 n 0 h i e) = I.V n h i e
  cd' : ∀ h : Fin 4, (X (Proc.devRef .tc main_v122) : Vec Ideal S1x4x1x1 .f32) (ix4 0 h 0 0) = I.cd h
  kd' : ∀ (h : Fin 4) (i : Fin 128), (X (Proc.devRef .tc main_v123) : Vec Ideal S1x4x128x1 .f32) (ix4 0 h i 0) = I.kd h i
  dm' : ∀ (h : Fin 4) (i j : Fin 128), (X (Proc.devRef .tc main_v120) : Vec Ideal S1x4x128x128 .f32) (ix4 0 h i j) = I.D h i j
  qd' : ∀ (h : Fin 4) (i : Fin 128), (X (Proc.devRef .tc main_v121) : Vec Ideal S1x4x128x1 .f32) (ix4 0 h i 0) = I.qd h i
  g' : ∀ (r : Fin 8192) (c : Fin 2048), (X (Proc.devRef .tc main_arg2) : Vec Ideal S8192x2048 .bf16) (ix2 r c) = I.g r c

/-- What the second loop starts with: copies, and the gradient of the output by chunks. -/
theorem mid_g (X : Valuation τ sig (Elt Ideal)) (n : Fin 64) (h : Fin 4) (i : Fin 128) (e : Fin 512) :
    (afterL midOps X (Proc.devRef .tc main_v141_0) : Vec Ideal S64x1x4x128x512 .f32) (ix5 n 0 h i e)
      = (X (Proc.devRef .tc main_arg2) : Vec Ideal S8192x2048 .bf16) (ix2 ⟨n.val * 128 + i.val, by omega⟩ ⟨h.val * 512 + e.val, by omega⟩) := by
  simp only [afterL_cons, afterL_nil]
  after_reads_simp
  simp -implicitDefEqProofs only [id_eq]
  pointwise
theorem mid_t (X : Valuation τ sig (Elt Ideal)) (h : Fin 4) (d : Fin 256) (e : Fin 512) :
    (afterL midOps X (Proc.devRef .tc main_v141_12) : Vec Ideal S1x4x256x512 .f32) (ix4 0 h d e) = (0 : EReal) := by
  simp only [afterL_cons, afterL_nil]
  after_reads_simp
  simp -implicitDefEqProofs only [id_eq]
  pointwise
theorem mid_1 (X : Valuation τ sig (Elt Ideal)) : afterL midOps X (Proc.devRef .tc main_v141_1) = X (Proc.devRef .tc main_v117) := by
  simp only [afterL_cons, afterL_nil]
  after_reads_simp
  rfl
theorem mid_2 (X : Valuation τ sig (Elt Ideal)) : afterL midOps X (Proc.devRef .tc main_v141_2) = X (Proc.devRef .tc main_v115) := by
  simp only [afterL_cons, afterL_nil]
  after_reads_simp
  rfl
theorem mid_3 (X : Valuation τ sig (Elt Ideal)) : afterL midOps X (Proc.devRef .tc main_v141_3) = X (Proc.devRef .tc main_v119) := by
  simp only [afterL_cons, afterL_nil]
  after_reads_simp
  rfl
theorem mid_4 (X : Valuation τ sig (Elt Ideal)) : afterL midOps X (Proc.devRef .tc main_v141_4) = X (Proc.devRef .tc main_v128_10) := by
  simp only [afterL_cons, afterL_nil]
  after_reads_simp
  rfl
theorem mid_5 (X : Valuation τ sig (Elt Ideal)) : afterL midOps X (Proc.devRef .tc main_v141_5) = X (Proc.devRef .tc main_v128_11) := by
  simp only [afterL_cons, afterL_nil]
  after_reads_simp
  rfl
theorem mid_6 (X : Valuation τ sig (Elt Ideal)) : afterL midOps X (Proc.devRef .tc main_v141_6) = X (Proc.devRef .tc main_v128_12) := by
  simp only [afterL_cons, afterL_nil]
  after_reads_simp
  rfl
theorem mid_7 (X : Valuation τ sig (Elt Ideal)) : afterL midOps X (Proc.devRef .tc main_v141_7) = X (Proc.devRef .tc main_v120) := by
  simp only [afterL_cons, afterL_nil]
  after_reads_simp
  rfl
theorem mid_8 (X : Valuation τ sig (Elt Ideal)) : afterL midOps X (Proc.devRef .tc main_v141_8) = X (Proc.devRef .tc main_v121) := by
  simp only [afterL_cons, afterL_nil]
  after_reads_simp
  rfl
theorem mid_9 (X : Valuation τ sig (Elt Ideal)) : afterL midOps X (Proc.devRef .tc main_v141_9) = X (Proc.devRef .tc main_v122) := by
  simp only [afterL_cons, afterL_nil]
  after_reads_simp
  rfl
theorem mid_10 (X : Valuation τ sig (Elt Ideal)) : afterL midOps X (Proc.devRef .tc main_v141_10) = X (Proc.devRef .tc main_v123) := by
  simp only [afterL_cons, afterL_nil]
  after_reads_simp
  rfl

/-- Before the first trip of the second loop. -/
theorem Mid.inv {I : Ret.In} {X : Valuation τ sig (Elt Ideal)} (H : Mid I X) : Inv1 I 0 (afterL midOps X) where
  g n h i e := (mid_g X n h i e).trans ((H.g' _ _).trans (by
    show I.g (n.val * 128 + i.val) (h.val * 512 + e.val) = I.G n h i e
    rw [Ret.In.G, Nat.mul_comm n.val, Nat.mul_comm h.val]))
  key n h i d := (congrFun (mid_1 X) _).trans (H.k' n h i d)
  q n h i d := (congrFun (mid_2 X) _).trans (H.q' n h i d)
  v n h i d := (congrFun (mid_3 X) _).trans (H.v' n h i d)
  a n h i j := (congrFun (mid_4 X) _).trans (H.a n h i j n.isLt)
  s n h i j := (congrFun (mid_5 X) _).trans (H.s n h i j n.isLt)
  w n h i j := (congrFun (mid_6 X) _).trans (H.w n h i j n.isLt)
  dm h i j := (congrFun (mid_7 X) _).trans (H.dm' h i j)
  qd h i := (congrFun (mid_8 X) _).trans (H.qd' h i)
  cd h := (congrFun (mid_9 X) _).trans (H.cd' h)
  kd h i := (congrFun (mid_10 X) _).trans (H.kd' h i)
  t h d e := mid_t X h d e
  gq n h i e hn := absurd hn (by omega)
  gk n h i e hn := absurd hn (by omega)
  gv n h i e hn := absurd hn (by omega)

/-- The output, before its cast. -/
theorem Mid.out {I : Ret.In} {X : Valuation τ sig (Elt Ideal)} (H : Mid I X) (r : Fin 8192) (c : Fin 2048) :
    (afterL midOps X (Proc.devRef .tc main_v131) : Vec Ideal S8192x2048 .f32) (ix2 r c) = I.out r c := by
  simp only [afterL_cons, afterL_nil]
  after_reads_simp
  pointwise
  exact H.o ⟨r.val / 128, by omega⟩ ⟨c.val / 512, by omega⟩ ⟨r.val % 128, by omega⟩ ⟨c.val % 512, by omega⟩ (by show r.val / 128 < 64; omega)

variable (m : (ℓ : Loc nD τ sig) → Buf (Elt Ideal) ℓ)

/-- After the first loop. -/
theorem mid0 (c : Dev nD) : Mid (layerOf (launchContents m c)) (X0 m c) where
  toInv0 := Inv0.exit m (pre_inv (launchContents m c))
  q' n h i d := (congrFun ((X0_extras m c main_v115 (by simp)).trans (pre_copy115 _).symm) _).trans (pre_q _ n h i d)
  k' n h i d := (congrFun ((X0_extras m c main_v117 (by simp)).trans (pre_copy117 _).symm) _).trans (pre_k _ n h i d)
  v' n h i d := (congrFun ((X0_extras m c main_v119 (by simp)).trans (pre_copy119 _).symm) _).trans (pre_v _ n h i d)
  cd' h := (congrFun ((X0_extras m c main_v122 (by simp)).trans (pre_copy122 _).symm) _).trans (pre_cd _ h)
  kd' h i := (congrFun ((X0_extras m c main_v123 (by simp)).trans (pre_copy123 _).symm) _).trans (pre_kd _ h i)
  dm' h i j := (congrFun ((X0_extras m c main_v120 (by simp)).trans (pre_copy120 _).symm) _).trans (pre_dm _ h i j)
  qd' h i := (congrFun ((X0_extras m c main_v121 (by simp)).trans (pre_copy121 _).symm) _).trans (pre_qd _ h i)
  g' r d := (congrFun (X0_args m c main_arg2 (by simp)) _).trans (Ret.mat_eq _ r d r.isLt d.isLt)

/-- After the second loop: its rows, the output and the angles. -/
theorem after1 (c : Dev nD) : Inv1 (layerOf (launchContents m c)) 64 (X1 m c) := Inv1.exit m (mid0 m c).inv
theorem after1_out (c : Dev nD) (r : Fin 8192) (d : Fin 2048) :
    (X1 m c (Proc.devRef .tc main_v131) : Vec Ideal S8192x2048 .f32) (ix2 r d) = (layerOf (launchContents m c)).out r d :=
  (congrFun (X1_extras m c main_v131 (by simp)) _).trans ((mid0 m c).out r d)
theorem after1_22 (c : Dev nD) (r : Fin 8192) (d : Fin 128) :
    (X1 m c (Proc.devRef .tc main_v22) : Vec Ideal S1x8192x1x128 .f32) (ix4 0 r 0 d) = (layerOf (launchContents m c)).cs r d :=
  (congrFun ((X1_extras m c main_v22 (by simp)).trans ((extras_mid _ main_v22 (by simp)).trans (X0_extras m c main_v22 (by simp)))) _).trans
    (pre_22 _ r d)
theorem after1_23 (c : Dev nD) (r : Fin 8192) (d : Fin 128) :
    (X1 m c (Proc.devRef .tc main_v23) : Vec Ideal S1x8192x1x128 .f32) (ix4 0 r 0 d) = (layerOf (launchContents m c)).sn r d :=
  (congrFun ((X1_extras m c main_v23 (by simp)).trans ((extras_mid _ main_v23 (by simp)).trans (X0_extras m c main_v23 (by simp)))) _).trans
    (pre_23 _ r d)
theorem after1_49 (c : Dev nD) (r : Fin 8192) (d : Fin 128) :
    (X1 m c (Proc.devRef .tc main_v49) : Vec Ideal S1x8192x1x128 .f32) (ix4 0 r 0 d) = (layerOf (launchContents m c)).cs r d :=
  (congrFun ((X1_extras m c main_v49 (by simp)).trans ((extras_mid _ main_v49 (by simp)).trans (X0_extras m c main_v49 (by simp)))) _).trans
    (pre_49 _ r d)
theorem after1_50 (c : Dev nD) (r : Fin 8192) (d : Fin 128) :
    (X1 m c (Proc.devRef .tc main_v50) : Vec Ideal S1x8192x1x128 .f32) (ix4 0 r 0 d) = (layerOf (launchContents m c)).sn r d :=
  (congrFun ((X1_extras m c main_v50 (by simp)).trans ((extras_mid _ main_v50 (by simp)).trans (X0_extras m c main_v50 (by simp)))) _).trans
    (pre_50 _ r d)

end Cert.ReferenceIdeal.Gen

end
-- ==== Proof.RefPost.lean ====
/-
The reference program's two results, entry by entry.
-/
module

public import proofs.«01_k».proof.Proof.RefMid

@[expose] public section

set_option maxRecDepth 16384

noncomputable section

namespace Cert.ReferenceIdeal.Gen

open Cert.ReferenceIdeal Facts₀ Facts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.StableHlo

/-- What the last stretch starts from. -/
structure Post (I : Ret.In) (X : Valuation τ sig (Elt Ideal)) : Prop where
  gq : ∀ (n : Fin 64) (h : Fin 4) (i : Fin 128) (d : Fin 256), (X (Proc.devRef .tc main_v141_13) : Vec Ideal S64x1x4x128x256 .f32) (ix5 n 0 h i d) = I.gQ n h (I.S h n) i d
  gk : ∀ (n : Fin 64) (h : Fin 4) (i : Fin 128) (d : Fin 256), (X (Proc.devRef .tc main_v141_14) : Vec Ideal S64x1x4x128x256 .f32) (ix5 n 0 h i d) = (∑ j : Fin 128, I.dA n h j i * I.Q n h j d) + ∑ e : Fin 512, I.V n h i e * I.kd h i * I.T h (63 - n) d e
  gv : ∀ (n : Fin 64) (h : Fin 4) (i : Fin 128) (e : Fin 512), (X (Proc.devRef .tc main_v141_15) : Vec Ideal S64x1x4x128x512 .f32) (ix5 n 0 h i e) = I.gV n h (I.T h (63 - n)) i e
  c0 : ∀ (r : Fin 8192) (d : Fin 128), (X (Proc.devRef .tc main_v22) : Vec Ideal S1x8192x1x128 .f32) (ix4 0 r 0 d) = I.cs r d
  s0 : ∀ (r : Fin 8192) (d : Fin 128), (X (Proc.devRef .tc main_v23) : Vec Ideal S1x8192x1x128 .f32) (ix4 0 r 0 d) = I.sn r d
  c1 : ∀ (r : Fin 8192) (d : Fin 128), (X (Proc.devRef .tc main_v49) : Vec Ideal S1x8192x1x128 .f32) (ix4 0 r 0 d) = I.cs r d
  s1 : ∀ (r : Fin 8192) (d : Fin 128), (X (Proc.devRef .tc main_v50) : Vec Ideal S1x8192x1x128 .f32) (ix4 0 r 0 d) = I.sn r d

/-- The rotation undone by two padded halves. -/
theorem unrot_pads (x c s : ℕ → EReal) (d : ℕ) (hd : d < 256) {p q : Prop} [Decidable p] [Decidable q] (hp : p ↔ 128 ≤ d) (hq : q ↔ d < 128) :
    (if p then x (128 + (d - 128)) * c (d - 128) + -x (d - 128) * s (d - 128) else 0)
      + (if q then x (128 + d) * s d + x d * c d else 0) = Ret.unrot x c s d := by
  rw [Ret.unrot]
  by_cases h : d < 128
  · rw [if_neg (fun e => absurd (hp.1 e) (by omega)), if_pos (hq.2 h), if_pos h, zero_add, Nat.add_comm 128 d, add_comm]
  · rw [if_pos (hp.2 (by omega)), if_neg (fun e => h (hq.1 e)), if_neg h, add_zero, show 128 + (d - 128) = d by omega,
      EReal.neg_mul, sub_eq_add_neg]

theorem post_v187 (X : Valuation τ sig (Elt Ideal)) (r : Fin 8192) (c : Fin 2048) :
    (afterL postOps X (Proc.devRef .tc main_v187) : Vec Ideal S8192x2048 .bf16) (ix2 r c)
      = (X (Proc.devRef .tc main_v131) : Vec Ideal S8192x2048 .f32) (ix2 r c) := by
  simp only [afterL_cons, afterL_nil]
  after_reads_simp
  pointwise

set_option maxHeartbeats 2000000 in
theorem post_v189 (I : Ret.In) (X : Valuation τ sig (Elt Ideal)) (H : Post I X) (r : Fin 8192) (c : Fin 8192) :
    (afterL postOps X (Proc.devRef .tc main_v189) : Vec Ideal S8192x8192 .bf16) (ix2 r c)
      = if c.val < 4096 then I.grad r c else (X (Proc.devRef .tc main_arg3) : Vec Ideal S8192x8192 .bf16) (ix2 r c) := by
  simp only [afterL_cons, afterL_nil]
  after_reads_simp
  pointwise
  after_reads_simp
  pointwise
  simp only [H.gq, H.gk, H.gv, H.c0, H.s0, H.c1, H.s1]
  by_cases h4 : c.val < 4096
  · rw [dif_pos h4, if_pos h4, Ret.In.grad]
    by_cases h1 : c.val < 1024
    · rw [dif_pos h1, if_pos h1]
      exact unrot_pads (I.gQ (r.val / 128) (c.val / 256) (I.S (c.val / 256) (r.val / 128)) (r.val % 128)) (I.cs r) (I.sn r) (c.val % 256)
        (by omega) (by omega) (by omega)
    · rw [dif_neg h1, if_neg h1]
      by_cases h2 : c.val < 2048
      · rw [dif_pos (show c.val - 1024 < 1024 by omega), if_pos h2]
        exact unrot_pads (I.gK (r.val / 128) ((c.val - 1024) / 256) (I.T ((c.val - 1024) / 256) (63 - r.val / 128)) (r.val % 128))
          (I.cs r) (I.sn r) ((c.val - 1024) % 256) (by omega) (by omega) (by omega)
      · rw [dif_neg (show ¬ c.val - 1024 < 1024 by omega), if_neg h2, show c.val - 1024 - 1024 = c.val - 2048 by omega]
  · rw [dif_neg h4, if_neg h4]
    exact congrArg (fun x => (X (Proc.devRef .tc main_arg3) : Vec Ideal S8192x8192 .bf16) (ix2 r x)) (Fin.ext (by show 4096 + (c.val - 4096) = c.val; omega))

variable (m : (ℓ : Loc nD τ sig) → Buf (Elt Ideal) ℓ)

/-- After the second loop. -/
theorem post1 (c : Dev nD) : Post (layerOf (launchContents m c)) (X1 m c) where
  gq n h i d := (after1 m c).gq n h i d (by omega)
  gk n h i d := (after1 m c).gk n h i d (by omega)
  gv n h i d := (after1 m c).gv n h i d (by omega)
  c0 := after1_22 m c
  s0 := after1_23 m c
  c1 := after1_49 m c
  s1 := after1_50 m c

/-- The reference's first result. -/
theorem fin_v187 (c : Dev nD) (r : Fin 8192) (d : Fin 2048) :
    (Fin0 m c (Proc.devRef .tc main_v187) : Vec Ideal S8192x2048 .bf16) (ix2 r d) = (layerOf (launchContents m c)).out r d :=
  (post_v187 _ r d).trans (after1_out m c r d)
/-- The reference's second result. -/
theorem fin_v189 (c : Dev nD) (r d : Fin 8192) :
    (Fin0 m c (Proc.devRef .tc main_v189) : Vec Ideal S8192x8192 .bf16) (ix2 r d)
      = if d.val < 4096 then (layerOf (launchContents m c)).grad r d
        else (launchContents m c (Proc.devRef .tc main_arg3) : Vec Ideal S8192x8192 .bf16) (ix2 r d) := by
  refine (post_v189 _ _ (post1 m c) r d).trans (if_congr Iff.rfl rfl ?_)
  exact congrFun ((args_w1c _ main_arg3 (by simp)).trans (T1_args m c 64 main_arg3 (by simp))) _

end Cert.ReferenceIdeal.Gen

end
-- ==== Proof.ProjSpec.lean ====
/-
The projection's product and its two gradients, as sums over the extended reals.
-/
module

public import Idealize.ShloMosaic.Lib.Pipeline.ValueKit
public import Idealize.ShloMosaic.Lib.Pointwise

@[expose] public section

set_option maxRecDepth 16384

noncomputable section

namespace Cert.ProjSpec

open Idealize.ShloMosaic Idealize.ShloMosaic.TcCoe Idealize.ShloMosaic.Tactic
open Idealize.SL.Sem

/-- The projection's weight gradient at an entry of its array, whose first nine slabs are passed through: the sum over the rows of the
    cotangent's column times the input's column. -/
def dwOf (x : Vec Ideal ⟨2, ![8192, 1024]⟩ .f32) (d : Vec Ideal ⟨2, ![8192, 8192]⟩ .bf16) (g : Vec Ideal ⟨4, ![17, 8, 128, 1024]⟩ .f32) :
    Vec Ideal ⟨4, ![17, 8, 128, 1024]⟩ .f32 := fun i =>
  if h : 9 ≤ (i 0).val then
    ∑ r : Fin 8192, d (ValueIdx.ix2 (n0 := 8192) (n1 := 8192) r
        ⟨((i 0).val - 9) * 1024 + (i 1).val * 128 + (i 2).val, by have h0 : (i 0).val < 17 := (i 0).isLt; have h1 : (i 1).val < 8 := (i 1).isLt; have h2 : (i 2).val < 128 := (i 2).isLt; omega⟩)
      * x (ValueIdx.ix2 (n0 := 8192) (n1 := 1024) r (i 3))
  else g i

/-- The projection's input gradient with the residual's: the cotangent's row against the weight's row, and the residual's scaled
    cotangent. -/
def dxOf (a : EReal) (w : Vec Ideal ⟨2, ![1024, 17408]⟩ .f32) (d : Vec Ideal ⟨2, ![8192, 8192]⟩ .bf16) (h : Vec Ideal ⟨2, ![8192, 1024]⟩ .f32) :
    Vec Ideal ⟨2, ![8192, 1024]⟩ .f32 := fun i =>
  (∑ k : Fin 8192, d (ValueIdx.ix2 (n0 := 8192) (n1 := 8192) (i 0) k) * w (ValueIdx.ix2 (n0 := 1024) (n1 := 17408) (i 1) ⟨9216 + k.val, by omega⟩))
    + a * h i

/-- The projection: the input's row against the weight's column, of the columns from 9216 on. -/
def fwdOf (x : Vec Ideal ⟨2, ![8192, 1024]⟩ .f32) (w : Vec Ideal ⟨2, ![1024, 17408]⟩ .f32) : Vec Ideal ⟨2, ![8192, 8192]⟩ .bf16 := fun i =>
  ∑ k : Fin 1024, x (ValueIdx.ix2 (n0 := 8192) (n1 := 1024) (i 0) k) * w (ValueIdx.ix2 (n0 := 1024) (n1 := 17408) k ⟨9216 + (i 1).val, by have h : (i 1).val < 8192 := (i 1).isLt; omega⟩)

end Cert.ProjSpec

end
-- ==== Proof.FfnSpec.lean ====
/-
The gradients of the feed-forward part's products, as sums over the extended reals.
-/
module

public import Idealize.ShloMosaic.Lib.Pipeline.ValueKit
public import Idealize.ShloMosaic.Lib.Pointwise

@[expose] public section

set_option maxRecDepth 16384

noncomputable section

namespace Cert.FfnSpec

open Idealize.ShloMosaic Idealize.ShloMosaic.TcCoe Idealize.ShloMosaic.Tactic
open Idealize.SL.Sem

/-- The down product's input gradient: the cotangent's row against the weight's row. -/
def downDx (w : Vec Ideal ⟨2, ![2816, 1024]⟩ .f32) (d : Vec Ideal ⟨2, ![8192, 1024]⟩ .bf16) : Vec Ideal ⟨2, ![8192, 2816]⟩ .bf16 := fun i =>
  ∑ k : Fin 1024, d (ValueIdx.ix2 (n0 := 8192) (n1 := 1024) (i 0) k) * w (ValueIdx.ix2 (n0 := 2816) (n1 := 1024) (i 1) k)

/-- The down product's weight gradient: the input's column times the cotangent's column. -/
def downDw (a : Vec Ideal ⟨2, ![8192, 2816]⟩ .bf16) (d : Vec Ideal ⟨2, ![8192, 1024]⟩ .bf16) : Vec Ideal ⟨2, ![2816, 1024]⟩ .f32 := fun i =>
  ∑ r : Fin 8192, a (ValueIdx.ix2 (n0 := 8192) (n1 := 2816) r (i 0)) * d (ValueIdx.ix2 (n0 := 8192) (n1 := 1024) r (i 1))

/-- The up product's weight gradient, transposed, in the rows of the linear half; the gate's rows are passed through. -/
def upDw (x : Vec Ideal ⟨2, ![8192, 1024]⟩ .f32) (d : Vec Ideal ⟨2, ![8192, 2816]⟩ .bf16) (g : Vec Ideal ⟨2, ![5632, 1024]⟩ .f32) :
    Vec Ideal ⟨2, ![5632, 1024]⟩ .f32 := fun i =>
  if h : 2816 ≤ (i 0).val then
    ∑ r : Fin 8192, d (ValueIdx.ix2 (n0 := 8192) (n1 := 2816) r ⟨(i 0).val - 2816, by have h0 : (i 0).val < 5632 := (i 0).isLt; omega⟩)
      * x (ValueIdx.ix2 (n0 := 8192) (n1 := 1024) r (i 1))
  else g i

/-- The input gradient of one half of the up product and the residual's: the cotangent's row against the weight's row from the half's
    first column on, and the residual's scaled cotangent. -/
def upDx (a : EReal) (off : Fin 2817) (w : Vec Ideal ⟨2, ![1024, 5632]⟩ .f32) (d : Vec Ideal ⟨2, ![8192, 2816]⟩ .bf16)
    (h : Vec Ideal ⟨2, ![8192, 1024]⟩ .f32) : Vec Ideal ⟨2, ![8192, 1024]⟩ .f32 := fun i =>
  (∑ k : Fin 2816, d (ValueIdx.ix2 (n0 := 8192) (n1 := 2816) (i 0) k) * w (ValueIdx.ix2 (n0 := 1024) (n1 := 5632) (i 1) ⟨off.val + k.val, by omega⟩))
    + a * h i

end Cert.FfnSpec

end
-- ==== Proof.DenseSpec.lean ====
/-
The plain products with a weight and their gradients, as sums over the extended reals.
-/
module

public import Idealize.ShloMosaic.Lib.Pipeline.ValueKit
public import Idealize.ShloMosaic.Lib.Pointwise

@[expose] public section

set_option maxRecDepth 16384

noncomputable section

namespace Cert.DenseSpec

open Idealize.ShloMosaic Idealize.ShloMosaic.TcCoe Idealize.ShloMosaic.Tactic
open Idealize.SL.Sem

/-- An array's values. -/
abbrev Arr (s : Shape) : Type := s.Idx → EReal

/-- A product of two matrices. -/
def mm (M K N : ℕ) (x : Arr ⟨2, ![M, K]⟩) (w : Arr ⟨2, ![K, N]⟩) : Arr ⟨2, ![M, N]⟩ := fun i =>
  ∑ k : Fin K, x (ValueIdx.ix2 (n0 := M) (n1 := K) (i 0) k) * w (ValueIdx.ix2 (n0 := K) (n1 := N) k (i 1))

/-- The input gradient of a product: the cotangent's row against the weight's row. -/
def mmDx (M K N : ℕ) (w : Arr ⟨2, ![N, K]⟩) (d : Arr ⟨2, ![M, K]⟩) : Arr ⟨2, ![M, N]⟩ := fun i =>
  ∑ k : Fin K, d (ValueIdx.ix2 (n0 := M) (n1 := K) (i 0) k) * w (ValueIdx.ix2 (n0 := N) (n1 := K) (i 1) k)

/-- The same, added to the gradient that comes by another way. -/
def mmDxAdd (M K N : ℕ) (w : Arr ⟨2, ![N, K]⟩) (d : Arr ⟨2, ![M, K]⟩) (h : Arr ⟨2, ![M, N]⟩) :
    Arr ⟨2, ![M, N]⟩ := fun i =>
  (∑ k : Fin K, d (ValueIdx.ix2 (n0 := M) (n1 := K) (i 0) k) * w (ValueIdx.ix2 (n0 := N) (n1 := K) (i 1) k)) + 1 * h i

/-- The weight gradient of a product: the input's column times the cotangent's column. -/
def mmDw (M K N : ℕ) (x : Arr ⟨2, ![K, M]⟩) (d : Arr ⟨2, ![K, N]⟩) : Arr ⟨2, ![M, N]⟩ := fun i =>
  ∑ k : Fin K, x (ValueIdx.ix2 (n0 := K) (n1 := M) k (i 0)) * d (ValueIdx.ix2 (n0 := K) (n1 := N) k (i 1))

/-- One half of the up product: the input's row against the weight's column, from the half's first column on. -/
def upHalf (off : Fin 2817) (x : Vec Ideal ⟨2, ![8192, 1024]⟩ .f32) (w : Vec Ideal ⟨2, ![1024, 5632]⟩ .f32) : Vec Ideal ⟨2, ![8192, 2816]⟩ .bf16 := fun i =>
  ∑ k : Fin 1024, x (ValueIdx.ix2 (n0 := 8192) (n1 := 1024) (i 0) k)
    * w (ValueIdx.ix2 (n0 := 1024) (n1 := 5632) k ⟨off.val + (i 1).val, by have h : (i 1).val < 2816 := (i 1).isLt; omega⟩)

/-- The weight gradient with the factors the other way round. -/
theorem mmDw_comm (M K N : ℕ) (x : Arr ⟨2, ![K, M]⟩) (d : Arr ⟨2, ![K, N]⟩) (i : (⟨2, ![M, N]⟩ : Shape).Idx) :
    (∑ k : Fin K, d (ValueIdx.ix2 (n0 := K) (n1 := N) k (i 1)) * x (ValueIdx.ix2 (n0 := K) (n1 := M) k (i 0))) = mmDw M K N x d i :=
  Finset.sum_congr rfl fun k _ => mul_comm _ _

end Cert.DenseSpec

end
-- ==== Proof.DenseKit.lean ====
/-
What the modules of the products have in common: what they import, and a name for the arrays of a reference.
-/
module

public import proofs.«01_k».proof.Proof.ProjSpec
public import proofs.«01_k».proof.Proof.FfnSpec
public import proofs.«01_k».proof.Proof.DenseSpec
public import Idealize.ShloMosaic.Lib.Pipeline.ValueKit
public import Idealize.ShloMosaic.Lib.Pointwise
public import Idealize.ShloMosaic.Lib.FinSumWindow
public import Idealize.ShloMosaic.Lib.StableHlo.Run
public import Idealize.ShloMosaic.Lib.StableHlo.ReadAt

@[expose] public section

namespace Cert

open Idealize.ShloMosaic

/-- The arrays of a shape and an element type. -/
abbrev HArr (F : FTy → Type) (s : Shape) (a : EltTy) := (⟨s, a⟩ : BufTy).Contents (Elt F)

end Cert

end
-- ==== Proof.ProjV.lean ====
/-
The projection: what its launch leaves in the array, read entry by entry.
-/
module

public import proofs.«01_k».proof.Proof.Gen.ProjIdeal.Value
public import proofs.«01_k».proof.Proof.DenseKit

@[expose] public section

set_option maxRecDepth 16384

noncomputable section

namespace Cert.ProjIdeal.Gen

open Idealize.ShloMosaic Idealize.ShloMosaic.TcCoe Idealize.ShloMosaic.Tactic
open Idealize.SL.Sem

theorem idx0_0 : ∀ t : Fin cfg0.N, win0_0.index t = ![t.val / 8, 0] := (by decide +kernel : ∀ t : Fin grid0.N, _)
theorem idx0_1 : ∀ t : Fin cfg0.N, win0_1.index t = ![t.val % 8 + 9, 0] := (by decide +kernel : ∀ t : Fin grid0.N, _)
theorem idx0_2 : ∀ t : Fin cfg0.N, win0_2.index t = ![t.val / 8, t.val % 8] := (by decide +kernel : ∀ t : Fin grid0.N, _)

/-- The product of two arrays: the first's row against the second's row. -/
def rowSum (x : Vec Ideal S8192x1024 .bf16) (w : Vec Ideal S17408x1024 .bf16) (i : Fin 8192) (j : Fin 17408) : EReal :=
  ∑ k : Fin 1024, x (ValueIdx.ix2 (n0 := 8192) (n1 := 1024) i k) * w (ValueIdx.ix2 (n0 := 17408) (n1 := 1024) j k)

/-- The product of two blocks: the first's rows against the second's rows. -/
def blkSum (x0 x1 : Vec Ideal S1024x1024 .bf16) (y : S1024x1024.Idx) : EReal :=
  ∑ k : Fin 1024, x0 (ValueIdx.ix2 (n0 := 1024) (n1 := 1024) (y 0) k) * x1 (ValueIdx.ix2 (n0 := 1024) (n1 := 1024) (y 1) k)

/-- What a point writes is the product of the two staged blocks. -/
theorem pay_apply (x0 x1 : Vec Ideal S1024x1024 .bf16) (y : S1024x1024.Idx) :
    k0_pay3 (k0_pay2 k0_pay1 x0 x1) y = blkSum x0 x1 y := by
  pointwise [k0_pay3, k0_pay2, k0_pay1]
  rfl

section
variable (m : (ℓ : Loc nD τ sig) → Buf (Elt Ideal) ℓ) (c : Dev nD)

/-- What a point leaves in its output block. -/
theorem outs (t : Fin cfg0.N) : outsAt0 m c t = k0_pay3 (k0_pay2 k0_pay1 (iblk m c 0 t) (iblk m c 1 t)) := by
  unfold outsAt0
  frame_out

/-- A block of the input at its rows and columns. -/
theorem blk0 (t : Fin cfg0.N) (i k : Fin 1024) :
    iblk m c 0 t (ValueIdx.ix2 (n0 := 1024) (n1 := 1024) i k)
      = V m c main_v0 (ValueIdx.ix2 (n0 := 8192) (n1 := 1024) ⟨t.val / 8 * 1024 + i.val, by have := t.isLt; have h : cfg0.N = 64 := rfl; omega⟩ k) := by
  blk_ext [iblk, V, idx0_0]

/-- A block of the weight at its rows and columns. -/
theorem blk1 (t : Fin cfg0.N) (j k : Fin 1024) :
    iblk m c 1 t (ValueIdx.ix2 (n0 := 1024) (n1 := 1024) j k)
      = V m c main_v2 (ValueIdx.ix2 (n0 := 17408) (n1 := 1024) ⟨(t.val % 8 + 9) * 1024 + j.val, by omega⟩ k) := by
  blk_ext [iblk, V, idx0_1]

/-- The launch finds the input as given. -/
theorem V_v0 : V m c main_v0 = (m ((c.tc : Thread nD τ).loc main_arg0) : Vec Ideal S8192x1024 .f32) := by
  funext i
  simp only [V]
  after_reads_simp
  pointwise []

/-- The launch finds the weight transposed. -/
theorem V_v2 : (V m c main_v2 : Vec Ideal S17408x1024 .bf16)
    = fun i => (m ((c.tc : Thread nD τ).loc main_arg1) : Vec Ideal S1024x17408 .f32) (ValueIdx.ix2 (n0 := 1024) (n1 := 17408) (i 1) (i 0)) := by
  funext i
  simp only [V]
  after_reads_simp
  pointwise []
  rfl

/-- What a point writes, over the arrays. -/
theorem out_apply (t : Fin cfg0.N) (i j : Fin 1024) :
    outsAt0 m c t (ValueIdx.ix2 (n0 := 1024) (n1 := 1024) i j)
      = rowSum (V m c main_v0) (V m c main_v2) ⟨t.val / 8 * 1024 + i.val, by have := t.isLt; have h : cfg0.N = 64 := rfl; omega⟩ ⟨(t.val % 8 + 9) * 1024 + j.val, by omega⟩ := by
  rw [outs]
  refine (pay_apply _ _ _).trans (Finset.sum_congr rfl fun k _ => ?_)
  exact congrArg₂ (· * ·) (blk0 m c t i k) (blk1 m c t j k)

/-- After the launch the result's array holds the projection's rest columns. -/
theorem array : (dats m 0 c).arrAt 2 cfg0.N
    = (ProjSpec.fwdOf (m ((c.tc : Thread nD τ).loc main_arg0)) (m ((c.tc : Thread nD τ).loc main_arg1)) : Vec Ideal S8192x8192 .bf16) := by
  refine (dats m 0 c).arrAt_eq_of_covers 2 _ (by decide +kernel) (fun t hf y => ?_)
  obtain ⟨a, b, rfl⟩ : ∃ a b, y = ValueIdx.ix2 (n0 := 1024) (n1 := 1024) a b := ⟨_, _, ValueIdx.eq_ix2 y⟩
  have hN : cfg0.N = 64 := rfl
  have ht : t.val < 64 := t.isLt
  have he : ((cfg0.win 2).blk t).view.emb (ValueIdx.ix2 (n0 := 1024) (n1 := 1024) a b)
      = ValueIdx.ix2 (n0 := 8192) (n1 := 8192) ⟨t.val / 8 * 1024 + a.val, by omega⟩ ⟨t.val % 8 * 1024 + b.val, by omega⟩ := by
    blk_ext [idx0_2]
  rw [he]
  blk_simp [idx0_2]
  rw [after0_2]
  refine (out_apply m c t a b).trans ?_
  rw [V_v0, V_v2, ProjSpec.fwdOf]
  refine Finset.sum_congr rfl fun k _ => congrArg₂ (fun a b : EReal => a * b) rfl (congrArg _ (congrArg (ValueIdx.ix2 (n0 := 1024) (n1 := 17408) k) (Fin.ext ?_)))
  show (t.val % 8 + 9) * 1024 + b.val = 9216 + (t.val % 8 * 1024 + b.val)
  omega
end

end Cert.ProjIdeal.Gen

end
-- ==== Proof.ProjDwV.lean ====
/-
The weight gradient of the projection: what its launch leaves in the gradient's array, read entry by entry.
-/
module

public import proofs.«01_k».proof.Proof.Gen.ProjDwIdeal.Value
public import proofs.«01_k».proof.Proof.DenseKit

@[expose] public section

set_option maxRecDepth 16384

noncomputable section

namespace Cert.ProjDwIdeal.Gen

open Idealize.ShloMosaic Idealize.ShloMosaic.TcCoe Idealize.ShloMosaic.Tactic
open Idealize.SL.Sem

theorem idx0_0 : ∀ t : Fin cfg0.N, win0_0.index t = ![t.val % 8, t.val / 8] := (by decide +kernel : ∀ t : Fin grid0.N, _)
theorem idx0_1 : ∀ t : Fin cfg0.N, win0_1.index t = ![t.val % 8, 0] := (by decide +kernel : ∀ t : Fin grid0.N, _)
theorem idx0_2 : ∀ t : Fin cfg0.N, win0_2.index t = ![t.val / 8 + 9, 0, 0, 0] := (by decide +kernel : ∀ t : Fin grid0.N, _)

/-- The accumulator starts at zero. -/
theorem pay1_apply (i : S1024x1024.Idx) : k0_pay1 (F := Ideal) i = 0 := by
  pointwise [k0_pay1]

/-- One step adds the product of the two staged blocks, summed over their rows. -/
theorem pay2_apply (acc : Vec Ideal S1024x1024 .f32) (x0 x1 : Vec Ideal S1024x1024 .bf16) (i j : Fin 1024) :
    k0_pay2 acc x0 x1 (ValueIdx.ix2 (n0 := 1024) (n1 := 1024) i j)
      = acc (ValueIdx.ix2 (n0 := 1024) (n1 := 1024) i j) + ∑ k : Fin 1024, x0 (ValueIdx.ix2 (n0 := 1024) (n1 := 1024) k i) * x1 (ValueIdx.ix2 (n0 := 1024) (n1 := 1024) k j) := by
  pointwise [k0_pay2]
  rfl

/-- The last step lays the accumulator out as the array's block. -/
theorem pay3_apply (x : Vec Ideal S1024x1024 .f32) (a : Fin 8) (b : Fin 128) (j : Fin 1024) :
    k0_pay3 x (ValueIdx.ix4 (n0 := 1) (n1 := 8) (n2 := 128) (n3 := 1024) 0 a b j)
      = x (ValueIdx.ix2 (n0 := 1024) (n1 := 1024) ⟨a.val * 128 + b.val, by omega⟩ j) := by
  pointwise [k0_pay3]
  rfl

/-- The product of two blocks, summed over their rows. -/
def blkSum (x0 x1 : Vec Ideal S1024x1024 .bf16) (y : S1024x1024.Idx) : EReal :=
  ∑ k : Fin 1024, x0 (ValueIdx.ix2 (n0 := 1024) (n1 := 1024) k (y 0)) * x1 (ValueIdx.ix2 (n0 := 1024) (n1 := 1024) k (y 1))

/-- The product of two arrays, summed over their rows. -/
def rowSum (d : Vec Ideal S8192x8192 .bf16) (x : Vec Ideal S8192x1024 .bf16) (i : Fin 8192) (j : Fin 1024) : EReal :=
  ∑ r : Fin 8192, d (ValueIdx.ix2 (n0 := 8192) (n1 := 8192) r i) * x (ValueIdx.ix2 (n0 := 8192) (n1 := 1024) r j)

section
variable (m : (ℓ : Loc nD τ sig) → Buf (Elt Ideal) ℓ) (c : Dev nD)

/-- At a first step the accumulator is one product. -/
theorem acc_first (t : Fin cfg0.N) (h0 : t.val % 8 = 0) :
    (outsAt0 m c t.val t.isLt).2 = k0_pay2 k0_pay1 (iblk m c 0 t) (iblk m c 1 t) := by
  rw [outsAt0_A m c t h0 (by omega)]
  frame_out

/-- At a later step it is the step before's and one product more. -/
theorem acc_step (t : Fin cfg0.N) (h0 : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]
    frame_out
    exact congrArg (fun v => k0_pay2 v _ _) (Memref.IsWhole.read_unread _ _)
  · rw [outsAt0_B m c t h0 h1]
    frame_out
    exact congrArg (fun v => k0_pay2 v _ _) (Memref.IsWhole.read_unread _ _)

/-- At a last step the block written is the accumulator, laid out. -/
theorem out_last (t : Fin cfg0.N) (h1 : t.val % 8 = 7) :
    (outsAt0 m c t.val t.isLt).1 = k0_pay3 (outsAt0 m c t.val t.isLt).2 := by
  rw [outsAt0_C m c t (by omega) h1]
  frame_out

/-- A block of the cotangent at its rows and columns. -/
theorem blk0 (t : Fin cfg0.N) (k i : Fin 1024) :
    iblk m c 0 t (ValueIdx.ix2 (n0 := 1024) (n1 := 1024) k i)
      = V m c main_arg1 (ValueIdx.ix2 (n0 := 8192) (n1 := 8192) ⟨t.val % 8 * 1024 + k.val, by omega⟩ ⟨t.val / 8 * 1024 + i.val, by have := t.isLt; have h : cfg0.N = 64 := rfl; omega⟩) := by
  blk_ext [iblk, V, idx0_0]

/-- A block of the input at its rows and columns. -/
theorem blk1 (t : Fin cfg0.N) (k j : Fin 1024) :
    iblk m c 1 t (ValueIdx.ix2 (n0 := 1024) (n1 := 1024) k j)
      = V m c main_v0 (ValueIdx.ix2 (n0 := 8192) (n1 := 1024) ⟨t.val % 8 * 1024 + k.val, by omega⟩ j) := by
  blk_ext [iblk, V, idx0_1]

/-- One step's addend. -/
def term (t : Fin cfg0.N) (y : S1024x1024.Idx) : EReal := blkSum (iblk m c 0 t) (iblk m c 1 t) y

theorem acc_first_apply (t : Fin cfg0.N) (h0 : t.val % 8 = 0) (y : S1024x1024.Idx) :
    (outsAt0 m c t.val t.isLt).2 y = 0 + term m c t y := by
  obtain ⟨i, j, rfl⟩ : ∃ i j, y = ValueIdx.ix2 (n0 := 1024) (n1 := 1024) i j := ⟨_, _, ValueIdx.eq_ix2 y⟩
  rw [acc_first m c t h0, pay2_apply, pay1_apply]
  rfl

theorem acc_step_apply (t : Fin cfg0.N) (h0 : ¬t.val % 8 = 0) (y : S1024x1024.Idx) :
    (outsAt0 m c t.val t.isLt).2 y = (outsAt0 m c (t.val - 1) (Nat.lt_of_le_of_lt (Nat.sub_le _ _) t.isLt)).2 y + term m c t y := by
  obtain ⟨i, j, rfl⟩ : ∃ i j, y = ValueIdx.ix2 (n0 := 1024) (n1 := 1024) i j := ⟨_, _, ValueIdx.eq_ix2 y⟩
  rw [acc_step m c t h0, pay2_apply]
  rfl

/-- At a last step the accumulator is the sum over all rows. -/
theorem acc_last (t : Fin cfg0.N) (h1 : t.val % 8 = 7) (i j : Fin 1024) :
    (outsAt0 m c t.val t.isLt).2 (ValueIdx.ix2 (n0 := 1024) (n1 := 1024) i j)
      = rowSum (V m c main_arg1) (V m c main_v0) ⟨t.val / 8 * 1024 + i.val, by have := t.isLt; have h : cfg0.N = 64 := rfl; omega⟩ j := by
  have e := Pipeline.eq_sum_fin_of_reset_step_apply_of_flush (fun n h => (outsAt0 m c n h).2) 8 (fun _ => (0 : EReal)) (term m c)
    (acc_first_apply m c) (acc_step_apply m c) t h1 (ValueIdx.ix2 (n0 := 1024) (n1 := 1024) i j)
  refine e.trans ((zero_add _).trans (Fin.sum_mul_add_congr (fun s k hl => ?_)))
  have hN : cfg0.N = 64 := rfl
  have ht := t.isLt
  have hs : (8 * (t.val / 8) + s.val) % 8 = s.val := by omega
  have hd : (8 * (t.val / 8) + s.val) / 8 = t.val / 8 := by omega
  refine congrArg₂ (· * ·) ((blk0 m c _ k i).trans (congrArg _ ?_)) ((blk1 m c _ k j).trans (congrArg _ ?_))
  · exact congrArg₂ (ValueIdx.ix2 (n0 := 8192) (n1 := 8192)) (Fin.ext (by dsimp only; omega)) (Fin.ext (by dsimp only; omega))
  · exact congrArg (fun r => ValueIdx.ix2 (n0 := 8192) (n1 := 1024) r j) (Fin.ext (by dsimp only; omega))

theorem V_v0 : V m c main_v0 = (m ((c.tc : Thread nD τ).loc main_arg0) : Vec Ideal S8192x1024 .f32) := by
  funext i
  simp only [V]
  after_reads_simp
  pointwise []

theorem V_v1 : V m c main_v1 = (m ((c.tc : Thread nD τ).loc main_arg2) : Vec Ideal S17x8x128x1024 .f32) := by
  funext i
  simp only [V]
  after_reads_simp
  rfl

/-- After the launch the gradient's array holds the gradient, its first slabs as they were. -/
theorem array : (dats m 0 c).arrAt 2 cfg0.N
    = (ProjSpec.dwOf (m ((c.tc : Thread nD τ).loc main_arg0)) (m ((c.tc : Thread nD τ).loc main_arg1)) (m ((c.tc : Thread nD τ).loc main_arg2)) : Vec Ideal S17x8x128x1024 .f32) := by
  refine (dats m 0 c).arrAt_eq_of_coversWhere_of_agree 2 _ (fun β => 9 ≤ β 0) (by decide +kernel) (fun t hf y => ?_) (fun j hj => ?_)
  · obtain ⟨a, b, d, e, rfl⟩ : ∃ a b d e, y = ValueIdx.ix4 (n0 := 1) (n1 := 8) (n2 := 128) (n3 := 1024) a b d e := ⟨_, _, _, _, ValueIdx.eq_ix4 y⟩
    have h1 := (flush0_2 t).mp hf
    have hN : cfg0.N = 64 := rfl
    have ht := t.isLt
    have he : ((cfg0.win 2).blk t).view.emb (ValueIdx.ix4 (n0 := 1) (n1 := 8) (n2 := 128) (n3 := 1024) a b d e)
        = ValueIdx.ix4 (n0 := 17) (n1 := 8) (n2 := 128) (n3 := 1024) ⟨t.val / 8 + 9, by omega⟩ b d e := by
      blk_ext [idx0_2]
    rw [he]
    blk_simp [idx0_2]
    rw [after0_2, out_last m c t h1]
    obtain rfl : a = 0 := Subsingleton.elim _ _
    refine (pay3_apply _ b d e).trans ((acc_last m c t h1 _ e).trans ?_)
    unfold ProjSpec.dwOf
    rw [dif_pos (show 9 ≤ t.val / 8 + 9 by omega), V_v0, V_main_arg1]
    refine Finset.sum_congr rfl fun r _ => congrArg (· * _) (congrArg _ (congrArg (ValueIdx.ix2 (n0 := 8192) (n1 := 8192) r) (Fin.ext ?_)))
    show t.val / 8 * 1024 + (b.val * 128 + d.val) = (t.val / 8 + 9 - 9) * 1024 + b.val * 128 + d.val
    omega
  · simp only [A_eq]
    show V m c main_v1 (j : S17x8x128x1024.Idx) = ProjSpec.dwOf _ _ _ (j : S17x8x128x1024.Idx)
    have hj' : ¬9 ≤ ((j : S17x8x128x1024.Idx) 0).val := fun h => hj (by show 9 ≤ ((j : S17x8x128x1024.Idx) 0).val / 1; omega)
    unfold ProjSpec.dwOf
    rw [dif_neg hj', V_v1]
end

end Cert.ProjDwIdeal.Gen

end
-- ==== Proof.ProjDxV.lean ====
/-
The input gradient of the projection: what its launch leaves in the array, read entry by entry.
-/
module

public import proofs.«01_k».proof.Proof.Gen.ProjDxIdeal.Value
public import proofs.«01_k».proof.Proof.DenseKit

@[expose] public section

set_option maxRecDepth 16384

noncomputable section

namespace Cert.ProjDxIdeal.Gen

open Idealize.ShloMosaic Idealize.ShloMosaic.TcCoe Idealize.ShloMosaic.Tactic
open Idealize.SL.Sem

theorem idx0_0 : ∀ t : Fin cfg0.N, win0_0.index t = ![t.val / 8, t.val % 8] := (by decide +kernel : ∀ t : Fin grid0.N, _)
theorem idx0_1 : ∀ t : Fin cfg0.N, win0_1.index t = ![t.val % 8 + 9, 0] := (by decide +kernel : ∀ t : Fin grid0.N, _)
theorem idx0_2 : ∀ t : Fin cfg0.N, win0_2.index t = ![t.val / 8, 0] := (by decide +kernel : ∀ t : Fin grid0.N, _)
theorem idx0_3 : ∀ t : Fin cfg0.N, win0_3.index t = ![t.val / 8, 0] := (by decide +kernel : ∀ t : Fin grid0.N, _)

/-- The accumulator starts at zero. -/
theorem pay1_apply (i : S1024x1024.Idx) : k0_pay1 (F := Ideal) i = 0 := by
  pointwise [k0_pay1]

/-- The product of two blocks: the first's rows against the second's columns. -/
def blkSum (x0 x1 : Vec Ideal S1024x1024 .bf16) (y : S1024x1024.Idx) : EReal :=
  ∑ k : Fin 1024, x0 (ValueIdx.ix2 (n0 := 1024) (n1 := 1024) (y 0) k) * x1 (ValueIdx.ix2 (n0 := 1024) (n1 := 1024) k (y 1))

/-- One step adds the product of the two staged blocks. -/
theorem pay2_apply (acc : Vec Ideal S1024x1024 .f32) (x0 x1 : Vec Ideal S1024x1024 .bf16) (y : S1024x1024.Idx) :
    k0_pay2 acc x0 x1 y = acc y + blkSum x0 x1 y := by
  pointwise [k0_pay2]
  rfl

/-- The scale of the residual, as both programs write it. -/
abbrev scale : EReal := Ideal.ofBits .f32 0x3FB504F3#32

/-- The last step adds the scaled residual's cotangent. -/
theorem pay3_apply (x h : Vec Ideal S1024x1024 .f32) (y : S1024x1024.Idx) : k0_pay3 x h y = x y + scale * h y := by
  pointwise [k0_pay3]

/-- The product of two arrays: the first's row against the second's column, of the second's rows from 9216 on. -/
def rowSum (d : Vec Ideal S8192x8192 .bf16) (w : Vec Ideal S17408x1024 .bf16) (i : Fin 8192) (j : Fin 1024) : EReal :=
  ∑ k : Fin 8192, d (ValueIdx.ix2 (n0 := 8192) (n1 := 8192) i k) * w (ValueIdx.ix2 (n0 := 17408) (n1 := 1024) ⟨9216 + k.val, by omega⟩ j)

section
variable (m : (ℓ : Loc nD τ sig) → Buf (Elt Ideal) ℓ) (c : Dev nD)

/-- At a first step the accumulator is one product. -/
theorem acc_first (t : Fin cfg0.N) (h0 : t.val % 8 = 0) :
    (outsAt0 m c t.val t.isLt).2 = k0_pay2 k0_pay1 (iblk m c 0 t) (iblk m c 1 t) := by
  rw [outsAt0_A m c t h0 (by omega)]
  frame_out

/-- At a later step it is the step before's and one product more. -/
theorem acc_step (t : Fin cfg0.N) (h0 : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]
    frame_out
    exact congrArg (fun v => k0_pay2 v _ _) (Memref.IsWhole.read_unread _ _)
  · rw [outsAt0_B m c t h0 h1]
    frame_out
    exact congrArg (fun v => k0_pay2 v _ _) (Memref.IsWhole.read_unread _ _)

/-- At a last step the block written is the accumulator with the scaled cotangent added. -/
theorem out_last (t : Fin cfg0.N) (h1 : t.val % 8 = 7) :
    (outsAt0 m c t.val t.isLt).1 = k0_pay3 (outsAt0 m c t.val t.isLt).2 (iblk m c 2 t) := by
  rw [outsAt0_C m c t (by omega) h1]
  frame_out

/-- A block of the cotangent at its rows and columns. -/
theorem blk0 (t : Fin cfg0.N) (i k : Fin 1024) :
    iblk m c 0 t (ValueIdx.ix2 (n0 := 1024) (n1 := 1024) i k)
      = V m c main_arg1 (ValueIdx.ix2 (n0 := 8192) (n1 := 8192) ⟨t.val / 8 * 1024 + i.val, by have := t.isLt; have h : cfg0.N = 64 := rfl; omega⟩ ⟨t.val % 8 * 1024 + k.val, by omega⟩) := by
  blk_ext [iblk, V, idx0_0]

/-- A block of the weight at its rows and columns. -/
theorem blk1 (t : Fin cfg0.N) (k j : Fin 1024) :
    iblk m c 1 t (ValueIdx.ix2 (n0 := 1024) (n1 := 1024) k j)
      = V m c main_v1 (ValueIdx.ix2 (n0 := 17408) (n1 := 1024) ⟨(t.val % 8 + 9) * 1024 + k.val, by omega⟩ j) := by
  blk_ext [iblk, V, idx0_1]

/-- A block of the residual's cotangent at its rows and columns. -/
theorem blk2 (t : Fin cfg0.N) (i j : Fin 1024) :
    iblk m c 2 t (ValueIdx.ix2 (n0 := 1024) (n1 := 1024) i j)
      = V m c main_arg2 (ValueIdx.ix2 (n0 := 8192) (n1 := 1024) ⟨t.val / 8 * 1024 + i.val, by have := t.isLt; have h : cfg0.N = 64 := rfl; omega⟩ j) := by
  blk_ext [iblk, V, idx0_2]

/-- One step's addend. -/
def term (t : Fin cfg0.N) (y : S1024x1024.Idx) : EReal := blkSum (iblk m c 0 t) (iblk m c 1 t) y

theorem acc_first_apply (t : Fin cfg0.N) (h0 : t.val % 8 = 0) (y : S1024x1024.Idx) :
    (outsAt0 m c t.val t.isLt).2 y = 0 + term m c t y := by
  rw [acc_first m c t h0, pay2_apply, pay1_apply]
  rfl

theorem acc_step_apply (t : Fin cfg0.N) (h0 : ¬t.val % 8 = 0) (y : S1024x1024.Idx) :
    (outsAt0 m c t.val t.isLt).2 y = (outsAt0 m c (t.val - 1) (Nat.lt_of_le_of_lt (Nat.sub_le _ _) t.isLt)).2 y + term m c t y := by
  rw [acc_step m c t h0, pay2_apply]
  rfl

/-- At a last step the accumulator is the sum over all columns of the cotangent. -/
theorem acc_last (t : Fin cfg0.N) (h1 : t.val % 8 = 7) (i j : Fin 1024) :
    (outsAt0 m c t.val t.isLt).2 (ValueIdx.ix2 (n0 := 1024) (n1 := 1024) i j)
      = rowSum (V m c main_arg1) (V m c main_v1) ⟨t.val / 8 * 1024 + i.val, by have := t.isLt; have h : cfg0.N = 64 := rfl; omega⟩ j := by
  have e := Pipeline.eq_sum_fin_of_reset_step_apply_of_flush (fun n h => (outsAt0 m c n h).2) 8 (fun _ => (0 : EReal)) (term m c)
    (acc_first_apply m c) (acc_step_apply m c) t h1 (ValueIdx.ix2 (n0 := 1024) (n1 := 1024) i j)
  refine e.trans ((zero_add _).trans (Fin.sum_mul_add_congr (fun s k hl => ?_)))
  have hN : cfg0.N = 64 := rfl
  have ht := t.isLt
  have hs : (8 * (t.val / 8) + s.val) % 8 = s.val := by omega
  have hd : (8 * (t.val / 8) + s.val) / 8 = t.val / 8 := by omega
  refine congrArg₂ (· * ·) ((blk0 m c _ i k).trans (congrArg _ ?_)) ((blk1 m c _ k j).trans (congrArg _ ?_))
  · exact congrArg₂ (ValueIdx.ix2 (n0 := 8192) (n1 := 8192)) (Fin.ext (by dsimp only; omega)) (Fin.ext (by dsimp only; omega))
  · exact congrArg (fun r => ValueIdx.ix2 (n0 := 17408) (n1 := 1024) r j) (Fin.ext (by dsimp only; omega))

/-- The launch finds the weight transposed. -/
theorem V_v1 : (V m c main_v1 : Vec Ideal S17408x1024 .bf16)
    = fun i => (m ((c.tc : Thread nD τ).loc main_arg0) : Vec Ideal S1024x17408 .f32) (ValueIdx.ix2 (n0 := 1024) (n1 := 17408) (i 1) (i 0)) := by
  funext i
  simp only [V]
  after_reads_simp
  pointwise []
  rfl

/-- After the launch the result's array holds the gradient. -/
theorem array : (dats m 0 c).arrAt 3 cfg0.N
    = (ProjSpec.dxOf scale (m ((c.tc : Thread nD τ).loc main_arg0)) (m ((c.tc : Thread nD τ).loc main_arg1)) (m ((c.tc : Thread nD τ).loc main_arg2)) : Vec Ideal S8192x1024 .f32) := by
  refine (dats m 0 c).arrAt_eq_of_covers 3 _ (by decide +kernel) (fun t hf y => ?_)
  obtain ⟨a, b, rfl⟩ : ∃ a b, y = ValueIdx.ix2 (n0 := 1024) (n1 := 1024) a b := ⟨_, _, ValueIdx.eq_ix2 y⟩
  have h1 := (flush0_3 t).mp hf
  have hN : cfg0.N = 64 := rfl
  have ht := t.isLt
  have he : ((cfg0.win 3).blk t).view.emb (ValueIdx.ix2 (n0 := 1024) (n1 := 1024) a b)
      = ValueIdx.ix2 (n0 := 8192) (n1 := 1024) ⟨t.val / 8 * 1024 + a.val, by omega⟩ b := by
    blk_ext [idx0_3]
  rw [he]
  blk_simp [idx0_3]
  rw [after0_3, out_last m c t h1]
  refine (pay3_apply _ _ _).trans ?_
  rw [acc_last m c t h1, blk2, V_v1, V_main_arg1, V_main_arg2, ProjSpec.dxOf]
  rfl
end

end Cert.ProjDxIdeal.Gen

end
-- ==== Proof.DownDxV.lean ====
/-
The input gradient of the down product: what its launch leaves in the array, read entry by entry.
-/
module

public import proofs.«01_k».proof.Proof.Gen.DownDxIdeal.Value
public import proofs.«01_k».proof.Proof.DenseKit

@[expose] public section

set_option maxRecDepth 16384

noncomputable section

namespace Cert.DownDxIdeal.Gen

open Idealize.ShloMosaic Idealize.ShloMosaic.TcCoe Idealize.ShloMosaic.Tactic
open Idealize.SL.Sem

theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![t.val, 0] := (by decide +kernel : ∀ t : Fin grid0.N, _)

/-- The product of two blocks: the first's rows against the second's rows. -/
def blkSum (x0 : Vec Ideal S512x1024 .bf16) (x1 : Vec Ideal S2816x1024 .bf16) (y : S512x2816.Idx) : EReal :=
  ∑ k : Fin 1024, x0 (ValueIdx.ix2 (n0 := 512) (n1 := 1024) (y 0) k) * x1 (ValueIdx.ix2 (n0 := 2816) (n1 := 1024) (y 1) k)

/-- What a point writes is the product of the two staged blocks. -/
theorem pay_apply (x0 : Vec Ideal S512x1024 .bf16) (x1 : Vec Ideal S2816x1024 .bf16) (y : S512x2816.Idx) :
    k0_pay3 (k0_pay2 k0_pay1 x0 x1) y = blkSum x0 x1 y := by
  pointwise [k0_pay3, k0_pay2, k0_pay1]
  rfl

section
variable (m : (ℓ : Loc nD τ sig) → Buf (Elt Ideal) ℓ) (c : Dev nD)

/-- What a point leaves in its output block. -/
theorem outs (t : Fin cfg0.N) : outsAt0 m c t = k0_pay3 (k0_pay2 k0_pay1 (iblk m c 0 t) (iblk m c 1 t)) := by
  unfold outsAt0
  frame_out

/-- A block of the cotangent at its rows and columns. -/
theorem blk0 (t : Fin cfg0.N) (i : Fin 512) (k : Fin 1024) :
    iblk m c 0 t (ValueIdx.ix2 (n0 := 512) (n1 := 1024) i k)
      = V m c main_arg1 (ValueIdx.ix2 (n0 := 8192) (n1 := 1024) ⟨t.val * 512 + i.val, by have := t.isLt; have h : cfg0.N = 16 := rfl; omega⟩ k) := by
  blk_ext [iblk, V, idx0_0]

/-- The weight's one block is the weight. -/
theorem blk1 (t : Fin cfg0.N) (j : Fin 2816) (k : Fin 1024) :
    iblk m c 1 t (ValueIdx.ix2 (n0 := 2816) (n1 := 1024) j k) = V m c main_v0 (ValueIdx.ix2 (n0 := 2816) (n1 := 1024) j k) := by
  blk_ext [iblk, V, idx0_1]

/-- The launch finds the weight as given. -/
theorem V_v0 : V m c main_v0 = (m ((c.tc : Thread nD τ).loc main_arg0) : Vec Ideal S2816x1024 .f32) := by
  funext i
  simp only [V]
  after_reads_simp
  pointwise []

/-- After the launch the result's array holds the gradient. -/
theorem array : (dats m 0 c).arrAt 2 cfg0.N
    = (FfnSpec.downDx (m ((c.tc : Thread nD τ).loc main_arg0)) (m ((c.tc : Thread nD τ).loc main_arg1)) : Vec Ideal S8192x2816 .bf16) := by
  refine (dats m 0 c).arrAt_eq_of_covers 2 _ (by decide +kernel) (fun t hf y => ?_)
  obtain ⟨a, b, rfl⟩ : ∃ a b, y = ValueIdx.ix2 (n0 := 512) (n1 := 2816) a b := ⟨_, _, ValueIdx.eq_ix2 y⟩
  have hN : cfg0.N = 16 := rfl
  have ht : t.val < 16 := t.isLt
  have he : ((cfg0.win 2).blk t).view.emb (ValueIdx.ix2 (n0 := 512) (n1 := 2816) a b)
      = ValueIdx.ix2 (n0 := 8192) (n1 := 2816) ⟨t.val * 512 + a.val, by omega⟩ b := by
    blk_ext [idx0_2]
  rw [he]
  blk_simp [idx0_2]
  rw [after0_2, outs]
  refine (pay_apply _ _ _).trans ?_
  rw [FfnSpec.downDx]
  exact Finset.sum_congr rfl fun k _ => congrArg₂ (fun a b : EReal => a * b) ((blk0 m c t a k).trans (congrFun (V_main_arg1 m c) _)) ((blk1 m c t b k).trans (congrFun (V_v0 m c) _))
end

end Cert.DownDxIdeal.Gen

end
-- ==== Proof.DownDwV.lean ====
/-
The weight gradient of the down product: what its launch leaves in the gradient's array, read entry by entry.
-/
module

public import proofs.«01_k».proof.Proof.Gen.DownDwIdeal.Value
public import proofs.«01_k».proof.Proof.DenseKit

@[expose] public section

set_option maxRecDepth 16384

noncomputable section

namespace Cert.DownDwIdeal.Gen

open Idealize.ShloMosaic Idealize.ShloMosaic.TcCoe Idealize.ShloMosaic.Tactic
open Idealize.SL.Sem

theorem idx0_0 : ∀ t : Fin cfg0.N, win0_0.index t = ![t.val % 8, t.val / 8] := (by decide +kernel : ∀ t : Fin grid0.N, _)
theorem idx0_1 : ∀ t : Fin cfg0.N, win0_1.index t = ![t.val % 8, 0] := (by decide +kernel : ∀ t : Fin grid0.N, _)
theorem idx0_2 : ∀ t : Fin cfg0.N, win0_2.index t = ![t.val / 8, 0] := (by decide +kernel : ∀ t : Fin grid0.N, _)

/-- The accumulator starts at zero. -/
theorem pay1_apply (i : S1408x1024.Idx) : k0_pay1 (F := Ideal) i = 0 := by
  pointwise [k0_pay1]

/-- The product of two blocks, summed over their rows. -/
def blkSum (x0 : Vec Ideal S1024x1408 .bf16) (x1 : Vec Ideal S1024x1024 .bf16) (y : S1408x1024.Idx) : EReal :=
  ∑ k : Fin 1024, x0 (ValueIdx.ix2 (n0 := 1024) (n1 := 1408) k (y 0)) * x1 (ValueIdx.ix2 (n0 := 1024) (n1 := 1024) k (y 1))

/-- One step adds the product of the two staged blocks. -/
theorem pay2_apply (acc : Vec Ideal S1408x1024 .f32) (x0 : Vec Ideal S1024x1408 .bf16) (x1 : Vec Ideal S1024x1024 .bf16) (y : S1408x1024.Idx) :
    k0_pay2 acc x0 x1 y = acc y + blkSum x0 x1 y := by
  pointwise [k0_pay2]
  rfl

/-- The product of two arrays, summed over their rows. -/
def rowSum (d : Vec Ideal S8192x2816 .bf16) (x : Vec Ideal S8192x1024 .bf16) (i : Fin 2816) (j : Fin 1024) : EReal :=
  ∑ r : Fin 8192, d (ValueIdx.ix2 (n0 := 8192) (n1 := 2816) r i) * x (ValueIdx.ix2 (n0 := 8192) (n1 := 1024) r j)

section
variable (m : (ℓ : Loc nD τ sig) → Buf (Elt Ideal) ℓ) (c : Dev nD)

/-- At a first step the accumulator is one product. -/
theorem acc_first (t : Fin cfg0.N) (h0 : t.val % 8 = 0) :
    (outsAt0 m c t.val t.isLt).2 = k0_pay2 k0_pay1 (iblk m c 0 t) (iblk m c 1 t) := by
  rw [outsAt0_A m c t h0 (by omega)]
  frame_out

/-- At a later step it is the step before's and one product more. -/
theorem acc_step (t : Fin cfg0.N) (h0 : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]
    frame_out
    exact congrArg (fun v => k0_pay2 v _ _) (Memref.IsWhole.read_unread _ _)
  · rw [outsAt0_B m c t h0 h1]
    frame_out
    exact congrArg (fun v => k0_pay2 v _ _) (Memref.IsWhole.read_unread _ _)

/-- At a last step the block written is the accumulator. -/
theorem out_last (t : Fin cfg0.N) (h1 : t.val % 8 = 7) : (outsAt0 m c t.val t.isLt).1 = (outsAt0 m c t.val t.isLt).2 := by
  rw [outsAt0_C m c t (by omega) h1]
  frame_out

/-- A block of the first array at its rows and columns. -/
theorem blk0 (t : Fin cfg0.N) (k : Fin 1024) (i : Fin 1408) :
    iblk m c 0 t (ValueIdx.ix2 (n0 := 1024) (n1 := 1408) k i)
      = V m c main_arg0 (ValueIdx.ix2 (n0 := 8192) (n1 := 2816) ⟨t.val % 8 * 1024 + k.val, by omega⟩ ⟨t.val / 8 * 1408 + i.val, by have := t.isLt; have h : cfg0.N = 16 := rfl; omega⟩) := by
  blk_ext [iblk, V, idx0_0]

/-- A block of the second array at its rows. -/
theorem blk1 (t : Fin cfg0.N) (k j : Fin 1024) :
    iblk m c 1 t (ValueIdx.ix2 (n0 := 1024) (n1 := 1024) k j)
      = V m c main_arg1 (ValueIdx.ix2 (n0 := 8192) (n1 := 1024) ⟨t.val % 8 * 1024 + k.val, by omega⟩ j) := by
  blk_ext [iblk, V, idx0_1]

/-- One step's addend. -/
def term (t : Fin cfg0.N) (y : S1408x1024.Idx) : EReal := blkSum (iblk m c 0 t) (iblk m c 1 t) y

theorem acc_first_apply (t : Fin cfg0.N) (h0 : t.val % 8 = 0) (y : S1408x1024.Idx) :
    (outsAt0 m c t.val t.isLt).2 y = 0 + term m c t y := by
  rw [acc_first m c t h0, pay2_apply, pay1_apply]
  rfl

theorem acc_step_apply (t : Fin cfg0.N) (h0 : ¬t.val % 8 = 0) (y : S1408x1024.Idx) :
    (outsAt0 m c t.val t.isLt).2 y = (outsAt0 m c (t.val - 1) (Nat.lt_of_le_of_lt (Nat.sub_le _ _) t.isLt)).2 y + term m c t y := by
  rw [acc_step m c t h0, pay2_apply]
  rfl

/-- At a last step the accumulator is the sum over all rows. -/
theorem acc_last (t : Fin cfg0.N) (h1 : t.val % 8 = 7) (i : Fin 1408) (j : Fin 1024) :
    (outsAt0 m c t.val t.isLt).2 (ValueIdx.ix2 (n0 := 1408) (n1 := 1024) i j)
      = rowSum (V m c main_arg0) (V m c main_arg1) ⟨t.val / 8 * 1408 + i.val, by have := t.isLt; have h : cfg0.N = 16 := rfl; omega⟩ j := by
  have e := Pipeline.eq_sum_fin_of_reset_step_apply_of_flush (fun n h => (outsAt0 m c n h).2) 8 (fun _ => (0 : EReal)) (term m c)
    (acc_first_apply m c) (acc_step_apply m c) t h1 (ValueIdx.ix2 (n0 := 1408) (n1 := 1024) i j)
  refine e.trans ((zero_add _).trans (Fin.sum_mul_add_congr (fun s k hl => ?_)))
  have hN : cfg0.N = 16 := rfl
  have ht := t.isLt
  have hs : (8 * (t.val / 8) + s.val) % 8 = s.val := by omega
  have hd : (8 * (t.val / 8) + s.val) / 8 = t.val / 8 := by omega
  refine congrArg₂ (· * ·) ((blk0 m c _ k i).trans (congrArg _ ?_)) ((blk1 m c _ k j).trans (congrArg _ ?_))
  · exact congrArg₂ (ValueIdx.ix2 (n0 := 8192) (n1 := 2816)) (Fin.ext (by dsimp only; omega)) (Fin.ext (by dsimp only; omega))
  · exact congrArg (fun r => ValueIdx.ix2 (n0 := 8192) (n1 := 1024) r j) (Fin.ext (by dsimp only; omega))

/-- After the launch the gradient's array holds the gradient. -/
theorem array : (dats m 0 c).arrAt 2 cfg0.N
    = (FfnSpec.downDw (m ((c.tc : Thread nD τ).loc main_arg0)) (m ((c.tc : Thread nD τ).loc main_arg1)) : Vec Ideal S2816x1024 .f32) := by
  refine (dats m 0 c).arrAt_eq_of_covers 2 _ (by decide +kernel) (fun t hf y => ?_)
  obtain ⟨a, b, rfl⟩ : ∃ a b, y = ValueIdx.ix2 (n0 := 1408) (n1 := 1024) a b := ⟨_, _, ValueIdx.eq_ix2 y⟩
  have h1 := (flush0_2 t).mp hf
  have hN : cfg0.N = 16 := rfl
  have ht : t.val < 16 := t.isLt
  have he : ((cfg0.win 2).blk t).view.emb (ValueIdx.ix2 (n0 := 1408) (n1 := 1024) a b)
      = ValueIdx.ix2 (n0 := 2816) (n1 := 1024) ⟨t.val / 8 * 1408 + a.val, by omega⟩ b := by
    blk_ext [idx0_2]
  rw [he]
  blk_simp [idx0_2]
  rw [after0_2, out_last m c t h1]
  refine (acc_last m c t h1 a b).trans ?_
  rw [V_main_arg0, V_main_arg1]
  rfl
end

end Cert.DownDwIdeal.Gen

end
-- ==== Proof.UpUDwV.lean ====
/-
The weight gradient of the linear half of the up product: what its launch leaves in the gradient's array, read entry by entry.
-/
module

public import proofs.«01_k».proof.Proof.Gen.UpUDwIdeal.Value
public import proofs.«01_k».proof.Proof.DenseKit

@[expose] public section

set_option maxRecDepth 16384

noncomputable section

namespace Cert.UpUDwIdeal.Gen

open Idealize.ShloMosaic Idealize.ShloMosaic.TcCoe Idealize.ShloMosaic.Tactic
open Idealize.SL.Sem

theorem idx0_0 : ∀ t : Fin cfg0.N, win0_0.index t = ![t.val % 8, t.val / 8] := (by decide +kernel : ∀ t : Fin grid0.N, _)
theorem idx0_1 : ∀ t : Fin cfg0.N, win0_1.index t = ![t.val % 8, 0] := (by decide +kernel : ∀ t : Fin grid0.N, _)
theorem idx0_2 : ∀ t : Fin cfg0.N, win0_2.index t = ![t.val / 8 + 2, 0] := (by decide +kernel : ∀ t : Fin grid0.N, _)

/-- The accumulator starts at zero. -/
theorem pay1_apply (i : S1408x1024.Idx) : k0_pay1 (F := Ideal) i = 0 := by
  pointwise [k0_pay1]

/-- The product of two blocks, summed over their rows. -/
def blkSum (x0 : Vec Ideal S1024x1408 .bf16) (x1 : Vec Ideal S1024x1024 .bf16) (y : S1408x1024.Idx) : EReal :=
  ∑ k : Fin 1024, x0 (ValueIdx.ix2 (n0 := 1024) (n1 := 1408) k (y 0)) * x1 (ValueIdx.ix2 (n0 := 1024) (n1 := 1024) k (y 1))

/-- One step adds the product of the two staged blocks. -/
theorem pay2_apply (acc : Vec Ideal S1408x1024 .f32) (x0 : Vec Ideal S1024x1408 .bf16) (x1 : Vec Ideal S1024x1024 .bf16) (y : S1408x1024.Idx) :
    k0_pay2 acc x0 x1 y = acc y + blkSum x0 x1 y := by
  pointwise [k0_pay2]
  rfl

/-- The product of two arrays, summed over their rows. -/
def rowSum (d : Vec Ideal S8192x2816 .bf16) (x : Vec Ideal S8192x1024 .bf16) (i : Fin 2816) (j : Fin 1024) : EReal :=
  ∑ r : Fin 8192, d (ValueIdx.ix2 (n0 := 8192) (n1 := 2816) r i) * x (ValueIdx.ix2 (n0 := 8192) (n1 := 1024) r j)

section
variable (m : (ℓ : Loc nD τ sig) → Buf (Elt Ideal) ℓ) (c : Dev nD)

/-- At a first step the accumulator is one product. -/
theorem acc_first (t : Fin cfg0.N) (h0 : t.val % 8 = 0) :
    (outsAt0 m c t.val t.isLt).2 = k0_pay2 k0_pay1 (iblk m c 0 t) (iblk m c 1 t) := by
  rw [outsAt0_A m c t h0 (by omega)]
  frame_out

/-- At a later step it is the step before's and one product more. -/
theorem acc_step (t : Fin cfg0.N) (h0 : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]
    frame_out
    exact congrArg (fun v => k0_pay2 v _ _) (Memref.IsWhole.read_unread _ _)
  · rw [outsAt0_B m c t h0 h1]
    frame_out
    exact congrArg (fun v => k0_pay2 v _ _) (Memref.IsWhole.read_unread _ _)

/-- At a last step the block written is the accumulator. -/
theorem out_last (t : Fin cfg0.N) (h1 : t.val % 8 = 7) : (outsAt0 m c t.val t.isLt).1 = (outsAt0 m c t.val t.isLt).2 := by
  rw [outsAt0_C m c t (by omega) h1]
  frame_out

/-- A block of the first array at its rows and columns. -/
theorem blk0 (t : Fin cfg0.N) (k : Fin 1024) (i : Fin 1408) :
    iblk m c 0 t (ValueIdx.ix2 (n0 := 1024) (n1 := 1408) k i)
      = V m c main_arg1 (ValueIdx.ix2 (n0 := 8192) (n1 := 2816) ⟨t.val % 8 * 1024 + k.val, by omega⟩ ⟨t.val / 8 * 1408 + i.val, by have := t.isLt; have h : cfg0.N = 16 := rfl; omega⟩) := by
  blk_ext [iblk, V, idx0_0]

/-- A block of the second array at its rows. -/
theorem blk1 (t : Fin cfg0.N) (k j : Fin 1024) :
    iblk m c 1 t (ValueIdx.ix2 (n0 := 1024) (n1 := 1024) k j)
      = V m c main_v0 (ValueIdx.ix2 (n0 := 8192) (n1 := 1024) ⟨t.val % 8 * 1024 + k.val, by omega⟩ j) := by
  blk_ext [iblk, V, idx0_1]

/-- One step's addend. -/
def term (t : Fin cfg0.N) (y : S1408x1024.Idx) : EReal := blkSum (iblk m c 0 t) (iblk m c 1 t) y

theorem acc_first_apply (t : Fin cfg0.N) (h0 : t.val % 8 = 0) (y : S1408x1024.Idx) :
    (outsAt0 m c t.val t.isLt).2 y = 0 + term m c t y := by
  rw [acc_first m c t h0, pay2_apply, pay1_apply]
  rfl

theorem acc_step_apply (t : Fin cfg0.N) (h0 : ¬t.val % 8 = 0) (y : S1408x1024.Idx) :
    (outsAt0 m c t.val t.isLt).2 y = (outsAt0 m c (t.val - 1) (Nat.lt_of_le_of_lt (Nat.sub_le _ _) t.isLt)).2 y + term m c t y := by
  rw [acc_step m c t h0, pay2_apply]
  rfl

/-- At a last step the accumulator is the sum over all rows. -/
theorem acc_last (t : Fin cfg0.N) (h1 : t.val % 8 = 7) (i : Fin 1408) (j : Fin 1024) :
    (outsAt0 m c t.val t.isLt).2 (ValueIdx.ix2 (n0 := 1408) (n1 := 1024) i j)
      = rowSum (V m c main_arg1) (V m c main_v0) ⟨t.val / 8 * 1408 + i.val, by have := t.isLt; have h : cfg0.N = 16 := rfl; omega⟩ j := by
  have e := Pipeline.eq_sum_fin_of_reset_step_apply_of_flush (fun n h => (outsAt0 m c n h).2) 8 (fun _ => (0 : EReal)) (term m c)
    (acc_first_apply m c) (acc_step_apply m c) t h1 (ValueIdx.ix2 (n0 := 1408) (n1 := 1024) i j)
  refine e.trans ((zero_add _).trans (Fin.sum_mul_add_congr (fun s k hl => ?_)))
  have hN : cfg0.N = 16 := rfl
  have ht := t.isLt
  have hs : (8 * (t.val / 8) + s.val) % 8 = s.val := by omega
  have hd : (8 * (t.val / 8) + s.val) / 8 = t.val / 8 := by omega
  refine congrArg₂ (· * ·) ((blk0 m c _ k i).trans (congrArg _ ?_)) ((blk1 m c _ k j).trans (congrArg _ ?_))
  · exact congrArg₂ (ValueIdx.ix2 (n0 := 8192) (n1 := 2816)) (Fin.ext (by dsimp only; omega)) (Fin.ext (by dsimp only; omega))
  · exact congrArg (fun r => ValueIdx.ix2 (n0 := 8192) (n1 := 1024) r j) (Fin.ext (by dsimp only; omega))

theorem V_v0 : V m c main_v0 = (m ((c.tc : Thread nD τ).loc main_arg0) : Vec Ideal S8192x1024 .f32) := by
  funext i
  simp only [V]
  after_reads_simp
  pointwise []

theorem V_v1 : V m c main_v1 = (m ((c.tc : Thread nD τ).loc main_arg2) : Vec Ideal S5632x1024 .f32) := by
  funext i
  simp only [V]
  after_reads_simp
  rfl

/-- After the launch the gradient's array holds the gradient, the gate's rows as they were. -/
theorem array : (dats m 0 c).arrAt 2 cfg0.N
    = (FfnSpec.upDw (m ((c.tc : Thread nD τ).loc main_arg0)) (m ((c.tc : Thread nD τ).loc main_arg1)) (m ((c.tc : Thread nD τ).loc main_arg2)) : Vec Ideal S5632x1024 .f32) := by
  refine (dats m 0 c).arrAt_eq_of_coversWhere_of_agree 2 _ (fun β => 2 ≤ β 0) (by decide +kernel) (fun t hf y => ?_) (fun j hj => ?_)
  · obtain ⟨a, b, rfl⟩ : ∃ a b, y = ValueIdx.ix2 (n0 := 1408) (n1 := 1024) a b := ⟨_, _, ValueIdx.eq_ix2 y⟩
    have h1 := (flush0_2 t).mp hf
    have hN : cfg0.N = 16 := rfl
    have ht : t.val < 16 := t.isLt
    have he : ((cfg0.win 2).blk t).view.emb (ValueIdx.ix2 (n0 := 1408) (n1 := 1024) a b)
        = ValueIdx.ix2 (n0 := 5632) (n1 := 1024) ⟨(t.val / 8 + 2) * 1408 + a.val, by omega⟩ b := by
      blk_ext [idx0_2]
    rw [he]
    blk_simp [idx0_2]
    rw [after0_2, out_last m c t h1]
    refine (acc_last m c t h1 a b).trans ?_
    unfold FfnSpec.upDw
    rw [dif_pos (show 2816 ≤ (t.val / 8 + 2) * 1408 + a.val by omega), V_v0, V_main_arg1]
    refine Finset.sum_congr rfl fun r _ => congrArg (· * _) (congrArg _ (congrArg (ValueIdx.ix2 (n0 := 8192) (n1 := 2816) r) (Fin.ext ?_)))
    show t.val / 8 * 1408 + a.val = (t.val / 8 + 2) * 1408 + a.val - 2816
    omega
  · simp only [A_eq]
    show V m c main_v1 (j : S5632x1024.Idx) = FfnSpec.upDw _ _ _ (j : S5632x1024.Idx)
    have hj' : ¬2816 ≤ ((j : S5632x1024.Idx) 0).val := fun h => hj (by show 2 ≤ ((j : S5632x1024.Idx) 0).val / 1408; omega)
    unfold FfnSpec.upDw
    rw [dif_neg hj', V_v1]
end

end Cert.UpUDwIdeal.Gen

end
-- ==== Proof.UpGDxV.lean ====
/-
The input gradient of the gate half of the up product: what its launch leaves in the array, read entry by entry.
-/
module

public import proofs.«01_k».proof.Proof.Gen.UpGDxIdeal.Value
public import proofs.«01_k».proof.Proof.DenseKit

@[expose] public section

set_option maxRecDepth 16384

noncomputable section

namespace Cert.UpGDxIdeal.Gen

open Idealize.ShloMosaic Idealize.ShloMosaic.TcCoe Idealize.ShloMosaic.Tactic
open Idealize.SL.Sem

theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![t.val, 0] := (by decide +kernel : ∀ t : Fin grid0.N, _)
theorem idx0_3 : ∀ t : Fin cfg0.N, win0_3.index t = ![t.val, 0] := (by decide +kernel : ∀ t : Fin grid0.N, _)

/-- The scale of the residual. -/
abbrev scale : EReal := Ideal.ofBits .f32 0x3FB504F3#32

/-- The product of two blocks: the first's rows against the second's columns. -/
def blkSum (x0 : Vec Ideal S512x2816 .bf16) (x1 : Vec Ideal S2816x1024 .bf16) (y : S512x1024.Idx) : EReal :=
  ∑ k : Fin 2816, x0 (ValueIdx.ix2 (n0 := 512) (n1 := 2816) (y 0) k) * x1 (ValueIdx.ix2 (n0 := 2816) (n1 := 1024) k (y 1))

/-- What a point writes is the product of the two staged blocks and the scaled third. -/
theorem pay_apply (x0 : Vec Ideal S512x2816 .bf16) (x1 : Vec Ideal S2816x1024 .bf16) (x2 : Vec Ideal S512x1024 .f32) (y : S512x1024.Idx) :
    k0_pay3 (k0_pay2 k0_pay1 x0 x1) x2 y = blkSum x0 x1 y + scale * x2 y := by
  pointwise [k0_pay3, k0_pay2, k0_pay1]
  rfl

section
variable (m : (ℓ : Loc nD τ sig) → Buf (Elt Ideal) ℓ) (c : Dev nD)

/-- What a point leaves in its output block. -/
theorem outs (t : Fin cfg0.N) : outsAt0 m c t = k0_pay3 (k0_pay2 k0_pay1 (iblk m c 0 t) (iblk m c 1 t)) (iblk m c 2 t) := by
  unfold outsAt0
  frame_out

/-- A block of the cotangent at its rows and columns. -/
theorem blk0 (t : Fin cfg0.N) (i : Fin 512) (k : Fin 2816) :
    iblk m c 0 t (ValueIdx.ix2 (n0 := 512) (n1 := 2816) i k)
      = V m c main_arg1 (ValueIdx.ix2 (n0 := 8192) (n1 := 2816) ⟨t.val * 512 + i.val, by have := t.isLt; have h : cfg0.N = 16 := rfl; omega⟩ k) := by
  blk_ext [iblk, V, idx0_0]

/-- The weight's block: the rows of its half. -/
theorem blk1 (t : Fin cfg0.N) (k : Fin 2816) (j : Fin 1024) :
    iblk m c 1 t (ValueIdx.ix2 (n0 := 2816) (n1 := 1024) k j)
      = V m c main_v1 (ValueIdx.ix2 (n0 := 5632) (n1 := 1024) ⟨0 + k.val, by omega⟩ j) := by
  blk_ext [iblk, V, idx0_1]

/-- A block of the residual's cotangent at its rows. -/
theorem blk2 (t : Fin cfg0.N) (i : Fin 512) (j : Fin 1024) :
    iblk m c 2 t (ValueIdx.ix2 (n0 := 512) (n1 := 1024) i j)
      = V m c main_arg2 (ValueIdx.ix2 (n0 := 8192) (n1 := 1024) ⟨t.val * 512 + i.val, by have := t.isLt; have h : cfg0.N = 16 := rfl; omega⟩ j) := by
  blk_ext [iblk, V, idx0_2]

/-- The launch finds the weight transposed. -/
theorem V_v1 : (V m c main_v1 : Vec Ideal S5632x1024 .bf16)
    = fun i => (m ((c.tc : Thread nD τ).loc main_arg0) : Vec Ideal S1024x5632 .f32) (ValueIdx.ix2 (n0 := 1024) (n1 := 5632) (i 1) (i 0)) := by
  funext i
  simp only [V]
  after_reads_simp
  pointwise []
  rfl

/-- After the launch the result's array holds the gradient. -/
theorem array : (dats m 0 c).arrAt 3 cfg0.N
    = (FfnSpec.upDx scale 0 (m ((c.tc : Thread nD τ).loc main_arg0)) (m ((c.tc : Thread nD τ).loc main_arg1)) (m ((c.tc : Thread nD τ).loc main_arg2)) : Vec Ideal S8192x1024 .f32) := by
  refine (dats m 0 c).arrAt_eq_of_covers 3 _ (by decide +kernel) (fun t hf y => ?_)
  obtain ⟨a, b, rfl⟩ : ∃ a b, y = ValueIdx.ix2 (n0 := 512) (n1 := 1024) a b := ⟨_, _, ValueIdx.eq_ix2 y⟩
  have hN : cfg0.N = 16 := rfl
  have ht : t.val < 16 := t.isLt
  have he : ((cfg0.win 3).blk t).view.emb (ValueIdx.ix2 (n0 := 512) (n1 := 1024) a b)
      = ValueIdx.ix2 (n0 := 8192) (n1 := 1024) ⟨t.val * 512 + a.val, by omega⟩ b := by
    blk_ext [idx0_3]
  rw [he]
  blk_simp [idx0_3]
  rw [after0_3, outs]
  refine (pay_apply _ _ _ _).trans ?_
  rw [blk2, V_main_arg2, FfnSpec.upDx]
  refine congrArg₂ (fun a b : EReal => a + b) (Finset.sum_congr rfl fun k _ => ?_) rfl
  exact congrArg₂ (fun a b : EReal => a * b) ((blk0 m c t a k).trans (congrFun (V_main_arg1 m c) _)) ((blk1 m c t k b).trans (by rw [V_v1]; rfl))
end

end Cert.UpGDxIdeal.Gen

end
-- ==== Proof.UpUDxV.lean ====
/-
The input gradient of the linear half of the up product: what its launch leaves in the array, read entry by entry.
-/
module

public import proofs.«01_k».proof.Proof.Gen.UpUDxIdeal.Value
public import proofs.«01_k».proof.Proof.DenseKit

@[expose] public section

set_option maxRecDepth 16384

noncomputable section

namespace Cert.UpUDxIdeal.Gen

open Idealize.ShloMosaic Idealize.ShloMosaic.TcCoe Idealize.ShloMosaic.Tactic
open Idealize.SL.Sem

theorem idx0_0 : ∀ t : Fin cfg0.N, win0_0.index t = ![t.val, 0] := (by decide +kernel : ∀ t : Fin grid0.N, _)
theorem idx0_1 : ∀ t : Fin cfg0.N, win0_1.index t = ![1, 0] := (by decide +kernel : ∀ t : Fin grid0.N, _)
theorem idx0_2 : ∀ t : Fin cfg0.N, win0_2.index t = ![t.val, 0] := (by decide +kernel : ∀ t : Fin grid0.N, _)
theorem idx0_3 : ∀ t : Fin cfg0.N, win0_3.index t = ![t.val, 0] := (by decide +kernel : ∀ t : Fin grid0.N, _)

/-- The product of two blocks: the first's rows against the second's columns. -/
def blkSum (x0 : Vec Ideal S512x2816 .bf16) (x1 : Vec Ideal S2816x1024 .bf16) (y : S512x1024.Idx) : EReal :=
  ∑ k : Fin 2816, x0 (ValueIdx.ix2 (n0 := 512) (n1 := 2816) (y 0) k) * x1 (ValueIdx.ix2 (n0 := 2816) (n1 := 1024) k (y 1))

/-- What a point writes is the product of the two staged blocks and the scaled third. -/
theorem pay_apply (x0 : Vec Ideal S512x2816 .bf16) (x1 : Vec Ideal S2816x1024 .bf16) (x2 : Vec Ideal S512x1024 .f32) (y : S512x1024.Idx) :
    k0_pay3 (k0_pay2 k0_pay1 x0 x1) x2 y = blkSum x0 x1 y + 1 * x2 y := by
  pointwise [k0_pay3, k0_pay2, k0_pay1]
  rfl

section
variable (m : (ℓ : Loc nD τ sig) → Buf (Elt Ideal) ℓ) (c : Dev nD)

/-- What a point leaves in its output block. -/
theorem outs (t : Fin cfg0.N) : outsAt0 m c t = k0_pay3 (k0_pay2 k0_pay1 (iblk m c 0 t) (iblk m c 1 t)) (iblk m c 2 t) := by
  unfold outsAt0
  frame_out

/-- A block of the cotangent at its rows and columns. -/
theorem blk0 (t : Fin cfg0.N) (i : Fin 512) (k : Fin 2816) :
    iblk m c 0 t (ValueIdx.ix2 (n0 := 512) (n1 := 2816) i k)
      = V m c main_arg1 (ValueIdx.ix2 (n0 := 8192) (n1 := 2816) ⟨t.val * 512 + i.val, by have := t.isLt; have h : cfg0.N = 16 := rfl; omega⟩ k) := by
  blk_ext [iblk, V, idx0_0]

/-- The weight's block: the rows of its half. -/
theorem blk1 (t : Fin cfg0.N) (k : Fin 2816) (j : Fin 1024) :
    iblk m c 1 t (ValueIdx.ix2 (n0 := 2816) (n1 := 1024) k j)
      = V m c main_v1 (ValueIdx.ix2 (n0 := 5632) (n1 := 1024) ⟨2816 + k.val, by omega⟩ j) := by
  blk_ext [iblk, V, idx0_1]

/-- A block of the residual's cotangent at its rows. -/
theorem blk2 (t : Fin cfg0.N) (i : Fin 512) (j : Fin 1024) :
    iblk m c 2 t (ValueIdx.ix2 (n0 := 512) (n1 := 1024) i j)
      = V m c main_arg2 (ValueIdx.ix2 (n0 := 8192) (n1 := 1024) ⟨t.val * 512 + i.val, by have := t.isLt; have h : cfg0.N = 16 := rfl; omega⟩ j) := by
  blk_ext [iblk, V, idx0_2]

/-- The launch finds the weight transposed. -/
theorem V_v1 : (V m c main_v1 : Vec Ideal S5632x1024 .bf16)
    = fun i => (m ((c.tc : Thread nD τ).loc main_arg0) : Vec Ideal S1024x5632 .f32) (ValueIdx.ix2 (n0 := 1024) (n1 := 5632) (i 1) (i 0)) := by
  funext i
  simp only [V]
  after_reads_simp
  pointwise []
  rfl

/-- After the launch the result's array holds the gradient. -/
theorem array : (dats m 0 c).arrAt 3 cfg0.N
    = (FfnSpec.upDx 1 2816 (m ((c.tc : Thread nD τ).loc main_arg0)) (m ((c.tc : Thread nD τ).loc main_arg1)) (m ((c.tc : Thread nD τ).loc main_arg2)) : Vec Ideal S8192x1024 .f32) := by
  refine (dats m 0 c).arrAt_eq_of_covers 3 _ (by decide +kernel) (fun t hf y => ?_)
  obtain ⟨a, b, rfl⟩ : ∃ a b, y = ValueIdx.ix2 (n0 := 512) (n1 := 1024) a b := ⟨_, _, ValueIdx.eq_ix2 y⟩
  have hN : cfg0.N = 16 := rfl
  have ht : t.val < 16 := t.isLt
  have he : ((cfg0.win 3).blk t).view.emb (ValueIdx.ix2 (n0 := 512) (n1 := 1024) a b)
      = ValueIdx.ix2 (n0 := 8192) (n1 := 1024) ⟨t.val * 512 + a.val, by omega⟩ b := by
    blk_ext [idx0_3]
  rw [he]
  blk_simp [idx0_3]
  rw [after0_3, outs]
  refine (pay_apply _ _ _ _).trans ?_
  rw [blk2, V_main_arg2, FfnSpec.upDx]
  refine congrArg₂ (fun a b : EReal => a + b) (Finset.sum_congr rfl fun k _ => ?_) rfl
  exact congrArg₂ (fun a b : EReal => a * b) ((blk0 m c t a k).trans (congrFun (V_main_arg1 m c) _)) ((blk1 m c t k b).trans (by rw [V_v1]; rfl))
end

end Cert.UpUDxIdeal.Gen

end
-- ==== Proof.UpGV.lean ====
/-
The gate half of the up product: what its launch leaves in the array, read entry by entry.
-/
module

public import proofs.«01_k».proof.Proof.Gen.UpGIdeal.Value
public import proofs.«01_k».proof.Proof.DenseKit

@[expose] public section

set_option maxRecDepth 16384

noncomputable section

namespace Cert.UpGIdeal.Gen

open Idealize.ShloMosaic Idealize.ShloMosaic.TcCoe Idealize.ShloMosaic.Tactic
open Idealize.SL.Sem

theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![t.val, 0] := (by decide +kernel : ∀ t : Fin grid0.N, _)

/-- The product of two blocks: the first's rows against the second's rows. -/
def blkSum (x0 : Vec Ideal S512x1024 .bf16) (x1 : Vec Ideal S2816x1024 .bf16) (y : S512x2816.Idx) : EReal :=
  ∑ k : Fin 1024, x0 (ValueIdx.ix2 (n0 := 512) (n1 := 1024) (y 0) k) * x1 (ValueIdx.ix2 (n0 := 2816) (n1 := 1024) (y 1) k)

/-- What a point writes is the product of the two staged blocks. -/
theorem pay_apply (x0 : Vec Ideal S512x1024 .bf16) (x1 : Vec Ideal S2816x1024 .bf16) (y : S512x2816.Idx) :
    (k0_pay3 (k0_pay2 k0_pay1 x0 x1)) y = blkSum x0 x1 y := by
  pointwise [k0_pay3, k0_pay2, k0_pay1]
  rfl

section
variable (m : (ℓ : Loc nD τ sig) → Buf (Elt Ideal) ℓ) (c : Dev nD)

/-- What a point leaves in its output block. -/
theorem outs (t : Fin cfg0.N) : outsAt0 m c t = k0_pay3 (k0_pay2 k0_pay1 (iblk m c 0 t) (iblk m c 1 t)) := by
  unfold outsAt0
  frame_out

/-- A block of the left factor at its rows. -/
theorem blk0 (t : Fin cfg0.N) (i : Fin 512) (k : Fin 1024) :
    iblk m c 0 t (ValueIdx.ix2 (n0 := 512) (n1 := 1024) i k)
      = V m c main_v0 (ValueIdx.ix2 (n0 := 8192) (n1 := 1024) ⟨t.val * 512 + i.val, by have := t.isLt; have h : cfg0.N = 16 := rfl; omega⟩ k) := by
  blk_ext [iblk, V, idx0_0]

/-- The right factor's block: the rows of its half. -/
theorem blk1 (t : Fin cfg0.N) (j : Fin 2816) (k : Fin 1024) :
    iblk m c 1 t (ValueIdx.ix2 (n0 := 2816) (n1 := 1024) j k) = V m c main_v2 (ValueIdx.ix2 (n0 := 5632) (n1 := 1024) ⟨0 + j.val, by omega⟩ k) := by
  blk_ext [iblk, V, idx0_1]

/-- The launch finds the left factor as given. -/
theorem V_left : V m c main_v0 = (m ((c.tc : Thread nD τ).loc main_arg0) : Vec Ideal S8192x1024 .f32) := by
  funext i
  simp only [V]
  after_reads_simp
  pointwise []

/-- The launch finds the right factor transposed. -/
theorem V_right : (V m c main_v2 : Vec Ideal S5632x1024 .bf16)
    = fun i => (m ((c.tc : Thread nD τ).loc main_arg1) : Vec Ideal S1024x5632 .f32) (ValueIdx.ix2 (n0 := 1024) (n1 := 5632) (i 1) (i 0)) := by
  funext i
  simp only [V]
  after_reads_simp
  pointwise []
  rfl

/-- After the launch the result's array holds the up product's half. -/
theorem array : (dats m 0 c).arrAt 2 cfg0.N = (DenseSpec.upHalf 0 (m ((c.tc : Thread nD τ).loc main_arg0)) (m ((c.tc : Thread nD τ).loc main_arg1)) : Vec Ideal S8192x2816 .bf16) := by
  refine (dats m 0 c).arrAt_eq_of_covers 2 _ (by decide +kernel) (fun t hf y => ?_)
  obtain ⟨a, b, rfl⟩ : ∃ a b, y = ValueIdx.ix2 (n0 := 512) (n1 := 2816) a b := ⟨_, _, ValueIdx.eq_ix2 y⟩
  have hN : cfg0.N = 16 := rfl
  have ht : t.val < 16 := t.isLt
  have he : ((cfg0.win 2).blk t).view.emb (ValueIdx.ix2 (n0 := 512) (n1 := 2816) a b)
      = ValueIdx.ix2 (n0 := 8192) (n1 := 2816) ⟨t.val * 512 + a.val, by omega⟩ b := by
    blk_ext [idx0_2]
  rw [he]
  blk_simp [idx0_2]
  rw [after0_2, outs]
  refine (pay_apply _ _ _).trans ?_
  exact Finset.sum_congr rfl fun k _ =>
    congrArg₂ (fun a b : EReal => a * b) ((blk0 m c t a k).trans (congrFun (V_left m c) _)) ((blk1 m c t b k).trans (congrFun (V_right m c) _))
end

end Cert.UpGIdeal.Gen

end
-- ==== Proof.UpUV.lean ====
/-
The linear half of the up product: what its launch leaves in the array, read entry by entry.
-/
module

public import proofs.«01_k».proof.Proof.Gen.UpUIdeal.Value
public import proofs.«01_k».proof.Proof.DenseKit

@[expose] public section

set_option maxRecDepth 16384

noncomputable section

namespace Cert.UpUIdeal.Gen

open Idealize.ShloMosaic Idealize.ShloMosaic.TcCoe Idealize.ShloMosaic.Tactic
open Idealize.SL.Sem

theorem idx0_0 : ∀ t : Fin cfg0.N, win0_0.index t = ![t.val, 0] := (by decide +kernel : ∀ t : Fin grid0.N, _)
theorem idx0_1 : ∀ t : Fin cfg0.N, win0_1.index t = ![1, 0] := (by decide +kernel : ∀ t : Fin grid0.N, _)
theorem idx0_2 : ∀ t : Fin cfg0.N, win0_2.index t = ![t.val, 0] := (by decide +kernel : ∀ t : Fin grid0.N, _)

/-- The product of two blocks: the first's rows against the second's rows. -/
def blkSum (x0 : Vec Ideal S512x1024 .bf16) (x1 : Vec Ideal S2816x1024 .bf16) (y : S512x2816.Idx) : EReal :=
  ∑ k : Fin 1024, x0 (ValueIdx.ix2 (n0 := 512) (n1 := 1024) (y 0) k) * x1 (ValueIdx.ix2 (n0 := 2816) (n1 := 1024) (y 1) k)

/-- What a point writes is the product of the two staged blocks. -/
theorem pay_apply (x0 : Vec Ideal S512x1024 .bf16) (x1 : Vec Ideal S2816x1024 .bf16) (y : S512x2816.Idx) :
    (k0_pay3 (k0_pay2 k0_pay1 x0 x1)) y = blkSum x0 x1 y := by
  pointwise [k0_pay3, k0_pay2, k0_pay1]
  rfl

section
variable (m : (ℓ : Loc nD τ sig) → Buf (Elt Ideal) ℓ) (c : Dev nD)

/-- What a point leaves in its output block. -/
theorem outs (t : Fin cfg0.N) : outsAt0 m c t = k0_pay3 (k0_pay2 k0_pay1 (iblk m c 0 t) (iblk m c 1 t)) := by
  unfold outsAt0
  frame_out

/-- A block of the left factor at its rows. -/
theorem blk0 (t : Fin cfg0.N) (i : Fin 512) (k : Fin 1024) :
    iblk m c 0 t (ValueIdx.ix2 (n0 := 512) (n1 := 1024) i k)
      = V m c main_v0 (ValueIdx.ix2 (n0 := 8192) (n1 := 1024) ⟨t.val * 512 + i.val, by have := t.isLt; have h : cfg0.N = 16 := rfl; omega⟩ k) := by
  blk_ext [iblk, V, idx0_0]

/-- The right factor's block: the rows of its half. -/
theorem blk1 (t : Fin cfg0.N) (j : Fin 2816) (k : Fin 1024) :
    iblk m c 1 t (ValueIdx.ix2 (n0 := 2816) (n1 := 1024) j k) = V m c main_v2 (ValueIdx.ix2 (n0 := 5632) (n1 := 1024) ⟨2816 + j.val, by omega⟩ k) := by
  blk_ext [iblk, V, idx0_1]

/-- The launch finds the left factor as given. -/
theorem V_left : V m c main_v0 = (m ((c.tc : Thread nD τ).loc main_arg0) : Vec Ideal S8192x1024 .f32) := by
  funext i
  simp only [V]
  after_reads_simp
  pointwise []

/-- The launch finds the right factor transposed. -/
theorem V_right : (V m c main_v2 : Vec Ideal S5632x1024 .bf16)
    = fun i => (m ((c.tc : Thread nD τ).loc main_arg1) : Vec Ideal S1024x5632 .f32) (ValueIdx.ix2 (n0 := 1024) (n1 := 5632) (i 1) (i 0)) := by
  funext i
  simp only [V]
  after_reads_simp
  pointwise []
  rfl

/-- After the launch the result's array holds the up product's half. -/
theorem array : (dats m 0 c).arrAt 2 cfg0.N = (DenseSpec.upHalf 2816 (m ((c.tc : Thread nD τ).loc main_arg0)) (m ((c.tc : Thread nD τ).loc main_arg1)) : Vec Ideal S8192x2816 .bf16) := by
  refine (dats m 0 c).arrAt_eq_of_covers 2 _ (by decide +kernel) (fun t hf y => ?_)
  obtain ⟨a, b, rfl⟩ : ∃ a b, y = ValueIdx.ix2 (n0 := 512) (n1 := 2816) a b := ⟨_, _, ValueIdx.eq_ix2 y⟩
  have hN : cfg0.N = 16 := rfl
  have ht : t.val < 16 := t.isLt
  have he : ((cfg0.win 2).blk t).view.emb (ValueIdx.ix2 (n0 := 512) (n1 := 2816) a b)
      = ValueIdx.ix2 (n0 := 8192) (n1 := 2816) ⟨t.val * 512 + a.val, by omega⟩ b := by
    blk_ext [idx0_2]
  rw [he]
  blk_simp [idx0_2]
  rw [after0_2, outs]
  refine (pay_apply _ _ _).trans ?_
  exact Finset.sum_congr rfl fun k _ =>
    congrArg₂ (fun a b : EReal => a * b) ((blk0 m c t a k).trans (congrFun (V_left m c) _)) ((blk1 m c t b k).trans (congrFun (V_right m c) _))
end

end Cert.UpUIdeal.Gen

end
-- ==== Proof.DownV.lean ====
/-
The down product: what its launch leaves in the array, read entry by entry.
-/
module

public import proofs.«01_k».proof.Proof.Gen.DownIdeal.Value
public import proofs.«01_k».proof.Proof.DenseKit

@[expose] public section

set_option maxRecDepth 16384

noncomputable section

namespace Cert.DownIdeal.Gen

open Idealize.ShloMosaic Idealize.ShloMosaic.TcCoe Idealize.ShloMosaic.Tactic
open Idealize.SL.Sem

theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![t.val, 0] := (by decide +kernel : ∀ t : Fin grid0.N, _)

/-- The product of two blocks: the first's rows against the second's columns. -/
def blkSum (x0 : Vec Ideal S512x2816 .bf16) (x1 : Vec Ideal S2816x1024 .bf16) (y : S512x1024.Idx) : EReal :=
  ∑ k : Fin 2816, x0 (ValueIdx.ix2 (n0 := 512) (n1 := 2816) (y 0) k) * x1 (ValueIdx.ix2 (n0 := 2816) (n1 := 1024) k (y 1))

/-- What a point writes is the product of the two staged blocks. -/
theorem pay_apply (x0 : Vec Ideal S512x2816 .bf16) (x1 : Vec Ideal S2816x1024 .bf16) (y : S512x1024.Idx) :
    (k0_pay2 k0_pay1 x0 x1) y = blkSum x0 x1 y := by
  pointwise [k0_pay2, k0_pay1]
  rfl

section
variable (m : (ℓ : Loc nD τ sig) → Buf (Elt Ideal) ℓ) (c : Dev nD)

/-- What a point leaves in its output block. -/
theorem outs (t : Fin cfg0.N) : outsAt0 m c t = k0_pay2 k0_pay1 (iblk m c 0 t) (iblk m c 1 t) := by
  unfold outsAt0
  frame_out

/-- A block of the left factor at its rows. -/
theorem blk0 (t : Fin cfg0.N) (i : Fin 512) (k : Fin 2816) :
    iblk m c 0 t (ValueIdx.ix2 (n0 := 512) (n1 := 2816) i k)
      = V m c main_arg0 (ValueIdx.ix2 (n0 := 8192) (n1 := 2816) ⟨t.val * 512 + i.val, by have := t.isLt; have h : cfg0.N = 16 := rfl; omega⟩ k) := by
  blk_ext [iblk, V, idx0_0]

/-- The right factor's block is the whole of it. -/
theorem blk1 (t : Fin cfg0.N) (k : Fin 2816) (j : Fin 1024) :
    iblk m c 1 t (ValueIdx.ix2 (n0 := 2816) (n1 := 1024) k j) = V m c main_v0 (ValueIdx.ix2 (n0 := 2816) (n1 := 1024) k j) := by
  blk_ext [iblk, V, idx0_1]

/-- The launch finds the right factor as given. -/
theorem V_right : V m c main_v0 = (m ((c.tc : Thread nD τ).loc main_arg1) : Vec Ideal S2816x1024 .f32) := by
  funext i
  simp only [V]
  after_reads_simp
  pointwise []

/-- After the launch the result's array holds the product. -/
theorem array : (dats m 0 c).arrAt 2 cfg0.N = (DenseSpec.mm 8192 2816 1024 (m ((c.tc : Thread nD τ).loc main_arg0)) (m ((c.tc : Thread nD τ).loc main_arg1)) : Vec Ideal S8192x1024 .f32) := by
  refine (dats m 0 c).arrAt_eq_of_covers 2 _ (by decide +kernel) (fun t hf y => ?_)
  obtain ⟨a, b, rfl⟩ : ∃ a b, y = ValueIdx.ix2 (n0 := 512) (n1 := 1024) a b := ⟨_, _, ValueIdx.eq_ix2 y⟩
  have hN : cfg0.N = 16 := rfl
  have ht : t.val < 16 := t.isLt
  have he : ((cfg0.win 2).blk t).view.emb (ValueIdx.ix2 (n0 := 512) (n1 := 1024) a b)
      = ValueIdx.ix2 (n0 := 8192) (n1 := 1024) ⟨t.val * 512 + a.val, by omega⟩ b := by
    blk_ext [idx0_2]
  rw [he]
  blk_simp [idx0_2]
  rw [after0_2, outs]
  refine (pay_apply _ _ _).trans ?_
  exact Finset.sum_congr rfl fun k _ =>
    congrArg₂ (fun a b : EReal => a * b) ((blk0 m c t a k).trans (congrFun (V_main_arg0 m c) _)) ((blk1 m c t k b).trans (congrFun (V_right m c) _))
end

end Cert.DownIdeal.Gen

end
-- ==== Proof.RetProjV.lean ====
/-
The retention's output product: what its launch leaves in the array, read entry by entry.
-/
module

public import proofs.«01_k».proof.Proof.Gen.RetProjIdeal.Value
public import proofs.«01_k».proof.Proof.DenseKit

@[expose] public section

set_option maxRecDepth 16384

noncomputable section

namespace Cert.RetProjIdeal.Gen

open Idealize.ShloMosaic Idealize.ShloMosaic.TcCoe Idealize.ShloMosaic.Tactic
open Idealize.SL.Sem

theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![t.val, 0] := (by decide +kernel : ∀ t : Fin grid0.N, _)

/-- The product of two blocks: the first's rows against the second's columns. -/
def blkSum (x0 : Vec Ideal S1024x2048 .bf16) (x1 : Vec Ideal S2048x1024 .bf16) (y : S1024x1024.Idx) : EReal :=
  ∑ k : Fin 2048, x0 (ValueIdx.ix2 (n0 := 1024) (n1 := 2048) (y 0) k) * x1 (ValueIdx.ix2 (n0 := 2048) (n1 := 1024) k (y 1))

/-- What a point writes is the product of the two staged blocks. -/
theorem pay_apply (x0 : Vec Ideal S1024x2048 .bf16) (x1 : Vec Ideal S2048x1024 .bf16) (y : S1024x1024.Idx) :
    (k0_pay3 (k0_pay2 k0_pay1 x0 x1)) y = blkSum x0 x1 y := by
  pointwise [k0_pay3, k0_pay2, k0_pay1]
  rfl

section
variable (m : (ℓ : Loc nD τ sig) → Buf (Elt Ideal) ℓ) (c : Dev nD)

/-- What a point leaves in its output block. -/
theorem outs (t : Fin cfg0.N) : outsAt0 m c t = k0_pay3 (k0_pay2 k0_pay1 (iblk m c 0 t) (iblk m c 1 t)) := by
  unfold outsAt0
  frame_out

/-- A block of the left factor at its rows. -/
theorem blk0 (t : Fin cfg0.N) (i : Fin 1024) (k : Fin 2048) :
    iblk m c 0 t (ValueIdx.ix2 (n0 := 1024) (n1 := 2048) i k)
      = V m c main_arg0 (ValueIdx.ix2 (n0 := 8192) (n1 := 2048) ⟨t.val * 1024 + i.val, by have := t.isLt; have h : cfg0.N = 8 := rfl; omega⟩ k) := by
  blk_ext [iblk, V, idx0_0]

/-- The right factor's block is the whole of it. -/
theorem blk1 (t : Fin cfg0.N) (k : Fin 2048) (j : Fin 1024) :
    iblk m c 1 t (ValueIdx.ix2 (n0 := 2048) (n1 := 1024) k j) = V m c main_v0 (ValueIdx.ix2 (n0 := 2048) (n1 := 1024) k j) := by
  blk_ext [iblk, V, idx0_1]

/-- The launch finds the right factor as given. -/
theorem V_right : V m c main_v0 = (m ((c.tc : Thread nD τ).loc main_arg1) : Vec Ideal S2048x1024 .f32) := by
  funext i
  simp only [V]
  after_reads_simp
  pointwise []

/-- After the launch the result's array holds the product. -/
theorem array : (dats m 0 c).arrAt 2 cfg0.N = (DenseSpec.mm 8192 2048 1024 (m ((c.tc : Thread nD τ).loc main_arg0)) (m ((c.tc : Thread nD τ).loc main_arg1)) : Vec Ideal S8192x1024 .bf16) := by
  refine (dats m 0 c).arrAt_eq_of_covers 2 _ (by decide +kernel) (fun t hf y => ?_)
  obtain ⟨a, b, rfl⟩ : ∃ a b, y = ValueIdx.ix2 (n0 := 1024) (n1 := 1024) a b := ⟨_, _, ValueIdx.eq_ix2 y⟩
  have hN : cfg0.N = 8 := rfl
  have ht : t.val < 8 := t.isLt
  have he : ((cfg0.win 2).blk t).view.emb (ValueIdx.ix2 (n0 := 1024) (n1 := 1024) a b)
      = ValueIdx.ix2 (n0 := 8192) (n1 := 1024) ⟨t.val * 1024 + a.val, by omega⟩ b := by
    blk_ext [idx0_2]
  rw [he]
  blk_simp [idx0_2]
  rw [after0_2, outs]
  refine (pay_apply _ _ _).trans ?_
  exact Finset.sum_congr rfl fun k _ =>
    congrArg₂ (fun a b : EReal => a * b) ((blk0 m c t a k).trans (congrFun (V_main_arg0 m c) _)) ((blk1 m c t k b).trans (congrFun (V_right m c) _))
end

end Cert.RetProjIdeal.Gen

end
-- ==== Proof.RetProjDxV.lean ====
/-
The input gradient of the retention's output product: what its launch leaves in the array, read entry by entry.
-/
module

public import proofs.«01_k».proof.Proof.Gen.RetProjDxIdeal.Value
public import proofs.«01_k».proof.Proof.DenseKit

@[expose] public section

set_option maxRecDepth 16384

noncomputable section

namespace Cert.RetProjDxIdeal.Gen

open Idealize.ShloMosaic Idealize.ShloMosaic.TcCoe Idealize.ShloMosaic.Tactic
open Idealize.SL.Sem

theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![t.val, 0] := (by decide +kernel : ∀ t : Fin grid0.N, _)

/-- The product of two blocks: the first's rows against the second's rows. -/
def blkSum (x0 : Vec Ideal S1024x1024 .bf16) (x1 : Vec Ideal S2048x1024 .bf16) (y : S1024x2048.Idx) : EReal :=
  ∑ k : Fin 1024, x0 (ValueIdx.ix2 (n0 := 1024) (n1 := 1024) (y 0) k) * x1 (ValueIdx.ix2 (n0 := 2048) (n1 := 1024) (y 1) k)

/-- What a point writes is the product of the two staged blocks. -/
theorem pay_apply (x0 : Vec Ideal S1024x1024 .bf16) (x1 : Vec Ideal S2048x1024 .bf16) (y : S1024x2048.Idx) :
    (k0_pay3 (k0_pay2 k0_pay1 x0 x1)) y = blkSum x0 x1 y := by
  pointwise [k0_pay3, k0_pay2, k0_pay1]
  rfl

section
variable (m : (ℓ : Loc nD τ sig) → Buf (Elt Ideal) ℓ) (c : Dev nD)

/-- What a point leaves in its output block. -/
theorem outs (t : Fin cfg0.N) : outsAt0 m c t = k0_pay3 (k0_pay2 k0_pay1 (iblk m c 0 t) (iblk m c 1 t)) := by
  unfold outsAt0
  frame_out

/-- A block of the left factor at its rows. -/
theorem blk0 (t : Fin cfg0.N) (i : Fin 1024) (k : Fin 1024) :
    iblk m c 0 t (ValueIdx.ix2 (n0 := 1024) (n1 := 1024) i k)
      = V m c main_arg1 (ValueIdx.ix2 (n0 := 8192) (n1 := 1024) ⟨t.val * 1024 + i.val, by have := t.isLt; have h : cfg0.N = 8 := rfl; omega⟩ k) := by
  blk_ext [iblk, V, idx0_0]

/-- The right factor's block is the whole of it. -/
theorem blk1 (t : Fin cfg0.N) (j : Fin 2048) (k : Fin 1024) :
    iblk m c 1 t (ValueIdx.ix2 (n0 := 2048) (n1 := 1024) j k) = V m c main_v0 (ValueIdx.ix2 (n0 := 2048) (n1 := 1024) j k) := by
  blk_ext [iblk, V, idx0_1]

/-- The launch finds the right factor as given. -/
theorem V_right : V m c main_v0 = (m ((c.tc : Thread nD τ).loc main_arg0) : Vec Ideal S2048x1024 .f32) := by
  funext i
  simp only [V]
  after_reads_simp
  pointwise []

/-- After the launch the result's array holds the gradient. -/
theorem array : (dats m 0 c).arrAt 2 cfg0.N = (DenseSpec.mmDx 8192 1024 2048 (m ((c.tc : Thread nD τ).loc main_arg0)) (m ((c.tc : Thread nD τ).loc main_arg1)) : Vec Ideal S8192x2048 .bf16) := by
  refine (dats m 0 c).arrAt_eq_of_covers 2 _ (by decide +kernel) (fun t hf y => ?_)
  obtain ⟨a, b, rfl⟩ : ∃ a b, y = ValueIdx.ix2 (n0 := 1024) (n1 := 2048) a b := ⟨_, _, ValueIdx.eq_ix2 y⟩
  have hN : cfg0.N = 8 := rfl
  have ht : t.val < 8 := t.isLt
  have he : ((cfg0.win 2).blk t).view.emb (ValueIdx.ix2 (n0 := 1024) (n1 := 2048) a b)
      = ValueIdx.ix2 (n0 := 8192) (n1 := 2048) ⟨t.val * 1024 + a.val, by omega⟩ b := by
    blk_ext [idx0_2]
  rw [he]
  blk_simp [idx0_2]
  rw [after0_2, outs]
  refine (pay_apply _ _ _).trans ?_
  exact Finset.sum_congr rfl fun k _ =>
    congrArg₂ (fun a b : EReal => a * b) ((blk0 m c t a k).trans (congrFun (V_main_arg1 m c) _)) ((blk1 m c t b k).trans (congrFun (V_right m c) _))
end

end Cert.RetProjDxIdeal.Gen

end
-- ==== Proof.RetProjDwV.lean ====
/-
The weight gradient of the retention's output product: what its launch leaves in the array, read entry by entry.
-/
module

public import proofs.«01_k».proof.Proof.Gen.RetProjDwIdeal.Value
public import proofs.«01_k».proof.Proof.DenseKit

@[expose] public section

set_option maxRecDepth 16384

noncomputable section

namespace Cert.RetProjDwIdeal.Gen

open Idealize.ShloMosaic Idealize.ShloMosaic.TcCoe Idealize.ShloMosaic.Tactic
open Idealize.SL.Sem

theorem idx0_0 : ∀ t : Fin cfg0.N, win0_0.index t = ![t.val % 8, t.val / 8] := (by decide +kernel : ∀ t : Fin grid0.N, _)
theorem idx0_1 : ∀ t : Fin cfg0.N, win0_1.index t = ![t.val % 8, 0] := (by decide +kernel : ∀ t : Fin grid0.N, _)
theorem idx0_2 : ∀ t : Fin cfg0.N, win0_2.index t = ![t.val / 8, 0] := (by decide +kernel : ∀ t : Fin grid0.N, _)

/-- The accumulator starts at zero. -/
theorem pay1_apply (i : S2048x1024.Idx) : k0_pay1 (F := Ideal) i = 0 := by
  pointwise [k0_pay1]

/-- The product of two blocks, summed over their rows. -/
def blkSum (x0 : Vec Ideal S1024x2048 .bf16) (x1 : Vec Ideal S1024x1024 .bf16) (y : S2048x1024.Idx) : EReal :=
  ∑ k : Fin 1024, x0 (ValueIdx.ix2 (n0 := 1024) (n1 := 2048) k (y 0)) * x1 (ValueIdx.ix2 (n0 := 1024) (n1 := 1024) k (y 1))

/-- One step adds the product of the two staged blocks. -/
theorem pay2_apply (acc : Vec Ideal S2048x1024 .f32) (x0 : Vec Ideal S1024x2048 .bf16) (x1 : Vec Ideal S1024x1024 .bf16) (y : S2048x1024.Idx) :
    k0_pay2 acc x0 x1 y = acc y + blkSum x0 x1 y := by
  pointwise [k0_pay2]
  rfl

/-- The product of two arrays, summed over their rows. -/
def rowSum (d : Vec Ideal S8192x2048 .bf16) (x : Vec Ideal S8192x1024 .bf16) (i : Fin 2048) (j : Fin 1024) : EReal :=
  ∑ r : Fin 8192, d (ValueIdx.ix2 (n0 := 8192) (n1 := 2048) r i) * x (ValueIdx.ix2 (n0 := 8192) (n1 := 1024) r j)

section
variable (m : (ℓ : Loc nD τ sig) → Buf (Elt Ideal) ℓ) (c : Dev nD)

/-- At a first step the accumulator is one product. -/
theorem acc_first (t : Fin cfg0.N) (h0 : t.val % 8 = 0) :
    (outsAt0 m c t.val t.isLt).2 = k0_pay2 k0_pay1 (iblk m c 0 t) (iblk m c 1 t) := by
  rw [outsAt0_A m c t h0 (by omega)]
  frame_out

/-- At a later step it is the step before's and one product more. -/
theorem acc_step (t : Fin cfg0.N) (h0 : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]
    frame_out
    exact congrArg (fun v => k0_pay2 v _ _) (Memref.IsWhole.read_unread _ _)
  · rw [outsAt0_B m c t h0 h1]
    frame_out
    exact congrArg (fun v => k0_pay2 v _ _) (Memref.IsWhole.read_unread _ _)

/-- At a last step the block written is the accumulator. -/
theorem out_last (t : Fin cfg0.N) (h1 : t.val % 8 = 7) : (outsAt0 m c t.val t.isLt).1 = (outsAt0 m c t.val t.isLt).2 := by
  rw [outsAt0_C m c t (by omega) h1]
  frame_out

/-- A block of the first array at its rows and columns. -/
theorem blk0 (t : Fin cfg0.N) (k : Fin 1024) (i : Fin 2048) :
    iblk m c 0 t (ValueIdx.ix2 (n0 := 1024) (n1 := 2048) k i)
      = V m c main_arg0 (ValueIdx.ix2 (n0 := 8192) (n1 := 2048) ⟨t.val % 8 * 1024 + k.val, by omega⟩ ⟨t.val / 8 * 2048 + i.val, by have := t.isLt; have h : cfg0.N = 8 := rfl; omega⟩) := by
  blk_ext [iblk, V, idx0_0]

/-- A block of the second array at its rows. -/
theorem blk1 (t : Fin cfg0.N) (k j : Fin 1024) :
    iblk m c 1 t (ValueIdx.ix2 (n0 := 1024) (n1 := 1024) k j)
      = V m c main_arg1 (ValueIdx.ix2 (n0 := 8192) (n1 := 1024) ⟨t.val % 8 * 1024 + k.val, by omega⟩ j) := by
  blk_ext [iblk, V, idx0_1]

/-- One step's addend. -/
def term (t : Fin cfg0.N) (y : S2048x1024.Idx) : EReal := blkSum (iblk m c 0 t) (iblk m c 1 t) y

theorem acc_first_apply (t : Fin cfg0.N) (h0 : t.val % 8 = 0) (y : S2048x1024.Idx) :
    (outsAt0 m c t.val t.isLt).2 y = 0 + term m c t y := by
  rw [acc_first m c t h0, pay2_apply, pay1_apply]
  rfl

theorem acc_step_apply (t : Fin cfg0.N) (h0 : ¬t.val % 8 = 0) (y : S2048x1024.Idx) :
    (outsAt0 m c t.val t.isLt).2 y = (outsAt0 m c (t.val - 1) (Nat.lt_of_le_of_lt (Nat.sub_le _ _) t.isLt)).2 y + term m c t y := by
  rw [acc_step m c t h0, pay2_apply]
  rfl

/-- At a last step the accumulator is the sum over all rows. -/
theorem acc_last (t : Fin cfg0.N) (h1 : t.val % 8 = 7) (i : Fin 2048) (j : Fin 1024) :
    (outsAt0 m c t.val t.isLt).2 (ValueIdx.ix2 (n0 := 2048) (n1 := 1024) i j)
      = rowSum (V m c main_arg0) (V m c main_arg1) ⟨t.val / 8 * 2048 + i.val, by have := t.isLt; have h : cfg0.N = 8 := rfl; omega⟩ j := by
  have e := Pipeline.eq_sum_fin_of_reset_step_apply_of_flush (fun n h => (outsAt0 m c n h).2) 8 (fun _ => (0 : EReal)) (term m c)
    (acc_first_apply m c) (acc_step_apply m c) t h1 (ValueIdx.ix2 (n0 := 2048) (n1 := 1024) i j)
  refine e.trans ((zero_add _).trans (Fin.sum_mul_add_congr (fun s k hl => ?_)))
  have hN : cfg0.N = 8 := rfl
  have ht := t.isLt
  have hs : (8 * (t.val / 8) + s.val) % 8 = s.val := by omega
  have hd : (8 * (t.val / 8) + s.val) / 8 = t.val / 8 := by omega
  refine congrArg₂ (· * ·) ((blk0 m c _ k i).trans (congrArg _ ?_)) ((blk1 m c _ k j).trans (congrArg _ ?_))
  · exact congrArg₂ (ValueIdx.ix2 (n0 := 8192) (n1 := 2048)) (Fin.ext (by dsimp only; omega)) (Fin.ext (by dsimp only; omega))
  · exact congrArg (fun r => ValueIdx.ix2 (n0 := 8192) (n1 := 1024) r j) (Fin.ext (by dsimp only; omega))

/-- After the launch the gradient's array holds the gradient. -/
theorem array : (dats m 0 c).arrAt 2 cfg0.N
    = (DenseSpec.mmDw 2048 8192 1024 (m ((c.tc : Thread nD τ).loc main_arg0)) (m ((c.tc : Thread nD τ).loc main_arg1)) : Vec Ideal S2048x1024 .f32) := by
  refine (dats m 0 c).arrAt_eq_of_covers 2 _ (by decide +kernel) (fun t hf y => ?_)
  obtain ⟨a, b, rfl⟩ : ∃ a b, y = ValueIdx.ix2 (n0 := 2048) (n1 := 1024) a b := ⟨_, _, ValueIdx.eq_ix2 y⟩
  have h1 := (flush0_2 t).mp hf
  have hN : cfg0.N = 8 := rfl
  have ht : t.val < 8 := t.isLt
  have he : ((cfg0.win 2).blk t).view.emb (ValueIdx.ix2 (n0 := 2048) (n1 := 1024) a b)
      = ValueIdx.ix2 (n0 := 2048) (n1 := 1024) ⟨t.val / 8 * 2048 + a.val, by omega⟩ b := by
    blk_ext [idx0_2]
  rw [he]
  blk_simp [idx0_2]
  rw [after0_2, out_last m c t h1]
  refine (acc_last m c t h1 a b).trans ?_
  rw [V_main_arg0, V_main_arg1]
  rfl
end

end Cert.RetProjDwIdeal.Gen

end
-- ==== Proof.AttnProjV.lean ====
/-
The attention's output product: what its launch leaves in the array, read entry by entry.
-/
module

public import proofs.«01_k».proof.Proof.Gen.AttnProjIdeal.Value
public import proofs.«01_k».proof.Proof.DenseKit

@[expose] public section

set_option maxRecDepth 16384

noncomputable section

namespace Cert.AttnProjIdeal.Gen

open Idealize.ShloMosaic Idealize.ShloMosaic.TcCoe Idealize.ShloMosaic.Tactic
open Idealize.SL.Sem

theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![t.val, 0] := (by decide +kernel : ∀ t : Fin grid0.N, _)

/-- The product of two blocks: the first's rows against the second's columns. -/
def blkSum (x0 : Vec Ideal S1024x1024 .bf16) (x1 : Vec Ideal S1024x1024 .bf16) (y : S1024x1024.Idx) : EReal :=
  ∑ k : Fin 1024, x0 (ValueIdx.ix2 (n0 := 1024) (n1 := 1024) (y 0) k) * x1 (ValueIdx.ix2 (n0 := 1024) (n1 := 1024) k (y 1))

/-- What a point writes is the product of the two staged blocks. -/
theorem pay_apply (x0 : Vec Ideal S1024x1024 .bf16) (x1 : Vec Ideal S1024x1024 .bf16) (y : S1024x1024.Idx) :
    (k0_pay3 (k0_pay2 k0_pay1 x0 x1)) y = blkSum x0 x1 y := by
  pointwise [k0_pay3, k0_pay2, k0_pay1]
  rfl

section
variable (m : (ℓ : Loc nD τ sig) → Buf (Elt Ideal) ℓ) (c : Dev nD)

/-- What a point leaves in its output block. -/
theorem outs (t : Fin cfg0.N) : outsAt0 m c t = k0_pay3 (k0_pay2 k0_pay1 (iblk m c 0 t) (iblk m c 1 t)) := by
  unfold outsAt0
  frame_out

/-- A block of the left factor at its rows. -/
theorem blk0 (t : Fin cfg0.N) (i : Fin 1024) (k : Fin 1024) :
    iblk m c 0 t (ValueIdx.ix2 (n0 := 1024) (n1 := 1024) i k)
      = V m c main_arg0 (ValueIdx.ix2 (n0 := 8192) (n1 := 1024) ⟨t.val * 1024 + i.val, by have := t.isLt; have h : cfg0.N = 8 := rfl; omega⟩ k) := by
  blk_ext [iblk, V, idx0_0]

/-- The right factor's block is the whole of it. -/
theorem blk1 (t : Fin cfg0.N) (k : Fin 1024) (j : Fin 1024) :
    iblk m c 1 t (ValueIdx.ix2 (n0 := 1024) (n1 := 1024) k j) = V m c main_v0 (ValueIdx.ix2 (n0 := 1024) (n1 := 1024) k j) := by
  blk_ext [iblk, V, idx0_1]

/-- The launch finds the right factor as given. -/
theorem V_right : V m c main_v0 = (m ((c.tc : Thread nD τ).loc main_arg1) : Vec Ideal S1024x1024 .f32) := by
  funext i
  simp only [V]
  after_reads_simp
  pointwise []

/-- After the launch the result's array holds the product. -/
theorem array : (dats m 0 c).arrAt 2 cfg0.N = (DenseSpec.mm 8192 1024 1024 (m ((c.tc : Thread nD τ).loc main_arg0)) (m ((c.tc : Thread nD τ).loc main_arg1)) : Vec Ideal S8192x1024 .bf16) := by
  refine (dats m 0 c).arrAt_eq_of_covers 2 _ (by decide +kernel) (fun t hf y => ?_)
  obtain ⟨a, b, rfl⟩ : ∃ a b, y = ValueIdx.ix2 (n0 := 1024) (n1 := 1024) a b := ⟨_, _, ValueIdx.eq_ix2 y⟩
  have hN : cfg0.N = 8 := rfl
  have ht : t.val < 8 := t.isLt
  have he : ((cfg0.win 2).blk t).view.emb (ValueIdx.ix2 (n0 := 1024) (n1 := 1024) a b)
      = ValueIdx.ix2 (n0 := 8192) (n1 := 1024) ⟨t.val * 1024 + a.val, by omega⟩ b := by
    blk_ext [idx0_2]
  rw [he]
  blk_simp [idx0_2]
  rw [after0_2, outs]
  refine (pay_apply _ _ _).trans ?_
  exact Finset.sum_congr rfl fun k _ =>
    congrArg₂ (fun a b : EReal => a * b) ((blk0 m c t a k).trans (congrFun (V_main_arg0 m c) _)) ((blk1 m c t k b).trans (congrFun (V_right m c) _))
end

end Cert.AttnProjIdeal.Gen

end
-- ==== Proof.AttnProjDxV.lean ====
/-
The input gradient of the attention's output product: what its launch leaves in the array, read entry by entry.
-/
module

public import proofs.«01_k».proof.Proof.Gen.AttnProjDxIdeal.Value
public import proofs.«01_k».proof.Proof.DenseKit

@[expose] public section

set_option maxRecDepth 16384

noncomputable section

namespace Cert.AttnProjDxIdeal.Gen

open Idealize.ShloMosaic Idealize.ShloMosaic.TcCoe Idealize.ShloMosaic.Tactic
open Idealize.SL.Sem

theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![t.val, 0] := (by decide +kernel : ∀ t : Fin grid0.N, _)

/-- The product of two blocks: the first's rows against the second's rows. -/
def blkSum (x0 : Vec Ideal S1024x1024 .bf16) (x1 : Vec Ideal S1024x1024 .bf16) (y : S1024x1024.Idx) : EReal :=
  ∑ k : Fin 1024, x0 (ValueIdx.ix2 (n0 := 1024) (n1 := 1024) (y 0) k) * x1 (ValueIdx.ix2 (n0 := 1024) (n1 := 1024) (y 1) k)

/-- What a point writes is the product of the two staged blocks. -/
theorem pay_apply (x0 : Vec Ideal S1024x1024 .bf16) (x1 : Vec Ideal S1024x1024 .bf16) (y : S1024x1024.Idx) :
    (k0_pay3 (k0_pay2 k0_pay1 x0 x1)) y = blkSum x0 x1 y := by
  pointwise [k0_pay3, k0_pay2, k0_pay1]
  rfl

section
variable (m : (ℓ : Loc nD τ sig) → Buf (Elt Ideal) ℓ) (c : Dev nD)

/-- What a point leaves in its output block. -/
theorem outs (t : Fin cfg0.N) : outsAt0 m c t = k0_pay3 (k0_pay2 k0_pay1 (iblk m c 0 t) (iblk m c 1 t)) := by
  unfold outsAt0
  frame_out

/-- A block of the left factor at its rows. -/
theorem blk0 (t : Fin cfg0.N) (i : Fin 1024) (k : Fin 1024) :
    iblk m c 0 t (ValueIdx.ix2 (n0 := 1024) (n1 := 1024) i k)
      = V m c main_arg1 (ValueIdx.ix2 (n0 := 8192) (n1 := 1024) ⟨t.val * 1024 + i.val, by have := t.isLt; have h : cfg0.N = 8 := rfl; omega⟩ k) := by
  blk_ext [iblk, V, idx0_0]

/-- The right factor's block is the whole of it. -/
theorem blk1 (t : Fin cfg0.N) (j : Fin 1024) (k : Fin 1024) :
    iblk m c 1 t (ValueIdx.ix2 (n0 := 1024) (n1 := 1024) j k) = V m c main_v0 (ValueIdx.ix2 (n0 := 1024) (n1 := 1024) j k) := by
  blk_ext [iblk, V, idx0_1]

/-- The launch finds the right factor as given. -/
theorem V_right : V m c main_v0 = (m ((c.tc : Thread nD τ).loc main_arg0) : Vec Ideal S1024x1024 .f32) := by
  funext i
  simp only [V]
  after_reads_simp
  pointwise []

/-- After the launch the result's array holds the gradient. -/
theorem array : (dats m 0 c).arrAt 2 cfg0.N = (DenseSpec.mmDx 8192 1024 1024 (m ((c.tc : Thread nD τ).loc main_arg0)) (m ((c.tc : Thread nD τ).loc main_arg1)) : Vec Ideal S8192x1024 .bf16) := by
  refine (dats m 0 c).arrAt_eq_of_covers 2 _ (by decide +kernel) (fun t hf y => ?_)
  obtain ⟨a, b, rfl⟩ : ∃ a b, y = ValueIdx.ix2 (n0 := 1024) (n1 := 1024) a b := ⟨_, _, ValueIdx.eq_ix2 y⟩
  have hN : cfg0.N = 8 := rfl
  have ht : t.val < 8 := t.isLt
  have he : ((cfg0.win 2).blk t).view.emb (ValueIdx.ix2 (n0 := 1024) (n1 := 1024) a b)
      = ValueIdx.ix2 (n0 := 8192) (n1 := 1024) ⟨t.val * 1024 + a.val, by omega⟩ b := by
    blk_ext [idx0_2]
  rw [he]
  blk_simp [idx0_2]
  rw [after0_2, outs]
  refine (pay_apply _ _ _).trans ?_
  exact Finset.sum_congr rfl fun k _ =>
    congrArg₂ (fun a b : EReal => a * b) ((blk0 m c t a k).trans (congrFun (V_main_arg1 m c) _)) ((blk1 m c t b k).trans (congrFun (V_right m c) _))
end

end Cert.AttnProjDxIdeal.Gen

end
-- ==== Proof.AttnProjDwV.lean ====
/-
The weight gradient of the attention's output product: what its launch leaves in the array, read entry by entry.
-/
module

public import proofs.«01_k».proof.Proof.Gen.AttnProjDwIdeal.Value
public import proofs.«01_k».proof.Proof.DenseKit

@[expose] public section

set_option maxRecDepth 16384

noncomputable section

namespace Cert.AttnProjDwIdeal.Gen

open Idealize.ShloMosaic Idealize.ShloMosaic.TcCoe Idealize.ShloMosaic.Tactic
open Idealize.SL.Sem

theorem idx0_0 : ∀ t : Fin cfg0.N, win0_0.index t = ![t.val % 8, t.val / 8] := (by decide +kernel : ∀ t : Fin grid0.N, _)
theorem idx0_1 : ∀ t : Fin cfg0.N, win0_1.index t = ![t.val % 8, 0] := (by decide +kernel : ∀ t : Fin grid0.N, _)
theorem idx0_2 : ∀ t : Fin cfg0.N, win0_2.index t = ![t.val / 8, 0] := (by decide +kernel : ∀ t : Fin grid0.N, _)

/-- The accumulator starts at zero. -/
theorem pay1_apply (i : S1024x1024.Idx) : k0_pay1 (F := Ideal) i = 0 := by
  pointwise [k0_pay1]

/-- The product of two blocks, summed over their rows. -/
def blkSum (x0 : Vec Ideal S1024x1024 .bf16) (x1 : Vec Ideal S1024x1024 .bf16) (y : S1024x1024.Idx) : EReal :=
  ∑ k : Fin 1024, x0 (ValueIdx.ix2 (n0 := 1024) (n1 := 1024) k (y 0)) * x1 (ValueIdx.ix2 (n0 := 1024) (n1 := 1024) k (y 1))

/-- One step adds the product of the two staged blocks. -/
theorem pay2_apply (acc : Vec Ideal S1024x1024 .f32) (x0 : Vec Ideal S1024x1024 .bf16) (x1 : Vec Ideal S1024x1024 .bf16) (y : S1024x1024.Idx) :
    k0_pay2 acc x0 x1 y = acc y + blkSum x0 x1 y := by
  pointwise [k0_pay2]
  rfl

/-- The product of two arrays, summed over their rows. -/
def rowSum (d : Vec Ideal S8192x1024 .bf16) (x : Vec Ideal S8192x1024 .bf16) (i : Fin 1024) (j : Fin 1024) : EReal :=
  ∑ r : Fin 8192, d (ValueIdx.ix2 (n0 := 8192) (n1 := 1024) r i) * x (ValueIdx.ix2 (n0 := 8192) (n1 := 1024) r j)

section
variable (m : (ℓ : Loc nD τ sig) → Buf (Elt Ideal) ℓ) (c : Dev nD)

/-- At a first step the accumulator is one product. -/
theorem acc_first (t : Fin cfg0.N) (h0 : t.val % 8 = 0) :
    (outsAt0 m c t.val t.isLt).2 = k0_pay2 k0_pay1 (iblk m c 0 t) (iblk m c 1 t) := by
  rw [outsAt0_A m c t h0 (by omega)]
  frame_out

/-- At a later step it is the step before's and one product more. -/
theorem acc_step (t : Fin cfg0.N) (h0 : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]
    frame_out
    exact congrArg (fun v => k0_pay2 v _ _) (Memref.IsWhole.read_unread _ _)
  · rw [outsAt0_B m c t h0 h1]
    frame_out
    exact congrArg (fun v => k0_pay2 v _ _) (Memref.IsWhole.read_unread _ _)

/-- At a last step the block written is the accumulator. -/
theorem out_last (t : Fin cfg0.N) (h1 : t.val % 8 = 7) : (outsAt0 m c t.val t.isLt).1 = (outsAt0 m c t.val t.isLt).2 := by
  rw [outsAt0_C m c t (by omega) h1]
  frame_out

/-- A block of the first array at its rows and columns. -/
theorem blk0 (t : Fin cfg0.N) (k : Fin 1024) (i : Fin 1024) :
    iblk m c 0 t (ValueIdx.ix2 (n0 := 1024) (n1 := 1024) k i)
      = V m c main_arg0 (ValueIdx.ix2 (n0 := 8192) (n1 := 1024) ⟨t.val % 8 * 1024 + k.val, by omega⟩ ⟨t.val / 8 * 1024 + i.val, by have := t.isLt; have h : cfg0.N = 8 := rfl; omega⟩) := by
  blk_ext [iblk, V, idx0_0]

/-- A block of the second array at its rows. -/
theorem blk1 (t : Fin cfg0.N) (k j : Fin 1024) :
    iblk m c 1 t (ValueIdx.ix2 (n0 := 1024) (n1 := 1024) k j)
      = V m c main_arg1 (ValueIdx.ix2 (n0 := 8192) (n1 := 1024) ⟨t.val % 8 * 1024 + k.val, by omega⟩ j) := by
  blk_ext [iblk, V, idx0_1]

/-- One step's addend. -/
def term (t : Fin cfg0.N) (y : S1024x1024.Idx) : EReal := blkSum (iblk m c 0 t) (iblk m c 1 t) y

theorem acc_first_apply (t : Fin cfg0.N) (h0 : t.val % 8 = 0) (y : S1024x1024.Idx) :
    (outsAt0 m c t.val t.isLt).2 y = 0 + term m c t y := by
  rw [acc_first m c t h0, pay2_apply, pay1_apply]
  rfl

theorem acc_step_apply (t : Fin cfg0.N) (h0 : ¬t.val % 8 = 0) (y : S1024x1024.Idx) :
    (outsAt0 m c t.val t.isLt).2 y = (outsAt0 m c (t.val - 1) (Nat.lt_of_le_of_lt (Nat.sub_le _ _) t.isLt)).2 y + term m c t y := by
  rw [acc_step m c t h0, pay2_apply]
  rfl

/-- At a last step the accumulator is the sum over all rows. -/
theorem acc_last (t : Fin cfg0.N) (h1 : t.val % 8 = 7) (i : Fin 1024) (j : Fin 1024) :
    (outsAt0 m c t.val t.isLt).2 (ValueIdx.ix2 (n0 := 1024) (n1 := 1024) i j)
      = rowSum (V m c main_arg0) (V m c main_arg1) ⟨t.val / 8 * 1024 + i.val, by have := t.isLt; have h : cfg0.N = 8 := rfl; omega⟩ j := by
  have e := Pipeline.eq_sum_fin_of_reset_step_apply_of_flush (fun n h => (outsAt0 m c n h).2) 8 (fun _ => (0 : EReal)) (term m c)
    (acc_first_apply m c) (acc_step_apply m c) t h1 (ValueIdx.ix2 (n0 := 1024) (n1 := 1024) i j)
  refine e.trans ((zero_add _).trans (Fin.sum_mul_add_congr (fun s k hl => ?_)))
  have hN : cfg0.N = 8 := rfl
  have ht := t.isLt
  have hs : (8 * (t.val / 8) + s.val) % 8 = s.val := by omega
  have hd : (8 * (t.val / 8) + s.val) / 8 = t.val / 8 := by omega
  refine congrArg₂ (· * ·) ((blk0 m c _ k i).trans (congrArg _ ?_)) ((blk1 m c _ k j).trans (congrArg _ ?_))
  · exact congrArg₂ (ValueIdx.ix2 (n0 := 8192) (n1 := 1024)) (Fin.ext (by dsimp only; omega)) (Fin.ext (by dsimp only; omega))
  · exact congrArg (fun r => ValueIdx.ix2 (n0 := 8192) (n1 := 1024) r j) (Fin.ext (by dsimp only; omega))

/-- After the launch the gradient's array holds the gradient. -/
theorem array : (dats m 0 c).arrAt 2 cfg0.N
    = (DenseSpec.mmDw 1024 8192 1024 (m ((c.tc : Thread nD τ).loc main_arg0)) (m ((c.tc : Thread nD τ).loc main_arg1)) : Vec Ideal S1024x1024 .f32) := by
  refine (dats m 0 c).arrAt_eq_of_covers 2 _ (by decide +kernel) (fun t hf y => ?_)
  obtain ⟨a, b, rfl⟩ : ∃ a b, y = ValueIdx.ix2 (n0 := 1024) (n1 := 1024) a b := ⟨_, _, ValueIdx.eq_ix2 y⟩
  have h1 := (flush0_2 t).mp hf
  have hN : cfg0.N = 8 := rfl
  have ht : t.val < 8 := t.isLt
  have he : ((cfg0.win 2).blk t).view.emb (ValueIdx.ix2 (n0 := 1024) (n1 := 1024) a b)
      = ValueIdx.ix2 (n0 := 1024) (n1 := 1024) ⟨t.val / 8 * 1024 + a.val, by omega⟩ b := by
    blk_ext [idx0_2]
  rw [he]
  blk_simp [idx0_2]
  rw [after0_2, out_last m c t h1]
  refine (acc_last m c t h1 a b).trans ?_
  rw [V_main_arg0, V_main_arg1]
  rfl
end

end Cert.AttnProjDwIdeal.Gen

end
-- ==== Proof.PleGateV.lean ====
/-
The embedding gate's product: what its launch leaves in the array, read entry by entry.
-/
module

public import proofs.«01_k».proof.Proof.Gen.PleGateIdeal.Value
public import proofs.«01_k».proof.Proof.DenseKit

@[expose] public section

set_option maxRecDepth 16384

noncomputable section

namespace Cert.PleGateIdeal.Gen

open Idealize.ShloMosaic Idealize.ShloMosaic.TcCoe Idealize.ShloMosaic.Tactic
open Idealize.SL.Sem

theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![t.val, 0] := (by decide +kernel : ∀ t : Fin grid0.N, _)

/-- The product of two blocks: the first's rows against the second's columns. -/
def blkSum (x0 : Vec Ideal S1024x1024 .bf16) (x1 : Vec Ideal S1024x1024 .bf16) (y : S1024x1024.Idx) : EReal :=
  ∑ k : Fin 1024, x0 (ValueIdx.ix2 (n0 := 1024) (n1 := 1024) (y 0) k) * x1 (ValueIdx.ix2 (n0 := 1024) (n1 := 1024) k (y 1))

/-- What a point writes is the product of the two staged blocks. -/
theorem pay_apply (x0 : Vec Ideal S1024x1024 .bf16) (x1 : Vec Ideal S1024x1024 .bf16) (y : S1024x1024.Idx) :
    (k0_pay2 k0_pay1 x0 x1) y = blkSum x0 x1 y := by
  pointwise [k0_pay2, k0_pay1]
  rfl

section
variable (m : (ℓ : Loc nD τ sig) → Buf (Elt Ideal) ℓ) (c : Dev nD)

/-- What a point leaves in its output block. -/
theorem outs (t : Fin cfg0.N) : outsAt0 m c t = k0_pay2 k0_pay1 (iblk m c 0 t) (iblk m c 1 t) := by
  unfold outsAt0
  frame_out

/-- A block of the left factor at its rows. -/
theorem blk0 (t : Fin cfg0.N) (i : Fin 1024) (k : Fin 1024) :
    iblk m c 0 t (ValueIdx.ix2 (n0 := 1024) (n1 := 1024) i k)
      = V m c main_v0 (ValueIdx.ix2 (n0 := 8192) (n1 := 1024) ⟨t.val * 1024 + i.val, by have := t.isLt; have h : cfg0.N = 8 := rfl; omega⟩ k) := by
  blk_ext [iblk, V, idx0_0]

/-- The right factor's block is the whole of it. -/
theorem blk1 (t : Fin cfg0.N) (k : Fin 1024) (j : Fin 1024) :
    iblk m c 1 t (ValueIdx.ix2 (n0 := 1024) (n1 := 1024) k j) = V m c main_v1 (ValueIdx.ix2 (n0 := 1024) (n1 := 1024) k j) := by
  blk_ext [iblk, V, idx0_1]

/-- The launch finds the left factor as given. -/
theorem V_left : V m c main_v0 = (m ((c.tc : Thread nD τ).loc main_arg0) : Vec Ideal S8192x1024 .f32) := by
  funext i
  simp only [V]
  after_reads_simp
  pointwise []

/-- The launch finds the right factor as given. -/
theorem V_right : V m c main_v1 = (m ((c.tc : Thread nD τ).loc main_arg1) : Vec Ideal S1024x1024 .f32) := by
  funext i
  simp only [V]
  after_reads_simp
  pointwise []

/-- After the launch the result's array holds the product. -/
theorem array : (dats m 0 c).arrAt 2 cfg0.N = (DenseSpec.mm 8192 1024 1024 (m ((c.tc : Thread nD τ).loc main_arg0)) (m ((c.tc : Thread nD τ).loc main_arg1)) : Vec Ideal S8192x1024 .f32) := by
  refine (dats m 0 c).arrAt_eq_of_covers 2 _ (by decide +kernel) (fun t hf y => ?_)
  obtain ⟨a, b, rfl⟩ : ∃ a b, y = ValueIdx.ix2 (n0 := 1024) (n1 := 1024) a b := ⟨_, _, ValueIdx.eq_ix2 y⟩
  have hN : cfg0.N = 8 := rfl
  have ht : t.val < 8 := t.isLt
  have he : ((cfg0.win 2).blk t).view.emb (ValueIdx.ix2 (n0 := 1024) (n1 := 1024) a b)
      = ValueIdx.ix2 (n0 := 8192) (n1 := 1024) ⟨t.val * 1024 + a.val, by omega⟩ b := by
    blk_ext [idx0_2]
  rw [he]
  blk_simp [idx0_2]
  rw [after0_2, outs]
  refine (pay_apply _ _ _).trans ?_
  exact Finset.sum_congr rfl fun k _ =>
    congrArg₂ (fun a b : EReal => a * b) ((blk0 m c t a k).trans (congrFun (V_left m c) _)) ((blk1 m c t k b).trans (congrFun (V_right m c) _))
end

end Cert.PleGateIdeal.Gen

end
-- ==== Proof.PleGateDxV.lean ====
/-
The input gradient of the embedding gate's product: what its launch leaves in the array, read entry by entry.
-/
module

public import proofs.«01_k».proof.Proof.Gen.PleGateDxIdeal.Value
public import proofs.«01_k».proof.Proof.DenseKit

@[expose] public section

set_option maxRecDepth 16384

noncomputable section

namespace Cert.PleGateDxIdeal.Gen

open Idealize.ShloMosaic Idealize.ShloMosaic.TcCoe Idealize.ShloMosaic.Tactic
open Idealize.SL.Sem

theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![t.val, 0] := (by decide +kernel : ∀ t : Fin grid0.N, _)
theorem idx0_3 : ∀ t : Fin cfg0.N, win0_3.index t = ![t.val, 0] := (by decide +kernel : ∀ t : Fin grid0.N, _)

/-- The product of two blocks: the first's rows against the second's rows. -/
def blkSum (x0 : Vec Ideal S1024x1024 .bf16) (x1 : Vec Ideal S1024x1024 .bf16) (y : S1024x1024.Idx) : EReal :=
  ∑ k : Fin 1024, x0 (ValueIdx.ix2 (n0 := 1024) (n1 := 1024) (y 0) k) * x1 (ValueIdx.ix2 (n0 := 1024) (n1 := 1024) (y 1) k)

/-- What a point writes is the product of the two staged blocks and the third. -/
theorem pay_apply (x0 : Vec Ideal S1024x1024 .bf16) (x1 : Vec Ideal S1024x1024 .bf16) (x2 : Vec Ideal S1024x1024 .f32) (y : S1024x1024.Idx) :
    (k0_pay3 (k0_pay2 k0_pay1 x0 x1) x2) y = blkSum x0 x1 y + 1 * x2 y := by
  pointwise [k0_pay3, k0_pay2, k0_pay1]
  rfl

section
variable (m : (ℓ : Loc nD τ sig) → Buf (Elt Ideal) ℓ) (c : Dev nD)

/-- What a point leaves in its output block. -/
theorem outs (t : Fin cfg0.N) : outsAt0 m c t = k0_pay3 (k0_pay2 k0_pay1 (iblk m c 0 t) (iblk m c 1 t)) (iblk m c 2 t) := by
  unfold outsAt0
  frame_out

/-- A block of the left factor at its rows. -/
theorem blk0 (t : Fin cfg0.N) (i : Fin 1024) (k : Fin 1024) :
    iblk m c 0 t (ValueIdx.ix2 (n0 := 1024) (n1 := 1024) i k)
      = V m c main_arg1 (ValueIdx.ix2 (n0 := 8192) (n1 := 1024) ⟨t.val * 1024 + i.val, by have := t.isLt; have h : cfg0.N = 8 := rfl; omega⟩ k) := by
  blk_ext [iblk, V, idx0_0]

/-- The right factor's block is the whole of it. -/
theorem blk1 (t : Fin cfg0.N) (j : Fin 1024) (k : Fin 1024) :
    iblk m c 1 t (ValueIdx.ix2 (n0 := 1024) (n1 := 1024) j k) = V m c main_v0 (ValueIdx.ix2 (n0 := 1024) (n1 := 1024) j k) := by
  blk_ext [iblk, V, idx0_1]

/-- A block of the added array at its rows. -/
theorem blk2 (t : Fin cfg0.N) (i : Fin 1024) (j : Fin 1024) :
    iblk m c 2 t (ValueIdx.ix2 (n0 := 1024) (n1 := 1024) i j)
      = V m c main_arg2 (ValueIdx.ix2 (n0 := 8192) (n1 := 1024) ⟨t.val * 1024 + i.val, by have := t.isLt; have h : cfg0.N = 8 := rfl; omega⟩ j) := by
  blk_ext [iblk, V, idx0_2]

/-- The launch finds the right factor as given. -/
theorem V_right : V m c main_v0 = (m ((c.tc : Thread nD τ).loc main_arg0) : Vec Ideal S1024x1024 .f32) := by
  funext i
  simp only [V]
  after_reads_simp
  pointwise []

/-- After the launch the result's array holds the gradient. -/
theorem array : (dats m 0 c).arrAt 3 cfg0.N = (DenseSpec.mmDxAdd 8192 1024 1024 (m ((c.tc : Thread nD τ).loc main_arg0)) (m ((c.tc : Thread nD τ).loc main_arg1)) (m ((c.tc : Thread nD τ).loc main_arg2)) : Vec Ideal S8192x1024 .f32) := by
  refine (dats m 0 c).arrAt_eq_of_covers 3 _ (by decide +kernel) (fun t hf y => ?_)
  obtain ⟨a, b, rfl⟩ : ∃ a b, y = ValueIdx.ix2 (n0 := 1024) (n1 := 1024) a b := ⟨_, _, ValueIdx.eq_ix2 y⟩
  have hN : cfg0.N = 8 := rfl
  have ht : t.val < 8 := t.isLt
  have he : ((cfg0.win 3).blk t).view.emb (ValueIdx.ix2 (n0 := 1024) (n1 := 1024) a b)
      = ValueIdx.ix2 (n0 := 8192) (n1 := 1024) ⟨t.val * 1024 + a.val, by omega⟩ b := by
    blk_ext [idx0_3]
  rw [he]
  blk_simp [idx0_3]
  rw [after0_3, outs]
  refine (pay_apply _ _ _ _).trans ?_
  rw [blk2, V_main_arg2]
  exact congrArg (· + _) (Finset.sum_congr rfl fun k _ =>
    congrArg₂ (fun a b : EReal => a * b) ((blk0 m c t a k).trans (congrFun (V_main_arg1 m c) _)) ((blk1 m c t b k).trans (congrFun (V_right m c) _)))
end

end Cert.PleGateDxIdeal.Gen

end
-- ==== Proof.PleGateDwV.lean ====
/-
The weight gradient of the embedding gate's product: what its launch leaves in the array, read entry by entry.
-/
module

public import proofs.«01_k».proof.Proof.Gen.PleGateDwIdeal.Value
public import proofs.«01_k».proof.Proof.DenseKit

@[expose] public section

set_option maxRecDepth 16384

noncomputable section

namespace Cert.PleGateDwIdeal.Gen

open Idealize.ShloMosaic Idealize.ShloMosaic.TcCoe Idealize.ShloMosaic.Tactic
open Idealize.SL.Sem

theorem idx0_0 : ∀ t : Fin cfg0.N, win0_0.index t = ![t.val % 8, t.val / 8] := (by decide +kernel : ∀ t : Fin grid0.N, _)
theorem idx0_1 : ∀ t : Fin cfg0.N, win0_1.index t = ![t.val % 8, 0] := (by decide +kernel : ∀ t : Fin grid0.N, _)
theorem idx0_2 : ∀ t : Fin cfg0.N, win0_2.index t = ![t.val / 8, 0] := (by decide +kernel : ∀ t : Fin grid0.N, _)

/-- The accumulator starts at zero. -/
theorem pay1_apply (i : S1024x1024.Idx) : k0_pay1 (F := Ideal) i = 0 := by
  pointwise [k0_pay1]

/-- The product of two blocks, summed over their rows. -/
def blkSum (x0 : Vec Ideal S1024x1024 .bf16) (x1 : Vec Ideal S1024x1024 .bf16) (y : S1024x1024.Idx) : EReal :=
  ∑ k : Fin 1024, x0 (ValueIdx.ix2 (n0 := 1024) (n1 := 1024) k (y 0)) * x1 (ValueIdx.ix2 (n0 := 1024) (n1 := 1024) k (y 1))

/-- One step adds the product of the two staged blocks. -/
theorem pay2_apply (acc : Vec Ideal S1024x1024 .f32) (x0 : Vec Ideal S1024x1024 .bf16) (x1 : Vec Ideal S1024x1024 .bf16) (y : S1024x1024.Idx) :
    k0_pay2 acc x0 x1 y = acc y + blkSum x0 x1 y := by
  pointwise [k0_pay2]
  rfl

/-- The product of two arrays, summed over their rows. -/
def rowSum (d : Vec Ideal S8192x1024 .bf16) (x : Vec Ideal S8192x1024 .bf16) (i : Fin 1024) (j : Fin 1024) : EReal :=
  ∑ r : Fin 8192, d (ValueIdx.ix2 (n0 := 8192) (n1 := 1024) r i) * x (ValueIdx.ix2 (n0 := 8192) (n1 := 1024) r j)

section
variable (m : (ℓ : Loc nD τ sig) → Buf (Elt Ideal) ℓ) (c : Dev nD)

/-- At a first step the accumulator is one product. -/
theorem acc_first (t : Fin cfg0.N) (h0 : t.val % 8 = 0) :
    (outsAt0 m c t.val t.isLt).2 = k0_pay2 k0_pay1 (iblk m c 0 t) (iblk m c 1 t) := by
  rw [outsAt0_A m c t h0 (by omega)]
  frame_out

/-- At a later step it is the step before's and one product more. -/
theorem acc_step (t : Fin cfg0.N) (h0 : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]
    frame_out
    exact congrArg (fun v => k0_pay2 v _ _) (Memref.IsWhole.read_unread _ _)
  · rw [outsAt0_B m c t h0 h1]
    frame_out
    exact congrArg (fun v => k0_pay2 v _ _) (Memref.IsWhole.read_unread _ _)

/-- At a last step the block written is the accumulator. -/
theorem out_last (t : Fin cfg0.N) (h1 : t.val % 8 = 7) : (outsAt0 m c t.val t.isLt).1 = (outsAt0 m c t.val t.isLt).2 := by
  rw [outsAt0_C m c t (by omega) h1]
  frame_out

/-- A block of the first array at its rows and columns. -/
theorem blk0 (t : Fin cfg0.N) (k : Fin 1024) (i : Fin 1024) :
    iblk m c 0 t (ValueIdx.ix2 (n0 := 1024) (n1 := 1024) k i)
      = V m c main_v0 (ValueIdx.ix2 (n0 := 8192) (n1 := 1024) ⟨t.val % 8 * 1024 + k.val, by omega⟩ ⟨t.val / 8 * 1024 + i.val, by have := t.isLt; have h : cfg0.N = 8 := rfl; omega⟩) := by
  blk_ext [iblk, V, idx0_0]

/-- A block of the second array at its rows. -/
theorem blk1 (t : Fin cfg0.N) (k j : Fin 1024) :
    iblk m c 1 t (ValueIdx.ix2 (n0 := 1024) (n1 := 1024) k j)
      = V m c main_arg1 (ValueIdx.ix2 (n0 := 8192) (n1 := 1024) ⟨t.val % 8 * 1024 + k.val, by omega⟩ j) := by
  blk_ext [iblk, V, idx0_1]

/-- One step's addend. -/
def term (t : Fin cfg0.N) (y : S1024x1024.Idx) : EReal := blkSum (iblk m c 0 t) (iblk m c 1 t) y

theorem acc_first_apply (t : Fin cfg0.N) (h0 : t.val % 8 = 0) (y : S1024x1024.Idx) :
    (outsAt0 m c t.val t.isLt).2 y = 0 + term m c t y := by
  rw [acc_first m c t h0, pay2_apply, pay1_apply]
  rfl

theorem acc_step_apply (t : Fin cfg0.N) (h0 : ¬t.val % 8 = 0) (y : S1024x1024.Idx) :
    (outsAt0 m c t.val t.isLt).2 y = (outsAt0 m c (t.val - 1) (Nat.lt_of_le_of_lt (Nat.sub_le _ _) t.isLt)).2 y + term m c t y := by
  rw [acc_step m c t h0, pay2_apply]
  rfl

/-- At a last step the accumulator is the sum over all rows. -/
theorem acc_last (t : Fin cfg0.N) (h1 : t.val % 8 = 7) (i : Fin 1024) (j : Fin 1024) :
    (outsAt0 m c t.val t.isLt).2 (ValueIdx.ix2 (n0 := 1024) (n1 := 1024) i j)
      = rowSum (V m c main_v0) (V m c main_arg1) ⟨t.val / 8 * 1024 + i.val, by have := t.isLt; have h : cfg0.N = 8 := rfl; omega⟩ j := by
  have e := Pipeline.eq_sum_fin_of_reset_step_apply_of_flush (fun n h => (outsAt0 m c n h).2) 8 (fun _ => (0 : EReal)) (term m c)
    (acc_first_apply m c) (acc_step_apply m c) t h1 (ValueIdx.ix2 (n0 := 1024) (n1 := 1024) i j)
  refine e.trans ((zero_add _).trans (Fin.sum_mul_add_congr (fun s k hl => ?_)))
  have hN : cfg0.N = 8 := rfl
  have ht := t.isLt
  have hs : (8 * (t.val / 8) + s.val) % 8 = s.val := by omega
  have hd : (8 * (t.val / 8) + s.val) / 8 = t.val / 8 := by omega
  refine congrArg₂ (· * ·) ((blk0 m c _ k i).trans (congrArg _ ?_)) ((blk1 m c _ k j).trans (congrArg _ ?_))
  · exact congrArg₂ (ValueIdx.ix2 (n0 := 8192) (n1 := 1024)) (Fin.ext (by dsimp only; omega)) (Fin.ext (by dsimp only; omega))
  · exact congrArg (fun r => ValueIdx.ix2 (n0 := 8192) (n1 := 1024) r j) (Fin.ext (by dsimp only; omega))

/-- The launch finds the left factor as given. -/
theorem V_left : V m c main_v0 = (m ((c.tc : Thread nD τ).loc main_arg0) : Vec Ideal S8192x1024 .f32) := by
  funext i
  simp only [V]
  after_reads_simp
  pointwise []

/-- After the launch the gradient's array holds the gradient. -/
theorem array : (dats m 0 c).arrAt 2 cfg0.N
    = (DenseSpec.mmDw 1024 8192 1024 (m ((c.tc : Thread nD τ).loc main_arg0)) (m ((c.tc : Thread nD τ).loc main_arg1)) : Vec Ideal S1024x1024 .f32) := by
  refine (dats m 0 c).arrAt_eq_of_covers 2 _ (by decide +kernel) (fun t hf y => ?_)
  obtain ⟨a, b, rfl⟩ : ∃ a b, y = ValueIdx.ix2 (n0 := 1024) (n1 := 1024) a b := ⟨_, _, ValueIdx.eq_ix2 y⟩
  have h1 := (flush0_2 t).mp hf
  have hN : cfg0.N = 8 := rfl
  have ht : t.val < 8 := t.isLt
  have he : ((cfg0.win 2).blk t).view.emb (ValueIdx.ix2 (n0 := 1024) (n1 := 1024) a b)
      = ValueIdx.ix2 (n0 := 1024) (n1 := 1024) ⟨t.val / 8 * 1024 + a.val, by omega⟩ b := by
    blk_ext [idx0_2]
  rw [he]
  blk_simp [idx0_2]
  rw [after0_2, out_last m c t h1]
  refine (acc_last m c t h1 a b).trans ?_
  rw [V_left, V_main_arg1]
  rfl
end

end Cert.PleGateDwIdeal.Gen

end
-- ==== Proof.ProjRef.lean ====
/-
The reference of the projection: its run, and its result read entry by entry.
-/
module

public import proofs.«01_k».proof.Proof.Gen.ProjRefIdeal
public import proofs.«01_k».proof.Proof.DenseKit

@[expose] public section

set_option maxRecDepth 16384

noncomputable section

namespace Cert.ProjRefIdeal.Gen

open Idealize.ShloMosaic Idealize.ShloMosaic.TcCoe Idealize.ShloMosaic.Tactic Idealize.ShloMosaic.StableHlo
open Idealize.SL.Sem

section
variable {F : FTy → Type} [FloatOps F]
/-- The program's operations in order. -/
abbrev ops : List (HloOp τ sig (Elt F)) :=
  [ binary main_arg0 main_arg1 main_v0 ((fun l r => Host.dotGeneral dot_S8192x1024_S1024x17408_S8192x17408_1_0_0_1_n_n none l r) : HArr F S8192x1024 .f32 → HArr F S1024x17408 .f32 → HArr F S8192x17408 .f32),
    unary main_v0 main_v1 ((extractStridedSlice S8192x8192 ![0, 9216] · slices_S8192x17408_S8192x8192_0_9216) : HArr F S8192x17408 .f32 → HArr F S8192x8192 .f32),
    unary main_v1 main_v2 ((truncf .bf16 · bitsLt_bf16_f32) : HArr F S8192x8192 .f32 → HArr F S8192x8192 .bf16) ]

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., unary_bufs_sub .., unary_bufs_sub ..⟩
end

/-- There is no semaphore. -/
theorem no_sem : ∀ sm : SemLoc sig, False := by decide

/-- The reference's reading of an entry is the specification's. -/
theorem entry_eq (x : Vec Ideal S8192x1024 .f32) (w : Vec Ideal S1024x17408 .f32) (i : S8192x8192.Idx) (h : 9216 + (i 1).val < 17408) :
    (∑ k : Fin 1024, x (ix2 (n0 := 8192) (n1 := 1024) (i 0) k) * w (ix2 (n0 := 1024) (n1 := 17408) k ⟨9216 + (i 1).val, h⟩)) = ProjSpec.fwdOf x w i := by
  rw [ProjSpec.fwdOf]
  rfl

/-- The result, read entry by entry: the projection's rest columns. -/
theorem result (V : Valuation τ sig (Elt Ideal)) : after ops V (Proc.devRef .tc main_v2)
    = (ProjSpec.fwdOf (V (Proc.devRef .tc main_arg0)) (V (Proc.devRef .tc main_arg1)) : Vec Ideal S8192x8192 .bf16) := by
  funext i
  after_reads_simp
  pointwise []
  exact entry_eq _ _ i _

variable (m : (ℓ : Loc nD τ sig) → Buf (Elt Ideal) ℓ) (ρ : Dev nD → PrngReg)

/-- The reference's run: its result, its arguments unchanged, every counter zero. -/
theorem run : θ_run defs (onTc (τ := τ) (main (F := Ideal))) ⟨m, fun _ => 0, ρ⟩ fun r => (∀ c : Dev nD,
      r.2.mem ((c.tc : Thread nD τ).loc main_v2) = (ProjSpec.fwdOf (m ((c.tc : Thread nD τ).loc main_arg0)) (m ((c.tc : Thread nD τ).loc main_arg1)) : Vec Ideal _ _)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun _ h => ⟨fun c => ⟨(h c _).trans (result (launchContents m c)), (h c main_arg0).trans (by after_reads_simp), (h c main_arg1).trans (by after_reads_simp)⟩,
      funext fun g => (no_sem g.2).elim⟩)
    (run_seq scopedRefs_eq scopedSems_eq defs main (fun _ => ops) main_eq (fun _ => ops_sub) m ρ)

end Cert.ProjRefIdeal.Gen

end
-- ==== Proof.ProjDwRef.lean ====
/-
The reference of the projection's weight gradient: its run, and its result read entry by entry.
-/
module

public import proofs.«01_k».proof.Proof.Gen.ProjDwRefIdeal
public import proofs.«01_k».proof.Proof.DenseKit

@[expose] public section

set_option maxRecDepth 16384

noncomputable section

namespace Cert.ProjDwRefIdeal.Gen

open Idealize.ShloMosaic Idealize.ShloMosaic.TcCoe Idealize.ShloMosaic.Tactic Idealize.ShloMosaic.StableHlo
open Idealize.SL.Sem

section
variable {F : FTy → Type} [FloatOps F]
/-- The program's operations in order. -/
abbrev ops : List (HloOp τ sig (Elt F)) :=
  [ nullary main_cst (constant S_ .f32 0x00000000#32),
    unary main_cst main_v0 (broadcastInDim S1024x17408 ![] bcast_S_S1024x17408 : HArr F S_ .f32 → HArr F S1024x17408 .f32),
    binary main_arg0 main_v0 main_v1 ((fun l r => Host.dotGeneral dot_S8192x1024_S1024x17408_S8192x17408_1_0_0_1_n_n none l r) : HArr F S8192x1024 .f32 → HArr F S1024x17408 .f32 → HArr F S8192x17408 .f32),
    unary main_v1 main_v2 ((extractStridedSlice S8192x8192 ![0, 9216] · slices_S8192x17408_S8192x8192_0_9216) : HArr F S8192x17408 .f32 → HArr F S8192x8192 .f32),
    unary main_arg1 main_v3 ((extf .f32 · bitsLt_bf16_f32) : HArr F S8192x8192 .bf16 → HArr F S8192x8192 .f32),
    nullary main_cst_0 (constant S_ .f32 0x00000000#32),
    binary main_v3 main_cst_0 main_v4 ((fun x v => pad S8192x17408 ![0, 9216] ![0, 0] ![0, 0] x v pads_S8192x8192_S8192x17408_000_921600 h_S_) : HArr F S8192x8192 .f32 → HArr F S_ .f32 → HArr F S8192x17408 .f32),
    binary main_v4 main_arg0 main_v5 ((fun l r => Host.dotGeneral dot_S8192x17408_S8192x1024_S17408x1024_0_0_1_1_n_n none l r) : HArr F S8192x17408 .f32 → HArr F S8192x1024 .f32 → HArr F S17408x1024 .f32),
    unary main_v5 main_v6 ((transpose S1024x17408 [1, 0] · transposes_S17408x1024_S1024x17408_1_0) : HArr F S17408x1024 .f32 → HArr F S1024x17408 .f32),
    unary main_arg2 main_v7 ((extractStridedSlice S9x8x128x1024 ![0, 0, 0, 0] · slices_S17x8x128x1024_S9x8x128x1024_0_0_0_0) : HArr F S17x8x128x1024 .f32 → HArr F S9x8x128x1024 .f32),
    unary main_v6 main_v8 ((transpose S17408x1024 [1, 0] · transposes_S1024x17408_S17408x1024_1_0) : HArr F S1024x17408 .f32 → HArr F S17408x1024 .f32),
    unary main_v8 main_v9 ((extractStridedSlice S8192x1024 ![9216, 0] · slices_S17408x1024_S8192x1024_9216_0) : HArr F S17408x1024 .f32 → HArr F S8192x1024 .f32),
    reshape main_v9 main_v10 (rfl : (.f32 : EltTy) = .f32) shapeCasts_S8192x1024_S8x8x128x1024,
    binary main_v7 main_v10 main_v11 ((fun a b => concatenate S17x8x128x1024 0 [⟨S9x8x128x1024, a⟩, ⟨S8x8x128x1024, b⟩] concatenates_S9x8x128x1024_S8x8x128x1024_S17x8x128x1024_d0) : HArr F S9x8x128x1024 .f32 → HArr F S8x8x128x1024 .f32 → HArr F S17x8x128x1024 .f32) ]

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by
  simp only [List.Forall, binary_bufs_sub, nullary_bufs_sub, reshape_bufs_sub, unary_bufs_sub, and_self]
end

/-- There is no semaphore. -/
theorem no_sem : ∀ sm : SemLoc sig, False := by decide

/-- The reference's reading of an entry is the specification's. -/
theorem entry_eq (x : Vec Ideal S8192x1024 .f32) (d : Vec Ideal S8192x8192 .bf16) (g : Vec Ideal S17x8x128x1024 .f32) (i : S17x8x128x1024.Idx) :
    (if h : (i 0).val < 9 then g i
      else ∑ r : Fin 8192, (if h1 : ((i 0).val - 9) * 1024 + (i 1).val * 128 + (i 2).val < 8192 then
        d (ix2 (n0 := 8192) (n1 := 8192) r ⟨((i 0).val - 9) * 1024 + (i 1).val * 128 + (i 2).val, h1⟩) else 0) * x (ix2 (n0 := 8192) (n1 := 1024) r (i 3)))
      = ProjSpec.dwOf x d g i := by
  have h0 : (i 0).val < 17 := (i 0).isLt
  have h1 : (i 1).val < 8 := (i 1).isLt
  have h2 : (i 2).val < 128 := (i 2).isLt
  rw [ProjSpec.dwOf]
  by_cases h : (i 0).val < 9
  · rw [dif_pos h, dif_neg (by omega)]
  · rw [dif_neg h, dif_pos (by omega)]
    refine Finset.sum_congr rfl fun r _ => ?_
    rw [dif_pos (by omega)]
    rfl

/-- The result, read entry by entry: the projection's weight gradient. -/
theorem result (V : Valuation τ sig (Elt Ideal)) : after ops V (Proc.devRef .tc main_v11)
    = (ProjSpec.dwOf (V (Proc.devRef .tc main_arg0)) (V (Proc.devRef .tc main_arg1)) (V (Proc.devRef .tc main_arg2)) : Vec Ideal S17x8x128x1024 .f32) := by
  funext i
  after_reads_simp
  pointwise []
  exact entry_eq _ _ _ i

variable (m : (ℓ : Loc nD τ sig) → Buf (Elt Ideal) ℓ) (ρ : Dev nD → PrngReg)

/-- The reference's run: its result, its arguments unchanged, every counter zero. -/
theorem run : θ_run defs (onTc (τ := τ) (main (F := Ideal))) ⟨m, fun _ => 0, ρ⟩ fun r => (∀ c : Dev nD,
      r.2.mem ((c.tc : Thread nD τ).loc main_v11) = (ProjSpec.dwOf (m ((c.tc : Thread nD τ).loc main_arg0)) (m ((c.tc : Thread nD τ).loc main_arg1)) (m ((c.tc : Thread nD τ).loc main_arg2)) : Vec Ideal _ _)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun _ h => ⟨fun c => ⟨(h c _).trans (result (launchContents m c)), (h c main_arg0).trans (by after_reads_simp), (h c main_arg1).trans (by after_reads_simp), (h c main_arg2).trans (by after_reads_simp)⟩,
      funext fun g => (no_sem g.2).elim⟩)
    (run_seq scopedRefs_eq scopedSems_eq defs main (fun _ => ops) main_eq (fun _ => ops_sub) m ρ)

end Cert.ProjDwRefIdeal.Gen

end
-- ==== Proof.ProjDxRef.lean ====
/-
The reference of the projection's input gradient: its run, and its result read entry by entry.
-/
module

public import proofs.«01_k».proof.Proof.Gen.ProjDxRefIdeal
public import proofs.«01_k».proof.Proof.DenseKit

@[expose] public section

set_option maxRecDepth 16384

noncomputable section

namespace Cert.ProjDxRefIdeal.Gen

open Idealize.ShloMosaic Idealize.ShloMosaic.TcCoe Idealize.ShloMosaic.Tactic Idealize.ShloMosaic.StableHlo
open Idealize.SL.Sem

section
variable {F : FTy → Type} [FloatOps F]
/-- The program's operations in order. -/
abbrev ops : List (HloOp τ sig (Elt F)) :=
  [ nullary main_cst (constant S_ .f32 0x00000000#32),
    unary main_cst main_v0 (broadcastInDim S8192x1024 ![] bcast_S_S8192x1024 : HArr F S_ .f32 → HArr F S8192x1024 .f32),
    nullary main_cst_0 (constant S_ .f32 0x3FB504F3#32),
    unary main_cst_0 main_v1 (broadcastInDim S8192x1024 ![] bcast_S_S8192x1024 : HArr F S_ .f32 → HArr F S8192x1024 .f32),
    binary main_v1 main_v0 main_v2 (mulf : HArr F S8192x1024 .f32 → HArr F S8192x1024 .f32 → HArr F S8192x1024 .f32),
    binary main_v0 main_arg0 main_v3 ((fun l r => Host.dotGeneral dot_S8192x1024_S1024x17408_S8192x17408_1_0_0_1_n_n none l r) : HArr F S8192x1024 .f32 → HArr F S1024x17408 .f32 → HArr F S8192x17408 .f32),
    unary main_v3 main_v4 ((extractStridedSlice S8192x8192 ![0, 9216] · slices_S8192x17408_S8192x8192_0_9216) : HArr F S8192x17408 .f32 → HArr F S8192x8192 .f32),
    unary main_arg1 main_v5 ((extf .f32 · bitsLt_bf16_f32) : HArr F S8192x8192 .bf16 → HArr F S8192x8192 .f32),
    nullary main_cst_1 (constant S_ .f32 0x00000000#32),
    binary main_v5 main_cst_1 main_v6 ((fun x v => pad S8192x17408 ![0, 9216] ![0, 0] ![0, 0] x v pads_S8192x8192_S8192x17408_000_921600 h_S_) : HArr F S8192x8192 .f32 → HArr F S_ .f32 → HArr F S8192x17408 .f32),
    binary main_v6 main_arg0 main_v7 ((fun l r => Host.dotGeneral dot_S8192x17408_S1024x17408_S8192x1024_1_1_0_0_n_n none l r) : HArr F S8192x17408 .f32 → HArr F S1024x17408 .f32 → HArr F S8192x1024 .f32),
    nullary main_cst_2 (constant S_ .f32 0x3FB504F3#32),
    unary main_cst_2 main_v8 (broadcastInDim S8192x1024 ![] bcast_S_S8192x1024 : HArr F S_ .f32 → HArr F S8192x1024 .f32),
    binary main_v8 main_arg2 main_v9 (mulf : HArr F S8192x1024 .f32 → HArr F S8192x1024 .f32 → HArr F S8192x1024 .f32),
    binary main_v7 main_v9 main_v10 (addf : HArr F S8192x1024 .f32 → HArr F S8192x1024 .f32 → HArr F S8192x1024 .f32) ]

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by
  simp only [List.Forall, binary_bufs_sub, nullary_bufs_sub, unary_bufs_sub, and_self]
end

/-- There is no semaphore. -/
theorem no_sem : ∀ sm : SemLoc sig, False := by decide

/-- The scale of the residual, as both programs write it. -/
abbrev scale : EReal := Ideal.ofBits .f32 0x3FB504F3#32

/-- The reference's reading of an entry is the specification's: of the padded cotangent only the columns from 9216 on count. -/
theorem entry_eq (a : EReal) (w : Vec Ideal S1024x17408 .f32) (d : Vec Ideal S8192x8192 .bf16) (h : Vec Ideal S8192x1024 .f32) (i : S8192x1024.Idx) :
    (∑ x : Fin 17408, (if hx : 9216 ≤ x.val ∧ x.val - 9216 < 8192 then d (ix2 (n0 := 8192) (n1 := 8192) (i 0) ⟨x.val - 9216, hx.2⟩) else 0)
        * w (ix2 (n0 := 1024) (n1 := 17408) (i 1) x)) + a * h i = ProjSpec.dxOf a w d h i := by
  rw [ProjSpec.dxOf]
  refine congrArg (· + a * h i) ((FinSumWindow.sum_window (W := 8192) 9216 (by omega) _ fun x hx => ?_).trans (Finset.sum_congr rfl fun k _ => ?_))
  · rw [dif_neg (by omega), zero_mul]
  · rw [dif_pos (by dsimp only; omega)]
    refine congrArg (· * _) (congrArg d (congrArg (ix2 (n0 := 8192) (n1 := 8192) (i 0)) (Fin.ext ?_)))
    show 9216 + k.val - 9216 = k.val
    omega

/-- The result, read entry by entry: the input's gradient and the residual's. -/
theorem result (V : Valuation τ sig (Elt Ideal)) : after ops V (Proc.devRef .tc main_v10)
    = (ProjSpec.dxOf scale (V (Proc.devRef .tc main_arg0)) (V (Proc.devRef .tc main_arg1)) (V (Proc.devRef .tc main_arg2)) : Vec Ideal S8192x1024 .f32) := by
  funext i
  after_reads_simp
  pointwise []
  exact entry_eq _ _ _ _ i

variable (m : (ℓ : Loc nD τ sig) → Buf (Elt Ideal) ℓ) (ρ : Dev nD → PrngReg)

/-- The reference's run: its result, its arguments unchanged, every counter zero. -/
theorem run : θ_run defs (onTc (τ := τ) (main (F := Ideal))) ⟨m, fun _ => 0, ρ⟩ fun r => (∀ c : Dev nD,
      r.2.mem ((c.tc : Thread nD τ).loc main_v10) = (ProjSpec.dxOf scale (m ((c.tc : Thread nD τ).loc main_arg0)) (m ((c.tc : Thread nD τ).loc main_arg1)) (m ((c.tc : Thread nD τ).loc main_arg2)) : Vec Ideal _ _)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun _ h => ⟨fun c => ⟨(h c _).trans (result (launchContents m c)), (h c main_arg0).trans (by after_reads_simp), (h c main_arg1).trans (by after_reads_simp), (h c main_arg2).trans (by after_reads_simp), (h c main_arg3).trans (by after_reads_simp)⟩,
      funext fun g => (no_sem g.2).elim⟩)
    (run_seq scopedRefs_eq scopedSems_eq defs main (fun _ => ops) main_eq (fun _ => ops_sub) m ρ)

end Cert.ProjDxRefIdeal.Gen

end
-- ==== Proof.DownDxRef.lean ====
/-
The plain input gradient of the down product: its run, and its result read entry by entry.
-/
module

public import proofs.«01_k».proof.Proof.Gen.DownDxRefIdeal
public import proofs.«01_k».proof.Proof.DenseKit

@[expose] public section

set_option maxRecDepth 16384

noncomputable section

namespace Cert.DownDxRefIdeal.Gen

open Idealize.ShloMosaic Idealize.ShloMosaic.TcCoe Idealize.ShloMosaic.Tactic Idealize.ShloMosaic.StableHlo
open Idealize.SL.Sem

section
variable {F : FTy → Type} [FloatOps F]
/-- The program's operations in order. -/
abbrev ops : List (HloOp τ sig (Elt F)) :=
  [ nullary main_cst (constant S_ .f32 0x00000000#32),
    unary main_cst main_v0 (broadcastInDim S8192x2816 ![] bcast_S_S8192x2816 : HArr F S_ .f32 → HArr F S8192x2816 .f32),
    binary main_v0 main_arg0 main_v1 ((fun l r => Host.dotGeneral dot_S8192x2816_S2816x1024_S8192x1024_1_0_0_1_n_n none l r) : HArr F S8192x2816 .f32 → HArr F S2816x1024 .f32 → HArr F S8192x1024 .f32),
    unary main_arg1 main_v2 ((extf .f32 · bitsLt_bf16_f32) : HArr F S8192x1024 .bf16 → HArr F S8192x1024 .f32),
    binary main_v2 main_arg0 main_v3 ((fun l r => Host.dotGeneral dot_S8192x1024_S2816x1024_S8192x2816_1_1_0_0_n_n none l r) : HArr F S8192x1024 .f32 → HArr F S2816x1024 .f32 → HArr F S8192x2816 .f32),
    unary main_v3 main_v4 ((truncf .bf16 · bitsLt_bf16_f32) : HArr F S8192x2816 .f32 → HArr F S8192x2816 .bf16) ]

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by
  simp only [List.Forall, binary_bufs_sub, nullary_bufs_sub, unary_bufs_sub, and_self]
end

/-- There is no semaphore. -/
theorem no_sem : ∀ sm : SemLoc sig, False := by decide

/-- The reference's reading of an entry is the specification's. -/
theorem entry_eq (w : Vec Ideal S2816x1024 .f32) (d : Vec Ideal S8192x1024 .bf16) (i : S8192x2816.Idx) :
    (∑ k : Fin 1024, d (ix2 (n0 := 8192) (n1 := 1024) (i 0) k) * w (ix2 (n0 := 2816) (n1 := 1024) (i 1) k)) = FfnSpec.downDx w d i := rfl

/-- The result, read entry by entry: the input's gradient. -/
theorem result (V : Valuation τ sig (Elt Ideal)) : after ops V (Proc.devRef .tc main_v4)
    = (FfnSpec.downDx (V (Proc.devRef .tc main_arg0)) (V (Proc.devRef .tc main_arg1)) : Vec Ideal S8192x2816 .bf16) := by
  funext i
  after_reads_simp
  pointwise []
  exact entry_eq _ _ i

variable (m : (ℓ : Loc nD τ sig) → Buf (Elt Ideal) ℓ) (ρ : Dev nD → PrngReg)

/-- The reference's run: its result, its arguments unchanged, every counter zero. -/
theorem run : θ_run defs (onTc (τ := τ) (main (F := Ideal))) ⟨m, fun _ => 0, ρ⟩ fun r => (∀ c : Dev nD,
      r.2.mem ((c.tc : Thread nD τ).loc main_v4) = (FfnSpec.downDx (m ((c.tc : Thread nD τ).loc main_arg0)) (m ((c.tc : Thread nD τ).loc main_arg1)) : Vec Ideal _ _)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun _ h => ⟨fun c => ⟨(h c _).trans (result (launchContents m c)), (h c main_arg0).trans (by after_reads_simp), (h c main_arg1).trans (by after_reads_simp)⟩,
      funext fun g => (no_sem g.2).elim⟩)
    (run_seq scopedRefs_eq scopedSems_eq defs main (fun _ => ops) main_eq (fun _ => ops_sub) m ρ)

end Cert.DownDxRefIdeal.Gen

end
-- ==== Proof.DownDwRef.lean ====
/-
The plain weight gradient of the down product: its run, and its result read entry by entry.
-/
module

public import proofs.«01_k».proof.Proof.Gen.DownDwRefIdeal
public import proofs.«01_k».proof.Proof.DenseKit

@[expose] public section

set_option maxRecDepth 16384

noncomputable section

namespace Cert.DownDwRefIdeal.Gen

open Idealize.ShloMosaic Idealize.ShloMosaic.TcCoe Idealize.ShloMosaic.Tactic Idealize.ShloMosaic.StableHlo
open Idealize.SL.Sem

section
variable {F : FTy → Type} [FloatOps F]
/-- The program's operations in order. -/
abbrev ops : List (HloOp τ sig (Elt F)) :=
  [ unary main_arg0 main_v0 ((extf .f32 · bitsLt_bf16_f32) : HArr F S8192x2816 .bf16 → HArr F S8192x2816 .f32),
    nullary main_cst (constant S_ .f32 0x00000000#32),
    unary main_cst main_v1 (broadcastInDim S2816x1024 ![] bcast_S_S2816x1024 : HArr F S_ .f32 → HArr F S2816x1024 .f32),
    binary main_v0 main_v1 main_v2 ((fun l r => Host.dotGeneral dot_S8192x2816_S2816x1024_S8192x1024_1_0_0_1_n_n none l r) : HArr F S8192x2816 .f32 → HArr F S2816x1024 .f32 → HArr F S8192x1024 .f32),
    unary main_arg1 main_v3 ((extf .f32 · bitsLt_bf16_f32) : HArr F S8192x1024 .bf16 → HArr F S8192x1024 .f32),
    binary main_v3 main_v0 main_v4 ((fun l r => Host.dotGeneral dot_S8192x1024_S8192x2816_S1024x2816_0_0_1_1_n_n none l r) : HArr F S8192x1024 .f32 → HArr F S8192x2816 .f32 → HArr F S1024x2816 .f32),
    unary main_v4 main_v5 ((transpose S2816x1024 [1, 0] · transposes_S1024x2816_S2816x1024_1_0) : HArr F S1024x2816 .f32 → HArr F S2816x1024 .f32) ]

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by
  simp only [List.Forall, binary_bufs_sub, nullary_bufs_sub, unary_bufs_sub, and_self]
end

/-- There is no semaphore. -/
theorem no_sem : ∀ sm : SemLoc sig, False := by decide

/-- The reference's reading of an entry is the specification's. -/
theorem entry_eq (a : Vec Ideal S8192x2816 .bf16) (d : Vec Ideal S8192x1024 .bf16) (i : S2816x1024.Idx) :
    (∑ r : Fin 8192, d (ix2 (n0 := 8192) (n1 := 1024) r (i 1)) * a (ix2 (n0 := 8192) (n1 := 2816) r (i 0))) = FfnSpec.downDw a d i :=
  Finset.sum_congr rfl fun r _ => mul_comm _ _

/-- The result, read entry by entry: the weight's gradient. -/
theorem result (V : Valuation τ sig (Elt Ideal)) : after ops V (Proc.devRef .tc main_v5)
    = (FfnSpec.downDw (V (Proc.devRef .tc main_arg0)) (V (Proc.devRef .tc main_arg1)) : Vec Ideal S2816x1024 .f32) := by
  funext i
  after_reads_simp
  pointwise []
  exact entry_eq _ _ i

variable (m : (ℓ : Loc nD τ sig) → Buf (Elt Ideal) ℓ) (ρ : Dev nD → PrngReg)

/-- The reference's run: its result, its arguments unchanged, every counter zero. -/
theorem run : θ_run defs (onTc (τ := τ) (main (F := Ideal))) ⟨m, fun _ => 0, ρ⟩ fun r => (∀ c : Dev nD,
      r.2.mem ((c.tc : Thread nD τ).loc main_v5) = (FfnSpec.downDw (m ((c.tc : Thread nD τ).loc main_arg0)) (m ((c.tc : Thread nD τ).loc main_arg1)) : Vec Ideal _ _)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun _ h => ⟨fun c => ⟨(h c _).trans (result (launchContents m c)), (h c main_arg0).trans (by after_reads_simp), (h c main_arg1).trans (by after_reads_simp)⟩,
      funext fun g => (no_sem g.2).elim⟩)
    (run_seq scopedRefs_eq scopedSems_eq defs main (fun _ => ops) main_eq (fun _ => ops_sub) m ρ)

end Cert.DownDwRefIdeal.Gen

end
-- ==== Proof.UpUDwRef.lean ====
/-
The plain weight gradient of the linear half of the up product: its run, and its result read entry by entry.
-/
module

public import proofs.«01_k».proof.Proof.Gen.UpUDwRefIdeal
public import proofs.«01_k».proof.Proof.DenseKit

@[expose] public section

set_option maxRecDepth 16384

noncomputable section

namespace Cert.UpUDwRefIdeal.Gen

open Idealize.ShloMosaic Idealize.ShloMosaic.TcCoe Idealize.ShloMosaic.Tactic Idealize.ShloMosaic.StableHlo
open Idealize.SL.Sem

section
variable {F : FTy → Type} [FloatOps F]
/-- The program's operations in order. -/
abbrev ops : List (HloOp τ sig (Elt F)) :=
  [ nullary main_cst (constant S_ .f32 0x00000000#32),
    unary main_cst main_v0 (broadcastInDim S1024x5632 ![] bcast_S_S1024x5632 : HArr F S_ .f32 → HArr F S1024x5632 .f32),
    binary main_arg0 main_v0 main_v1 ((fun l r => Host.dotGeneral dot_S8192x1024_S1024x5632_S8192x5632_1_0_0_1_n_n none l r) : HArr F S8192x1024 .f32 → HArr F S1024x5632 .f32 → HArr F S8192x5632 .f32),
    unary main_v1 main_v2 ((extractStridedSlice S8192x2816 ![0, 0] · slices_S8192x5632_S8192x2816_0_0) : HArr F S8192x5632 .f32 → HArr F S8192x2816 .f32),
    unary main_v1 main_v3 ((extractStridedSlice S8192x2816 ![0, 2816] · slices_S8192x5632_S8192x2816_0_2816) : HArr F S8192x5632 .f32 → HArr F S8192x2816 .f32),
    unary main_arg1 main_v4 ((extf .f32 · bitsLt_bf16_f32) : HArr F S8192x2816 .bf16 → HArr F S8192x2816 .f32),
    nullary main_cst_0 (constant S_ .f32 0x00000000#32),
    unary main_cst_0 main_v5 (broadcastInDim S8192x2816 ![] bcast_S_S8192x2816 : HArr F S_ .f32 → HArr F S8192x2816 .f32),
    binary main_v5 main_v4 main_v6 ((fun a b => concatenate S8192x5632 1 [⟨S8192x2816, a⟩, ⟨S8192x2816, b⟩] concatenates_S8192x2816_S8192x2816_S8192x5632_d1) : HArr F S8192x2816 .f32 → HArr F S8192x2816 .f32 → HArr F S8192x5632 .f32),
    binary main_v6 main_arg0 main_v7 ((fun l r => Host.dotGeneral dot_S8192x5632_S8192x1024_S5632x1024_0_0_1_1_n_n none l r) : HArr F S8192x5632 .f32 → HArr F S8192x1024 .f32 → HArr F S5632x1024 .f32),
    unary main_v7 main_v8 ((transpose S1024x5632 [1, 0] · transposes_S5632x1024_S1024x5632_1_0) : HArr F S5632x1024 .f32 → HArr F S1024x5632 .f32),
    unary main_arg2 main_v9 ((extractStridedSlice S2816x1024 ![0, 0] · slices_S5632x1024_S2816x1024_0_0) : HArr F S5632x1024 .f32 → HArr F S2816x1024 .f32),
    unary main_v8 main_v10 ((transpose S5632x1024 [1, 0] · transposes_S1024x5632_S5632x1024_1_0) : HArr F S1024x5632 .f32 → HArr F S5632x1024 .f32),
    unary main_v10 main_v11 ((extractStridedSlice S2816x1024 ![2816, 0] · slices_S5632x1024_S2816x1024_2816_0) : HArr F S5632x1024 .f32 → HArr F S2816x1024 .f32),
    binary main_v9 main_v11 main_v12 ((fun a b => concatenate S5632x1024 0 [⟨S2816x1024, a⟩, ⟨S2816x1024, b⟩] concatenates_S2816x1024_S2816x1024_S5632x1024_d0) : HArr F S2816x1024 .f32 → HArr F S2816x1024 .f32 → HArr F S5632x1024 .f32) ]

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by
  simp only [List.Forall, binary_bufs_sub, nullary_bufs_sub, unary_bufs_sub, and_self]
end

/-- There is no semaphore. -/
theorem no_sem : ∀ sm : SemLoc sig, False := by decide

/-- The reference's reading of an entry is the specification's. -/
theorem entry_eq (x : Vec Ideal S8192x1024 .f32) (d : Vec Ideal S8192x2816 .bf16) (g : Vec Ideal S5632x1024 .f32) (i : S5632x1024.Idx)
    (hp : ¬(i 0).val < 2816 → (i 0).val - 2816 < 2816) :
    (if h : (i 0).val < 2816 then g i
      else ∑ r : Fin 8192, d (ix2 (n0 := 8192) (n1 := 2816) r ⟨(i 0).val - 2816, hp h⟩) * x (ix2 (n0 := 8192) (n1 := 1024) r (i 1)))
      = FfnSpec.upDw x d g i := by
  rw [FfnSpec.upDw]
  by_cases h : (i 0).val < 2816
  · rw [dif_pos h, dif_neg (by omega)]
  · rw [dif_neg h, dif_pos (by omega)]
    rfl

/-- The result, read entry by entry: the weight's gradient. -/
theorem result (V : Valuation τ sig (Elt Ideal)) : after ops V (Proc.devRef .tc main_v12)
    = (FfnSpec.upDw (V (Proc.devRef .tc main_arg0)) (V (Proc.devRef .tc main_arg1)) (V (Proc.devRef .tc main_arg2)) : Vec Ideal S5632x1024 .f32) := by
  funext i
  after_reads_simp
  pointwise []
  after_reads_simp
  pointwise []
  exact entry_eq _ _ _ i fun h => by have h0 : (i 0).val < 5632 := (i 0).isLt; omega

variable (m : (ℓ : Loc nD τ sig) → Buf (Elt Ideal) ℓ) (ρ : Dev nD → PrngReg)

/-- The reference's run: its result, its arguments unchanged, every counter zero. -/
theorem run : θ_run defs (onTc (τ := τ) (main (F := Ideal))) ⟨m, fun _ => 0, ρ⟩ fun r => (∀ c : Dev nD,
      r.2.mem ((c.tc : Thread nD τ).loc main_v12) = (FfnSpec.upDw (m ((c.tc : Thread nD τ).loc main_arg0)) (m ((c.tc : Thread nD τ).loc main_arg1)) (m ((c.tc : Thread nD τ).loc main_arg2)) : Vec Ideal _ _)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun _ h => ⟨fun c => ⟨(h c _).trans (result (launchContents m c)), (h c main_arg0).trans (by after_reads_simp), (h c main_arg1).trans (by after_reads_simp), (h c main_arg2).trans (by after_reads_simp)⟩,
      funext fun g => (no_sem g.2).elim⟩)
    (run_seq scopedRefs_eq scopedSems_eq defs main (fun _ => ops) main_eq (fun _ => ops_sub) m ρ)

end Cert.UpUDwRefIdeal.Gen

end
-- ==== Proof.UpGDxRef.lean ====
/-
The plain input gradient of the gate half of the up product: its run, and its result read entry by entry.
-/
module

public import proofs.«01_k».proof.Proof.Gen.UpGDxRefIdeal
public import proofs.«01_k».proof.Proof.DenseKit

@[expose] public section

set_option maxRecDepth 16384

noncomputable section

namespace Cert.UpGDxRefIdeal.Gen

open Idealize.ShloMosaic Idealize.ShloMosaic.TcCoe Idealize.ShloMosaic.Tactic Idealize.ShloMosaic.StableHlo
open Idealize.SL.Sem

section
variable {F : FTy → Type} [FloatOps F]
/-- The program's operations in order. -/
abbrev ops : List (HloOp τ sig (Elt F)) :=
  [ nullary main_cst (constant S_ .f32 0x00000000#32),
    unary main_cst main_v0 (broadcastInDim S8192x1024 ![] bcast_S_S8192x1024 : HArr F S_ .f32 → HArr F S8192x1024 .f32),
    nullary main_cst_0 (constant S_ .f32 0x3FB504F3#32),
    unary main_cst_0 main_v1 (broadcastInDim S8192x1024 ![] bcast_S_S8192x1024 : HArr F S_ .f32 → HArr F S8192x1024 .f32),
    binary main_v1 main_v0 main_v2 (mulf : HArr F S8192x1024 .f32 → HArr F S8192x1024 .f32 → HArr F S8192x1024 .f32),
    binary main_v0 main_arg0 main_v3 ((fun l r => Host.dotGeneral dot_S8192x1024_S1024x5632_S8192x5632_1_0_0_1_n_n none l r) : HArr F S8192x1024 .f32 → HArr F S1024x5632 .f32 → HArr F S8192x5632 .f32),
    unary main_v3 main_v4 ((extractStridedSlice S8192x2816 ![0, 0] · slices_S8192x5632_S8192x2816_0_0) : HArr F S8192x5632 .f32 → HArr F S8192x2816 .f32),
    unary main_v3 main_v5 ((extractStridedSlice S8192x2816 ![0, 2816] · slices_S8192x5632_S8192x2816_0_2816) : HArr F S8192x5632 .f32 → HArr F S8192x2816 .f32),
    unary main_arg1 main_v6 ((extf .f32 · bitsLt_bf16_f32) : HArr F S8192x2816 .bf16 → HArr F S8192x2816 .f32),
    nullary main_cst_1 (constant S_ .f32 0x00000000#32),
    unary main_cst_1 main_v7 (broadcastInDim S8192x2816 ![] bcast_S_S8192x2816 : HArr F S_ .f32 → HArr F S8192x2816 .f32),
    binary main_v6 main_v7 main_v8 ((fun a b => concatenate S8192x5632 1 [⟨S8192x2816, a⟩, ⟨S8192x2816, b⟩] concatenates_S8192x2816_S8192x2816_S8192x5632_d1) : HArr F S8192x2816 .f32 → HArr F S8192x2816 .f32 → HArr F S8192x5632 .f32),
    binary main_v8 main_arg0 main_v9 ((fun l r => Host.dotGeneral dot_S8192x5632_S1024x5632_S8192x1024_1_1_0_0_n_n none l r) : HArr F S8192x5632 .f32 → HArr F S1024x5632 .f32 → HArr F S8192x1024 .f32),
    nullary main_cst_2 (constant S_ .f32 0x3FB504F3#32),
    unary main_cst_2 main_v10 (broadcastInDim S8192x1024 ![] bcast_S_S8192x1024 : HArr F S_ .f32 → HArr F S8192x1024 .f32),
    binary main_v10 main_arg2 main_v11 (mulf : HArr F S8192x1024 .f32 → HArr F S8192x1024 .f32 → HArr F S8192x1024 .f32),
    binary main_v9 main_v11 main_v12 (addf : HArr F S8192x1024 .f32 → HArr F S8192x1024 .f32 → HArr F S8192x1024 .f32) ]

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by
  simp only [List.Forall, binary_bufs_sub, nullary_bufs_sub, unary_bufs_sub, and_self]
end

/-- There is no semaphore. -/
theorem no_sem : ∀ sm : SemLoc sig, False := by decide

/-- The scale of the residual, as both programs write it. -/
abbrev scale : EReal := Ideal.ofBits .f32 0x3FB504F3#32

/-- The reference's reading of an entry is the specification's: the other half's cotangent is zero. -/
theorem entry_eq (a : EReal) (w : Vec Ideal S1024x5632 .f32) (d : Vec Ideal S8192x2816 .bf16) (h : Vec Ideal S8192x1024 .f32) (i : S8192x1024.Idx)
    (h0 : ∀ k : Fin 2816, k.val < 5632) (h1 : ∀ k : Fin 2816, 2816 + k.val < 5632) :
    (∑ k : Fin 2816, d (ix2 (n0 := 8192) (n1 := 2816) (i 0) k) * w (ix2 (n0 := 1024) (n1 := 5632) (i 1) ⟨k.val, h0 k⟩))
        + (∑ k : Fin 2816, (0 : EReal) * w (ix2 (n0 := 1024) (n1 := 5632) (i 1) ⟨2816 + k.val, h1 k⟩)) + a * h i
      = FfnSpec.upDx a 0 w d h i := by
  rw [FfnSpec.upDx]
  refine congrArg (· + a * h i) ((congrArg _ (Finset.sum_eq_zero fun k _ => zero_mul _)).trans ((add_zero _).trans (Finset.sum_congr rfl fun k _ => ?_)))
  exact congrArg (_ * ·) (congrArg w (congrArg (ix2 (n0 := 1024) (n1 := 5632) (i 1)) (Fin.ext (Nat.zero_add _).symm)))

/-- The result, read entry by entry: the weight's gradient. -/
theorem result (V : Valuation τ sig (Elt Ideal)) : after ops V (Proc.devRef .tc main_v12)
    = (FfnSpec.upDx scale 0 (V (Proc.devRef .tc main_arg0)) (V (Proc.devRef .tc main_arg1)) (V (Proc.devRef .tc main_arg2)) : Vec Ideal S8192x1024 .f32) := by
  funext i
  after_reads_simp
  pointwise []
  after_reads_simp
  pointwise []
  exact entry_eq _ _ _ _ i (fun k => by omega) (fun k => by omega)

variable (m : (ℓ : Loc nD τ sig) → Buf (Elt Ideal) ℓ) (ρ : Dev nD → PrngReg)

/-- The reference's run: its result, its arguments unchanged, every counter zero. -/
theorem run : θ_run defs (onTc (τ := τ) (main (F := Ideal))) ⟨m, fun _ => 0, ρ⟩ fun r => (∀ c : Dev nD,
      r.2.mem ((c.tc : Thread nD τ).loc main_v12) = (FfnSpec.upDx scale 0 (m ((c.tc : Thread nD τ).loc main_arg0)) (m ((c.tc : Thread nD τ).loc main_arg1)) (m ((c.tc : Thread nD τ).loc main_arg2)) : Vec Ideal _ _)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun _ h => ⟨fun c => ⟨(h c _).trans (result (launchContents m c)), (h c main_arg0).trans (by after_reads_simp), (h c main_arg1).trans (by after_reads_simp), (h c main_arg2).trans (by after_reads_simp)⟩,
      funext fun g => (no_sem g.2).elim⟩)
    (run_seq scopedRefs_eq scopedSems_eq defs main (fun _ => ops) main_eq (fun _ => ops_sub) m ρ)

end Cert.UpGDxRefIdeal.Gen

end
-- ==== Proof.UpUDxRef.lean ====
/-
The plain input gradient of the linear half of the up product: its run, and its result read entry by entry.
-/
module

public import proofs.«01_k».proof.Proof.Gen.UpUDxRefIdeal
public import proofs.«01_k».proof.Proof.DenseKit

@[expose] public section

set_option maxRecDepth 16384

noncomputable section

namespace Cert.UpUDxRefIdeal.Gen

open Idealize.ShloMosaic Idealize.ShloMosaic.TcCoe Idealize.ShloMosaic.Tactic Idealize.ShloMosaic.StableHlo
open Idealize.SL.Sem

section
variable {F : FTy → Type} [FloatOps F]
/-- The program's operations in order. -/
abbrev ops : List (HloOp τ sig (Elt F)) :=
  [ nullary main_cst (constant S_ .f32 0x00000000#32),
    unary main_cst main_v0 (broadcastInDim S8192x1024 ![] bcast_S_S8192x1024 : HArr F S_ .f32 → HArr F S8192x1024 .f32),
    binary main_v0 main_arg0 main_v1 ((fun l r => Host.dotGeneral dot_S8192x1024_S1024x5632_S8192x5632_1_0_0_1_n_n none l r) : HArr F S8192x1024 .f32 → HArr F S1024x5632 .f32 → HArr F S8192x5632 .f32),
    unary main_v1 main_v2 ((extractStridedSlice S8192x2816 ![0, 0] · slices_S8192x5632_S8192x2816_0_0) : HArr F S8192x5632 .f32 → HArr F S8192x2816 .f32),
    unary main_v1 main_v3 ((extractStridedSlice S8192x2816 ![0, 2816] · slices_S8192x5632_S8192x2816_0_2816) : HArr F S8192x5632 .f32 → HArr F S8192x2816 .f32),
    unary main_arg1 main_v4 ((extf .f32 · bitsLt_bf16_f32) : HArr F S8192x2816 .bf16 → HArr F S8192x2816 .f32),
    nullary main_cst_0 (constant S_ .f32 0x00000000#32),
    unary main_cst_0 main_v5 (broadcastInDim S8192x2816 ![] bcast_S_S8192x2816 : HArr F S_ .f32 → HArr F S8192x2816 .f32),
    binary main_v5 main_v4 main_v6 ((fun a b => concatenate S8192x5632 1 [⟨S8192x2816, a⟩, ⟨S8192x2816, b⟩] concatenates_S8192x2816_S8192x2816_S8192x5632_d1) : HArr F S8192x2816 .f32 → HArr F S8192x2816 .f32 → HArr F S8192x5632 .f32),
    binary main_v6 main_arg0 main_v7 ((fun l r => Host.dotGeneral dot_S8192x5632_S1024x5632_S8192x1024_1_1_0_0_n_n none l r) : HArr F S8192x5632 .f32 → HArr F S1024x5632 .f32 → HArr F S8192x1024 .f32),
    binary main_arg2 main_v7 main_v8 (addf : HArr F S8192x1024 .f32 → HArr F S8192x1024 .f32 → HArr F S8192x1024 .f32) ]

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by
  simp only [List.Forall, binary_bufs_sub, nullary_bufs_sub, unary_bufs_sub, and_self]
end

/-- There is no semaphore. -/
theorem no_sem : ∀ sm : SemLoc sig, False := by decide

/-- The reference's reading of an entry is the specification's: the other half's cotangent is zero. -/
theorem entry_eq (w : Vec Ideal S1024x5632 .f32) (d : Vec Ideal S8192x2816 .bf16) (h : Vec Ideal S8192x1024 .f32) (i : S8192x1024.Idx)
    (h0 : ∀ k : Fin 2816, k.val < 5632) (h1 : ∀ k : Fin 2816, 2816 + k.val < 5632) :
    h i + ((∑ k : Fin 2816, (0 : EReal) * w (ix2 (n0 := 1024) (n1 := 5632) (i 1) ⟨k.val, h0 k⟩))
        + (∑ k : Fin 2816, d (ix2 (n0 := 8192) (n1 := 2816) (i 0) k) * w (ix2 (n0 := 1024) (n1 := 5632) (i 1) ⟨2816 + k.val, h1 k⟩)))
      = FfnSpec.upDx 1 2816 w d h i := by
  rw [FfnSpec.upDx, one_mul, Finset.sum_eq_zero fun k _ => zero_mul _, zero_add, add_comm]
  rfl

/-- The result, read entry by entry: the weight's gradient. -/
theorem result (V : Valuation τ sig (Elt Ideal)) : after ops V (Proc.devRef .tc main_v8)
    = (FfnSpec.upDx 1 2816 (V (Proc.devRef .tc main_arg0)) (V (Proc.devRef .tc main_arg1)) (V (Proc.devRef .tc main_arg2)) : Vec Ideal S8192x1024 .f32) := by
  funext i
  after_reads_simp
  pointwise []
  after_reads_simp
  pointwise []
  exact entry_eq _ _ _ i (fun k => by omega) (fun k => by omega)

variable (m : (ℓ : Loc nD τ sig) → Buf (Elt Ideal) ℓ) (ρ : Dev nD → PrngReg)

/-- The reference's run: its result, its arguments unchanged, every counter zero. -/
theorem run : θ_run defs (onTc (τ := τ) (main (F := Ideal))) ⟨m, fun _ => 0, ρ⟩ fun r => (∀ c : Dev nD,
      r.2.mem ((c.tc : Thread nD τ).loc main_v8) = (FfnSpec.upDx 1 2816 (m ((c.tc : Thread nD τ).loc main_arg0)) (m ((c.tc : Thread nD τ).loc main_arg1)) (m ((c.tc : Thread nD τ).loc main_arg2)) : Vec Ideal _ _)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun _ h => ⟨fun c => ⟨(h c _).trans (result (launchContents m c)), (h c main_arg0).trans (by after_reads_simp), (h c main_arg1).trans (by after_reads_simp), (h c main_arg2).trans (by after_reads_simp)⟩,
      funext fun g => (no_sem g.2).elim⟩)
    (run_seq scopedRefs_eq scopedSems_eq defs main (fun _ => ops) main_eq (fun _ => ops_sub) m ρ)

end Cert.UpUDxRefIdeal.Gen

end
-- ==== Proof.UpGRef.lean ====
/-
Plain: the gate half of the up product. The reference's run, and its result read entry by entry.
-/
module

public import proofs.«01_k».proof.Proof.Gen.UpGRefIdeal
public import proofs.«01_k».proof.Proof.DenseKit

@[expose] public section

set_option maxRecDepth 16384

noncomputable section

namespace Cert.UpGRefIdeal.Gen

open Idealize.ShloMosaic Idealize.ShloMosaic.TcCoe Idealize.ShloMosaic.Tactic Idealize.ShloMosaic.StableHlo
open Idealize.SL.Sem

section
variable {F : FTy → Type} [FloatOps F]
/-- The program's operations in order. -/
abbrev ops : List (HloOp τ sig (Elt F)) :=
  [ binary main_arg0 main_arg1 main_v0 ((fun l r => Host.dotGeneral dot_S8192x1024_S1024x5632_S8192x5632_1_0_0_1_n_n none l r) : HArr F S8192x1024 .f32 → HArr F S1024x5632 .f32 → HArr F S8192x5632 .f32),
    unary main_v0 main_v1 ((extractStridedSlice S8192x2816 ![0, 0] · slices_S8192x5632_S8192x2816_0_0) : HArr F S8192x5632 .f32 → HArr F S8192x2816 .f32),
    unary main_v0 main_v2 ((extractStridedSlice S8192x2816 ![0, 2816] · slices_S8192x5632_S8192x2816_0_2816) : HArr F S8192x5632 .f32 → HArr F S8192x2816 .f32),
    unary main_v1 main_v3 ((truncf .bf16 · bitsLt_bf16_f32) : HArr F S8192x2816 .f32 → HArr F S8192x2816 .bf16) ]

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by
  simp only [List.Forall, binary_bufs_sub, unary_bufs_sub, and_self]
end

/-- There is no semaphore. -/
theorem no_sem : ∀ sm : SemLoc sig, False := by decide

/-- The reference's reading of an entry is the specification's. -/
theorem entry_eq (x : Vec Ideal S8192x1024 .f32) (w : Vec Ideal S1024x5632 .f32) (i : S8192x2816.Idx) (h : ∀ i : S8192x2816.Idx, (i 1).val < 5632) :
    (∑ k : Fin 1024, x (ix2 (n0 := 8192) (n1 := 1024) (i 0) k) * w (ix2 (n0 := 1024) (n1 := 5632) k ⟨(i 1).val, h i⟩)) = DenseSpec.upHalf 0 x w i := by
  rw [DenseSpec.upHalf]
  exact Finset.sum_congr rfl fun k _ => congrArg (_ * ·) (congrArg w (congrArg (ix2 (n0 := 1024) (n1 := 5632) k) (Fin.ext (Nat.zero_add _).symm)))

/-- The result, read entry by entry: the product. -/
theorem result (V : Valuation τ sig (Elt Ideal)) : after ops V (Proc.devRef .tc main_v3)
    = (DenseSpec.upHalf 0 (V (Proc.devRef .tc main_arg0)) (V (Proc.devRef .tc main_arg1)) : Vec Ideal S8192x2816 .bf16) := by
  funext i
  after_reads_simp
  pointwise []
  exact entry_eq _ _ i (fun i => by have h : (i 1).val < 2816 := (i 1).isLt; omega)

variable (m : (ℓ : Loc nD τ sig) → Buf (Elt Ideal) ℓ) (ρ : Dev nD → PrngReg)

/-- The reference's run: its result, its arguments unchanged, every counter zero. -/
theorem run : θ_run defs (onTc (τ := τ) (main (F := Ideal))) ⟨m, fun _ => 0, ρ⟩ fun r => (∀ c : Dev nD,
      r.2.mem ((c.tc : Thread nD τ).loc main_v3) = (DenseSpec.upHalf 0 (m ((c.tc : Thread nD τ).loc main_arg0)) (m ((c.tc : Thread nD τ).loc main_arg1)) : Vec Ideal _ _)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun _ h => ⟨fun c => ⟨(h c _).trans (result (launchContents m c)), (h c main_arg0).trans (by after_reads_simp), (h c main_arg1).trans (by after_reads_simp)⟩,
      funext fun g => (no_sem g.2).elim⟩)
    (run_seq scopedRefs_eq scopedSems_eq defs main (fun _ => ops) main_eq (fun _ => ops_sub) m ρ)

end Cert.UpGRefIdeal.Gen

end
-- ==== Proof.UpURef.lean ====
/-
Plain: the linear half of the up product. The reference's run, and its result read entry by entry.
-/
module

public import proofs.«01_k».proof.Proof.Gen.UpURefIdeal
public import proofs.«01_k».proof.Proof.DenseKit

@[expose] public section

set_option maxRecDepth 16384

noncomputable section

namespace Cert.UpURefIdeal.Gen

open Idealize.ShloMosaic Idealize.ShloMosaic.TcCoe Idealize.ShloMosaic.Tactic Idealize.ShloMosaic.StableHlo
open Idealize.SL.Sem

section
variable {F : FTy → Type} [FloatOps F]
/-- The program's operations in order. -/
abbrev ops : List (HloOp τ sig (Elt F)) :=
  [ binary main_arg0 main_arg1 main_v0 ((fun l r => Host.dotGeneral dot_S8192x1024_S1024x5632_S8192x5632_1_0_0_1_n_n none l r) : HArr F S8192x1024 .f32 → HArr F S1024x5632 .f32 → HArr F S8192x5632 .f32),
    unary main_v0 main_v1 ((extractStridedSlice S8192x2816 ![0, 0] · slices_S8192x5632_S8192x2816_0_0) : HArr F S8192x5632 .f32 → HArr F S8192x2816 .f32),
    unary main_v0 main_v2 ((extractStridedSlice S8192x2816 ![0, 2816] · slices_S8192x5632_S8192x2816_0_2816) : HArr F S8192x5632 .f32 → HArr F S8192x2816 .f32),
    unary main_v2 main_v3 ((truncf .bf16 · bitsLt_bf16_f32) : HArr F S8192x2816 .f32 → HArr F S8192x2816 .bf16) ]

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by
  simp only [List.Forall, binary_bufs_sub, unary_bufs_sub, and_self]
end

/-- There is no semaphore. -/
theorem no_sem : ∀ sm : SemLoc sig, False := by decide

/-- The result, read entry by entry: the product. -/
theorem result (V : Valuation τ sig (Elt Ideal)) : after ops V (Proc.devRef .tc main_v3)
    = (DenseSpec.upHalf 2816 (V (Proc.devRef .tc main_arg0)) (V (Proc.devRef .tc main_arg1)) : Vec Ideal S8192x2816 .bf16) := by
  funext i
  after_reads_simp
  pointwise []
  rfl

variable (m : (ℓ : Loc nD τ sig) → Buf (Elt Ideal) ℓ) (ρ : Dev nD → PrngReg)

/-- The reference's run: its result, its arguments unchanged, every counter zero. -/
theorem run : θ_run defs (onTc (τ := τ) (main (F := Ideal))) ⟨m, fun _ => 0, ρ⟩ fun r => (∀ c : Dev nD,
      r.2.mem ((c.tc : Thread nD τ).loc main_v3) = (DenseSpec.upHalf 2816 (m ((c.tc : Thread nD τ).loc main_arg0)) (m ((c.tc : Thread nD τ).loc main_arg1)) : Vec Ideal _ _)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun _ h => ⟨fun c => ⟨(h c _).trans (result (launchContents m c)), (h c main_arg0).trans (by after_reads_simp), (h c main_arg1).trans (by after_reads_simp)⟩,
      funext fun g => (no_sem g.2).elim⟩)
    (run_seq scopedRefs_eq scopedSems_eq defs main (fun _ => ops) main_eq (fun _ => ops_sub) m ρ)

end Cert.UpURefIdeal.Gen

end
-- ==== Proof.DownRef.lean ====
/-
Plain: the down product. The reference's run, and its result read entry by entry.
-/
module

public import proofs.«01_k».proof.Proof.Gen.DownRefIdeal
public import proofs.«01_k».proof.Proof.DenseKit

@[expose] public section

set_option maxRecDepth 16384

noncomputable section

namespace Cert.DownRefIdeal.Gen

open Idealize.ShloMosaic Idealize.ShloMosaic.TcCoe Idealize.ShloMosaic.Tactic Idealize.ShloMosaic.StableHlo
open Idealize.SL.Sem

section
variable {F : FTy → Type} [FloatOps F]
/-- The program's operations in order. -/
abbrev ops : List (HloOp τ sig (Elt F)) :=
  [ unary main_arg0 main_v0 ((extf .f32 · bitsLt_bf16_f32) : HArr F S8192x2816 .bf16 → HArr F S8192x2816 .f32),
    binary main_v0 main_arg1 main_v1 ((fun l r => Host.dotGeneral dot_S8192x2816_S2816x1024_S8192x1024_1_0_0_1_n_n none l r) : HArr F S8192x2816 .f32 → HArr F S2816x1024 .f32 → HArr F S8192x1024 .f32) ]

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., binary_bufs_sub ..⟩
end

/-- There is no semaphore. -/
theorem no_sem : ∀ sm : SemLoc sig, False := by decide

/-- The result, read entry by entry: the product. -/
theorem result (V : Valuation τ sig (Elt Ideal)) : after ops V (Proc.devRef .tc main_v1)
    = (DenseSpec.mm 8192 2816 1024 (V (Proc.devRef .tc main_arg0)) (V (Proc.devRef .tc main_arg1)) : Vec Ideal S8192x1024 .f32) := by
  funext i
  after_reads_simp
  pointwise []
  rfl

variable (m : (ℓ : Loc nD τ sig) → Buf (Elt Ideal) ℓ) (ρ : Dev nD → PrngReg)

/-- The reference's run: its result, its arguments unchanged, every counter zero. -/
theorem run : θ_run defs (onTc (τ := τ) (main (F := Ideal))) ⟨m, fun _ => 0, ρ⟩ fun r => (∀ c : Dev nD,
      r.2.mem ((c.tc : Thread nD τ).loc main_v1) = (DenseSpec.mm 8192 2816 1024 (m ((c.tc : Thread nD τ).loc main_arg0)) (m ((c.tc : Thread nD τ).loc main_arg1)) : Vec Ideal _ _)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun _ h => ⟨fun c => ⟨(h c _).trans (result (launchContents m c)), (h c main_arg0).trans (by after_reads_simp), (h c main_arg1).trans (by after_reads_simp)⟩,
      funext fun g => (no_sem g.2).elim⟩)
    (run_seq scopedRefs_eq scopedSems_eq defs main (fun _ => ops) main_eq (fun _ => ops_sub) m ρ)

end Cert.DownRefIdeal.Gen

end
-- ==== Proof.RetProjRef.lean ====
/-
Plain: the retention's output product. The reference's run, and its result read entry by entry.
-/
module

public import proofs.«01_k».proof.Proof.Gen.RetProjRefIdeal
public import proofs.«01_k».proof.Proof.DenseKit

@[expose] public section

set_option maxRecDepth 16384

noncomputable section

namespace Cert.RetProjRefIdeal.Gen

open Idealize.ShloMosaic Idealize.ShloMosaic.TcCoe Idealize.ShloMosaic.Tactic Idealize.ShloMosaic.StableHlo
open Idealize.SL.Sem

section
variable {F : FTy → Type} [FloatOps F]
/-- The program's operations in order. -/
abbrev ops : List (HloOp τ sig (Elt F)) :=
  [ unary main_arg0 main_v0 ((extf .f32 · bitsLt_bf16_f32) : HArr F S8192x2048 .bf16 → HArr F S8192x2048 .f32),
    binary main_v0 main_arg1 main_v1 ((fun l r => Host.dotGeneral dot_S8192x2048_S2048x1024_S8192x1024_1_0_0_1_n_n none l r) : HArr F S8192x2048 .f32 → HArr F S2048x1024 .f32 → HArr F S8192x1024 .f32),
    unary main_v1 main_v2 ((truncf .bf16 · bitsLt_bf16_f32) : HArr F S8192x1024 .f32 → HArr F S8192x1024 .bf16) ]

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., binary_bufs_sub .., unary_bufs_sub ..⟩
end

/-- There is no semaphore. -/
theorem no_sem : ∀ sm : SemLoc sig, False := by decide

/-- The result, read entry by entry: the product. -/
theorem result (V : Valuation τ sig (Elt Ideal)) : after ops V (Proc.devRef .tc main_v2)
    = (DenseSpec.mm 8192 2048 1024 (V (Proc.devRef .tc main_arg0)) (V (Proc.devRef .tc main_arg1)) : Vec Ideal S8192x1024 .bf16) := by
  funext i
  after_reads_simp
  pointwise []
  rfl

variable (m : (ℓ : Loc nD τ sig) → Buf (Elt Ideal) ℓ) (ρ : Dev nD → PrngReg)

/-- The reference's run: its result, its arguments unchanged, every counter zero. -/
theorem run : θ_run defs (onTc (τ := τ) (main (F := Ideal))) ⟨m, fun _ => 0, ρ⟩ fun r => (∀ c : Dev nD,
      r.2.mem ((c.tc : Thread nD τ).loc main_v2) = (DenseSpec.mm 8192 2048 1024 (m ((c.tc : Thread nD τ).loc main_arg0)) (m ((c.tc : Thread nD τ).loc main_arg1)) : Vec Ideal _ _)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun _ h => ⟨fun c => ⟨(h c _).trans (result (launchContents m c)), (h c main_arg0).trans (by after_reads_simp), (h c main_arg1).trans (by after_reads_simp)⟩,
      funext fun g => (no_sem g.2).elim⟩)
    (run_seq scopedRefs_eq scopedSems_eq defs main (fun _ => ops) main_eq (fun _ => ops_sub) m ρ)

end Cert.RetProjRefIdeal.Gen

end
-- ==== Proof.RetProjDxRef.lean ====
/-
Plain: the input gradient of the retention's output product. The reference's run, and its result read entry by entry.
-/
module

public import proofs.«01_k».proof.Proof.Gen.RetProjDxRefIdeal
public import proofs.«01_k».proof.Proof.DenseKit

@[expose] public section

set_option maxRecDepth 16384

noncomputable section

namespace Cert.RetProjDxRefIdeal.Gen

open Idealize.ShloMosaic Idealize.ShloMosaic.TcCoe Idealize.ShloMosaic.Tactic Idealize.ShloMosaic.StableHlo
open Idealize.SL.Sem

section
variable {F : FTy → Type} [FloatOps F]
/-- The program's operations in order. -/
abbrev ops : List (HloOp τ sig (Elt F)) :=
  [ nullary main_cst (constant S_ .f32 0x00000000#32),
    unary main_cst main_v0 (broadcastInDim S8192x2048 ![] bcast_S_S8192x2048 : HArr F S_ .f32 → HArr F S8192x2048 .f32),
    binary main_v0 main_arg0 main_v1 ((fun l r => Host.dotGeneral dot_S8192x2048_S2048x1024_S8192x1024_1_0_0_1_n_n none l r) : HArr F S8192x2048 .f32 → HArr F S2048x1024 .f32 → HArr F S8192x1024 .f32),
    unary main_arg1 main_v2 ((extf .f32 · bitsLt_bf16_f32) : HArr F S8192x1024 .bf16 → HArr F S8192x1024 .f32),
    binary main_v2 main_arg0 main_v3 ((fun l r => Host.dotGeneral dot_S8192x1024_S2048x1024_S8192x2048_1_1_0_0_n_n none l r) : HArr F S8192x1024 .f32 → HArr F S2048x1024 .f32 → HArr F S8192x2048 .f32),
    unary main_v3 main_v4 ((truncf .bf16 · bitsLt_bf16_f32) : HArr F S8192x2048 .f32 → HArr F S8192x2048 .bf16) ]

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by
  simp only [List.Forall, binary_bufs_sub, nullary_bufs_sub, unary_bufs_sub, and_self]
end

/-- There is no semaphore. -/
theorem no_sem : ∀ sm : SemLoc sig, False := by decide

/-- The result, read entry by entry: the gradient. -/
theorem result (V : Valuation τ sig (Elt Ideal)) : after ops V (Proc.devRef .tc main_v4)
    = (DenseSpec.mmDx 8192 1024 2048 (V (Proc.devRef .tc main_arg0)) (V (Proc.devRef .tc main_arg1)) : Vec Ideal S8192x2048 .bf16) := by
  funext i
  after_reads_simp
  pointwise []
  rfl

variable (m : (ℓ : Loc nD τ sig) → Buf (Elt Ideal) ℓ) (ρ : Dev nD → PrngReg)

/-- The reference's run: its result, its arguments unchanged, every counter zero. -/
theorem run : θ_run defs (onTc (τ := τ) (main (F := Ideal))) ⟨m, fun _ => 0, ρ⟩ fun r => (∀ c : Dev nD,
      r.2.mem ((c.tc : Thread nD τ).loc main_v4) = (DenseSpec.mmDx 8192 1024 2048 (m ((c.tc : Thread nD τ).loc main_arg0)) (m ((c.tc : Thread nD τ).loc main_arg1)) : Vec Ideal _ _)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun _ h => ⟨fun c => ⟨(h c _).trans (result (launchContents m c)), (h c main_arg0).trans (by after_reads_simp), (h c main_arg1).trans (by after_reads_simp)⟩,
      funext fun g => (no_sem g.2).elim⟩)
    (run_seq scopedRefs_eq scopedSems_eq defs main (fun _ => ops) main_eq (fun _ => ops_sub) m ρ)

end Cert.RetProjDxRefIdeal.Gen

end
-- ==== Proof.RetProjDwRef.lean ====
/-
Plain: the weight gradient of the retention's output product. The reference's run, and its result read entry by entry.
-/
module

public import proofs.«01_k».proof.Proof.Gen.RetProjDwRefIdeal
public import proofs.«01_k».proof.Proof.DenseKit

@[expose] public section

set_option maxRecDepth 16384

noncomputable section

namespace Cert.RetProjDwRefIdeal.Gen

open Idealize.ShloMosaic Idealize.ShloMosaic.TcCoe Idealize.ShloMosaic.Tactic Idealize.ShloMosaic.StableHlo
open Idealize.SL.Sem

section
variable {F : FTy → Type} [FloatOps F]
/-- The program's operations in order. -/
abbrev ops : List (HloOp τ sig (Elt F)) :=
  [ unary main_arg0 main_v0 ((extf .f32 · bitsLt_bf16_f32) : HArr F S8192x2048 .bf16 → HArr F S8192x2048 .f32),
    nullary main_cst (constant S_ .f32 0x00000000#32),
    unary main_cst main_v1 (broadcastInDim S2048x1024 ![] bcast_S_S2048x1024 : HArr F S_ .f32 → HArr F S2048x1024 .f32),
    binary main_v0 main_v1 main_v2 ((fun l r => Host.dotGeneral dot_S8192x2048_S2048x1024_S8192x1024_1_0_0_1_n_n none l r) : HArr F S8192x2048 .f32 → HArr F S2048x1024 .f32 → HArr F S8192x1024 .f32),
    unary main_arg1 main_v3 ((extf .f32 · bitsLt_bf16_f32) : HArr F S8192x1024 .bf16 → HArr F S8192x1024 .f32),
    binary main_v3 main_v0 main_v4 ((fun l r => Host.dotGeneral dot_S8192x1024_S8192x2048_S1024x2048_0_0_1_1_n_n none l r) : HArr F S8192x1024 .f32 → HArr F S8192x2048 .f32 → HArr F S1024x2048 .f32),
    unary main_v4 main_v5 ((transpose S2048x1024 [1, 0] · transposes_S1024x2048_S2048x1024_1_0) : HArr F S1024x2048 .f32 → HArr F S2048x1024 .f32) ]

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by
  simp only [List.Forall, binary_bufs_sub, nullary_bufs_sub, unary_bufs_sub, and_self]
end

/-- There is no semaphore. -/
theorem no_sem : ∀ sm : SemLoc sig, False := by decide

/-- The result, read entry by entry: the gradient. -/
theorem result (V : Valuation τ sig (Elt Ideal)) : after ops V (Proc.devRef .tc main_v5)
    = (DenseSpec.mmDw 2048 8192 1024 (V (Proc.devRef .tc main_arg0)) (V (Proc.devRef .tc main_arg1)) : Vec Ideal S2048x1024 .f32) := by
  funext i
  after_reads_simp
  pointwise []
  exact DenseSpec.mmDw_comm 2048 8192 1024 _ _ i

variable (m : (ℓ : Loc nD τ sig) → Buf (Elt Ideal) ℓ) (ρ : Dev nD → PrngReg)

/-- The reference's run: its result, its arguments unchanged, every counter zero. -/
theorem run : θ_run defs (onTc (τ := τ) (main (F := Ideal))) ⟨m, fun _ => 0, ρ⟩ fun r => (∀ c : Dev nD,
      r.2.mem ((c.tc : Thread nD τ).loc main_v5) = (DenseSpec.mmDw 2048 8192 1024 (m ((c.tc : Thread nD τ).loc main_arg0)) (m ((c.tc : Thread nD τ).loc main_arg1)) : Vec Ideal _ _)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun _ h => ⟨fun c => ⟨(h c _).trans (result (launchContents m c)), (h c main_arg0).trans (by after_reads_simp), (h c main_arg1).trans (by after_reads_simp)⟩,
      funext fun g => (no_sem g.2).elim⟩)
    (run_seq scopedRefs_eq scopedSems_eq defs main (fun _ => ops) main_eq (fun _ => ops_sub) m ρ)

end Cert.RetProjDwRefIdeal.Gen

end
-- ==== Proof.AttnProjRef.lean ====
/-
Plain: the attention's output product. The reference's run, and its result read entry by entry.
-/
module

public import proofs.«01_k».proof.Proof.Gen.AttnProjRefIdeal
public import proofs.«01_k».proof.Proof.DenseKit

@[expose] public section

set_option maxRecDepth 16384

noncomputable section

namespace Cert.AttnProjRefIdeal.Gen

open Idealize.ShloMosaic Idealize.ShloMosaic.TcCoe Idealize.ShloMosaic.Tactic Idealize.ShloMosaic.StableHlo
open Idealize.SL.Sem

section
variable {F : FTy → Type} [FloatOps F]
/-- The program's operations in order. -/
abbrev ops : List (HloOp τ sig (Elt F)) :=
  [ unary main_arg0 main_v0 ((extf .f32 · bitsLt_bf16_f32) : HArr F S8192x1024 .bf16 → HArr F S8192x1024 .f32),
    binary main_v0 main_arg1 main_v1 ((fun l r => Host.dotGeneral dot_S8192x1024_S1024x1024_S8192x1024_1_0_0_1_n_n none l r) : HArr F S8192x1024 .f32 → HArr F S1024x1024 .f32 → HArr F S8192x1024 .f32),
    unary main_v1 main_v2 ((truncf .bf16 · bitsLt_bf16_f32) : HArr F S8192x1024 .f32 → HArr F S8192x1024 .bf16) ]

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., binary_bufs_sub .., unary_bufs_sub ..⟩
end

/-- There is no semaphore. -/
theorem no_sem : ∀ sm : SemLoc sig, False := by decide

/-- The result, read entry by entry: the product. -/
theorem result (V : Valuation τ sig (Elt Ideal)) : after ops V (Proc.devRef .tc main_v2)
    = (DenseSpec.mm 8192 1024 1024 (V (Proc.devRef .tc main_arg0)) (V (Proc.devRef .tc main_arg1)) : Vec Ideal S8192x1024 .bf16) := by
  funext i
  after_reads_simp
  pointwise []
  rfl

variable (m : (ℓ : Loc nD τ sig) → Buf (Elt Ideal) ℓ) (ρ : Dev nD → PrngReg)

/-- The reference's run: its result, its arguments unchanged, every counter zero. -/
theorem run : θ_run defs (onTc (τ := τ) (main (F := Ideal))) ⟨m, fun _ => 0, ρ⟩ fun r => (∀ c : Dev nD,
      r.2.mem ((c.tc : Thread nD τ).loc main_v2) = (DenseSpec.mm 8192 1024 1024 (m ((c.tc : Thread nD τ).loc main_arg0)) (m ((c.tc : Thread nD τ).loc main_arg1)) : Vec Ideal _ _)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun _ h => ⟨fun c => ⟨(h c _).trans (result (launchContents m c)), (h c main_arg0).trans (by after_reads_simp), (h c main_arg1).trans (by after_reads_simp)⟩,
      funext fun g => (no_sem g.2).elim⟩)
    (run_seq scopedRefs_eq scopedSems_eq defs main (fun _ => ops) main_eq (fun _ => ops_sub) m ρ)

end Cert.AttnProjRefIdeal.Gen

end
-- ==== Proof.AttnProjDxRef.lean ====
/-
Plain: the input gradient of the attention's output product. The reference's run, and its result read entry by entry.
-/
module

public import proofs.«01_k».proof.Proof.Gen.AttnProjDxRefIdeal
public import proofs.«01_k».proof.Proof.DenseKit

@[expose] public section

set_option maxRecDepth 16384

noncomputable section

namespace Cert.AttnProjDxRefIdeal.Gen

open Idealize.ShloMosaic Idealize.ShloMosaic.TcCoe Idealize.ShloMosaic.Tactic Idealize.ShloMosaic.StableHlo
open Idealize.SL.Sem

section
variable {F : FTy → Type} [FloatOps F]
/-- The program's operations in order. -/
abbrev ops : List (HloOp τ sig (Elt F)) :=
  [ nullary main_cst (constant S_ .f32 0x00000000#32),
    unary main_cst main_v0 (broadcastInDim S8192x1024 ![] bcast_S_S8192x1024 : HArr F S_ .f32 → HArr F S8192x1024 .f32),
    binary main_v0 main_arg0 main_v1 ((fun l r => Host.dotGeneral dot_S8192x1024_S1024x1024_S8192x1024_1_0_0_1_n_n none l r) : HArr F S8192x1024 .f32 → HArr F S1024x1024 .f32 → HArr F S8192x1024 .f32),
    unary main_arg1 main_v2 ((extf .f32 · bitsLt_bf16_f32) : HArr F S8192x1024 .bf16 → HArr F S8192x1024 .f32),
    binary main_v2 main_arg0 main_v3 ((fun l r => Host.dotGeneral dot_S8192x1024_S1024x1024_S8192x1024_1_1_0_0_n_n none l r) : HArr F S8192x1024 .f32 → HArr F S1024x1024 .f32 → HArr F S8192x1024 .f32),
    unary main_v3 main_v4 ((truncf .bf16 · bitsLt_bf16_f32) : HArr F S8192x1024 .f32 → HArr F S8192x1024 .bf16) ]

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by
  simp only [List.Forall, binary_bufs_sub, nullary_bufs_sub, unary_bufs_sub, and_self]
end

/-- There is no semaphore. -/
theorem no_sem : ∀ sm : SemLoc sig, False := by decide

/-- The result, read entry by entry: the gradient. -/
theorem result (V : Valuation τ sig (Elt Ideal)) : after ops V (Proc.devRef .tc main_v4)
    = (DenseSpec.mmDx 8192 1024 1024 (V (Proc.devRef .tc main_arg0)) (V (Proc.devRef .tc main_arg1)) : Vec Ideal S8192x1024 .bf16) := by
  funext i
  after_reads_simp
  pointwise []
  rfl

variable (m : (ℓ : Loc nD τ sig) → Buf (Elt Ideal) ℓ) (ρ : Dev nD → PrngReg)

/-- The reference's run: its result, its arguments unchanged, every counter zero. -/
theorem run : θ_run defs (onTc (τ := τ) (main (F := Ideal))) ⟨m, fun _ => 0, ρ⟩ fun r => (∀ c : Dev nD,
      r.2.mem ((c.tc : Thread nD τ).loc main_v4) = (DenseSpec.mmDx 8192 1024 1024 (m ((c.tc : Thread nD τ).loc main_arg0)) (m ((c.tc : Thread nD τ).loc main_arg1)) : Vec Ideal _ _)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun _ h => ⟨fun c => ⟨(h c _).trans (result (launchContents m c)), (h c main_arg0).trans (by after_reads_simp), (h c main_arg1).trans (by after_reads_simp)⟩,
      funext fun g => (no_sem g.2).elim⟩)
    (run_seq scopedRefs_eq scopedSems_eq defs main (fun _ => ops) main_eq (fun _ => ops_sub) m ρ)

end Cert.AttnProjDxRefIdeal.Gen

end
-- ==== Proof.AttnProjDwRef.lean ====
/-
Plain: the weight gradient of the attention's output product. The reference's run, and its result read entry by entry.
-/
module

public import proofs.«01_k».proof.Proof.Gen.AttnProjDwRefIdeal
public import proofs.«01_k».proof.Proof.DenseKit

@[expose] public section

set_option maxRecDepth 16384

noncomputable section

namespace Cert.AttnProjDwRefIdeal.Gen

open Idealize.ShloMosaic Idealize.ShloMosaic.TcCoe Idealize.ShloMosaic.Tactic Idealize.ShloMosaic.StableHlo
open Idealize.SL.Sem

section
variable {F : FTy → Type} [FloatOps F]
/-- The program's operations in order. -/
abbrev ops : List (HloOp τ sig (Elt F)) :=
  [ unary main_arg0 main_v0 ((extf .f32 · bitsLt_bf16_f32) : HArr F S8192x1024 .bf16 → HArr F S8192x1024 .f32),
    nullary main_cst (constant S_ .f32 0x00000000#32),
    unary main_cst main_v1 (broadcastInDim S1024x1024 ![] bcast_S_S1024x1024 : HArr F S_ .f32 → HArr F S1024x1024 .f32),
    binary main_v0 main_v1 main_v2 ((fun l r => Host.dotGeneral dot_S8192x1024_S1024x1024_S8192x1024_1_0_0_1_n_n none l r) : HArr F S8192x1024 .f32 → HArr F S1024x1024 .f32 → HArr F S8192x1024 .f32),
    unary main_arg1 main_v3 ((extf .f32 · bitsLt_bf16_f32) : HArr F S8192x1024 .bf16 → HArr F S8192x1024 .f32),
    binary main_v3 main_v0 main_v4 ((fun l r => Host.dotGeneral dot_S8192x1024_S8192x1024_S1024x1024_0_0_1_1_n_n none l r) : HArr F S8192x1024 .f32 → HArr F S8192x1024 .f32 → HArr F S1024x1024 .f32),
    unary main_v4 main_v5 ((transpose S1024x1024 [1, 0] · transposes_S1024x1024_S1024x1024_1_0) : HArr F S1024x1024 .f32 → HArr F S1024x1024 .f32) ]

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by
  simp only [List.Forall, binary_bufs_sub, nullary_bufs_sub, unary_bufs_sub, and_self]
end

/-- There is no semaphore. -/
theorem no_sem : ∀ sm : SemLoc sig, False := by decide

/-- The result, read entry by entry: the gradient. -/
theorem result (V : Valuation τ sig (Elt Ideal)) : after ops V (Proc.devRef .tc main_v5)
    = (DenseSpec.mmDw 1024 8192 1024 (V (Proc.devRef .tc main_arg0)) (V (Proc.devRef .tc main_arg1)) : Vec Ideal S1024x1024 .f32) := by
  funext i
  after_reads_simp
  pointwise []
  exact DenseSpec.mmDw_comm 1024 8192 1024 _ _ i

variable (m : (ℓ : Loc nD τ sig) → Buf (Elt Ideal) ℓ) (ρ : Dev nD → PrngReg)

/-- The reference's run: its result, its arguments unchanged, every counter zero. -/
theorem run : θ_run defs (onTc (τ := τ) (main (F := Ideal))) ⟨m, fun _ => 0, ρ⟩ fun r => (∀ c : Dev nD,
      r.2.mem ((c.tc : Thread nD τ).loc main_v5) = (DenseSpec.mmDw 1024 8192 1024 (m ((c.tc : Thread nD τ).loc main_arg0)) (m ((c.tc : Thread nD τ).loc main_arg1)) : Vec Ideal _ _)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun _ h => ⟨fun c => ⟨(h c _).trans (result (launchContents m c)), (h c main_arg0).trans (by after_reads_simp), (h c main_arg1).trans (by after_reads_simp)⟩,
      funext fun g => (no_sem g.2).elim⟩)
    (run_seq scopedRefs_eq scopedSems_eq defs main (fun _ => ops) main_eq (fun _ => ops_sub) m ρ)

end Cert.AttnProjDwRefIdeal.Gen

end
-- ==== Proof.PleGateRef.lean ====
/-
Plain: the embedding gate's product. The reference's run, and its result read entry by entry.
-/
module

public import proofs.«01_k».proof.Proof.Gen.PleGateRefIdeal
public import proofs.«01_k».proof.Proof.DenseKit

@[expose] public section

set_option maxRecDepth 16384

noncomputable section

namespace Cert.PleGateRefIdeal.Gen

open Idealize.ShloMosaic Idealize.ShloMosaic.TcCoe Idealize.ShloMosaic.Tactic Idealize.ShloMosaic.StableHlo
open Idealize.SL.Sem

section
variable {F : FTy → Type} [FloatOps F]
/-- The program's operations in order. -/
abbrev ops : List (HloOp τ sig (Elt F)) :=
  [ binary main_arg0 main_arg1 main_v0 ((fun l r => Host.dotGeneral dot_S8192x1024_S1024x1024_S8192x1024_1_0_0_1_n_n none l r) : HArr F S8192x1024 .f32 → HArr F S1024x1024 .f32 → HArr F S8192x1024 .f32) ]

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  binary_bufs_sub ..
end

/-- There is no semaphore. -/
theorem no_sem : ∀ sm : SemLoc sig, False := by decide

/-- The result, read entry by entry: the product. -/
theorem result (V : Valuation τ sig (Elt Ideal)) : after ops V (Proc.devRef .tc main_v0)
    = (DenseSpec.mm 8192 1024 1024 (V (Proc.devRef .tc main_arg0)) (V (Proc.devRef .tc main_arg1)) : Vec Ideal S8192x1024 .f32) := by
  funext i
  after_reads_simp
  pointwise []
  rfl

variable (m : (ℓ : Loc nD τ sig) → Buf (Elt Ideal) ℓ) (ρ : Dev nD → PrngReg)

/-- The reference's run: its result, its arguments unchanged, every counter zero. -/
theorem run : θ_run defs (onTc (τ := τ) (main (F := Ideal))) ⟨m, fun _ => 0, ρ⟩ fun r => (∀ c : Dev nD,
      r.2.mem ((c.tc : Thread nD τ).loc main_v0) = (DenseSpec.mm 8192 1024 1024 (m ((c.tc : Thread nD τ).loc main_arg0)) (m ((c.tc : Thread nD τ).loc main_arg1)) : Vec Ideal _ _)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun _ h => ⟨fun c => ⟨(h c _).trans (result (launchContents m c)), (h c main_arg0).trans (by after_reads_simp), (h c main_arg1).trans (by after_reads_simp)⟩,
      funext fun g => (no_sem g.2).elim⟩)
    (run_seq scopedRefs_eq scopedSems_eq defs main (fun _ => ops) main_eq (fun _ => ops_sub) m ρ)

end Cert.PleGateRefIdeal.Gen

end
-- ==== Proof.PleGateDxRef.lean ====
/-
Plain: the input gradient of the embedding gate's product. The reference's run, and its result read entry by entry.
-/
module

public import proofs.«01_k».proof.Proof.Gen.PleGateDxRefIdeal
public import proofs.«01_k».proof.Proof.DenseKit

@[expose] public section

set_option maxRecDepth 16384

noncomputable section

namespace Cert.PleGateDxRefIdeal.Gen

open Idealize.ShloMosaic Idealize.ShloMosaic.TcCoe Idealize.ShloMosaic.Tactic Idealize.ShloMosaic.StableHlo
open Idealize.SL.Sem

section
variable {F : FTy → Type} [FloatOps F]
/-- The program's operations in order. -/
abbrev ops : List (HloOp τ sig (Elt F)) :=
  [ nullary main_cst (constant S_ .f32 0x00000000#32),
    unary main_cst main_v0 (broadcastInDim S8192x1024 ![] bcast_S_S8192x1024 : HArr F S_ .f32 → HArr F S8192x1024 .f32),
    binary main_v0 main_arg0 main_v1 ((fun l r => Host.dotGeneral dot_S8192x1024_S1024x1024_S8192x1024_1_0_0_1_n_n none l r) : HArr F S8192x1024 .f32 → HArr F S1024x1024 .f32 → HArr F S8192x1024 .f32),
    unary main_arg1 main_v2 ((extf .f32 · bitsLt_bf16_f32) : HArr F S8192x1024 .bf16 → HArr F S8192x1024 .f32),
    binary main_v2 main_arg0 main_v3 ((fun l r => Host.dotGeneral dot_S8192x1024_S1024x1024_S8192x1024_1_1_0_0_n_n none l r) : HArr F S8192x1024 .f32 → HArr F S1024x1024 .f32 → HArr F S8192x1024 .f32),
    binary main_arg2 main_v3 main_v4 (addf : HArr F S8192x1024 .f32 → HArr F S8192x1024 .f32 → HArr F S8192x1024 .f32) ]

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by
  simp only [List.Forall, binary_bufs_sub, nullary_bufs_sub, unary_bufs_sub, and_self]
end

/-- There is no semaphore. -/
theorem no_sem : ∀ sm : SemLoc sig, False := by decide

/-- The reference's reading of an entry is the specification's. -/
theorem entry_eq (w : Vec Ideal S1024x1024 .f32) (d : Vec Ideal S8192x1024 .bf16) (h : Vec Ideal S8192x1024 .f32) (i : S8192x1024.Idx) :
    h i + (∑ k : Fin 1024, d (ix2 (n0 := 8192) (n1 := 1024) (i 0) k) * w (ix2 (n0 := 1024) (n1 := 1024) (i 1) k))
      = DenseSpec.mmDxAdd 8192 1024 1024 w d h i := by
  rw [DenseSpec.mmDxAdd, one_mul, add_comm]
  rfl

/-- The result, read entry by entry: the gradient. -/
theorem result (V : Valuation τ sig (Elt Ideal)) : after ops V (Proc.devRef .tc main_v4)
    = (DenseSpec.mmDxAdd 8192 1024 1024 (V (Proc.devRef .tc main_arg0)) (V (Proc.devRef .tc main_arg1)) (V (Proc.devRef .tc main_arg2)) : Vec Ideal S8192x1024 .f32) := by
  funext i
  after_reads_simp
  pointwise []
  exact entry_eq _ _ _ i

variable (m : (ℓ : Loc nD τ sig) → Buf (Elt Ideal) ℓ) (ρ : Dev nD → PrngReg)

/-- The reference's run: its result, its arguments unchanged, every counter zero. -/
theorem run : θ_run defs (onTc (τ := τ) (main (F := Ideal))) ⟨m, fun _ => 0, ρ⟩ fun r => (∀ c : Dev nD,
      r.2.mem ((c.tc : Thread nD τ).loc main_v4) = (DenseSpec.mmDxAdd 8192 1024 1024 (m ((c.tc : Thread nD τ).loc main_arg0)) (m ((c.tc : Thread nD τ).loc main_arg1)) (m ((c.tc : Thread nD τ).loc main_arg2)) : Vec Ideal _ _)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun _ h => ⟨fun c => ⟨(h c _).trans (result (launchContents m c)), (h c main_arg0).trans (by after_reads_simp), (h c main_arg1).trans (by after_reads_simp), (h c main_arg2).trans (by after_reads_simp)⟩,
      funext fun g => (no_sem g.2).elim⟩)
    (run_seq scopedRefs_eq scopedSems_eq defs main (fun _ => ops) main_eq (fun _ => ops_sub) m ρ)

end Cert.PleGateDxRefIdeal.Gen

end
-- ==== Proof.PleGateDwRef.lean ====
/-
Plain: the weight gradient of the embedding gate's product. The reference's run, and its result read entry by entry.
-/
module

public import proofs.«01_k».proof.Proof.Gen.PleGateDwRefIdeal
public import proofs.«01_k».proof.Proof.DenseKit

@[expose] public section

set_option maxRecDepth 16384

noncomputable section

namespace Cert.PleGateDwRefIdeal.Gen

open Idealize.ShloMosaic Idealize.ShloMosaic.TcCoe Idealize.ShloMosaic.Tactic Idealize.ShloMosaic.StableHlo
open Idealize.SL.Sem

section
variable {F : FTy → Type} [FloatOps F]
/-- The program's operations in order. -/
abbrev ops : List (HloOp τ sig (Elt F)) :=
  [ nullary main_cst (constant S_ .f32 0x00000000#32),
    unary main_cst main_v0 (broadcastInDim S1024x1024 ![] bcast_S_S1024x1024 : HArr F S_ .f32 → HArr F S1024x1024 .f32),
    binary main_arg0 main_v0 main_v1 ((fun l r => Host.dotGeneral dot_S8192x1024_S1024x1024_S8192x1024_1_0_0_1_n_n none l r) : HArr F S8192x1024 .f32 → HArr F S1024x1024 .f32 → HArr F S8192x1024 .f32),
    unary main_arg1 main_v2 ((extf .f32 · bitsLt_bf16_f32) : HArr F S8192x1024 .bf16 → HArr F S8192x1024 .f32),
    binary main_v2 main_arg0 main_v3 ((fun l r => Host.dotGeneral dot_S8192x1024_S8192x1024_S1024x1024_0_0_1_1_n_n none l r) : HArr F S8192x1024 .f32 → HArr F S8192x1024 .f32 → HArr F S1024x1024 .f32),
    unary main_v3 main_v4 ((transpose S1024x1024 [1, 0] · transposes_S1024x1024_S1024x1024_1_0) : HArr F S1024x1024 .f32 → HArr F S1024x1024 .f32) ]

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by
  simp only [List.Forall, binary_bufs_sub, nullary_bufs_sub, unary_bufs_sub, and_self]
end

/-- There is no semaphore. -/
theorem no_sem : ∀ sm : SemLoc sig, False := by decide

/-- The result, read entry by entry: the gradient. -/
theorem result (V : Valuation τ sig (Elt Ideal)) : after ops V (Proc.devRef .tc main_v4)
    = (DenseSpec.mmDw 1024 8192 1024 (V (Proc.devRef .tc main_arg0)) (V (Proc.devRef .tc main_arg1)) : Vec Ideal S1024x1024 .f32) := by
  funext i
  after_reads_simp
  pointwise []
  exact DenseSpec.mmDw_comm 1024 8192 1024 _ _ i

variable (m : (ℓ : Loc nD τ sig) → Buf (Elt Ideal) ℓ) (ρ : Dev nD → PrngReg)

/-- The reference's run: its result, its arguments unchanged, every counter zero. -/
theorem run : θ_run defs (onTc (τ := τ) (main (F := Ideal))) ⟨m, fun _ => 0, ρ⟩ fun r => (∀ c : Dev nD,
      r.2.mem ((c.tc : Thread nD τ).loc main_v4) = (DenseSpec.mmDw 1024 8192 1024 (m ((c.tc : Thread nD τ).loc main_arg0)) (m ((c.tc : Thread nD τ).loc main_arg1)) : Vec Ideal _ _)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun _ h => ⟨fun c => ⟨(h c _).trans (result (launchContents m c)), (h c main_arg0).trans (by after_reads_simp), (h c main_arg1).trans (by after_reads_simp)⟩,
      funext fun g => (no_sem g.2).elim⟩)
    (run_seq scopedRefs_eq scopedSems_eq defs main (fun _ => ops) main_eq (fun _ => ops_sub) m ρ)

end Cert.PleGateDwRefIdeal.Gen

end
-- ==== Proof.lean ====
/-
The claims of this certificate: the retention's forward and backward launches, and most of the layer's products with weights and their gradients.
-/
module

public import proofs.«01_k».proof.Proof.KEnd
public import proofs.«01_k».proof.Proof.KernelFrame
public import proofs.«01_k».proof.Proof.RefPost
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Proj.Frame
public import proofs.«01_k».proof.Proof.Gen.ProjDw.Frame
public import proofs.«01_k».proof.Proof.Gen.ProjDx.Frame
public import proofs.«01_k».proof.Proof.Gen.DownDx.Frame
public import proofs.«01_k».proof.Proof.Gen.DownDw.Frame
public import proofs.«01_k».proof.Proof.Gen.UpUDw.Frame
public import proofs.«01_k».proof.Proof.Gen.UpGDx.Frame
public import proofs.«01_k».proof.Proof.Gen.UpUDx.Frame
public import proofs.«01_k».proof.Proof.Gen.UpG.Frame
public import proofs.«01_k».proof.Proof.Gen.UpU.Frame
public import proofs.«01_k».proof.Proof.Gen.Down.Frame
public import proofs.«01_k».proof.Proof.Gen.RetProj.Frame
public import proofs.«01_k».proof.Proof.Gen.RetProjDx.Frame
public import proofs.«01_k».proof.Proof.Gen.RetProjDw.Frame
public import proofs.«01_k».proof.Proof.Gen.AttnProj.Frame
public import proofs.«01_k».proof.Proof.Gen.AttnProjDx.Frame
public import proofs.«01_k».proof.Proof.Gen.AttnProjDw.Frame
public import proofs.«01_k».proof.Proof.Gen.PleGate.Frame
public import proofs.«01_k».proof.Proof.Gen.PleGateDx.Frame
public import proofs.«01_k».proof.Proof.Gen.PleGateDw.Frame
public import proofs.«01_k».proof.Proof.Gen.ProjIdeal.Value
public import proofs.«01_k».proof.Proof.Gen.ProjDwIdeal.Value
public import proofs.«01_k».proof.Proof.Gen.ProjDxIdeal.Value
public import proofs.«01_k».proof.Proof.Gen.DownDxIdeal.Value
public import proofs.«01_k».proof.Proof.Gen.DownDwIdeal.Value
public import proofs.«01_k».proof.Proof.Gen.UpUDwIdeal.Value
public import proofs.«01_k».proof.Proof.Gen.UpGDxIdeal.Value
public import proofs.«01_k».proof.Proof.Gen.UpUDxIdeal.Value
public import proofs.«01_k».proof.Proof.Gen.UpGIdeal.Value
public import proofs.«01_k».proof.Proof.Gen.UpUIdeal.Value
public import proofs.«01_k».proof.Proof.Gen.DownIdeal.Value
public import proofs.«01_k».proof.Proof.Gen.RetProjIdeal.Value
public import proofs.«01_k».proof.Proof.Gen.RetProjDxIdeal.Value
public import proofs.«01_k».proof.Proof.Gen.RetProjDwIdeal.Value
public import proofs.«01_k».proof.Proof.Gen.AttnProjIdeal.Value
public import proofs.«01_k».proof.Proof.Gen.AttnProjDxIdeal.Value
public import proofs.«01_k».proof.Proof.Gen.AttnProjDwIdeal.Value
public import proofs.«01_k».proof.Proof.Gen.PleGateIdeal.Value
public import proofs.«01_k».proof.Proof.Gen.PleGateDxIdeal.Value
public import proofs.«01_k».proof.Proof.Gen.PleGateDwIdeal.Value
public import proofs.«01_k».proof.Proof.ProjV
public import proofs.«01_k».proof.Proof.ProjDwV
public import proofs.«01_k».proof.Proof.ProjDxV
public import proofs.«01_k».proof.Proof.DownDxV
public import proofs.«01_k».proof.Proof.DownDwV
public import proofs.«01_k».proof.Proof.UpUDwV
public import proofs.«01_k».proof.Proof.UpGDxV
public import proofs.«01_k».proof.Proof.UpUDxV
public import proofs.«01_k».proof.Proof.UpGV
public import proofs.«01_k».proof.Proof.UpUV
public import proofs.«01_k».proof.Proof.DownV
public import proofs.«01_k».proof.Proof.RetProjV
public import proofs.«01_k».proof.Proof.RetProjDxV
public import proofs.«01_k».proof.Proof.RetProjDwV
public import proofs.«01_k».proof.Proof.AttnProjV
public import proofs.«01_k».proof.Proof.AttnProjDxV
public import proofs.«01_k».proof.Proof.AttnProjDwV
public import proofs.«01_k».proof.Proof.PleGateV
public import proofs.«01_k».proof.Proof.PleGateDxV
public import proofs.«01_k».proof.Proof.PleGateDwV
public import proofs.«01_k».proof.Proof.ProjRef
public import proofs.«01_k».proof.Proof.ProjDwRef
public import proofs.«01_k».proof.Proof.ProjDxRef
public import proofs.«01_k».proof.Proof.DownDxRef
public import proofs.«01_k».proof.Proof.DownDwRef
public import proofs.«01_k».proof.Proof.UpUDwRef
public import proofs.«01_k».proof.Proof.UpGDxRef
public import proofs.«01_k».proof.Proof.UpUDxRef
public import proofs.«01_k».proof.Proof.UpGRef
public import proofs.«01_k».proof.Proof.UpURef
public import proofs.«01_k».proof.Proof.DownRef
public import proofs.«01_k».proof.Proof.RetProjRef
public import proofs.«01_k».proof.Proof.RetProjDxRef
public import proofs.«01_k».proof.Proof.RetProjDwRef
public import proofs.«01_k».proof.Proof.AttnProjRef
public import proofs.«01_k».proof.Proof.AttnProjDxRef
public import proofs.«01_k».proof.Proof.AttnProjDwRef
public import proofs.«01_k».proof.Proof.PleGateRef
public import proofs.«01_k».proof.Proof.PleGateDxRef
public import proofs.«01_k».proof.Proof.PleGateDwRef
public import Idealize.ShloMosaic.Adequacy
public import Idealize.ShloMosaic.Init

@[expose] public section

noncomputable section

namespace Cert.Proof

open Idealize.ShloMosaic Idealize.ShloMosaic.TcCoe Idealize.SL.Sem Cert.Kernel

/-- The idealized kernel's frame. -/
theorem frame_ideal : Cert.quiescent_KernelIdeal := fun m ρ _ => Cert.KernelIdeal.Gen.frame_run m ρ

/-- The reference's frame. -/
theorem frame_reference : Cert.quiescent_ReferenceIdeal := fun m ρ _ =>
  (θ_run Cert.ReferenceIdeal.defs _ _).mono (fun _ h => ⟨fun c => ⟨h.1 c _ (by decide), h.1 c _ (by decide), h.1 c _ (by decide), h.1 c _ (by decide)⟩, h.2⟩)
    (Cert.ReferenceIdeal.Gen.frame_run m ρ)

/-- The two programs' layers agree where their arguments do. -/
theorem layers_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Gen.layerOf (StableHlo.launchContents m' c) = Cert.KernelIdeal.Gen.layerAt m c := by
  show Ret.layer (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2)) = _
  rw [h0, h1, h2]

/-- On the extended reals the kernel's two arrays are the reference's. -/
theorem algebraic : Cert.algebraic_KernelIdeal_ReferenceIdeal := by
  intro m g m' g' _ hagree
  refine ⟨fun c => Cert.KernelIdeal.Gen.B6 m c (Proc.devRef .tc Cert.KernelIdeal.main_v64_0),
    fun c => Cert.KernelIdeal.Gen.B6 m c (Proc.devRef .tc Cert.KernelIdeal.main_v65), ?_, ?_⟩
  · refine (θ_run Cert.KernelIdeal.defs _ _).mono (fun r h c => ?_) (Cert.KernelIdeal.Gen.run_main (F := Ideal) m g)
    have ha : ∀ a ∈ Cert.KernelIdeal.Gen.argRefs, ¬ (Proc.devRef .tc a : DevRef Cert.KernelIdeal.τ Cert.KernelIdeal.sig).isScoped →
        r.2.mem ((c.tc : Thread Cert.KernelIdeal.nD Cert.KernelIdeal.τ).loc a) = m ((c.tc : Thread Cert.KernelIdeal.nD Cert.KernelIdeal.τ).loc a) :=
      fun a ha hs => (h.1 c _ (Cert.KernelIdeal.Gen.mem_unscoped a hs)).trans (Cert.KernelIdeal.Gen.B6_args m c a ha)
    exact ⟨h.1 c _ (Cert.KernelIdeal.Gen.mem_unscoped _ (by decide)), h.1 c _ (Cert.KernelIdeal.Gen.mem_unscoped _ (by decide)),
      ha _ (by decide) (by decide), ha _ (by decide) (by decide), ha _ (by decide) (by decide), ha _ (by decide) (by decide)⟩
  · refine (θ_run Cert.ReferenceIdeal.defs _ _).mono (fun r h c => ?_) (Cert.ReferenceIdeal.Gen.run_main (F := Ideal) m' g')
    have hl := layers_agree m m' c (hagree c).1 (hagree c).2.1 (hagree c).2.2.1
    have ha : ∀ a ∈ Cert.ReferenceIdeal.Gen.argRefs, (Proc.devRef .tc a : DevRef Cert.ReferenceIdeal.τ Cert.ReferenceIdeal.sig).isScoped = false →
        r.2.mem ((c.tc : Thread Cert.ReferenceIdeal.nD Cert.ReferenceIdeal.τ).loc a) = m' ((c.tc : Thread Cert.ReferenceIdeal.nD Cert.ReferenceIdeal.τ).loc a) :=
      fun a ha hs => (h.1 c _ (StableHlo.devRef_mem_ucRefs a hs)).trans (Cert.ReferenceIdeal.Gen.Fin0_args m' c a ha)
    refine ⟨(h.1 c _ (StableHlo.devRef_mem_ucRefs _ rfl)).trans (funext fun j => ?_),
      (h.1 c _ (StableHlo.devRef_mem_ucRefs _ rfl)).trans (funext fun j => ?_),
      ha _ (by decide) rfl, ha _ (by decide) rfl, ha _ (by decide) rfl, ha _ (by decide) rfl⟩
    · obtain ⟨i, k, rfl⟩ : ∃ i k, j = ix2 (n0 := 8192) (n1 := 2048) i k := ⟨_, _, ValueIdx.eq_ix2 j⟩
      refine (Cert.ReferenceIdeal.Gen.fin_v187 m' c i k).trans ?_
      rw [hl]
      exact (Cert.KernelIdeal.Gen.last_out m c i k).symm
    · obtain ⟨i, k, rfl⟩ : ∃ i k, j = ix2 (n0 := 8192) (n1 := 8192) i k := ⟨_, _, ValueIdx.eq_ix2 j⟩
      refine (Cert.ReferenceIdeal.Gen.fin_v189 m' c i k).trans (Eq.trans ?_ (Cert.KernelIdeal.Gen.last_grad m c i k).symm)
      rw [hl]
      exact if_congr Iff.rfl rfl (congrFun (hagree c).2.2.2 _)

/-- The frames of the projection's rest columns and of its reference. -/
theorem frames_Proj : quiescent_Proj ∧ quiescent_ProjIdeal ∧ quiescent_ProjRefIdeal :=
  ⟨fun m ρ _ => Proj.Gen.frame m ρ, fun m ρ _ => ProjIdeal.Gen.frame m ρ,
    fun m ρ _ => (θ_run ProjRefIdeal.defs _ _).mono (fun _ h => ⟨fun c => (h.1 c).2, h.2⟩) (ProjRefIdeal.Gen.run m ρ)⟩

/-- On the extended reals the kernel's array is the reference's: the projection's rest columns. -/
theorem algebraic_Proj : algebraic_ProjIdeal_ProjRefIdeal := by
  intro m g m' g' _ hagree
  refine ⟨_, ProjIdeal.Value.run_blocks m g, (θ_run ProjRefIdeal.defs _ _).mono
    (fun r h c => ⟨(h.1 c).1.trans (Eq.trans ?_ (ProjIdeal.Gen.array m c).symm), (h.1 c).2⟩) (ProjRefIdeal.Gen.run m' g')⟩
  rw [(hagree c).1, (hagree c).2]

/-- The frames of the projection's weight gradient and of its reference. -/
theorem frames_ProjDw : quiescent_ProjDw ∧ quiescent_ProjDwIdeal ∧ quiescent_ProjDwRefIdeal :=
  ⟨fun m ρ _ => ProjDw.Gen.frame m ρ, fun m ρ _ => ProjDwIdeal.Gen.frame m ρ,
    fun m ρ _ => (θ_run ProjDwRefIdeal.defs _ _).mono (fun _ h => ⟨fun c => (h.1 c).2, h.2⟩) (ProjDwRefIdeal.Gen.run m ρ)⟩

/-- On the extended reals the kernel's array is the reference's: the projection's weight gradient. -/
theorem algebraic_ProjDw : algebraic_ProjDwIdeal_ProjDwRefIdeal := by
  intro m g m' g' _ hagree
  refine ⟨_, ProjDwIdeal.Value.run_blocks m g, (θ_run ProjDwRefIdeal.defs _ _).mono
    (fun r h c => ⟨(h.1 c).1.trans (Eq.trans ?_ (ProjDwIdeal.Gen.array m c).symm), (h.1 c).2⟩) (ProjDwRefIdeal.Gen.run m' g')⟩
  rw [(hagree c).1, (hagree c).2.1, (hagree c).2.2]

/-- The frames of the projection's input gradient and of its reference. -/
theorem frames_ProjDx : quiescent_ProjDx ∧ quiescent_ProjDxIdeal ∧ quiescent_ProjDxRefIdeal :=
  ⟨fun m ρ _ => ProjDx.Gen.frame m ρ, fun m ρ _ => ProjDxIdeal.Gen.frame m ρ,
    fun m ρ _ => (θ_run ProjDxRefIdeal.defs _ _).mono (fun _ h => ⟨fun c => (h.1 c).2, h.2⟩) (ProjDxRefIdeal.Gen.run m ρ)⟩

/-- On the extended reals the kernel's array is the reference's: the projection's input gradient. -/
theorem algebraic_ProjDx : algebraic_ProjDxIdeal_ProjDxRefIdeal := by
  intro m g m' g' _ hagree
  refine ⟨_, ProjDxIdeal.Value.run_blocks m g, (θ_run ProjDxRefIdeal.defs _ _).mono
    (fun r h c => ⟨(h.1 c).1.trans (Eq.trans ?_ (ProjDxIdeal.Gen.array m c).symm), (h.1 c).2⟩) (ProjDxRefIdeal.Gen.run m' g')⟩
  rw [(hagree c).1, (hagree c).2.1, (hagree c).2.2.1]

/-- The frames of the down product's input gradient and of its reference. -/
theorem frames_DownDx : quiescent_DownDx ∧ quiescent_DownDxIdeal ∧ quiescent_DownDxRefIdeal :=
  ⟨fun m ρ _ => DownDx.Gen.frame m ρ, fun m ρ _ => DownDxIdeal.Gen.frame m ρ,
    fun m ρ _ => (θ_run DownDxRefIdeal.defs _ _).mono (fun _ h => ⟨fun c => (h.1 c).2, h.2⟩) (DownDxRefIdeal.Gen.run m ρ)⟩

/-- On the extended reals the kernel's array is the reference's: the down product's input gradient. -/
theorem algebraic_DownDx : algebraic_DownDxIdeal_DownDxRefIdeal := by
  intro m g m' g' _ hagree
  refine ⟨_, DownDxIdeal.Value.run_blocks m g, (θ_run DownDxRefIdeal.defs _ _).mono
    (fun r h c => ⟨(h.1 c).1.trans (Eq.trans ?_ (DownDxIdeal.Gen.array m c).symm), (h.1 c).2⟩) (DownDxRefIdeal.Gen.run m' g')⟩
  rw [(hagree c).1, (hagree c).2]

/-- The frames of the down product's weight gradient and of its reference. -/
theorem frames_DownDw : quiescent_DownDw ∧ quiescent_DownDwIdeal ∧ quiescent_DownDwRefIdeal :=
  ⟨fun m ρ _ => DownDw.Gen.frame m ρ, fun m ρ _ => DownDwIdeal.Gen.frame m ρ,
    fun m ρ _ => (θ_run DownDwRefIdeal.defs _ _).mono (fun _ h => ⟨fun c => (h.1 c).2, h.2⟩) (DownDwRefIdeal.Gen.run m ρ)⟩

/-- On the extended reals the kernel's array is the reference's: the down product's weight gradient. -/
theorem algebraic_DownDw : algebraic_DownDwIdeal_DownDwRefIdeal := by
  intro m g m' g' _ hagree
  refine ⟨_, DownDwIdeal.Value.run_blocks m g, (θ_run DownDwRefIdeal.defs _ _).mono
    (fun r h c => ⟨(h.1 c).1.trans (Eq.trans ?_ (DownDwIdeal.Gen.array m c).symm), (h.1 c).2⟩) (DownDwRefIdeal.Gen.run m' g')⟩
  rw [(hagree c).1, (hagree c).2]

/-- The frames of the weight gradient of the up product's linear half and of its reference. -/
theorem frames_UpUDw : quiescent_UpUDw ∧ quiescent_UpUDwIdeal ∧ quiescent_UpUDwRefIdeal :=
  ⟨fun m ρ _ => UpUDw.Gen.frame m ρ, fun m ρ _ => UpUDwIdeal.Gen.frame m ρ,
    fun m ρ _ => (θ_run UpUDwRefIdeal.defs _ _).mono (fun _ h => ⟨fun c => (h.1 c).2, h.2⟩) (UpUDwRefIdeal.Gen.run m ρ)⟩

/-- On the extended reals the kernel's array is the reference's: the weight gradient of the up product's linear half. -/
theorem algebraic_UpUDw : algebraic_UpUDwIdeal_UpUDwRefIdeal := by
  intro m g m' g' _ hagree
  refine ⟨_, UpUDwIdeal.Value.run_blocks m g, (θ_run UpUDwRefIdeal.defs _ _).mono
    (fun r h c => ⟨(h.1 c).1.trans (Eq.trans ?_ (UpUDwIdeal.Gen.array m c).symm), (h.1 c).2⟩) (UpUDwRefIdeal.Gen.run m' g')⟩
  rw [(hagree c).1, (hagree c).2.1, (hagree c).2.2]

/-- The frames of the input gradient of the up product's gate half and of its reference. -/
theorem frames_UpGDx : quiescent_UpGDx ∧ quiescent_UpGDxIdeal ∧ quiescent_UpGDxRefIdeal :=
  ⟨fun m ρ _ => UpGDx.Gen.frame m ρ, fun m ρ _ => UpGDxIdeal.Gen.frame m ρ,
    fun m ρ _ => (θ_run UpGDxRefIdeal.defs _ _).mono (fun _ h => ⟨fun c => (h.1 c).2, h.2⟩) (UpGDxRefIdeal.Gen.run m ρ)⟩

/-- On the extended reals the kernel's array is the reference's: the input gradient of the up product's gate half. -/
theorem algebraic_UpGDx : algebraic_UpGDxIdeal_UpGDxRefIdeal := by
  intro m g m' g' _ hagree
  refine ⟨_, UpGDxIdeal.Value.run_blocks m g, (θ_run UpGDxRefIdeal.defs _ _).mono
    (fun r h c => ⟨(h.1 c).1.trans (Eq.trans ?_ (UpGDxIdeal.Gen.array m c).symm), (h.1 c).2⟩) (UpGDxRefIdeal.Gen.run m' g')⟩
  rw [(hagree c).1, (hagree c).2.1, (hagree c).2.2]

/-- The frames of the input gradient of the up product's linear half and of its reference. -/
theorem frames_UpUDx : quiescent_UpUDx ∧ quiescent_UpUDxIdeal ∧ quiescent_UpUDxRefIdeal :=
  ⟨fun m ρ _ => UpUDx.Gen.frame m ρ, fun m ρ _ => UpUDxIdeal.Gen.frame m ρ,
    fun m ρ _ => (θ_run UpUDxRefIdeal.defs _ _).mono (fun _ h => ⟨fun c => (h.1 c).2, h.2⟩) (UpUDxRefIdeal.Gen.run m ρ)⟩

/-- On the extended reals the kernel's array is the reference's: the input gradient of the up product's linear half. -/
theorem algebraic_UpUDx : algebraic_UpUDxIdeal_UpUDxRefIdeal := by
  intro m g m' g' _ hagree
  refine ⟨_, UpUDxIdeal.Value.run_blocks m g, (θ_run UpUDxRefIdeal.defs _ _).mono
    (fun r h c => ⟨(h.1 c).1.trans (Eq.trans ?_ (UpUDxIdeal.Gen.array m c).symm), (h.1 c).2⟩) (UpUDxRefIdeal.Gen.run m' g')⟩
  rw [(hagree c).1, (hagree c).2.1, (hagree c).2.2]

/-- The frames of the gate half of the up product and of its reference. -/
theorem frames_UpG : quiescent_UpG ∧ quiescent_UpGIdeal ∧ quiescent_UpGRefIdeal :=
  ⟨fun m ρ _ => UpG.Gen.frame m ρ, fun m ρ _ => UpGIdeal.Gen.frame m ρ,
    fun m ρ _ => (θ_run UpGRefIdeal.defs _ _).mono (fun _ h => ⟨fun c => (h.1 c).2, h.2⟩) (UpGRefIdeal.Gen.run m ρ)⟩

/-- On the extended reals the kernel's array is the reference's: the gate half of the up product. -/
theorem algebraic_UpG : algebraic_UpGIdeal_UpGRefIdeal := by
  intro m g m' g' _ hagree
  refine ⟨_, UpGIdeal.Value.run_blocks m g, (θ_run UpGRefIdeal.defs _ _).mono
    (fun r h c => ⟨(h.1 c).1.trans (Eq.trans ?_ (UpGIdeal.Gen.array m c).symm), (h.1 c).2⟩) (UpGRefIdeal.Gen.run m' g')⟩
  rw [(hagree c).1, (hagree c).2]

/-- The frames of the linear half of the up product and of its reference. -/
theorem frames_UpU : quiescent_UpU ∧ quiescent_UpUIdeal ∧ quiescent_UpURefIdeal :=
  ⟨fun m ρ _ => UpU.Gen.frame m ρ, fun m ρ _ => UpUIdeal.Gen.frame m ρ,
    fun m ρ _ => (θ_run UpURefIdeal.defs _ _).mono (fun _ h => ⟨fun c => (h.1 c).2, h.2⟩) (UpURefIdeal.Gen.run m ρ)⟩

/-- On the extended reals the kernel's array is the reference's: the linear half of the up product. -/
theorem algebraic_UpU : algebraic_UpUIdeal_UpURefIdeal := by
  intro m g m' g' _ hagree
  refine ⟨_, UpUIdeal.Value.run_blocks m g, (θ_run UpURefIdeal.defs _ _).mono
    (fun r h c => ⟨(h.1 c).1.trans (Eq.trans ?_ (UpUIdeal.Gen.array m c).symm), (h.1 c).2⟩) (UpURefIdeal.Gen.run m' g')⟩
  rw [(hagree c).1, (hagree c).2]

/-- The frames of the down product and of its reference. -/
theorem frames_Down : quiescent_Down ∧ quiescent_DownIdeal ∧ quiescent_DownRefIdeal :=
  ⟨fun m ρ _ => Down.Gen.frame m ρ, fun m ρ _ => DownIdeal.Gen.frame m ρ,
    fun m ρ _ => (θ_run DownRefIdeal.defs _ _).mono (fun _ h => ⟨fun c => (h.1 c).2, h.2⟩) (DownRefIdeal.Gen.run m ρ)⟩

/-- On the extended reals the kernel's array is the reference's: the down product. -/
theorem algebraic_Down : algebraic_DownIdeal_DownRefIdeal := by
  intro m g m' g' _ hagree
  refine ⟨_, DownIdeal.Value.run_blocks m g, (θ_run DownRefIdeal.defs _ _).mono
    (fun r h c => ⟨(h.1 c).1.trans (Eq.trans ?_ (DownIdeal.Gen.array m c).symm), (h.1 c).2⟩) (DownRefIdeal.Gen.run m' g')⟩
  rw [(hagree c).1, (hagree c).2]

/-- The frames of the retention's output product and of its reference. -/
theorem frames_RetProj : quiescent_RetProj ∧ quiescent_RetProjIdeal ∧ quiescent_RetProjRefIdeal :=
  ⟨fun m ρ _ => RetProj.Gen.frame m ρ, fun m ρ _ => RetProjIdeal.Gen.frame m ρ,
    fun m ρ _ => (θ_run RetProjRefIdeal.defs _ _).mono (fun _ h => ⟨fun c => (h.1 c).2, h.2⟩) (RetProjRefIdeal.Gen.run m ρ)⟩

/-- On the extended reals the kernel's array is the reference's: the retention's output product. -/
theorem algebraic_RetProj : algebraic_RetProjIdeal_RetProjRefIdeal := by
  intro m g m' g' _ hagree
  refine ⟨_, RetProjIdeal.Value.run_blocks m g, (θ_run RetProjRefIdeal.defs _ _).mono
    (fun r h c => ⟨(h.1 c).1.trans (Eq.trans ?_ (RetProjIdeal.Gen.array m c).symm), (h.1 c).2⟩) (RetProjRefIdeal.Gen.run m' g')⟩
  rw [(hagree c).1, (hagree c).2]

/-- The frames of the input gradient of the retention's output product and of its reference. -/
theorem frames_RetProjDx : quiescent_RetProjDx ∧ quiescent_RetProjDxIdeal ∧ quiescent_RetProjDxRefIdeal :=
  ⟨fun m ρ _ => RetProjDx.Gen.frame m ρ, fun m ρ _ => RetProjDxIdeal.Gen.frame m ρ,
    fun m ρ _ => (θ_run RetProjDxRefIdeal.defs _ _).mono (fun _ h => ⟨fun c => (h.1 c).2, h.2⟩) (RetProjDxRefIdeal.Gen.run m ρ)⟩

/-- On the extended reals the kernel's array is the reference's: the input gradient of the retention's output product. -/
theorem algebraic_RetProjDx : algebraic_RetProjDxIdeal_RetProjDxRefIdeal := by
  intro m g m' g' _ hagree
  refine ⟨_, RetProjDxIdeal.Value.run_blocks m g, (θ_run RetProjDxRefIdeal.defs _ _).mono
    (fun r h c => ⟨(h.1 c).1.trans (Eq.trans ?_ (RetProjDxIdeal.Gen.array m c).symm), (h.1 c).2⟩) (RetProjDxRefIdeal.Gen.run m' g')⟩
  rw [(hagree c).1, (hagree c).2]

/-- The frames of the weight gradient of the retention's output product and of its reference. -/
theorem frames_RetProjDw : quiescent_RetProjDw ∧ quiescent_RetProjDwIdeal ∧ quiescent_RetProjDwRefIdeal :=
  ⟨fun m ρ _ => RetProjDw.Gen.frame m ρ, fun m ρ _ => RetProjDwIdeal.Gen.frame m ρ,
    fun m ρ _ => (θ_run RetProjDwRefIdeal.defs _ _).mono (fun _ h => ⟨fun c => (h.1 c).2, h.2⟩) (RetProjDwRefIdeal.Gen.run m ρ)⟩

/-- On the extended reals the kernel's array is the reference's: the weight gradient of the retention's output product. -/
theorem algebraic_RetProjDw : algebraic_RetProjDwIdeal_RetProjDwRefIdeal := by
  intro m g m' g' _ hagree
  refine ⟨_, RetProjDwIdeal.Value.run_blocks m g, (θ_run RetProjDwRefIdeal.defs _ _).mono
    (fun r h c => ⟨(h.1 c).1.trans (Eq.trans ?_ (RetProjDwIdeal.Gen.array m c).symm), (h.1 c).2⟩) (RetProjDwRefIdeal.Gen.run m' g')⟩
  rw [(hagree c).1, (hagree c).2]

/-- The frames of the attention's output product and of its reference. -/
theorem frames_AttnProj : quiescent_AttnProj ∧ quiescent_AttnProjIdeal ∧ quiescent_AttnProjRefIdeal :=
  ⟨fun m ρ _ => AttnProj.Gen.frame m ρ, fun m ρ _ => AttnProjIdeal.Gen.frame m ρ,
    fun m ρ _ => (θ_run AttnProjRefIdeal.defs _ _).mono (fun _ h => ⟨fun c => (h.1 c).2, h.2⟩) (AttnProjRefIdeal.Gen.run m ρ)⟩

/-- On the extended reals the kernel's array is the reference's: the attention's output product. -/
theorem algebraic_AttnProj : algebraic_AttnProjIdeal_AttnProjRefIdeal := by
  intro m g m' g' _ hagree
  refine ⟨_, AttnProjIdeal.Value.run_blocks m g, (θ_run AttnProjRefIdeal.defs _ _).mono
    (fun r h c => ⟨(h.1 c).1.trans (Eq.trans ?_ (AttnProjIdeal.Gen.array m c).symm), (h.1 c).2⟩) (AttnProjRefIdeal.Gen.run m' g')⟩
  rw [(hagree c).1, (hagree c).2]

/-- The frames of the input gradient of the attention's output product and of its reference. -/
theorem frames_AttnProjDx : quiescent_AttnProjDx ∧ quiescent_AttnProjDxIdeal ∧ quiescent_AttnProjDxRefIdeal :=
  ⟨fun m ρ _ => AttnProjDx.Gen.frame m ρ, fun m ρ _ => AttnProjDxIdeal.Gen.frame m ρ,
    fun m ρ _ => (θ_run AttnProjDxRefIdeal.defs _ _).mono (fun _ h => ⟨fun c => (h.1 c).2, h.2⟩) (AttnProjDxRefIdeal.Gen.run m ρ)⟩

/-- On the extended reals the kernel's array is the reference's: the input gradient of the attention's output product. -/
theorem algebraic_AttnProjDx : algebraic_AttnProjDxIdeal_AttnProjDxRefIdeal := by
  intro m g m' g' _ hagree
  refine ⟨_, AttnProjDxIdeal.Value.run_blocks m g, (θ_run AttnProjDxRefIdeal.defs _ _).mono
    (fun r h c => ⟨(h.1 c).1.trans (Eq.trans ?_ (AttnProjDxIdeal.Gen.array m c).symm), (h.1 c).2⟩) (AttnProjDxRefIdeal.Gen.run m' g')⟩
  rw [(hagree c).1, (hagree c).2]

/-- The frames of the weight gradient of the attention's output product and of its reference. -/
theorem frames_AttnProjDw : quiescent_AttnProjDw ∧ quiescent_AttnProjDwIdeal ∧ quiescent_AttnProjDwRefIdeal :=
  ⟨fun m ρ _ => AttnProjDw.Gen.frame m ρ, fun m ρ _ => AttnProjDwIdeal.Gen.frame m ρ,
    fun m ρ _ => (θ_run AttnProjDwRefIdeal.defs _ _).mono (fun _ h => ⟨fun c => (h.1 c).2, h.2⟩) (AttnProjDwRefIdeal.Gen.run m ρ)⟩

/-- On the extended reals the kernel's array is the reference's: the weight gradient of the attention's output product. -/
theorem algebraic_AttnProjDw : algebraic_AttnProjDwIdeal_AttnProjDwRefIdeal := by
  intro m g m' g' _ hagree
  refine ⟨_, AttnProjDwIdeal.Value.run_blocks m g, (θ_run AttnProjDwRefIdeal.defs _ _).mono
    (fun r h c => ⟨(h.1 c).1.trans (Eq.trans ?_ (AttnProjDwIdeal.Gen.array m c).symm), (h.1 c).2⟩) (AttnProjDwRefIdeal.Gen.run m' g')⟩
  rw [(hagree c).1, (hagree c).2]

/-- The frames of the embedding gate's product and of its reference. -/
theorem frames_PleGate : quiescent_PleGate ∧ quiescent_PleGateIdeal ∧ quiescent_PleGateRefIdeal :=
  ⟨fun m ρ _ => PleGate.Gen.frame m ρ, fun m ρ _ => PleGateIdeal.Gen.frame m ρ,
    fun m ρ _ => (θ_run PleGateRefIdeal.defs _ _).mono (fun _ h => ⟨fun c => (h.1 c).2, h.2⟩) (PleGateRefIdeal.Gen.run m ρ)⟩

/-- On the extended reals the kernel's array is the reference's: the embedding gate's product. -/
theorem algebraic_PleGate : algebraic_PleGateIdeal_PleGateRefIdeal := by
  intro m g m' g' _ hagree
  refine ⟨_, PleGateIdeal.Value.run_blocks m g, (θ_run PleGateRefIdeal.defs _ _).mono
    (fun r h c => ⟨(h.1 c).1.trans (Eq.trans ?_ (PleGateIdeal.Gen.array m c).symm), (h.1 c).2⟩) (PleGateRefIdeal.Gen.run m' g')⟩
  rw [(hagree c).1, (hagree c).2]

/-- The frames of the input gradient of the embedding gate's product and of its reference. -/
theorem frames_PleGateDx : quiescent_PleGateDx ∧ quiescent_PleGateDxIdeal ∧ quiescent_PleGateDxRefIdeal :=
  ⟨fun m ρ _ => PleGateDx.Gen.frame m ρ, fun m ρ _ => PleGateDxIdeal.Gen.frame m ρ,
    fun m ρ _ => (θ_run PleGateDxRefIdeal.defs _ _).mono (fun _ h => ⟨fun c => (h.1 c).2, h.2⟩) (PleGateDxRefIdeal.Gen.run m ρ)⟩

/-- On the extended reals the kernel's array is the reference's: the input gradient of the embedding gate's product. -/
theorem algebraic_PleGateDx : algebraic_PleGateDxIdeal_PleGateDxRefIdeal := by
  intro m g m' g' _ hagree
  refine ⟨_, PleGateDxIdeal.Value.run_blocks m g, (θ_run PleGateDxRefIdeal.defs _ _).mono
    (fun r h c => ⟨(h.1 c).1.trans (Eq.trans ?_ (PleGateDxIdeal.Gen.array m c).symm), (h.1 c).2⟩) (PleGateDxRefIdeal.Gen.run m' g')⟩
  rw [(hagree c).1, (hagree c).2.1, (hagree c).2.2]

/-- The frames of the weight gradient of the embedding gate's product and of its reference. -/
theorem frames_PleGateDw : quiescent_PleGateDw ∧ quiescent_PleGateDwIdeal ∧ quiescent_PleGateDwRefIdeal :=
  ⟨fun m ρ _ => PleGateDw.Gen.frame m ρ, fun m ρ _ => PleGateDwIdeal.Gen.frame m ρ,
    fun m ρ _ => (θ_run PleGateDwRefIdeal.defs _ _).mono (fun _ h => ⟨fun c => (h.1 c).2, h.2⟩) (PleGateDwRefIdeal.Gen.run m ρ)⟩

/-- On the extended reals the kernel's array is the reference's: the weight gradient of the embedding gate's product. -/
theorem algebraic_PleGateDw : algebraic_PleGateDwIdeal_PleGateDwRefIdeal := by
  intro m g m' g' _ hagree
  refine ⟨_, PleGateDwIdeal.Value.run_blocks m g, (θ_run PleGateDwRefIdeal.defs _ _).mono
    (fun r h c => ⟨(h.1 c).1.trans (Eq.trans ?_ (PleGateDwIdeal.Gen.array m c).symm), (h.1 c).2⟩) (PleGateDwRefIdeal.Gen.run m' g')⟩
  rw [(hagree c).1, (hagree c).2]

/-- All the claims. -/
theorem claim : Cert.Claim := ⟨Cert.Kernel.Gen.facts, Cert.KernelIdeal.Gen.facts, Cert.ReferenceIdeal.Gen.facts, Proj.Gen.facts, ProjIdeal.Gen.facts, ProjRefIdeal.Gen.facts, ProjDw.Gen.facts, ProjDwIdeal.Gen.facts, ProjDwRefIdeal.Gen.facts, ProjDx.Gen.facts, ProjDxIdeal.Gen.facts, ProjDxRefIdeal.Gen.facts, DownDx.Gen.facts, DownDxIdeal.Gen.facts, DownDxRefIdeal.Gen.facts, DownDw.Gen.facts, DownDwIdeal.Gen.facts, DownDwRefIdeal.Gen.facts, UpUDw.Gen.facts, UpUDwIdeal.Gen.facts, UpUDwRefIdeal.Gen.facts, UpGDx.Gen.facts, UpGDxIdeal.Gen.facts, UpGDxRefIdeal.Gen.facts, UpUDx.Gen.facts, UpUDxIdeal.Gen.facts, UpUDxRefIdeal.Gen.facts, UpG.Gen.facts, UpGIdeal.Gen.facts, UpGRefIdeal.Gen.facts, UpU.Gen.facts, UpUIdeal.Gen.facts, UpURefIdeal.Gen.facts, Down.Gen.facts, DownIdeal.Gen.facts, DownRefIdeal.Gen.facts, RetProj.Gen.facts, RetProjIdeal.Gen.facts, RetProjRefIdeal.Gen.facts, RetProjDx.Gen.facts, RetProjDxIdeal.Gen.facts, RetProjDxRefIdeal.Gen.facts, RetProjDw.Gen.facts, RetProjDwIdeal.Gen.facts, RetProjDwRefIdeal.Gen.facts, AttnProj.Gen.facts, AttnProjIdeal.Gen.facts, AttnProjRefIdeal.Gen.facts, AttnProjDx.Gen.facts, AttnProjDxIdeal.Gen.facts, AttnProjDxRefIdeal.Gen.facts, AttnProjDw.Gen.facts, AttnProjDwIdeal.Gen.facts, AttnProjDwRefIdeal.Gen.facts, PleGate.Gen.facts, PleGateIdeal.Gen.facts, PleGateRefIdeal.Gen.facts, PleGateDx.Gen.facts, PleGateDxIdeal.Gen.facts, PleGateDxRefIdeal.Gen.facts, PleGateDw.Gen.facts, PleGateDwIdeal.Gen.facts, PleGateDwRefIdeal.Gen.facts,
  frame_kernel, frame_ideal, frame_reference, frames_Proj.1, frames_Proj.2.1, frames_Proj.2.2, frames_ProjDw.1, frames_ProjDw.2.1, frames_ProjDw.2.2, frames_ProjDx.1, frames_ProjDx.2.1, frames_ProjDx.2.2, frames_DownDx.1, frames_DownDx.2.1, frames_DownDx.2.2, frames_DownDw.1, frames_DownDw.2.1, frames_DownDw.2.2, frames_UpUDw.1, frames_UpUDw.2.1, frames_UpUDw.2.2, frames_UpGDx.1, frames_UpGDx.2.1, frames_UpGDx.2.2, frames_UpUDx.1, frames_UpUDx.2.1, frames_UpUDx.2.2, frames_UpG.1, frames_UpG.2.1, frames_UpG.2.2, frames_UpU.1, frames_UpU.2.1, frames_UpU.2.2, frames_Down.1, frames_Down.2.1, frames_Down.2.2, frames_RetProj.1, frames_RetProj.2.1, frames_RetProj.2.2, frames_RetProjDx.1, frames_RetProjDx.2.1, frames_RetProjDx.2.2, frames_RetProjDw.1, frames_RetProjDw.2.1, frames_RetProjDw.2.2, frames_AttnProj.1, frames_AttnProj.2.1, frames_AttnProj.2.2, frames_AttnProjDx.1, frames_AttnProjDx.2.1, frames_AttnProjDx.2.2, frames_AttnProjDw.1, frames_AttnProjDw.2.1, frames_AttnProjDw.2.2, frames_PleGate.1, frames_PleGate.2.1, frames_PleGate.2.2, frames_PleGateDx.1, frames_PleGateDx.2.1, frames_PleGateDx.2.2, frames_PleGateDw.1, frames_PleGateDw.2.1, frames_PleGateDw.2.2,
  trivial, algebraic, trivial, algebraic_Proj, trivial, algebraic_ProjDw, trivial, algebraic_ProjDx, trivial, algebraic_DownDx, trivial, algebraic_DownDw, trivial, algebraic_UpUDw, trivial, algebraic_UpGDx, trivial, algebraic_UpUDx, trivial, algebraic_UpG, trivial, algebraic_UpU, trivial, algebraic_Down, trivial, algebraic_RetProj, trivial, algebraic_RetProjDx, trivial, algebraic_RetProjDw, trivial, algebraic_AttnProj, trivial, algebraic_AttnProjDx, trivial, algebraic_AttnProjDw, trivial, algebraic_PleGate, trivial, algebraic_PleGateDx, trivial, algebraic_PleGateDw⟩

end Cert.Proof

end
